-- ==== Defs.lean ====
def Pre_Dhdn (m : (ℓ : Loc Cert.Dhdn.nD Cert.Dhdn.τ Cert.Dhdn.sig) → Buf (Elt Bits) ℓ) : Prop :=
  True

def Pre_DhdnIdeal (m : (ℓ : Loc Cert.DhdnIdeal.nD Cert.DhdnIdeal.τ Cert.DhdnIdeal.sig) → Buf (Elt Ideal) ℓ) : Prop :=
  True

def Pre_DhdnRefIdeal (m : (ℓ : Loc Cert.DhdnRefIdeal.nD Cert.DhdnRefIdeal.τ Cert.DhdnRefIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2RefIdeal (m : (ℓ : Loc Cert.DwFf2RefIdeal.nD Cert.DwFf2RefIdeal.τ Cert.DwFf2RefIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1RefIdeal (m : (ℓ : Loc Cert.DwFf1RefIdeal.nD Cert.DwFf1RefIdeal.τ Cert.DwFf1RefIdeal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_Dx1RefIdeal (m : (ℓ : Loc Cert.Dx1RefIdeal.nD Cert.Dx1RefIdeal.τ Cert.Dx1RefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwPoolUp (m : (ℓ : Loc Cert.DwPoolUp.nD Cert.DwPoolUp.τ Cert.DwPoolUp.sig) → Buf (Elt Bits) ℓ) : Prop :=
  True

def Pre_DwPoolUpIdeal (m : (ℓ : Loc Cert.DwPoolUpIdeal.nD Cert.DwPoolUpIdeal.τ Cert.DwPoolUpIdeal.sig) → Buf (Elt Ideal) ℓ) : Prop :=
  True

def Pre_DwPoolUpRefIdeal (m : (ℓ : Loc Cert.DwPoolUpRefIdeal.nD Cert.DwPoolUpRefIdeal.τ Cert.DwPoolUpRefIdeal.sig) → Buf (Elt Ideal) ℓ) : Prop :=
  True

def Pre_DwLruUp (m : (ℓ : Loc Cert.DwLruUp.nD Cert.DwLruUp.τ Cert.DwLruUp.sig) → Buf (Elt Bits) ℓ) : Prop :=
  True

def Pre_DwLruUpIdeal (m : (ℓ : Loc Cert.DwLruUpIdeal.nD Cert.DwLruUpIdeal.τ Cert.DwLruUpIdeal.sig) → Buf (Elt Ideal) ℓ) : Prop :=
  True

def Pre_DwLruUpRefIdeal (m : (ℓ : Loc Cert.DwLruUpRefIdeal.nD Cert.DwLruUpRefIdeal.τ Cert.DwLruUpRefIdeal.sig) → Buf (Elt Ideal) ℓ) : Prop :=
  True

def Pre_DyPool (m : (ℓ : Loc Cert.DyPool.nD Cert.DyPool.τ Cert.DyPool.sig) → Buf (Elt Bits) ℓ) : Prop :=
  True

def Pre_DyPoolIdeal (m : (ℓ : Loc Cert.DyPoolIdeal.nD Cert.DyPoolIdeal.τ Cert.DyPoolIdeal.sig) → Buf (Elt Ideal) ℓ) : Prop :=
  True

def Pre_DyPoolRefIdeal (m : (ℓ : Loc Cert.DyPoolRefIdeal.nD Cert.DyPoolRefIdeal.τ Cert.DyPoolRefIdeal.sig) → Buf (Elt Ideal) ℓ) : Prop :=
  True

def Pre_DwInLo (m : (ℓ : Loc Cert.DwInLo.nD Cert.DwInLo.τ Cert.DwInLo.sig) → Buf (Elt Bits) ℓ) : Prop :=
  True

def Pre_DwInLoIdeal (m : (ℓ : Loc Cert.DwInLoIdeal.nD Cert.DwInLoIdeal.τ Cert.DwInLoIdeal.sig) → Buf (Elt Ideal) ℓ) : Prop :=
  True

def Pre_DwInLoRefIdeal (m : (ℓ : Loc Cert.DwInLoRefIdeal.nD Cert.DwInLoRefIdeal.τ Cert.DwInLoRefIdeal.sig) → Buf (Elt Ideal) ℓ) : Prop :=
  True

def Pre_DwInHi (m : (ℓ : Loc Cert.DwInHi.nD Cert.DwInHi.τ Cert.DwInHi.sig) → Buf (Elt Bits) ℓ) : Prop :=
  True

def Pre_DwInHiIdeal (m : (ℓ : Loc Cert.DwInHiIdeal.nD Cert.DwInHiIdeal.τ Cert.DwInHiIdeal.sig) → Buf (Elt Ideal) ℓ) : Prop :=
  True

def Pre_DwInHiRefIdeal (m : (ℓ : Loc Cert.DwInHiRefIdeal.nD Cert.DwInHiRefIdeal.τ Cert.DwInHiRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_DmRefIdeal (m : (ℓ : Loc Cert.DmRefIdeal.nD Cert.DmRefIdeal.τ Cert.DmRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutLn1 (m : (ℓ : Loc Cert.OutLn1.nD Cert.OutLn1.τ Cert.OutLn1.sig) → Buf (Elt Bits) ℓ) : Prop :=
  True

def Pre_OutLn1Ideal (m : (ℓ : Loc Cert.OutLn1Ideal.nD Cert.OutLn1Ideal.τ Cert.OutLn1Ideal.sig) → Buf (Elt Ideal) ℓ) : Prop :=
  True

def Pre_OutLn1RefIdeal (m : (ℓ : Loc Cert.OutLn1RefIdeal.nD Cert.OutLn1RefIdeal.τ Cert.OutLn1RefIdeal.sig) → Buf (Elt Ideal) ℓ) : Prop :=
  True

def Pre_ZProj (m : (ℓ : Loc Cert.ZProj.nD Cert.ZProj.τ Cert.ZProj.sig) → Buf (Elt Bits) ℓ) : Prop :=
  True

def Pre_ZProjIdeal (m : (ℓ : Loc Cert.ZProjIdeal.nD Cert.ZProjIdeal.τ Cert.ZProjIdeal.sig) → Buf (Elt Ideal) ℓ) : Prop :=
  True

def Pre_ZProjRefIdeal (m : (ℓ : Loc Cert.ZProjRefIdeal.nD Cert.ZProjRefIdeal.τ Cert.ZProjRefIdeal.sig) → Buf (Elt Ideal) ℓ) : Prop :=
  True

def Pre_Ln1 (m : (ℓ : Loc Cert.Ln1.nD Cert.Ln1.τ Cert.Ln1.sig) → Buf (Elt Bits) ℓ) : Prop :=
  True

def Pre_Ln1Ideal (m : (ℓ : Loc Cert.Ln1Ideal.nD Cert.Ln1Ideal.τ Cert.Ln1Ideal.sig) → Buf (Elt Ideal) ℓ) : Prop :=
  True

def Pre_Ln1RefIdeal (m : (ℓ : Loc Cert.Ln1RefIdeal.nD Cert.Ln1RefIdeal.τ Cert.Ln1RefIdeal.sig) → Buf (Elt Ideal) ℓ) : Prop :=
  True

def Pre_Ln2 (m : (ℓ : Loc Cert.Ln2.nD Cert.Ln2.τ Cert.Ln2.sig) → Buf (Elt Bits) ℓ) : Prop :=
  True

def Pre_Ln2Ideal (m : (ℓ : Loc Cert.Ln2Ideal.nD Cert.Ln2Ideal.τ Cert.Ln2Ideal.sig) → Buf (Elt Ideal) ℓ) : Prop :=
  True

def Pre_Ln2RefIdeal (m : (ℓ : Loc Cert.Ln2RefIdeal.nD Cert.Ln2RefIdeal.τ Cert.Ln2RefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_AdamSharded (m : (ℓ : Loc Cert.AdamSharded.nD Cert.AdamSharded.τ Cert.AdamSharded.sig) → Buf (Elt Bits) ℓ) : Prop :=
  True

def Pre_AdamShardedIdeal (m : (ℓ : Loc Cert.AdamShardedIdeal.nD Cert.AdamShardedIdeal.τ Cert.AdamShardedIdeal.sig) → Buf (Elt Ideal) ℓ) : Prop :=
  True

def Pre_AdamShardedRefIdeal (m : (ℓ : Loc Cert.AdamShardedRefIdeal.nD Cert.AdamShardedRefIdeal.τ Cert.AdamShardedRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_DyLru (m : (ℓ : Loc Cert.DyLru.nD Cert.DyLru.τ Cert.DyLru.sig) → Buf (Elt Bits) ℓ) : Prop :=
  True

def Pre_DyLruIdeal (m : (ℓ : Loc Cert.DyLruIdeal.nD Cert.DyLruIdeal.τ Cert.DyLruIdeal.sig) → Buf (Elt Ideal) ℓ) : Prop :=
  True

def Pre_DyLruRefIdeal (m : (ℓ : Loc Cert.DyLruRefIdeal.nD Cert.DyLruRefIdeal.τ Cert.DyLruRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFf2 (m : (ℓ : Loc Cert.AdamFf2.nD Cert.AdamFf2.τ Cert.AdamFf2.sig) → Buf (Elt Bits) ℓ) : Prop :=
  True

def Pre_AdamFf2Ideal (m : (ℓ : Loc Cert.AdamFf2Ideal.nD Cert.AdamFf2Ideal.τ Cert.AdamFf2Ideal.sig) → Buf (Elt Ideal) ℓ) : Prop :=
  True

def Pre_AdamFf2RefIdeal (m : (ℓ : Loc Cert.AdamFf2RefIdeal.nD Cert.AdamFf2RefIdeal.τ Cert.AdamFf2RefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamLru (m : (ℓ : Loc Cert.AdamLru.nD Cert.AdamLru.τ Cert.AdamLru.sig) → Buf (Elt Bits) ℓ) : Prop :=
  True

def Pre_AdamLruIdeal (m : (ℓ : Loc Cert.AdamLruIdeal.nD Cert.AdamLruIdeal.τ Cert.AdamLruIdeal.sig) → Buf (Elt Ideal) ℓ) : Prop :=
  True

def Pre_AdamLruRefIdeal (m : (ℓ : Loc Cert.AdamLruRefIdeal.nD Cert.AdamLruRefIdeal.τ Cert.AdamLruRefIdeal.sig) → Buf (Elt Ideal) ℓ) : Prop :=
  True

def Pre_AdamFf1 (m : (ℓ : Loc Cert.AdamFf1.nD Cert.AdamFf1.τ Cert.AdamFf1.sig) → Buf (Elt Bits) ℓ) : Prop :=
  True

def Pre_AdamFf1Ideal (m : (ℓ : Loc Cert.AdamFf1Ideal.nD Cert.AdamFf1Ideal.τ Cert.AdamFf1Ideal.sig) → Buf (Elt Ideal) ℓ) : Prop :=
  True

def Pre_AdamFf1RefIdeal (m : (ℓ : Loc Cert.AdamFf1RefIdeal.nD Cert.AdamFf1RefIdeal.τ Cert.AdamFf1RefIdeal.sig) → Buf (Elt Ideal) ℓ) : Prop :=
  True

def quiescent_Dhdn [hDhdn : Cert.Dhdn.Facts] : Prop :=
  ∀ (m : (ℓ : Loc Cert.Dhdn.nD Cert.Dhdn.τ Cert.Dhdn.sig) → Buf (Elt Bits) ℓ) (g : Dev Cert.Dhdn.nD → PrngReg), Pre_Dhdn m →
    θ_run (Cert.Dhdn.defs (F := Bits)) (onTc (τ := Cert.Dhdn.τ) (Cert.Dhdn.main (F := Bits))) ⟨m, fun _ => 0, g⟩ (fun r => (∀ c : Dev Cert.Dhdn.nD,
      r.2.mem ((c.tc : Thread Cert.Dhdn.nD Cert.Dhdn.τ).loc Cert.Dhdn.main_arg0) = m ((c.tc : Thread Cert.Dhdn.nD Cert.Dhdn.τ).loc Cert.Dhdn.main_arg0)
      ∧ r.2.mem ((c.tc : Thread Cert.Dhdn.nD Cert.Dhdn.τ).loc Cert.Dhdn.main_arg1) = m ((c.tc : Thread Cert.Dhdn.nD Cert.Dhdn.τ).loc Cert.Dhdn.main_arg1)
      ∧ r.2.mem ((c.tc : Thread Cert.Dhdn.nD Cert.Dhdn.τ).loc Cert.Dhdn.main_arg2) = m ((c.tc : Thread Cert.Dhdn.nD Cert.Dhdn.τ).loc Cert.Dhdn.main_arg2)
      ∧ r.2.mem ((c.tc : Thread Cert.Dhdn.nD Cert.Dhdn.τ).loc Cert.Dhdn.main_arg3) = m ((c.tc : Thread Cert.Dhdn.nD Cert.Dhdn.τ).loc Cert.Dhdn.main_arg3))
      ∧ r.2.sem = fun _ => 0)

def quiescent_DhdnIdeal [hDhdnIdeal : Cert.DhdnIdeal.Facts] : Prop :=
  ∀ (m : (ℓ : Loc Cert.DhdnIdeal.nD Cert.DhdnIdeal.τ Cert.DhdnIdeal.sig) → Buf (Elt Ideal) ℓ) (g : Dev Cert.DhdnIdeal.nD → PrngReg), Pre_DhdnIdeal m →
    θ_run (Cert.DhdnIdeal.defs (F := Ideal)) (onTc (τ := Cert.DhdnIdeal.τ) (Cert.DhdnIdeal.main (F := Ideal))) ⟨m, fun _ => 0, g⟩ (fun r => (∀ c : Dev Cert.DhdnIdeal.nD,
      r.2.mem ((c.tc : Thread Cert.DhdnIdeal.nD Cert.DhdnIdeal.τ).loc Cert.DhdnIdeal.main_arg0) = m ((c.tc : Thread Cert.DhdnIdeal.nD Cert.DhdnIdeal.τ).loc Cert.DhdnIdeal.main_arg0)
      ∧ r.2.mem ((c.tc : Thread Cert.DhdnIdeal.nD Cert.DhdnIdeal.τ).loc Cert.DhdnIdeal.main_arg1) = m ((c.tc : Thread Cert.DhdnIdeal.nD Cert.DhdnIdeal.τ).loc Cert.DhdnIdeal.main_arg1)
      ∧ r.2.mem ((c.tc : Thread Cert.DhdnIdeal.nD Cert.DhdnIdeal.τ).loc Cert.DhdnIdeal.main_arg2) = m ((c.tc : Thread Cert.DhdnIdeal.nD Cert.DhdnIdeal.τ).loc Cert.DhdnIdeal.main_arg2)
      ∧ r.2.mem ((c.tc : Thread Cert.DhdnIdeal.nD Cert.DhdnIdeal.τ).loc Cert.DhdnIdeal.main_arg3) = m ((c.tc : Thread Cert.DhdnIdeal.nD Cert.DhdnIdeal.τ).loc Cert.DhdnIdeal.main_arg3))
      ∧ r.2.sem = fun _ => 0)

def quiescent_DhdnRefIdeal [hDhdnRefIdeal : Cert.DhdnRefIdeal.Facts] : Prop :=
  ∀ (m : (ℓ : Loc Cert.DhdnRefIdeal.nD Cert.DhdnRefIdeal.τ Cert.DhdnRefIdeal.sig) → Buf (Elt Ideal) ℓ) (g : Dev Cert.DhdnRefIdeal.nD → PrngReg), Pre_DhdnRefIdeal m →
    θ_run (Cert.DhdnRefIdeal.defs (F := Ideal)) (onTc (τ := Cert.DhdnRefIdeal.τ) (Cert.DhdnRefIdeal.main (F := Ideal))) ⟨m, fun _ => 0, g⟩ (fun r => (∀ c : Dev Cert.DhdnRefIdeal.nD,
      r.2.mem ((c.tc : Thread Cert.DhdnRefIdeal.nD Cert.DhdnRefIdeal.τ).loc Cert.DhdnRefIdeal.main_arg0) = m ((c.tc : Thread Cert.DhdnRefIdeal.nD Cert.DhdnRefIdeal.τ).loc Cert.DhdnRefIdeal.main_arg0)
      ∧ r.2.mem ((c.tc : Thread Cert.DhdnRefIdeal.nD Cert.DhdnRefIdeal.τ).loc Cert.DhdnRefIdeal.main_arg1) = m ((c.tc : Thread Cert.DhdnRefIdeal.nD Cert.DhdnRefIdeal.τ).loc Cert.DhdnRefIdeal.main_arg1)
      ∧ r.2.mem ((c.tc : Thread Cert.DhdnRefIdeal.nD Cert.DhdnRefIdeal.τ).loc Cert.DhdnRefIdeal.main_arg2) = m ((c.tc : Thread Cert.DhdnRefIdeal.nD Cert.DhdnRefIdeal.τ).loc Cert.DhdnRefIdeal.main_arg2)
      ∧ r.2.mem ((c.tc : Thread Cert.DhdnRefIdeal.nD Cert.DhdnRefIdeal.τ).loc Cert.DhdnRefIdeal.main_arg3) = m ((c.tc : Thread Cert.DhdnRefIdeal.nD Cert.DhdnRefIdeal.τ).loc Cert.DhdnRefIdeal.main_arg3))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1)
      ∧ r.2.mem ((c.tc : Thread Cert.DwFf2.nD Cert.DwFf2.τ).loc Cert.DwFf2.main_arg2) = m ((c.tc : Thread Cert.DwFf2.nD Cert.DwFf2.τ).loc Cert.DwFf2.main_arg2)
      ∧ r.2.mem ((c.tc : Thread Cert.DwFf2.nD Cert.DwFf2.τ).loc Cert.DwFf2.main_arg3) = m ((c.tc : Thread Cert.DwFf2.nD Cert.DwFf2.τ).loc Cert.DwFf2.main_arg3))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
      ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2)
      ∧ r.2.mem ((c.tc : Thread Cert.DwFf2Ideal.nD Cert.DwFf2Ideal.τ).loc Cert.DwFf2Ideal.main_arg3) = m ((c.tc : Thread Cert.DwFf2Ideal.nD Cert.DwFf2Ideal.τ).loc Cert.DwFf2Ideal.main_arg3))
      ∧ r.2.sem = fun _ => 0)

def quiescent_DwFf2RefIdeal [hDwFf2RefIdeal : Cert.DwFf2RefIdeal.Facts] : Prop :=
  ∀ (m : (ℓ : Loc Cert.DwFf2RefIdeal.nD Cert.DwFf2RefIdeal.τ Cert.DwFf2RefIdeal.sig) → Buf (Elt Ideal) ℓ) (g : Dev Cert.DwFf2RefIdeal.nD → PrngReg), Pre_DwFf2RefIdeal m →
    θ_run (Cert.DwFf2RefIdeal.defs (F := Ideal)) (onTc (τ := Cert.DwFf2RefIdeal.τ) (Cert.DwFf2RefIdeal.main (F := Ideal))) ⟨m, fun _ => 0, g⟩ (fun r => (∀ c : Dev Cert.DwFf2RefIdeal.nD,
      r.2.mem ((c.tc : Thread Cert.DwFf2RefIdeal.nD Cert.DwFf2RefIdeal.τ).loc Cert.DwFf2RefIdeal.main_arg0) = m ((c.tc : Thread Cert.DwFf2RefIdeal.nD Cert.DwFf2RefIdeal.τ).loc Cert.DwFf2RefIdeal.main_arg0)
      ∧ r.2.mem ((c.tc : Thread Cert.DwFf2RefIdeal.nD Cert.DwFf2RefIdeal.τ).loc Cert.DwFf2RefIdeal.main_arg1) = m ((c.tc : Thread Cert.DwFf2RefIdeal.nD Cert.DwFf2RefIdeal.τ).loc Cert.DwFf2RefIdeal.main_arg1)
      ∧ r.2.mem ((c.tc : Thread Cert.DwFf2RefIdeal.nD Cert.DwFf2RefIdeal.τ).loc Cert.DwFf2RefIdeal.main_arg2) = m ((c.tc : Thread Cert.DwFf2RefIdeal.nD Cert.DwFf2RefIdeal.τ).loc Cert.DwFf2RefIdeal.main_arg2)
      ∧ r.2.mem ((c.tc : Thread Cert.DwFf2RefIdeal.nD Cert.DwFf2RefIdeal.τ).loc Cert.DwFf2RefIdeal.main_arg3) = m ((c.tc : Thread Cert.DwFf2RefIdeal.nD Cert.DwFf2RefIdeal.τ).loc Cert.DwFf2RefIdeal.main_arg3))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1)
      ∧ r.2.mem ((c.tc : Thread Cert.DwFf1.nD Cert.DwFf1.τ).loc Cert.DwFf1.main_arg2) = m ((c.tc : Thread Cert.DwFf1.nD Cert.DwFf1.τ).loc Cert.DwFf1.main_arg2))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
      ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2))
      ∧ r.2.sem = fun _ => 0)

def quiescent_DwFf1RefIdeal [hDwFf1RefIdeal : Cert.DwFf1RefIdeal.Facts] : Prop :=
  ∀ (m : (ℓ : Loc Cert.DwFf1RefIdeal.nD Cert.DwFf1RefIdeal.τ Cert.DwFf1RefIdeal.sig) → Buf (Elt Ideal) ℓ) (g : Dev Cert.DwFf1RefIdeal.nD → PrngReg), Pre_DwFf1RefIdeal m →
    θ_run (Cert.DwFf1RefIdeal.defs (F := Ideal)) (onTc (τ := Cert.DwFf1RefIdeal.τ) (Cert.DwFf1RefIdeal.main (F := Ideal))) ⟨m, fun _ => 0, g⟩ (fun r => (∀ c : Dev Cert.DwFf1RefIdeal.nD,
      r.2.mem ((c.tc : Thread Cert.DwFf1RefIdeal.nD Cert.DwFf1RefIdeal.τ).loc Cert.DwFf1RefIdeal.main_arg0) = m ((c.tc : Thread Cert.DwFf1RefIdeal.nD Cert.DwFf1RefIdeal.τ).loc Cert.DwFf1RefIdeal.main_arg0)
      ∧ r.2.mem ((c.tc : Thread Cert.DwFf1RefIdeal.nD Cert.DwFf1RefIdeal.τ).loc Cert.DwFf1RefIdeal.main_arg1) = m ((c.tc : Thread Cert.DwFf1RefIdeal.nD Cert.DwFf1RefIdeal.τ).loc Cert.DwFf1RefIdeal.main_arg1)
      ∧ r.2.mem ((c.tc : Thread Cert.DwFf1RefIdeal.nD Cert.DwFf1RefIdeal.τ).loc Cert.DwFf1RefIdeal.main_arg2) = m ((c.tc : Thread Cert.DwFf1RefIdeal.nD Cert.DwFf1RefIdeal.τ).loc Cert.DwFf1RefIdeal.main_arg2))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1)
      ∧ r.2.mem ((c.tc : Thread Cert.Dx1.nD Cert.Dx1.τ).loc Cert.Dx1.main_arg2) = m ((c.tc : Thread Cert.Dx1.nD Cert.Dx1.τ).loc Cert.Dx1.main_arg2))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
      ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ r.2.sem = fun _ => 0)

def quiescent_Dx1RefIdeal [hDx1RefIdeal : Cert.Dx1RefIdeal.Facts] : Prop :=
  ∀ (m : (ℓ : Loc Cert.Dx1RefIdeal.nD Cert.Dx1RefIdeal.τ Cert.Dx1RefIdeal.sig) → Buf (Elt Ideal) ℓ) (g : Dev Cert.Dx1RefIdeal.nD → PrngReg), Pre_Dx1RefIdeal m →
    θ_run (Cert.Dx1RefIdeal.defs (F := Ideal)) (onTc (τ := Cert.Dx1RefIdeal.τ) (Cert.Dx1RefIdeal.main (F := Ideal))) ⟨m, fun _ => 0, g⟩ (fun r => (∀ c : Dev Cert.Dx1RefIdeal.nD,
      r.2.mem ((c.tc : Thread Cert.Dx1RefIdeal.nD Cert.Dx1RefIdeal.τ).loc Cert.Dx1RefIdeal.main_arg0) = m ((c.tc : Thread Cert.Dx1RefIdeal.nD Cert.Dx1RefIdeal.τ).loc Cert.Dx1RefIdeal.main_arg0)
      ∧ r.2.mem ((c.tc : Thread Cert.Dx1RefIdeal.nD Cert.Dx1RefIdeal.τ).loc Cert.Dx1RefIdeal.main_arg1) = m ((c.tc : Thread Cert.Dx1RefIdeal.nD Cert.Dx1RefIdeal.τ).loc Cert.Dx1RefIdeal.main_arg1)
      ∧ r.2.mem ((c.tc : Thread Cert.Dx1RefIdeal.nD Cert.Dx1RefIdeal.τ).loc Cert.Dx1RefIdeal.main_arg2) = m ((c.tc : Thread Cert.Dx1RefIdeal.nD Cert.Dx1RefIdeal.τ).loc Cert.Dx1RefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DwPoolUp [hDwPoolUp : Cert.DwPoolUp.Facts] : Prop :=
  ∀ (m : (ℓ : Loc Cert.DwPoolUp.nD Cert.DwPoolUp.τ Cert.DwPoolUp.sig) → Buf (Elt Bits) ℓ) (g : Dev Cert.DwPoolUp.nD → PrngReg), Pre_DwPoolUp m →
    θ_run (Cert.DwPoolUp.defs (F := Bits)) (onTc (τ := Cert.DwPoolUp.τ) (Cert.DwPoolUp.main (F := Bits))) ⟨m, fun _ => 0, g⟩ (fun r => (∀ c : Dev Cert.DwPoolUp.nD,
      r.2.mem ((c.tc : Thread Cert.DwPoolUp.nD Cert.DwPoolUp.τ).loc Cert.DwPoolUp.main_arg0) = m ((c.tc : Thread Cert.DwPoolUp.nD Cert.DwPoolUp.τ).loc Cert.DwPoolUp.main_arg0)
      ∧ r.2.mem ((c.tc : Thread Cert.DwPoolUp.nD Cert.DwPoolUp.τ).loc Cert.DwPoolUp.main_arg1) = m ((c.tc : Thread Cert.DwPoolUp.nD Cert.DwPoolUp.τ).loc Cert.DwPoolUp.main_arg1)
      ∧ r.2.mem ((c.tc : Thread Cert.DwPoolUp.nD Cert.DwPoolUp.τ).loc Cert.DwPoolUp.main_arg2) = m ((c.tc : Thread Cert.DwPoolUp.nD Cert.DwPoolUp.τ).loc Cert.DwPoolUp.main_arg2))
      ∧ r.2.sem = fun _ => 0)

def quiescent_DwPoolUpIdeal [hDwPoolUpIdeal : Cert.DwPoolUpIdeal.Facts] : Prop :=
  ∀ (m : (ℓ : Loc Cert.DwPoolUpIdeal.nD Cert.DwPoolUpIdeal.τ Cert.DwPoolUpIdeal.sig) → Buf (Elt Ideal) ℓ) (g : Dev Cert.DwPoolUpIdeal.nD → PrngReg), Pre_DwPoolUpIdeal m →
    θ_run (Cert.DwPoolUpIdeal.defs (F := Ideal)) (onTc (τ := Cert.DwPoolUpIdeal.τ) (Cert.DwPoolUpIdeal.main (F := Ideal))) ⟨m, fun _ => 0, g⟩ (fun r => (∀ c : Dev Cert.DwPoolUpIdeal.nD,
      r.2.mem ((c.tc : Thread Cert.DwPoolUpIdeal.nD Cert.DwPoolUpIdeal.τ).loc Cert.DwPoolUpIdeal.main_arg0) = m ((c.tc : Thread Cert.DwPoolUpIdeal.nD Cert.DwPoolUpIdeal.τ).loc Cert.DwPoolUpIdeal.main_arg0)
      ∧ r.2.mem ((c.tc : Thread Cert.DwPoolUpIdeal.nD Cert.DwPoolUpIdeal.τ).loc Cert.DwPoolUpIdeal.main_arg1) = m ((c.tc : Thread Cert.DwPoolUpIdeal.nD Cert.DwPoolUpIdeal.τ).loc Cert.DwPoolUpIdeal.main_arg1)
      ∧ r.2.mem ((c.tc : Thread Cert.DwPoolUpIdeal.nD Cert.DwPoolUpIdeal.τ).loc Cert.DwPoolUpIdeal.main_arg2) = m ((c.tc : Thread Cert.DwPoolUpIdeal.nD Cert.DwPoolUpIdeal.τ).loc Cert.DwPoolUpIdeal.main_arg2))
      ∧ r.2.sem = fun _ => 0)

def quiescent_DwPoolUpRefIdeal [hDwPoolUpRefIdeal : Cert.DwPoolUpRefIdeal.Facts] : Prop :=
  ∀ (m : (ℓ : Loc Cert.DwPoolUpRefIdeal.nD Cert.DwPoolUpRefIdeal.τ Cert.DwPoolUpRefIdeal.sig) → Buf (Elt Ideal) ℓ) (g : Dev Cert.DwPoolUpRefIdeal.nD → PrngReg), Pre_DwPoolUpRefIdeal m →
    θ_run (Cert.DwPoolUpRefIdeal.defs (F := Ideal)) (onTc (τ := Cert.DwPoolUpRefIdeal.τ) (Cert.DwPoolUpRefIdeal.main (F := Ideal))) ⟨m, fun _ => 0, g⟩ (fun r => (∀ c : Dev Cert.DwPoolUpRefIdeal.nD,
      r.2.mem ((c.tc : Thread Cert.DwPoolUpRefIdeal.nD Cert.DwPoolUpRefIdeal.τ).loc Cert.DwPoolUpRefIdeal.main_arg0) = m ((c.tc : Thread Cert.DwPoolUpRefIdeal.nD Cert.DwPoolUpRefIdeal.τ).loc Cert.DwPoolUpRefIdeal.main_arg0)
      ∧ r.2.mem ((c.tc : Thread Cert.DwPoolUpRefIdeal.nD Cert.DwPoolUpRefIdeal.τ).loc Cert.DwPoolUpRefIdeal.main_arg1) = m ((c.tc : Thread Cert.DwPoolUpRefIdeal.nD Cert.DwPoolUpRefIdeal.τ).loc Cert.DwPoolUpRefIdeal.main_arg1)
      ∧ r.2.mem ((c.tc : Thread Cert.DwPoolUpRefIdeal.nD Cert.DwPoolUpRefIdeal.τ).loc Cert.DwPoolUpRefIdeal.main_arg2) = m ((c.tc : Thread Cert.DwPoolUpRefIdeal.nD Cert.DwPoolUpRefIdeal.τ).loc Cert.DwPoolUpRefIdeal.main_arg2))
      ∧ r.2.sem = fun _ => 0)

def quiescent_DwLruUp [hDwLruUp : Cert.DwLruUp.Facts] : Prop :=
  ∀ (m : (ℓ : Loc Cert.DwLruUp.nD Cert.DwLruUp.τ Cert.DwLruUp.sig) → Buf (Elt Bits) ℓ) (g : Dev Cert.DwLruUp.nD → PrngReg), Pre_DwLruUp m →
    θ_run (Cert.DwLruUp.defs (F := Bits)) (onTc (τ := Cert.DwLruUp.τ) (Cert.DwLruUp.main (F := Bits))) ⟨m, fun _ => 0, g⟩ (fun r => (∀ c : Dev Cert.DwLruUp.nD,
      r.2.mem ((c.tc : Thread Cert.DwLruUp.nD Cert.DwLruUp.τ).loc Cert.DwLruUp.main_arg0) = m ((c.tc : Thread Cert.DwLruUp.nD Cert.DwLruUp.τ).loc Cert.DwLruUp.main_arg0)
      ∧ r.2.mem ((c.tc : Thread Cert.DwLruUp.nD Cert.DwLruUp.τ).loc Cert.DwLruUp.main_arg1) = m ((c.tc : Thread Cert.DwLruUp.nD Cert.DwLruUp.τ).loc Cert.DwLruUp.main_arg1)
      ∧ r.2.mem ((c.tc : Thread Cert.DwLruUp.nD Cert.DwLruUp.τ).loc Cert.DwLruUp.main_arg2) = m ((c.tc : Thread Cert.DwLruUp.nD Cert.DwLruUp.τ).loc Cert.DwLruUp.main_arg2))
      ∧ r.2.sem = fun _ => 0)

def quiescent_DwLruUpIdeal [hDwLruUpIdeal : Cert.DwLruUpIdeal.Facts] : Prop :=
  ∀ (m : (ℓ : Loc Cert.DwLruUpIdeal.nD Cert.DwLruUpIdeal.τ Cert.DwLruUpIdeal.sig) → Buf (Elt Ideal) ℓ) (g : Dev Cert.DwLruUpIdeal.nD → PrngReg), Pre_DwLruUpIdeal m →
    θ_run (Cert.DwLruUpIdeal.defs (F := Ideal)) (onTc (τ := Cert.DwLruUpIdeal.τ) (Cert.DwLruUpIdeal.main (F := Ideal))) ⟨m, fun _ => 0, g⟩ (fun r => (∀ c : Dev Cert.DwLruUpIdeal.nD,
      r.2.mem ((c.tc : Thread Cert.DwLruUpIdeal.nD Cert.DwLruUpIdeal.τ).loc Cert.DwLruUpIdeal.main_arg0) = m ((c.tc : Thread Cert.DwLruUpIdeal.nD Cert.DwLruUpIdeal.τ).loc Cert.DwLruUpIdeal.main_arg0)
      ∧ r.2.mem ((c.tc : Thread Cert.DwLruUpIdeal.nD Cert.DwLruUpIdeal.τ).loc Cert.DwLruUpIdeal.main_arg1) = m ((c.tc : Thread Cert.DwLruUpIdeal.nD Cert.DwLruUpIdeal.τ).loc Cert.DwLruUpIdeal.main_arg1)
      ∧ r.2.mem ((c.tc : Thread Cert.DwLruUpIdeal.nD Cert.DwLruUpIdeal.τ).loc Cert.DwLruUpIdeal.main_arg2) = m ((c.tc : Thread Cert.DwLruUpIdeal.nD Cert.DwLruUpIdeal.τ).loc Cert.DwLruUpIdeal.main_arg2))
      ∧ r.2.sem = fun _ => 0)

def quiescent_DwLruUpRefIdeal [hDwLruUpRefIdeal : Cert.DwLruUpRefIdeal.Facts] : Prop :=
  ∀ (m : (ℓ : Loc Cert.DwLruUpRefIdeal.nD Cert.DwLruUpRefIdeal.τ Cert.DwLruUpRefIdeal.sig) → Buf (Elt Ideal) ℓ) (g : Dev Cert.DwLruUpRefIdeal.nD → PrngReg), Pre_DwLruUpRefIdeal m →
    θ_run (Cert.DwLruUpRefIdeal.defs (F := Ideal)) (onTc (τ := Cert.DwLruUpRefIdeal.τ) (Cert.DwLruUpRefIdeal.main (F := Ideal))) ⟨m, fun _ => 0, g⟩ (fun r => (∀ c : Dev Cert.DwLruUpRefIdeal.nD,
      r.2.mem ((c.tc : Thread Cert.DwLruUpRefIdeal.nD Cert.DwLruUpRefIdeal.τ).loc Cert.DwLruUpRefIdeal.main_arg0) = m ((c.tc : Thread Cert.DwLruUpRefIdeal.nD Cert.DwLruUpRefIdeal.τ).loc Cert.DwLruUpRefIdeal.main_arg0)
      ∧ r.2.mem ((c.tc : Thread Cert.DwLruUpRefIdeal.nD Cert.DwLruUpRefIdeal.τ).loc Cert.DwLruUpRefIdeal.main_arg1) = m ((c.tc : Thread Cert.DwLruUpRefIdeal.nD Cert.DwLruUpRefIdeal.τ).loc Cert.DwLruUpRefIdeal.main_arg1)
      ∧ r.2.mem ((c.tc : Thread Cert.DwLruUpRefIdeal.nD Cert.DwLruUpRefIdeal.τ).loc Cert.DwLruUpRefIdeal.main_arg2) = m ((c.tc : Thread Cert.DwLruUpRefIdeal.nD Cert.DwLruUpRefIdeal.τ).loc Cert.DwLruUpRefIdeal.main_arg2))
      ∧ r.2.sem = fun _ => 0)

def quiescent_DyPool [hDyPool : Cert.DyPool.Facts] : Prop :=
  ∀ (m : (ℓ : Loc Cert.DyPool.nD Cert.DyPool.τ Cert.DyPool.sig) → Buf (Elt Bits) ℓ) (g : Dev Cert.DyPool.nD → PrngReg), Pre_DyPool m →
    θ_run (Cert.DyPool.defs (F := Bits)) (onTc (τ := Cert.DyPool.τ) (Cert.DyPool.main (F := Bits))) ⟨m, fun _ => 0, g⟩ (fun r => (∀ c : Dev Cert.DyPool.nD,
      r.2.mem ((c.tc : Thread Cert.DyPool.nD Cert.DyPool.τ).loc Cert.DyPool.main_arg0) = m ((c.tc : Thread Cert.DyPool.nD Cert.DyPool.τ).loc Cert.DyPool.main_arg0)
      ∧ r.2.mem ((c.tc : Thread Cert.DyPool.nD Cert.DyPool.τ).loc Cert.DyPool.main_arg1) = m ((c.tc : Thread Cert.DyPool.nD Cert.DyPool.τ).loc Cert.DyPool.main_arg1)
      ∧ r.2.mem ((c.tc : Thread Cert.DyPool.nD Cert.DyPool.τ).loc Cert.DyPool.main_arg2) = m ((c.tc : Thread Cert.DyPool.nD Cert.DyPool.τ).loc Cert.DyPool.main_arg2))
      ∧ r.2.sem = fun _ => 0)

def quiescent_DyPoolIdeal [hDyPoolIdeal : Cert.DyPoolIdeal.Facts] : Prop :=
  ∀ (m : (ℓ : Loc Cert.DyPoolIdeal.nD Cert.DyPoolIdeal.τ Cert.DyPoolIdeal.sig) → Buf (Elt Ideal) ℓ) (g : Dev Cert.DyPoolIdeal.nD → PrngReg), Pre_DyPoolIdeal m →
    θ_run (Cert.DyPoolIdeal.defs (F := Ideal)) (onTc (τ := Cert.DyPoolIdeal.τ) (Cert.DyPoolIdeal.main (F := Ideal))) ⟨m, fun _ => 0, g⟩ (fun r => (∀ c : Dev Cert.DyPoolIdeal.nD,
      r.2.mem ((c.tc : Thread Cert.DyPoolIdeal.nD Cert.DyPoolIdeal.τ).loc Cert.DyPoolIdeal.main_arg0) = m ((c.tc : Thread Cert.DyPoolIdeal.nD Cert.DyPoolIdeal.τ).loc Cert.DyPoolIdeal.main_arg0)
      ∧ r.2.mem ((c.tc : Thread Cert.DyPoolIdeal.nD Cert.DyPoolIdeal.τ).loc Cert.DyPoolIdeal.main_arg1) = m ((c.tc : Thread Cert.DyPoolIdeal.nD Cert.DyPoolIdeal.τ).loc Cert.DyPoolIdeal.main_arg1)
      ∧ r.2.mem ((c.tc : Thread Cert.DyPoolIdeal.nD Cert.DyPoolIdeal.τ).loc Cert.DyPoolIdeal.main_arg2) = m ((c.tc : Thread Cert.DyPoolIdeal.nD Cert.DyPoolIdeal.τ).loc Cert.DyPoolIdeal.main_arg2))
      ∧ r.2.sem = fun _ => 0)

def quiescent_DyPoolRefIdeal [hDyPoolRefIdeal : Cert.DyPoolRefIdeal.Facts] : Prop :=
  ∀ (m : (ℓ : Loc Cert.DyPoolRefIdeal.nD Cert.DyPoolRefIdeal.τ Cert.DyPoolRefIdeal.sig) → Buf (Elt Ideal) ℓ) (g : Dev Cert.DyPoolRefIdeal.nD → PrngReg), Pre_DyPoolRefIdeal m →
    θ_run (Cert.DyPoolRefIdeal.defs (F := Ideal)) (onTc (τ := Cert.DyPoolRefIdeal.τ) (Cert.DyPoolRefIdeal.main (F := Ideal))) ⟨m, fun _ => 0, g⟩ (fun r => (∀ c : Dev Cert.DyPoolRefIdeal.nD,
      r.2.mem ((c.tc : Thread Cert.DyPoolRefIdeal.nD Cert.DyPoolRefIdeal.τ).loc Cert.DyPoolRefIdeal.main_arg0) = m ((c.tc : Thread Cert.DyPoolRefIdeal.nD Cert.DyPoolRefIdeal.τ).loc Cert.DyPoolRefIdeal.main_arg0)
      ∧ r.2.mem ((c.tc : Thread Cert.DyPoolRefIdeal.nD Cert.DyPoolRefIdeal.τ).loc Cert.DyPoolRefIdeal.main_arg1) = m ((c.tc : Thread Cert.DyPoolRefIdeal.nD Cert.DyPoolRefIdeal.τ).loc Cert.DyPoolRefIdeal.main_arg1)
      ∧ r.2.mem ((c.tc : Thread Cert.DyPoolRefIdeal.nD Cert.DyPoolRefIdeal.τ).loc Cert.DyPoolRefIdeal.main_arg2) = m ((c.tc : Thread Cert.DyPoolRefIdeal.nD Cert.DyPoolRefIdeal.τ).loc Cert.DyPoolRefIdeal.main_arg2))
      ∧ r.2.sem = fun _ => 0)

def quiescent_DwInLo [hDwInLo : Cert.DwInLo.Facts] : Prop :=
  ∀ (m : (ℓ : Loc Cert.DwInLo.nD Cert.DwInLo.τ Cert.DwInLo.sig) → Buf (Elt Bits) ℓ) (g : Dev Cert.DwInLo.nD → PrngReg), Pre_DwInLo m →
    θ_run (Cert.DwInLo.defs (F := Bits)) (onTc (τ := Cert.DwInLo.τ) (Cert.DwInLo.main (F := Bits))) ⟨m, fun _ => 0, g⟩ (fun r => (∀ c : Dev Cert.DwInLo.nD,
      r.2.mem ((c.tc : Thread Cert.DwInLo.nD Cert.DwInLo.τ).loc Cert.DwInLo.main_arg0) = m ((c.tc : Thread Cert.DwInLo.nD Cert.DwInLo.τ).loc Cert.DwInLo.main_arg0)
      ∧ r.2.mem ((c.tc : Thread Cert.DwInLo.nD Cert.DwInLo.τ).loc Cert.DwInLo.main_arg1) = m ((c.tc : Thread Cert.DwInLo.nD Cert.DwInLo.τ).loc Cert.DwInLo.main_arg1)
      ∧ r.2.mem ((c.tc : Thread Cert.DwInLo.nD Cert.DwInLo.τ).loc Cert.DwInLo.main_arg2) = m ((c.tc : Thread Cert.DwInLo.nD Cert.DwInLo.τ).loc Cert.DwInLo.main_arg2))
      ∧ r.2.sem = fun _ => 0)

def quiescent_DwInLoIdeal [hDwInLoIdeal : Cert.DwInLoIdeal.Facts] : Prop :=
  ∀ (m : (ℓ : Loc Cert.DwInLoIdeal.nD Cert.DwInLoIdeal.τ Cert.DwInLoIdeal.sig) → Buf (Elt Ideal) ℓ) (g : Dev Cert.DwInLoIdeal.nD → PrngReg), Pre_DwInLoIdeal m →
    θ_run (Cert.DwInLoIdeal.defs (F := Ideal)) (onTc (τ := Cert.DwInLoIdeal.τ) (Cert.DwInLoIdeal.main (F := Ideal))) ⟨m, fun _ => 0, g⟩ (fun r => (∀ c : Dev Cert.DwInLoIdeal.nD,
      r.2.mem ((c.tc : Thread Cert.DwInLoIdeal.nD Cert.DwInLoIdeal.τ).loc Cert.DwInLoIdeal.main_arg0) = m ((c.tc : Thread Cert.DwInLoIdeal.nD Cert.DwInLoIdeal.τ).loc Cert.DwInLoIdeal.main_arg0)
      ∧ r.2.mem ((c.tc : Thread Cert.DwInLoIdeal.nD Cert.DwInLoIdeal.τ).loc Cert.DwInLoIdeal.main_arg1) = m ((c.tc : Thread Cert.DwInLoIdeal.nD Cert.DwInLoIdeal.τ).loc Cert.DwInLoIdeal.main_arg1)
      ∧ r.2.mem ((c.tc : Thread Cert.DwInLoIdeal.nD Cert.DwInLoIdeal.τ).loc Cert.DwInLoIdeal.main_arg2) = m ((c.tc : Thread Cert.DwInLoIdeal.nD Cert.DwInLoIdeal.τ).loc Cert.DwInLoIdeal.main_arg2))
      ∧ r.2.sem = fun _ => 0)

def quiescent_DwInLoRefIdeal [hDwInLoRefIdeal : Cert.DwInLoRefIdeal.Facts] : Prop :=
  ∀ (m : (ℓ : Loc Cert.DwInLoRefIdeal.nD Cert.DwInLoRefIdeal.τ Cert.DwInLoRefIdeal.sig) → Buf (Elt Ideal) ℓ) (g : Dev Cert.DwInLoRefIdeal.nD → PrngReg), Pre_DwInLoRefIdeal m →
    θ_run (Cert.DwInLoRefIdeal.defs (F := Ideal)) (onTc (τ := Cert.DwInLoRefIdeal.τ) (Cert.DwInLoRefIdeal.main (F := Ideal))) ⟨m, fun _ => 0, g⟩ (fun r => (∀ c : Dev Cert.DwInLoRefIdeal.nD,
      r.2.mem ((c.tc : Thread Cert.DwInLoRefIdeal.nD Cert.DwInLoRefIdeal.τ).loc Cert.DwInLoRefIdeal.main_arg0) = m ((c.tc : Thread Cert.DwInLoRefIdeal.nD Cert.DwInLoRefIdeal.τ).loc Cert.DwInLoRefIdeal.main_arg0)
      ∧ r.2.mem ((c.tc : Thread Cert.DwInLoRefIdeal.nD Cert.DwInLoRefIdeal.τ).loc Cert.DwInLoRefIdeal.main_arg1) = m ((c.tc : Thread Cert.DwInLoRefIdeal.nD Cert.DwInLoRefIdeal.τ).loc Cert.DwInLoRefIdeal.main_arg1)
      ∧ r.2.mem ((c.tc : Thread Cert.DwInLoRefIdeal.nD Cert.DwInLoRefIdeal.τ).loc Cert.DwInLoRefIdeal.main_arg2) = m ((c.tc : Thread Cert.DwInLoRefIdeal.nD Cert.DwInLoRefIdeal.τ).loc Cert.DwInLoRefIdeal.main_arg2))
      ∧ r.2.sem = fun _ => 0)

def quiescent_DwInHi [hDwInHi : Cert.DwInHi.Facts] : Prop :=
  ∀ (m : (ℓ : Loc Cert.DwInHi.nD Cert.DwInHi.τ Cert.DwInHi.sig) → Buf (Elt Bits) ℓ) (g : Dev Cert.DwInHi.nD → PrngReg), Pre_DwInHi m →
    θ_run (Cert.DwInHi.defs (F := Bits)) (onTc (τ := Cert.DwInHi.τ) (Cert.DwInHi.main (F := Bits))) ⟨m, fun _ => 0, g⟩ (fun r => (∀ c : Dev Cert.DwInHi.nD,
      r.2.mem ((c.tc : Thread Cert.DwInHi.nD Cert.DwInHi.τ).loc Cert.DwInHi.main_arg0) = m ((c.tc : Thread Cert.DwInHi.nD Cert.DwInHi.τ).loc Cert.DwInHi.main_arg0)
      ∧ r.2.mem ((c.tc : Thread Cert.DwInHi.nD Cert.DwInHi.τ).loc Cert.DwInHi.main_arg1) = m ((c.tc : Thread Cert.DwInHi.nD Cert.DwInHi.τ).loc Cert.DwInHi.main_arg1)
      ∧ r.2.mem ((c.tc : Thread Cert.DwInHi.nD Cert.DwInHi.τ).loc Cert.DwInHi.main_arg2) = m ((c.tc : Thread Cert.DwInHi.nD Cert.DwInHi.τ).loc Cert.DwInHi.main_arg2))
      ∧ r.2.sem = fun _ => 0)

def quiescent_DwInHiIdeal [hDwInHiIdeal : Cert.DwInHiIdeal.Facts] : Prop :=
  ∀ (m : (ℓ : Loc Cert.DwInHiIdeal.nD Cert.DwInHiIdeal.τ Cert.DwInHiIdeal.sig) → Buf (Elt Ideal) ℓ) (g : Dev Cert.DwInHiIdeal.nD → PrngReg), Pre_DwInHiIdeal m →
    θ_run (Cert.DwInHiIdeal.defs (F := Ideal)) (onTc (τ := Cert.DwInHiIdeal.τ) (Cert.DwInHiIdeal.main (F := Ideal))) ⟨m, fun _ => 0, g⟩ (fun r => (∀ c : Dev Cert.DwInHiIdeal.nD,
      r.2.mem ((c.tc : Thread Cert.DwInHiIdeal.nD Cert.DwInHiIdeal.τ).loc Cert.DwInHiIdeal.main_arg0) = m ((c.tc : Thread Cert.DwInHiIdeal.nD Cert.DwInHiIdeal.τ).loc Cert.DwInHiIdeal.main_arg0)
      ∧ r.2.mem ((c.tc : Thread Cert.DwInHiIdeal.nD Cert.DwInHiIdeal.τ).loc Cert.DwInHiIdeal.main_arg1) = m ((c.tc : Thread Cert.DwInHiIdeal.nD Cert.DwInHiIdeal.τ).loc Cert.DwInHiIdeal.main_arg1)
      ∧ r.2.mem ((c.tc : Thread Cert.DwInHiIdeal.nD Cert.DwInHiIdeal.τ).loc Cert.DwInHiIdeal.main_arg2) = m ((c.tc : Thread Cert.DwInHiIdeal.nD Cert.DwInHiIdeal.τ).loc Cert.DwInHiIdeal.main_arg2))
      ∧ r.2.sem = fun _ => 0)

def quiescent_DwInHiRefIdeal [hDwInHiRefIdeal : Cert.DwInHiRefIdeal.Facts] : Prop :=
  ∀ (m : (ℓ : Loc Cert.DwInHiRefIdeal.nD Cert.DwInHiRefIdeal.τ Cert.DwInHiRefIdeal.sig) → Buf (Elt Ideal) ℓ) (g : Dev Cert.DwInHiRefIdeal.nD → PrngReg), Pre_DwInHiRefIdeal m →
    θ_run (Cert.DwInHiRefIdeal.defs (F := Ideal)) (onTc (τ := Cert.DwInHiRefIdeal.τ) (Cert.DwInHiRefIdeal.main (F := Ideal))) ⟨m, fun _ => 0, g⟩ (fun r => (∀ c : Dev Cert.DwInHiRefIdeal.nD,
      r.2.mem ((c.tc : Thread Cert.DwInHiRefIdeal.nD Cert.DwInHiRefIdeal.τ).loc Cert.DwInHiRefIdeal.main_arg0) = m ((c.tc : Thread Cert.DwInHiRefIdeal.nD Cert.DwInHiRefIdeal.τ).loc Cert.DwInHiRefIdeal.main_arg0)
      ∧ r.2.mem ((c.tc : Thread Cert.DwInHiRefIdeal.nD Cert.DwInHiRefIdeal.τ).loc Cert.DwInHiRefIdeal.main_arg1) = m ((c.tc : Thread Cert.DwInHiRefIdeal.nD Cert.DwInHiRefIdeal.τ).loc Cert.DwInHiRefIdeal.main_arg1)
      ∧ r.2.mem ((c.tc : Thread Cert.DwInHiRefIdeal.nD Cert.DwInHiRefIdeal.τ).loc Cert.DwInHiRefIdeal.main_arg2) = m ((c.tc : Thread Cert.DwInHiRefIdeal.nD Cert.DwInHiRefIdeal.τ).loc Cert.DwInHiRefIdeal.main_arg2))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1)
      ∧ r.2.mem ((c.tc : Thread Cert.Dm.nD Cert.Dm.τ).loc Cert.Dm.main_arg2) = m ((c.tc : Thread Cert.Dm.nD Cert.Dm.τ).loc Cert.Dm.main_arg2)
      ∧ r.2.mem ((c.tc : Thread Cert.Dm.nD Cert.Dm.τ).loc Cert.Dm.main_arg3) = m ((c.tc : Thread Cert.Dm.nD Cert.Dm.τ).loc Cert.Dm.main_arg3)
      ∧ r.2.mem ((c.tc : Thread Cert.Dm.nD Cert.Dm.τ).loc Cert.Dm.main_arg4) = m ((c.tc : Thread Cert.Dm.nD Cert.Dm.τ).loc Cert.Dm.main_arg4))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
      ∧ r.2.mem ((c.tc : Thread Cert.DmIdeal.nD Cert.DmIdeal.τ).loc Cert.DmIdeal.main_arg2) = m ((c.tc : Thread Cert.DmIdeal.nD Cert.DmIdeal.τ).loc Cert.DmIdeal.main_arg2)
      ∧ r.2.mem ((c.tc : Thread Cert.DmIdeal.nD Cert.DmIdeal.τ).loc Cert.DmIdeal.main_arg3) = m ((c.tc : Thread Cert.DmIdeal.nD Cert.DmIdeal.τ).loc Cert.DmIdeal.main_arg3)
      ∧ r.2.mem ((c.tc : Thread Cert.DmIdeal.nD Cert.DmIdeal.τ).loc Cert.DmIdeal.main_arg4) = m ((c.tc : Thread Cert.DmIdeal.nD Cert.DmIdeal.τ).loc Cert.DmIdeal.main_arg4))
      ∧ r.2.sem = fun _ => 0)

def quiescent_DmRefIdeal [hDmRefIdeal : Cert.DmRefIdeal.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1)
      ∧ r.2.mem ((c.tc : Thread Cert.DmRefIdeal.nD Cert.DmRefIdeal.τ).loc Cert.DmRefIdeal.main_arg2) = m ((c.tc : Thread Cert.DmRefIdeal.nD Cert.DmRefIdeal.τ).loc Cert.DmRefIdeal.main_arg2)
      ∧ r.2.mem ((c.tc : Thread Cert.DmRefIdeal.nD Cert.DmRefIdeal.τ).loc Cert.DmRefIdeal.main_arg3) = m ((c.tc : Thread Cert.DmRefIdeal.nD Cert.DmRefIdeal.τ).loc Cert.DmRefIdeal.main_arg3)
      ∧ r.2.mem ((c.tc : Thread Cert.DmRefIdeal.nD Cert.DmRefIdeal.τ).loc Cert.DmRefIdeal.main_arg4) = m ((c.tc : Thread Cert.DmRefIdeal.nD Cert.DmRefIdeal.τ).loc Cert.DmRefIdeal.main_arg4))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutLn1 [hOutLn1 : Cert.OutLn1.Facts] : Prop :=
  ∀ (m : (ℓ : Loc Cert.OutLn1.nD Cert.OutLn1.τ Cert.OutLn1.sig) → Buf (Elt Bits) ℓ) (g : Dev Cert.OutLn1.nD → PrngReg), Pre_OutLn1 m →
    θ_run (Cert.OutLn1.defs (F := Bits)) (onTc (τ := Cert.OutLn1.τ) (Cert.OutLn1.main (F := Bits))) ⟨m, fun _ => 0, g⟩ (fun r => (∀ c : Dev Cert.OutLn1.nD,
      r.2.mem ((c.tc : Thread Cert.OutLn1.nD Cert.OutLn1.τ).loc Cert.OutLn1.main_arg0) = m ((c.tc : Thread Cert.OutLn1.nD Cert.OutLn1.τ).loc Cert.OutLn1.main_arg0)
      ∧ r.2.mem ((c.tc : Thread Cert.OutLn1.nD Cert.OutLn1.τ).loc Cert.OutLn1.main_arg1) = m ((c.tc : Thread Cert.OutLn1.nD Cert.OutLn1.τ).loc Cert.OutLn1.main_arg1)
      ∧ r.2.mem ((c.tc : Thread Cert.OutLn1.nD Cert.OutLn1.τ).loc Cert.OutLn1.main_arg2) = m ((c.tc : Thread Cert.OutLn1.nD Cert.OutLn1.τ).loc Cert.OutLn1.main_arg2)
      ∧ r.2.mem ((c.tc : Thread Cert.OutLn1.nD Cert.OutLn1.τ).loc Cert.OutLn1.main_arg3) = m ((c.tc : Thread Cert.OutLn1.nD Cert.OutLn1.τ).loc Cert.OutLn1.main_arg3)
      ∧ r.2.mem ((c.tc : Thread Cert.OutLn1.nD Cert.OutLn1.τ).loc Cert.OutLn1.main_arg4) = m ((c.tc : Thread Cert.OutLn1.nD Cert.OutLn1.τ).loc Cert.OutLn1.main_arg4)
      ∧ r.2.mem ((c.tc : Thread Cert.OutLn1.nD Cert.OutLn1.τ).loc Cert.OutLn1.main_arg5) = m ((c.tc : Thread Cert.OutLn1.nD Cert.OutLn1.τ).loc Cert.OutLn1.main_arg5))
      ∧ r.2.sem = fun _ => 0)

def quiescent_OutLn1Ideal [hOutLn1Ideal : Cert.OutLn1Ideal.Facts] : Prop :=
  ∀ (m : (ℓ : Loc Cert.OutLn1Ideal.nD Cert.OutLn1Ideal.τ Cert.OutLn1Ideal.sig) → Buf (Elt Ideal) ℓ) (g : Dev Cert.OutLn1Ideal.nD → PrngReg), Pre_OutLn1Ideal m →
    θ_run (Cert.OutLn1Ideal.defs (F := Ideal)) (onTc (τ := Cert.OutLn1Ideal.τ) (Cert.OutLn1Ideal.main (F := Ideal))) ⟨m, fun _ => 0, g⟩ (fun r => (∀ c : Dev Cert.OutLn1Ideal.nD,
      r.2.mem ((c.tc : Thread Cert.OutLn1Ideal.nD Cert.OutLn1Ideal.τ).loc Cert.OutLn1Ideal.main_arg0) = m ((c.tc : Thread Cert.OutLn1Ideal.nD Cert.OutLn1Ideal.τ).loc Cert.OutLn1Ideal.main_arg0)
      ∧ r.2.mem ((c.tc : Thread Cert.OutLn1Ideal.nD Cert.OutLn1Ideal.τ).loc Cert.OutLn1Ideal.main_arg1) = m ((c.tc : Thread Cert.OutLn1Ideal.nD Cert.OutLn1Ideal.τ).loc Cert.OutLn1Ideal.main_arg1)
      ∧ r.2.mem ((c.tc : Thread Cert.OutLn1Ideal.nD Cert.OutLn1Ideal.τ).loc Cert.OutLn1Ideal.main_arg2) = m ((c.tc : Thread Cert.OutLn1Ideal.nD Cert.OutLn1Ideal.τ).loc Cert.OutLn1Ideal.main_arg2)
      ∧ r.2.mem ((c.tc : Thread Cert.OutLn1Ideal.nD Cert.OutLn1Ideal.τ).loc Cert.OutLn1Ideal.main_arg3) = m ((c.tc : Thread Cert.OutLn1Ideal.nD Cert.OutLn1Ideal.τ).loc Cert.OutLn1Ideal.main_arg3)
      ∧ r.2.mem ((c.tc : Thread Cert.OutLn1Ideal.nD Cert.OutLn1Ideal.τ).loc Cert.OutLn1Ideal.main_arg4) = m ((c.tc : Thread Cert.OutLn1Ideal.nD Cert.OutLn1Ideal.τ).loc Cert.OutLn1Ideal.main_arg4)
      ∧ r.2.mem ((c.tc : Thread Cert.OutLn1Ideal.nD Cert.OutLn1Ideal.τ).loc Cert.OutLn1Ideal.main_arg5) = m ((c.tc : Thread Cert.OutLn1Ideal.nD Cert.OutLn1Ideal.τ).loc Cert.OutLn1Ideal.main_arg5))
      ∧ r.2.sem = fun _ => 0)

def quiescent_OutLn1RefIdeal [hOutLn1RefIdeal : Cert.OutLn1RefIdeal.Facts] : Prop :=
  ∀ (m : (ℓ : Loc Cert.OutLn1RefIdeal.nD Cert.OutLn1RefIdeal.τ Cert.OutLn1RefIdeal.sig) → Buf (Elt Ideal) ℓ) (g : Dev Cert.OutLn1RefIdeal.nD → PrngReg), Pre_OutLn1RefIdeal m →
    θ_run (Cert.OutLn1RefIdeal.defs (F := Ideal)) (onTc (τ := Cert.OutLn1RefIdeal.τ) (Cert.OutLn1RefIdeal.main (F := Ideal))) ⟨m, fun _ => 0, g⟩ (fun r => (∀ c : Dev Cert.OutLn1RefIdeal.nD,
      r.2.mem ((c.tc : Thread Cert.OutLn1RefIdeal.nD Cert.OutLn1RefIdeal.τ).loc Cert.OutLn1RefIdeal.main_arg0) = m ((c.tc : Thread Cert.OutLn1RefIdeal.nD Cert.OutLn1RefIdeal.τ).loc Cert.OutLn1RefIdeal.main_arg0)
      ∧ r.2.mem ((c.tc : Thread Cert.OutLn1RefIdeal.nD Cert.OutLn1RefIdeal.τ).loc Cert.OutLn1RefIdeal.main_arg1) = m ((c.tc : Thread Cert.OutLn1RefIdeal.nD Cert.OutLn1RefIdeal.τ).loc Cert.OutLn1RefIdeal.main_arg1)
      ∧ r.2.mem ((c.tc : Thread Cert.OutLn1RefIdeal.nD Cert.OutLn1RefIdeal.τ).loc Cert.OutLn1RefIdeal.main_arg2) = m ((c.tc : Thread Cert.OutLn1RefIdeal.nD Cert.OutLn1RefIdeal.τ).loc Cert.OutLn1RefIdeal.main_arg2)
      ∧ r.2.mem ((c.tc : Thread Cert.OutLn1RefIdeal.nD Cert.OutLn1RefIdeal.τ).loc Cert.OutLn1RefIdeal.main_arg3) = m ((c.tc : Thread Cert.OutLn1RefIdeal.nD Cert.OutLn1RefIdeal.τ).loc Cert.OutLn1RefIdeal.main_arg3)
      ∧ r.2.mem ((c.tc : Thread Cert.OutLn1RefIdeal.nD Cert.OutLn1RefIdeal.τ).loc Cert.OutLn1RefIdeal.main_arg4) = m ((c.tc : Thread Cert.OutLn1RefIdeal.nD Cert.OutLn1RefIdeal.τ).loc Cert.OutLn1RefIdeal.main_arg4)
      ∧ r.2.mem ((c.tc : Thread Cert.OutLn1RefIdeal.nD Cert.OutLn1RefIdeal.τ).loc Cert.OutLn1RefIdeal.main_arg5) = m ((c.tc : Thread Cert.OutLn1RefIdeal.nD Cert.OutLn1RefIdeal.τ).loc Cert.OutLn1RefIdeal.main_arg5))
      ∧ r.2.sem = fun _ => 0)

def quiescent_ZProj [hZProj : Cert.ZProj.Facts] : Prop :=
  ∀ (m : (ℓ : Loc Cert.ZProj.nD Cert.ZProj.τ Cert.ZProj.sig) → Buf (Elt Bits) ℓ) (g : Dev Cert.ZProj.nD → PrngReg), Pre_ZProj m →
    θ_run (Cert.ZProj.defs (F := Bits)) (onTc (τ := Cert.ZProj.τ) (Cert.ZProj.main (F := Bits))) ⟨m, fun _ => 0, g⟩ (fun r => (∀ c : Dev Cert.ZProj.nD,
      r.2.mem ((c.tc : Thread Cert.ZProj.nD Cert.ZProj.τ).loc Cert.ZProj.main_arg0) = m ((c.tc : Thread Cert.ZProj.nD Cert.ZProj.τ).loc Cert.ZProj.main_arg0)
      ∧ r.2.mem ((c.tc : Thread Cert.ZProj.nD Cert.ZProj.τ).loc Cert.ZProj.main_arg1) = m ((c.tc : Thread Cert.ZProj.nD Cert.ZProj.τ).loc Cert.ZProj.main_arg1))
      ∧ r.2.sem = fun _ => 0)

def quiescent_ZProjIdeal [hZProjIdeal : Cert.ZProjIdeal.Facts] : Prop :=
  ∀ (m : (ℓ : Loc Cert.ZProjIdeal.nD Cert.ZProjIdeal.τ Cert.ZProjIdeal.sig) → Buf (Elt Ideal) ℓ) (g : Dev Cert.ZProjIdeal.nD → PrngReg), Pre_ZProjIdeal m →
    θ_run (Cert.ZProjIdeal.defs (F := Ideal)) (onTc (τ := Cert.ZProjIdeal.τ) (Cert.ZProjIdeal.main (F := Ideal))) ⟨m, fun _ => 0, g⟩ (fun r => (∀ c : Dev Cert.ZProjIdeal.nD,
      r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
      ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1))
      ∧ r.2.sem = fun _ => 0)

def quiescent_ZProjRefIdeal [hZProjRefIdeal : Cert.ZProjRefIdeal.Facts] : Prop :=
  ∀ (m : (ℓ : Loc Cert.ZProjRefIdeal.nD Cert.ZProjRefIdeal.τ Cert.ZProjRefIdeal.sig) → Buf (Elt Ideal) ℓ) (g : Dev Cert.ZProjRefIdeal.nD → PrngReg), Pre_ZProjRefIdeal m →
    θ_run (Cert.ZProjRefIdeal.defs (F := Ideal)) (onTc (τ := Cert.ZProjRefIdeal.τ) (Cert.ZProjRefIdeal.main (F := Ideal))) ⟨m, fun _ => 0, g⟩ (fun r => (∀ c : Dev Cert.ZProjRefIdeal.nD,
      r.2.mem ((c.tc : Thread Cert.ZProjRefIdeal.nD Cert.ZProjRefIdeal.τ).loc Cert.ZProjRefIdeal.main_arg0) = m ((c.tc : Thread Cert.ZProjRefIdeal.nD Cert.ZProjRefIdeal.τ).loc Cert.ZProjRefIdeal.main_arg0)
      ∧ r.2.mem ((c.tc : Thread Cert.ZProjRefIdeal.nD Cert.ZProjRefIdeal.τ).loc Cert.ZProjRefIdeal.main_arg1) = m ((c.tc : Thread Cert.ZProjRefIdeal.nD Cert.ZProjRefIdeal.τ).loc Cert.ZProjRefIdeal.main_arg1))
      ∧ r.2.sem = fun _ => 0)

def quiescent_Ln1 [hLn1 : Cert.Ln1.Facts] : Prop :=
  ∀ (m : (ℓ : Loc Cert.Ln1.nD Cert.Ln1.τ Cert.Ln1.sig) → Buf (Elt Bits) ℓ) (g : Dev Cert.Ln1.nD → PrngReg), Pre_Ln1 m →
    θ_run (Cert.Ln1.defs (F := Bits)) (onTc (τ := Cert.Ln1.τ) (Cert.Ln1.main (F := Bits))) ⟨m, fun _ => 0, g⟩ (fun r => (∀ c : Dev Cert.Ln1.nD,
      r.2.mem ((c.tc : Thread Cert.Ln1.nD Cert.Ln1.τ).loc Cert.Ln1.main_arg0) = m ((c.tc : Thread Cert.Ln1.nD Cert.Ln1.τ).loc Cert.Ln1.main_arg0)
      ∧ r.2.mem ((c.tc : Thread Cert.Ln1.nD Cert.Ln1.τ).loc Cert.Ln1.main_arg1) = m ((c.tc : Thread Cert.Ln1.nD Cert.Ln1.τ).loc Cert.Ln1.main_arg1)
      ∧ r.2.mem ((c.tc : Thread Cert.Ln1.nD Cert.Ln1.τ).loc Cert.Ln1.main_arg2) = m ((c.tc : Thread Cert.Ln1.nD Cert.Ln1.τ).loc Cert.Ln1.main_arg2)
      ∧ r.2.mem ((c.tc : Thread Cert.Ln1.nD Cert.Ln1.τ).loc Cert.Ln1.main_arg3) = m ((c.tc : Thread Cert.Ln1.nD Cert.Ln1.τ).loc Cert.Ln1.main_arg3)
      ∧ r.2.mem ((c.tc : Thread Cert.Ln1.nD Cert.Ln1.τ).loc Cert.Ln1.main_arg4) = m ((c.tc : Thread Cert.Ln1.nD Cert.Ln1.τ).loc Cert.Ln1.main_arg4))
      ∧ r.2.sem = fun _ => 0)

def quiescent_Ln1Ideal [hLn1Ideal : Cert.Ln1Ideal.Facts] : Prop :=
  ∀ (m : (ℓ : Loc Cert.Ln1Ideal.nD Cert.Ln1Ideal.τ Cert.Ln1Ideal.sig) → Buf (Elt Ideal) ℓ) (g : Dev Cert.Ln1Ideal.nD → PrngReg), Pre_Ln1Ideal m →
    θ_run (Cert.Ln1Ideal.defs (F := Ideal)) (onTc (τ := Cert.Ln1Ideal.τ) (Cert.Ln1Ideal.main (F := Ideal))) ⟨m, fun _ => 0, g⟩ (fun r => (∀ c : Dev Cert.Ln1Ideal.nD,
      r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
      ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
      ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
      ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
      ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4))
      ∧ r.2.sem = fun _ => 0)

def quiescent_Ln2 [hLn2 : Cert.Ln2.Facts] : Prop :=
  ∀ (m : (ℓ : Loc Cert.Ln2.nD Cert.Ln2.τ Cert.Ln2.sig) → Buf (Elt Bits) ℓ) (g : Dev Cert.Ln2.nD → PrngReg), Pre_Ln2 m →
    θ_run (Cert.Ln2.defs (F := Bits)) (onTc (τ := Cert.Ln2.τ) (Cert.Ln2.main (F := Bits))) ⟨m, fun _ => 0, g⟩ (fun r => (∀ c : Dev Cert.Ln2.nD,
      r.2.mem ((c.tc : Thread Cert.Ln2.nD Cert.Ln2.τ).loc Cert.Ln2.main_arg0) = m ((c.tc : Thread Cert.Ln2.nD Cert.Ln2.τ).loc Cert.Ln2.main_arg0)
      ∧ r.2.mem ((c.tc : Thread Cert.Ln2.nD Cert.Ln2.τ).loc Cert.Ln2.main_arg1) = m ((c.tc : Thread Cert.Ln2.nD Cert.Ln2.τ).loc Cert.Ln2.main_arg1)
      ∧ r.2.mem ((c.tc : Thread Cert.Ln2.nD Cert.Ln2.τ).loc Cert.Ln2.main_arg2) = m ((c.tc : Thread Cert.Ln2.nD Cert.Ln2.τ).loc Cert.Ln2.main_arg2)
      ∧ r.2.mem ((c.tc : Thread Cert.Ln2.nD Cert.Ln2.τ).loc Cert.Ln2.main_arg3) = m ((c.tc : Thread Cert.Ln2.nD Cert.Ln2.τ).loc Cert.Ln2.main_arg3)
      ∧ r.2.mem ((c.tc : Thread Cert.Ln2.nD Cert.Ln2.τ).loc Cert.Ln2.main_arg4) = m ((c.tc : Thread Cert.Ln2.nD Cert.Ln2.τ).loc Cert.Ln2.main_arg4)
      ∧ r.2.mem ((c.tc : Thread Cert.Ln2.nD Cert.Ln2.τ).loc Cert.Ln2.main_arg5) = m ((c.tc : Thread Cert.Ln2.nD Cert.Ln2.τ).loc Cert.Ln2.main_arg5)
      ∧ r.2.mem ((c.tc : Thread Cert.Ln2.nD Cert.Ln2.τ).loc Cert.Ln2.main_arg6) = m ((c.tc : Thread Cert.Ln2.nD Cert.Ln2.τ).loc Cert.Ln2.main_arg6)
      ∧ r.2.mem ((c.tc : Thread Cert.Ln2.nD Cert.Ln2.τ).loc Cert.Ln2.main_arg7) = m ((c.tc : Thread Cert.Ln2.nD Cert.Ln2.τ).loc Cert.Ln2.main_arg7))
      ∧ r.2.sem = fun _ => 0)

def quiescent_Ln2Ideal [hLn2Ideal : Cert.Ln2Ideal.Facts] : Prop :=
  ∀ (m : (ℓ : Loc Cert.Ln2Ideal.nD Cert.Ln2Ideal.τ Cert.Ln2Ideal.sig) → Buf (Elt Ideal) ℓ) (g : Dev Cert.Ln2Ideal.nD → PrngReg), Pre_Ln2Ideal m →
    θ_run (Cert.Ln2Ideal.defs (F := Ideal)) (onTc (τ := Cert.Ln2Ideal.τ) (Cert.Ln2Ideal.main (F := Ideal))) ⟨m, fun _ => 0, g⟩ (fun r => (∀ c : Dev Cert.Ln2Ideal.nD,
      r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
      ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
      ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
      ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
      ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
      ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
      ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6)
      ∧ r.2.mem ((c.tc : Thread Cert.Ln2Ideal.nD Cert.Ln2Ideal.τ).loc Cert.Ln2Ideal.main_arg7) = m ((c.tc : Thread Cert.Ln2Ideal.nD Cert.Ln2Ideal.τ).loc Cert.Ln2Ideal.main_arg7))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5)
      ∧ r.2.mem ((c.tc : Thread Cert.Ln2RefIdeal.nD Cert.Ln2RefIdeal.τ).loc Cert.Ln2RefIdeal.main_arg6) = m ((c.tc : Thread Cert.Ln2RefIdeal.nD Cert.Ln2RefIdeal.τ).loc Cert.Ln2RefIdeal.main_arg6)
      ∧ r.2.mem ((c.tc : Thread Cert.Ln2RefIdeal.nD Cert.Ln2RefIdeal.τ).loc Cert.Ln2RefIdeal.main_arg7) = m ((c.tc : Thread Cert.Ln2RefIdeal.nD Cert.Ln2RefIdeal.τ).loc Cert.Ln2RefIdeal.main_arg7))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_AdamSharded [hAdamSharded : Cert.AdamSharded.Facts] : Prop :=
  ∀ (m : (ℓ : Loc Cert.AdamSharded.nD Cert.AdamSharded.τ Cert.AdamSharded.sig) → Buf (Elt Bits) ℓ) (g : Dev Cert.AdamSharded.nD → PrngReg), Pre_AdamSharded m →
    θ_run (Cert.AdamSharded.defs (F := Bits)) (onTc (τ := Cert.AdamSharded.τ) (Cert.AdamSharded.main (F := Bits))) ⟨m, fun _ => 0, g⟩ (fun r => (∀ c : Dev Cert.AdamSharded.nD,
      r.2.mem ((c.tc : Thread Cert.AdamSharded.nD Cert.AdamSharded.τ).loc Cert.AdamSharded.main_arg0) = m ((c.tc : Thread Cert.AdamSharded.nD Cert.AdamSharded.τ).loc Cert.AdamSharded.main_arg0)
      ∧ r.2.mem ((c.tc : Thread Cert.AdamSharded.nD Cert.AdamSharded.τ).loc Cert.AdamSharded.main_arg1) = m ((c.tc : Thread Cert.AdamSharded.nD Cert.AdamSharded.τ).loc Cert.AdamSharded.main_arg1)
      ∧ r.2.mem ((c.tc : Thread Cert.AdamSharded.nD Cert.AdamSharded.τ).loc Cert.AdamSharded.main_arg2) = m ((c.tc : Thread Cert.AdamSharded.nD Cert.AdamSharded.τ).loc Cert.AdamSharded.main_arg2)
      ∧ r.2.mem ((c.tc : Thread Cert.AdamSharded.nD Cert.AdamSharded.τ).loc Cert.AdamSharded.main_arg3) = m ((c.tc : Thread Cert.AdamSharded.nD Cert.AdamSharded.τ).loc Cert.AdamSharded.main_arg3))
      ∧ r.2.sem = fun _ => 0)

def quiescent_AdamShardedIdeal [hAdamShardedIdeal : Cert.AdamShardedIdeal.Facts] : Prop :=
  ∀ (m : (ℓ : Loc Cert.AdamShardedIdeal.nD Cert.AdamShardedIdeal.τ Cert.AdamShardedIdeal.sig) → Buf (Elt Ideal) ℓ) (g : Dev Cert.AdamShardedIdeal.nD → PrngReg), Pre_AdamShardedIdeal m →
    θ_run (Cert.AdamShardedIdeal.defs (F := Ideal)) (onTc (τ := Cert.AdamShardedIdeal.τ) (Cert.AdamShardedIdeal.main (F := Ideal))) ⟨m, fun _ => 0, g⟩ (fun r => (∀ c : Dev Cert.AdamShardedIdeal.nD,
      r.2.mem ((c.tc : Thread Cert.AdamShardedIdeal.nD Cert.AdamShardedIdeal.τ).loc Cert.AdamShardedIdeal.main_arg0) = m ((c.tc : Thread Cert.AdamShardedIdeal.nD Cert.AdamShardedIdeal.τ).loc Cert.AdamShardedIdeal.main_arg0)
      ∧ r.2.mem ((c.tc : Thread Cert.AdamShardedIdeal.nD Cert.AdamShardedIdeal.τ).loc Cert.AdamShardedIdeal.main_arg1) = m ((c.tc : Thread Cert.AdamShardedIdeal.nD Cert.AdamShardedIdeal.τ).loc Cert.AdamShardedIdeal.main_arg1)
      ∧ r.2.mem ((c.tc : Thread Cert.AdamShardedIdeal.nD Cert.AdamShardedIdeal.τ).loc Cert.AdamShardedIdeal.main_arg2) = m ((c.tc : Thread Cert.AdamShardedIdeal.nD Cert.AdamShardedIdeal.τ).loc Cert.AdamShardedIdeal.main_arg2)
      ∧ r.2.mem ((c.tc : Thread Cert.AdamShardedIdeal.nD Cert.AdamShardedIdeal.τ).loc Cert.AdamShardedIdeal.main_arg3) = m ((c.tc : Thread Cert.AdamShardedIdeal.nD Cert.AdamShardedIdeal.τ).loc Cert.AdamShardedIdeal.main_arg3))
      ∧ r.2.sem = fun _ => 0)

def quiescent_AdamShardedRefIdeal [hAdamShardedRefIdeal : Cert.AdamShardedRefIdeal.Facts] : Prop :=
  ∀ (m : (ℓ : Loc Cert.AdamShardedRefIdeal.nD Cert.AdamShardedRefIdeal.τ Cert.AdamShardedRefIdeal.sig) → Buf (Elt Ideal) ℓ) (g : Dev Cert.AdamShardedRefIdeal.nD → PrngReg), Pre_AdamShardedRefIdeal m →
    θ_run (Cert.AdamShardedRefIdeal.defs (F := Ideal)) (onTc (τ := Cert.AdamShardedRefIdeal.τ) (Cert.AdamShardedRefIdeal.main (F := Ideal))) ⟨m, fun _ => 0, g⟩ (fun r => (∀ c : Dev Cert.AdamShardedRefIdeal.nD,
      r.2.mem ((c.tc : Thread Cert.AdamShardedRefIdeal.nD Cert.AdamShardedRefIdeal.τ).loc Cert.AdamShardedRefIdeal.main_arg0) = m ((c.tc : Thread Cert.AdamShardedRefIdeal.nD Cert.AdamShardedRefIdeal.τ).loc Cert.AdamShardedRefIdeal.main_arg0)
      ∧ r.2.mem ((c.tc : Thread Cert.AdamShardedRefIdeal.nD Cert.AdamShardedRefIdeal.τ).loc Cert.AdamShardedRefIdeal.main_arg1) = m ((c.tc : Thread Cert.AdamShardedRefIdeal.nD Cert.AdamShardedRefIdeal.τ).loc Cert.AdamShardedRefIdeal.main_arg1)
      ∧ r.2.mem ((c.tc : Thread Cert.AdamShardedRefIdeal.nD Cert.AdamShardedRefIdeal.τ).loc Cert.AdamShardedRefIdeal.main_arg2) = m ((c.tc : Thread Cert.AdamShardedRefIdeal.nD Cert.AdamShardedRefIdeal.τ).loc Cert.AdamShardedRefIdeal.main_arg2)
      ∧ r.2.mem ((c.tc : Thread Cert.AdamShardedRefIdeal.nD Cert.AdamShardedRefIdeal.τ).loc Cert.AdamShardedRefIdeal.main_arg3) = m ((c.tc : Thread Cert.AdamShardedRefIdeal.nD Cert.AdamShardedRefIdeal.τ).loc Cert.AdamShardedRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_DyLru [hDyLru : Cert.DyLru.Facts] : Prop :=
  ∀ (m : (ℓ : Loc Cert.DyLru.nD Cert.DyLru.τ Cert.DyLru.sig) → Buf (Elt Bits) ℓ) (g : Dev Cert.DyLru.nD → PrngReg), Pre_DyLru m →
    θ_run (Cert.DyLru.defs (F := Bits)) (onTc (τ := Cert.DyLru.τ) (Cert.DyLru.main (F := Bits))) ⟨m, fun _ => 0, g⟩ (fun r => (∀ c : Dev Cert.DyLru.nD,
      r.2.mem ((c.tc : Thread Cert.DyLru.nD Cert.DyLru.τ).loc Cert.DyLru.main_arg0) = m ((c.tc : Thread Cert.DyLru.nD Cert.DyLru.τ).loc Cert.DyLru.main_arg0)
      ∧ r.2.mem ((c.tc : Thread Cert.DyLru.nD Cert.DyLru.τ).loc Cert.DyLru.main_arg1) = m ((c.tc : Thread Cert.DyLru.nD Cert.DyLru.τ).loc Cert.DyLru.main_arg1)
      ∧ r.2.mem ((c.tc : Thread Cert.DyLru.nD Cert.DyLru.τ).loc Cert.DyLru.main_arg2) = m ((c.tc : Thread Cert.DyLru.nD Cert.DyLru.τ).loc Cert.DyLru.main_arg2)
      ∧ r.2.mem ((c.tc : Thread Cert.DyLru.nD Cert.DyLru.τ).loc Cert.DyLru.main_arg3) = m ((c.tc : Thread Cert.DyLru.nD Cert.DyLru.τ).loc Cert.DyLru.main_arg3)
      ∧ r.2.mem ((c.tc : Thread Cert.DyLru.nD Cert.DyLru.τ).loc Cert.DyLru.main_arg4) = m ((c.tc : Thread Cert.DyLru.nD Cert.DyLru.τ).loc Cert.DyLru.main_arg4))
      ∧ r.2.sem = fun _ => 0)

def quiescent_DyLruIdeal [hDyLruIdeal : Cert.DyLruIdeal.Facts] : Prop :=
  ∀ (m : (ℓ : Loc Cert.DyLruIdeal.nD Cert.DyLruIdeal.τ Cert.DyLruIdeal.sig) → Buf (Elt Ideal) ℓ) (g : Dev Cert.DyLruIdeal.nD → PrngReg), Pre_DyLruIdeal m →
    θ_run (Cert.DyLruIdeal.defs (F := Ideal)) (onTc (τ := Cert.DyLruIdeal.τ) (Cert.DyLruIdeal.main (F := Ideal))) ⟨m, fun _ => 0, g⟩ (fun r => (∀ c : Dev Cert.DyLruIdeal.nD,
      r.2.mem ((c.tc : Thread Cert.DyLruIdeal.nD Cert.DyLruIdeal.τ).loc Cert.DyLruIdeal.main_arg0) = m ((c.tc : Thread Cert.DyLruIdeal.nD Cert.DyLruIdeal.τ).loc Cert.DyLruIdeal.main_arg0)
      ∧ r.2.mem ((c.tc : Thread Cert.DyLruIdeal.nD Cert.DyLruIdeal.τ).loc Cert.DyLruIdeal.main_arg1) = m ((c.tc : Thread Cert.DyLruIdeal.nD Cert.DyLruIdeal.τ).loc Cert.DyLruIdeal.main_arg1)
      ∧ r.2.mem ((c.tc : Thread Cert.DyLruIdeal.nD Cert.DyLruIdeal.τ).loc Cert.DyLruIdeal.main_arg2) = m ((c.tc : Thread Cert.DyLruIdeal.nD Cert.DyLruIdeal.τ).loc Cert.DyLruIdeal.main_arg2)
      ∧ r.2.mem ((c.tc : Thread Cert.DyLruIdeal.nD Cert.DyLruIdeal.τ).loc Cert.DyLruIdeal.main_arg3) = m ((c.tc : Thread Cert.DyLruIdeal.nD Cert.DyLruIdeal.τ).loc Cert.DyLruIdeal.main_arg3)
      ∧ r.2.mem ((c.tc : Thread Cert.DyLruIdeal.nD Cert.DyLruIdeal.τ).loc Cert.DyLruIdeal.main_arg4) = m ((c.tc : Thread Cert.DyLruIdeal.nD Cert.DyLruIdeal.τ).loc Cert.DyLruIdeal.main_arg4))
      ∧ r.2.sem = fun _ => 0)

def quiescent_DyLruRefIdeal [hDyLruRefIdeal : Cert.DyLruRefIdeal.Facts] : Prop :=
  ∀ (m : (ℓ : Loc Cert.DyLruRefIdeal.nD Cert.DyLruRefIdeal.τ Cert.DyLruRefIdeal.sig) → Buf (Elt Ideal) ℓ) (g : Dev Cert.DyLruRefIdeal.nD → PrngReg), Pre_DyLruRefIdeal m →
    θ_run (Cert.DyLruRefIdeal.defs (F := Ideal)) (onTc (τ := Cert.DyLruRefIdeal.τ) (Cert.DyLruRefIdeal.main (F := Ideal))) ⟨m, fun _ => 0, g⟩ (fun r => (∀ c : Dev Cert.DyLruRefIdeal.nD,
      r.2.mem ((c.tc : Thread Cert.DyLruRefIdeal.nD Cert.DyLruRefIdeal.τ).loc Cert.DyLruRefIdeal.main_arg0) = m ((c.tc : Thread Cert.DyLruRefIdeal.nD Cert.DyLruRefIdeal.τ).loc Cert.DyLruRefIdeal.main_arg0)
      ∧ r.2.mem ((c.tc : Thread Cert.DyLruRefIdeal.nD Cert.DyLruRefIdeal.τ).loc Cert.DyLruRefIdeal.main_arg1) = m ((c.tc : Thread Cert.DyLruRefIdeal.nD Cert.DyLruRefIdeal.τ).loc Cert.DyLruRefIdeal.main_arg1)
      ∧ r.2.mem ((c.tc : Thread Cert.DyLruRefIdeal.nD Cert.DyLruRefIdeal.τ).loc Cert.DyLruRefIdeal.main_arg2) = m ((c.tc : Thread Cert.DyLruRefIdeal.nD Cert.DyLruRefIdeal.τ).loc Cert.DyLruRefIdeal.main_arg2)
      ∧ r.2.mem ((c.tc : Thread Cert.DyLruRefIdeal.nD Cert.DyLruRefIdeal.τ).loc Cert.DyLruRefIdeal.main_arg3) = m ((c.tc : Thread Cert.DyLruRefIdeal.nD Cert.DyLruRefIdeal.τ).loc Cert.DyLruRefIdeal.main_arg3)
      ∧ r.2.mem ((c.tc : Thread Cert.DyLruRefIdeal.nD Cert.DyLruRefIdeal.τ).loc Cert.DyLruRefIdeal.main_arg4) = m ((c.tc : Thread Cert.DyLruRefIdeal.nD Cert.DyLruRefIdeal.τ).loc Cert.DyLruRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamFf2 [hAdamFf2 : Cert.AdamFf2.Facts] : Prop :=
  ∀ (m : (ℓ : Loc Cert.AdamFf2.nD Cert.AdamFf2.τ Cert.AdamFf2.sig) → Buf (Elt Bits) ℓ) (g : Dev Cert.AdamFf2.nD → PrngReg), Pre_AdamFf2 m →
    θ_run (Cert.AdamFf2.defs (F := Bits)) (onTc (τ := Cert.AdamFf2.τ) (Cert.AdamFf2.main (F := Bits))) ⟨m, fun _ => 0, g⟩ (fun r => (∀ c : Dev Cert.AdamFf2.nD,
      r.2.mem ((c.tc : Thread Cert.AdamFf2.nD Cert.AdamFf2.τ).loc Cert.AdamFf2.main_arg0) = m ((c.tc : Thread Cert.AdamFf2.nD Cert.AdamFf2.τ).loc Cert.AdamFf2.main_arg0)
      ∧ r.2.mem ((c.tc : Thread Cert.AdamFf2.nD Cert.AdamFf2.τ).loc Cert.AdamFf2.main_arg1) = m ((c.tc : Thread Cert.AdamFf2.nD Cert.AdamFf2.τ).loc Cert.AdamFf2.main_arg1)
      ∧ r.2.mem ((c.tc : Thread Cert.AdamFf2.nD Cert.AdamFf2.τ).loc Cert.AdamFf2.main_arg2) = m ((c.tc : Thread Cert.AdamFf2.nD Cert.AdamFf2.τ).loc Cert.AdamFf2.main_arg2)
      ∧ r.2.mem ((c.tc : Thread Cert.AdamFf2.nD Cert.AdamFf2.τ).loc Cert.AdamFf2.main_arg3) = m ((c.tc : Thread Cert.AdamFf2.nD Cert.AdamFf2.τ).loc Cert.AdamFf2.main_arg3)
      ∧ r.2.mem ((c.tc : Thread Cert.AdamFf2.nD Cert.AdamFf2.τ).loc Cert.AdamFf2.main_arg4) = m ((c.tc : Thread Cert.AdamFf2.nD Cert.AdamFf2.τ).loc Cert.AdamFf2.main_arg4)
      ∧ r.2.mem ((c.tc : Thread Cert.AdamFf2.nD Cert.AdamFf2.τ).loc Cert.AdamFf2.main_arg5) = m ((c.tc : Thread Cert.AdamFf2.nD Cert.AdamFf2.τ).loc Cert.AdamFf2.main_arg5))
      ∧ r.2.sem = fun _ => 0)

def quiescent_AdamFf2Ideal [hAdamFf2Ideal : Cert.AdamFf2Ideal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg), Pre_AdamFf2Ideal m →
    θ_run (Cert.AdamFf2Ideal.defs (F := Ideal)) (onTc (τ := Cert.AdamFf2Ideal.τ) (Cert.AdamFf2Ideal.main (F := Ideal))) ⟨m, fun _ => 0, g⟩ (fun r => (∀ c : Dev Cert.AdamFf2Ideal.nD,
      r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
      ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
      ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
      ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3)
      ∧ r.2.mem ((c.tc : Thread Cert.AdamFf2Ideal.nD Cert.AdamFf2Ideal.τ).loc Cert.AdamFf2Ideal.main_arg4) = m ((c.tc : Thread Cert.AdamFf2Ideal.nD Cert.AdamFf2Ideal.τ).loc Cert.AdamFf2Ideal.main_arg4)
      ∧ r.2.mem ((c.tc : Thread Cert.AdamFf2Ideal.nD Cert.AdamFf2Ideal.τ).loc Cert.AdamFf2Ideal.main_arg5) = m ((c.tc : Thread Cert.AdamFf2Ideal.nD Cert.AdamFf2Ideal.τ).loc Cert.AdamFf2Ideal.main_arg5))
      ∧ r.2.sem = fun _ => 0)

def quiescent_AdamFf2RefIdeal [hAdamFf2RefIdeal : Cert.AdamFf2RefIdeal.Facts] : Prop :=
  ∀ (m : (ℓ : Loc Cert.AdamFf2RefIdeal.nD Cert.AdamFf2RefIdeal.τ Cert.AdamFf2RefIdeal.sig) → Buf (Elt Ideal) ℓ) (g : Dev Cert.AdamFf2RefIdeal.nD → PrngReg), Pre_AdamFf2RefIdeal m →
    θ_run (Cert.AdamFf2RefIdeal.defs (F := Ideal)) (onTc (τ := Cert.AdamFf2RefIdeal.τ) (Cert.AdamFf2RefIdeal.main (F := Ideal))) ⟨m, fun _ => 0, g⟩ (fun r => (∀ c : Dev Cert.AdamFf2RefIdeal.nD,
      r.2.mem ((c.tc : Thread Cert.AdamFf2RefIdeal.nD Cert.AdamFf2RefIdeal.τ).loc Cert.AdamFf2RefIdeal.main_arg0) = m ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m ((c.tc : Thread Cert.AdamFf2RefIdeal.nD Cert.AdamFf2RefIdeal.τ).loc Cert.AdamFf2RefIdeal.main_arg3)
      ∧ r.2.mem ((c.tc : Thread Cert.AdamFf2RefIdeal.nD Cert.AdamFf2RefIdeal.τ).loc Cert.AdamFf2RefIdeal.main_arg4) = m ((c.tc : Thread Cert.AdamFf2RefIdeal.nD Cert.AdamFf2RefIdeal.τ).loc Cert.AdamFf2RefIdeal.main_arg4)
      ∧ r.2.mem ((c.tc : Thread Cert.AdamFf2RefIdeal.nD Cert.AdamFf2RefIdeal.τ).loc Cert.AdamFf2RefIdeal.main_arg5) = m ((c.tc : Thread Cert.AdamFf2RefIdeal.nD Cert.AdamFf2RefIdeal.τ).loc Cert.AdamFf2RefIdeal.main_arg5))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4)
      ∧ r.2.mem ((c.tc : Thread Cert.AdamPool.nD Cert.AdamPool.τ).loc Cert.AdamPool.main_arg5) = m ((c.tc : Thread Cert.AdamPool.nD Cert.AdamPool.τ).loc Cert.AdamPool.main_arg5))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4)
      ∧ r.2.mem ((c.tc : Thread Cert.AdamPoolIdeal.nD Cert.AdamPoolIdeal.τ).loc Cert.AdamPoolIdeal.main_arg5) = m ((c.tc : Thread Cert.AdamPoolIdeal.nD Cert.AdamPoolIdeal.τ).loc Cert.AdamPoolIdeal.main_arg5))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4)
      ∧ r.2.mem ((c.tc : Thread Cert.AdamPoolRefIdeal.nD Cert.AdamPoolRefIdeal.τ).loc Cert.AdamPoolRefIdeal.main_arg5) = m ((c.tc : Thread Cert.AdamPoolRefIdeal.nD Cert.AdamPoolRefIdeal.τ).loc Cert.AdamPoolRefIdeal.main_arg5))
      ∧ r.2.sem = fun _ => 0)

def quiescent_AdamLru [hAdamLru : Cert.AdamLru.Facts] : Prop :=
  ∀ (m : (ℓ : Loc Cert.AdamLru.nD Cert.AdamLru.τ Cert.AdamLru.sig) → Buf (Elt Bits) ℓ) (g : Dev Cert.AdamLru.nD → PrngReg), Pre_AdamLru m →
    θ_run (Cert.AdamLru.defs (F := Bits)) (onTc (τ := Cert.AdamLru.τ) (Cert.AdamLru.main (F := Bits))) ⟨m, fun _ => 0, g⟩ (fun r => (∀ c : Dev Cert.AdamLru.nD,
      r.2.mem ((c.tc : Thread Cert.AdamLru.nD Cert.AdamLru.τ).loc Cert.AdamLru.main_arg0) = m ((c.tc : Thread Cert.AdamLru.nD Cert.AdamLru.τ).loc Cert.AdamLru.main_arg0)
      ∧ r.2.mem ((c.tc : Thread Cert.AdamLru.nD Cert.AdamLru.τ).loc Cert.AdamLru.main_arg1) = m ((c.tc : Thread Cert.AdamLru.nD Cert.AdamLru.τ).loc Cert.AdamLru.main_arg1)
      ∧ r.2.mem ((c.tc : Thread Cert.AdamLru.nD Cert.AdamLru.τ).loc Cert.AdamLru.main_arg2) = m ((c.tc : Thread Cert.AdamLru.nD Cert.AdamLru.τ).loc Cert.AdamLru.main_arg2)
      ∧ r.2.mem ((c.tc : Thread Cert.AdamLru.nD Cert.AdamLru.τ).loc Cert.AdamLru.main_arg3) = m ((c.tc : Thread Cert.AdamLru.nD Cert.AdamLru.τ).loc Cert.AdamLru.main_arg3)
      ∧ r.2.mem ((c.tc : Thread Cert.AdamLru.nD Cert.AdamLru.τ).loc Cert.AdamLru.main_arg4) = m ((c.tc : Thread Cert.AdamLru.nD Cert.AdamLru.τ).loc Cert.AdamLru.main_arg4)
      ∧ r.2.mem ((c.tc : Thread Cert.AdamLru.nD Cert.AdamLru.τ).loc Cert.AdamLru.main_arg5) = m ((c.tc : Thread Cert.AdamLru.nD Cert.AdamLru.τ).loc Cert.AdamLru.main_arg5))
      ∧ r.2.sem = fun _ => 0)

def quiescent_AdamLruIdeal [hAdamLruIdeal : Cert.AdamLruIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg), Pre_AdamLruIdeal m →
    θ_run (Cert.AdamLruIdeal.defs (F := Ideal)) (onTc (τ := Cert.AdamLruIdeal.τ) (Cert.AdamLruIdeal.main (F := Ideal))) ⟨m, fun _ => 0, g⟩ (fun r => (∀ c : Dev Cert.AdamLruIdeal.nD,
      r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
      ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
      ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
      ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3)
      ∧ r.2.mem ((c.tc : Thread Cert.AdamLruIdeal.nD Cert.AdamLruIdeal.τ).loc Cert.AdamLruIdeal.main_arg4) = m ((c.tc : Thread Cert.AdamLruIdeal.nD Cert.AdamLruIdeal.τ).loc Cert.AdamLruIdeal.main_arg4)
      ∧ r.2.mem ((c.tc : Thread Cert.AdamLruIdeal.nD Cert.AdamLruIdeal.τ).loc Cert.AdamLruIdeal.main_arg5) = m ((c.tc : Thread Cert.AdamLruIdeal.nD Cert.AdamLruIdeal.τ).loc Cert.AdamLruIdeal.main_arg5))
      ∧ r.2.sem = fun _ => 0)

def quiescent_AdamLruRefIdeal [hAdamLruRefIdeal : Cert.AdamLruRefIdeal.Facts] : Prop :=
  ∀ (m : (ℓ : Loc Cert.AdamLruRefIdeal.nD Cert.AdamLruRefIdeal.τ Cert.AdamLruRefIdeal.sig) → Buf (Elt Ideal) ℓ) (g : Dev Cert.AdamLruRefIdeal.nD → PrngReg), Pre_AdamLruRefIdeal m →
    θ_run (Cert.AdamLruRefIdeal.defs (F := Ideal)) (onTc (τ := Cert.AdamLruRefIdeal.τ) (Cert.AdamLruRefIdeal.main (F := Ideal))) ⟨m, fun _ => 0, g⟩ (fun r => (∀ c : Dev Cert.AdamLruRefIdeal.nD,
      r.2.mem ((c.tc : Thread Cert.AdamLruRefIdeal.nD Cert.AdamLruRefIdeal.τ).loc Cert.AdamLruRefIdeal.main_arg0) = m ((c.tc : Thread Cert.AdamLruRefIdeal.nD Cert.AdamLruRefIdeal.τ).loc Cert.AdamLruRefIdeal.main_arg0)
      ∧ r.2.mem ((c.tc : Thread Cert.AdamLruRefIdeal.nD Cert.AdamLruRefIdeal.τ).loc Cert.AdamLruRefIdeal.main_arg1) = m ((c.tc : Thread Cert.AdamLruRefIdeal.nD Cert.AdamLruRefIdeal.τ).loc Cert.AdamLruRefIdeal.main_arg1)
      ∧ r.2.mem ((c.tc : Thread Cert.AdamLruRefIdeal.nD Cert.AdamLruRefIdeal.τ).loc Cert.AdamLruRefIdeal.main_arg2) = m ((c.tc : Thread Cert.AdamLruRefIdeal.nD Cert.AdamLruRefIdeal.τ).loc Cert.AdamLruRefIdeal.main_arg2)
      ∧ r.2.mem ((c.tc : Thread Cert.AdamLruRefIdeal.nD Cert.AdamLruRefIdeal.τ).loc Cert.AdamLruRefIdeal.main_arg3) = m ((c.tc : Thread Cert.AdamLruRefIdeal.nD Cert.AdamLruRefIdeal.τ).loc Cert.AdamLruRefIdeal.main_arg3)
      ∧ r.2.mem ((c.tc : Thread Cert.AdamLruRefIdeal.nD Cert.AdamLruRefIdeal.τ).loc Cert.AdamLruRefIdeal.main_arg4) = m ((c.tc : Thread Cert.AdamLruRefIdeal.nD Cert.AdamLruRefIdeal.τ).loc Cert.AdamLruRefIdeal.main_arg4)
      ∧ r.2.mem ((c.tc : Thread Cert.AdamLruRefIdeal.nD Cert.AdamLruRefIdeal.τ).loc Cert.AdamLruRefIdeal.main_arg5) = m ((c.tc : Thread Cert.AdamLruRefIdeal.nD Cert.AdamLruRefIdeal.τ).loc Cert.AdamLruRefIdeal.main_arg5))
      ∧ r.2.sem = fun _ => 0)

def quiescent_AdamFf1 [hAdamFf1 : Cert.AdamFf1.Facts] : Prop :=
  ∀ (m : (ℓ : Loc Cert.AdamFf1.nD Cert.AdamFf1.τ Cert.AdamFf1.sig) → Buf (Elt Bits) ℓ) (g : Dev Cert.AdamFf1.nD → PrngReg), Pre_AdamFf1 m →
    θ_run (Cert.AdamFf1.defs (F := Bits)) (onTc (τ := Cert.AdamFf1.τ) (Cert.AdamFf1.main (F := Bits))) ⟨m, fun _ => 0, g⟩ (fun r => (∀ c : Dev Cert.AdamFf1.nD,
      r.2.mem ((c.tc : Thread Cert.AdamFf1.nD Cert.AdamFf1.τ).loc Cert.AdamFf1.main_arg0) = m ((c.tc : Thread Cert.AdamFf1.nD Cert.AdamFf1.τ).loc Cert.AdamFf1.main_arg0)
      ∧ r.2.mem ((c.tc : Thread Cert.AdamFf1.nD Cert.AdamFf1.τ).loc Cert.AdamFf1.main_arg1) = m ((c.tc : Thread Cert.AdamFf1.nD Cert.AdamFf1.τ).loc Cert.AdamFf1.main_arg1)
      ∧ r.2.mem ((c.tc : Thread Cert.AdamFf1.nD Cert.AdamFf1.τ).loc Cert.AdamFf1.main_arg2) = m ((c.tc : Thread Cert.AdamFf1.nD Cert.AdamFf1.τ).loc Cert.AdamFf1.main_arg2)
      ∧ r.2.mem ((c.tc : Thread Cert.AdamFf1.nD Cert.AdamFf1.τ).loc Cert.AdamFf1.main_arg3) = m ((c.tc : Thread Cert.AdamFf1.nD Cert.AdamFf1.τ).loc Cert.AdamFf1.main_arg3)
      ∧ r.2.mem ((c.tc : Thread Cert.AdamFf1.nD Cert.AdamFf1.τ).loc Cert.AdamFf1.main_arg4) = m ((c.tc : Thread Cert.AdamFf1.nD Cert.AdamFf1.τ).loc Cert.AdamFf1.main_arg4)
      ∧ r.2.mem ((c.tc : Thread Cert.AdamFf1.nD Cert.AdamFf1.τ).loc Cert.AdamFf1.main_arg5) = m ((c.tc : Thread Cert.AdamFf1.nD Cert.AdamFf1.τ).loc Cert.AdamFf1.main_arg5))
      ∧ r.2.sem = fun _ => 0)

def quiescent_AdamFf1Ideal [hAdamFf1Ideal : Cert.AdamFf1Ideal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg), Pre_AdamFf1Ideal m →
    θ_run (Cert.AdamFf1Ideal.defs (F := Ideal)) (onTc (τ := Cert.AdamFf1Ideal.τ) (Cert.AdamFf1Ideal.main (F := Ideal))) ⟨m, fun _ => 0, g⟩ (fun r => (∀ c : Dev Cert.AdamFf1Ideal.nD,
      r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
      ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
      ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
      ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3)
      ∧ r.2.mem ((c.tc : Thread Cert.AdamFf1Ideal.nD Cert.AdamFf1Ideal.τ).loc Cert.AdamFf1Ideal.main_arg4) = m ((c.tc : Thread Cert.AdamFf1Ideal.nD Cert.AdamFf1Ideal.τ).loc Cert.AdamFf1Ideal.main_arg4)
      ∧ r.2.mem ((c.tc : Thread Cert.AdamFf1Ideal.nD Cert.AdamFf1Ideal.τ).loc Cert.AdamFf1Ideal.main_arg5) = m ((c.tc : Thread Cert.AdamFf1Ideal.nD Cert.AdamFf1Ideal.τ).loc Cert.AdamFf1Ideal.main_arg5))
      ∧ r.2.sem = fun _ => 0)

def quiescent_AdamFf1RefIdeal [hAdamFf1RefIdeal : Cert.AdamFf1RefIdeal.Facts] : Prop :=
  ∀ (m : (ℓ : Loc Cert.AdamFf1RefIdeal.nD Cert.AdamFf1RefIdeal.τ Cert.AdamFf1RefIdeal.sig) → Buf (Elt Ideal) ℓ) (g : Dev Cert.AdamFf1RefIdeal.nD → PrngReg), Pre_AdamFf1RefIdeal m →
    θ_run (Cert.AdamFf1RefIdeal.defs (F := Ideal)) (onTc (τ := Cert.AdamFf1RefIdeal.τ) (Cert.AdamFf1RefIdeal.main (F := Ideal))) ⟨m, fun _ => 0, g⟩ (fun r => (∀ c : Dev Cert.AdamFf1RefIdeal.nD,
      r.2.mem ((c.tc : Thread Cert.AdamFf1RefIdeal.nD Cert.AdamFf1RefIdeal.τ).loc Cert.AdamFf1RefIdeal.main_arg0) = m ((c.tc : Thread Cert.AdamFf1RefIdeal.nD Cert.AdamFf1RefIdeal.τ).loc Cert.AdamFf1RefIdeal.main_arg0)
      ∧ r.2.mem ((c.tc : Thread Cert.AdamFf1RefIdeal.nD Cert.AdamFf1RefIdeal.τ).loc Cert.AdamFf1RefIdeal.main_arg1) = m ((c.tc : Thread Cert.AdamFf1RefIdeal.nD Cert.AdamFf1RefIdeal.τ).loc Cert.AdamFf1RefIdeal.main_arg1)
      ∧ r.2.mem ((c.tc : Thread Cert.AdamFf1RefIdeal.nD Cert.AdamFf1RefIdeal.τ).loc Cert.AdamFf1RefIdeal.main_arg2) = m ((c.tc : Thread Cert.AdamFf1RefIdeal.nD Cert.AdamFf1RefIdeal.τ).loc Cert.AdamFf1RefIdeal.main_arg2)
      ∧ r.2.mem ((c.tc : Thread Cert.AdamFf1RefIdeal.nD Cert.AdamFf1RefIdeal.τ).loc Cert.AdamFf1RefIdeal.main_arg3) = m ((c.tc : Thread Cert.AdamFf1RefIdeal.nD Cert.AdamFf1RefIdeal.τ).loc Cert.AdamFf1RefIdeal.main_arg3)
      ∧ r.2.mem ((c.tc : Thread Cert.AdamFf1RefIdeal.nD Cert.AdamFf1RefIdeal.τ).loc Cert.AdamFf1RefIdeal.main_arg4) = m ((c.tc : Thread Cert.AdamFf1RefIdeal.nD Cert.AdamFf1RefIdeal.τ).loc Cert.AdamFf1RefIdeal.main_arg4)
      ∧ r.2.mem ((c.tc : Thread Cert.AdamFf1RefIdeal.nD Cert.AdamFf1RefIdeal.τ).loc Cert.AdamFf1RefIdeal.main_arg5) = m ((c.tc : Thread Cert.AdamFf1RefIdeal.nD Cert.AdamFf1RefIdeal.τ).loc Cert.AdamFf1RefIdeal.main_arg5))
      ∧ r.2.sem = fun _ => 0)

def preserves_Dhdn_DhdnIdeal : Prop :=
  True

def algebraic_DhdnIdeal_DhdnRefIdeal [hDhdnIdeal : Cert.DhdnIdeal.Facts] [hDhdnRefIdeal : Cert.DhdnRefIdeal.Facts] : Prop :=
  ∀ (m : (ℓ : Loc Cert.DhdnIdeal.nD Cert.DhdnIdeal.τ Cert.DhdnIdeal.sig) → Buf (Elt Ideal) ℓ) (g : Dev Cert.DhdnIdeal.nD → PrngReg)
    (m' : (ℓ : Loc Cert.DhdnRefIdeal.nD Cert.DhdnRefIdeal.τ Cert.DhdnRefIdeal.sig) → Buf (Elt Ideal) ℓ) (g' : Dev Cert.DhdnRefIdeal.nD → PrngReg), Pre_DhdnIdeal m →
    (∀ c : Dev Cert.DhdnIdeal.nD,
      m' ((c.tc : Thread Cert.DhdnRefIdeal.nD Cert.DhdnRefIdeal.τ).loc Cert.DhdnRefIdeal.main_arg0) = m ((c.tc : Thread Cert.DhdnIdeal.nD Cert.DhdnIdeal.τ).loc Cert.DhdnIdeal.main_arg0)
      ∧ m' ((c.tc : Thread Cert.DhdnRefIdeal.nD Cert.DhdnRefIdeal.τ).loc Cert.DhdnRefIdeal.main_arg1) = m ((c.tc : Thread Cert.DhdnIdeal.nD Cert.DhdnIdeal.τ).loc Cert.DhdnIdeal.main_arg1)
      ∧ m' ((c.tc : Thread Cert.DhdnRefIdeal.nD Cert.DhdnRefIdeal.τ).loc Cert.DhdnRefIdeal.main_arg2) = m ((c.tc : Thread Cert.DhdnIdeal.nD Cert.DhdnIdeal.τ).loc Cert.DhdnIdeal.main_arg2)
      ∧ m' ((c.tc : Thread Cert.DhdnRefIdeal.nD Cert.DhdnRefIdeal.τ).loc Cert.DhdnRefIdeal.main_arg3) = m ((c.tc : Thread Cert.DhdnIdeal.nD Cert.DhdnIdeal.τ).loc Cert.DhdnIdeal.main_arg3)) →
    ∃ (v0 : (c : Dev Cert.DhdnIdeal.nD) → Buf (Elt Ideal) ((c.tc : Thread Cert.DhdnIdeal.nD Cert.DhdnIdeal.τ).loc Cert.DhdnIdeal.main_v8_0)) (v1 : (c : Dev Cert.DhdnIdeal.nD) → Buf (Elt Ideal) ((c.tc : Thread Cert.DhdnIdeal.nD Cert.DhdnIdeal.τ).loc Cert.DhdnIdeal.main_v8_1)),
      θ_run (Cert.DhdnIdeal.defs (F := Ideal)) (onTc (τ := Cert.DhdnIdeal.τ) (Cert.DhdnIdeal.main (F := Ideal))) ⟨m, fun _ => 0, g⟩ (fun r => ∀ c : Dev Cert.DhdnIdeal.nD,
          r.2.mem ((c.tc : Thread Cert.DhdnIdeal.nD Cert.DhdnIdeal.τ).loc Cert.DhdnIdeal.main_v8_0) = v0 c
          ∧ r.2.mem ((c.tc : Thread Cert.DhdnIdeal.nD Cert.DhdnIdeal.τ).loc Cert.DhdnIdeal.main_v8_1) = v1 c
          ∧ r.2.mem ((c.tc : Thread Cert.DhdnIdeal.nD Cert.DhdnIdeal.τ).loc Cert.DhdnIdeal.main_arg0) = m ((c.tc : Thread Cert.DhdnIdeal.nD Cert.DhdnIdeal.τ).loc Cert.DhdnIdeal.main_arg0)
          ∧ r.2.mem ((c.tc : Thread Cert.DhdnIdeal.nD Cert.DhdnIdeal.τ).loc Cert.DhdnIdeal.main_arg1) = m ((c.tc : Thread Cert.DhdnIdeal.nD Cert.DhdnIdeal.τ).loc Cert.DhdnIdeal.main_arg1)
          ∧ r.2.mem ((c.tc : Thread Cert.DhdnIdeal.nD Cert.DhdnIdeal.τ).loc Cert.DhdnIdeal.main_arg2) = m ((c.tc : Thread Cert.DhdnIdeal.nD Cert.DhdnIdeal.τ).loc Cert.DhdnIdeal.main_arg2)
          ∧ r.2.mem ((c.tc : Thread Cert.DhdnIdeal.nD Cert.DhdnIdeal.τ).loc Cert.DhdnIdeal.main_arg3) = m ((c.tc : Thread Cert.DhdnIdeal.nD Cert.DhdnIdeal.τ).loc Cert.DhdnIdeal.main_arg3))
      ∧ θ_run (Cert.DhdnRefIdeal.defs (F := Ideal)) (onTc (τ := Cert.DhdnRefIdeal.τ) (Cert.DhdnRefIdeal.main (F := Ideal))) ⟨m', fun _ => 0, g'⟩ (fun r => ∀ c : Dev Cert.DhdnRefIdeal.nD,
          r.2.mem ((c.tc : Thread Cert.DhdnRefIdeal.nD Cert.DhdnRefIdeal.τ).loc Cert.DhdnRefIdeal.main_v18) = v0 c
          ∧ r.2.mem ((c.tc : Thread Cert.DhdnRefIdeal.nD Cert.DhdnRefIdeal.τ).loc Cert.DhdnRefIdeal.main_v21) = v1 c
          ∧ r.2.mem ((c.tc : Thread Cert.DhdnRefIdeal.nD Cert.DhdnRefIdeal.τ).loc Cert.DhdnRefIdeal.main_arg0) = m' ((c.tc : Thread Cert.DhdnRefIdeal.nD Cert.DhdnRefIdeal.τ).loc Cert.DhdnRefIdeal.main_arg0)
          ∧ r.2.mem ((c.tc : Thread Cert.DhdnRefIdeal.nD Cert.DhdnRefIdeal.τ).loc Cert.DhdnRefIdeal.main_arg1) = m' ((c.tc : Thread Cert.DhdnRefIdeal.nD Cert.DhdnRefIdeal.τ).loc Cert.DhdnRefIdeal.main_arg1)
          ∧ r.2.mem ((c.tc : Thread Cert.DhdnRefIdeal.nD Cert.DhdnRefIdeal.τ).loc Cert.DhdnRefIdeal.main_arg2) = m' ((c.tc : Thread Cert.DhdnRefIdeal.nD Cert.DhdnRefIdeal.τ).loc Cert.DhdnRefIdeal.main_arg2)
          ∧ r.2.mem ((c.tc : Thread Cert.DhdnRefIdeal.nD Cert.DhdnRefIdeal.τ).loc Cert.DhdnRefIdeal.main_arg3) = m' ((c.tc : Thread Cert.DhdnRefIdeal.nD Cert.DhdnRefIdeal.τ).loc Cert.DhdnRefIdeal.main_arg3))

def preserves_DwFf2_DwFf2Ideal : Prop :=
  True

def algebraic_DwFf2Ideal_DwFf2RefIdeal [hDwFf2Ideal : Cert.DwFf2Ideal.Facts] [hDwFf2RefIdeal : Cert.DwFf2RefIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2RefIdeal.nD Cert.DwFf2RefIdeal.τ Cert.DwFf2RefIdeal.sig) → Buf (Elt Ideal) ℓ) (g' : Dev Cert.DwFf2RefIdeal.nD → PrngReg), Pre_DwFf2Ideal m →
    (∀ c : Dev Cert.DwFf2Ideal.nD,
      m' ((c.tc : Thread Cert.DwFf2RefIdeal.nD Cert.DwFf2RefIdeal.τ).loc Cert.DwFf2RefIdeal.main_arg0) = m ((c.tc : Thread Cert.DwFf2Ideal.nD Cert.DwFf2Ideal.τ).loc Cert.DwFf2Ideal.main_arg0)
      ∧ m' ((c.tc : Thread Cert.DwFf2RefIdeal.nD Cert.DwFf2RefIdeal.τ).loc Cert.DwFf2RefIdeal.main_arg1) = m ((c.tc : Thread Cert.DwFf2Ideal.nD Cert.DwFf2Ideal.τ).loc Cert.DwFf2Ideal.main_arg1)
      ∧ m' ((c.tc : Thread Cert.DwFf2RefIdeal.nD Cert.DwFf2RefIdeal.τ).loc Cert.DwFf2RefIdeal.main_arg2) = m ((c.tc : Thread Cert.DwFf2Ideal.nD Cert.DwFf2Ideal.τ).loc Cert.DwFf2Ideal.main_arg2)
      ∧ m' ((c.tc : Thread Cert.DwFf2RefIdeal.nD Cert.DwFf2RefIdeal.τ).loc Cert.DwFf2RefIdeal.main_arg3) = m ((c.tc : Thread Cert.DwFf2Ideal.nD Cert.DwFf2Ideal.τ).loc Cert.DwFf2Ideal.main_arg3)) →
    ∃ (v0 : (c : Dev Cert.DwFf2Ideal.nD) → Buf (Elt Ideal) ((c.tc : Thread Cert.DwFf2Ideal.nD Cert.DwFf2Ideal.τ).loc Cert.DwFf2Ideal.main_v8)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v8) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
          ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2)
          ∧ r.2.mem ((c.tc : Thread Cert.DwFf2Ideal.nD Cert.DwFf2Ideal.τ).loc Cert.DwFf2Ideal.main_arg3) = m ((c.tc : Thread Cert.DwFf2Ideal.nD Cert.DwFf2Ideal.τ).loc Cert.DwFf2Ideal.main_arg3))
      ∧ θ_run (Cert.DwFf2RefIdeal.defs (F := Ideal)) (onTc (τ := Cert.DwFf2RefIdeal.τ) (Cert.DwFf2RefIdeal.main (F := Ideal))) ⟨m', fun _ => 0, g'⟩ (fun r => ∀ c : Dev Cert.DwFf2RefIdeal.nD,
          r.2.mem ((c.tc : Thread Cert.DwFf2RefIdeal.nD Cert.DwFf2RefIdeal.τ).loc Cert.DwFf2RefIdeal.main_v7) = v0 c
          ∧ r.2.mem ((c.tc : Thread Cert.DwFf2RefIdeal.nD Cert.DwFf2RefIdeal.τ).loc Cert.DwFf2RefIdeal.main_arg0) = m' ((c.tc : Thread Cert.DwFf2RefIdeal.nD Cert.DwFf2RefIdeal.τ).loc Cert.DwFf2RefIdeal.main_arg0)
          ∧ r.2.mem ((c.tc : Thread Cert.DwFf2RefIdeal.nD Cert.DwFf2RefIdeal.τ).loc Cert.DwFf2RefIdeal.main_arg1) = m' ((c.tc : Thread Cert.DwFf2RefIdeal.nD Cert.DwFf2RefIdeal.τ).loc Cert.DwFf2RefIdeal.main_arg1)
          ∧ r.2.mem ((c.tc : Thread Cert.DwFf2RefIdeal.nD Cert.DwFf2RefIdeal.τ).loc Cert.DwFf2RefIdeal.main_arg2) = m' ((c.tc : Thread Cert.DwFf2RefIdeal.nD Cert.DwFf2RefIdeal.τ).loc Cert.DwFf2RefIdeal.main_arg2)
          ∧ r.2.mem ((c.tc : Thread Cert.DwFf2RefIdeal.nD Cert.DwFf2RefIdeal.τ).loc Cert.DwFf2RefIdeal.main_arg3) = m' ((c.tc : Thread Cert.DwFf2RefIdeal.nD Cert.DwFf2RefIdeal.τ).loc Cert.DwFf2RefIdeal.main_arg3))

def preserves_DwFf1_DwFf1Ideal : Prop :=
  True

def algebraic_DwFf1Ideal_DwFf1RefIdeal [hDwFf1Ideal : Cert.DwFf1Ideal.Facts] [hDwFf1RefIdeal : Cert.DwFf1RefIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1RefIdeal.nD Cert.DwFf1RefIdeal.τ Cert.DwFf1RefIdeal.sig) → Buf (Elt Ideal) ℓ) (g' : Dev Cert.DwFf1RefIdeal.nD → PrngReg), Pre_DwFf1Ideal m →
    (∀ c : Dev Cert.DwFf1Ideal.nD,
      m' ((c.tc : Thread Cert.DwFf1RefIdeal.nD Cert.DwFf1RefIdeal.τ).loc Cert.DwFf1RefIdeal.main_arg0) = m ((c.tc : Thread Cert.DwFf1Ideal.nD Cert.DwFf1Ideal.τ).loc Cert.DwFf1Ideal.main_arg0)
      ∧ m' ((c.tc : Thread Cert.DwFf1RefIdeal.nD Cert.DwFf1RefIdeal.τ).loc Cert.DwFf1RefIdeal.main_arg1) = m ((c.tc : Thread Cert.DwFf1Ideal.nD Cert.DwFf1Ideal.τ).loc Cert.DwFf1Ideal.main_arg1)
      ∧ m' ((c.tc : Thread Cert.DwFf1RefIdeal.nD Cert.DwFf1RefIdeal.τ).loc Cert.DwFf1RefIdeal.main_arg2) = m ((c.tc : Thread Cert.DwFf1Ideal.nD Cert.DwFf1Ideal.τ).loc Cert.DwFf1Ideal.main_arg2)) →
    ∃ (v0 : (c : Dev Cert.DwFf1Ideal.nD) → Buf (Elt Ideal) ((c.tc : Thread Cert.DwFf1Ideal.nD Cert.DwFf1Ideal.τ).loc Cert.DwFf1Ideal.main_v2)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v2) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
          ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2))
      ∧ θ_run (Cert.DwFf1RefIdeal.defs (F := Ideal)) (onTc (τ := Cert.DwFf1RefIdeal.τ) (Cert.DwFf1RefIdeal.main (F := Ideal))) ⟨m', fun _ => 0, g'⟩ (fun r => ∀ c : Dev Cert.DwFf1RefIdeal.nD,
          r.2.mem ((c.tc : Thread Cert.DwFf1RefIdeal.nD Cert.DwFf1RefIdeal.τ).loc Cert.DwFf1RefIdeal.main_v2) = v0 c
          ∧ r.2.mem ((c.tc : Thread Cert.DwFf1RefIdeal.nD Cert.DwFf1RefIdeal.τ).loc Cert.DwFf1RefIdeal.main_arg0) = m' ((c.tc : Thread Cert.DwFf1RefIdeal.nD Cert.DwFf1RefIdeal.τ).loc Cert.DwFf1RefIdeal.main_arg0)
          ∧ r.2.mem ((c.tc : Thread Cert.DwFf1RefIdeal.nD Cert.DwFf1RefIdeal.τ).loc Cert.DwFf1RefIdeal.main_arg1) = m' ((c.tc : Thread Cert.DwFf1RefIdeal.nD Cert.DwFf1RefIdeal.τ).loc Cert.DwFf1RefIdeal.main_arg1)
          ∧ r.2.mem ((c.tc : Thread Cert.DwFf1RefIdeal.nD Cert.DwFf1RefIdeal.τ).loc Cert.DwFf1RefIdeal.main_arg2) = m' ((c.tc : Thread Cert.DwFf1RefIdeal.nD Cert.DwFf1RefIdeal.τ).loc Cert.DwFf1RefIdeal.main_arg2))

def preserves_Dx1_Dx1Ideal : Prop :=
  True

def algebraic_Dx1Ideal_Dx1RefIdeal [hDx1Ideal : Cert.Dx1Ideal.Facts] [hDx1RefIdeal : Cert.Dx1RefIdeal.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.Dx1RefIdeal.nD Cert.Dx1RefIdeal.τ Cert.Dx1RefIdeal.sig) → Buf (Elt Ideal) ℓ) (g' : Dev Cert.Dx1RefIdeal.nD → PrngReg), Pre_Dx1Ideal m →
    (∀ c : Dev Cert.Dx1Ideal.nD,
      m' ((c.tc : Thread Cert.Dx1RefIdeal.nD Cert.Dx1RefIdeal.τ).loc Cert.Dx1RefIdeal.main_arg0) = m ((c.tc : Thread Cert.Dx1Ideal.nD Cert.Dx1Ideal.τ).loc Cert.Dx1Ideal.main_arg0)
      ∧ m' ((c.tc : Thread Cert.Dx1RefIdeal.nD Cert.Dx1RefIdeal.τ).loc Cert.Dx1RefIdeal.main_arg1) = m ((c.tc : Thread Cert.Dx1Ideal.nD Cert.Dx1Ideal.τ).loc Cert.Dx1Ideal.main_arg1)
      ∧ m' ((c.tc : Thread Cert.Dx1RefIdeal.nD Cert.Dx1RefIdeal.τ).loc Cert.Dx1RefIdeal.main_arg2) = m ((c.tc : Thread Cert.Dx1Ideal.nD Cert.Dx1Ideal.τ).loc Cert.Dx1Ideal.main_arg2)) →
    ∃ (v0 : (c : Dev Cert.Dx1Ideal.nD) → Buf (Elt Ideal) ((c.tc : Thread Cert.Dx1Ideal.nD Cert.Dx1Ideal.τ).loc Cert.Dx1Ideal.main_v2)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          r.2.mem ((c.tc : Thread Cert.Dx1Ideal.nD Cert.Dx1Ideal.τ).loc Cert.Dx1Ideal.main_v2) = v0 c
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
          ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2))
      ∧ θ_run (Cert.Dx1RefIdeal.defs (F := Ideal)) (onTc (τ := Cert.Dx1RefIdeal.τ) (Cert.Dx1RefIdeal.main (F := Ideal))) ⟨m', fun _ => 0, g'⟩ (fun r => ∀ c : Dev Cert.Dx1RefIdeal.nD,
          r.2.mem ((c.tc : Thread Cert.Dx1RefIdeal.nD Cert.Dx1RefIdeal.τ).loc Cert.Dx1RefIdeal.main_v1) = v0 c
          ∧ r.2.mem ((c.tc : Thread Cert.Dx1RefIdeal.nD Cert.Dx1RefIdeal.τ).loc Cert.Dx1RefIdeal.main_arg0) = m' ((c.tc : Thread Cert.Dx1RefIdeal.nD Cert.Dx1RefIdeal.τ).loc Cert.Dx1RefIdeal.main_arg0)
          ∧ r.2.mem ((c.tc : Thread Cert.Dx1RefIdeal.nD Cert.Dx1RefIdeal.τ).loc Cert.Dx1RefIdeal.main_arg1) = m' ((c.tc : Thread Cert.Dx1RefIdeal.nD Cert.Dx1RefIdeal.τ).loc Cert.Dx1RefIdeal.main_arg1)
          ∧ r.2.mem ((c.tc : Thread Cert.Dx1RefIdeal.nD Cert.Dx1RefIdeal.τ).loc Cert.Dx1RefIdeal.main_arg2) = m' ((c.tc : Thread Cert.Dx1RefIdeal.nD Cert.Dx1RefIdeal.τ).loc Cert.Dx1RefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v2) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DwPoolUp_DwPoolUpIdeal : Prop :=
  True

def algebraic_DwPoolUpIdeal_DwPoolUpRefIdeal [hDwPoolUpIdeal : Cert.DwPoolUpIdeal.Facts] [hDwPoolUpRefIdeal : Cert.DwPoolUpRefIdeal.Facts] : Prop :=
  ∀ (m : (ℓ : Loc Cert.DwPoolUpIdeal.nD Cert.DwPoolUpIdeal.τ Cert.DwPoolUpIdeal.sig) → Buf (Elt Ideal) ℓ) (g : Dev Cert.DwPoolUpIdeal.nD → PrngReg)
    (m' : (ℓ : Loc Cert.DwPoolUpRefIdeal.nD Cert.DwPoolUpRefIdeal.τ Cert.DwPoolUpRefIdeal.sig) → Buf (Elt Ideal) ℓ) (g' : Dev Cert.DwPoolUpRefIdeal.nD → PrngReg), Pre_DwPoolUpIdeal m →
    (∀ c : Dev Cert.DwPoolUpIdeal.nD,
      m' ((c.tc : Thread Cert.DwPoolUpRefIdeal.nD Cert.DwPoolUpRefIdeal.τ).loc Cert.DwPoolUpRefIdeal.main_arg0) = m ((c.tc : Thread Cert.DwPoolUpIdeal.nD Cert.DwPoolUpIdeal.τ).loc Cert.DwPoolUpIdeal.main_arg0)
      ∧ m' ((c.tc : Thread Cert.DwPoolUpRefIdeal.nD Cert.DwPoolUpRefIdeal.τ).loc Cert.DwPoolUpRefIdeal.main_arg1) = m ((c.tc : Thread Cert.DwPoolUpIdeal.nD Cert.DwPoolUpIdeal.τ).loc Cert.DwPoolUpIdeal.main_arg1)
      ∧ m' ((c.tc : Thread Cert.DwPoolUpRefIdeal.nD Cert.DwPoolUpRefIdeal.τ).loc Cert.DwPoolUpRefIdeal.main_arg2) = m ((c.tc : Thread Cert.DwPoolUpIdeal.nD Cert.DwPoolUpIdeal.τ).loc Cert.DwPoolUpIdeal.main_arg2)) →
    ∃ (v0 : (c : Dev Cert.DwPoolUpIdeal.nD) → Buf (Elt Ideal) ((c.tc : Thread Cert.DwPoolUpIdeal.nD Cert.DwPoolUpIdeal.τ).loc Cert.DwPoolUpIdeal.main_v2)),
      θ_run (Cert.DwPoolUpIdeal.defs (F := Ideal)) (onTc (τ := Cert.DwPoolUpIdeal.τ) (Cert.DwPoolUpIdeal.main (F := Ideal))) ⟨m, fun _ => 0, g⟩ (fun r => ∀ c : Dev Cert.DwPoolUpIdeal.nD,
          r.2.mem ((c.tc : Thread Cert.DwPoolUpIdeal.nD Cert.DwPoolUpIdeal.τ).loc Cert.DwPoolUpIdeal.main_v2) = v0 c
          ∧ r.2.mem ((c.tc : Thread Cert.DwPoolUpIdeal.nD Cert.DwPoolUpIdeal.τ).loc Cert.DwPoolUpIdeal.main_arg0) = m ((c.tc : Thread Cert.DwPoolUpIdeal.nD Cert.DwPoolUpIdeal.τ).loc Cert.DwPoolUpIdeal.main_arg0)
          ∧ r.2.mem ((c.tc : Thread Cert.DwPoolUpIdeal.nD Cert.DwPoolUpIdeal.τ).loc Cert.DwPoolUpIdeal.main_arg1) = m ((c.tc : Thread Cert.DwPoolUpIdeal.nD Cert.DwPoolUpIdeal.τ).loc Cert.DwPoolUpIdeal.main_arg1)
          ∧ r.2.mem ((c.tc : Thread Cert.DwPoolUpIdeal.nD Cert.DwPoolUpIdeal.τ).loc Cert.DwPoolUpIdeal.main_arg2) = m ((c.tc : Thread Cert.DwPoolUpIdeal.nD Cert.DwPoolUpIdeal.τ).loc Cert.DwPoolUpIdeal.main_arg2))
      ∧ θ_run (Cert.DwPoolUpRefIdeal.defs (F := Ideal)) (onTc (τ := Cert.DwPoolUpRefIdeal.τ) (Cert.DwPoolUpRefIdeal.main (F := Ideal))) ⟨m', fun _ => 0, g'⟩ (fun r => ∀ c : Dev Cert.DwPoolUpRefIdeal.nD,
          r.2.mem ((c.tc : Thread Cert.DwPoolUpRefIdeal.nD Cert.DwPoolUpRefIdeal.τ).loc Cert.DwPoolUpRefIdeal.main_v2) = v0 c
          ∧ r.2.mem ((c.tc : Thread Cert.DwPoolUpRefIdeal.nD Cert.DwPoolUpRefIdeal.τ).loc Cert.DwPoolUpRefIdeal.main_arg0) = m' ((c.tc : Thread Cert.DwPoolUpRefIdeal.nD Cert.DwPoolUpRefIdeal.τ).loc Cert.DwPoolUpRefIdeal.main_arg0)
          ∧ r.2.mem ((c.tc : Thread Cert.DwPoolUpRefIdeal.nD Cert.DwPoolUpRefIdeal.τ).loc Cert.DwPoolUpRefIdeal.main_arg1) = m' ((c.tc : Thread Cert.DwPoolUpRefIdeal.nD Cert.DwPoolUpRefIdeal.τ).loc Cert.DwPoolUpRefIdeal.main_arg1)
          ∧ r.2.mem ((c.tc : Thread Cert.DwPoolUpRefIdeal.nD Cert.DwPoolUpRefIdeal.τ).loc Cert.DwPoolUpRefIdeal.main_arg2) = m' ((c.tc : Thread Cert.DwPoolUpRefIdeal.nD Cert.DwPoolUpRefIdeal.τ).loc Cert.DwPoolUpRefIdeal.main_arg2))

def preserves_DwLruUp_DwLruUpIdeal : Prop :=
  True

def algebraic_DwLruUpIdeal_DwLruUpRefIdeal [hDwLruUpIdeal : Cert.DwLruUpIdeal.Facts] [hDwLruUpRefIdeal : Cert.DwLruUpRefIdeal.Facts] : Prop :=
  ∀ (m : (ℓ : Loc Cert.DwLruUpIdeal.nD Cert.DwLruUpIdeal.τ Cert.DwLruUpIdeal.sig) → Buf (Elt Ideal) ℓ) (g : Dev Cert.DwLruUpIdeal.nD → PrngReg)
    (m' : (ℓ : Loc Cert.DwLruUpRefIdeal.nD Cert.DwLruUpRefIdeal.τ Cert.DwLruUpRefIdeal.sig) → Buf (Elt Ideal) ℓ) (g' : Dev Cert.DwLruUpRefIdeal.nD → PrngReg), Pre_DwLruUpIdeal m →
    (∀ c : Dev Cert.DwLruUpIdeal.nD,
      m' ((c.tc : Thread Cert.DwLruUpRefIdeal.nD Cert.DwLruUpRefIdeal.τ).loc Cert.DwLruUpRefIdeal.main_arg0) = m ((c.tc : Thread Cert.DwLruUpIdeal.nD Cert.DwLruUpIdeal.τ).loc Cert.DwLruUpIdeal.main_arg0)
      ∧ m' ((c.tc : Thread Cert.DwLruUpRefIdeal.nD Cert.DwLruUpRefIdeal.τ).loc Cert.DwLruUpRefIdeal.main_arg1) = m ((c.tc : Thread Cert.DwLruUpIdeal.nD Cert.DwLruUpIdeal.τ).loc Cert.DwLruUpIdeal.main_arg1)
      ∧ m' ((c.tc : Thread Cert.DwLruUpRefIdeal.nD Cert.DwLruUpRefIdeal.τ).loc Cert.DwLruUpRefIdeal.main_arg2) = m ((c.tc : Thread Cert.DwLruUpIdeal.nD Cert.DwLruUpIdeal.τ).loc Cert.DwLruUpIdeal.main_arg2)) →
    ∃ (v0 : (c : Dev Cert.DwLruUpIdeal.nD) → Buf (Elt Ideal) ((c.tc : Thread Cert.DwLruUpIdeal.nD Cert.DwLruUpIdeal.τ).loc Cert.DwLruUpIdeal.main_v2)),
      θ_run (Cert.DwLruUpIdeal.defs (F := Ideal)) (onTc (τ := Cert.DwLruUpIdeal.τ) (Cert.DwLruUpIdeal.main (F := Ideal))) ⟨m, fun _ => 0, g⟩ (fun r => ∀ c : Dev Cert.DwLruUpIdeal.nD,
          r.2.mem ((c.tc : Thread Cert.DwLruUpIdeal.nD Cert.DwLruUpIdeal.τ).loc Cert.DwLruUpIdeal.main_v2) = v0 c
          ∧ r.2.mem ((c.tc : Thread Cert.DwLruUpIdeal.nD Cert.DwLruUpIdeal.τ).loc Cert.DwLruUpIdeal.main_arg0) = m ((c.tc : Thread Cert.DwLruUpIdeal.nD Cert.DwLruUpIdeal.τ).loc Cert.DwLruUpIdeal.main_arg0)
          ∧ r.2.mem ((c.tc : Thread Cert.DwLruUpIdeal.nD Cert.DwLruUpIdeal.τ).loc Cert.DwLruUpIdeal.main_arg1) = m ((c.tc : Thread Cert.DwLruUpIdeal.nD Cert.DwLruUpIdeal.τ).loc Cert.DwLruUpIdeal.main_arg1)
          ∧ r.2.mem ((c.tc : Thread Cert.DwLruUpIdeal.nD Cert.DwLruUpIdeal.τ).loc Cert.DwLruUpIdeal.main_arg2) = m ((c.tc : Thread Cert.DwLruUpIdeal.nD Cert.DwLruUpIdeal.τ).loc Cert.DwLruUpIdeal.main_arg2))
      ∧ θ_run (Cert.DwLruUpRefIdeal.defs (F := Ideal)) (onTc (τ := Cert.DwLruUpRefIdeal.τ) (Cert.DwLruUpRefIdeal.main (F := Ideal))) ⟨m', fun _ => 0, g'⟩ (fun r => ∀ c : Dev Cert.DwLruUpRefIdeal.nD,
          r.2.mem ((c.tc : Thread Cert.DwLruUpRefIdeal.nD Cert.DwLruUpRefIdeal.τ).loc Cert.DwLruUpRefIdeal.main_v2) = v0 c
          ∧ r.2.mem ((c.tc : Thread Cert.DwLruUpRefIdeal.nD Cert.DwLruUpRefIdeal.τ).loc Cert.DwLruUpRefIdeal.main_arg0) = m' ((c.tc : Thread Cert.DwLruUpRefIdeal.nD Cert.DwLruUpRefIdeal.τ).loc Cert.DwLruUpRefIdeal.main_arg0)
          ∧ r.2.mem ((c.tc : Thread Cert.DwLruUpRefIdeal.nD Cert.DwLruUpRefIdeal.τ).loc Cert.DwLruUpRefIdeal.main_arg1) = m' ((c.tc : Thread Cert.DwLruUpRefIdeal.nD Cert.DwLruUpRefIdeal.τ).loc Cert.DwLruUpRefIdeal.main_arg1)
          ∧ r.2.mem ((c.tc : Thread Cert.DwLruUpRefIdeal.nD Cert.DwLruUpRefIdeal.τ).loc Cert.DwLruUpRefIdeal.main_arg2) = m' ((c.tc : Thread Cert.DwLruUpRefIdeal.nD Cert.DwLruUpRefIdeal.τ).loc Cert.DwLruUpRefIdeal.main_arg2))

def preserves_DyPool_DyPoolIdeal : Prop :=
  True

def algebraic_DyPoolIdeal_DyPoolRefIdeal [hDyPoolIdeal : Cert.DyPoolIdeal.Facts] [hDyPoolRefIdeal : Cert.DyPoolRefIdeal.Facts] : Prop :=
  ∀ (m : (ℓ : Loc Cert.DyPoolIdeal.nD Cert.DyPoolIdeal.τ Cert.DyPoolIdeal.sig) → Buf (Elt Ideal) ℓ) (g : Dev Cert.DyPoolIdeal.nD → PrngReg)
    (m' : (ℓ : Loc Cert.DyPoolRefIdeal.nD Cert.DyPoolRefIdeal.τ Cert.DyPoolRefIdeal.sig) → Buf (Elt Ideal) ℓ) (g' : Dev Cert.DyPoolRefIdeal.nD → PrngReg), Pre_DyPoolIdeal m →
    (∀ c : Dev Cert.DyPoolIdeal.nD,
      m' ((c.tc : Thread Cert.DyPoolRefIdeal.nD Cert.DyPoolRefIdeal.τ).loc Cert.DyPoolRefIdeal.main_arg0) = m ((c.tc : Thread Cert.DyPoolIdeal.nD Cert.DyPoolIdeal.τ).loc Cert.DyPoolIdeal.main_arg0)
      ∧ m' ((c.tc : Thread Cert.DyPoolRefIdeal.nD Cert.DyPoolRefIdeal.τ).loc Cert.DyPoolRefIdeal.main_arg1) = m ((c.tc : Thread Cert.DyPoolIdeal.nD Cert.DyPoolIdeal.τ).loc Cert.DyPoolIdeal.main_arg1)
      ∧ m' ((c.tc : Thread Cert.DyPoolRefIdeal.nD Cert.DyPoolRefIdeal.τ).loc Cert.DyPoolRefIdeal.main_arg2) = m ((c.tc : Thread Cert.DyPoolIdeal.nD Cert.DyPoolIdeal.τ).loc Cert.DyPoolIdeal.main_arg2)) →
    ∃ (v0 : (c : Dev Cert.DyPoolIdeal.nD) → Buf (Elt Ideal) ((c.tc : Thread Cert.DyPoolIdeal.nD Cert.DyPoolIdeal.τ).loc Cert.DyPoolIdeal.main_v2)),
      θ_run (Cert.DyPoolIdeal.defs (F := Ideal)) (onTc (τ := Cert.DyPoolIdeal.τ) (Cert.DyPoolIdeal.main (F := Ideal))) ⟨m, fun _ => 0, g⟩ (fun r => ∀ c : Dev Cert.DyPoolIdeal.nD,
          r.2.mem ((c.tc : Thread Cert.DyPoolIdeal.nD Cert.DyPoolIdeal.τ).loc Cert.DyPoolIdeal.main_v2) = v0 c
          ∧ r.2.mem ((c.tc : Thread Cert.DyPoolIdeal.nD Cert.DyPoolIdeal.τ).loc Cert.DyPoolIdeal.main_arg0) = m ((c.tc : Thread Cert.DyPoolIdeal.nD Cert.DyPoolIdeal.τ).loc Cert.DyPoolIdeal.main_arg0)
          ∧ r.2.mem ((c.tc : Thread Cert.DyPoolIdeal.nD Cert.DyPoolIdeal.τ).loc Cert.DyPoolIdeal.main_arg1) = m ((c.tc : Thread Cert.DyPoolIdeal.nD Cert.DyPoolIdeal.τ).loc Cert.DyPoolIdeal.main_arg1)
          ∧ r.2.mem ((c.tc : Thread Cert.DyPoolIdeal.nD Cert.DyPoolIdeal.τ).loc Cert.DyPoolIdeal.main_arg2) = m ((c.tc : Thread Cert.DyPoolIdeal.nD Cert.DyPoolIdeal.τ).loc Cert.DyPoolIdeal.main_arg2))
      ∧ θ_run (Cert.DyPoolRefIdeal.defs (F := Ideal)) (onTc (τ := Cert.DyPoolRefIdeal.τ) (Cert.DyPoolRefIdeal.main (F := Ideal))) ⟨m', fun _ => 0, g'⟩ (fun r => ∀ c : Dev Cert.DyPoolRefIdeal.nD,
          r.2.mem ((c.tc : Thread Cert.DyPoolRefIdeal.nD Cert.DyPoolRefIdeal.τ).loc Cert.DyPoolRefIdeal.main_v2) = v0 c
          ∧ r.2.mem ((c.tc : Thread Cert.DyPoolRefIdeal.nD Cert.DyPoolRefIdeal.τ).loc Cert.DyPoolRefIdeal.main_arg0) = m' ((c.tc : Thread Cert.DyPoolRefIdeal.nD Cert.DyPoolRefIdeal.τ).loc Cert.DyPoolRefIdeal.main_arg0)
          ∧ r.2.mem ((c.tc : Thread Cert.DyPoolRefIdeal.nD Cert.DyPoolRefIdeal.τ).loc Cert.DyPoolRefIdeal.main_arg1) = m' ((c.tc : Thread Cert.DyPoolRefIdeal.nD Cert.DyPoolRefIdeal.τ).loc Cert.DyPoolRefIdeal.main_arg1)
          ∧ r.2.mem ((c.tc : Thread Cert.DyPoolRefIdeal.nD Cert.DyPoolRefIdeal.τ).loc Cert.DyPoolRefIdeal.main_arg2) = m' ((c.tc : Thread Cert.DyPoolRefIdeal.nD Cert.DyPoolRefIdeal.τ).loc Cert.DyPoolRefIdeal.main_arg2))

def preserves_DwInLo_DwInLoIdeal : Prop :=
  True

def algebraic_DwInLoIdeal_DwInLoRefIdeal [hDwInLoIdeal : Cert.DwInLoIdeal.Facts] [hDwInLoRefIdeal : Cert.DwInLoRefIdeal.Facts] : Prop :=
  ∀ (m : (ℓ : Loc Cert.DwInLoIdeal.nD Cert.DwInLoIdeal.τ Cert.DwInLoIdeal.sig) → Buf (Elt Ideal) ℓ) (g : Dev Cert.DwInLoIdeal.nD → PrngReg)
    (m' : (ℓ : Loc Cert.DwInLoRefIdeal.nD Cert.DwInLoRefIdeal.τ Cert.DwInLoRefIdeal.sig) → Buf (Elt Ideal) ℓ) (g' : Dev Cert.DwInLoRefIdeal.nD → PrngReg), Pre_DwInLoIdeal m →
    (∀ c : Dev Cert.DwInLoIdeal.nD,
      m' ((c.tc : Thread Cert.DwInLoRefIdeal.nD Cert.DwInLoRefIdeal.τ).loc Cert.DwInLoRefIdeal.main_arg0) = m ((c.tc : Thread Cert.DwInLoIdeal.nD Cert.DwInLoIdeal.τ).loc Cert.DwInLoIdeal.main_arg0)
      ∧ m' ((c.tc : Thread Cert.DwInLoRefIdeal.nD Cert.DwInLoRefIdeal.τ).loc Cert.DwInLoRefIdeal.main_arg1) = m ((c.tc : Thread Cert.DwInLoIdeal.nD Cert.DwInLoIdeal.τ).loc Cert.DwInLoIdeal.main_arg1)
      ∧ m' ((c.tc : Thread Cert.DwInLoRefIdeal.nD Cert.DwInLoRefIdeal.τ).loc Cert.DwInLoRefIdeal.main_arg2) = m ((c.tc : Thread Cert.DwInLoIdeal.nD Cert.DwInLoIdeal.τ).loc Cert.DwInLoIdeal.main_arg2)) →
    ∃ (v0 : (c : Dev Cert.DwInLoIdeal.nD) → Buf (Elt Ideal) ((c.tc : Thread Cert.DwInLoIdeal.nD Cert.DwInLoIdeal.τ).loc Cert.DwInLoIdeal.main_v7)),
      θ_run (Cert.DwInLoIdeal.defs (F := Ideal)) (onTc (τ := Cert.DwInLoIdeal.τ) (Cert.DwInLoIdeal.main (F := Ideal))) ⟨m, fun _ => 0, g⟩ (fun r => ∀ c : Dev Cert.DwInLoIdeal.nD,
          r.2.mem ((c.tc : Thread Cert.DwInLoIdeal.nD Cert.DwInLoIdeal.τ).loc Cert.DwInLoIdeal.main_v7) = v0 c
          ∧ r.2.mem ((c.tc : Thread Cert.DwInLoIdeal.nD Cert.DwInLoIdeal.τ).loc Cert.DwInLoIdeal.main_arg0) = m ((c.tc : Thread Cert.DwInLoIdeal.nD Cert.DwInLoIdeal.τ).loc Cert.DwInLoIdeal.main_arg0)
          ∧ r.2.mem ((c.tc : Thread Cert.DwInLoIdeal.nD Cert.DwInLoIdeal.τ).loc Cert.DwInLoIdeal.main_arg1) = m ((c.tc : Thread Cert.DwInLoIdeal.nD Cert.DwInLoIdeal.τ).loc Cert.DwInLoIdeal.main_arg1)
          ∧ r.2.mem ((c.tc : Thread Cert.DwInLoIdeal.nD Cert.DwInLoIdeal.τ).loc Cert.DwInLoIdeal.main_arg2) = m ((c.tc : Thread Cert.DwInLoIdeal.nD Cert.DwInLoIdeal.τ).loc Cert.DwInLoIdeal.main_arg2))
      ∧ θ_run (Cert.DwInLoRefIdeal.defs (F := Ideal)) (onTc (τ := Cert.DwInLoRefIdeal.τ) (Cert.DwInLoRefIdeal.main (F := Ideal))) ⟨m', fun _ => 0, g'⟩ (fun r => ∀ c : Dev Cert.DwInLoRefIdeal.nD,
          r.2.mem ((c.tc : Thread Cert.DwInLoRefIdeal.nD Cert.DwInLoRefIdeal.τ).loc Cert.DwInLoRefIdeal.main_v3) = v0 c
          ∧ r.2.mem ((c.tc : Thread Cert.DwInLoRefIdeal.nD Cert.DwInLoRefIdeal.τ).loc Cert.DwInLoRefIdeal.main_arg0) = m' ((c.tc : Thread Cert.DwInLoRefIdeal.nD Cert.DwInLoRefIdeal.τ).loc Cert.DwInLoRefIdeal.main_arg0)
          ∧ r.2.mem ((c.tc : Thread Cert.DwInLoRefIdeal.nD Cert.DwInLoRefIdeal.τ).loc Cert.DwInLoRefIdeal.main_arg1) = m' ((c.tc : Thread Cert.DwInLoRefIdeal.nD Cert.DwInLoRefIdeal.τ).loc Cert.DwInLoRefIdeal.main_arg1)
          ∧ r.2.mem ((c.tc : Thread Cert.DwInLoRefIdeal.nD Cert.DwInLoRefIdeal.τ).loc Cert.DwInLoRefIdeal.main_arg2) = m' ((c.tc : Thread Cert.DwInLoRefIdeal.nD Cert.DwInLoRefIdeal.τ).loc Cert.DwInLoRefIdeal.main_arg2))

def preserves_DwInHi_DwInHiIdeal : Prop :=
  True

def algebraic_DwInHiIdeal_DwInHiRefIdeal [hDwInHiIdeal : Cert.DwInHiIdeal.Facts] [hDwInHiRefIdeal : Cert.DwInHiRefIdeal.Facts] : Prop :=
  ∀ (m : (ℓ : Loc Cert.DwInHiIdeal.nD Cert.DwInHiIdeal.τ Cert.DwInHiIdeal.sig) → Buf (Elt Ideal) ℓ) (g : Dev Cert.DwInHiIdeal.nD → PrngReg)
    (m' : (ℓ : Loc Cert.DwInHiRefIdeal.nD Cert.DwInHiRefIdeal.τ Cert.DwInHiRefIdeal.sig) → Buf (Elt Ideal) ℓ) (g' : Dev Cert.DwInHiRefIdeal.nD → PrngReg), Pre_DwInHiIdeal m →
    (∀ c : Dev Cert.DwInHiIdeal.nD,
      m' ((c.tc : Thread Cert.DwInHiRefIdeal.nD Cert.DwInHiRefIdeal.τ).loc Cert.DwInHiRefIdeal.main_arg0) = m ((c.tc : Thread Cert.DwInHiIdeal.nD Cert.DwInHiIdeal.τ).loc Cert.DwInHiIdeal.main_arg0)
      ∧ m' ((c.tc : Thread Cert.DwInHiRefIdeal.nD Cert.DwInHiRefIdeal.τ).loc Cert.DwInHiRefIdeal.main_arg1) = m ((c.tc : Thread Cert.DwInHiIdeal.nD Cert.DwInHiIdeal.τ).loc Cert.DwInHiIdeal.main_arg1)
      ∧ m' ((c.tc : Thread Cert.DwInHiRefIdeal.nD Cert.DwInHiRefIdeal.τ).loc Cert.DwInHiRefIdeal.main_arg2) = m ((c.tc : Thread Cert.DwInHiIdeal.nD Cert.DwInHiIdeal.τ).loc Cert.DwInHiIdeal.main_arg2)) →
    ∃ (v0 : (c : Dev Cert.DwInHiIdeal.nD) → Buf (Elt Ideal) ((c.tc : Thread Cert.DwInHiIdeal.nD Cert.DwInHiIdeal.τ).loc Cert.DwInHiIdeal.main_v7)),
      θ_run (Cert.DwInHiIdeal.defs (F := Ideal)) (onTc (τ := Cert.DwInHiIdeal.τ) (Cert.DwInHiIdeal.main (F := Ideal))) ⟨m, fun _ => 0, g⟩ (fun r => ∀ c : Dev Cert.DwInHiIdeal.nD,
          r.2.mem ((c.tc : Thread Cert.DwInHiIdeal.nD Cert.DwInHiIdeal.τ).loc Cert.DwInHiIdeal.main_v7) = v0 c
          ∧ r.2.mem ((c.tc : Thread Cert.DwInHiIdeal.nD Cert.DwInHiIdeal.τ).loc Cert.DwInHiIdeal.main_arg0) = m ((c.tc : Thread Cert.DwInHiIdeal.nD Cert.DwInHiIdeal.τ).loc Cert.DwInHiIdeal.main_arg0)
          ∧ r.2.mem ((c.tc : Thread Cert.DwInHiIdeal.nD Cert.DwInHiIdeal.τ).loc Cert.DwInHiIdeal.main_arg1) = m ((c.tc : Thread Cert.DwInHiIdeal.nD Cert.DwInHiIdeal.τ).loc Cert.DwInHiIdeal.main_arg1)
          ∧ r.2.mem ((c.tc : Thread Cert.DwInHiIdeal.nD Cert.DwInHiIdeal.τ).loc Cert.DwInHiIdeal.main_arg2) = m ((c.tc : Thread Cert.DwInHiIdeal.nD Cert.DwInHiIdeal.τ).loc Cert.DwInHiIdeal.main_arg2))
      ∧ θ_run (Cert.DwInHiRefIdeal.defs (F := Ideal)) (onTc (τ := Cert.DwInHiRefIdeal.τ) (Cert.DwInHiRefIdeal.main (F := Ideal))) ⟨m', fun _ => 0, g'⟩ (fun r => ∀ c : Dev Cert.DwInHiRefIdeal.nD,
          r.2.mem ((c.tc : Thread Cert.DwInHiRefIdeal.nD Cert.DwInHiRefIdeal.τ).loc Cert.DwInHiRefIdeal.main_v3) = v0 c
          ∧ r.2.mem ((c.tc : Thread Cert.DwInHiRefIdeal.nD Cert.DwInHiRefIdeal.τ).loc Cert.DwInHiRefIdeal.main_arg0) = m' ((c.tc : Thread Cert.DwInHiRefIdeal.nD Cert.DwInHiRefIdeal.τ).loc Cert.DwInHiRefIdeal.main_arg0)
          ∧ r.2.mem ((c.tc : Thread Cert.DwInHiRefIdeal.nD Cert.DwInHiRefIdeal.τ).loc Cert.DwInHiRefIdeal.main_arg1) = m' ((c.tc : Thread Cert.DwInHiRefIdeal.nD Cert.DwInHiRefIdeal.τ).loc Cert.DwInHiRefIdeal.main_arg1)
          ∧ r.2.mem ((c.tc : Thread Cert.DwInHiRefIdeal.nD Cert.DwInHiRefIdeal.τ).loc Cert.DwInHiRefIdeal.main_arg2) = m' ((c.tc : Thread Cert.DwInHiRefIdeal.nD Cert.DwInHiRefIdeal.τ).loc Cert.DwInHiRefIdeal.main_arg2))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v7)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v7) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v6) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dm_DmIdeal : Prop :=
  True

def algebraic_DmIdeal_DmRefIdeal [hDmIdeal : Cert.DmIdeal.Facts] [hDmRefIdeal : Cert.DmRefIdeal.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.DmRefIdeal.nD Cert.DmRefIdeal.τ Cert.DmRefIdeal.sig) → Buf (Elt Ideal) ℓ) (g' : Dev Cert.DmRefIdeal.nD → PrngReg), Pre_DmIdeal m →
    (∀ c : Dev Cert.DmIdeal.nD,
      m' ((c.tc : Thread Cert.DmRefIdeal.nD Cert.DmRefIdeal.τ).loc Cert.DmRefIdeal.main_arg0) = m ((c.tc : Thread Cert.DmIdeal.nD Cert.DmIdeal.τ).loc Cert.DmIdeal.main_arg0)
      ∧ m' ((c.tc : Thread Cert.DmRefIdeal.nD Cert.DmRefIdeal.τ).loc Cert.DmRefIdeal.main_arg1) = m ((c.tc : Thread Cert.DmIdeal.nD Cert.DmIdeal.τ).loc Cert.DmIdeal.main_arg1)
      ∧ m' ((c.tc : Thread Cert.DmRefIdeal.nD Cert.DmRefIdeal.τ).loc Cert.DmRefIdeal.main_arg2) = m ((c.tc : Thread Cert.DmIdeal.nD Cert.DmIdeal.τ).loc Cert.DmIdeal.main_arg2)
      ∧ m' ((c.tc : Thread Cert.DmRefIdeal.nD Cert.DmRefIdeal.τ).loc Cert.DmRefIdeal.main_arg3) = m ((c.tc : Thread Cert.DmIdeal.nD Cert.DmIdeal.τ).loc Cert.DmIdeal.main_arg3)
      ∧ m' ((c.tc : Thread Cert.DmRefIdeal.nD Cert.DmRefIdeal.τ).loc Cert.DmRefIdeal.main_arg4) = m ((c.tc : Thread Cert.DmIdeal.nD Cert.DmIdeal.τ).loc Cert.DmIdeal.main_arg4)) →
    ∃ (v0 : (c : Dev Cert.DmIdeal.nD) → Buf (Elt Ideal) ((c.tc : Thread Cert.DmIdeal.nD Cert.DmIdeal.τ).loc Cert.DmIdeal.main_v8_0)) (v1 : (c : Dev Cert.DmIdeal.nD) → Buf (Elt Ideal) ((c.tc : Thread Cert.DmIdeal.nD Cert.DmIdeal.τ).loc Cert.DmIdeal.main_v8_1)) (v2 : (c : Dev Cert.DmIdeal.nD) → Buf (Elt Ideal) ((c.tc : Thread Cert.DmIdeal.nD Cert.DmIdeal.τ).loc Cert.DmIdeal.main_v9)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v8_0) = v0 c
          ∧ r.2.mem ((c.tc : Thread Cert.DmIdeal.nD Cert.DmIdeal.τ).loc Cert.DmIdeal.main_v8_1) = v1 c
          ∧ r.2.mem ((c.tc : Thread Cert.DmIdeal.nD Cert.DmIdeal.τ).loc Cert.DmIdeal.main_v9) = v2 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
          ∧ r.2.mem ((c.tc : Thread Cert.DmIdeal.nD Cert.DmIdeal.τ).loc Cert.DmIdeal.main_arg2) = m ((c.tc : Thread Cert.DmIdeal.nD Cert.DmIdeal.τ).loc Cert.DmIdeal.main_arg2)
          ∧ r.2.mem ((c.tc : Thread Cert.DmIdeal.nD Cert.DmIdeal.τ).loc Cert.DmIdeal.main_arg3) = m ((c.tc : Thread Cert.DmIdeal.nD Cert.DmIdeal.τ).loc Cert.DmIdeal.main_arg3)
          ∧ r.2.mem ((c.tc : Thread Cert.DmIdeal.nD Cert.DmIdeal.τ).loc Cert.DmIdeal.main_arg4) = m ((c.tc : Thread Cert.DmIdeal.nD Cert.DmIdeal.τ).loc Cert.DmIdeal.main_arg4))
      ∧ θ_run (Cert.DmRefIdeal.defs (F := Ideal)) (onTc (τ := Cert.DmRefIdeal.τ) (Cert.DmRefIdeal.main (F := Ideal))) ⟨m', fun _ => 0, g'⟩ (fun r => ∀ c : Dev Cert.DmRefIdeal.nD,
          r.2.mem ((c.tc : Thread Cert.DmRefIdeal.nD Cert.DmRefIdeal.τ).loc Cert.DmRefIdeal.main_v30) = v0 c
          ∧ r.2.mem ((c.tc : Thread Cert.DmRefIdeal.nD Cert.DmRefIdeal.τ).loc Cert.DmRefIdeal.main_v31) = v1 c
          ∧ r.2.mem ((c.tc : Thread Cert.DmRefIdeal.nD Cert.DmRefIdeal.τ).loc Cert.DmRefIdeal.main_v37) = v2 c
          ∧ r.2.mem ((c.tc : Thread Cert.DmRefIdeal.nD Cert.DmRefIdeal.τ).loc Cert.DmRefIdeal.main_arg0) = m' ((c.tc : Thread Cert.DmRefIdeal.nD Cert.DmRefIdeal.τ).loc Cert.DmRefIdeal.main_arg0)
          ∧ r.2.mem ((c.tc : Thread Cert.DmRefIdeal.nD Cert.DmRefIdeal.τ).loc Cert.DmRefIdeal.main_arg1) = m' ((c.tc : Thread Cert.DmRefIdeal.nD Cert.DmRefIdeal.τ).loc Cert.DmRefIdeal.main_arg1)
          ∧ r.2.mem ((c.tc : Thread Cert.DmRefIdeal.nD Cert.DmRefIdeal.τ).loc Cert.DmRefIdeal.main_arg2) = m' ((c.tc : Thread Cert.DmRefIdeal.nD Cert.DmRefIdeal.τ).loc Cert.DmRefIdeal.main_arg2)
          ∧ r.2.mem ((c.tc : Thread Cert.DmRefIdeal.nD Cert.DmRefIdeal.τ).loc Cert.DmRefIdeal.main_arg3) = m' ((c.tc : Thread Cert.DmRefIdeal.nD Cert.DmRefIdeal.τ).loc Cert.DmRefIdeal.main_arg3)
          ∧ r.2.mem ((c.tc : Thread Cert.DmRefIdeal.nD Cert.DmRefIdeal.τ).loc Cert.DmRefIdeal.main_arg4) = m' ((c.tc : Thread Cert.DmRefIdeal.nD Cert.DmRefIdeal.τ).loc Cert.DmRefIdeal.main_arg4))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)
      ∧ m' ((c.tc : Thread Cert.Ff1RefIdeal.nD Cert.Ff1RefIdeal.τ).loc Cert.Ff1RefIdeal.main_arg2) = m ((c.tc : Thread Cert.Ff1Ideal.nD Cert.Ff1Ideal.τ).loc Cert.Ff1Ideal.main_arg2)) →
    ∃ (v0 : (c : Dev Cert.Ff1Ideal.nD) → Buf (Elt Ideal) ((c.tc : Thread Cert.Ff1Ideal.nD Cert.Ff1Ideal.τ).loc Cert.Ff1Ideal.main_v3_0)) (v1 : (c : Dev Cert.Ff1Ideal.nD) → Buf (Elt Ideal) ((c.tc : Thread Cert.Ff1Ideal.nD Cert.Ff1Ideal.τ).loc Cert.Ff1Ideal.main_v3_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v3_0) = v0 c
          ∧ r.2.mem ((c.tc : Thread Cert.Ff1Ideal.nD Cert.Ff1Ideal.τ).loc Cert.Ff1Ideal.main_v3_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v5) = v0 c
          ∧ r.2.mem ((c.tc : Thread Cert.Ff1RefIdeal.nD Cert.Ff1RefIdeal.τ).loc Cert.Ff1RefIdeal.main_v7) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)
          ∧ r.2.mem ((c.tc : Thread Cert.Ff1RefIdeal.nD Cert.Ff1RefIdeal.τ).loc Cert.Ff1RefIdeal.main_arg2) = m' ((c.tc : Thread Cert.Ff1RefIdeal.nD Cert.Ff1RefIdeal.τ).loc Cert.Ff1RefIdeal.main_arg2))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v2)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v2) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v0) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_v17) = v1 c
          ∧ r.2.mem ((c.tc : Thread Cert.MergeRefIdeal.nD Cert.MergeRefIdeal.τ).loc Cert.MergeRefIdeal.main_v18) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutLn1_OutLn1Ideal : Prop :=
  True

def algebraic_OutLn1Ideal_OutLn1RefIdeal [hOutLn1Ideal : Cert.OutLn1Ideal.Facts] [hOutLn1RefIdeal : Cert.OutLn1RefIdeal.Facts] : Prop :=
  ∀ (m : (ℓ : Loc Cert.OutLn1Ideal.nD Cert.OutLn1Ideal.τ Cert.OutLn1Ideal.sig) → Buf (Elt Ideal) ℓ) (g : Dev Cert.OutLn1Ideal.nD → PrngReg)
    (m' : (ℓ : Loc Cert.OutLn1RefIdeal.nD Cert.OutLn1RefIdeal.τ Cert.OutLn1RefIdeal.sig) → Buf (Elt Ideal) ℓ) (g' : Dev Cert.OutLn1RefIdeal.nD → PrngReg), Pre_OutLn1Ideal m →
    (∀ c : Dev Cert.OutLn1Ideal.nD,
      m' ((c.tc : Thread Cert.OutLn1RefIdeal.nD Cert.OutLn1RefIdeal.τ).loc Cert.OutLn1RefIdeal.main_arg0) = m ((c.tc : Thread Cert.OutLn1Ideal.nD Cert.OutLn1Ideal.τ).loc Cert.OutLn1Ideal.main_arg0)
      ∧ m' ((c.tc : Thread Cert.OutLn1RefIdeal.nD Cert.OutLn1RefIdeal.τ).loc Cert.OutLn1RefIdeal.main_arg1) = m ((c.tc : Thread Cert.OutLn1Ideal.nD Cert.OutLn1Ideal.τ).loc Cert.OutLn1Ideal.main_arg1)
      ∧ m' ((c.tc : Thread Cert.OutLn1RefIdeal.nD Cert.OutLn1RefIdeal.τ).loc Cert.OutLn1RefIdeal.main_arg2) = m ((c.tc : Thread Cert.OutLn1Ideal.nD Cert.OutLn1Ideal.τ).loc Cert.OutLn1Ideal.main_arg2)
      ∧ m' ((c.tc : Thread Cert.OutLn1RefIdeal.nD Cert.OutLn1RefIdeal.τ).loc Cert.OutLn1RefIdeal.main_arg3) = m ((c.tc : Thread Cert.OutLn1Ideal.nD Cert.OutLn1Ideal.τ).loc Cert.OutLn1Ideal.main_arg3)
      ∧ m' ((c.tc : Thread Cert.OutLn1RefIdeal.nD Cert.OutLn1RefIdeal.τ).loc Cert.OutLn1RefIdeal.main_arg4) = m ((c.tc : Thread Cert.OutLn1Ideal.nD Cert.OutLn1Ideal.τ).loc Cert.OutLn1Ideal.main_arg4)
      ∧ m' ((c.tc : Thread Cert.OutLn1RefIdeal.nD Cert.OutLn1RefIdeal.τ).loc Cert.OutLn1RefIdeal.main_arg5) = m ((c.tc : Thread Cert.OutLn1Ideal.nD Cert.OutLn1Ideal.τ).loc Cert.OutLn1Ideal.main_arg5)) →
    ∃ (v0 : (c : Dev Cert.OutLn1Ideal.nD) → Buf (Elt Ideal) ((c.tc : Thread Cert.OutLn1Ideal.nD Cert.OutLn1Ideal.τ).loc Cert.OutLn1Ideal.main_v5_0)) (v1 : (c : Dev Cert.OutLn1Ideal.nD) → Buf (Elt Ideal) ((c.tc : Thread Cert.OutLn1Ideal.nD Cert.OutLn1Ideal.τ).loc Cert.OutLn1Ideal.main_v5_1)) (v2 : (c : Dev Cert.OutLn1Ideal.nD) → Buf (Elt Ideal) ((c.tc : Thread Cert.OutLn1Ideal.nD Cert.OutLn1Ideal.τ).loc Cert.OutLn1Ideal.main_v5_2)),
      θ_run (Cert.OutLn1Ideal.defs (F := Ideal)) (onTc (τ := Cert.OutLn1Ideal.τ) (Cert.OutLn1Ideal.main (F := Ideal))) ⟨m, fun _ => 0, g⟩ (fun r => ∀ c : Dev Cert.OutLn1Ideal.nD,
          r.2.mem ((c.tc : Thread Cert.OutLn1Ideal.nD Cert.OutLn1Ideal.τ).loc Cert.OutLn1Ideal.main_v5_0) = v0 c
          ∧ r.2.mem ((c.tc : Thread Cert.OutLn1Ideal.nD Cert.OutLn1Ideal.τ).loc Cert.OutLn1Ideal.main_v5_1) = v1 c
          ∧ r.2.mem ((c.tc : Thread Cert.OutLn1Ideal.nD Cert.OutLn1Ideal.τ).loc Cert.OutLn1Ideal.main_v5_2) = v2 c
          ∧ r.2.mem ((c.tc : Thread Cert.OutLn1Ideal.nD Cert.OutLn1Ideal.τ).loc Cert.OutLn1Ideal.main_arg0) = m ((c.tc : Thread Cert.OutLn1Ideal.nD Cert.OutLn1Ideal.τ).loc Cert.OutLn1Ideal.main_arg0)
          ∧ r.2.mem ((c.tc : Thread Cert.OutLn1Ideal.nD Cert.OutLn1Ideal.τ).loc Cert.OutLn1Ideal.main_arg1) = m ((c.tc : Thread Cert.OutLn1Ideal.nD Cert.OutLn1Ideal.τ).loc Cert.OutLn1Ideal.main_arg1)
          ∧ r.2.mem ((c.tc : Thread Cert.OutLn1Ideal.nD Cert.OutLn1Ideal.τ).loc Cert.OutLn1Ideal.main_arg2) = m ((c.tc : Thread Cert.OutLn1Ideal.nD Cert.OutLn1Ideal.τ).loc Cert.OutLn1Ideal.main_arg2)
          ∧ r.2.mem ((c.tc : Thread Cert.OutLn1Ideal.nD Cert.OutLn1Ideal.τ).loc Cert.OutLn1Ideal.main_arg3) = m ((c.tc : Thread Cert.OutLn1Ideal.nD Cert.OutLn1Ideal.τ).loc Cert.OutLn1Ideal.main_arg3)
          ∧ r.2.mem ((c.tc : Thread Cert.OutLn1Ideal.nD Cert.OutLn1Ideal.τ).loc Cert.OutLn1Ideal.main_arg4) = m ((c.tc : Thread Cert.OutLn1Ideal.nD Cert.OutLn1Ideal.τ).loc Cert.OutLn1Ideal.main_arg4)
          ∧ r.2.mem ((c.tc : Thread Cert.OutLn1Ideal.nD Cert.OutLn1Ideal.τ).loc Cert.OutLn1Ideal.main_arg5) = m ((c.tc : Thread Cert.OutLn1Ideal.nD Cert.OutLn1Ideal.τ).loc Cert.OutLn1Ideal.main_arg5))
      ∧ θ_run (Cert.OutLn1RefIdeal.defs (F := Ideal)) (onTc (τ := Cert.OutLn1RefIdeal.τ) (Cert.OutLn1RefIdeal.main (F := Ideal))) ⟨m', fun _ => 0, g'⟩ (fun r => ∀ c : Dev Cert.OutLn1RefIdeal.nD,
          r.2.mem ((c.tc : Thread Cert.OutLn1RefIdeal.nD Cert.OutLn1RefIdeal.τ).loc Cert.OutLn1RefIdeal.main_v22) = v0 c
          ∧ r.2.mem ((c.tc : Thread Cert.OutLn1RefIdeal.nD Cert.OutLn1RefIdeal.τ).loc Cert.OutLn1RefIdeal.main_v31) = v1 c
          ∧ r.2.mem ((c.tc : Thread Cert.OutLn1RefIdeal.nD Cert.OutLn1RefIdeal.τ).loc Cert.OutLn1RefIdeal.main_v20) = v2 c
          ∧ r.2.mem ((c.tc : Thread Cert.OutLn1RefIdeal.nD Cert.OutLn1RefIdeal.τ).loc Cert.OutLn1RefIdeal.main_arg0) = m' ((c.tc : Thread Cert.OutLn1RefIdeal.nD Cert.OutLn1RefIdeal.τ).loc Cert.OutLn1RefIdeal.main_arg0)
          ∧ r.2.mem ((c.tc : Thread Cert.OutLn1RefIdeal.nD Cert.OutLn1RefIdeal.τ).loc Cert.OutLn1RefIdeal.main_arg1) = m' ((c.tc : Thread Cert.OutLn1RefIdeal.nD Cert.OutLn1RefIdeal.τ).loc Cert.OutLn1RefIdeal.main_arg1)
          ∧ r.2.mem ((c.tc : Thread Cert.OutLn1RefIdeal.nD Cert.OutLn1RefIdeal.τ).loc Cert.OutLn1RefIdeal.main_arg2) = m' ((c.tc : Thread Cert.OutLn1RefIdeal.nD Cert.OutLn1RefIdeal.τ).loc Cert.OutLn1RefIdeal.main_arg2)
          ∧ r.2.mem ((c.tc : Thread Cert.OutLn1RefIdeal.nD Cert.OutLn1RefIdeal.τ).loc Cert.OutLn1RefIdeal.main_arg3) = m' ((c.tc : Thread Cert.OutLn1RefIdeal.nD Cert.OutLn1RefIdeal.τ).loc Cert.OutLn1RefIdeal.main_arg3)
          ∧ r.2.mem ((c.tc : Thread Cert.OutLn1RefIdeal.nD Cert.OutLn1RefIdeal.τ).loc Cert.OutLn1RefIdeal.main_arg4) = m' ((c.tc : Thread Cert.OutLn1RefIdeal.nD Cert.OutLn1RefIdeal.τ).loc Cert.OutLn1RefIdeal.main_arg4)
          ∧ r.2.mem ((c.tc : Thread Cert.OutLn1RefIdeal.nD Cert.OutLn1RefIdeal.τ).loc Cert.OutLn1RefIdeal.main_arg5) = m' ((c.tc : Thread Cert.OutLn1RefIdeal.nD Cert.OutLn1RefIdeal.τ).loc Cert.OutLn1RefIdeal.main_arg5))

def preserves_ZProj_ZProjIdeal : Prop :=
  True

def algebraic_ZProjIdeal_ZProjRefIdeal [hZProjIdeal : Cert.ZProjIdeal.Facts] [hZProjRefIdeal : Cert.ZProjRefIdeal.Facts] : Prop :=
  ∀ (m : (ℓ : Loc Cert.ZProjIdeal.nD Cert.ZProjIdeal.τ Cert.ZProjIdeal.sig) → Buf (Elt Ideal) ℓ) (g : Dev Cert.ZProjIdeal.nD → PrngReg)
    (m' : (ℓ : Loc Cert.ZProjRefIdeal.nD Cert.ZProjRefIdeal.τ Cert.ZProjRefIdeal.sig) → Buf (Elt Ideal) ℓ) (g' : Dev Cert.ZProjRefIdeal.nD → PrngReg), Pre_ZProjIdeal m →
    (∀ c : Dev Cert.ZProjIdeal.nD,
      m' ((c.tc : Thread Cert.ZProjRefIdeal.nD Cert.ZProjRefIdeal.τ).loc Cert.ZProjRefIdeal.main_arg0) = m ((c.tc : Thread Cert.ZProjIdeal.nD Cert.ZProjIdeal.τ).loc Cert.ZProjIdeal.main_arg0)
      ∧ m' ((c.tc : Thread Cert.ZProjRefIdeal.nD Cert.ZProjRefIdeal.τ).loc Cert.ZProjRefIdeal.main_arg1) = m ((c.tc : Thread Cert.ZProjIdeal.nD Cert.ZProjIdeal.τ).loc Cert.ZProjIdeal.main_arg1)) →
    ∃ (v0 : (c : Dev Cert.ZProjIdeal.nD) → Buf (Elt Ideal) ((c.tc : Thread Cert.ZProjIdeal.nD Cert.ZProjIdeal.τ).loc Cert.ZProjIdeal.main_v22)),
      θ_run (Cert.ZProjIdeal.defs (F := Ideal)) (onTc (τ := Cert.ZProjIdeal.τ) (Cert.ZProjIdeal.main (F := Ideal))) ⟨m, fun _ => 0, g⟩ (fun r => ∀ c : Dev Cert.ZProjIdeal.nD,
          r.2.mem ((c.tc : Thread Cert.ZProjIdeal.nD Cert.ZProjIdeal.τ).loc Cert.ZProjIdeal.main_v22) = v0 c
          ∧ r.2.mem ((c.tc : Thread Cert.ZProjIdeal.nD Cert.ZProjIdeal.τ).loc Cert.ZProjIdeal.main_arg0) = m ((c.tc : Thread Cert.ZProjIdeal.nD Cert.ZProjIdeal.τ).loc Cert.ZProjIdeal.main_arg0)
          ∧ r.2.mem ((c.tc : Thread Cert.ZProjIdeal.nD Cert.ZProjIdeal.τ).loc Cert.ZProjIdeal.main_arg1) = m ((c.tc : Thread Cert.ZProjIdeal.nD Cert.ZProjIdeal.τ).loc Cert.ZProjIdeal.main_arg1))
      ∧ θ_run (Cert.ZProjRefIdeal.defs (F := Ideal)) (onTc (τ := Cert.ZProjRefIdeal.τ) (Cert.ZProjRefIdeal.main (F := Ideal))) ⟨m', fun _ => 0, g'⟩ (fun r => ∀ c : Dev Cert.ZProjRefIdeal.nD,
          r.2.mem ((c.tc : Thread Cert.ZProjRefIdeal.nD Cert.ZProjRefIdeal.τ).loc Cert.ZProjRefIdeal.main_v0) = v0 c
          ∧ r.2.mem ((c.tc : Thread Cert.ZProjRefIdeal.nD Cert.ZProjRefIdeal.τ).loc Cert.ZProjRefIdeal.main_arg0) = m' ((c.tc : Thread Cert.ZProjRefIdeal.nD Cert.ZProjRefIdeal.τ).loc Cert.ZProjRefIdeal.main_arg0)
          ∧ r.2.mem ((c.tc : Thread Cert.ZProjRefIdeal.nD Cert.ZProjRefIdeal.τ).loc Cert.ZProjRefIdeal.main_arg1) = m' ((c.tc : Thread Cert.ZProjRefIdeal.nD Cert.ZProjRefIdeal.τ).loc Cert.ZProjRefIdeal.main_arg1))

def preserves_Ln1_Ln1Ideal : Prop :=
  True

def algebraic_Ln1Ideal_Ln1RefIdeal [hLn1Ideal : Cert.Ln1Ideal.Facts] [hLn1RefIdeal : Cert.Ln1RefIdeal.Facts] : Prop :=
  ∀ (m : (ℓ : Loc Cert.Ln1Ideal.nD Cert.Ln1Ideal.τ Cert.Ln1Ideal.sig) → Buf (Elt Ideal) ℓ) (g : Dev Cert.Ln1Ideal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1Ideal m →
    (∀ c : Dev Cert.Ln1Ideal.nD,
      m' ((c.tc : Thread Cert.Ln1RefIdeal.nD Cert.Ln1RefIdeal.τ).loc Cert.Ln1RefIdeal.main_arg0) = m ((c.tc : Thread Cert.Ln1Ideal.nD Cert.Ln1Ideal.τ).loc Cert.Ln1Ideal.main_arg0)
      ∧ m' ((c.tc : Thread Cert.Ln1RefIdeal.nD Cert.Ln1RefIdeal.τ).loc Cert.Ln1RefIdeal.main_arg1) = m ((c.tc : Thread Cert.Ln1Ideal.nD Cert.Ln1Ideal.τ).loc Cert.Ln1Ideal.main_arg1)
      ∧ m' ((c.tc : Thread Cert.Ln1RefIdeal.nD Cert.Ln1RefIdeal.τ).loc Cert.Ln1RefIdeal.main_arg2) = m ((c.tc : Thread Cert.Ln1Ideal.nD Cert.Ln1Ideal.τ).loc Cert.Ln1Ideal.main_arg2)
      ∧ m' ((c.tc : Thread Cert.Ln1RefIdeal.nD Cert.Ln1RefIdeal.τ).loc Cert.Ln1RefIdeal.main_arg3) = m ((c.tc : Thread Cert.Ln1Ideal.nD Cert.Ln1Ideal.τ).loc Cert.Ln1Ideal.main_arg3)
      ∧ m' ((c.tc : Thread Cert.Ln1RefIdeal.nD Cert.Ln1RefIdeal.τ).loc Cert.Ln1RefIdeal.main_arg4) = m ((c.tc : Thread Cert.Ln1Ideal.nD Cert.Ln1Ideal.τ).loc Cert.Ln1Ideal.main_arg4)) →
    ∃ (v0 : (c : Dev Cert.Ln1Ideal.nD) → Buf (Elt Ideal) ((c.tc : Thread Cert.Ln1Ideal.nD Cert.Ln1Ideal.τ).loc Cert.Ln1Ideal.main_v25)) (v1 : (c : Dev Cert.Ln1Ideal.nD) → Buf (Elt Ideal) ((c.tc : Thread Cert.Ln1Ideal.nD Cert.Ln1Ideal.τ).loc Cert.Ln1Ideal.main_v27)),
      θ_run (Cert.Ln1Ideal.defs (F := Ideal)) (onTc (τ := Cert.Ln1Ideal.τ) (Cert.Ln1Ideal.main (F := Ideal))) ⟨m, fun _ => 0, g⟩ (fun r => ∀ c : Dev Cert.Ln1Ideal.nD,
          r.2.mem ((c.tc : Thread Cert.Ln1Ideal.nD Cert.Ln1Ideal.τ).loc Cert.Ln1Ideal.main_v25) = v0 c
          ∧ r.2.mem ((c.tc : Thread Cert.Ln1Ideal.nD Cert.Ln1Ideal.τ).loc Cert.Ln1Ideal.main_v27) = v1 c
          ∧ r.2.mem ((c.tc : Thread Cert.Ln1Ideal.nD Cert.Ln1Ideal.τ).loc Cert.Ln1Ideal.main_arg0) = m ((c.tc : Thread Cert.Ln1Ideal.nD Cert.Ln1Ideal.τ).loc Cert.Ln1Ideal.main_arg0)
          ∧ r.2.mem ((c.tc : Thread Cert.Ln1Ideal.nD Cert.Ln1Ideal.τ).loc Cert.Ln1Ideal.main_arg1) = m ((c.tc : Thread Cert.Ln1Ideal.nD Cert.Ln1Ideal.τ).loc Cert.Ln1Ideal.main_arg1)
          ∧ r.2.mem ((c.tc : Thread Cert.Ln1Ideal.nD Cert.Ln1Ideal.τ).loc Cert.Ln1Ideal.main_arg2) = m ((c.tc : Thread Cert.Ln1Ideal.nD Cert.Ln1Ideal.τ).loc Cert.Ln1Ideal.main_arg2)
          ∧ r.2.mem ((c.tc : Thread Cert.Ln1Ideal.nD Cert.Ln1Ideal.τ).loc Cert.Ln1Ideal.main_arg3) = m ((c.tc : Thread Cert.Ln1Ideal.nD Cert.Ln1Ideal.τ).loc Cert.Ln1Ideal.main_arg3)
          ∧ r.2.mem ((c.tc : Thread Cert.Ln1Ideal.nD Cert.Ln1Ideal.τ).loc Cert.Ln1Ideal.main_arg4) = m ((c.tc : Thread Cert.Ln1Ideal.nD Cert.Ln1Ideal.τ).loc Cert.Ln1Ideal.main_arg4))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v31) = v0 c
          ∧ r.2.mem ((c.tc : Thread Cert.Ln1RefIdeal.nD Cert.Ln1RefIdeal.τ).loc Cert.Ln1RefIdeal.main_v27) = v1 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2)
          ∧ r.2.mem ((c.tc : Thread Cert.Ln1RefIdeal.nD Cert.Ln1RefIdeal.τ).loc Cert.Ln1RefIdeal.main_arg3) = m' ((c.tc : Thread Cert.Ln1RefIdeal.nD Cert.Ln1RefIdeal.τ).loc Cert.Ln1RefIdeal.main_arg3)
          ∧ r.2.mem ((c.tc : Thread Cert.Ln1RefIdeal.nD Cert.Ln1RefIdeal.τ).loc Cert.Ln1RefIdeal.main_arg4) = m' ((c.tc : Thread Cert.Ln1RefIdeal.nD Cert.Ln1RefIdeal.τ).loc Cert.Ln1RefIdeal.main_arg4))

def preserves_Ln2_Ln2Ideal : Prop :=
  True

def algebraic_Ln2Ideal_Ln2RefIdeal [hLn2Ideal : Cert.Ln2Ideal.Facts] [hLn2RefIdeal : Cert.Ln2RefIdeal.Facts] : Prop :=
  ∀ (m : (ℓ : Loc Cert.Ln2Ideal.nD Cert.Ln2Ideal.τ Cert.Ln2Ideal.sig) → Buf (Elt Ideal) ℓ) (g : Dev Cert.Ln2Ideal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2Ideal m →
    (∀ c : Dev Cert.Ln2Ideal.nD,
      m' ((c.tc : Thread Cert.Ln2RefIdeal.nD Cert.Ln2RefIdeal.τ).loc Cert.Ln2RefIdeal.main_arg0) = m ((c.tc : Thread Cert.Ln2Ideal.nD Cert.Ln2Ideal.τ).loc Cert.Ln2Ideal.main_arg0)
      ∧ m' ((c.tc : Thread Cert.Ln2RefIdeal.nD Cert.Ln2RefIdeal.τ).loc Cert.Ln2RefIdeal.main_arg1) = m ((c.tc : Thread Cert.Ln2Ideal.nD Cert.Ln2Ideal.τ).loc Cert.Ln2Ideal.main_arg1)
      ∧ m' ((c.tc : Thread Cert.Ln2RefIdeal.nD Cert.Ln2RefIdeal.τ).loc Cert.Ln2RefIdeal.main_arg2) = m ((c.tc : Thread Cert.Ln2Ideal.nD Cert.Ln2Ideal.τ).loc Cert.Ln2Ideal.main_arg2)
      ∧ m' ((c.tc : Thread Cert.Ln2RefIdeal.nD Cert.Ln2RefIdeal.τ).loc Cert.Ln2RefIdeal.main_arg3) = m ((c.tc : Thread Cert.Ln2Ideal.nD Cert.Ln2Ideal.τ).loc Cert.Ln2Ideal.main_arg3)
      ∧ m' ((c.tc : Thread Cert.Ln2RefIdeal.nD Cert.Ln2RefIdeal.τ).loc Cert.Ln2RefIdeal.main_arg4) = m ((c.tc : Thread Cert.Ln2Ideal.nD Cert.Ln2Ideal.τ).loc Cert.Ln2Ideal.main_arg4)
      ∧ m' ((c.tc : Thread Cert.Ln2RefIdeal.nD Cert.Ln2RefIdeal.τ).loc Cert.Ln2RefIdeal.main_arg5) = m ((c.tc : Thread Cert.Ln2Ideal.nD Cert.Ln2Ideal.τ).loc Cert.Ln2Ideal.main_arg5)
      ∧ m' ((c.tc : Thread Cert.Ln2RefIdeal.nD Cert.Ln2RefIdeal.τ).loc Cert.Ln2RefIdeal.main_arg6) = m ((c.tc : Thread Cert.Ln2Ideal.nD Cert.Ln2Ideal.τ).loc Cert.Ln2Ideal.main_arg6)
      ∧ m' ((c.tc : Thread Cert.Ln2RefIdeal.nD Cert.Ln2RefIdeal.τ).loc Cert.Ln2RefIdeal.main_arg7) = m ((c.tc : Thread Cert.Ln2Ideal.nD Cert.Ln2Ideal.τ).loc Cert.Ln2Ideal.main_arg7)) →
    ∃ (v0 : (c : Dev Cert.Ln2Ideal.nD) → Buf (Elt Ideal) ((c.tc : Thread Cert.Ln2Ideal.nD Cert.Ln2Ideal.τ).loc Cert.Ln2Ideal.main_v7)) (v1 : (c : Dev Cert.Ln2Ideal.nD) → Buf (Elt Ideal) ((c.tc : Thread Cert.Ln2Ideal.nD Cert.Ln2Ideal.τ).loc Cert.Ln2Ideal.main_v9)) (v2 : (c : Dev Cert.Ln2Ideal.nD) → Buf (Elt Ideal) ((c.tc : Thread Cert.Ln2Ideal.nD Cert.Ln2Ideal.τ).loc Cert.Ln2Ideal.main_v11)),
      θ_run (Cert.Ln2Ideal.defs (F := Ideal)) (onTc (τ := Cert.Ln2Ideal.τ) (Cert.Ln2Ideal.main (F := Ideal))) ⟨m, fun _ => 0, g⟩ (fun r => ∀ c : Dev Cert.Ln2Ideal.nD,
          r.2.mem ((c.tc : Thread Cert.Ln2Ideal.nD Cert.Ln2Ideal.τ).loc Cert.Ln2Ideal.main_v7) = v0 c
          ∧ r.2.mem ((c.tc : Thread Cert.Ln2Ideal.nD Cert.Ln2Ideal.τ).loc Cert.Ln2Ideal.main_v9) = v1 c
          ∧ r.2.mem ((c.tc : Thread Cert.Ln2Ideal.nD Cert.Ln2Ideal.τ).loc Cert.Ln2Ideal.main_v11) = v2 c
          ∧ r.2.mem ((c.tc : Thread Cert.Ln2Ideal.nD Cert.Ln2Ideal.τ).loc Cert.Ln2Ideal.main_arg0) = m ((c.tc : Thread Cert.Ln2Ideal.nD Cert.Ln2Ideal.τ).loc Cert.Ln2Ideal.main_arg0)
          ∧ r.2.mem ((c.tc : Thread Cert.Ln2Ideal.nD Cert.Ln2Ideal.τ).loc Cert.Ln2Ideal.main_arg1) = m ((c.tc : Thread Cert.Ln2Ideal.nD Cert.Ln2Ideal.τ).loc Cert.Ln2Ideal.main_arg1)
          ∧ r.2.mem ((c.tc : Thread Cert.Ln2Ideal.nD Cert.Ln2Ideal.τ).loc Cert.Ln2Ideal.main_arg2) = m ((c.tc : Thread Cert.Ln2Ideal.nD Cert.Ln2Ideal.τ).loc Cert.Ln2Ideal.main_arg2)
          ∧ r.2.mem ((c.tc : Thread Cert.Ln2Ideal.nD Cert.Ln2Ideal.τ).loc Cert.Ln2Ideal.main_arg3) = m ((c.tc : Thread Cert.Ln2Ideal.nD Cert.Ln2Ideal.τ).loc Cert.Ln2Ideal.main_arg3)
          ∧ r.2.mem ((c.tc : Thread Cert.Ln2Ideal.nD Cert.Ln2Ideal.τ).loc Cert.Ln2Ideal.main_arg4) = m ((c.tc : Thread Cert.Ln2Ideal.nD Cert.Ln2Ideal.τ).loc Cert.Ln2Ideal.main_arg4)
          ∧ r.2.mem ((c.tc : Thread Cert.Ln2Ideal.nD Cert.Ln2Ideal.τ).loc Cert.Ln2Ideal.main_arg5) = m ((c.tc : Thread Cert.Ln2Ideal.nD Cert.Ln2Ideal.τ).loc Cert.Ln2Ideal.main_arg5)
          ∧ r.2.mem ((c.tc : Thread Cert.Ln2Ideal.nD Cert.Ln2Ideal.τ).loc Cert.Ln2Ideal.main_arg6) = m ((c.tc : Thread Cert.Ln2Ideal.nD Cert.Ln2Ideal.τ).loc Cert.Ln2Ideal.main_arg6)
          ∧ r.2.mem ((c.tc : Thread Cert.Ln2Ideal.nD Cert.Ln2Ideal.τ).loc Cert.Ln2Ideal.main_arg7) = m ((c.tc : Thread Cert.Ln2Ideal.nD Cert.Ln2Ideal.τ).loc Cert.Ln2Ideal.main_arg7))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v42) = v0 c
          ∧ r.2.mem ((c.tc : Thread Cert.Ln2RefIdeal.nD Cert.Ln2RefIdeal.τ).loc Cert.Ln2RefIdeal.main_v55) = v1 c
          ∧ r.2.mem ((c.tc : Thread Cert.Ln2RefIdeal.nD Cert.Ln2RefIdeal.τ).loc Cert.Ln2RefIdeal.main_v51) = v2 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4)
          ∧ r.2.mem ((c.tc : Thread Cert.Ln2RefIdeal.nD Cert.Ln2RefIdeal.τ).loc Cert.Ln2RefIdeal.main_arg5) = m' ((c.tc : Thread Cert.Ln2RefIdeal.nD Cert.Ln2RefIdeal.τ).loc Cert.Ln2RefIdeal.main_arg5)
          ∧ r.2.mem ((c.tc : Thread Cert.Ln2RefIdeal.nD Cert.Ln2RefIdeal.τ).loc Cert.Ln2RefIdeal.main_arg6) = m' ((c.tc : Thread Cert.Ln2RefIdeal.nD Cert.Ln2RefIdeal.τ).loc Cert.Ln2RefIdeal.main_arg6)
          ∧ r.2.mem ((c.tc : Thread Cert.Ln2RefIdeal.nD Cert.Ln2RefIdeal.τ).loc Cert.Ln2RefIdeal.main_arg7) = m' ((c.tc : Thread Cert.Ln2RefIdeal.nD Cert.Ln2RefIdeal.τ).loc Cert.Ln2RefIdeal.main_arg7))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v23) = v0 c
          ∧ r.2.mem ((c.tc : Thread Cert.AdamRepRefIdeal.nD Cert.AdamRepRefIdeal.τ).loc Cert.AdamRepRefIdeal.main_v4) = v1 c
          ∧ r.2.mem ((c.tc : Thread Cert.AdamRepRefIdeal.nD Cert.AdamRepRefIdeal.τ).loc Cert.AdamRepRefIdeal.main_v10) = v2 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_AdamSharded_AdamShardedIdeal : Prop :=
  True

def algebraic_AdamShardedIdeal_AdamShardedRefIdeal [hAdamShardedIdeal : Cert.AdamShardedIdeal.Facts] [hAdamShardedRefIdeal : Cert.AdamShardedRefIdeal.Facts] : Prop :=
  ∀ (m : (ℓ : Loc Cert.AdamShardedIdeal.nD Cert.AdamShardedIdeal.τ Cert.AdamShardedIdeal.sig) → Buf (Elt Ideal) ℓ) (g : Dev Cert.AdamShardedIdeal.nD → PrngReg)
    (m' : (ℓ : Loc Cert.AdamShardedRefIdeal.nD Cert.AdamShardedRefIdeal.τ Cert.AdamShardedRefIdeal.sig) → Buf (Elt Ideal) ℓ) (g' : Dev Cert.AdamShardedRefIdeal.nD → PrngReg), Pre_AdamShardedIdeal m →
    (∀ c : Dev Cert.AdamShardedIdeal.nD,
      m' ((c.tc : Thread Cert.AdamShardedRefIdeal.nD Cert.AdamShardedRefIdeal.τ).loc Cert.AdamShardedRefIdeal.main_arg0) = m ((c.tc : Thread Cert.AdamShardedIdeal.nD Cert.AdamShardedIdeal.τ).loc Cert.AdamShardedIdeal.main_arg0)
      ∧ m' ((c.tc : Thread Cert.AdamShardedRefIdeal.nD Cert.AdamShardedRefIdeal.τ).loc Cert.AdamShardedRefIdeal.main_arg1) = m ((c.tc : Thread Cert.AdamShardedIdeal.nD Cert.AdamShardedIdeal.τ).loc Cert.AdamShardedIdeal.main_arg1)
      ∧ m' ((c.tc : Thread Cert.AdamShardedRefIdeal.nD Cert.AdamShardedRefIdeal.τ).loc Cert.AdamShardedRefIdeal.main_arg2) = m ((c.tc : Thread Cert.AdamShardedIdeal.nD Cert.AdamShardedIdeal.τ).loc Cert.AdamShardedIdeal.main_arg2)
      ∧ m' ((c.tc : Thread Cert.AdamShardedRefIdeal.nD Cert.AdamShardedRefIdeal.τ).loc Cert.AdamShardedRefIdeal.main_arg3) = m ((c.tc : Thread Cert.AdamShardedIdeal.nD Cert.AdamShardedIdeal.τ).loc Cert.AdamShardedIdeal.main_arg3)) →
    ∃ (v0 : (c : Dev Cert.AdamShardedIdeal.nD) → Buf (Elt Ideal) ((c.tc : Thread Cert.AdamShardedIdeal.nD Cert.AdamShardedIdeal.τ).loc Cert.AdamShardedIdeal.main_v0_0)) (v1 : (c : Dev Cert.AdamShardedIdeal.nD) → Buf (Elt Ideal) ((c.tc : Thread Cert.AdamShardedIdeal.nD Cert.AdamShardedIdeal.τ).loc Cert.AdamShardedIdeal.main_v0_1)) (v2 : (c : Dev Cert.AdamShardedIdeal.nD) → Buf (Elt Ideal) ((c.tc : Thread Cert.AdamShardedIdeal.nD Cert.AdamShardedIdeal.τ).loc Cert.AdamShardedIdeal.main_v0_2)),
      θ_run (Cert.AdamShardedIdeal.defs (F := Ideal)) (onTc (τ := Cert.AdamShardedIdeal.τ) (Cert.AdamShardedIdeal.main (F := Ideal))) ⟨m, fun _ => 0, g⟩ (fun r => ∀ c : Dev Cert.AdamShardedIdeal.nD,
          r.2.mem ((c.tc : Thread Cert.AdamShardedIdeal.nD Cert.AdamShardedIdeal.τ).loc Cert.AdamShardedIdeal.main_v0_0) = v0 c
          ∧ r.2.mem ((c.tc : Thread Cert.AdamShardedIdeal.nD Cert.AdamShardedIdeal.τ).loc Cert.AdamShardedIdeal.main_v0_1) = v1 c
          ∧ r.2.mem ((c.tc : Thread Cert.AdamShardedIdeal.nD Cert.AdamShardedIdeal.τ).loc Cert.AdamShardedIdeal.main_v0_2) = v2 c
          ∧ r.2.mem ((c.tc : Thread Cert.AdamShardedIdeal.nD Cert.AdamShardedIdeal.τ).loc Cert.AdamShardedIdeal.main_arg0) = m ((c.tc : Thread Cert.AdamShardedIdeal.nD Cert.AdamShardedIdeal.τ).loc Cert.AdamShardedIdeal.main_arg0)
          ∧ r.2.mem ((c.tc : Thread Cert.AdamShardedIdeal.nD Cert.AdamShardedIdeal.τ).loc Cert.AdamShardedIdeal.main_arg1) = m ((c.tc : Thread Cert.AdamShardedIdeal.nD Cert.AdamShardedIdeal.τ).loc Cert.AdamShardedIdeal.main_arg1)
          ∧ r.2.mem ((c.tc : Thread Cert.AdamShardedIdeal.nD Cert.AdamShardedIdeal.τ).loc Cert.AdamShardedIdeal.main_arg2) = m ((c.tc : Thread Cert.AdamShardedIdeal.nD Cert.AdamShardedIdeal.τ).loc Cert.AdamShardedIdeal.main_arg2)
          ∧ r.2.mem ((c.tc : Thread Cert.AdamShardedIdeal.nD Cert.AdamShardedIdeal.τ).loc Cert.AdamShardedIdeal.main_arg3) = m ((c.tc : Thread Cert.AdamShardedIdeal.nD Cert.AdamShardedIdeal.τ).loc Cert.AdamShardedIdeal.main_arg3))
      ∧ θ_run (Cert.AdamShardedRefIdeal.defs (F := Ideal)) (onTc (τ := Cert.AdamShardedRefIdeal.τ) (Cert.AdamShardedRefIdeal.main (F := Ideal))) ⟨m', fun _ => 0, g'⟩ (fun r => ∀ c : Dev Cert.AdamShardedRefIdeal.nD,
          r.2.mem ((c.tc : Thread Cert.AdamShardedRefIdeal.nD Cert.AdamShardedRefIdeal.τ).loc Cert.AdamShardedRefIdeal.main_v23) = v0 c
          ∧ r.2.mem ((c.tc : Thread Cert.AdamShardedRefIdeal.nD Cert.AdamShardedRefIdeal.τ).loc Cert.AdamShardedRefIdeal.main_v4) = v1 c
          ∧ r.2.mem ((c.tc : Thread Cert.AdamShardedRefIdeal.nD Cert.AdamShardedRefIdeal.τ).loc Cert.AdamShardedRefIdeal.main_v10) = v2 c
          ∧ r.2.mem ((c.tc : Thread Cert.AdamShardedRefIdeal.nD Cert.AdamShardedRefIdeal.τ).loc Cert.AdamShardedRefIdeal.main_arg0) = m' ((c.tc : Thread Cert.AdamShardedRefIdeal.nD Cert.AdamShardedRefIdeal.τ).loc Cert.AdamShardedRefIdeal.main_arg0)
          ∧ r.2.mem ((c.tc : Thread Cert.AdamShardedRefIdeal.nD Cert.AdamShardedRefIdeal.τ).loc Cert.AdamShardedRefIdeal.main_arg1) = m' ((c.tc : Thread Cert.AdamShardedRefIdeal.nD Cert.AdamShardedRefIdeal.τ).loc Cert.AdamShardedRefIdeal.main_arg1)
          ∧ r.2.mem ((c.tc : Thread Cert.AdamShardedRefIdeal.nD Cert.AdamShardedRefIdeal.τ).loc Cert.AdamShardedRefIdeal.main_arg2) = m' ((c.tc : Thread Cert.AdamShardedRefIdeal.nD Cert.AdamShardedRefIdeal.τ).loc Cert.AdamShardedRefIdeal.main_arg2)
          ∧ r.2.mem ((c.tc : Thread Cert.AdamShardedRefIdeal.nD Cert.AdamShardedRefIdeal.τ).loc Cert.AdamShardedRefIdeal.main_arg3) = m' ((c.tc : Thread Cert.AdamShardedRefIdeal.nD Cert.AdamShardedRefIdeal.τ).loc Cert.AdamShardedRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v9)) (v1 : (c : Dev Cert.ConvIdeal.nD) → Buf (Elt Ideal) ((c.tc : Thread Cert.ConvIdeal.nD Cert.ConvIdeal.τ).loc Cert.ConvIdeal.main_v10)) (v2 : (c : Dev Cert.ConvIdeal.nD) → Buf (Elt Ideal) ((c.tc : Thread Cert.ConvIdeal.nD Cert.ConvIdeal.τ).loc Cert.ConvIdeal.main_v12)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9) = v0 c
          ∧ r.2.mem ((c.tc : Thread Cert.ConvIdeal.nD Cert.ConvIdeal.τ).loc Cert.ConvIdeal.main_v10) = v1 c
          ∧ r.2.mem ((c.tc : Thread Cert.ConvIdeal.nD Cert.ConvIdeal.τ).loc Cert.ConvIdeal.main_v12) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v85) = v0 c
          ∧ r.2.mem ((c.tc : Thread Cert.ConvRefIdeal.nD Cert.ConvRefIdeal.τ).loc Cert.ConvRefIdeal.main_v79) = v1 c
          ∧ r.2.mem ((c.tc : Thread Cert.ConvRefIdeal.nD Cert.ConvRefIdeal.τ).loc Cert.ConvRefIdeal.main_v70) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_DyLru_DyLruIdeal : Prop :=
  True

def algebraic_DyLruIdeal_DyLruRefIdeal [hDyLruIdeal : Cert.DyLruIdeal.Facts] [hDyLruRefIdeal : Cert.DyLruRefIdeal.Facts] : Prop :=
  ∀ (m : (ℓ : Loc Cert.DyLruIdeal.nD Cert.DyLruIdeal.τ Cert.DyLruIdeal.sig) → Buf (Elt Ideal) ℓ) (g : Dev Cert.DyLruIdeal.nD → PrngReg)
    (m' : (ℓ : Loc Cert.DyLruRefIdeal.nD Cert.DyLruRefIdeal.τ Cert.DyLruRefIdeal.sig) → Buf (Elt Ideal) ℓ) (g' : Dev Cert.DyLruRefIdeal.nD → PrngReg), Pre_DyLruIdeal m →
    (∀ c : Dev Cert.DyLruIdeal.nD,
      m' ((c.tc : Thread Cert.DyLruRefIdeal.nD Cert.DyLruRefIdeal.τ).loc Cert.DyLruRefIdeal.main_arg0) = m ((c.tc : Thread Cert.DyLruIdeal.nD Cert.DyLruIdeal.τ).loc Cert.DyLruIdeal.main_arg0)
      ∧ m' ((c.tc : Thread Cert.DyLruRefIdeal.nD Cert.DyLruRefIdeal.τ).loc Cert.DyLruRefIdeal.main_arg1) = m ((c.tc : Thread Cert.DyLruIdeal.nD Cert.DyLruIdeal.τ).loc Cert.DyLruIdeal.main_arg1)
      ∧ m' ((c.tc : Thread Cert.DyLruRefIdeal.nD Cert.DyLruRefIdeal.τ).loc Cert.DyLruRefIdeal.main_arg2) = m ((c.tc : Thread Cert.DyLruIdeal.nD Cert.DyLruIdeal.τ).loc Cert.DyLruIdeal.main_arg2)
      ∧ m' ((c.tc : Thread Cert.DyLruRefIdeal.nD Cert.DyLruRefIdeal.τ).loc Cert.DyLruRefIdeal.main_arg3) = m ((c.tc : Thread Cert.DyLruIdeal.nD Cert.DyLruIdeal.τ).loc Cert.DyLruIdeal.main_arg3)
      ∧ m' ((c.tc : Thread Cert.DyLruRefIdeal.nD Cert.DyLruRefIdeal.τ).loc Cert.DyLruRefIdeal.main_arg4) = m ((c.tc : Thread Cert.DyLruIdeal.nD Cert.DyLruIdeal.τ).loc Cert.DyLruIdeal.main_arg4)) →
    ∃ (v0 : (c : Dev Cert.DyLruIdeal.nD) → Buf (Elt Ideal) ((c.tc : Thread Cert.DyLruIdeal.nD Cert.DyLruIdeal.τ).loc Cert.DyLruIdeal.main_v7_0)),
      θ_run (Cert.DyLruIdeal.defs (F := Ideal)) (onTc (τ := Cert.DyLruIdeal.τ) (Cert.DyLruIdeal.main (F := Ideal))) ⟨m, fun _ => 0, g⟩ (fun r => ∀ c : Dev Cert.DyLruIdeal.nD,
          r.2.mem ((c.tc : Thread Cert.DyLruIdeal.nD Cert.DyLruIdeal.τ).loc Cert.DyLruIdeal.main_v7_0) = v0 c
          ∧ r.2.mem ((c.tc : Thread Cert.DyLruIdeal.nD Cert.DyLruIdeal.τ).loc Cert.DyLruIdeal.main_arg0) = m ((c.tc : Thread Cert.DyLruIdeal.nD Cert.DyLruIdeal.τ).loc Cert.DyLruIdeal.main_arg0)
          ∧ r.2.mem ((c.tc : Thread Cert.DyLruIdeal.nD Cert.DyLruIdeal.τ).loc Cert.DyLruIdeal.main_arg1) = m ((c.tc : Thread Cert.DyLruIdeal.nD Cert.DyLruIdeal.τ).loc Cert.DyLruIdeal.main_arg1)
          ∧ r.2.mem ((c.tc : Thread Cert.DyLruIdeal.nD Cert.DyLruIdeal.τ).loc Cert.DyLruIdeal.main_arg2) = m ((c.tc : Thread Cert.DyLruIdeal.nD Cert.DyLruIdeal.τ).loc Cert.DyLruIdeal.main_arg2)
          ∧ r.2.mem ((c.tc : Thread Cert.DyLruIdeal.nD Cert.DyLruIdeal.τ).loc Cert.DyLruIdeal.main_arg3) = m ((c.tc : Thread Cert.DyLruIdeal.nD Cert.DyLruIdeal.τ).loc Cert.DyLruIdeal.main_arg3)
          ∧ r.2.mem ((c.tc : Thread Cert.DyLruIdeal.nD Cert.DyLruIdeal.τ).loc Cert.DyLruIdeal.main_arg4) = m ((c.tc : Thread Cert.DyLruIdeal.nD Cert.DyLruIdeal.τ).loc Cert.DyLruIdeal.main_arg4))
      ∧ θ_run (Cert.DyLruRefIdeal.defs (F := Ideal)) (onTc (τ := Cert.DyLruRefIdeal.τ) (Cert.DyLruRefIdeal.main (F := Ideal))) ⟨m', fun _ => 0, g'⟩ (fun r => ∀ c : Dev Cert.DyLruRefIdeal.nD,
          r.2.mem ((c.tc : Thread Cert.DyLruRefIdeal.nD Cert.DyLruRefIdeal.τ).loc Cert.DyLruRefIdeal.main_v17) = v0 c
          ∧ r.2.mem ((c.tc : Thread Cert.DyLruRefIdeal.nD Cert.DyLruRefIdeal.τ).loc Cert.DyLruRefIdeal.main_arg0) = m' ((c.tc : Thread Cert.DyLruRefIdeal.nD Cert.DyLruRefIdeal.τ).loc Cert.DyLruRefIdeal.main_arg0)
          ∧ r.2.mem ((c.tc : Thread Cert.DyLruRefIdeal.nD Cert.DyLruRefIdeal.τ).loc Cert.DyLruRefIdeal.main_arg1) = m' ((c.tc : Thread Cert.DyLruRefIdeal.nD Cert.DyLruRefIdeal.τ).loc Cert.DyLruRefIdeal.main_arg1)
          ∧ r.2.mem ((c.tc : Thread Cert.DyLruRefIdeal.nD Cert.DyLruRefIdeal.τ).loc Cert.DyLruRefIdeal.main_arg2) = m' ((c.tc : Thread Cert.DyLruRefIdeal.nD Cert.DyLruRefIdeal.τ).loc Cert.DyLruRefIdeal.main_arg2)
          ∧ r.2.mem ((c.tc : Thread Cert.DyLruRefIdeal.nD Cert.DyLruRefIdeal.τ).loc Cert.DyLruRefIdeal.main_arg3) = m' ((c.tc : Thread Cert.DyLruRefIdeal.nD Cert.DyLruRefIdeal.τ).loc Cert.DyLruRefIdeal.main_arg3)
          ∧ r.2.mem ((c.tc : Thread Cert.DyLruRefIdeal.nD Cert.DyLruRefIdeal.τ).loc Cert.DyLruRefIdeal.main_arg4) = m' ((c.tc : Thread Cert.DyLruRefIdeal.nD Cert.DyLruRefIdeal.τ).loc Cert.DyLruRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v5) = v0 c
          ∧ r.2.mem ((c.tc : Thread Cert.AdamOutRefIdeal.nD Cert.AdamOutRefIdeal.τ).loc Cert.AdamOutRefIdeal.main_v29) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_v16) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamFf2_AdamFf2Ideal : Prop :=
  True

def algebraic_AdamFf2Ideal_AdamFf2RefIdeal [hAdamFf2Ideal : Cert.AdamFf2Ideal.Facts] [hAdamFf2RefIdeal : Cert.AdamFf2RefIdeal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg)
    (m' : (ℓ : Loc Cert.AdamFf2RefIdeal.nD Cert.AdamFf2RefIdeal.τ Cert.AdamFf2RefIdeal.sig) → Buf (Elt Ideal) ℓ) (g' : Dev Cert.AdamFf2RefIdeal.nD → PrngReg), Pre_AdamFf2Ideal m →
    (∀ c : Dev Cert.AdamFf2Ideal.nD,
      m' ((c.tc : Thread Cert.AdamFf2RefIdeal.nD Cert.AdamFf2RefIdeal.τ).loc Cert.AdamFf2RefIdeal.main_arg0) = m ((c.tc : Thread Cert.AdamFf2Ideal.nD Cert.AdamFf2Ideal.τ).loc Cert.AdamFf2Ideal.main_arg0)
      ∧ m' ((c.tc : Thread Cert.AdamFf2RefIdeal.nD Cert.AdamFf2RefIdeal.τ).loc Cert.AdamFf2RefIdeal.main_arg1) = m ((c.tc : Thread Cert.AdamFf2Ideal.nD Cert.AdamFf2Ideal.τ).loc Cert.AdamFf2Ideal.main_arg1)
      ∧ m' ((c.tc : Thread Cert.AdamFf2RefIdeal.nD Cert.AdamFf2RefIdeal.τ).loc Cert.AdamFf2RefIdeal.main_arg2) = m ((c.tc : Thread Cert.AdamFf2Ideal.nD Cert.AdamFf2Ideal.τ).loc Cert.AdamFf2Ideal.main_arg2)
      ∧ m' ((c.tc : Thread Cert.AdamFf2RefIdeal.nD Cert.AdamFf2RefIdeal.τ).loc Cert.AdamFf2RefIdeal.main_arg3) = m ((c.tc : Thread Cert.AdamFf2Ideal.nD Cert.AdamFf2Ideal.τ).loc Cert.AdamFf2Ideal.main_arg3)
      ∧ m' ((c.tc : Thread Cert.AdamFf2RefIdeal.nD Cert.AdamFf2RefIdeal.τ).loc Cert.AdamFf2RefIdeal.main_arg4) = m ((c.tc : Thread Cert.AdamFf2Ideal.nD Cert.AdamFf2Ideal.τ).loc Cert.AdamFf2Ideal.main_arg4)
      ∧ m' ((c.tc : Thread Cert.AdamFf2RefIdeal.nD Cert.AdamFf2RefIdeal.τ).loc Cert.AdamFf2RefIdeal.main_arg5) = m ((c.tc : Thread Cert.AdamFf2Ideal.nD Cert.AdamFf2Ideal.τ).loc Cert.AdamFf2Ideal.main_arg5)) →
    ∃ (v0 : (c : Dev Cert.AdamFf2Ideal.nD) → Buf (Elt Ideal) ((c.tc : Thread Cert.AdamFf2Ideal.nD Cert.AdamFf2Ideal.τ).loc Cert.AdamFf2Ideal.main_v1_0)) (v1 : (c : Dev Cert.AdamFf2Ideal.nD) → Buf (Elt Ideal) ((c.tc : Thread Cert.AdamFf2Ideal.nD Cert.AdamFf2Ideal.τ).loc Cert.AdamFf2Ideal.main_v1_1)) (v2 : (c : Dev Cert.AdamFf2Ideal.nD) → Buf (Elt Ideal) ((c.tc : Thread Cert.AdamFf2Ideal.nD Cert.AdamFf2Ideal.τ).loc Cert.AdamFf2Ideal.main_v1_2)) (v3 : (c : Dev Cert.AdamFf2Ideal.nD) → Buf (Elt Ideal) ((c.tc : Thread Cert.AdamFf2Ideal.nD Cert.AdamFf2Ideal.τ).loc Cert.AdamFf2Ideal.main_v1_3)),
      θ_run (Cert.AdamFf2Ideal.defs (F := Ideal)) (onTc (τ := Cert.AdamFf2Ideal.τ) (Cert.AdamFf2Ideal.main (F := Ideal))) ⟨m, fun _ => 0, g⟩ (fun r => ∀ c : Dev Cert.AdamFf2Ideal.nD,
          r.2.mem ((c.tc : Thread Cert.AdamFf2Ideal.nD Cert.AdamFf2Ideal.τ).loc Cert.AdamFf2Ideal.main_v1_0) = v0 c
          ∧ r.2.mem ((c.tc : Thread Cert.AdamFf2Ideal.nD Cert.AdamFf2Ideal.τ).loc Cert.AdamFf2Ideal.main_v1_1) = v1 c
          ∧ r.2.mem ((c.tc : Thread Cert.AdamFf2Ideal.nD Cert.AdamFf2Ideal.τ).loc Cert.AdamFf2Ideal.main_v1_2) = v2 c
          ∧ r.2.mem ((c.tc : Thread Cert.AdamFf2Ideal.nD Cert.AdamFf2Ideal.τ).loc Cert.AdamFf2Ideal.main_v1_3) = v3 c
          ∧ r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
          ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
          ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
          ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3)
          ∧ r.2.mem ((c.tc : Thread Cert.AdamFf2Ideal.nD Cert.AdamFf2Ideal.τ).loc Cert.AdamFf2Ideal.main_arg4) = m ((c.tc : Thread Cert.AdamFf2Ideal.nD Cert.AdamFf2Ideal.τ).loc Cert.AdamFf2Ideal.main_arg4)
          ∧ r.2.mem ((c.tc : Thread Cert.AdamFf2Ideal.nD Cert.AdamFf2Ideal.τ).loc Cert.AdamFf2Ideal.main_arg5) = m ((c.tc : Thread Cert.AdamFf2Ideal.nD Cert.AdamFf2Ideal.τ).loc Cert.AdamFf2Ideal.main_arg5))
      ∧ θ_run (Cert.AdamFf2RefIdeal.defs (F := Ideal)) (onTc (τ := Cert.AdamFf2RefIdeal.τ) (Cert.AdamFf2RefIdeal.main (F := Ideal))) ⟨m', fun _ => 0, g'⟩ (fun r => ∀ c : Dev Cert.AdamFf2RefIdeal.nD,
          r.2.mem ((c.tc : Thread Cert.AdamFf2RefIdeal.nD Cert.AdamFf2RefIdeal.τ).loc Cert.AdamFf2RefIdeal.main_v5) = v0 c
          ∧ r.2.mem ((c.tc : Thread Cert.AdamFf2RefIdeal.nD Cert.AdamFf2RefIdeal.τ).loc Cert.AdamFf2RefIdeal.main_v29) = v1 c
          ∧ r.2.mem ((c.tc : Thread Cert.AdamFf2RefIdeal.nD Cert.AdamFf2RefIdeal.τ).loc Cert.AdamFf2RefIdeal.main_v10) = v2 c
          ∧ r.2.mem ((c.tc : Thread Cert.AdamFf2RefIdeal.nD Cert.AdamFf2RefIdeal.τ).loc Cert.AdamFf2RefIdeal.main_v16) = v3 c
          ∧ r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
          ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
          ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
          ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3)
          ∧ r.2.mem ((c.tc : Thread Cert.AdamFf2RefIdeal.nD Cert.AdamFf2RefIdeal.τ).loc Cert.AdamFf2RefIdeal.main_arg4) = m' ((c.tc : Thread Cert.AdamFf2RefIdeal.nD Cert.AdamFf2RefIdeal.τ).loc Cert.AdamFf2RefIdeal.main_arg4)
          ∧ r.2.mem ((c.tc : Thread Cert.AdamFf2RefIdeal.nD Cert.AdamFf2RefIdeal.τ).loc Cert.AdamFf2RefIdeal.main_arg5) = m' ((c.tc : Thread Cert.AdamFf2RefIdeal.nD Cert.AdamFf2RefIdeal.τ).loc Cert.AdamFf2RefIdeal.main_arg5))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)
      ∧ m' ((c.tc : Thread Cert.AdamPoolRefIdeal.nD Cert.AdamPoolRefIdeal.τ).loc Cert.AdamPoolRefIdeal.main_arg4) = m ((c.tc : Thread Cert.AdamPoolIdeal.nD Cert.AdamPoolIdeal.τ).loc Cert.AdamPoolIdeal.main_arg4)
      ∧ m' ((c.tc : Thread Cert.AdamPoolRefIdeal.nD Cert.AdamPoolRefIdeal.τ).loc Cert.AdamPoolRefIdeal.main_arg5) = m ((c.tc : Thread Cert.AdamPoolIdeal.nD Cert.AdamPoolIdeal.τ).loc Cert.AdamPoolIdeal.main_arg5)) →
    ∃ (v0 : (c : Dev Cert.AdamPoolIdeal.nD) → Buf (Elt Ideal) ((c.tc : Thread Cert.AdamPoolIdeal.nD Cert.AdamPoolIdeal.τ).loc Cert.AdamPoolIdeal.main_v1_0)) (v1 : (c : Dev Cert.AdamPoolIdeal.nD) → Buf (Elt Ideal) ((c.tc : Thread Cert.AdamPoolIdeal.nD Cert.AdamPoolIdeal.τ).loc Cert.AdamPoolIdeal.main_v1_1)) (v2 : (c : Dev Cert.AdamPoolIdeal.nD) → Buf (Elt Ideal) ((c.tc : Thread Cert.AdamPoolIdeal.nD Cert.AdamPoolIdeal.τ).loc Cert.AdamPoolIdeal.main_v1_2)) (v3 : (c : Dev Cert.AdamPoolIdeal.nD) → Buf (Elt Ideal) ((c.tc : Thread Cert.AdamPoolIdeal.nD Cert.AdamPoolIdeal.τ).loc Cert.AdamPoolIdeal.main_v1_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v1_0) = v0 c
          ∧ r.2.mem ((c.tc : Thread Cert.AdamPoolIdeal.nD Cert.AdamPoolIdeal.τ).loc Cert.AdamPoolIdeal.main_v1_1) = v1 c
          ∧ r.2.mem ((c.tc : Thread Cert.AdamPoolIdeal.nD Cert.AdamPoolIdeal.τ).loc Cert.AdamPoolIdeal.main_v1_2) = v2 c
          ∧ r.2.mem ((c.tc : Thread Cert.AdamPoolIdeal.nD Cert.AdamPoolIdeal.τ).loc Cert.AdamPoolIdeal.main_v1_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4)
          ∧ r.2.mem ((c.tc : Thread Cert.AdamPoolIdeal.nD Cert.AdamPoolIdeal.τ).loc Cert.AdamPoolIdeal.main_arg5) = m ((c.tc : Thread Cert.AdamPoolIdeal.nD Cert.AdamPoolIdeal.τ).loc Cert.AdamPoolIdeal.main_arg5))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v5) = v0 c
          ∧ r.2.mem ((c.tc : Thread Cert.AdamPoolRefIdeal.nD Cert.AdamPoolRefIdeal.τ).loc Cert.AdamPoolRefIdeal.main_v29) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_v16) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3)
          ∧ r.2.mem ((c.tc : Thread Cert.AdamPoolRefIdeal.nD Cert.AdamPoolRefIdeal.τ).loc Cert.AdamPoolRefIdeal.main_arg4) = m' ((c.tc : Thread Cert.AdamPoolRefIdeal.nD Cert.AdamPoolRefIdeal.τ).loc Cert.AdamPoolRefIdeal.main_arg4)
          ∧ r.2.mem ((c.tc : Thread Cert.AdamPoolRefIdeal.nD Cert.AdamPoolRefIdeal.τ).loc Cert.AdamPoolRefIdeal.main_arg5) = m' ((c.tc : Thread Cert.AdamPoolRefIdeal.nD Cert.AdamPoolRefIdeal.τ).loc Cert.AdamPoolRefIdeal.main_arg5))

def preserves_AdamLru_AdamLruIdeal : Prop :=
  True

def algebraic_AdamLruIdeal_AdamLruRefIdeal [hAdamLruIdeal : Cert.AdamLruIdeal.Facts] [hAdamLruRefIdeal : Cert.AdamLruRefIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg)
    (m' : (ℓ : Loc Cert.AdamLruRefIdeal.nD Cert.AdamLruRefIdeal.τ Cert.AdamLruRefIdeal.sig) → Buf (Elt Ideal) ℓ) (g' : Dev Cert.AdamLruRefIdeal.nD → PrngReg), Pre_AdamLruIdeal m →
    (∀ c : Dev Cert.AdamLruIdeal.nD,
      m' ((c.tc : Thread Cert.AdamLruRefIdeal.nD Cert.AdamLruRefIdeal.τ).loc Cert.AdamLruRefIdeal.main_arg0) = m ((c.tc : Thread Cert.AdamLruIdeal.nD Cert.AdamLruIdeal.τ).loc Cert.AdamLruIdeal.main_arg0)
      ∧ m' ((c.tc : Thread Cert.AdamLruRefIdeal.nD Cert.AdamLruRefIdeal.τ).loc Cert.AdamLruRefIdeal.main_arg1) = m ((c.tc : Thread Cert.AdamLruIdeal.nD Cert.AdamLruIdeal.τ).loc Cert.AdamLruIdeal.main_arg1)
      ∧ m' ((c.tc : Thread Cert.AdamLruRefIdeal.nD Cert.AdamLruRefIdeal.τ).loc Cert.AdamLruRefIdeal.main_arg2) = m ((c.tc : Thread Cert.AdamLruIdeal.nD Cert.AdamLruIdeal.τ).loc Cert.AdamLruIdeal.main_arg2)
      ∧ m' ((c.tc : Thread Cert.AdamLruRefIdeal.nD Cert.AdamLruRefIdeal.τ).loc Cert.AdamLruRefIdeal.main_arg3) = m ((c.tc : Thread Cert.AdamLruIdeal.nD Cert.AdamLruIdeal.τ).loc Cert.AdamLruIdeal.main_arg3)
      ∧ m' ((c.tc : Thread Cert.AdamLruRefIdeal.nD Cert.AdamLruRefIdeal.τ).loc Cert.AdamLruRefIdeal.main_arg4) = m ((c.tc : Thread Cert.AdamLruIdeal.nD Cert.AdamLruIdeal.τ).loc Cert.AdamLruIdeal.main_arg4)
      ∧ m' ((c.tc : Thread Cert.AdamLruRefIdeal.nD Cert.AdamLruRefIdeal.τ).loc Cert.AdamLruRefIdeal.main_arg5) = m ((c.tc : Thread Cert.AdamLruIdeal.nD Cert.AdamLruIdeal.τ).loc Cert.AdamLruIdeal.main_arg5)) →
    ∃ (v0 : (c : Dev Cert.AdamLruIdeal.nD) → Buf (Elt Ideal) ((c.tc : Thread Cert.AdamLruIdeal.nD Cert.AdamLruIdeal.τ).loc Cert.AdamLruIdeal.main_v1_0)) (v1 : (c : Dev Cert.AdamLruIdeal.nD) → Buf (Elt Ideal) ((c.tc : Thread Cert.AdamLruIdeal.nD Cert.AdamLruIdeal.τ).loc Cert.AdamLruIdeal.main_v1_1)) (v2 : (c : Dev Cert.AdamLruIdeal.nD) → Buf (Elt Ideal) ((c.tc : Thread Cert.AdamLruIdeal.nD Cert.AdamLruIdeal.τ).loc Cert.AdamLruIdeal.main_v1_2)) (v3 : (c : Dev Cert.AdamLruIdeal.nD) → Buf (Elt Ideal) ((c.tc : Thread Cert.AdamLruIdeal.nD Cert.AdamLruIdeal.τ).loc Cert.AdamLruIdeal.main_v1_3)),
      θ_run (Cert.AdamLruIdeal.defs (F := Ideal)) (onTc (τ := Cert.AdamLruIdeal.τ) (Cert.AdamLruIdeal.main (F := Ideal))) ⟨m, fun _ => 0, g⟩ (fun r => ∀ c : Dev Cert.AdamLruIdeal.nD,
          r.2.mem ((c.tc : Thread Cert.AdamLruIdeal.nD Cert.AdamLruIdeal.τ).loc Cert.AdamLruIdeal.main_v1_0) = v0 c
          ∧ r.2.mem ((c.tc : Thread Cert.AdamLruIdeal.nD Cert.AdamLruIdeal.τ).loc Cert.AdamLruIdeal.main_v1_1) = v1 c
          ∧ r.2.mem ((c.tc : Thread Cert.AdamLruIdeal.nD Cert.AdamLruIdeal.τ).loc Cert.AdamLruIdeal.main_v1_2) = v2 c
          ∧ r.2.mem ((c.tc : Thread Cert.AdamLruIdeal.nD Cert.AdamLruIdeal.τ).loc Cert.AdamLruIdeal.main_v1_3) = v3 c
          ∧ r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
          ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
          ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
          ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3)
          ∧ r.2.mem ((c.tc : Thread Cert.AdamLruIdeal.nD Cert.AdamLruIdeal.τ).loc Cert.AdamLruIdeal.main_arg4) = m ((c.tc : Thread Cert.AdamLruIdeal.nD Cert.AdamLruIdeal.τ).loc Cert.AdamLruIdeal.main_arg4)
          ∧ r.2.mem ((c.tc : Thread Cert.AdamLruIdeal.nD Cert.AdamLruIdeal.τ).loc Cert.AdamLruIdeal.main_arg5) = m ((c.tc : Thread Cert.AdamLruIdeal.nD Cert.AdamLruIdeal.τ).loc Cert.AdamLruIdeal.main_arg5))
      ∧ θ_run (Cert.AdamLruRefIdeal.defs (F := Ideal)) (onTc (τ := Cert.AdamLruRefIdeal.τ) (Cert.AdamLruRefIdeal.main (F := Ideal))) ⟨m', fun _ => 0, g'⟩ (fun r => ∀ c : Dev Cert.AdamLruRefIdeal.nD,
          r.2.mem ((c.tc : Thread Cert.AdamLruRefIdeal.nD Cert.AdamLruRefIdeal.τ).loc Cert.AdamLruRefIdeal.main_v5) = v0 c
          ∧ r.2.mem ((c.tc : Thread Cert.AdamLruRefIdeal.nD Cert.AdamLruRefIdeal.τ).loc Cert.AdamLruRefIdeal.main_v29) = v1 c
          ∧ r.2.mem ((c.tc : Thread Cert.AdamLruRefIdeal.nD Cert.AdamLruRefIdeal.τ).loc Cert.AdamLruRefIdeal.main_v10) = v2 c
          ∧ r.2.mem ((c.tc : Thread Cert.AdamLruRefIdeal.nD Cert.AdamLruRefIdeal.τ).loc Cert.AdamLruRefIdeal.main_v16) = v3 c
          ∧ r.2.mem ((c.tc : Thread Cert.AdamLruRefIdeal.nD Cert.AdamLruRefIdeal.τ).loc Cert.AdamLruRefIdeal.main_arg0) = m' ((c.tc : Thread Cert.AdamLruRefIdeal.nD Cert.AdamLruRefIdeal.τ).loc Cert.AdamLruRefIdeal.main_arg0)
          ∧ r.2.mem ((c.tc : Thread Cert.AdamLruRefIdeal.nD Cert.AdamLruRefIdeal.τ).loc Cert.AdamLruRefIdeal.main_arg1) = m' ((c.tc : Thread Cert.AdamLruRefIdeal.nD Cert.AdamLruRefIdeal.τ).loc Cert.AdamLruRefIdeal.main_arg1)
          ∧ r.2.mem ((c.tc : Thread Cert.AdamLruRefIdeal.nD Cert.AdamLruRefIdeal.τ).loc Cert.AdamLruRefIdeal.main_arg2) = m' ((c.tc : Thread Cert.AdamLruRefIdeal.nD Cert.AdamLruRefIdeal.τ).loc Cert.AdamLruRefIdeal.main_arg2)
          ∧ r.2.mem ((c.tc : Thread Cert.AdamLruRefIdeal.nD Cert.AdamLruRefIdeal.τ).loc Cert.AdamLruRefIdeal.main_arg3) = m' ((c.tc : Thread Cert.AdamLruRefIdeal.nD Cert.AdamLruRefIdeal.τ).loc Cert.AdamLruRefIdeal.main_arg3)
          ∧ r.2.mem ((c.tc : Thread Cert.AdamLruRefIdeal.nD Cert.AdamLruRefIdeal.τ).loc Cert.AdamLruRefIdeal.main_arg4) = m' ((c.tc : Thread Cert.AdamLruRefIdeal.nD Cert.AdamLruRefIdeal.τ).loc Cert.AdamLruRefIdeal.main_arg4)
          ∧ r.2.mem ((c.tc : Thread Cert.AdamLruRefIdeal.nD Cert.AdamLruRefIdeal.τ).loc Cert.AdamLruRefIdeal.main_arg5) = m' ((c.tc : Thread Cert.AdamLruRefIdeal.nD Cert.AdamLruRefIdeal.τ).loc Cert.AdamLruRefIdeal.main_arg5))

def preserves_AdamFf1_AdamFf1Ideal : Prop :=
  True

def algebraic_AdamFf1Ideal_AdamFf1RefIdeal [hAdamFf1Ideal : Cert.AdamFf1Ideal.Facts] [hAdamFf1RefIdeal : Cert.AdamFf1RefIdeal.Facts] : Prop :=
  ∀ (m : (ℓ : Loc Cert.AdamFf1Ideal.nD Cert.AdamFf1Ideal.τ Cert.AdamFf1Ideal.sig) → Buf (Elt Ideal) ℓ) (g : Dev Cert.AdamFf1Ideal.nD → PrngReg)
    (m' : (ℓ : Loc Cert.AdamFf1RefIdeal.nD Cert.AdamFf1RefIdeal.τ Cert.AdamFf1RefIdeal.sig) → Buf (Elt Ideal) ℓ) (g' : Dev Cert.AdamFf1RefIdeal.nD → PrngReg), Pre_AdamFf1Ideal m →
    (∀ c : Dev Cert.AdamFf1Ideal.nD,
      m' ((c.tc : Thread Cert.AdamFf1RefIdeal.nD Cert.AdamFf1RefIdeal.τ).loc Cert.AdamFf1RefIdeal.main_arg0) = m ((c.tc : Thread Cert.AdamFf1Ideal.nD Cert.AdamFf1Ideal.τ).loc Cert.AdamFf1Ideal.main_arg0)
      ∧ m' ((c.tc : Thread Cert.AdamFf1RefIdeal.nD Cert.AdamFf1RefIdeal.τ).loc Cert.AdamFf1RefIdeal.main_arg1) = m ((c.tc : Thread Cert.AdamFf1Ideal.nD Cert.AdamFf1Ideal.τ).loc Cert.AdamFf1Ideal.main_arg1)
      ∧ m' ((c.tc : Thread Cert.AdamFf1RefIdeal.nD Cert.AdamFf1RefIdeal.τ).loc Cert.AdamFf1RefIdeal.main_arg2) = m ((c.tc : Thread Cert.AdamFf1Ideal.nD Cert.AdamFf1Ideal.τ).loc Cert.AdamFf1Ideal.main_arg2)
      ∧ m' ((c.tc : Thread Cert.AdamFf1RefIdeal.nD Cert.AdamFf1RefIdeal.τ).loc Cert.AdamFf1RefIdeal.main_arg3) = m ((c.tc : Thread Cert.AdamFf1Ideal.nD Cert.AdamFf1Ideal.τ).loc Cert.AdamFf1Ideal.main_arg3)
      ∧ m' ((c.tc : Thread Cert.AdamFf1RefIdeal.nD Cert.AdamFf1RefIdeal.τ).loc Cert.AdamFf1RefIdeal.main_arg4) = m ((c.tc : Thread Cert.AdamFf1Ideal.nD Cert.AdamFf1Ideal.τ).loc Cert.AdamFf1Ideal.main_arg4)
      ∧ m' ((c.tc : Thread Cert.AdamFf1RefIdeal.nD Cert.AdamFf1RefIdeal.τ).loc Cert.AdamFf1RefIdeal.main_arg5) = m ((c.tc : Thread Cert.AdamFf1Ideal.nD Cert.AdamFf1Ideal.τ).loc Cert.AdamFf1Ideal.main_arg5)) →
    ∃ (v0 : (c : Dev Cert.AdamFf1Ideal.nD) → Buf (Elt Ideal) ((c.tc : Thread Cert.AdamFf1Ideal.nD Cert.AdamFf1Ideal.τ).loc Cert.AdamFf1Ideal.main_v1_0)) (v1 : (c : Dev Cert.AdamFf1Ideal.nD) → Buf (Elt Ideal) ((c.tc : Thread Cert.AdamFf1Ideal.nD Cert.AdamFf1Ideal.τ).loc Cert.AdamFf1Ideal.main_v1_1)) (v2 : (c : Dev Cert.AdamFf1Ideal.nD) → Buf (Elt Ideal) ((c.tc : Thread Cert.AdamFf1Ideal.nD Cert.AdamFf1Ideal.τ).loc Cert.AdamFf1Ideal.main_v1_2)) (v3 : (c : Dev Cert.AdamFf1Ideal.nD) → Buf (Elt Ideal) ((c.tc : Thread Cert.AdamFf1Ideal.nD Cert.AdamFf1Ideal.τ).loc Cert.AdamFf1Ideal.main_v1_3)),
      θ_run (Cert.AdamFf1Ideal.defs (F := Ideal)) (onTc (τ := Cert.AdamFf1Ideal.τ) (Cert.AdamFf1Ideal.main (F := Ideal))) ⟨m, fun _ => 0, g⟩ (fun r => ∀ c : Dev Cert.AdamFf1Ideal.nD,
          r.2.mem ((c.tc : Thread Cert.AdamFf1Ideal.nD Cert.AdamFf1Ideal.τ).loc Cert.AdamFf1Ideal.main_v1_0) = v0 c
          ∧ r.2.mem ((c.tc : Thread Cert.AdamFf1Ideal.nD Cert.AdamFf1Ideal.τ).loc Cert.AdamFf1Ideal.main_v1_1) = v1 c
          ∧ r.2.mem ((c.tc : Thread Cert.AdamFf1Ideal.nD Cert.AdamFf1Ideal.τ).loc Cert.AdamFf1Ideal.main_v1_2) = v2 c
          ∧ r.2.mem ((c.tc : Thread Cert.AdamFf1Ideal.nD Cert.AdamFf1Ideal.τ).loc Cert.AdamFf1Ideal.main_v1_3) = v3 c
          ∧ r.2.mem ((c.tc : Thread Cert.AdamFf1Ideal.nD Cert.AdamFf1Ideal.τ).loc Cert.AdamFf1Ideal.main_arg0) = m ((c.tc : Thread Cert.AdamFf1Ideal.nD Cert.AdamFf1Ideal.τ).loc Cert.AdamFf1Ideal.main_arg0)
          ∧ r.2.mem ((c.tc : Thread Cert.AdamFf1Ideal.nD Cert.AdamFf1Ideal.τ).loc Cert.AdamFf1Ideal.main_arg1) = m ((c.tc : Thread Cert.AdamFf1Ideal.nD Cert.AdamFf1Ideal.τ).loc Cert.AdamFf1Ideal.main_arg1)
          ∧ r.2.mem ((c.tc : Thread Cert.AdamFf1Ideal.nD Cert.AdamFf1Ideal.τ).loc Cert.AdamFf1Ideal.main_arg2) = m ((c.tc : Thread Cert.AdamFf1Ideal.nD Cert.AdamFf1Ideal.τ).loc Cert.AdamFf1Ideal.main_arg2)
          ∧ r.2.mem ((c.tc : Thread Cert.AdamFf1Ideal.nD Cert.AdamFf1Ideal.τ).loc Cert.AdamFf1Ideal.main_arg3) = m ((c.tc : Thread Cert.AdamFf1Ideal.nD Cert.AdamFf1Ideal.τ).loc Cert.AdamFf1Ideal.main_arg3)
          ∧ r.2.mem ((c.tc : Thread Cert.AdamFf1Ideal.nD Cert.AdamFf1Ideal.τ).loc Cert.AdamFf1Ideal.main_arg4) = m ((c.tc : Thread Cert.AdamFf1Ideal.nD Cert.AdamFf1Ideal.τ).loc Cert.AdamFf1Ideal.main_arg4)
          ∧ r.2.mem ((c.tc : Thread Cert.AdamFf1Ideal.nD Cert.AdamFf1Ideal.τ).loc Cert.AdamFf1Ideal.main_arg5) = m ((c.tc : Thread Cert.AdamFf1Ideal.nD Cert.AdamFf1Ideal.τ).loc Cert.AdamFf1Ideal.main_arg5))
      ∧ θ_run (Cert.AdamFf1RefIdeal.defs (F := Ideal)) (onTc (τ := Cert.AdamFf1RefIdeal.τ) (Cert.AdamFf1RefIdeal.main (F := Ideal))) ⟨m', fun _ => 0, g'⟩ (fun r => ∀ c : Dev Cert.AdamFf1RefIdeal.nD,
          r.2.mem ((c.tc : Thread Cert.AdamFf1RefIdeal.nD Cert.AdamFf1RefIdeal.τ).loc Cert.AdamFf1RefIdeal.main_v5) = v0 c
          ∧ r.2.mem ((c.tc : Thread Cert.AdamFf1RefIdeal.nD Cert.AdamFf1RefIdeal.τ).loc Cert.AdamFf1RefIdeal.main_v29) = v1 c
          ∧ r.2.mem ((c.tc : Thread Cert.AdamFf1RefIdeal.nD Cert.AdamFf1RefIdeal.τ).loc Cert.AdamFf1RefIdeal.main_v10) = v2 c
          ∧ r.2.mem ((c.tc : Thread Cert.AdamFf1RefIdeal.nD Cert.AdamFf1RefIdeal.τ).loc Cert.AdamFf1RefIdeal.main_v16) = v3 c
          ∧ r.2.mem ((c.tc : Thread Cert.AdamFf1RefIdeal.nD Cert.AdamFf1RefIdeal.τ).loc Cert.AdamFf1RefIdeal.main_arg0) = m' ((c.tc : Thread Cert.AdamFf1RefIdeal.nD Cert.AdamFf1RefIdeal.τ).loc Cert.AdamFf1RefIdeal.main_arg0)
          ∧ r.2.mem ((c.tc : Thread Cert.AdamFf1RefIdeal.nD Cert.AdamFf1RefIdeal.τ).loc Cert.AdamFf1RefIdeal.main_arg1) = m' ((c.tc : Thread Cert.AdamFf1RefIdeal.nD Cert.AdamFf1RefIdeal.τ).loc Cert.AdamFf1RefIdeal.main_arg1)
          ∧ r.2.mem ((c.tc : Thread Cert.AdamFf1RefIdeal.nD Cert.AdamFf1RefIdeal.τ).loc Cert.AdamFf1RefIdeal.main_arg2) = m' ((c.tc : Thread Cert.AdamFf1RefIdeal.nD Cert.AdamFf1RefIdeal.τ).loc Cert.AdamFf1RefIdeal.main_arg2)
          ∧ r.2.mem ((c.tc : Thread Cert.AdamFf1RefIdeal.nD Cert.AdamFf1RefIdeal.τ).loc Cert.AdamFf1RefIdeal.main_arg3) = m' ((c.tc : Thread Cert.AdamFf1RefIdeal.nD Cert.AdamFf1RefIdeal.τ).loc Cert.AdamFf1RefIdeal.main_arg3)
          ∧ r.2.mem ((c.tc : Thread Cert.AdamFf1RefIdeal.nD Cert.AdamFf1RefIdeal.τ).loc Cert.AdamFf1RefIdeal.main_arg4) = m' ((c.tc : Thread Cert.AdamFf1RefIdeal.nD Cert.AdamFf1RefIdeal.τ).loc Cert.AdamFf1RefIdeal.main_arg4)
          ∧ r.2.mem ((c.tc : Thread Cert.AdamFf1RefIdeal.nD Cert.AdamFf1RefIdeal.τ).loc Cert.AdamFf1RefIdeal.main_arg5) = m' ((c.tc : Thread Cert.AdamFf1RefIdeal.nD Cert.AdamFf1RefIdeal.τ).loc Cert.AdamFf1RefIdeal.main_arg5))

def Claim : Prop :=
  ∃ (hDhdn : Cert.Dhdn.Facts) (hDhdnIdeal : Cert.DhdnIdeal.Facts) (hDhdnRefIdeal : Cert.DhdnRefIdeal.Facts) (hDwFf2 : Cert.DwFf2.Facts) (hDwFf2Ideal : Cert.DwFf2Ideal.Facts) (hDwFf2RefIdeal : Cert.DwFf2RefIdeal.Facts) (hDwFf1 : Cert.DwFf1.Facts) (hDwFf1Ideal : Cert.DwFf1Ideal.Facts) (hDwFf1RefIdeal : Cert.DwFf1RefIdeal.Facts) (hDx1 : Cert.Dx1.Facts) (hDx1Ideal : Cert.Dx1Ideal.Facts) (hDx1RefIdeal : Cert.Dx1RefIdeal.Facts) (hDwOut : Cert.DwOut.Facts) (hDwOutIdeal : Cert.DwOutIdeal.Facts) (hDwOutRefIdeal : Cert.DwOutRefIdeal.Facts) (hDwPoolUp : Cert.DwPoolUp.Facts) (hDwPoolUpIdeal : Cert.DwPoolUpIdeal.Facts) (hDwPoolUpRefIdeal : Cert.DwPoolUpRefIdeal.Facts) (hDwLruUp : Cert.DwLruUp.Facts) (hDwLruUpIdeal : Cert.DwLruUpIdeal.Facts) (hDwLruUpRefIdeal : Cert.DwLruUpRefIdeal.Facts) (hDyPool : Cert.DyPool.Facts) (hDyPoolIdeal : Cert.DyPoolIdeal.Facts) (hDyPoolRefIdeal : Cert.DyPoolRefIdeal.Facts) (hDwInLo : Cert.DwInLo.Facts) (hDwInLoIdeal : Cert.DwInLoIdeal.Facts) (hDwInLoRefIdeal : Cert.DwInLoRefIdeal.Facts) (hDwInHi : Cert.DwInHi.Facts) (hDwInHiIdeal : Cert.DwInHiIdeal.Facts) (hDwInHiRefIdeal : Cert.DwInHiRefIdeal.Facts) (hDx : Cert.Dx.Facts) (hDxIdeal : Cert.DxIdeal.Facts) (hDxRefIdeal : Cert.DxRefIdeal.Facts) (hDm : Cert.Dm.Facts) (hDmIdeal : Cert.DmIdeal.Facts) (hDmRefIdeal : Cert.DmRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hMerge : Cert.Merge.Facts) (hMergeIdeal : Cert.MergeIdeal.Facts) (hMergeRefIdeal : Cert.MergeRefIdeal.Facts) (hOutLn1 : Cert.OutLn1.Facts) (hOutLn1Ideal : Cert.OutLn1Ideal.Facts) (hOutLn1RefIdeal : Cert.OutLn1RefIdeal.Facts) (hZProj : Cert.ZProj.Facts) (hZProjIdeal : Cert.ZProjIdeal.Facts) (hZProjRefIdeal : Cert.ZProjRefIdeal.Facts) (hLn1 : Cert.Ln1.Facts) (hLn1Ideal : Cert.Ln1Ideal.Facts) (hLn1RefIdeal : Cert.Ln1RefIdeal.Facts) (hLn2 : Cert.Ln2.Facts) (hLn2Ideal : Cert.Ln2Ideal.Facts) (hLn2RefIdeal : Cert.Ln2RefIdeal.Facts) (hAdamRep : Cert.AdamRep.Facts) (hAdamRepIdeal : Cert.AdamRepIdeal.Facts) (hAdamRepRefIdeal : Cert.AdamRepRefIdeal.Facts) (hAdamSharded : Cert.AdamSharded.Facts) (hAdamShardedIdeal : Cert.AdamShardedIdeal.Facts) (hAdamShardedRefIdeal : Cert.AdamShardedRefIdeal.Facts) (hConv : Cert.Conv.Facts) (hConvIdeal : Cert.ConvIdeal.Facts) (hConvRefIdeal : Cert.ConvRefIdeal.Facts) (hDyLru : Cert.DyLru.Facts) (hDyLruIdeal : Cert.DyLruIdeal.Facts) (hDyLruRefIdeal : Cert.DyLruRefIdeal.Facts) (hAdamOut : Cert.AdamOut.Facts) (hAdamOutIdeal : Cert.AdamOutIdeal.Facts) (hAdamOutRefIdeal : Cert.AdamOutRefIdeal.Facts) (hAdamFf2 : Cert.AdamFf2.Facts) (hAdamFf2Ideal : Cert.AdamFf2Ideal.Facts) (hAdamFf2RefIdeal : Cert.AdamFf2RefIdeal.Facts) (hAdamPool : Cert.AdamPool.Facts) (hAdamPoolIdeal : Cert.AdamPoolIdeal.Facts) (hAdamPoolRefIdeal : Cert.AdamPoolRefIdeal.Facts) (hAdamLru : Cert.AdamLru.Facts) (hAdamLruIdeal : Cert.AdamLruIdeal.Facts) (hAdamLruRefIdeal : Cert.AdamLruRefIdeal.Facts) (hAdamFf1 : Cert.AdamFf1.Facts) (hAdamFf1Ideal : Cert.AdamFf1Ideal.Facts) (hAdamFf1RefIdeal : Cert.AdamFf1RefIdeal.Facts),
    quiescent_Dhdn (hDhdn := hDhdn)
    ∧ quiescent_DhdnIdeal (hDhdnIdeal := hDhdnIdeal)
    ∧ quiescent_DhdnRefIdeal (hDhdnRefIdeal := hDhdnRefIdeal)
    ∧ quiescent_DwFf2 (hDwFf2 := hDwFf2)
    ∧ quiescent_DwFf2Ideal (hDwFf2Ideal := hDwFf2Ideal)
    ∧ quiescent_DwFf2RefIdeal (hDwFf2RefIdeal := hDwFf2RefIdeal)
    ∧ quiescent_DwFf1 (hDwFf1 := hDwFf1)
    ∧ quiescent_DwFf1Ideal (hDwFf1Ideal := hDwFf1Ideal)
    ∧ quiescent_DwFf1RefIdeal (hDwFf1RefIdeal := hDwFf1RefIdeal)
    ∧ quiescent_Dx1 (hDx1 := hDx1)
    ∧ quiescent_Dx1Ideal (hDx1Ideal := hDx1Ideal)
    ∧ quiescent_Dx1RefIdeal (hDx1RefIdeal := hDx1RefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwPoolUp (hDwPoolUp := hDwPoolUp)
    ∧ quiescent_DwPoolUpIdeal (hDwPoolUpIdeal := hDwPoolUpIdeal)
    ∧ quiescent_DwPoolUpRefIdeal (hDwPoolUpRefIdeal := hDwPoolUpRefIdeal)
    ∧ quiescent_DwLruUp (hDwLruUp := hDwLruUp)
    ∧ quiescent_DwLruUpIdeal (hDwLruUpIdeal := hDwLruUpIdeal)
    ∧ quiescent_DwLruUpRefIdeal (hDwLruUpRefIdeal := hDwLruUpRefIdeal)
    ∧ quiescent_DyPool (hDyPool := hDyPool)
    ∧ quiescent_DyPoolIdeal (hDyPoolIdeal := hDyPoolIdeal)
    ∧ quiescent_DyPoolRefIdeal (hDyPoolRefIdeal := hDyPoolRefIdeal)
    ∧ quiescent_DwInLo (hDwInLo := hDwInLo)
    ∧ quiescent_DwInLoIdeal (hDwInLoIdeal := hDwInLoIdeal)
    ∧ quiescent_DwInLoRefIdeal (hDwInLoRefIdeal := hDwInLoRefIdeal)
    ∧ quiescent_DwInHi (hDwInHi := hDwInHi)
    ∧ quiescent_DwInHiIdeal (hDwInHiIdeal := hDwInHiIdeal)
    ∧ quiescent_DwInHiRefIdeal (hDwInHiRefIdeal := hDwInHiRefIdeal)
    ∧ quiescent_Dx (hDx := hDx)
    ∧ quiescent_DxIdeal (hDxIdeal := hDxIdeal)
    ∧ quiescent_DxRefIdeal (hDxRefIdeal := hDxRefIdeal)
    ∧ quiescent_Dm (hDm := hDm)
    ∧ quiescent_DmIdeal (hDmIdeal := hDmIdeal)
    ∧ quiescent_DmRefIdeal (hDmRefIdeal := hDmRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Merge (hMerge := hMerge)
    ∧ quiescent_MergeIdeal (hMergeIdeal := hMergeIdeal)
    ∧ quiescent_MergeRefIdeal (hMergeRefIdeal := hMergeRefIdeal)
    ∧ quiescent_OutLn1 (hOutLn1 := hOutLn1)
    ∧ quiescent_OutLn1Ideal (hOutLn1Ideal := hOutLn1Ideal)
    ∧ quiescent_OutLn1RefIdeal (hOutLn1RefIdeal := hOutLn1RefIdeal)
    ∧ quiescent_ZProj (hZProj := hZProj)
    ∧ quiescent_ZProjIdeal (hZProjIdeal := hZProjIdeal)
    ∧ quiescent_ZProjRefIdeal (hZProjRefIdeal := hZProjRefIdeal)
    ∧ quiescent_Ln1 (hLn1 := hLn1)
    ∧ quiescent_Ln1Ideal (hLn1Ideal := hLn1Ideal)
    ∧ quiescent_Ln1RefIdeal (hLn1RefIdeal := hLn1RefIdeal)
    ∧ quiescent_Ln2 (hLn2 := hLn2)
    ∧ quiescent_Ln2Ideal (hLn2Ideal := hLn2Ideal)
    ∧ quiescent_Ln2RefIdeal (hLn2RefIdeal := hLn2RefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_AdamSharded (hAdamSharded := hAdamSharded)
    ∧ quiescent_AdamShardedIdeal (hAdamShardedIdeal := hAdamShardedIdeal)
    ∧ quiescent_AdamShardedRefIdeal (hAdamShardedRefIdeal := hAdamShardedRefIdeal)
    ∧ quiescent_Conv (hConv := hConv)
    ∧ quiescent_ConvIdeal (hConvIdeal := hConvIdeal)
    ∧ quiescent_ConvRefIdeal (hConvRefIdeal := hConvRefIdeal)
    ∧ quiescent_DyLru (hDyLru := hDyLru)
    ∧ quiescent_DyLruIdeal (hDyLruIdeal := hDyLruIdeal)
    ∧ quiescent_DyLruRefIdeal (hDyLruRefIdeal := hDyLruRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFf2 (hAdamFf2 := hAdamFf2)
    ∧ quiescent_AdamFf2Ideal (hAdamFf2Ideal := hAdamFf2Ideal)
    ∧ quiescent_AdamFf2RefIdeal (hAdamFf2RefIdeal := hAdamFf2RefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamLru (hAdamLru := hAdamLru)
    ∧ quiescent_AdamLruIdeal (hAdamLruIdeal := hAdamLruIdeal)
    ∧ quiescent_AdamLruRefIdeal (hAdamLruRefIdeal := hAdamLruRefIdeal)
    ∧ quiescent_AdamFf1 (hAdamFf1 := hAdamFf1)
    ∧ quiescent_AdamFf1Ideal (hAdamFf1Ideal := hAdamFf1Ideal)
    ∧ quiescent_AdamFf1RefIdeal (hAdamFf1RefIdeal := hAdamFf1RefIdeal)
    ∧ preserves_Dhdn_DhdnIdeal
    ∧ algebraic_DhdnIdeal_DhdnRefIdeal (hDhdnIdeal := hDhdnIdeal) (hDhdnRefIdeal := hDhdnRefIdeal)
    ∧ preserves_DwFf2_DwFf2Ideal
    ∧ algebraic_DwFf2Ideal_DwFf2RefIdeal (hDwFf2Ideal := hDwFf2Ideal) (hDwFf2RefIdeal := hDwFf2RefIdeal)
    ∧ preserves_DwFf1_DwFf1Ideal
    ∧ algebraic_DwFf1Ideal_DwFf1RefIdeal (hDwFf1Ideal := hDwFf1Ideal) (hDwFf1RefIdeal := hDwFf1RefIdeal)
    ∧ preserves_Dx1_Dx1Ideal
    ∧ algebraic_Dx1Ideal_Dx1RefIdeal (hDx1Ideal := hDx1Ideal) (hDx1RefIdeal := hDx1RefIdeal)
    ∧ preserves_DwOut_DwOutIdeal
    ∧ algebraic_DwOutIdeal_DwOutRefIdeal (hDwOutIdeal := hDwOutIdeal) (hDwOutRefIdeal := hDwOutRefIdeal)
    ∧ preserves_DwPoolUp_DwPoolUpIdeal
    ∧ algebraic_DwPoolUpIdeal_DwPoolUpRefIdeal (hDwPoolUpIdeal := hDwPoolUpIdeal) (hDwPoolUpRefIdeal := hDwPoolUpRefIdeal)
    ∧ preserves_DwLruUp_DwLruUpIdeal
    ∧ algebraic_DwLruUpIdeal_DwLruUpRefIdeal (hDwLruUpIdeal := hDwLruUpIdeal) (hDwLruUpRefIdeal := hDwLruUpRefIdeal)
    ∧ preserves_DyPool_DyPoolIdeal
    ∧ algebraic_DyPoolIdeal_DyPoolRefIdeal (hDyPoolIdeal := hDyPoolIdeal) (hDyPoolRefIdeal := hDyPoolRefIdeal)
    ∧ preserves_DwInLo_DwInLoIdeal
    ∧ algebraic_DwInLoIdeal_DwInLoRefIdeal (hDwInLoIdeal := hDwInLoIdeal) (hDwInLoRefIdeal := hDwInLoRefIdeal)
    ∧ preserves_DwInHi_DwInHiIdeal
    ∧ algebraic_DwInHiIdeal_DwInHiRefIdeal (hDwInHiIdeal := hDwInHiIdeal) (hDwInHiRefIdeal := hDwInHiRefIdeal)
    ∧ preserves_Dx_DxIdeal
    ∧ algebraic_DxIdeal_DxRefIdeal (hDxIdeal := hDxIdeal) (hDxRefIdeal := hDxRefIdeal)
    ∧ preserves_Dm_DmIdeal
    ∧ algebraic_DmIdeal_DmRefIdeal (hDmIdeal := hDmIdeal) (hDmRefIdeal := hDmRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_Merge_MergeIdeal
    ∧ algebraic_MergeIdeal_MergeRefIdeal (hMergeIdeal := hMergeIdeal) (hMergeRefIdeal := hMergeRefIdeal)
    ∧ preserves_OutLn1_OutLn1Ideal
    ∧ algebraic_OutLn1Ideal_OutLn1RefIdeal (hOutLn1Ideal := hOutLn1Ideal) (hOutLn1RefIdeal := hOutLn1RefIdeal)
    ∧ preserves_ZProj_ZProjIdeal
    ∧ algebraic_ZProjIdeal_ZProjRefIdeal (hZProjIdeal := hZProjIdeal) (hZProjRefIdeal := hZProjRefIdeal)
    ∧ preserves_Ln1_Ln1Ideal
    ∧ algebraic_Ln1Ideal_Ln1RefIdeal (hLn1Ideal := hLn1Ideal) (hLn1RefIdeal := hLn1RefIdeal)
    ∧ preserves_Ln2_Ln2Ideal
    ∧ algebraic_Ln2Ideal_Ln2RefIdeal (hLn2Ideal := hLn2Ideal) (hLn2RefIdeal := hLn2RefIdeal)
    ∧ preserves_AdamRep_AdamRepIdeal
    ∧ algebraic_AdamRepIdeal_AdamRepRefIdeal (hAdamRepIdeal := hAdamRepIdeal) (hAdamRepRefIdeal := hAdamRepRefIdeal)
    ∧ preserves_AdamSharded_AdamShardedIdeal
    ∧ algebraic_AdamShardedIdeal_AdamShardedRefIdeal (hAdamShardedIdeal := hAdamShardedIdeal) (hAdamShardedRefIdeal := hAdamShardedRefIdeal)
    ∧ preserves_Conv_ConvIdeal
    ∧ algebraic_ConvIdeal_ConvRefIdeal (hConvIdeal := hConvIdeal) (hConvRefIdeal := hConvRefIdeal)
    ∧ preserves_DyLru_DyLruIdeal
    ∧ algebraic_DyLruIdeal_DyLruRefIdeal (hDyLruIdeal := hDyLruIdeal) (hDyLruRefIdeal := hDyLruRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFf2_AdamFf2Ideal
    ∧ algebraic_AdamFf2Ideal_AdamFf2RefIdeal (hAdamFf2Ideal := hAdamFf2Ideal) (hAdamFf2RefIdeal := hAdamFf2RefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamLru_AdamLruIdeal
    ∧ algebraic_AdamLruIdeal_AdamLruRefIdeal (hAdamLruIdeal := hAdamLruIdeal) (hAdamLruRefIdeal := hAdamLruRefIdeal)
    ∧ preserves_AdamFf1_AdamFf1Ideal
    ∧ algebraic_AdamFf1Ideal_AdamFf1RefIdeal (hAdamFf1Ideal := hAdamFf1Ideal) (hAdamFf1RefIdeal := hAdamFf1RefIdeal)
-- ==== Dhdn.lean ====
abbrev S4096x8192 : Shape := ⟨2, ![4096, 8192]⟩
abbrev S8192 : Shape := ⟨1, ![8192]⟩
abbrev S8192x2048 : Shape := ⟨2, ![8192, 2048]⟩
abbrev S4096x2048 : Shape := ⟨2, ![4096, 2048]⟩
abbrev S1x8192 : Shape := ⟨2, ![1, 8192]⟩
abbrev S_ : Shape := ⟨0, ![]⟩
abbrev S8x8192 : Shape := ⟨2, ![8, 8192]⟩
abbrev S1024x2048 : Shape := ⟨2, ![1024, 2048]⟩
abbrev S1024x1024 : Shape := ⟨2, ![1024, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 15
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192x2048, .f32⟩
  | .hbm, ⟨3, _⟩ => ⟨S4096x2048, .f32⟩
  | .hbm, ⟨4, _⟩ => ⟨S1x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x2048, .bf16⟩
  | .hbm, ⟨12, _⟩ => ⟨S8192x2048, .bf16⟩
  | .hbm, ⟨13, _⟩ => ⟨S4096x8192, .bf16⟩
  | .hbm, ⟨14, _⟩ => ⟨S8x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x1024, .f32⟩
  | .local _ .vmem, ⟨9, _⟩ => ⟨S8x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== DhdnIdeal.lean ====
abbrev S4096x8192 : Shape := ⟨2, ![4096, 8192]⟩
abbrev S8192 : Shape := ⟨1, ![8192]⟩
abbrev S8192x2048 : Shape := ⟨2, ![8192, 2048]⟩
abbrev S4096x2048 : Shape := ⟨2, ![4096, 2048]⟩
abbrev S1x8192 : Shape := ⟨2, ![1, 8192]⟩
abbrev S_ : Shape := ⟨0, ![]⟩
abbrev S8x8192 : Shape := ⟨2, ![8, 8192]⟩
abbrev S1024x2048 : Shape := ⟨2, ![1024, 2048]⟩
abbrev S1024x1024 : Shape := ⟨2, ![1024, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 15
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192x2048, .f32⟩
  | .hbm, ⟨3, _⟩ => ⟨S4096x2048, .f32⟩
  | .hbm, ⟨4, _⟩ => ⟨S1x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x2048, .bf16⟩
  | .hbm, ⟨12, _⟩ => ⟨S8192x2048, .bf16⟩
  | .hbm, ⟨13, _⟩ => ⟨S4096x8192, .bf16⟩
  | .hbm, ⟨14, _⟩ => ⟨S8x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x1024, .f32⟩
  | .local _ .vmem, ⟨9, _⟩ => ⟨S8x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== DhdnRefIdeal.lean ====
abbrev S4096x8192 : Shape := ⟨2, ![4096, 8192]⟩
abbrev S8192 : Shape := ⟨1, ![8192]⟩
abbrev S8192x2048 : Shape := ⟨2, ![8192, 2048]⟩
abbrev S4096x2048 : Shape := ⟨2, ![4096, 2048]⟩
abbrev S1x8192 : Shape := ⟨2, ![1, 8192]⟩
abbrev S_ : Shape := ⟨0, ![]⟩
abbrev S7x8192 : Shape := ⟨2, ![7, 8192]⟩
abbrev S8x8192 : Shape := ⟨2, ![8, 8192]⟩

abbrev nBuf : Space → Nat
  | .hbm => 35
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192x2048, .f32⟩
  | .hbm, ⟨3, _⟩ => ⟨S4096x2048, .f32⟩
  | .hbm, ⟨4, _⟩ => ⟨S1x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .i1⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S8192, .f32⟩
  | .hbm, ⟨27, _⟩ => ⟨S1x8192, .f32⟩
  | .hbm, ⟨28, _⟩ => ⟨S_, .f32⟩
  | .hbm, ⟨29, _⟩ => ⟨S8192, .f32⟩
  | .hbm, ⟨30, _⟩ => ⟨S4096x8192, .bf16⟩
  | .hbm, ⟨31, _⟩ => ⟨S1x8192, .f32⟩
  | .hbm, ⟨32, _⟩ => ⟨S_, .f32⟩
  | .hbm, ⟨33, _⟩ => ⟨S7x8192, .f32⟩
  | .hbm, ⟨34, _⟩ => ⟨S8x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== DwFf2.lean ====
abbrev S4096x8192 : Shape := ⟨2, ![4096, 8192]⟩
abbrev S8192 : Shape := ⟨1, ![8192]⟩
abbrev S8192x2048 : Shape := ⟨2, ![8192, 2048]⟩
abbrev S4096x2048 : Shape := ⟨2, ![4096, 2048]⟩
abbrev S1x8192 : Shape := ⟨2, ![1, 8192]⟩
abbrev S_ : Shape := ⟨0, ![]⟩
abbrev S2048x1024 : Shape := ⟨2, ![2048, 1024]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192x2048, .f32⟩
  | .hbm, ⟨3, _⟩ => ⟨S4096x2048, .f32⟩
  | .hbm, ⟨4, _⟩ => ⟨S1x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | .hbm, ⟨12, _⟩ => ⟨S4096x2048, .bf16⟩
  | .hbm, ⟨13, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf2RefIdeal.lean ====
abbrev S4096x8192 : Shape := ⟨2, ![4096, 8192]⟩
abbrev S8192 : Shape := ⟨1, ![8192]⟩
abbrev S8192x2048 : Shape := ⟨2, ![8192, 2048]⟩
abbrev S4096x2048 : Shape := ⟨2, ![4096, 2048]⟩
abbrev S1x8192 : Shape := ⟨2, ![1, 8192]⟩
abbrev S_ : Shape := ⟨0, ![]⟩
abbrev S2048x8192 : Shape := ⟨2, ![2048, 8192]⟩

abbrev nBuf : Space → Nat
  | .hbm => 14
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192x2048, .f32⟩
  | .hbm, ⟨3, _⟩ => ⟨S4096x2048, .f32⟩
  | .hbm, ⟨4, _⟩ => ⟨S1x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x2048, .f32⟩
  | .hbm, ⟨12, _⟩ => ⟨S2048x8192, .f32⟩
  | .hbm, ⟨13, _⟩ => ⟨S8192x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== DwFf1.lean ====
abbrev S4096x2048 : Shape := ⟨2, ![4096, 2048]⟩
abbrev S2048x8192 : Shape := ⟨2, ![2048, 8192]⟩
abbrev S4096x8192 : Shape := ⟨2, ![4096, 8192]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x2048, .bf16⟩
  | .hbm, ⟨4, _⟩ => ⟨S4096x8192, .bf16⟩
  | .hbm, ⟨5, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf1RefIdeal.lean ====
abbrev S4096x2048 : Shape := ⟨2, ![4096, 2048]⟩
abbrev S2048x8192 : Shape := ⟨2, ![2048, 8192]⟩
abbrev S4096x8192 : Shape := ⟨2, ![4096, 8192]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S8192x2048, .f32⟩
  | .hbm, ⟨5, _⟩ => ⟨S2048x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dx1.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S2048x8192, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dx1RefIdeal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwPoolUp.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwPoolUpRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwLruUp.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwLruUpRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DyPool.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyPoolRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwInLo.lean ====
abbrev S4096x2048 : Shape := ⟨2, ![4096, 2048]⟩
abbrev S2048x10240 : Shape := ⟨2, ![2048, 10240]⟩
abbrev S4096x10240 : Shape := ⟨2, ![4096, 10240]⟩
abbrev S4096x5x2048 : Shape := ⟨3, ![4096, 5, 2048]⟩
abbrev S5x4096x2048 : Shape := ⟨3, ![5, 4096, 2048]⟩
abbrev S2x4096x2048 : Shape := ⟨3, ![2, 4096, 2048]⟩
abbrev S3x4096x2048 : Shape := ⟨3, ![3, 4096, 2048]⟩
abbrev S1536x10240 : Shape := ⟨2, ![1536, 10240]⟩
abbrev S2048x768 : Shape := ⟨2, ![2048, 768]⟩
abbrev S1x2048x1024 : Shape := ⟨3, ![1, 2048, 1024]⟩
abbrev S768x1024 : Shape := ⟨2, ![768, 1024]⟩
abbrev S2048x1024 : Shape := ⟨2, ![2048, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x10240, .f32⟩
  | .hbm, ⟨2, _⟩ => ⟨S4096x10240, .f32⟩
  | .hbm, ⟨3, _⟩ => ⟨S4096x2048, .bf16⟩
  | .hbm, ⟨4, _⟩ => ⟨S4096x5x2048, .f32⟩
  | .hbm, ⟨5, _⟩ => ⟨S5x4096x2048, .f32⟩
  | .hbm, ⟨6, _⟩ => ⟨S2x4096x2048, .f32⟩
  | .hbm, ⟨7, _⟩ => ⟨S3x4096x2048, .f32⟩
  | .hbm, ⟨8, _⟩ => ⟨S5x4096x2048, .f32⟩
  | .hbm, ⟨9, _⟩ => ⟨S5x4096x2048, .bf16⟩
  | .hbm, ⟨10, _⟩ => ⟨S1536x10240, .f32⟩
  | .local _ .vmem, ⟨0, _⟩ => ⟨S2048x768, .bf16⟩
  | .local _ .vmem, ⟨1, _⟩ => ⟨S2048x768, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S768x1024, .f32⟩
  | .local _ .vmem, ⟨5, _⟩ => ⟨S768x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi v16 c2_i32_4
  let c5_i32 : BitVec 32 := 5#32
  let c0_i32_5 : BitVec 32 := 0#32
  let v18 : BitVec 1 := Scalar.cmpi .eq c5_i32 c0_i32_5
  let c1_i32_6 : BitVec 32 := 1#32
  let v19 : BitVec 32 := Scalar.select v18 c1_i32_6 c5_i32
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32_10 : BitVec 32 := 2#32
  let c0_i32_11 : BitVec 32 := 0#32
  let v28 : BitVec 1 := Scalar.cmpi .eq c2_i32_10 c0_i32_11
  let c1_i32_12 : BitVec 32 := 1#32
  let v29 : BitVec 32 := Scalar.select v28 c1_i32_12 c2_i32_10
  let v30 : BitVec 32 := Scalar.remsi arg1 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c0_i32_16 : BitVec 32 := 0#32
  ![v27.toNat, arg2.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInLoRefIdeal.lean ====
abbrev S4096x2048 : Shape := ⟨2, ![4096, 2048]⟩
abbrev S2048x10240 : Shape := ⟨2, ![2048, 10240]⟩
abbrev S4096x10240 : Shape := ⟨2, ![4096, 10240]⟩
abbrev S10240x2048 : Shape := ⟨2, ![10240, 2048]⟩
abbrev S1536x10240 : Shape := ⟨2, ![1536, 10240]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x10240, .f32⟩
  | .hbm, ⟨2, _⟩ => ⟨S4096x10240, .f32⟩
  | .hbm, ⟨3, _⟩ => ⟨S4096x10240, .f32⟩
  | .hbm, ⟨4, _⟩ => ⟨S10240x2048, .f32⟩
  | .hbm, ⟨5, _⟩ => ⟨S2048x10240, .f32⟩
  | .hbm, ⟨6, _⟩ => ⟨S1536x10240, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwInHi.lean ====
abbrev S4096x2048 : Shape := ⟨2, ![4096, 2048]⟩
abbrev S2048x10240 : Shape := ⟨2, ![2048, 10240]⟩
abbrev S4096x10240 : Shape := ⟨2, ![4096, 10240]⟩
abbrev S4096x5x2048 : Shape := ⟨3, ![4096, 5, 2048]⟩
abbrev S5x4096x2048 : Shape := ⟨3, ![5, 4096, 2048]⟩
abbrev S2x4096x2048 : Shape := ⟨3, ![2, 4096, 2048]⟩
abbrev S3x4096x2048 : Shape := ⟨3, ![3, 4096, 2048]⟩
abbrev S512x10240 : Shape := ⟨2, ![512, 10240]⟩
abbrev S2048x512 : Shape := ⟨2, ![2048, 512]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 11
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x10240, .f32⟩
  | .hbm, ⟨2, _⟩ => ⟨S4096x10240, .f32⟩
  | .hbm, ⟨3, _⟩ => ⟨S4096x2048, .bf16⟩
  | .hbm, ⟨4, _⟩ => ⟨S4096x5x2048, .f32⟩
  | .hbm, ⟨5, _⟩ => ⟨S5x4096x2048, .f32⟩
  | .hbm, ⟨6, _⟩ => ⟨S2x4096x2048, .f32⟩
  | .hbm, ⟨7, _⟩ => ⟨S3x4096x2048, .f32⟩
  | .hbm, ⟨8, _⟩ => ⟨S5x4096x2048, .f32⟩
  | .hbm, ⟨9, _⟩ => ⟨S5x4096x2048, .bf16⟩
  | .hbm, ⟨10, _⟩ => ⟨S512x10240, .f32⟩
  | .local _ .vmem, ⟨0, _⟩ => ⟨S2048x512, .bf16⟩
  | .local _ .vmem, ⟨1, _⟩ => ⟨S2048x512, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .f32⟩
  | .local _ .vmem, ⟨5, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg0
  let c0_i32 : BitVec 32 := 0#32
  ![arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.addi v16 c2_i32_4
  let c5_i32 : BitVec 32 := 5#32
  let c0_i32_5 : BitVec 32 := 0#32
  let v18 : BitVec 1 := Scalar.cmpi .eq c5_i32 c0_i32_5
  let c1_i32_6 : BitVec 32 := 1#32
  let v19 : BitVec 32 := Scalar.select v18 c1_i32_6 c5_i32
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c2_i32_10 : BitVec 32 := 2#32
  let c0_i32_11 : BitVec 32 := 0#32
  let v28 : BitVec 1 := Scalar.cmpi .eq c2_i32_10 c0_i32_11
  let c1_i32_12 : BitVec 32 := 1#32
  let v29 : BitVec 32 := Scalar.select v28 c1_i32_12 c2_i32_10
  let v30 : BitVec 32 := Scalar.remsi arg1 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c0_i32_16 : BitVec 32 := 0#32
  ![v27.toNat, arg2.toNat, v37.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInHiRefIdeal.lean ====
abbrev S4096x2048 : Shape := ⟨2, ![4096, 2048]⟩
abbrev S2048x10240 : Shape := ⟨2, ![2048, 10240]⟩
abbrev S4096x10240 : Shape := ⟨2, ![4096, 10240]⟩
abbrev S10240x2048 : Shape := ⟨2, ![10240, 2048]⟩
abbrev S512x10240 : Shape := ⟨2, ![512, 10240]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x10240, .f32⟩
  | .hbm, ⟨2, _⟩ => ⟨S4096x10240, .f32⟩
  | .hbm, ⟨3, _⟩ => ⟨S4096x10240, .f32⟩
  | .hbm, ⟨4, _⟩ => ⟨S10240x2048, .f32⟩
  | .hbm, ⟨5, _⟩ => ⟨S2048x10240, .f32⟩
  | .hbm, ⟨6, _⟩ => ⟨S512x10240, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dx.lean ====
abbrev S4096x2048 : Shape := ⟨2, ![4096, 2048]⟩
abbrev S2048x10240 : Shape := ⟨2, ![2048, 10240]⟩
abbrev S4096x10240 : Shape := ⟨2, ![4096, 10240]⟩
abbrev S4096x5x2048 : Shape := ⟨3, ![4096, 5, 2048]⟩
abbrev S5x4096x2048 : Shape := ⟨3, ![5, 4096, 2048]⟩
abbrev S2x4096x2048 : Shape := ⟨3, ![2, 4096, 2048]⟩
abbrev S3x4096x2048 : Shape := ⟨3, ![3, 4096, 2048]⟩
abbrev S1x512x2048 : Shape := ⟨3, ![1, 512, 2048]⟩
abbrev S2048x2048 : Shape := ⟨2, ![2048, 2048]⟩
abbrev S512x2048 : Shape := ⟨2, ![512, 2048]⟩

abbrev nBuf : Space → Nat
  | .hbm => 12
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x10240, .f32⟩
  | .hbm, ⟨2, _⟩ => ⟨S4096x10240, .f32⟩
  | .hbm, ⟨3, _⟩ => ⟨S4096x2048, .f32⟩
  | .hbm, ⟨4, _⟩ => ⟨S4096x5x2048, .f32⟩
  | .hbm, ⟨5, _⟩ => ⟨S5x4096x2048, .f32⟩
  | .hbm, ⟨6, _⟩ => ⟨S2x4096x2048, .f32⟩
  | .hbm, ⟨7, _⟩ => ⟨S3x4096x2048, .f32⟩
  | .hbm, ⟨8, _⟩ => ⟨S5x4096x2048, .f32⟩
  | .hbm, ⟨9, _⟩ => ⟨S5x4096x2048, .bf16⟩
  | .hbm, ⟨10, _⟩ => ⟨S2048x10240, .bf16⟩
  | .hbm, ⟨11, _⟩ => ⟨S4096x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 32 := Scalar.addi v16 c2_i32
  let c5_i32 : BitVec 32 := 5#32
  let c0_i32_5 : BitVec 32 := 0#32
  let v18 : BitVec 1 := Scalar.cmpi .eq c5_i32 c0_i32_5
  let c1_i32_6 : BitVec 32 := 1#32
  let v19 : BitVec 32 := Scalar.select v18 c1_i32_6 c5_i32
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let c0_i32_11 : BitVec 32 := 0#32
  let v28 : BitVec 1 := Scalar.cmpi .eq c1_i32_10 c0_i32_11
  let c1_i32_12 : BitVec 32 := 1#32
  let v29 : BitVec 32 := Scalar.select v28 c1_i32_12 c1_i32_10
  let v30 : BitVec 32 := Scalar.remsi arg2 v29
  let c0_i32_13 : BitVec 32 := 0#32
  let v31 : BitVec 1 := Scalar.cmpi .ne v30 c0_i32_13
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let v35 : BitVec 1 := Scalar.andi v34 v31
  let v36 : BitVec 32 := Scalar.addi v30 v29
  let v37 : BitVec 32 := Scalar.select v35 v36 v30
  let c0_i32_16 : BitVec 32 := 0#32
  ![v27.toNat, arg0.toNat, v37.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== DxRefIdeal.lean ====
abbrev S4096x2048 : Shape := ⟨2, ![4096, 2048]⟩
abbrev S2048x10240 : Shape := ⟨2, ![2048, 10240]⟩
abbrev S4096x10240 : Shape := ⟨2, ![4096, 10240]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x10240, .f32⟩
  | .hbm, ⟨2, _⟩ => ⟨S4096x10240, .f32⟩
  | .hbm, ⟨3, _⟩ => ⟨S4096x2048, .f32⟩
  | .hbm, ⟨4, _⟩ => ⟨S4096x10240, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Dm.lean ====
abbrev S4096x2048 : Shape := ⟨2, ![4096, 2048]⟩
abbrev S4096x4096 : Shape := ⟨2, ![4096, 4096]⟩
abbrev S2048x2048 : Shape := ⟨2, ![2048, 2048]⟩
abbrev S_ : Shape := ⟨0, ![]⟩
abbrev S4096x6144 : Shape := ⟨2, ![4096, 6144]⟩
abbrev S4096x10240 : Shape := ⟨2, ![4096, 10240]⟩
abbrev S5x4096x2048 : Shape := ⟨3, ![5, 4096, 2048]⟩
abbrev S512x2048 : Shape := ⟨2, ![512, 2048]⟩
abbrev S1024x2048 : Shape := ⟨2, ![1024, 2048]⟩
abbrev S512x1024 : Shape := ⟨2, ![512, 1024]⟩
abbrev S2x512x1024 : Shape := ⟨3, ![2, 512, 1024]⟩
abbrev S1x512x1024 : Shape := ⟨3, ![1, 512, 1024]⟩
abbrev S2x4096x2048 : Shape := ⟨3, ![2, 4096, 2048]⟩

abbrev nBuf : Space → Nat
  | .hbm => 19
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S2048x2048, .f32⟩
  | .hbm, ⟨4, _⟩ => ⟨S4096x2048, .f32⟩
  | .hbm, ⟨5, _⟩ => ⟨S_, .f32⟩
  | .hbm, ⟨6, _⟩ => ⟨S4096x6144, .f32⟩
  | .hbm, ⟨7, _⟩ => ⟨S4096x10240, .f32⟩
  | .hbm, ⟨8, _⟩ => ⟨S_, .f32⟩
  | .hbm, ⟨9, _⟩ => ⟨S4096x6144, .f32⟩
  | .hbm, ⟨10, _⟩ => ⟨S4096x10240, .f32⟩
  | .hbm, ⟨11, _⟩ => ⟨S4096x2048, .bf16⟩
  | .hbm, ⟨12, _⟩ => ⟨S2048x2048, .bf16⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .hbm, ⟨17, _⟩ => ⟨S5x4096x2048, .bf16⟩
  | .hbm, ⟨18, _⟩ => ⟨S2x4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S2x512x1024, .bf16⟩
  | .local _ .vmem, ⟨17, _⟩ => ⟨S2x512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== DmRefIdeal.lean ====
abbrev S4096x2048 : Shape := ⟨2, ![4096, 2048]⟩
abbrev S4096x4096 : Shape := ⟨2, ![4096, 4096]⟩
abbrev S2048x2048 : Shape := ⟨2, ![2048, 2048]⟩
abbrev S_ : Shape := ⟨0, ![]⟩
abbrev S4096x2x2048 : Shape := ⟨3, ![4096, 2, 2048]⟩
abbrev S4096x1x2048 : Shape := ⟨3, ![4096, 1, 2048]⟩
abbrev S1x4096x2048 : Shape := ⟨3, ![1, 4096, 2048]⟩
abbrev S2x4096x2048 : Shape := ⟨3, ![2, 4096, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x4096, .f32⟩
  | .hbm, ⟨3, _⟩ => ⟨S2048x2048, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x2x2048, .f32⟩
  | .hbm, ⟨18, _⟩ => ⟨S4096x1x2048, .f32⟩
  | .hbm, ⟨19, _⟩ => ⟨S4096x2048, .f32⟩
  | .hbm, ⟨20, _⟩ => ⟨S4096x2048, .f32⟩
  | .hbm, ⟨21, _⟩ => ⟨S4096x1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x1x2048, .f32⟩
  | .hbm, ⟨30, _⟩ => ⟨S_, .f32⟩
  | .hbm, ⟨31, _⟩ => ⟨S4096x2x2048, .f32⟩
  | .hbm, ⟨32, _⟩ => ⟨S4096x2048, .f32⟩
  | .hbm, ⟨33, _⟩ => ⟨S4096x2048, .f32⟩
  | .hbm, ⟨34, _⟩ => ⟨S4096x1x2048, .f32⟩
  | .hbm, ⟨35, _⟩ => ⟨S_, .f32⟩
  | .hbm, ⟨36, _⟩ => ⟨S4096x2x2048, .f32⟩
  | .hbm, ⟨37, _⟩ => ⟨S4096x2x2048, .f32⟩
  | .hbm, ⟨38, _⟩ => ⟨S4096x4096, .f32⟩
  | .hbm, ⟨39, _⟩ => ⟨S4096x4096, .f32⟩
  | .hbm, ⟨40, _⟩ => ⟨S4096x2048, .bf16⟩
  | .hbm, ⟨41, _⟩ => ⟨S4096x2048, .bf16⟩
  | .hbm, ⟨42, _⟩ => ⟨S4096x2048, .f32⟩
  | .hbm, ⟨43, _⟩ => ⟨S4096x2048, .f32⟩
  | .hbm, ⟨44, _⟩ => ⟨S1x4096x2048, .f32⟩
  | .hbm, ⟨45, _⟩ => ⟨S1x4096x2048, .f32⟩
  | .hbm, ⟨46, _⟩ => ⟨S2x4096x2048, .f32⟩
  | .hbm, ⟨47, _⟩ => ⟨S2x4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Ff1.lean ====
abbrev S4096x2048 : Shape := ⟨2, ![4096, 2048]⟩
abbrev S2048x8192 : Shape := ⟨2, ![2048, 8192]⟩
abbrev S8192 : Shape := ⟨1, ![8192]⟩
abbrev S1x8192 : Shape := ⟨2, ![1, 8192]⟩
abbrev S4096x8192 : Shape := ⟨2, ![4096, 8192]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192, .f32⟩
  | .hbm, ⟨3, _⟩ => ⟨S4096x2048, .bf16⟩
  | .hbm, ⟨4, _⟩ => ⟨S2048x8192, .bf16⟩
  | .hbm, ⟨5, _⟩ => ⟨S1x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Ff1RefIdeal.lean ====
abbrev S4096x2048 : Shape := ⟨2, ![4096, 2048]⟩
abbrev S2048x8192 : Shape := ⟨2, ![2048, 8192]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192, .f32⟩
  | .hbm, ⟨3, _⟩ => ⟨S4096x8192, .f32⟩
  | .hbm, ⟨4, _⟩ => ⟨S1x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | .hbm, ⟨11, _⟩ => ⟨S4096x8192, .f32⟩
  | .hbm, ⟨12, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Ff2.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x8192, .bf16⟩
  | .hbm, ⟨3, _⟩ => ⟨S8192x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2RefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Merge.lean ====
abbrev S4096x2048 : Shape := ⟨2, ![4096, 2048]⟩
abbrev S2048x2048 : Shape := ⟨2, ![2048, 2048]⟩
abbrev S4096x4096 : Shape := ⟨2, ![4096, 4096]⟩
abbrev S_ : Shape := ⟨0, ![]⟩
abbrev S4096x6144 : Shape := ⟨2, ![4096, 6144]⟩
abbrev S4096x10240 : Shape := ⟨2, ![4096, 10240]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 18
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048x2048, .f32⟩
  | .hbm, ⟨4, _⟩ => ⟨S4096x4096, .f32⟩
  | .hbm, ⟨5, _⟩ => ⟨S_, .f32⟩
  | .hbm, ⟨6, _⟩ => ⟨S4096x6144, .f32⟩
  | .hbm, ⟨7, _⟩ => ⟨S4096x10240, .f32⟩
  | .hbm, ⟨8, _⟩ => ⟨S_, .f32⟩
  | .hbm, ⟨9, _⟩ => ⟨S4096x6144, .f32⟩
  | .hbm, ⟨10, _⟩ => ⟨S4096x10240, .f32⟩
  | .hbm, ⟨11, _⟩ => ⟨S4096x2048, .bf16⟩
  | .hbm, ⟨12, _⟩ => ⟨S2048x2048, .bf16⟩
  | .hbm, ⟨13, _⟩ => ⟨S4096x2048, .bf16⟩
  | .hbm, ⟨14, _⟩ => ⟨S2048x2048, .bf16⟩
  | .hbm, ⟨15, _⟩ => ⟨S4096x2048, .bf16⟩
  | .hbm, ⟨16, _⟩ => ⟨S4096x2048, .bf16⟩
  | .hbm, ⟨17, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeRefIdeal.lean ====
abbrev S4096x2048 : Shape := ⟨2, ![4096, 2048]⟩
abbrev S2048x2048 : Shape := ⟨2, ![2048, 2048]⟩
abbrev S4096x4096 : Shape := ⟨2, ![4096, 4096]⟩
abbrev S_ : Shape := ⟨0, ![]⟩
abbrev S4096x2x2048 : Shape := ⟨3, ![4096, 2, 2048]⟩
abbrev S4096x1x2048 : Shape := ⟨3, ![4096, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048x2048, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x2x2048, .f32⟩
  | .hbm, ⟨14, _⟩ => ⟨S4096x2048, .f32⟩
  | .hbm, ⟨15, _⟩ => ⟨S4096x2048, .f32⟩
  | .hbm, ⟨16, _⟩ => ⟨S4096x1x2048, .f32⟩
  | .hbm, ⟨17, _⟩ => ⟨S4096x2048, .f32⟩
  | .hbm, ⟨18, _⟩ => ⟨S4096x2048, .f32⟩
  | .hbm, ⟨19, _⟩ => ⟨S4096x1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | .hbm, ⟨24, _⟩ => ⟨S4096x2048, .bf16⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutLn1.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩

abbrev nBuf : Space → Nat
  | .hbm => 14
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S4096x2048, .bf16⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S4096x2048, .f32⟩
  | .hbm, ⟨12, _⟩ => ⟨S4096x2048, .bf16⟩
  | .hbm, ⟨13, _⟩ => ⟨S4096x1, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x1, .f32⟩
  | .local _ .vmem, ⟨13, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== OutLn1RefIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S4096x2048, .f32⟩
  | .hbm, ⟨7, _⟩ => ⟨S1x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== ZProj.lean ====
abbrev S4096x2048 : Shape := ⟨2, ![4096, 2048]⟩
abbrev S2048x10240 : Shape := ⟨2, ![2048, 10240]⟩
abbrev S2048x8x5x256 : Shape := ⟨4, ![2048, 8, 5, 256]⟩
abbrev S2048x8x1x256 : Shape := ⟨4, ![2048, 8, 1, 256]⟩
abbrev S2048x8x256 : Shape := ⟨3, ![2048, 8, 256]⟩
abbrev S2048x2048 : Shape := ⟨2, ![2048, 2048]⟩
abbrev S4096x10240 : Shape := ⟨2, ![4096, 10240]⟩
abbrev S2048x256 : Shape := ⟨2, ![2048, 256]⟩
abbrev S4096x256 : Shape := ⟨2, ![4096, 256]⟩

abbrev nBuf : Space → Nat
  | .hbm => 25
  | .vmem => 25
  | .smem => 0
  | _ => 0

abbrev bufTy : (tb : Table) → Fin (tcTables nBuf tb) → BufTy
  | .hbm, ⟨0, _⟩ => ⟨S4096x2048, .f32⟩
  | .hbm, ⟨1, _⟩ => ⟨S2048x10240, .f32⟩
  | .hbm, ⟨2, _⟩ => ⟨S4096x2048, .bf16⟩
  | .hbm, ⟨3, _⟩ => ⟨S2048x8x5x256, .f32⟩
  | .hbm, ⟨4, _⟩ => ⟨S2048x8x5x256, .bf16⟩
  | .hbm, ⟨5, _⟩ => ⟨S2048x8x1x256, .bf16⟩
  | .hbm, ⟨6, _⟩ => ⟨S2048x8x256, .bf16⟩
  | .hbm, ⟨7, _⟩ => ⟨S2048x2048, .bf16⟩
  | .hbm, ⟨8, _⟩ => ⟨S4096x10240, .f32⟩
  | .hbm, ⟨9, _⟩ => ⟨S2048x8x1x256, .bf16⟩
  | .hbm, ⟨10, _⟩ => ⟨S2048x8x256, .bf16⟩
  | .hbm, ⟨11, _⟩ => ⟨S2048x2048, .bf16⟩
  | .hbm, ⟨12, _⟩ => ⟨S4096x10240, .f32⟩
  | .hbm, ⟨13, _⟩ => ⟨S2048x8x1x256, .bf16⟩
  | .hbm, ⟨14, _⟩ => ⟨S2048x8x256, .bf16⟩
  | .hbm, ⟨15, _⟩ => ⟨S2048x2048, .bf16⟩
  | .hbm, ⟨16, _⟩ => ⟨S4096x10240, .f32⟩
  | .hbm, ⟨17, _⟩ => ⟨S2048x8x1x256, .bf16⟩
  | .hbm, ⟨18, _⟩ => ⟨S2048x8x256, .bf16⟩
  | .hbm, ⟨19, _⟩ => ⟨S2048x2048, .bf16⟩
  | .hbm, ⟨20, _⟩ => ⟨S4096x10240, .f32⟩
  | .hbm, ⟨21, _⟩ => ⟨S2048x8x1x256, .bf16⟩
  | .hbm, ⟨22, _⟩ => ⟨S2048x8x256, .bf16⟩
  | .hbm, ⟨23, _⟩ => ⟨S2048x2048, .bf16⟩
  | .hbm, ⟨24, _⟩ => ⟨S4096x10240, .f32⟩
  | .local _ .vmem, ⟨0, _⟩ => ⟨S4096x2048, .bf16⟩
  | .local _ .vmem, ⟨1, _⟩ => ⟨S2048x256, .bf16⟩
  | .local _ .vmem, ⟨2, _⟩ => ⟨S2048x256, .bf16⟩
  | .local _ .vmem, ⟨3, _⟩ => ⟨S4096x256, .f32⟩
  | .local _ .vmem, ⟨4, _⟩ => ⟨S4096x256, .f32⟩
  | .local _ .vmem, ⟨5, _⟩ => ⟨S4096x2048, .bf16⟩
  | .local _ .vmem, ⟨6, _⟩ => ⟨S2048x256, .bf16⟩
  | .local _ .vmem, ⟨7, _⟩ => ⟨S2048x256, .bf16⟩
  | .local _ .vmem, ⟨8, _⟩ => ⟨S4096x256, .f32⟩
  | .local _ .vmem, ⟨9, _⟩ => ⟨S4096x256, .f32⟩
  | .local _ .vmem, ⟨10, _⟩ => ⟨S4096x2048, .bf16⟩
  | .local _ .vmem, ⟨11, _⟩ => ⟨S2048x256, .bf16⟩
  | .local _ .vmem, ⟨12, _⟩ => ⟨S2048x256, .bf16⟩
  | .local _ .vmem, ⟨13, _⟩ => ⟨S4096x256, .f32⟩
  | .local _ .vmem, ⟨14, _⟩ => ⟨S4096x256, .f32⟩
  | .local _ .vmem, ⟨15, _⟩ => ⟨S4096x2048, .bf16⟩
  | .local _ .vmem, ⟨16, _⟩ => ⟨S2048x256, .bf16⟩
  | .local _ .vmem, ⟨17, _⟩ => ⟨S2048x256, .bf16⟩
  | .local _ .vmem, ⟨18, _⟩ => ⟨S4096x256, .f32⟩
  | .local _ .vmem, ⟨19, _⟩ => ⟨S4096x256, .f32⟩
  | .local _ .vmem, ⟨20, _⟩ => ⟨S4096x2048, .bf16⟩
  | .local _ .vmem, ⟨21, _⟩ => ⟨S2048x256, .bf16⟩
  | .local _ .vmem, ⟨22, _⟩ => ⟨S2048x256, .bf16⟩
  | .local _ .vmem, ⟨23, _⟩ => ⟨S4096x256, .f32⟩
  | .local _ .vmem, ⟨24, _⟩ => ⟨S4096x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli c5_i32 arg1
  let c0_i32 : BitVec 32 := 0#32
  let v1 : BitVec 32 := Scalar.addi v0 c0_i32
  let c0_i32_0 : BitVec 32 := 0#32
  ![arg0.toNat, v1.toNat]

abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli c5_i32 arg1
  let c1_i32 : BitVec 32 := 1#32
  let v1 : BitVec 32 := Scalar.addi v0 c1_i32
  let c0_i32 : BitVec 32 := 0#32
  ![arg0.toNat, v1.toNat]

abbrev stage1_0 : Fin 1 → Memref sig .tc .vmem S4096x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli c5_i32 arg1
  let c2_i32 : BitVec 32 := 2#32
  let v1 : BitVec 32 := Scalar.addi v0 c2_i32
  let c0_i32 : BitVec 32 := 0#32
  ![arg0.toNat, v1.toNat]

abbrev stage2_0 : Fin 1 → Memref sig .tc .vmem S4096x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, false]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli c5_i32 arg1
  let c3_i32 : BitVec 32 := 3#32
  let v1 : BitVec 32 := Scalar.addi v0 c3_i32
  let c0_i32 : BitVec 32 := 0#32
  ![arg0.toNat, v1.toNat]

abbrev stage3_0 : Fin 1 → Memref sig .tc .vmem S4096x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, false]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S4096x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.muli c5_i32 arg1
  let c4_i32 : BitVec 32 := 4#32
  let v1 : BitVec 32 := Scalar.addi v0 c4_i32
  let c0_i32 : BitVec 32 := 0#32
  ![arg0.toNat, v1.toNat]

abbrev stage4_0 : Fin 1 → Memref sig .tc .vmem S4096x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, false]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S4096x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== ZProjRefIdeal.lean ====
abbrev S4096x2048 : Shape := ⟨2, ![4096, 2048]⟩
abbrev S2048x10240 : Shape := ⟨2, ![2048, 10240]⟩
abbrev S4096x10240 : Shape := ⟨2, ![4096, 10240]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x10240, .f32⟩
  | .hbm, ⟨2, _⟩ => ⟨S4096x10240, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ln1.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x2048 : Shape := ⟨2, ![8, 2048]⟩
abbrev S256x2048 : Shape := ⟨2, ![256, 2048]⟩
abbrev S256x1 : Shape := ⟨2, ![256, 1]⟩
abbrev S256 : Shape := ⟨1, ![256]⟩

abbrev nBuf : Space → Nat
  | .hbm => 40
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .bf16⟩
  | .hbm, ⟨35, _⟩ => ⟨S8x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1, .f32⟩
  | .local _ .vmem, ⟨7, _⟩ => ⟨S256x1, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Ln1RefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S_, .f32⟩
  | .hbm, ⟨40, _⟩ => ⟨S2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Ln2.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 23
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S4096x2048, .f32⟩
  | .hbm, ⟨14, _⟩ => ⟨S4096x2048, .bf16⟩
  | .hbm, ⟨15, _⟩ => ⟨S8x2048, .f32⟩
  | .hbm, ⟨16, _⟩ => ⟨S8x128, .f32⟩
  | .hbm, ⟨17, _⟩ => ⟨S1x1, .f32⟩
  | .hbm, ⟨18, _⟩ => ⟨S_, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S8x2048, .f32⟩
  | .local _ .vmem, ⟨16, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ln2RefIdeal.lean ====
abbrev S4096x2048 : Shape := ⟨2, ![4096, 2048]⟩
abbrev S2048 : Shape := ⟨1, ![2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 82
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096, .f32⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S_, .f32⟩
  | .hbm, ⟨75, _⟩ => ⟨S2048, .f32⟩
  | .hbm, ⟨76, _⟩ => ⟨S4096x2048, .f32⟩
  | .hbm, ⟨77, _⟩ => ⟨S_, .f32⟩
  | .hbm, ⟨78, _⟩ => ⟨S2048, .f32⟩
  | .hbm, ⟨79, _⟩ => ⟨S1x2048, .f32⟩
  | .hbm, ⟨80, _⟩ => ⟨S_, .f32⟩
  | .hbm, ⟨81, _⟩ => ⟨S2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_cst_10 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_cst_16 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== AdamRep.lean ====
abbrev S12x2048 : Shape := ⟨2, ![12, 2048]⟩

abbrev nBuf : Space → Nat
  | .hbm => 7
  | .vmem => 7
  | .smem => 0
  | _ => 0

abbrev bufTy : (tb : Table) → Fin (tcTables nBuf tb) → BufTy
  | .hbm, ⟨0, _⟩ => ⟨S12x2048, .f32⟩
  | .hbm, ⟨1, _⟩ => ⟨S12x2048, .f32⟩
  | .hbm, ⟨2, _⟩ => ⟨S12x2048, .f32⟩
  | .hbm, ⟨3, _⟩ => ⟨S12x2048, .f32⟩
  | .hbm, ⟨4, _⟩ => ⟨S12x2048, .f32⟩
  | .hbm, ⟨5, _⟩ => ⟨S12x2048, .f32⟩
  | .hbm, ⟨6, _⟩ => ⟨S12x2048, .f32⟩
  | .local _ .vmem, ⟨0, _⟩ => ⟨S12x2048, .f32⟩
  | .local _ .vmem, ⟨1, _⟩ => ⟨S12x2048, .f32⟩
  | .local _ .vmem, ⟨2, _⟩ => ⟨S12x2048, .f32⟩
  | .local _ .vmem, ⟨3, _⟩ => ⟨S12x2048, .f32⟩
  | .local _ .vmem, ⟨4, _⟩ => ⟨S12x2048, .f32⟩
  | .local _ .vmem, ⟨5, _⟩ => ⟨S12x2048, .f32⟩
  | .local _ .vmem, ⟨6, _⟩ => ⟨S12x2048, .f32⟩
  | _, _ => ⟨S12x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRepRefIdeal.lean ====
abbrev S12x2048 : Shape := ⟨2, ![12, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x2048, .f32⟩
  | .hbm, ⟨1, _⟩ => ⟨S12x2048, .f32⟩
  | .hbm, ⟨2, _⟩ => ⟨S12x2048, .f32⟩
  | .hbm, ⟨3, _⟩ => ⟨S12x2048, .f32⟩
  | .hbm, ⟨4, _⟩ => ⟨S_, .f32⟩
  | .hbm, ⟨5, _⟩ => ⟨S12x2048, .f32⟩
  | .hbm, ⟨6, _⟩ => ⟨S12x2048, .f32⟩
  | .hbm, ⟨7, _⟩ => ⟨S_, .f32⟩
  | .hbm, ⟨8, _⟩ => ⟨S12x2048, .f32⟩
  | .hbm, ⟨9, _⟩ => ⟨S12x2048, .f32⟩
  | .hbm, ⟨10, _⟩ => ⟨S12x2048, .f32⟩
  | .hbm, ⟨11, _⟩ => ⟨S_, .f32⟩
  | .hbm, ⟨12, _⟩ => ⟨S12x2048, .f32⟩
  | .hbm, ⟨13, _⟩ => ⟨S12x2048, .f32⟩
  | .hbm, ⟨14, _⟩ => ⟨S12x2048, .f32⟩
  | .hbm, ⟨15, _⟩ => ⟨S_, .f32⟩
  | .hbm, ⟨16, _⟩ => ⟨S12x2048, .f32⟩
  | .hbm, ⟨17, _⟩ => ⟨S12x2048, .f32⟩
  | .hbm, ⟨18, _⟩ => ⟨S12x2048, .f32⟩
  | .hbm, ⟨19, _⟩ => ⟨S_, .f32⟩
  | .hbm, ⟨20, _⟩ => ⟨S12x2048, .f32⟩
  | .hbm, ⟨21, _⟩ => ⟨S12x2048, .f32⟩
  | .hbm, ⟨22, _⟩ => ⟨S_, .f32⟩
  | .hbm, ⟨23, _⟩ => ⟨S12x2048, .f32⟩
  | .hbm, ⟨24, _⟩ => ⟨S12x2048, .f32⟩
  | .hbm, ⟨25, _⟩ => ⟨S12x2048, .f32⟩
  | .hbm, ⟨26, _⟩ => ⟨S_, .f32⟩
  | .hbm, ⟨27, _⟩ => ⟨S12x2048, .f32⟩
  | .hbm, ⟨28, _⟩ => ⟨S12x2048, .f32⟩
  | .hbm, ⟨29, _⟩ => ⟨S12x2048, .f32⟩
  | .hbm, ⟨30, _⟩ => ⟨S_, .f32⟩
  | .hbm, ⟨31, _⟩ => ⟨S12x2048, .f32⟩
  | .hbm, ⟨32, _⟩ => ⟨S12x2048, .f32⟩
  | .hbm, ⟨33, _⟩ => ⟨S12x2048, .f32⟩
  | .hbm, ⟨34, _⟩ => ⟨S_, .f32⟩
  | .hbm, ⟨35, _⟩ => ⟨S12x2048, .f32⟩
  | .hbm, ⟨36, _⟩ => ⟨S12x2048, .f32⟩
  | _, _ => ⟨S12x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSharded.lean ====
abbrev S10x256 : Shape := ⟨2, ![10, 256]⟩

abbrev nBuf : Space → Nat
  | .hbm => 7
  | .vmem => 7
  | .smem => 0
  | _ => 0

abbrev bufTy : (tb : Table) → Fin (tcTables nBuf tb) → BufTy
  | .hbm, ⟨0, _⟩ => ⟨S10x256, .f32⟩
  | .hbm, ⟨1, _⟩ => ⟨S10x256, .f32⟩
  | .hbm, ⟨2, _⟩ => ⟨S10x256, .f32⟩
  | .hbm, ⟨3, _⟩ => ⟨S10x256, .f32⟩
  | .hbm, ⟨4, _⟩ => ⟨S10x256, .f32⟩
  | .hbm, ⟨5, _⟩ => ⟨S10x256, .f32⟩
  | .hbm, ⟨6, _⟩ => ⟨S10x256, .f32⟩
  | .local _ .vmem, ⟨0, _⟩ => ⟨S10x256, .f32⟩
  | .local _ .vmem, ⟨1, _⟩ => ⟨S10x256, .f32⟩
  | .local _ .vmem, ⟨2, _⟩ => ⟨S10x256, .f32⟩
  | .local _ .vmem, ⟨3, _⟩ => ⟨S10x256, .f32⟩
  | .local _ .vmem, ⟨4, _⟩ => ⟨S10x256, .f32⟩
  | .local _ .vmem, ⟨5, _⟩ => ⟨S10x256, .f32⟩
  | .local _ .vmem, ⟨6, _⟩ => ⟨S10x256, .f32⟩
  | _, _ => ⟨S10x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S10x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamShardedRefIdeal.lean ====
abbrev S10x256 : Shape := ⟨2, ![10, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S10x256, .f32⟩
  | .hbm, ⟨1, _⟩ => ⟨S10x256, .f32⟩
  | .hbm, ⟨2, _⟩ => ⟨S10x256, .f32⟩
  | .hbm, ⟨3, _⟩ => ⟨S10x256, .f32⟩
  | .hbm, ⟨4, _⟩ => ⟨S_, .f32⟩
  | .hbm, ⟨5, _⟩ => ⟨S10x256, .f32⟩
  | .hbm, ⟨6, _⟩ => ⟨S10x256, .f32⟩
  | .hbm, ⟨7, _⟩ => ⟨S_, .f32⟩
  | .hbm, ⟨8, _⟩ => ⟨S10x256, .f32⟩
  | .hbm, ⟨9, _⟩ => ⟨S10x256, .f32⟩
  | .hbm, ⟨10, _⟩ => ⟨S10x256, .f32⟩
  | .hbm, ⟨11, _⟩ => ⟨S_, .f32⟩
  | .hbm, ⟨12, _⟩ => ⟨S10x256, .f32⟩
  | .hbm, ⟨13, _⟩ => ⟨S10x256, .f32⟩
  | .hbm, ⟨14, _⟩ => ⟨S10x256, .f32⟩
  | .hbm, ⟨15, _⟩ => ⟨S_, .f32⟩
  | .hbm, ⟨16, _⟩ => ⟨S10x256, .f32⟩
  | .hbm, ⟨17, _⟩ => ⟨S10x256, .f32⟩
  | .hbm, ⟨18, _⟩ => ⟨S10x256, .f32⟩
  | .hbm, ⟨19, _⟩ => ⟨S_, .f32⟩
  | .hbm, ⟨20, _⟩ => ⟨S10x256, .f32⟩
  | .hbm, ⟨21, _⟩ => ⟨S10x256, .f32⟩
  | .hbm, ⟨22, _⟩ => ⟨S_, .f32⟩
  | .hbm, ⟨23, _⟩ => ⟨S10x256, .f32⟩
  | .hbm, ⟨24, _⟩ => ⟨S10x256, .f32⟩
  | .hbm, ⟨25, _⟩ => ⟨S10x256, .f32⟩
  | .hbm, ⟨26, _⟩ => ⟨S_, .f32⟩
  | .hbm, ⟨27, _⟩ => ⟨S10x256, .f32⟩
  | .hbm, ⟨28, _⟩ => ⟨S10x256, .f32⟩
  | .hbm, ⟨29, _⟩ => ⟨S10x256, .f32⟩
  | .hbm, ⟨30, _⟩ => ⟨S_, .f32⟩
  | .hbm, ⟨31, _⟩ => ⟨S10x256, .f32⟩
  | .hbm, ⟨32, _⟩ => ⟨S10x256, .f32⟩
  | .hbm, ⟨33, _⟩ => ⟨S10x256, .f32⟩
  | .hbm, ⟨34, _⟩ => ⟨S_, .f32⟩
  | .hbm, ⟨35, _⟩ => ⟨S10x256, .f32⟩
  | .hbm, ⟨36, _⟩ => ⟨S10x256, .f32⟩
  | _, _ => ⟨S10x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Conv.lean ====
abbrev S4096x2048 : Shape := ⟨2, ![4096, 2048]⟩
abbrev S4x2048 : Shape := ⟨2, ![4, 2048]⟩
abbrev S2048 : Shape := ⟨1, ![2048]⟩
abbrev S_ : Shape := ⟨0, ![]⟩
abbrev S4096x6144 : Shape := ⟨2, ![4096, 6144]⟩
abbrev S4096x10240 : Shape := ⟨2, ![4096, 10240]⟩
abbrev S12x2048 : Shape := ⟨2, ![12, 2048]⟩
abbrev S16x2048 : Shape := ⟨2, ![16, 2048]⟩
abbrev S5x4096x2048 : Shape := ⟨3, ![5, 4096, 2048]⟩
abbrev S8x2048 : Shape := ⟨2, ![8, 2048]⟩
abbrev S4096x256 : Shape := ⟨2, ![4096, 256]⟩
abbrev S16x256 : Shape := ⟨2, ![16, 256]⟩
abbrev S1x2048x256 : Shape := ⟨3, ![1, 2048, 256]⟩
abbrev S8x256 : Shape := ⟨2, ![8, 256]⟩
abbrev S2048x256 : Shape := ⟨2, ![2048, 256]⟩
abbrev S2080x256 : Shape := ⟨2, ![2080, 256]⟩
abbrev S1x256 : Shape := ⟨2, ![1, 256]⟩
abbrev S256 : Shape := ⟨1, ![256]⟩
abbrev S1x4096x2048 : Shape := ⟨3, ![1, 4096, 2048]⟩
abbrev S1x2048 : Shape := ⟨2, ![1, 2048]⟩

abbrev nBuf : Space → Nat
  | .hbm => 22
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S_, .f32⟩
  | .hbm, ⟨7, _⟩ => ⟨S4096x6144, .f32⟩
  | .hbm, ⟨8, _⟩ => ⟨S4096x10240, .f32⟩
  | .hbm, ⟨9, _⟩ => ⟨S_, .f32⟩
  | .hbm, ⟨10, _⟩ => ⟨S12x2048, .f32⟩
  | .hbm, ⟨11, _⟩ => ⟨S16x2048, .f32⟩
  | .hbm, ⟨12, _⟩ => ⟨S_, .f32⟩
  | .hbm, ⟨13, _⟩ => ⟨S5x4096x2048, .f32⟩
  | .hbm, ⟨14, _⟩ => ⟨S5x4096x2048, .bf16⟩
  | .hbm, ⟨15, _⟩ => ⟨S5x4096x2048, .bf16⟩
  | .hbm, ⟨16, _⟩ => ⟨S8x2048, .f32⟩
  | .hbm, ⟨17, _⟩ => ⟨S1x4096x2048, .bf16⟩
  | .hbm, ⟨18, _⟩ => ⟨S4096x2048, .bf16⟩
  | .hbm, ⟨19, _⟩ => ⟨S4x2048, .f32⟩
  | .hbm, ⟨20, _⟩ => ⟨S1x2048, .f32⟩
  | .hbm, ⟨21, _⟩ => ⟨S2048, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S16x256, .f32⟩
  | .local _ .vmem, ⟨5, _⟩ => ⟨S16x256, .f32⟩
  | .local _ .vmem, ⟨6, _⟩ => ⟨S1x2048x256, .bf16⟩
  | .local _ .vmem, ⟨7, _⟩ => ⟨S1x2048x256, .bf16⟩
  | .local _ .vmem, ⟨8, _⟩ => ⟨S8x256, .f32⟩
  | .local _ .vmem, ⟨9, _⟩ => ⟨S8x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  let c0 : Index := 0#32
  ![v2.toNat, 0]
def k0_mult2 (i : grid0.Coords) : BitVec 32 :=
  let arg1 : BitVec 32 := BitVec.ofNat 32 (i 1).val
  let c2048_i32 : BitVec 32 := 2048#32
  let v0 : BitVec 32 := Scalar.muli arg1 c2048_i32
  let v1 : BitVec 32 := v0
  let c16_i32 : BitVec 32 := 16#32
  let v5 : BitVec 32 := Scalar.subi v1 c16_i32
  let c0_i32 : BitVec 32 := 0#32
  let v6 : BitVec 32 := Scalar.maxsi v5 c0_i32
  v6
def k0_mult3 (i : grid0.Coords) : BitVec 32 :=
  let arg1 : BitVec 32 := BitVec.ofNat 32 (i 1).val
  let c2048_i32 : BitVec 32 := 2048#32
  let v0 : BitVec 32 := Scalar.muli arg1 c2048_i32
  let v1 : BitVec 32 := v0
  let c2048_i32_0 : BitVec 32 := 2048#32
  let v8 : BitVec 32 := Scalar.addi v1 c2048_i32_0
  let c4080_i32 : BitVec 32 := 4080#32
  let v9 : BitVec 32 := Scalar.minsi v8 c4080_i32
  v9
def k0_off2 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let c16_i32 : BitVec 32 := 16#32
  let v5 : BitVec 32 := Scalar.subi v1 c16_i32
  let c0_i32 : BitVec 32 := 0#32
  let v6 : BitVec 32 := Scalar.maxsi v5 c0_i32
  let v7 : BitVec 32 := v6
  let v11 : Index := Scalar.indexCast v7
  let c0_1 : Index := 0#32
  ![v11.toNat, 0]
def k0_off3 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let c2048_i32_0 : BitVec 32 := 2048#32
  let v8 : BitVec 32 := Scalar.addi v1 c2048_i32_0
  let c4080_i32 : BitVec 32 := 4080#32
  let v9 : BitVec 32 := Scalar.minsi v8 c4080_i32
  let v10 : BitVec 32 := v9
  let v14 : Index := Scalar.indexCast v10
  let c0_2 : Index := 0#32
  ![v14.toNat, 0]
def k0_mult4 (i : grid0.Coords) : BitVec 32 :=
  let arg1 : BitVec 32 := BitVec.ofNat 32 (i 1).val
  let c2048_i32_5 : BitVec 32 := 2048#32
  let v24 : BitVec 32 := Scalar.muli arg1 c2048_i32_5
  v24
def k0_mult5 (i : grid0.Coords) : BitVec 32 :=
  let arg1 : BitVec 32 := BitVec.ofNat 32 (i 1).val
  let c2048_i32_5 : BitVec 32 := 2048#32
  let v24 : BitVec 32 := Scalar.muli arg1 c2048_i32_5
  let v25 : BitVec 32 := v24
  let c16_i32_7 : BitVec 32 := 16#32
  let v28 : BitVec 32 := Scalar.subi v25 c16_i32_7
  let c0_i32_8 : BitVec 32 := 0#32
  let v29 : BitVec 32 := Scalar.maxsi v28 c0_i32_8
  v29
def k0_mult6 (i : grid0.Coords) : BitVec 32 :=
  let arg1 : BitVec 32 := BitVec.ofNat 32 (i 1).val
  let c2048_i32_5 : BitVec 32 := 2048#32
  let v24 : BitVec 32 := Scalar.muli arg1 c2048_i32_5
  let v25 : BitVec 32 := v24
  let c2048_i32_9 : BitVec 32 := 2048#32
  let v31 : BitVec 32 := Scalar.addi v25 c2048_i32_9
  let c4080_i32_10 : BitVec 32 := 4080#32
  let v32 : BitVec 32 := Scalar.minsi v31 c4080_i32_10
  v32
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvRefIdeal.lean ====
abbrev S4096x2048 : Shape := ⟨2, ![4096, 2048]⟩
abbrev S4x2048 : Shape := ⟨2, ![4, 2048]⟩
abbrev S2048 : Shape := ⟨1, ![2048]⟩
abbrev S_ : Shape := ⟨0, ![]⟩
abbrev S2x2048 : Shape := ⟨2, ![2, 2048]⟩
abbrev S1x2048 : Shape := ⟨2, ![1, 2048]⟩
abbrev S4099x2048 : Shape := ⟨2, ![4099, 2048]⟩

abbrev nBuf : Space → Nat
  | .hbm => 112
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S2x2048, .f32⟩
  | .hbm, ⟨6, _⟩ => ⟨S_, .f32⟩
  | .hbm, ⟨7, _⟩ => ⟨S1x2048, .f32⟩
  | .hbm, ⟨8, _⟩ => ⟨S4099x2048, .f32⟩
  | .hbm, ⟨9, _⟩ => ⟨S_, .f32⟩
  | .hbm, ⟨10, _⟩ => ⟨S2x2048, .f32⟩
  | .hbm, ⟨11, _⟩ => ⟨S_, .f32⟩
  | .hbm, ⟨12, _⟩ => ⟨S1x2048, .f32⟩
  | .hbm, ⟨13, _⟩ => ⟨S4096x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S4x2048, .f32⟩
  | .hbm, ⟨56, _⟩ => ⟨S_, .f32⟩
  | .hbm, ⟨57, _⟩ => ⟨S4099x2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S4096x2048, .f32⟩
  | .hbm, ⟨63, _⟩ => ⟨S4096x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S_, .f32⟩
  | .hbm, ⟨68, _⟩ => ⟨S4x2048, .f32⟩
  | .hbm, ⟨69, _⟩ => ⟨S4x2048, .f32⟩
  | .hbm, ⟨70, _⟩ => ⟨S_, .f32⟩
  | .hbm, ⟨71, _⟩ => ⟨S4099x2048, .f32⟩
  | .hbm, ⟨72, _⟩ => ⟨S4099x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S_, .f32⟩
  | .hbm, ⟨83, _⟩ => ⟨S4x2048, .f32⟩
  | .hbm, ⟨84, _⟩ => ⟨S4x2048, .f32⟩
  | .hbm, ⟨85, _⟩ => ⟨S_, .f32⟩
  | .hbm, ⟨86, _⟩ => ⟨S4099x2048, .f32⟩
  | .hbm, ⟨87, _⟩ => ⟨S4099x2048, .f32⟩
  | .hbm, ⟨88, _⟩ => ⟨S_, .f32⟩
  | .hbm, ⟨89, _⟩ => ⟨S2048, .f32⟩
  | .hbm, ⟨90, _⟩ => ⟨S1x2048, .f32⟩
  | .hbm, ⟨91, _⟩ => ⟨S_, .f32⟩
  | .hbm, ⟨92, _⟩ => ⟨S2048, .f32⟩
  | .hbm, ⟨93, _⟩ => ⟨S4096x2048, .f32⟩
  | .hbm, ⟨94, _⟩ => ⟨S_, .f32⟩
  | .hbm, ⟨95, _⟩ => ⟨S2048, .f32⟩
  | .hbm, ⟨96, _⟩ => ⟨S1x2048, .f32⟩
  | .hbm, ⟨97, _⟩ => ⟨S4096x2048, .f32⟩
  | .hbm, ⟨98, _⟩ => ⟨S4096x2048, .f32⟩
  | .hbm, ⟨99, _⟩ => ⟨S_, .f32⟩
  | .hbm, ⟨100, _⟩ => ⟨S2048, .f32⟩
  | .hbm, ⟨101, _⟩ => ⟨S1x2048, .f32⟩
  | .hbm, ⟨102, _⟩ => ⟨S_, .f32⟩
  | .hbm, ⟨103, _⟩ => ⟨S4x2048, .f32⟩
  | .hbm, ⟨104, _⟩ => ⟨S4x2048, .f32⟩
  | .hbm, ⟨105, _⟩ => ⟨S_, .f32⟩
  | .hbm, ⟨106, _⟩ => ⟨S4099x2048, .f32⟩
  | .hbm, ⟨107, _⟩ => ⟨S4099x2048, .f32⟩
  | .hbm, ⟨108, _⟩ => ⟨S2x2048, .f32⟩
  | .hbm, ⟨109, _⟩ => ⟨S4096x2048, .f32⟩
  | .hbm, ⟨110, _⟩ => ⟨S1x2048, .f32⟩
  | .hbm, ⟨111, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_cst_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_cst_15 : Ref sig .tc := ⟨.hbm, 88, rfl⟩
abbrev main_v68 : Ref sig .tc := ⟨.hbm, 89, rfl⟩
abbrev main_v69 : Ref sig .tc := ⟨.hbm, 90, rfl⟩
abbrev main_cst_16 : Ref sig .tc := ⟨.hbm, 91, rfl⟩
abbrev main_v70 : Ref sig .tc := ⟨.hbm, 92, rfl⟩
abbrev main_v71 : Ref sig .tc := ⟨.hbm, 93, rfl⟩
abbrev main_cst_17 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_18 : Ref sig .tc := ⟨.hbm, 99, rfl⟩
abbrev main_v76 : Ref sig .tc := ⟨.hbm, 100, rfl⟩
abbrev main_v77 : Ref sig .tc := ⟨.hbm, 101, rfl⟩
abbrev main_cst_19 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== DyLru.lean ====
abbrev S4096x2048 : Shape := ⟨2, ![4096, 2048]⟩
abbrev S2048x2048 : Shape := ⟨2, ![2048, 2048]⟩
abbrev S_ : Shape := ⟨0, ![]⟩
abbrev S4096x4096 : Shape := ⟨2, ![4096, 4096]⟩
abbrev S4096x10240 : Shape := ⟨2, ![4096, 10240]⟩
abbrev S5x4096x2048 : Shape := ⟨3, ![5, 4096, 2048]⟩
abbrev S512x2048 : Shape := ⟨2, ![512, 2048]⟩
abbrev S1024x2048 : Shape := ⟨2, ![1024, 2048]⟩
abbrev S512x1024 : Shape := ⟨2, ![512, 1024]⟩
abbrev S1x512x1024 : Shape := ⟨3, ![1, 512, 1024]⟩

abbrev nBuf : Space → Nat
  | .hbm => 17
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S_, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x10240, .f32⟩
  | .hbm, ⟨10, _⟩ => ⟨S_, .f32⟩
  | .hbm, ⟨11, _⟩ => ⟨S5x4096x2048, .f32⟩
  | .hbm, ⟨12, _⟩ => ⟨S5x4096x2048, .bf16⟩
  | .hbm, ⟨13, _⟩ => ⟨S4096x2048, .bf16⟩
  | .hbm, ⟨14, _⟩ => ⟨S2048x2048, .bf16⟩
  | .hbm, ⟨15, _⟩ => ⟨S4096x2048, .f32⟩
  | .hbm, ⟨16, _⟩ => ⟨S5x4096x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x512x1024, .bf16⟩
  | .local _ .vmem, ⟨13, _⟩ => ⟨S1x512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![c4_i32.toNat, arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DyLruRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== AdamOut.lean ====
abbrev S1 : Shape := ⟨1, ![1]⟩
abbrev S4x1x256x2048 : Shape := ⟨4, ![4, 1, 256, 2048]⟩
abbrev S3x1x256x2048 : Shape := ⟨4, ![3, 1, 256, 2048]⟩
abbrev S1x256x2048 : Shape := ⟨3, ![1, 256, 2048]⟩
abbrev S_ : Shape := ⟨0, ![]⟩
abbrev S1x1x128x2048 : Shape := ⟨4, ![1, 1, 128, 2048]⟩
abbrev S3x1x128x2048 : Shape := ⟨4, ![3, 1, 128, 2048]⟩
abbrev S1x128x2048 : Shape := ⟨3, ![1, 128, 2048]⟩
abbrev S128x2048 : Shape := ⟨2, ![128, 2048]⟩

abbrev nBuf : Space → Nat
  | .hbm => 17
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x1x256x2048, .bf16⟩
  | .hbm, ⟨2, _⟩ => ⟨S3x1x256x2048, .bf16⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1x256x2048, .f32⟩
  | .hbm, ⟨14, _⟩ => ⟨S1x256x2048, .f32⟩
  | .hbm, ⟨15, _⟩ => ⟨S1x256x2048, .f32⟩
  | .hbm, ⟨16, _⟩ => ⟨S1x256x2048, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S3x1x128x2048, .bf16⟩
  | .local _ .vmem, ⟨3, _⟩ => ⟨S3x1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v0.toNat, v17.toNat, v27.toNat, c0_i32_10.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutIdeal.lean ====
abbrev S1 : Shape := ⟨1, ![1]⟩
abbrev S4x1x256x2048 : Shape := ⟨4, ![4, 1, 256, 2048]⟩
abbrev S3x1x256x2048 : Shape := ⟨4, ![3, 1, 256, 2048]⟩
abbrev S1x256x2048 : Shape := ⟨3, ![1, 256, 2048]⟩
abbrev S_ : Shape := ⟨0, ![]⟩
abbrev S1x1x128x2048 : Shape := ⟨4, ![1, 1, 128, 2048]⟩
abbrev S3x1x128x2048 : Shape := ⟨4, ![3, 1, 128, 2048]⟩
abbrev S1x128x2048 : Shape := ⟨3, ![1, 128, 2048]⟩
abbrev S128x2048 : Shape := ⟨2, ![128, 2048]⟩

abbrev nBuf : Space → Nat
  | .hbm => 17
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x1x256x2048, .bf16⟩
  | .hbm, ⟨2, _⟩ => ⟨S3x1x256x2048, .bf16⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1x256x2048, .f32⟩
  | .hbm, ⟨14, _⟩ => ⟨S1x256x2048, .f32⟩
  | .hbm, ⟨15, _⟩ => ⟨S1x256x2048, .f32⟩
  | .hbm, ⟨16, _⟩ => ⟨S1x256x2048, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S3x1x128x2048, .bf16⟩
  | .local _ .vmem, ⟨3, _⟩ => ⟨S3x1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.divsi arg0 c2_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v0.toNat, v17.toNat, v27.toNat, c0_i32_10.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamOutRefIdeal.lean ====
abbrev S1 : Shape := ⟨1, ![1]⟩
abbrev S4x1x256x2048 : Shape := ⟨4, ![4, 1, 256, 2048]⟩
abbrev S3x1x256x2048 : Shape := ⟨4, ![3, 1, 256, 2048]⟩
abbrev S1x256x2048 : Shape := ⟨3, ![1, 256, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1x256x2048, .bf16⟩
  | .hbm, ⟨2, _⟩ => ⟨S3x1x256x2048, .bf16⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S_, .i32⟩
  | .hbm, ⟨7, _⟩ => ⟨S1, .i32⟩
  | .hbm, ⟨8, _⟩ => ⟨S1x256x2048, .bf16⟩
  | .hbm, ⟨9, _⟩ => ⟨S1x256x2048, .f32⟩
  | .hbm, ⟨10, _⟩ => ⟨S3x1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S_, .f32⟩
  | .hbm, ⟨15, _⟩ => ⟨S1x256x2048, .f32⟩
  | .hbm, ⟨16, _⟩ => ⟨S1x256x2048, .f32⟩
  | .hbm, ⟨17, _⟩ => ⟨S_, .f32⟩
  | .hbm, ⟨18, _⟩ => ⟨S1x256x2048, .f32⟩
  | .hbm, ⟨19, _⟩ => ⟨S1x256x2048, .f32⟩
  | .hbm, ⟨20, _⟩ => ⟨S1x256x2048, .f32⟩
  | .hbm, ⟨21, _⟩ => ⟨S_, .f32⟩
  | .hbm, ⟨22, _⟩ => ⟨S1x256x2048, .f32⟩
  | .hbm, ⟨23, _⟩ => ⟨S1x256x2048, .f32⟩
  | .hbm, ⟨24, _⟩ => ⟨S1x256x2048, .f32⟩
  | .hbm, ⟨25, _⟩ => ⟨S_, .f32⟩
  | .hbm, ⟨26, _⟩ => ⟨S1x256x2048, .f32⟩
  | .hbm, ⟨27, _⟩ => ⟨S1x256x2048, .f32⟩
  | .hbm, ⟨28, _⟩ => ⟨S1x256x2048, .f32⟩
  | .hbm, ⟨29, _⟩ => ⟨S_, .f32⟩
  | .hbm, ⟨30, _⟩ => ⟨S1x256x2048, .f32⟩
  | .hbm, ⟨31, _⟩ => ⟨S1x256x2048, .f32⟩
  | .hbm, ⟨32, _⟩ => ⟨S_, .f32⟩
  | .hbm, ⟨33, _⟩ => ⟨S1x256x2048, .f32⟩
  | .hbm, ⟨34, _⟩ => ⟨S1x256x2048, .f32⟩
  | .hbm, ⟨35, _⟩ => ⟨S1x256x2048, .f32⟩
  | .hbm, ⟨36, _⟩ => ⟨S_, .f32⟩
  | .hbm, ⟨37, _⟩ => ⟨S1x256x2048, .f32⟩
  | .hbm, ⟨38, _⟩ => ⟨S1x256x2048, .f32⟩
  | .hbm, ⟨39, _⟩ => ⟨S1x256x2048, .f32⟩
  | .hbm, ⟨40, _⟩ => ⟨S_, .f32⟩
  | .hbm, ⟨41, _⟩ => ⟨S1x256x2048, .f32⟩
  | .hbm, ⟨42, _⟩ => ⟨S1x256x2048, .f32⟩
  | .hbm, ⟨43, _⟩ => ⟨S1x256x2048, .f32⟩
  | .hbm, ⟨44, _⟩ => ⟨S_, .f32⟩
  | .hbm, ⟨45, _⟩ => ⟨S1x256x2048, .f32⟩
  | .hbm, ⟨46, _⟩ => ⟨S1x256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== AdamFf2.lean ====
abbrev S1 : Shape := ⟨1, ![1]⟩
abbrev S4x1x1024x2048 : Shape := ⟨4, ![4, 1, 1024, 2048]⟩
abbrev S3x1x1024x2048 : Shape := ⟨4, ![3, 1, 1024, 2048]⟩
abbrev S1x1024x2048 : Shape := ⟨3, ![1, 1024, 2048]⟩
abbrev S_ : Shape := ⟨0, ![]⟩
abbrev S1x1x128x2048 : Shape := ⟨4, ![1, 1, 128, 2048]⟩
abbrev S3x1x128x2048 : Shape := ⟨4, ![3, 1, 128, 2048]⟩
abbrev S1x128x2048 : Shape := ⟨3, ![1, 128, 2048]⟩
abbrev S128x2048 : Shape := ⟨2, ![128, 2048]⟩

abbrev nBuf : Space → Nat
  | .hbm => 17
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x1x1024x2048, .bf16⟩
  | .hbm, ⟨2, _⟩ => ⟨S3x1x1024x2048, .bf16⟩
  | .hbm, ⟨3, _⟩ => ⟨S1x1024x2048, .f32⟩
  | .hbm, ⟨4, _⟩ => ⟨S1x1024x2048, .f32⟩
  | .hbm, ⟨5, _⟩ => ⟨S1x1024x2048, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1x1024x2048, .f32⟩
  | .hbm, ⟨14, _⟩ => ⟨S1x1024x2048, .f32⟩
  | .hbm, ⟨15, _⟩ => ⟨S1x1024x2048, .f32⟩
  | .hbm, ⟨16, _⟩ => ⟨S1x1024x2048, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S3x1x128x2048, .bf16⟩
  | .local _ .vmem, ⟨3, _⟩ => ⟨S3x1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v0.toNat, v17.toNat, v27.toNat, c0_i32_10.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFf2Ideal.lean ====
abbrev S1 : Shape := ⟨1, ![1]⟩
abbrev S4x1x1024x2048 : Shape := ⟨4, ![4, 1, 1024, 2048]⟩
abbrev S3x1x1024x2048 : Shape := ⟨4, ![3, 1, 1024, 2048]⟩
abbrev S1x1024x2048 : Shape := ⟨3, ![1, 1024, 2048]⟩
abbrev S_ : Shape := ⟨0, ![]⟩
abbrev S1x1x128x2048 : Shape := ⟨4, ![1, 1, 128, 2048]⟩
abbrev S3x1x128x2048 : Shape := ⟨4, ![3, 1, 128, 2048]⟩
abbrev S1x128x2048 : Shape := ⟨3, ![1, 128, 2048]⟩
abbrev S128x2048 : Shape := ⟨2, ![128, 2048]⟩

abbrev nBuf : Space → Nat
  | .hbm => 17
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x1x1024x2048, .bf16⟩
  | .hbm, ⟨2, _⟩ => ⟨S3x1x1024x2048, .bf16⟩
  | .hbm, ⟨3, _⟩ => ⟨S1x1024x2048, .f32⟩
  | .hbm, ⟨4, _⟩ => ⟨S1x1024x2048, .f32⟩
  | .hbm, ⟨5, _⟩ => ⟨S1x1024x2048, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1x1024x2048, .f32⟩
  | .hbm, ⟨14, _⟩ => ⟨S1x1024x2048, .f32⟩
  | .hbm, ⟨15, _⟩ => ⟨S1x1024x2048, .f32⟩
  | .hbm, ⟨16, _⟩ => ⟨S1x1024x2048, .f32⟩
  | .local _ .vmem, ⟨0, _⟩ => ⟨S1x1x128x2048, .bf16⟩
  | .local _ .vmem, ⟨1, _⟩ => ⟨S1x1x128x2048, .bf16⟩
  | .local _ .vmem, ⟨2, _⟩ => ⟨S3x1x128x2048, .bf16⟩
  | .local _ .vmem, ⟨3, _⟩ => ⟨S3x1x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let c0_i32_5 : BitVec 32 := 0#32
  let v18 : BitVec 1 := Scalar.cmpi .eq c8_i32_4 c0_i32_5
  let c1_i32_6 : BitVec 32 := 1#32
  let v19 : BitVec 32 := Scalar.select v18 c1_i32_6 c8_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v0.toNat, v17.toNat, v27.toNat, c0_i32_10.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFf2RefIdeal.lean ====
abbrev S1 : Shape := ⟨1, ![1]⟩
abbrev S4x1x1024x2048 : Shape := ⟨4, ![4, 1, 1024, 2048]⟩
abbrev S3x1x1024x2048 : Shape := ⟨4, ![3, 1, 1024, 2048]⟩
abbrev S1x1024x2048 : Shape := ⟨3, ![1, 1024, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1x1024x2048, .bf16⟩
  | .hbm, ⟨2, _⟩ => ⟨S3x1x1024x2048, .bf16⟩
  | .hbm, ⟨3, _⟩ => ⟨S1x1024x2048, .f32⟩
  | .hbm, ⟨4, _⟩ => ⟨S1x1024x2048, .f32⟩
  | .hbm, ⟨5, _⟩ => ⟨S1x1024x2048, .f32⟩
  | .hbm, ⟨6, _⟩ => ⟨S_, .i32⟩
  | .hbm, ⟨7, _⟩ => ⟨S1, .i32⟩
  | .hbm, ⟨8, _⟩ => ⟨S1x1024x2048, .bf16⟩
  | .hbm, ⟨9, _⟩ => ⟨S1x1024x2048, .f32⟩
  | .hbm, ⟨10, _⟩ => ⟨S3x1x1024x2048, .f32⟩
  | .hbm, ⟨11, _⟩ => ⟨S_, .f32⟩
  | .hbm, ⟨12, _⟩ => ⟨S1x1024x2048, .f32⟩
  | .hbm, ⟨13, _⟩ => ⟨S1x1024x2048, .f32⟩
  | .hbm, ⟨14, _⟩ => ⟨S_, .f32⟩
  | .hbm, ⟨15, _⟩ => ⟨S1x1024x2048, .f32⟩
  | .hbm, ⟨16, _⟩ => ⟨S1x1024x2048, .f32⟩
  | .hbm, ⟨17, _⟩ => ⟨S_, .f32⟩
  | .hbm, ⟨18, _⟩ => ⟨S1x1024x2048, .f32⟩
  | .hbm, ⟨19, _⟩ => ⟨S1x1024x2048, .f32⟩
  | .hbm, ⟨20, _⟩ => ⟨S1x1024x2048, .f32⟩
  | .hbm, ⟨21, _⟩ => ⟨S_, .f32⟩
  | .hbm, ⟨22, _⟩ => ⟨S1x1024x2048, .f32⟩
  | .hbm, ⟨23, _⟩ => ⟨S1x1024x2048, .f32⟩
  | .hbm, ⟨24, _⟩ => ⟨S1x1024x2048, .f32⟩
  | .hbm, ⟨25, _⟩ => ⟨S_, .f32⟩
  | .hbm, ⟨26, _⟩ => ⟨S1x1024x2048, .f32⟩
  | .hbm, ⟨27, _⟩ => ⟨S1x1024x2048, .f32⟩
  | .hbm, ⟨28, _⟩ => ⟨S1x1024x2048, .f32⟩
  | .hbm, ⟨29, _⟩ => ⟨S_, .f32⟩
  | .hbm, ⟨30, _⟩ => ⟨S1x1024x2048, .f32⟩
  | .hbm, ⟨31, _⟩ => ⟨S1x1024x2048, .f32⟩
  | .hbm, ⟨32, _⟩ => ⟨S_, .f32⟩
  | .hbm, ⟨33, _⟩ => ⟨S1x1024x2048, .f32⟩
  | .hbm, ⟨34, _⟩ => ⟨S1x1024x2048, .f32⟩
  | .hbm, ⟨35, _⟩ => ⟨S1x1024x2048, .f32⟩
  | .hbm, ⟨36, _⟩ => ⟨S_, .f32⟩
  | .hbm, ⟨37, _⟩ => ⟨S1x1024x2048, .f32⟩
  | .hbm, ⟨38, _⟩ => ⟨S1x1024x2048, .f32⟩
  | .hbm, ⟨39, _⟩ => ⟨S1x1024x2048, .f32⟩
  | .hbm, ⟨40, _⟩ => ⟨S_, .f32⟩
  | .hbm, ⟨41, _⟩ => ⟨S1x1024x2048, .f32⟩
  | .hbm, ⟨42, _⟩ => ⟨S1x1024x2048, .f32⟩
  | .hbm, ⟨43, _⟩ => ⟨S1x1024x2048, .f32⟩
  | .hbm, ⟨44, _⟩ => ⟨S_, .f32⟩
  | .hbm, ⟨45, _⟩ => ⟨S1x1024x2048, .f32⟩
  | .hbm, ⟨46, _⟩ => ⟨S1x1024x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== AdamPool.lean ====
abbrev S1 : Shape := ⟨1, ![1]⟩
abbrev S4x4x64x512 : Shape := ⟨4, ![4, 4, 64, 512]⟩
abbrev S3x4x64x512 : Shape := ⟨4, ![3, 4, 64, 512]⟩
abbrev S4x64x512 : Shape := ⟨3, ![4, 64, 512]⟩
abbrev S_ : Shape := ⟨0, ![]⟩
abbrev S1x1x64x512 : Shape := ⟨4, ![1, 1, 64, 512]⟩
abbrev S3x1x64x512 : Shape := ⟨4, ![3, 1, 64, 512]⟩
abbrev S1x64x512 : Shape := ⟨3, ![1, 64, 512]⟩
abbrev S64x512 : Shape := ⟨2, ![64, 512]⟩

abbrev nBuf : Space → Nat
  | .hbm => 17
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x4x64x512, .bf16⟩
  | .hbm, ⟨2, _⟩ => ⟨S3x4x64x512, .bf16⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S4x64x512, .f32⟩
  | .hbm, ⟨14, _⟩ => ⟨S4x64x512, .f32⟩
  | .hbm, ⟨15, _⟩ => ⟨S4x64x512, .f32⟩
  | .hbm, ⟨16, _⟩ => ⟨S4x64x512, .f32⟩
  | .local _ .vmem, ⟨0, _⟩ => ⟨S1x1x64x512, .bf16⟩
  | .local _ .vmem, ⟨1, _⟩ => ⟨S1x1x64x512, .bf16⟩
  | .local _ .vmem, ⟨2, _⟩ => ⟨S3x1x64x512, .bf16⟩
  | .local _ .vmem, ⟨3, _⟩ => ⟨S3x1x64x512, .bf16⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v0.toNat, v17.toNat, v27.toNat, c0_i32_11.toNat]

def cc0_transform_1 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, v26.toNat, c0_i32_12.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S1x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPoolIdeal.lean ====
abbrev S1 : Shape := ⟨1, ![1]⟩
abbrev S4x4x64x512 : Shape := ⟨4, ![4, 4, 64, 512]⟩
abbrev S3x4x64x512 : Shape := ⟨4, ![3, 4, 64, 512]⟩
abbrev S4x64x512 : Shape := ⟨3, ![4, 64, 512]⟩
abbrev S_ : Shape := ⟨0, ![]⟩
abbrev S1x1x64x512 : Shape := ⟨4, ![1, 1, 64, 512]⟩
abbrev S3x1x64x512 : Shape := ⟨4, ![3, 1, 64, 512]⟩
abbrev S1x64x512 : Shape := ⟨3, ![1, 64, 512]⟩
abbrev S64x512 : Shape := ⟨2, ![64, 512]⟩

abbrev nBuf : Space → Nat
  | .hbm => 17
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x4x64x512, .bf16⟩
  | .hbm, ⟨2, _⟩ => ⟨S3x4x64x512, .bf16⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S4x64x512, .f32⟩
  | .hbm, ⟨14, _⟩ => ⟨S4x64x512, .f32⟩
  | .hbm, ⟨15, _⟩ => ⟨S4x64x512, .f32⟩
  | .hbm, ⟨16, _⟩ => ⟨S4x64x512, .f32⟩
  | .local _ .vmem, ⟨0, _⟩ => ⟨S1x1x64x512, .bf16⟩
  | .local _ .vmem, ⟨1, _⟩ => ⟨S1x1x64x512, .bf16⟩
  | .local _ .vmem, ⟨2, _⟩ => ⟨S3x1x64x512, .bf16⟩
  | .local _ .vmem, ⟨3, _⟩ => ⟨S3x1x64x512, .bf16⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | .local _ .vmem, ⟨16, _⟩ => ⟨S1x64x512, .f32⟩
  | .local _ .vmem, ⟨17, _⟩ => ⟨S1x64x512, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v0.toNat, v17.toNat, v27.toNat, c0_i32_11.toNat]

def cc0_transform_1 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, v26.toNat, c0_i32_12.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S1x1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamPoolRefIdeal.lean ====
abbrev S1 : Shape := ⟨1, ![1]⟩
abbrev S4x4x64x512 : Shape := ⟨4, ![4, 4, 64, 512]⟩
abbrev S3x4x64x512 : Shape := ⟨4, ![3, 4, 64, 512]⟩
abbrev S4x64x512 : Shape := ⟨3, ![4, 64, 512]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x4x64x512, .bf16⟩
  | .hbm, ⟨2, _⟩ => ⟨S3x4x64x512, .bf16⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S_, .i32⟩
  | .hbm, ⟨7, _⟩ => ⟨S1, .i32⟩
  | .hbm, ⟨8, _⟩ => ⟨S4x64x512, .bf16⟩
  | .hbm, ⟨9, _⟩ => ⟨S4x64x512, .f32⟩
  | .hbm, ⟨10, _⟩ => ⟨S3x4x64x512, .f32⟩
  | .hbm, ⟨11, _⟩ => ⟨S_, .f32⟩
  | .hbm, ⟨12, _⟩ => ⟨S4x64x512, .f32⟩
  | .hbm, ⟨13, _⟩ => ⟨S4x64x512, .f32⟩
  | .hbm, ⟨14, _⟩ => ⟨S_, .f32⟩
  | .hbm, ⟨15, _⟩ => ⟨S4x64x512, .f32⟩
  | .hbm, ⟨16, _⟩ => ⟨S4x64x512, .f32⟩
  | .hbm, ⟨17, _⟩ => ⟨S_, .f32⟩
  | .hbm, ⟨18, _⟩ => ⟨S4x64x512, .f32⟩
  | .hbm, ⟨19, _⟩ => ⟨S4x64x512, .f32⟩
  | .hbm, ⟨20, _⟩ => ⟨S4x64x512, .f32⟩
  | .hbm, ⟨21, _⟩ => ⟨S_, .f32⟩
  | .hbm, ⟨22, _⟩ => ⟨S4x64x512, .f32⟩
  | .hbm, ⟨23, _⟩ => ⟨S4x64x512, .f32⟩
  | .hbm, ⟨24, _⟩ => ⟨S4x64x512, .f32⟩
  | .hbm, ⟨25, _⟩ => ⟨S_, .f32⟩
  | .hbm, ⟨26, _⟩ => ⟨S4x64x512, .f32⟩
  | .hbm, ⟨27, _⟩ => ⟨S4x64x512, .f32⟩
  | .hbm, ⟨28, _⟩ => ⟨S4x64x512, .f32⟩
  | .hbm, ⟨29, _⟩ => ⟨S_, .f32⟩
  | .hbm, ⟨30, _⟩ => ⟨S4x64x512, .f32⟩
  | .hbm, ⟨31, _⟩ => ⟨S4x64x512, .f32⟩
  | .hbm, ⟨32, _⟩ => ⟨S_, .f32⟩
  | .hbm, ⟨33, _⟩ => ⟨S4x64x512, .f32⟩
  | .hbm, ⟨34, _⟩ => ⟨S4x64x512, .f32⟩
  | .hbm, ⟨35, _⟩ => ⟨S4x64x512, .f32⟩
  | .hbm, ⟨36, _⟩ => ⟨S_, .f32⟩
  | .hbm, ⟨37, _⟩ => ⟨S4x64x512, .f32⟩
  | .hbm, ⟨38, _⟩ => ⟨S4x64x512, .f32⟩
  | .hbm, ⟨39, _⟩ => ⟨S4x64x512, .f32⟩
  | .hbm, ⟨40, _⟩ => ⟨S_, .f32⟩
  | .hbm, ⟨41, _⟩ => ⟨S4x64x512, .f32⟩
  | .hbm, ⟨42, _⟩ => ⟨S4x64x512, .f32⟩
  | .hbm, ⟨43, _⟩ => ⟨S4x64x512, .f32⟩
  | .hbm, ⟨44, _⟩ => ⟨S_, .f32⟩
  | .hbm, ⟨45, _⟩ => ⟨S4x64x512, .f32⟩
  | .hbm, ⟨46, _⟩ => ⟨S4x64x512, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== AdamLru.lean ====
abbrev S1 : Shape := ⟨1, ![1]⟩
abbrev S4x16x32x256 : Shape := ⟨4, ![4, 16, 32, 256]⟩
abbrev S3x16x32x256 : Shape := ⟨4, ![3, 16, 32, 256]⟩
abbrev S16x32x256 : Shape := ⟨3, ![16, 32, 256]⟩
abbrev S_ : Shape := ⟨0, ![]⟩
abbrev S1x1x32x256 : Shape := ⟨4, ![1, 1, 32, 256]⟩
abbrev S3x1x32x256 : Shape := ⟨4, ![3, 1, 32, 256]⟩
abbrev S1x32x256 : Shape := ⟨3, ![1, 32, 256]⟩
abbrev S32x256 : Shape := ⟨2, ![32, 256]⟩

abbrev nBuf : Space → Nat
  | .hbm => 17
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x16x32x256, .bf16⟩
  | .hbm, ⟨2, _⟩ => ⟨S3x16x32x256, .bf16⟩
  | .hbm, ⟨3, _⟩ => ⟨S16x32x256, .f32⟩
  | .hbm, ⟨4, _⟩ => ⟨S16x32x256, .f32⟩
  | .hbm, ⟨5, _⟩ => ⟨S16x32x256, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S16x32x256, .f32⟩
  | .hbm, ⟨14, _⟩ => ⟨S16x32x256, .f32⟩
  | .hbm, ⟨15, _⟩ => ⟨S16x32x256, .f32⟩
  | .hbm, ⟨16, _⟩ => ⟨S16x32x256, .f32⟩
  | .local _ .vmem, ⟨0, _⟩ => ⟨S1x1x32x256, .bf16⟩
  | .local _ .vmem, ⟨1, _⟩ => ⟨S1x1x32x256, .bf16⟩
  | .local _ .vmem, ⟨2, _⟩ => ⟨S3x1x32x256, .bf16⟩
  | .local _ .vmem, ⟨3, _⟩ => ⟨S3x1x32x256, .bf16⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S1x32x256, .f32⟩
  | .local _ .vmem, ⟨10, _⟩ => ⟨S1x32x256, .f32⟩
  | .local _ .vmem, ⟨11, _⟩ => ⟨S1x32x256, .f32⟩
  | .local _ .vmem, ⟨12, _⟩ => ⟨S1x32x256, .f32⟩
  | .local _ .vmem, ⟨13, _⟩ => ⟨S1x32x256, .f32⟩
  | .local _ .vmem, ⟨14, _⟩ => ⟨S1x32x256, .f32⟩
  | .local _ .vmem, ⟨15, _⟩ => ⟨S1x32x256, .f32⟩
  | .local _ .vmem, ⟨16, _⟩ => ⟨S1x32x256, .f32⟩
  | .local _ .vmem, ⟨17, _⟩ => ⟨S1x32x256, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v0.toNat, v17.toNat, v27.toNat, c0_i32_11.toNat]

def cc0_transform_1 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, v26.toNat, c0_i32_12.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_5 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_6 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_7 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S1x1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamLruRefIdeal.lean ====
abbrev S1 : Shape := ⟨1, ![1]⟩
abbrev S4x16x32x256 : Shape := ⟨4, ![4, 16, 32, 256]⟩
abbrev S3x16x32x256 : Shape := ⟨4, ![3, 16, 32, 256]⟩
abbrev S16x32x256 : Shape := ⟨3, ![16, 32, 256]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x16x32x256, .bf16⟩
  | .hbm, ⟨2, _⟩ => ⟨S3x16x32x256, .bf16⟩
  | .hbm, ⟨3, _⟩ => ⟨S16x32x256, .f32⟩
  | .hbm, ⟨4, _⟩ => ⟨S16x32x256, .f32⟩
  | .hbm, ⟨5, _⟩ => ⟨S16x32x256, .f32⟩
  | .hbm, ⟨6, _⟩ => ⟨S_, .i32⟩
  | .hbm, ⟨7, _⟩ => ⟨S1, .i32⟩
  | .hbm, ⟨8, _⟩ => ⟨S16x32x256, .bf16⟩
  | .hbm, ⟨9, _⟩ => ⟨S16x32x256, .f32⟩
  | .hbm, ⟨10, _⟩ => ⟨S3x16x32x256, .f32⟩
  | .hbm, ⟨11, _⟩ => ⟨S_, .f32⟩
  | .hbm, ⟨12, _⟩ => ⟨S16x32x256, .f32⟩
  | .hbm, ⟨13, _⟩ => ⟨S16x32x256, .f32⟩
  | .hbm, ⟨14, _⟩ => ⟨S_, .f32⟩
  | .hbm, ⟨15, _⟩ => ⟨S16x32x256, .f32⟩
  | .hbm, ⟨16, _⟩ => ⟨S16x32x256, .f32⟩
  | .hbm, ⟨17, _⟩ => ⟨S_, .f32⟩
  | .hbm, ⟨18, _⟩ => ⟨S16x32x256, .f32⟩
  | .hbm, ⟨19, _⟩ => ⟨S16x32x256, .f32⟩
  | .hbm, ⟨20, _⟩ => ⟨S16x32x256, .f32⟩
  | .hbm, ⟨21, _⟩ => ⟨S_, .f32⟩
  | .hbm, ⟨22, _⟩ => ⟨S16x32x256, .f32⟩
  | .hbm, ⟨23, _⟩ => ⟨S16x32x256, .f32⟩
  | .hbm, ⟨24, _⟩ => ⟨S16x32x256, .f32⟩
  | .hbm, ⟨25, _⟩ => ⟨S_, .f32⟩
  | .hbm, ⟨26, _⟩ => ⟨S16x32x256, .f32⟩
  | .hbm, ⟨27, _⟩ => ⟨S16x32x256, .f32⟩
  | .hbm, ⟨28, _⟩ => ⟨S16x32x256, .f32⟩
  | .hbm, ⟨29, _⟩ => ⟨S_, .f32⟩
  | .hbm, ⟨30, _⟩ => ⟨S16x32x256, .f32⟩
  | .hbm, ⟨31, _⟩ => ⟨S16x32x256, .f32⟩
  | .hbm, ⟨32, _⟩ => ⟨S_, .f32⟩
  | .hbm, ⟨33, _⟩ => ⟨S16x32x256, .f32⟩
  | .hbm, ⟨34, _⟩ => ⟨S16x32x256, .f32⟩
  | .hbm, ⟨35, _⟩ => ⟨S16x32x256, .f32⟩
  | .hbm, ⟨36, _⟩ => ⟨S_, .f32⟩
  | .hbm, ⟨37, _⟩ => ⟨S16x32x256, .f32⟩
  | .hbm, ⟨38, _⟩ => ⟨S16x32x256, .f32⟩
  | .hbm, ⟨39, _⟩ => ⟨S16x32x256, .f32⟩
  | .hbm, ⟨40, _⟩ => ⟨S_, .f32⟩
  | .hbm, ⟨41, _⟩ => ⟨S16x32x256, .f32⟩
  | .hbm, ⟨42, _⟩ => ⟨S16x32x256, .f32⟩
  | .hbm, ⟨43, _⟩ => ⟨S16x32x256, .f32⟩
  | .hbm, ⟨44, _⟩ => ⟨S_, .f32⟩
  | .hbm, ⟨45, _⟩ => ⟨S16x32x256, .f32⟩
  | .hbm, ⟨46, _⟩ => ⟨S16x32x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== AdamFf1.lean ====
abbrev S1 : Shape := ⟨1, ![1]⟩
abbrev S4x2048x1024 : Shape := ⟨3, ![4, 2048, 1024]⟩
abbrev S3x2048x1024 : Shape := ⟨3, ![3, 2048, 1024]⟩
abbrev S2048x1024 : Shape := ⟨2, ![2048, 1024]⟩
abbrev S_ : Shape := ⟨0, ![]⟩
abbrev S1x256x1024 : Shape := ⟨3, ![1, 256, 1024]⟩
abbrev S3x256x1024 : Shape := ⟨3, ![3, 256, 1024]⟩
abbrev S256x1024 : Shape := ⟨2, ![256, 1024]⟩

abbrev nBuf : Space → Nat
  | .hbm => 17
  | .vmem => 18
  | .smem => 1
  | _ => 0

abbrev bufTy : (tb : Table) → Fin (tcTables nBuf tb) → BufTy
  | .hbm, ⟨0, _⟩ => ⟨S1, .i32⟩
  | .hbm, ⟨1, _⟩ => ⟨S4x2048x1024, .bf16⟩
  | .hbm, ⟨2, _⟩ => ⟨S3x2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.subi arg0 c0_i32
  let c0_i32_0 : BitVec 32 := 0#32
  let c7_i32 : BitVec 32 := 7#32
  let v2 : BitVec 32 := Scalar.maxsi c0_i32_0 v1
  let v3 : BitVec 32 := Scalar.minsi c7_i32 v2
  let c0_i32_1 : BitVec 32 := 0#32
  let c0_i32_2 : BitVec 32 := 0#32
  ![v0.toNat, v3.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFf1RefIdeal.lean ====
abbrev S1 : Shape := ⟨1, ![1]⟩
abbrev S4x2048x1024 : Shape := ⟨3, ![4, 2048, 1024]⟩
abbrev S3x2048x1024 : Shape := ⟨3, ![3, 2048, 1024]⟩
abbrev S2048x1024 : Shape := ⟨2, ![2048, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2048x1024, .bf16⟩
  | .hbm, ⟨2, _⟩ => ⟨S3x2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .i32⟩
  | .hbm, ⟨7, _⟩ => ⟨S1, .i32⟩
  | .hbm, ⟨8, _⟩ => ⟨S2048x1024, .bf16⟩
  | .hbm, ⟨9, _⟩ => ⟨S2048x1024, .f32⟩
  | .hbm, ⟨10, _⟩ => ⟨S3x2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.Rows.lean ====
/- A block of several rows of which only row 0 is added into: how it reads after the fill and after a store of the row.
   The kernels keep their bias gradients so. -/
module

public import Idealize.ShloMosaic.Lib.WritesUnit
public import Idealize.ShloMosaic.Lib.Pipeline.ValueKit
public import Idealize.ShloMosaic.Lib.Pipeline.ReadBack
public import Idealize.ShloMosaic.Lib.Pointwise

@[expose] public section

namespace Cert.Rows

open Idealize.ShloMosaic

variable {sig : RefSig} {κ : Kind} {Val : EltTy → Type} {e : EltTy} {K N : ℕ}

/-- A store of row 0 over any earlier stores: row 0 reads the store, the other rows what was there. -/
theorem read_row0 {sp : Space} (v : View sig κ sp (⟨2, ![K, N]⟩ : Shape) e) (f : v.ty.Contents Val)
    (inb : ∀ a : Fin 2, (![0, 0] : Fin 2 → ℕ) a + (![1, N] : Fin 2 → ℕ) a ≤ (![K, N] : Fin 2 → ℕ) a)
    (w : (⟨2, ![1, N]⟩ : Shape).Idx → Val e) (L : List (View.Piece Val (⟨2, ![K, N]⟩ : Shape) e))
    (y : (⟨2, ![K, N]⟩ : Shape).Idx) :
    v.read Val (v.writes Val f ((⟨Rect.unit (s := ⟨2, ![K, N]⟩) ![0, 0] ![1, N] inb, w⟩ : View.Piece Val (⟨2, ![K, N]⟩ : Shape) e) :: L)) y
      = if (y 0).val = 0 then w (ix2 0 (y 1)) else v.read Val (v.writes Val f L) y := by
  split_ifs with h
  · exact View.read_writes_cons_rows_of_mem v f inb w L y (ix2 0 (y 1)) rfl (by simpa using h) rfl
  · exact View.read_writes_cons_rows_of_not_mem v f inb w L y (W := 1) rfl rfl (.inr (Nat.one_le_iff_ne_zero.mpr h))

/-- The same of the stores alone, over a fill of the whole block. -/
theorem canon_row0 [∀ e, Nonempty (Val e)]
    (inb : ∀ a : Fin 2, (![0, 0] : Fin 2 → ℕ) a + (![1, N] : Fin 2 → ℕ) a ≤ (![K, N] : Fin 2 → ℕ) a)
    (inb' : ∀ a : Fin 2, (![0, 0] : Fin 2 → ℕ) a + (![K, N] : Fin 2 → ℕ) a ≤ (![K, N] : Fin 2 → ℕ) a)
    (w : (⟨2, ![1, N]⟩ : Shape).Idx → Val e) (Z : (⟨2, ![K, N]⟩ : Shape).Idx → Val e) (y : (⟨2, ![K, N]⟩ : Shape).Idx) :
    View.canon [⟨Rect.unit (s := ⟨2, ![K, N]⟩) ![0, 0] ![1, N] inb, w⟩, ⟨Rect.unit (s := ⟨2, ![K, N]⟩) ![0, 0] ![K, N] inb', Z⟩] y
      = if (y 0).val = 0 then w (ix2 0 (y 1)) else Z y := by
  split_ifs with h
  · have hy : (Rect.unit (s := ⟨2, ![K, N]⟩) ![0, 0] ![1, N] inb).emb (ix2 0 (y 1)) = y := funext fun a => Fin.ext (by
      match a with
      | ⟨0, _⟩ => exact h.symm
      | ⟨1, _⟩ => exact (Nat.zero_add _).trans (Nat.one_mul _))
    refine (congrArg _ hy.symm).trans ?_
    exact View.canon_cons_emb (Rect.unit (s := ⟨2, ![K, N]⟩) ![0, 0] ![1, N] inb) w _ (ix2 0 (y 1))
  · rw [View.canon_cons_of_not_mem]
    · exact congrFun (View.canon_cons_unit_lit (S := ⟨2, ![K, N]⟩) inb' Z [] (by intro a; fin_cases a <;> rfl)) y
    · rw [Rect.mem_set_unit]
      intro hall
      have := hall 0
      simp at this
      omega

/-- A store of row `k` over any earlier stores: row `k` reads the store, the other rows what was there. -/
theorem read_row {sp : Space} (k : ℕ) (v : View sig κ sp (⟨2, ![K, N]⟩ : Shape) e) (f : v.ty.Contents Val)
    (inb : ∀ a : Fin 2, (![k, 0] : Fin 2 → ℕ) a + (![1, N] : Fin 2 → ℕ) a ≤ (![K, N] : Fin 2 → ℕ) a)
    (w : (⟨2, ![1, N]⟩ : Shape).Idx → Val e) (L : List (View.Piece Val (⟨2, ![K, N]⟩ : Shape) e))
    (y : (⟨2, ![K, N]⟩ : Shape).Idx) :
    v.read Val (v.writes Val f ((⟨Rect.unit (s := ⟨2, ![K, N]⟩) ![k, 0] ![1, N] inb, w⟩ : View.Piece Val (⟨2, ![K, N]⟩ : Shape) e) :: L)) y
      = if (y 0).val = k then w (ix2 0 (y 1)) else v.read Val (v.writes Val f L) y := by
  split_ifs with h
  · exact View.read_writes_cons_rows_of_mem v f inb w L y (ix2 0 (y 1)) rfl (by simpa using h) rfl
  · exact View.read_writes_cons_rows_of_not_mem v f inb w L y (W := 1) rfl rfl (by omega)

/-- The same of the stores alone. -/
theorem canon_row [∀ e, Nonempty (Val e)] (k : ℕ)
    (inb : ∀ a : Fin 2, (![k, 0] : Fin 2 → ℕ) a + (![1, N] : Fin 2 → ℕ) a ≤ (![K, N] : Fin 2 → ℕ) a)
    (w : (⟨2, ![1, N]⟩ : Shape).Idx → Val e) (L : List (View.Piece Val (⟨2, ![K, N]⟩ : Shape) e)) (y : (⟨2, ![K, N]⟩ : Shape).Idx) :
    View.canon ((⟨Rect.unit (s := ⟨2, ![K, N]⟩) ![k, 0] ![1, N] inb, w⟩ : View.Piece Val (⟨2, ![K, N]⟩ : Shape) e) :: L) y
      = if (y 0).val = k then w (ix2 0 (y 1)) else View.canon L y := by
  split_ifs with h
  · have hy : (Rect.unit (s := ⟨2, ![K, N]⟩) ![k, 0] ![1, N] inb).emb (ix2 0 (y 1)) = y := funext fun a => Fin.ext (by
      match a with
      | ⟨0, _⟩ => exact h.symm
      | ⟨1, _⟩ => exact (Nat.zero_add _).trans (Nat.one_mul _))
    refine (congrArg _ hy.symm).trans ?_
    exact View.canon_cons_emb (Rect.unit (s := ⟨2, ![K, N]⟩) ![k, 0] ![1, N] inb) w _ (ix2 0 (y 1))
  · rw [View.canon_cons_of_not_mem]
    rw [Rect.mem_set_unit]
    intro hall
    have := hall 0
    simp at this
    omega

/-- A fill of the whole block, read anywhere. -/
theorem canon_fill [∀ e, Nonempty (Val e)]
    (inb : ∀ a : Fin 2, (![0, 0] : Fin 2 → ℕ) a + (![K, N] : Fin 2 → ℕ) a ≤ (![K, N] : Fin 2 → ℕ) a)
    (Z : (⟨2, ![K, N]⟩ : Shape).Idx → Val e) (y : (⟨2, ![K, N]⟩ : Shape).Idx) :
    View.canon [⟨Rect.unit (s := ⟨2, ![K, N]⟩) ![0, 0] ![K, N] inb, Z⟩] y = Z y :=
  congrFun (View.canon_cons_unit_lit (S := ⟨2, ![K, N]⟩) inb Z [] (by intro a; fin_cases a <;> rfl)) y

/-- A load of row `k` after the stores `L`. -/
theorem readCov_row [∀ e, Nonempty (Val e)] {sp : Space} (k : ℕ) (hk : k < K) (v : View sig κ sp (⟨2, ![K, N]⟩ : Shape) e)
    (inb : ∀ a : Fin 2, (![k, 0] : Fin 2 → ℕ) a + (![1, N] : Fin 2 → ℕ) a ≤ (![K, N] : Fin 2 → ℕ) a)
    (L : List (View.Piece Val (⟨2, ![K, N]⟩ : Shape) e)) (x : Fin N) :
    v.readCov L (Rect.unit (s := ⟨2, ![K, N]⟩) ![k, 0] ![1, N] inb).toLoadRect (ix2 0 x) = View.canon L (ix2 ⟨k, hk⟩ x) := by
  rw [View.readCov_eq_canon']
  refine congrArg (View.canon L) (funext fun a => Fin.ext ?_)
  match a with
  | ⟨0, _⟩ => exact Nat.add_zero _
  | ⟨1, _⟩ => exact (Nat.zero_add _).trans (Nat.one_mul _)

end Cert.Rows
-- ==== Proof.Dhdn.lean ====
/- The cotangent of the hidden layer of the squared-ReLU MLP: what the launch leaves in its two result arrays is the
   gradient the reference takes. -/
module

public import proofs.«01_k».proof.Proof.Gen.DhdnIdeal.Frame
public import proofs.«01_k».proof.Proof.Gen.DhdnRefIdeal.Read
public import Idealize.ShloMosaic.Lib.Pipeline.ValueKit
public import proofs.«01_k».proof.Proof.Rows
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DhdnIdeal.Value

open Cert.DhdnIdeal Cert.DhdnIdeal.Gen

variable (m : (ℓ : Loc nD τ sig) → Buf (Elt Ideal) ℓ)

/-- The hidden layer's cotangent before the last rounding, as the reference composes it. -/
abbrev DPRE (pre : FVec Ideal S4096x8192 .f32) (b1 : FVec Ideal S8192 .f32) (w2 : FVec Ideal S8192x2048 .f32)
    (ct : FVec Ideal S4096x2048 .f32) : FVec Ideal S4096x8192 .f32 :=
  Cert.DhdnRefIdeal.Read.val_main_v14 (F := Ideal) pre b1 w2 ct

/-- Where the blocks of the five windows sit. -/
theorem idx : ∀ t : Fin cfg0.N, win0_0.index t = ![t.val % 4, 0] ∧ win0_1.index t = ![t.val / 4, 0]
    ∧ win0_2.index t = ![t.val % 4, t.val / 4] ∧ win0_3.index t = ![t.val % 4, t.val / 4] ∧ win0_4.index t = ![0, t.val / 4] :=
  (by decide +kernel : ∀ t : Fin grid0.N, _)

/-- One element of the gated product, from the blocks. -/
theorem pay1_apply (g : FVec Ideal S1024x2048 .bf16) (w : FVec Ideal S1024x2048 .bf16) (r : FVec Ideal S1024x1024 .bf16)
    (y : S1024x1024.Idx) :
    k0_pay1 (F := Ideal) g w r y
      = (∑ k : Fin 2048, g (ix2 (y 0) k) * w (ix2 (y 1) k)) * (Ideal.ofBits .f32 0x40000000#32 * r y) := by
  pointwise [k0_pay1]

/-- The gate's derivative is twice the rectified value, and where the rectified value is zero so is the product: the
    reference's choice between the product and zero is the product. -/
theorem select_relu (x g d : EReal) :
    (if 0 < x then g * (d * max x 0) else 0) = g * (d * max x 0) := by
  split_ifs with h
  · rfl
  · rw [max_eq_right (not_lt.mp h), mul_zero, mul_zero]

/-- One element of the cotangent, from the arguments. -/
theorem dpre_apply (pre : FVec Ideal S4096x8192 .f32) (b1 : FVec Ideal S8192 .f32) (w2 : FVec Ideal S8192x2048 .f32)
    (ct : FVec Ideal S4096x2048 .f32) (i : S4096x8192.Idx) :
    DPRE pre b1 w2 ct i
      = (∑ k : Fin 2048, ct (ix2 (i 0) k) * w2 (ix2 (i 1) k))
        * (Ideal.ofBits .f32 0x40000000#32 * max (pre i + b1 (ix1 (i 1))) 0) := by
  idx_vars i
  unfold DPRE Cert.DhdnRefIdeal.Read.val_main_v14 Cert.DhdnRefIdeal.Read.val_main_v13 Cert.DhdnRefIdeal.Read.val_main_v12
    Cert.DhdnRefIdeal.Read.val_main_v11 Cert.DhdnRefIdeal.Read.val_main_v9 Cert.DhdnRefIdeal.Read.val_main_v8
    Cert.DhdnRefIdeal.Read.val_main_v5 Cert.DhdnRefIdeal.Read.val_main_v4 Cert.DhdnRefIdeal.Read.val_main_v3
    Cert.DhdnRefIdeal.Read.val_main_call0_v0 Cert.DhdnRefIdeal.Read.val_main_v2 Cert.DhdnRefIdeal.Read.val_main_v1
    Cert.DhdnRefIdeal.Read.val_main_v0 Cert.DhdnRefIdeal.Read.val_main_cst Cert.DhdnRefIdeal.Read.val_main_cst_1
    Cert.DhdnRefIdeal.Read.val_main_cst_2 Cert.DhdnRefIdeal.Read.val_main_call0_cst
  pointwise
  exact select_relu _ _ _

/-- What the body computes at block index `y` of point `t` is the cotangent where the block sits. -/
theorem point (c : Dev nD) (t : Fin cfg0.N) (y : S1024x1024.Idx) :
    k0_pay1 (F := Ideal) (iblk m c 0 t) (iblk m c 1 t) (iblk m c 2 t) y
      = DPRE (m ((c : Thread nD τ).loc main_arg0)) (m ((c : Thread nD τ).loc main_arg1))
          (m ((c : Thread nD τ).loc main_arg2)) (m ((c : Thread nD τ).loc main_arg3)) (((cfg0.win 3).blk t).view.emb y) := by
  rw [dpre_apply, pay1_apply]
  blk_point [iblk, V, idx t]
  refine congrArg _ ?_
  entry_read
  pointwise
  blk_point [idx t]

/-- The first result after the run. -/
theorem final3 (c : Dev nD) : (dats m 0 c).arrAt 3 (cfgs 0).N
    = DPRE (m ((c : Thread nD τ).loc main_arg0)) (m ((c : Thread nD τ).loc main_arg1))
          (m ((c : Thread nD τ).loc main_arg2)) (m ((c : Thread nD τ).loc main_arg3)) := by
  refine (dats m 0 c).arrAt_eq_of_covers 3 _ (by decide +kernel) fun t _ y => ?_
  blk_simp
  rw [after0_3]
  by_cases h : t.val % 4 = 0
  · rw [outsAt0_A m c t h]; frame_out
    exact point m c t y
  · rw [outsAt0_B m c t h]; frame_out
    exact point m c t y

/-- The row a point adds into: what was there, and the column sums of the point's gated product. -/
theorem pay4_apply (g : FVec Ideal S1024x2048 .bf16) (w : FVec Ideal S1024x2048 .bf16) (r : FVec Ideal S1024x1024 .bf16)
    (v : FVec Ideal S1x1024 .f32) (y : S1x1024.Idx) :
    k0_pay4 (F := Ideal) g w r v y = v y + ∑ k : Fin 1024, k0_pay1 (F := Ideal) g w r (ix2 k (y 1)) := by
  idx_vars y
  pointwise [k0_pay4]

/-- The block of bias gradients as the reference lays it out: column sums in row 0, zeros below. -/
theorem bias_apply (pre : FVec Ideal S4096x8192 .f32) (b1 : FVec Ideal S8192 .f32) (w2 : FVec Ideal S8192x2048 .f32)
    (ct : FVec Ideal S4096x2048 .f32) (i : S8x8192.Idx) :
    Cert.DhdnRefIdeal.Read.val_main_v21 (F := Ideal) pre b1 w2 ct i
      = if (i 0).val = 0 then ∑ k : Fin 4096, DPRE pre b1 w2 ct (ix2 k (i 1)) else 0 := by
  idx_vars i
  unfold DPRE Cert.DhdnRefIdeal.Read.val_main_v21 Cert.DhdnRefIdeal.Read.val_main_v20 Cert.DhdnRefIdeal.Read.val_main_v19
    Cert.DhdnRefIdeal.Read.val_main_v17 Cert.DhdnRefIdeal.Read.val_main_v16 Cert.DhdnRefIdeal.Read.val_main_v15
    Cert.DhdnRefIdeal.Read.val_main_cst_3 Cert.DhdnRefIdeal.Read.val_main_cst_4 Cert.DhdnRefIdeal.Read.val_main_cst_5
  generalize Cert.DhdnRefIdeal.Read.val_main_v14 (F := Ideal) pre b1 w2 ct = X
  pointwise
  simp only [Nat.lt_one_iff, dite_eq_ite, Finset.univ_unique, Finset.sum_singleton]
  rfl

/-- What a point adds to the block of bias gradients. -/
def part (c : Dev nD) (t : Fin cfg0.N) (y : S8x1024.Idx) : EReal :=
  if (y 0).val = 0 then ∑ k : Fin 1024, k0_pay1 (F := Ideal) (iblk m c 0 t) (iblk m c 1 t) (iblk m c 2 t) (ix2 k (y 1)) else 0

/-- The second result after the run. -/
theorem final4 (c : Dev nD) : (dats m 0 c).arrAt 4 (cfgs 0).N
    = Cert.DhdnRefIdeal.Read.val_main_v21 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => (outsAt0 m c n h).2) 4 (fun _ => 0) (part m c)
    (fun t h j => by
      rw [outsAt0_A m c t h]; frame_out
      refine (Cert.Rows.canon_row0 _ _ _ _ j).trans ?_
      rw [View.readCov_fill _ _ _ _ _ (by decide), pay4_apply, zero_add]
      unfold part
      pointwise [k0_pay3])
    (fun t h j => by
      rw [outsAt0_B m c t h]; frame_out
      refine (Cert.Rows.read_row0 _ _ _ _ _ j).trans ?_
      rw [pay4_apply, View.writes_nil, (hs0_4 t).read_unread]
      unfold part
      pointwise
      split_ifs with h0
      · rw [show (ix2 0 (j 1) : S8x1024.Idx) = j from by
          rw [eq_ix2 j]; exact congrArg₂ _ (Fin.ext h0.symm) rfl]
      · exact (add_zero _).symm)
    t ((flush0_4 t).mp hf) y, zero_add, bias_apply]
  have hrow : (((win0_4.blk t).view.emb y) 0).val = (y 0).val := by blk_simp [idx t]
  unfold part
  rw [hrow]
  by_cases h0 : (y 0).val = 0
  · rw [if_pos h0]
    simp only [if_pos h0, point]
    refine Fin.sum_mul_add_congr fun s k hl => ?_
    blk_ext [idx t, idx ⟨_, Pipeline.run_point_lt_of_flush t ((flush0_4 t).mp hf) s⟩]
  · rw [if_neg h0]
    simp only [if_neg h0]
    exact (Finset.sum_const_zero : ∑ _ : Fin 4, (0 : EReal) = 0)

end Cert.DhdnIdeal.Value

end
-- ==== Proof.DwFf1.lean ====
/- The gradient of the first MLP weight: the launch leaves the product the reference takes. -/
module

public import proofs.«01_k».proof.Proof.Gen.DwFf1Ideal.Frame
public import proofs.«01_k».proof.Proof.Gen.DwFf1RefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwFf1Ideal.Value

open Cert.DwFf1Ideal Cert.DwFf1Ideal.Gen

variable (m : (ℓ : Loc nD τ sig) → Buf (Elt Ideal) ℓ)

/-- Where the blocks of the three windows sit. -/
theorem idx : ∀ t : Fin cfg0.N, win0_0.index t = ![t.val % 2, t.val / 16] ∧ win0_1.index t = ![t.val % 2, t.val / 2 % 8]
    ∧ win0_2.index t = ![t.val / 16, t.val / 2 % 8] :=
  (by decide +kernel : ∀ t : Fin grid0.N, _)

/-- One element of a point's product. -/
theorem pay1_apply (a : FVec Ideal S2048x1024 .bf16) (b : FVec Ideal S2048x1024 .bf16) (y : S1024x1024.Idx) :
    k0_pay1 (F := Ideal) a b y = ∑ k : Fin 2048, a (ix2 k (y 0)) * b (ix2 k (y 1)) := by
  pointwise [k0_pay1]

/-- One element of the reference's gradient. -/
theorem ref_apply (x1 : FVec Ideal S4096x2048 .f32) (ct : FVec Ideal S4096x8192 .f32) (i : S2048x8192.Idx) :
    Cert.DwFf1RefIdeal.Read.val_main_v2 (F := Ideal) x1 ct i = ∑ k : Fin 4096, x1 (ix2 k (i 0)) * ct (ix2 k (i 1)) := by
  idx_vars i
  unfold Cert.DwFf1RefIdeal.Read.val_main_v2 Cert.DwFf1RefIdeal.Read.val_main_v1
  pointwise
  exact Finset.sum_congr rfl fun k _ => mul_comm _ _

/-- The result after the run. -/
theorem final (c : Dev nD) : (dats m 0 c).arrAt 2 (cfgs 0).N
    = Cert.DwFf1RefIdeal.Read.val_main_v2 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => k0_pay1 (F := Ideal) (iblk m c 0 p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add, ref_apply]
  simp only [pay1_apply]
  refine Fin.sum_mul_add_congr fun s k hl => ?_
  blk_point [iblk, V, idx t, idx ⟨_, Pipeline.run_point_lt_of_flush t ((flush0_2 t).mp hf) s⟩]

end Cert.DwFf1Ideal.Value

end
-- ==== Proof.DwFf2.lean ====
/- The gradient of the second MLP weight: the launch leaves the product the reference takes of the squared-ReLU layer and the cotangent. -/
module

public import proofs.«01_k».proof.Proof.Gen.DwFf2Ideal.Frame
public import proofs.«01_k».proof.Proof.Gen.DwFf2RefIdeal.Read
public import Idealize.ShloMosaic.Lib.Pipeline.ValueKit
public import Idealize.ShloMosaic.Lib.Pointwise
public import proofs.«01_k».proof.Proof.DwFf1

@[expose] public section

set_option maxRecDepth 16384

noncomputable section

open Idealize.ShloMosaic Idealize.ShloMosaic.TcCoe Idealize.SL.Sem
open Idealize.ShloMosaic.Pipeline (Dat)

namespace Cert.DwFf2Ideal.Value

open Cert.DwFf2Ideal Cert.DwFf2Ideal.Gen

variable (m : (ℓ : Loc nD τ sig) → Buf (Elt Ideal) ℓ)

/-- Where the blocks of the three windows sit. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The squared-ReLU layer. -/
def hidden (pre : FVec Ideal S4096x8192 .f32) (b1 : FVec Ideal S8192 .f32) (i : S4096x8192.Idx) : EReal :=
  max (pre i + b1 (ix1 (i 1))) 0 * max (pre i + b1 (ix1 (i 1))) 0

/-- One element of the reference's gradient. -/
theorem ref_apply (pre : FVec Ideal S4096x8192 .f32) (b1 : FVec Ideal S8192 .f32) (ct : FVec Ideal S4096x2048 .f32) (i : S8192x2048.Idx) :
    Cert.DwFf2RefIdeal.Read.val_main_v7 (F := Ideal) pre b1 ct i = ∑ k : Fin 4096, hidden pre b1 (ix2 k (i 0)) * ct (ix2 k (i 1)) := by
  idx_vars i
  unfold Cert.DwFf2RefIdeal.Read.val_main_v7 Cert.DwFf2RefIdeal.Read.val_main_v6 Cert.DwFf2RefIdeal.Read.val_main_v4
    Cert.DwFf2RefIdeal.Read.val_main_v3 Cert.DwFf2RefIdeal.Read.val_main_v2 Cert.DwFf2RefIdeal.Read.val_main_v1
    Cert.DwFf2RefIdeal.Read.val_main_v0 Cert.DwFf2RefIdeal.Read.val_main_call0_v0 Cert.DwFf2RefIdeal.Read.val_main_call0_cst
  unfold hidden
  pointwise
  exact Finset.sum_congr rfl fun k _ => mul_comm _ _

/-- The result after the run. -/
theorem final (c : Dev nD) : (dats m 0 c).arrAt 2 (cfgs 0).N
    = Cert.DwFf2RefIdeal.Read.val_main_v7 (F := Ideal) (m ((c : Thread nD τ).loc main_arg0)) (m ((c : Thread nD τ).loc main_arg1))
        (m ((c : Thread nD τ).loc main_arg3)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => k0_pay1 (F := Ideal) (iblk m c 0 p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add, ref_apply]
  simp only [show ∀ a b j, k0_pay1 (F := Ideal) a b j = _ from Cert.DwFf1Ideal.Value.pay1_apply]
  refine Fin.sum_mul_add_congr fun s k hl => ?_
  blk_point [iblk, V, idx t, idx ⟨_, Pipeline.run_point_lt_of_flush t ((flush0_2 t).mp hf) s⟩]
  entry_read
  pointwise
  blk_point [idx t, idx ⟨_, Pipeline.run_point_lt_of_flush t ((flush0_2 t).mp hf) s⟩]

end Cert.DwFf2Ideal.Value

end
-- ==== Proof.Dx1.lean ====
/- The cotangent of the MLP's input: the launch leaves the product the reference takes. -/
module

public import proofs.«01_k».proof.Proof.Gen.Dx1Ideal.Frame
public import proofs.«01_k».proof.Proof.Gen.Dx1RefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dx1Ideal.Value

open Cert.Dx1Ideal Cert.Dx1Ideal.Gen

variable (m : (ℓ : Loc nD τ sig) → Buf (Elt Ideal) ℓ)

/-- Where the blocks of the three windows sit. -/
theorem idx : ∀ t : Fin cfg0.N, win0_0.index t = ![t.val / 8, t.val % 4] ∧ win0_1.index t = ![t.val / 4 % 2, t.val % 4]
    ∧ win0_2.index t = ![t.val / 8, t.val / 4 % 2] :=
  (by decide +kernel : ∀ t : Fin grid0.N, _)

/-- One element of a point's product. -/
theorem pay1_apply (a : FVec Ideal S1024x2048 .bf16) (b : FVec Ideal S1024x2048 .bf16) (y : S1024x1024.Idx) :
    k0_pay1 (F := Ideal) a b y = ∑ k : Fin 2048, a (ix2 (y 0) k) * b (ix2 (y 1) k) := by
  pointwise [k0_pay1]

/-- One element of the reference's cotangent. -/
theorem ref_apply (w : FVec Ideal S2048x8192 .f32) (ct : FVec Ideal S4096x8192 .f32) (i : S4096x2048.Idx) :
    Cert.Dx1RefIdeal.Read.val_main_v1 (F := Ideal) w ct i = ∑ k : Fin 8192, ct (ix2 (i 0) k) * w (ix2 (i 1) k) := by
  idx_vars i
  unfold Cert.Dx1RefIdeal.Read.val_main_v1
  pointwise

/-- The result after the run. -/
theorem final (c : Dev nD) : (dats m 0 c).arrAt 2 (cfgs 0).N
    = Cert.Dx1RefIdeal.Read.val_main_v1 (F := Ideal) (m ((c : Thread nD τ).loc main_arg1)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => k0_pay1 (F := Ideal) (iblk m c 0 p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add, ref_apply]
  simp only [pay1_apply]
  refine Fin.sum_mul_add_congr fun s k hl => ?_
  blk_point [iblk, V, idx t, idx ⟨_, Pipeline.run_point_lt_of_flush t ((flush0_2 t).mp hf) s⟩]

end Cert.Dx1Ideal.Value

end
-- ==== Proof.DwOut.lean ====
/- The gradient of the output projection's weight: the launch leaves the product the reference takes. -/
module

public import proofs.«01_k».proof.Proof.Gen.DwOutIdeal.Frame
public import proofs.«01_k».proof.Proof.Gen.DwOutRefIdeal.Read
public import Idealize.ShloMosaic.Lib.Pipeline.ValueKit
public import Idealize.ShloMosaic.Lib.Pointwise
public import proofs.«01_k».proof.Proof.DwFf1

@[expose] public section

set_option maxRecDepth 16384

noncomputable section

open Idealize.ShloMosaic Idealize.ShloMosaic.TcCoe Idealize.SL.Sem
open Idealize.ShloMosaic.Pipeline (Dat)

namespace Cert.DwOutIdeal.Value

open Cert.DwOutIdeal Cert.DwOutIdeal.Gen

variable (m : (ℓ : Loc nD τ sig) → Buf (Elt Ideal) ℓ)

/-- Where the blocks of the three windows sit. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- One element of the reference's gradient. -/
theorem ref_apply (x : FVec Ideal S4096x2048 .f32) (ct : FVec Ideal S4096x2048 .f32) (i : S2048x2048.Idx) :
    Cert.DwOutRefIdeal.Read.val_main_v2 (F := Ideal) x ct i = ∑ k : Fin 4096, x (ix2 k (i 0)) * ct (ix2 k (i 1)) := by
  idx_vars i
  unfold Cert.DwOutRefIdeal.Read.val_main_v2 Cert.DwOutRefIdeal.Read.val_main_v1
  pointwise
  exact Finset.sum_congr rfl fun k _ => mul_comm _ _

/-- The result after the run. -/
theorem final (c : Dev nD) : (dats m 0 c).arrAt 2 (cfgs 0).N
    = Cert.DwOutRefIdeal.Read.val_main_v2 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => k0_pay1 (F := Ideal) (iblk m c 0 p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add, ref_apply]
  simp only [show ∀ a b j, k0_pay1 (F := Ideal) a b j = _ from Cert.DwFf1Ideal.Value.pay1_apply]
  refine Fin.sum_mul_add_congr fun s k hl => ?_
  blk_point [iblk, V, idx t, idx ⟨_, Pipeline.run_point_lt_of_flush t ((flush0_2 t).mp hf) s⟩]

end Cert.DwOutIdeal.Value

end
-- ==== Proof.DwPoolUp.lean ====
/- The gradient of the pooling branch's up-projection; the product's lemmas are those of the other two weight gradients. -/
module

public import proofs.«01_k».proof.Proof.Gen.DwPoolUpIdeal.Frame
public import proofs.«01_k».proof.Proof.Gen.DwPoolUpRefIdeal.Read
public import Idealize.ShloMosaic.Lib.Pipeline.ValueKit
public import Idealize.ShloMosaic.Lib.Pointwise
public import proofs.«01_k».proof.Proof.DwFf1
public import proofs.«01_k».proof.Proof.DwOut

@[expose] public section

set_option maxRecDepth 16384

noncomputable section

open Idealize.ShloMosaic Idealize.ShloMosaic.TcCoe Idealize.SL.Sem
open Idealize.ShloMosaic.Pipeline (Dat)

namespace Cert.DwPoolUpIdeal.Value

open Cert.DwPoolUpIdeal Cert.DwPoolUpIdeal.Gen

variable (m : (ℓ : Loc nD τ sig) → Buf (Elt Ideal) ℓ)

/-- Where the blocks of the three windows sit. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The result after the run. -/
theorem final (c : Dev nD) : (dats m 0 c).arrAt 2 (cfgs 0).N
    = Cert.DwPoolUpRefIdeal.Read.val_main_v2 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => k0_pay1 (F := Ideal) (iblk m c 0 p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add,
    show ∀ x ct i, Cert.DwPoolUpRefIdeal.Read.val_main_v2 (F := Ideal) x ct i = _ from Cert.DwOutIdeal.Value.ref_apply]
  simp only [show ∀ a b j, k0_pay1 (F := Ideal) a b j = _ from Cert.DwFf1Ideal.Value.pay1_apply]
  refine Fin.sum_mul_add_congr fun s k hl => ?_
  blk_point [iblk, V, idx t, idx ⟨_, Pipeline.run_point_lt_of_flush t ((flush0_2 t).mp hf) s⟩]

end Cert.DwPoolUpIdeal.Value

end
-- ==== Proof.DwLruUp.lean ====
/- The gradient of the recurrent branch's up-projection; the product's lemmas are those of the other two weight gradients. -/
module

public import proofs.«01_k».proof.Proof.Gen.DwLruUpIdeal.Frame
public import proofs.«01_k».proof.Proof.Gen.DwLruUpRefIdeal.Read
public import Idealize.ShloMosaic.Lib.Pipeline.ValueKit
public import Idealize.ShloMosaic.Lib.Pointwise
public import proofs.«01_k».proof.Proof.DwFf1
public import proofs.«01_k».proof.Proof.DwOut

@[expose] public section

set_option maxRecDepth 16384

noncomputable section

open Idealize.ShloMosaic Idealize.ShloMosaic.TcCoe Idealize.SL.Sem
open Idealize.ShloMosaic.Pipeline (Dat)

namespace Cert.DwLruUpIdeal.Value

open Cert.DwLruUpIdeal Cert.DwLruUpIdeal.Gen

variable (m : (ℓ : Loc nD τ sig) → Buf (Elt Ideal) ℓ)

/-- Where the blocks of the three windows sit. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The result after the run. -/
theorem final (c : Dev nD) : (dats m 0 c).arrAt 2 (cfgs 0).N
    = Cert.DwLruUpRefIdeal.Read.val_main_v2 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => k0_pay1 (F := Ideal) (iblk m c 0 p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add,
    show ∀ x ct i, Cert.DwLruUpRefIdeal.Read.val_main_v2 (F := Ideal) x ct i = _ from Cert.DwOutIdeal.Value.ref_apply]
  simp only [show ∀ a b j, k0_pay1 (F := Ideal) a b j = _ from Cert.DwFf1Ideal.Value.pay1_apply]
  refine Fin.sum_mul_add_congr fun s k hl => ?_
  blk_point [iblk, V, idx t, idx ⟨_, Pipeline.run_point_lt_of_flush t ((flush0_2 t).mp hf) s⟩]

end Cert.DwLruUpIdeal.Value

end
-- ==== Proof.DyPool.lean ====
/- The cotangent of the pooling branch's result: the launch leaves the product the reference takes. -/
module

public import proofs.«01_k».proof.Proof.Gen.DyPoolIdeal.Frame
public import proofs.«01_k».proof.Proof.Gen.DyPoolRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DyPoolIdeal.Value

open Cert.DyPoolIdeal Cert.DyPoolIdeal.Gen

variable (m : (ℓ : Loc nD τ sig) → Buf (Elt Ideal) ℓ)

/-- Where the blocks of the three windows sit. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- One element of a point's product. -/
theorem pay1_apply (a : FVec Ideal S512x2048 .bf16) (b : FVec Ideal S1024x2048 .bf16) (y : S512x1024.Idx) :
    k0_pay1 (F := Ideal) a b y = ∑ k : Fin 2048, a (ix2 (y 0) k) * b (ix2 (y 1) k) := by
  pointwise [k0_pay1]

/-- One element of the reference's cotangent. -/
theorem ref_apply (w : FVec Ideal S2048x2048 .f32) (ct : FVec Ideal S4096x2048 .f32) (i : S4096x2048.Idx) :
    Cert.DyPoolRefIdeal.Read.val_main_v2 (F := Ideal) w ct i = ∑ k : Fin 2048, ct (ix2 (i 0) k) * w (ix2 (i 1) k) := by
  idx_vars i
  unfold Cert.DyPoolRefIdeal.Read.val_main_v2 Cert.DyPoolRefIdeal.Read.val_main_v1
  pointwise

/-- The result after the run. -/
theorem final (c : Dev nD) : (dats m 0 c).arrAt 2 (cfgs 0).N
    = Cert.DyPoolRefIdeal.Read.val_main_v2 (F := Ideal) (m ((c : Thread nD τ).loc main_arg1)) (m ((c : Thread nD τ).loc main_arg2)) := by
  refine (dats m 0 c).arrAt_eq_of_covers 2 _ (by decide +kernel) fun t hf y => ?_
  blk_simp
  rw [after0_2]; frame_out
  rw [pay1_apply, ref_apply]
  blk_point [iblk, V, idx t]

end Cert.DyPoolIdeal.Value

end
-- ==== Proof.DwInLo.lean ====
/- The gradient of the input projection's weight, its first 1536 rows: the launch leaves the product the reference takes. -/
module

public import proofs.«01_k».proof.Proof.Gen.DwInLoIdeal.Frame
public import proofs.«01_k».proof.Proof.Gen.DwInLoRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwInLoIdeal.Value

open Cert.DwInLoIdeal Cert.DwInLoIdeal.Gen

variable (m : (ℓ : Loc nD τ sig) → Buf (Elt Ideal) ℓ)

/-- Where the blocks of the three windows sit: the second operand's column segments are stacked in the order 3, 4, 0, 1, 2. -/
theorem idx : ∀ t : Fin cfg0.N, win0_0.index t = ![t.val % 2, t.val / 20] ∧ win0_1.index t = ![(t.val / 4 % 5 + 2) % 5, t.val % 2, t.val / 2 % 2]
    ∧ win0_2.index t = ![t.val / 20, t.val / 2 % 10] :=
  (by decide +kernel : ∀ t : Fin grid0.N, _)

/-- One element of a point's product. -/
theorem pay1_apply (a : FVec Ideal S2048x768 .bf16) (b : FVec Ideal S1x2048x1024 .bf16) (y : S768x1024.Idx) :
    k0_pay1 (F := Ideal) a b y = ∑ k : Fin 2048, a (ix2 k (y 0)) * b (ix3 0 k (y 1)) := by
  idx_vars y
  pointwise [k0_pay1]

/-- One element of the reference's gradient. -/
theorem ref_apply (x : FVec Ideal S4096x2048 .f32) (ct : FVec Ideal S4096x10240 .f32) (i : S1536x10240.Idx) :
    Cert.DwInLoRefIdeal.Read.val_main_v3 (F := Ideal) x ct i
      = ∑ k : Fin 4096, x (ix2 k ⟨(i 0).val, by have : (i 0).val < 1536 := (i 0).isLt; omega⟩) * ct (ix2 k (i 1)) := by
  idx_vars i
  unfold Cert.DwInLoRefIdeal.Read.val_main_v3 Cert.DwInLoRefIdeal.Read.val_main_v2 Cert.DwInLoRefIdeal.Read.val_main_v1
  pointwise
  exact Finset.sum_congr rfl fun k _ => mul_comm _ _

/-- The stacked operand reads the cotangent at the segment the stack's layer holds. -/
theorem dz_apply (c : Dev nD) (i : S5x4096x2048.Idx) : (show FVec Ideal S5x4096x2048 .bf16 from V m c main_v6) i
    = (show FVec Ideal S4096x10240 .f32 from m ((c : Thread nD τ).loc main_arg2)) (ix2 (i 1) ⟨2048 * (((i 0).val + 3) % 5) + (i 2).val, by
        have : (i 2).val < 2048 := (i 2).isLt
        omega⟩) := by
  idx_vars i
  entry_read
  pointwise
  split_ifs
  all_goals exact congrArg (m ((c : Thread nD τ).loc main_arg2)) (congrArg (ix2 _) (Fin.ext (by dsimp only; omega)))

/-- The first operand is the activations, cast. -/
theorem x_apply (c : Dev nD) (i : S4096x2048.Idx) : (show FVec Ideal S4096x2048 .bf16 from V m c main_v0) i
    = (show FVec Ideal S4096x2048 .f32 from m ((c : Thread nD τ).loc main_arg0)) i := by
  idx_vars i
  entry_read
  pointwise

/-- No block of the first operand is cut: the buffer holds the block. -/
theorem X0_eq (c : Dev nD) (t : Fin cfg0.N) : X0_0 m c t
    = fun j => iblk m c 0 t fun a => ⟨(j a).val, ((cfg0.win 0).moved_iff (cfg0.grid.coords t) j).mp (moved0_0 t j) a⟩ := by
  unfold X0_0 Pipeline.Window.fill
  exact funext fun j => dif_pos (moved0_0 t j)

/-- The result after the run. -/
theorem final (c : Dev nD) : (dats m 0 c).arrAt 2 (cfgs 0).N
    = Cert.DwInLoRefIdeal.Read.val_main_v3 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => k0_pay1 (F := Ideal) (X0_0 m c p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add, ref_apply]
  simp only [pay1_apply, X0_eq]
  refine Fin.sum_mul_add_congr fun s k hl => ?_
  blk_point [iblk, V, idx t, idx ⟨_, Pipeline.run_point_lt_of_flush t ((flush0_2 t).mp hf) s⟩]
  refine (dz_apply m c _).trans ?_
  blk_point [idx t, idx ⟨_, Pipeline.run_point_lt_of_flush t ((flush0_2 t).mp hf) s⟩]
  refine congrArg (· * _) ((x_apply m c _).trans ?_)
  blk_point [idx ⟨_, Pipeline.run_point_lt_of_flush t ((flush0_2 t).mp hf) s⟩]

end Cert.DwInLoIdeal.Value

end
-- ==== Proof.DwInHi.lean ====
/- The gradient of the input projection's weight, its last 512 rows: the launch leaves the product the reference takes. -/
module

public import proofs.«01_k».proof.Proof.Gen.DwInHiIdeal.Frame
public import proofs.«01_k».proof.Proof.Gen.DwInHiRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwInHiIdeal.Value

open Cert.DwInHiIdeal Cert.DwInHiIdeal.Gen

variable (m : (ℓ : Loc nD τ sig) → Buf (Elt Ideal) ℓ)

/-- Where the blocks of the three windows sit: the second operand's column segments are stacked in the order 3, 4, 0, 1, 2. -/
theorem idx : ∀ t : Fin cfg0.N, win0_0.index t = ![t.val % 2, 3] ∧ win0_1.index t = ![(t.val / 4 % 5 + 2) % 5, t.val % 2, t.val / 2 % 2]
    ∧ win0_2.index t = ![0, t.val / 2 % 10] :=
  (by decide +kernel : ∀ t : Fin grid0.N, _)

/-- One element of a point's product. -/
theorem pay1_apply (a : FVec Ideal S2048x512 .bf16) (b : FVec Ideal S1x2048x1024 .bf16) (y : S512x1024.Idx) :
    k0_pay1 (F := Ideal) a b y = ∑ k : Fin 2048, a (ix2 k (y 0)) * b (ix3 0 k (y 1)) := by
  idx_vars y
  pointwise [k0_pay1]

/-- One element of the reference's gradient. -/
theorem ref_apply (x : FVec Ideal S4096x2048 .f32) (ct : FVec Ideal S4096x10240 .f32) (i : S512x10240.Idx) :
    Cert.DwInHiRefIdeal.Read.val_main_v3 (F := Ideal) x ct i
      = ∑ k : Fin 4096, x (ix2 k ⟨1536 + (i 0).val, by have : (i 0).val < 512 := (i 0).isLt; omega⟩) * ct (ix2 k (i 1)) := by
  idx_vars i
  unfold Cert.DwInHiRefIdeal.Read.val_main_v3 Cert.DwInHiRefIdeal.Read.val_main_v2 Cert.DwInHiRefIdeal.Read.val_main_v1
  pointwise
  exact Finset.sum_congr rfl fun k _ => mul_comm _ _

/-- The stacked operand reads the cotangent at the segment the stack's layer holds. -/
theorem dz_apply (c : Dev nD) (i : S5x4096x2048.Idx) : (show FVec Ideal S5x4096x2048 .bf16 from V m c main_v6) i
    = (show FVec Ideal S4096x10240 .f32 from m ((c : Thread nD τ).loc main_arg2)) (ix2 (i 1) ⟨2048 * (((i 0).val + 3) % 5) + (i 2).val, by
        have : (i 2).val < 2048 := (i 2).isLt
        omega⟩) := by
  idx_vars i
  entry_read
  pointwise
  split_ifs
  all_goals exact congrArg (m ((c : Thread nD τ).loc main_arg2)) (congrArg (ix2 _) (Fin.ext (by dsimp only; omega)))

/-- The result after the run. -/
theorem final (c : Dev nD) : (dats m 0 c).arrAt 2 (cfgs 0).N
    = Cert.DwInHiRefIdeal.Read.val_main_v3 (F := Ideal) (m ((c : Thread nD τ).loc main_arg0)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0)
    (fun p j => k0_pay1 (F := Ideal) (iblk m c 0 p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add, ref_apply]
  simp only [pay1_apply]
  refine Fin.sum_mul_add_congr fun s k hl => ?_
  blk_point [iblk, V, idx t, idx ⟨_, Pipeline.run_point_lt_of_flush t ((flush0_2 t).mp hf) s⟩]
  refine (dz_apply m c _).trans ?_
  blk_point [idx t, idx ⟨_, Pipeline.run_point_lt_of_flush t ((flush0_2 t).mp hf) s⟩]

end Cert.DwInHiIdeal.Value

end
-- ==== Proof.Dx.lean ====
/- The gradient of the activations the input product reads, computed from the cotangent of the five segments and the residual's share of the next cotangent. -/
module

public import proofs.«01_k».proof.Proof.Gen.DxIdeal.Frame
public import proofs.«01_k».proof.Proof.Gen.DxRefIdeal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DxIdeal.Value

open Cert.DxIdeal Cert.DxIdeal.Gen

variable (m : (ℓ : Loc nD τ sig) → Buf (Elt Ideal) ℓ)

theorem idx (t : Fin cfg0.N) : win0_0.index t 0 = (t.val % 5 + 2) % 5 ∧ win0_0.index t 1 = t.val / 5 ∧ win0_0.index t 2 = 0
    ∧ win0_1.index t 0 = 0 ∧ win0_1.index t 1 = t.val % 5
    ∧ win0_2.index t 0 = t.val / 5 ∧ win0_2.index t 1 = 0
    ∧ win0_3.index t 0 = t.val / 5 ∧ win0_3.index t 1 = 0 := by
  revert t
  decide +kernel

theorem pay1_apply (a : FVec Ideal S1x512x2048 .bf16) (b : FVec Ideal S2048x2048 .bf16) (j : S512x2048.Idx) :
    k0_pay1 (F := Ideal) a b j = ∑ k : Fin 2048, a (ix3 0 (j 0) k) * b (ix2 (j 1) k) := by
  idx_vars j
  unfold k0_pay1
  pointwise

/-- One element of the reference's gradient of the activations. -/
theorem ref_apply (w : FVec Ideal S2048x10240 .f32) (ct : FVec Ideal S4096x10240 .f32) (ds : FVec Ideal S4096x2048 .f32) (i : S4096x2048.Idx) :
    Cert.DxRefIdeal.Read.val_main_v6 (F := Ideal) w ct ds i
      = Scalar.ofBits (F := Ideal) .f32 0x3F9837F0#32 * ds i + ∑ k : Fin 10240, ct (ix2 (i 0) k) * w (ix2 (i 1) k) := by
  idx_vars i
  unfold Cert.DxRefIdeal.Read.val_main_v6 Cert.DxRefIdeal.Read.val_main_v5 Cert.DxRefIdeal.Read.val_main_v4 Cert.DxRefIdeal.Read.val_main_v3 Cert.DxRefIdeal.Read.val_main_cst_0
  pointwise

/-- The stacked operand reads the cotangent at the segment the stack's layer holds. -/
theorem dz_apply (c : Dev nD) (i : S5x4096x2048.Idx) : (show FVec Ideal S5x4096x2048 .bf16 from V m c main_v5) i
    = (show FVec Ideal S4096x10240 .f32 from m ((c : Thread nD τ).loc main_arg2)) (ix2 (i 1) ⟨2048 * (((i 0).val + 3) % 5) + (i 2).val, by
        have : (i 2).val < 2048 := (i 2).isLt
        omega⟩) := by
  idx_vars i
  entry_read
  pointwise
  split_ifs
  all_goals exact congrArg (m ((c : Thread nD τ).loc main_arg2)) (congrArg (ix2 _) (Fin.ext (by dsimp only; omega)))

/-- The scratch accumulator after the last step of a run of five. -/
theorem acc_apply (c : Dev nD) (t : Fin cfg0.N) (ht : t.val % 5 = 5 - 1) (y : S512x2048.Idx) : (outsAt0 m c t.val t.isLt).2 y
    = ∑ s : Fin 5, k0_pay1 (F := Ideal) (iblk m c 0 ⟨5 * (t.val / 5) + s.val, Pipeline.run_point_lt_of_flush t ht s⟩) (iblk m c 1 ⟨5 * (t.val / 5) + s.val, Pipeline.run_point_lt_of_flush t ht s⟩) y := by
  rw [Pipeline.eq_sum_fin_of_reset_step_apply_of_flush (fun n h => (outsAt0 m c n h).2) 5 (fun _ => 0)
    (fun p j => k0_pay1 (F := Ideal) (iblk m c 0 p) (iblk m c 1 p) j)
    (fun t h j => by
      rw [outsAt0_A m c t h (by omega) (by omega)]; frame_out
      pointwise [k0_pay2])
    (fun t h j => by
      by_cases h4 : t.val % 5 = 4
      · rw [outsAt0_C m c t h (by omega) h4]; frame_out
        pointwise [k0_pay3, read_unread_whole]
      · rw [outsAt0_B m c t h (by omega) h4]; frame_out
        pointwise [k0_pay3, read_unread_whole])
    t ht y, zero_add]

/-- At a run's last step the block stored is the scratch accumulator plus the residual's share. -/
theorem out_eq (c : Dev nD) (t : Fin cfg0.N) (ht : t.val % 5 = 4) : (outsAt0 m c t.val t.isLt).1
    = k0_pay4 (F := Ideal) (outsAt0 m c t.val t.isLt).2 (iblk m c 2 t) := by
  rw [outsAt0_C m c t (by omega) (by omega) ht]
  frame_out

/-- The result after the run. -/
theorem final (c : Dev nD) : (dats m 0 c).arrAt 3 (cfgs 0).N
    = Cert.DxRefIdeal.Read.val_main_v6 (F := Ideal) (m ((c : Thread nD τ).loc main_arg1)) (m ((c : Thread nD τ).loc main_arg2)) (m ((c : Thread nD τ).loc main_arg3)) := by
  refine (dats m 0 c).arrAt_eq_of_covers 3 _ (by decide +kernel) fun t hf y => ?_
  have ht := (flush0_3 t).mp hf
  blk_simp
  rw [after0_3, out_eq m c t ht, ref_apply]
  pointwise [k0_pay4]
  rw [acc_apply m c t ht, add_comm]
  simp only [pay1_apply]
  refine congrArg₂ (· + ·) ?_ (Fin.sum_mul_add_congr fun s k hl => ?_)
  · blk_point [iblk, V, idx t]
  blk_point [iblk, V, idx t, idx ⟨_, Pipeline.run_point_lt_of_flush t ht s⟩]
  refine (dz_apply m c _).trans ?_
  blk_point [idx t, idx ⟨_, Pipeline.run_point_lt_of_flush t ht s⟩]

end Cert.DxIdeal.Value

end
-- ==== Proof.Sigmoid.lean ====
/- The sigmoid in the two ways it is written: by a hyperbolic tangent, as the kernels do, and as the quotient. -/
module

public import Idealize.ShloMosaic.Lib.IdealHost
public import Idealize.ShloMosaic.Lib.Pointwise

@[expose] public section

noncomputable section

namespace Cert.Sigmoid

open Idealize.ShloMosaic

/-- The sigmoid as the quotient. -/
def sg (x : EReal) : EReal := Ideal.div 1 (1 + Ideal.exp (-x))

theorem half : Ideal.ofBits .f32 0x3F000000#32 = (((1 : ℝ) / 2 : ℝ) : EReal) := by
  simp [Ideal.ofBits, Ideal.ieee, -EReal.coe_mul]; norm_num

/-- The real identity behind it. -/
theorem real_eq (r : ℝ) : 1 / 2 * Real.tanh (1 / 2 * r) + 1 / 2 = (1 + Real.exp (-r))⁻¹ := by
  have h1 := Real.exp_pos (1 / 2 * r)
  have h2 := Real.exp_pos (-(1 / 2 * r))
  have h3 : Real.exp (-r) = Real.exp (-(1 / 2 * r)) * Real.exp (-(1 / 2 * r)) := by
    rw [← Real.exp_add]; congr 1; ring
  have h4 : Real.exp (1 / 2 * r) * Real.exp (-(1 / 2 * r)) = 1 := by
    rw [← Real.exp_add]; simp
  rw [Real.tanh_eq_sinh_div_cosh, Real.sinh_eq, Real.cosh_eq, h3]
  generalize Real.exp (1 / 2 * r) = a at *
  generalize Real.exp (-(1 / 2 * r)) = b at *
  rw [← one_div, div_div_div_cancel_right₀ (by norm_num), eq_div_iff (by positivity)]
  have h5 : a + b ≠ 0 := by positivity
  field_simp
  linear_combination 2 * b * h4

/-- A half, and a half of the hyperbolic tangent of half the argument, is the sigmoid, at every extended real. -/
theorem tanh_form (x : EReal) :
    Ideal.ofBits .f32 0x3F000000#32 * Ideal.tanh (Ideal.ofBits .f32 0x3F000000#32 * x) + Ideal.ofBits .f32 0x3F000000#32 = sg x := by
  rw [half]
  show _ = Ideal.logistic x
  induction x using EReal.rec with
  | bot =>
    rw [EReal.coe_mul_bot_of_pos (by norm_num), Ideal.tanh_bot, Ideal.logistic_bot, mul_neg_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, real_eq]

end Cert.Sigmoid

end
-- ==== Proof.Layers.lean ====
/- A block of two layers, each stored whole: how it reads. -/
module

public import Idealize.ShloMosaic.Lib.WritesUnit
public import Idealize.ShloMosaic.Lib.Pipeline.ValueKit
public import Idealize.ShloMosaic.Lib.Pointwise

@[expose] public section

namespace Cert.Layers

open Idealize.ShloMosaic

variable {Val : EltTy → Type} [∀ e, Nonempty (Val e)] {e : EltTy} {K N : ℕ}

/-- A rectangle's own index, moved by the rectangle's offset. -/
theorem emb_layer (l : ℕ) (inb : ∀ a : Fin 3, (![l, 0, 0] : Fin 3 → ℕ) a + (![1, K, N] : Fin 3 → ℕ) a ≤ (![2, K, N] : Fin 3 → ℕ) a)
    (y : (⟨3, ![2, K, N]⟩ : Shape).Idx) (h : (y 0).val = l) :
    (Rect.unit (s := ⟨3, ![2, K, N]⟩) ![l, 0, 0] ![1, K, N] inb).emb (ix3 0 (y 1) (y 2)) = y := funext fun a => Fin.ext (by
  match a with
  | ⟨0, _⟩ => exact h.symm
  | ⟨1, _⟩ => exact (Nat.zero_add _).trans (Nat.one_mul _)
  | ⟨2, _⟩ => exact (Nat.zero_add _).trans (Nat.one_mul _))

theorem canon_layers
    (inb : ∀ a : Fin 3, (![1, 0, 0] : Fin 3 → ℕ) a + (![1, K, N] : Fin 3 → ℕ) a ≤ (![2, K, N] : Fin 3 → ℕ) a)
    (inb' : ∀ a : Fin 3, (![0, 0, 0] : Fin 3 → ℕ) a + (![1, K, N] : Fin 3 → ℕ) a ≤ (![2, K, N] : Fin 3 → ℕ) a)
    (p q : (⟨3, ![1, K, N]⟩ : Shape).Idx → Val e) (y : (⟨3, ![2, K, N]⟩ : Shape).Idx) :
    View.canon [⟨Rect.unit (s := ⟨3, ![2, K, N]⟩) ![1, 0, 0] ![1, K, N] inb, p⟩, ⟨Rect.unit (s := ⟨3, ![2, K, N]⟩) ![0, 0, 0] ![1, K, N] inb', q⟩] y
      = if (y 0).val = 0 then q (ix3 0 (y 1) (y 2)) else p (ix3 0 (y 1) (y 2)) := by
  have hy : (y 0).val < 2 := (y 0).isLt
  split_ifs with h
  · rw [View.canon_cons_of_not_mem]
    · refine (congrArg _ (emb_layer 0 inb' y h).symm).trans ?_
      exact View.canon_cons_emb (Rect.unit (s := ⟨3, ![2, K, N]⟩) ![0, 0, 0] ![1, K, N] inb') q _ (ix3 0 (y 1) (y 2))
    · rw [Rect.mem_set_unit]
      intro hall
      have := hall 0
      simp at this
      omega
  · refine (congrArg _ (emb_layer 1 inb y (by omega)).symm).trans ?_
    exact View.canon_cons_emb (Rect.unit (s := ⟨3, ![2, K, N]⟩) ![1, 0, 0] ![1, K, N] inb) p _ (ix3 0 (y 1) (y 2))

end Cert.Layers
-- ==== Proof.Dm.lean ====
/- The gradient of the gated merge of the two branches: the launch leaves the cotangents of the branches and of the gates' logits, as the reference does. -/
module

public import proofs.«01_k».proof.Proof.Gen.DmIdeal.Frame
public import proofs.«01_k».proof.Proof.Gen.DmRefIdeal.Read
public import Idealize.ShloMosaic.Lib.Pipeline.ValueKit
public import Idealize.ShloMosaic.Lib.Pointwise
public import proofs.«01_k».proof.Proof.Sigmoid
public import proofs.«01_k».proof.Proof.Layers

@[expose] public section

set_option maxRecDepth 16384

noncomputable section

open Idealize.ShloMosaic Idealize.ShloMosaic.TcCoe Idealize.SL.Sem
open Idealize.ShloMosaic.Pipeline (Dat)

namespace Cert.DmIdeal.Value

open Cert.DmIdeal Cert.DmIdeal.Gen

variable (m : (ℓ : Loc nD τ sig) → Buf (Elt Ideal) ℓ)

open Cert.Sigmoid (sg)

/-- Where the blocks of the nine windows sit. -/
theorem idx : ∀ t : Fin cfg0.N, win0_0.index t = ![t.val / 2, 0] ∧ win0_1.index t = ![t.val % 2, 0]
    ∧ win0_2.index t = ![t.val / 2, 6 + t.val % 2] ∧ win0_3.index t = ![t.val / 2, 8 + t.val % 2]
    ∧ win0_4.index t = ![t.val / 2, t.val % 2] ∧ win0_5.index t = ![t.val / 2, t.val % 2]
    ∧ win0_6.index t = ![t.val / 2, t.val % 2] ∧ win0_7.index t = ![t.val / 2, t.val % 2]
    ∧ win0_8.index t = ![0, t.val / 2, t.val % 2] :=
  (by decide +kernel : ∀ t : Fin grid0.N, _)

/-- The cotangent of the merged branches, one element of a point's product. -/
theorem pay3_apply (a : FVec Ideal S512x2048 .bf16) (b : FVec Ideal S1024x2048 .bf16) (y : S512x1024.Idx) :
    k0_pay3 (F := Ideal) a b y = ∑ k : Fin 2048, a (ix2 (y 0) k) * b (ix2 (y 1) k) := by
  pointwise [k0_pay3]

/-- The first gate. -/
theorem pay4_apply (l : FVec Ideal S512x1024 .f32) (y : S512x1024.Idx) : k0_pay4 (F := Ideal) l y = sg (l y) := by
  rw [← Cert.Sigmoid.tanh_form]
  pointwise [k0_pay4]

/-- The second gate. -/
theorem pay5_apply (l : FVec Ideal S512x1024 .f32) (y : S512x1024.Idx) : k0_pay5 (F := Ideal) l y = sg (l y) := by
  rw [← Cert.Sigmoid.tanh_form]
  pointwise [k0_pay5]

/-- The first gate's logits' cotangent. -/
theorem pay1_apply (g : FVec Ideal S512x1024 .f32) (d : FVec Ideal S512x1024 .f32) (r : Fin 512) (q : Fin 1024) :
    k0_pay1 (F := Ideal) g d (ix3 0 r q) = d (ix2 r q) * (1 - g (ix2 r q)) := by
  pointwise [k0_pay1]

/-- The second gate's logits' cotangent. -/
theorem pay2_apply (d g : FVec Ideal S512x1024 .f32) (p : FVec Ideal S512x1024 .bf16) (r : Fin 512) (q : Fin 1024) :
    k0_pay2 (F := Ideal) d g p (ix3 0 r q) = d (ix2 r q) * p (ix2 r q) * g (ix2 r q) * (1 - g (ix2 r q)) := by
  pointwise [k0_pay2]

/-- The cotangent of the merged branches. -/
def dm (w : FVec Ideal S2048x2048 .f32) (ct : FVec Ideal S4096x2048 .f32) (r : Fin 4096) (q : Fin 2048) : EReal :=
  ∑ k : Fin 2048, ct (ix2 r k) * w (ix2 q k)

/-- The reference's cotangent of the merged branches. -/
theorem ref18_apply (w : FVec Ideal S2048x2048 .f32) (ct : FVec Ideal S4096x2048 .f32) (i : S4096x2048.Idx) :
    Cert.DmRefIdeal.Read.val_main_v18 (F := Ideal) w ct i = dm w ct (i 0) (i 1) := by
  idx_vars i
  unfold Cert.DmRefIdeal.Read.val_main_v18 dm
  pointwise

/-- The reference's gates. -/
theorem ref5_apply (l : FVec Ideal S4096x4096 .f32) (i : S4096x4096.Idx) :
    Cert.DmRefIdeal.Read.val_main_v5 (F := Ideal) l i = sg (l i) := by
  unfold Cert.DmRefIdeal.Read.val_main_v5 Cert.DmRefIdeal.Read.val_main_v4 Cert.DmRefIdeal.Read.val_main_v3 Cert.DmRefIdeal.Read.val_main_v2
    Cert.DmRefIdeal.Read.val_main_v1 Cert.DmRefIdeal.Read.val_main_v0 Cert.DmRefIdeal.Read.val_main_cst Cert.DmRefIdeal.Read.val_main_cst_0 sg
  pointwise

/-- The first branch's gate. -/
theorem ref11_apply (l : FVec Ideal S4096x4096 .f32) (r : Fin 4096) (q : Fin 2048) :
    Cert.DmRefIdeal.Read.val_main_v11 (F := Ideal) l (ix2 r q) = sg (l (ix2 r ⟨q.val, by omega⟩)) := by
  rw [Cert.DmRefIdeal.Read.val_main_v11_apply, Cert.DmRefIdeal.Read.val_main_v10_apply, Cert.DmRefIdeal.Read.val_main_v9_apply, ref5_apply]
  refine congrArg (fun i => sg (l i)) (funext fun a => Fin.ext ?_)
  match a with
  | ⟨0, _⟩ => simp; omega
  | ⟨1, _⟩ => simp; omega

/-- The second branch's gate. -/
theorem ref14_apply (l : FVec Ideal S4096x4096 .f32) (r : Fin 4096) (q : Fin 2048) :
    Cert.DmRefIdeal.Read.val_main_v14 (F := Ideal) l (ix2 r q) = sg (l (ix2 r ⟨2048 + q.val, by omega⟩)) := by
  rw [Cert.DmRefIdeal.Read.val_main_v14_apply, Cert.DmRefIdeal.Read.val_main_v13_apply, Cert.DmRefIdeal.Read.val_main_v9_apply, ref5_apply]
  refine congrArg (fun i => sg (l i)) (funext fun a => Fin.ext ?_)
  match a with
  | ⟨0, _⟩ => simp; omega
  | ⟨1, _⟩ => simp; omega

/-- The gates' logits as the first window reads them, behind three arrays' width of zeros. -/
theorem logits_a (c : Dev nD) (r : Fin 4096) (q : Fin 4096) (i : S4096x10240.Idx) (h0 : (i 0).val = r.val) (h1 : (i 1).val = 6144 + q.val) :
    V m c main_v1 i = (m ((c : Thread nD τ).loc main_arg2)) (ix2 r q) := by
  have hq : 6144 + q.val < 10240 := by have := q.isLt; omega
  obtain rfl : i = ix2 r ⟨6144 + q.val, hq⟩ := by
    funext a
    match a with
    | ⟨0, _⟩ => exact Fin.ext h0
    | ⟨1, _⟩ => exact Fin.ext h1
  clear h0 h1
  show StableHlo.after (List.flatten [hostOps0]) (fun b => m (c, b)) (Proc.tc.devRef main_v1) _ = _
  set_option maxHeartbeats 1600000 in
  simp only [hostOps0, List.flatten_cons, List.flatten_nil, List.append_nil, List.nil_append, List.cons_append, StableHlo.after_cons, StableHlo.after_nil]
  after_results_simp
  pointwise

/-- The same of the second window's. -/
theorem logits_b (c : Dev nD) (r : Fin 4096) (q : Fin 4096) (i : S4096x10240.Idx) (h0 : (i 0).val = r.val) (h1 : (i 1).val = 6144 + q.val) :
    V m c main_v3 i = (m ((c : Thread nD τ).loc main_arg2)) (ix2 r q) := by
  have hq : 6144 + q.val < 10240 := by have := q.isLt; omega
  obtain rfl : i = ix2 r ⟨6144 + q.val, hq⟩ := by
    funext a
    match a with
    | ⟨0, _⟩ => exact Fin.ext h0
    | ⟨1, _⟩ => exact Fin.ext h1
  clear h0 h1
  show StableHlo.after (List.flatten [hostOps0]) (fun b => m (c, b)) (Proc.tc.devRef main_v3) _ = _
  set_option maxHeartbeats 1600000 in
  simp only [hostOps0, List.flatten_cons, List.flatten_nil, List.append_nil, List.nil_append, List.cons_append, StableHlo.after_cons, StableHlo.after_nil]
  after_results_simp
  pointwise

/-- A point's cotangent of the merged branches. -/
theorem point3 (c : Dev nD) (t : Fin cfg0.N) (r : Fin 4096) (q : Fin 2048) (y : S512x1024.Idx)
    (h0 : r.val = t.val / 2 * 512 + (y 0).val) (h1 : q.val = t.val % 2 * 1024 + (y 1).val) :
    k0_pay3 (F := Ideal) (iblk m c 0 t) (iblk m c 1 t) y = dm (m ((c : Thread nD τ).loc main_arg3)) (m ((c : Thread nD τ).loc main_arg4)) r q := by
  rw [pay3_apply]
  refine Finset.sum_congr rfl fun k _ => ?_
  blk_point [iblk, V, idx t]

/-- A point's first gate. -/
theorem point4 (c : Dev nD) (t : Fin cfg0.N) (r : Fin 4096) (q : Fin 2048) (y : S512x1024.Idx)
    (h0 : r.val = t.val / 2 * 512 + (y 0).val) (h1 : q.val = t.val % 2 * 1024 + (y 1).val) :
    k0_pay4 (F := Ideal) (iblk m c 2 t) y = sg ((m ((c : Thread nD τ).loc main_arg2)) (ix2 r ⟨q.val, by omega⟩)) := by
  rw [pay4_apply]
  refine congrArg sg (logits_a m c _ _ _ (Eq.trans (b := t.val / 2 * 512 + (y 0).val) ?_ h0.symm)
    (Eq.trans (b := (6 + t.val % 2) * 1024 + (y 1).val) ?_ (by simp only [h1]; omega)))
  · blk_point [idx t]
  · blk_point [idx t]

/-- A point's second gate. -/
theorem point5 (c : Dev nD) (t : Fin cfg0.N) (r : Fin 4096) (q : Fin 2048) (y : S512x1024.Idx)
    (h0 : r.val = t.val / 2 * 512 + (y 0).val) (h1 : q.val = t.val % 2 * 1024 + (y 1).val) :
    k0_pay5 (F := Ideal) (iblk m c 3 t) y = sg ((m ((c : Thread nD τ).loc main_arg2)) (ix2 r ⟨2048 + q.val, by omega⟩)) := by
  rw [pay5_apply]
  refine congrArg sg (logits_b m c _ _ _ (Eq.trans (b := t.val / 2 * 512 + (y 0).val) ?_ h0.symm)
    (Eq.trans (b := (8 + t.val % 2) * 1024 + (y 1).val) ?_ (by simp only [h1]; omega)))
  · blk_point [idx t]
  · blk_point [idx t]

/-- The first branch's cotangent at a point. -/
theorem point6 (c : Dev nD) (t : Fin cfg0.N) (i : S4096x2048.Idx) (y : S512x1024.Idx)
    (h0 : (i 0).val = t.val / 2 * 512 + (y 0).val) (h1 : (i 1).val = t.val % 2 * 1024 + (y 1).val) :
    k0_pay6 (F := Ideal) (iblk m c 0 t) (iblk m c 1 t) (iblk m c 2 t) y
      = Cert.DmRefIdeal.Read.val_main_v30 (F := Ideal) (m ((c : Thread nD τ).loc main_arg2)) (m ((c : Thread nD τ).loc main_arg3)) (m ((c : Thread nD τ).loc main_arg4)) i := by
  obtain ⟨r, q, rfl⟩ : ∃ r q, i = ix2 r q := ⟨i 0, i 1, by idx_vars i⟩
  rw [Cert.DmRefIdeal.Read.val_main_v30_apply, Cert.DmRefIdeal.Read.val_main_v23_apply, ref11_apply, ref18_apply]
  exact (congrArg₂ HMul.hMul (point3 m c t r q y h0 h1) (point4 m c t r q y h0 h1)).trans (mul_comm _ _)

/-- The first branch's cotangent after the run. -/
theorem final6 (c : Dev nD) : (dats m 0 c).arrAt 6 (cfgs 0).N
    = Cert.DmRefIdeal.Read.val_main_v30 (F := Ideal) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  refine point6 m c t _ y ?_ ?_
  · blk_point [idx t]
  · blk_point [idx t]

/-- The second branch's cotangent at a point. -/
theorem point7 (c : Dev nD) (t : Fin cfg0.N) (i : S4096x2048.Idx) (y : S512x1024.Idx)
    (h0 : (i 0).val = t.val / 2 * 512 + (y 0).val) (h1 : (i 1).val = t.val % 2 * 1024 + (y 1).val) :
    k0_pay7 (F := Ideal) (iblk m c 0 t) (iblk m c 1 t) (iblk m c 3 t) y
      = Cert.DmRefIdeal.Read.val_main_v31 (F := Ideal) (m ((c : Thread nD τ).loc main_arg2)) (m ((c : Thread nD τ).loc main_arg3)) (m ((c : Thread nD τ).loc main_arg4)) i := by
  obtain ⟨r, q, rfl⟩ : ∃ r q, i = ix2 r q := ⟨i 0, i 1, by idx_vars i⟩
  rw [Cert.DmRefIdeal.Read.val_main_v31_apply, Cert.DmRefIdeal.Read.val_main_v19_apply, ref14_apply, ref18_apply]
  exact (congrArg₂ HMul.hMul (point3 m c t r q y h0 h1) (point5 m c t r q y h0 h1)).trans (mul_comm _ _)

/-- The second branch's cotangent after the run. -/
theorem final7 (c : Dev nD) : (dats m 0 c).arrAt 7 (cfgs 0).N
    = Cert.DmRefIdeal.Read.val_main_v31 (F := Ideal) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]; frame_out
  refine point7 m c t _ y ?_ ?_
  · blk_point [idx t]
  · blk_point [idx t]

/-- The logits' cotangents, branch by branch. -/
def dl (pa pb : FVec Ideal S4096x2048 .f32) (l : FVec Ideal S4096x4096 .f32) (w : FVec Ideal S2048x2048 .f32) (ct : FVec Ideal S4096x2048 .f32)
    (b : ℕ) (r : Fin 4096) (q : Fin 2048) : EReal :=
  if b = 0 then dm w ct r q * pa (ix2 r q) * sg (l (ix2 r ⟨q.val, by omega⟩)) * (1 - sg (l (ix2 r ⟨q.val, by omega⟩)))
  else dm w ct r q * pb (ix2 r q) * sg (l (ix2 r ⟨2048 + q.val, by omega⟩)) * (1 - sg (l (ix2 r ⟨2048 + q.val, by omega⟩)))

/-- The reference's factor of the logits' cotangent. -/
theorem ref8_apply (l : FVec Ideal S4096x4096 .f32) (i : S4096x4096.Idx) :
    Cert.DmRefIdeal.Read.val_main_v8 (F := Ideal) l i = sg (l i) * (1 - sg (l i)) := by
  rw [← ref5_apply]
  unfold Cert.DmRefIdeal.Read.val_main_v8 Cert.DmRefIdeal.Read.val_main_v7 Cert.DmRefIdeal.Read.val_main_v6 Cert.DmRefIdeal.Read.val_main_cst_1
  generalize Cert.DmRefIdeal.Read.val_main_v5 (F := Ideal) l = v
  pointwise

/-- The reference's logits' cotangents before the gates' factor. -/
theorem ref27_apply (pa pb : FVec Ideal S4096x2048 .f32) (w : FVec Ideal S2048x2048 .f32) (ct : FVec Ideal S4096x2048 .f32)
    (r : Fin 4096) (b : Fin 2) (q : Fin 2048) :
    Cert.DmRefIdeal.Read.val_main_v27 (F := Ideal) pa pb w ct (ix3 r b q)
      = dm w ct r q * (if b.val = 0 then pa (ix2 r q) else pb (ix2 r q)) := by
  unfold Cert.DmRefIdeal.Read.val_main_v27 Cert.DmRefIdeal.Read.val_main_v26 Cert.DmRefIdeal.Read.val_main_v25 Cert.DmRefIdeal.Read.val_main_v24
    Cert.DmRefIdeal.Read.val_main_v22 Cert.DmRefIdeal.Read.val_main_v21 Cert.DmRefIdeal.Read.val_main_v20
    Cert.DmRefIdeal.Read.val_main_cst_2 Cert.DmRefIdeal.Read.val_main_cst_3
  have h : ∀ r q, Cert.DmRefIdeal.Read.val_main_v18 (F := Ideal) w ct (ix2 r q) = dm w ct r q := fun r q => ref18_apply w ct (ix2 r q)
  generalize Cert.DmRefIdeal.Read.val_main_v18 (F := Ideal) w ct = v at h ⊢
  fin_cases b
  · pointwise [h]
  · pointwise [h]

/-- The reference's logits' cotangents, first branch. -/
theorem ref29_lo (pa pb : FVec Ideal S4096x2048 .f32) (l : FVec Ideal S4096x4096 .f32) (w : FVec Ideal S2048x2048 .f32) (ct : FVec Ideal S4096x2048 .f32)
    (r : Fin 4096) (q : Fin 2048) :
    Cert.DmRefIdeal.Read.val_main_v29 (F := Ideal) pa pb l w ct (ix2 r ⟨q.val, by omega⟩) = dl pa pb l w ct 0 r q := by
  rw [Cert.DmRefIdeal.Read.val_main_v29_apply, Cert.DmRefIdeal.Read.val_main_v28_apply, ref8_apply,
    show Cert.DmRefIdeal.Read.idx_main_v28 (ix2 r ⟨q.val, by omega⟩) = ix3 r 0 q from funext fun a => Fin.ext (by
      match a with
      | ⟨0, _⟩ => simp; omega
      | ⟨1, _⟩ => simp; omega
      | ⟨2, _⟩ => simp; omega), ref27_apply]
  unfold dl
  exact (mul_assoc _ _ _).symm

/-- The reference's logits' cotangents, second branch. -/
theorem ref29_hi (pa pb : FVec Ideal S4096x2048 .f32) (l : FVec Ideal S4096x4096 .f32) (w : FVec Ideal S2048x2048 .f32) (ct : FVec Ideal S4096x2048 .f32)
    (r : Fin 4096) (q : Fin 2048) :
    Cert.DmRefIdeal.Read.val_main_v29 (F := Ideal) pa pb l w ct (ix2 r ⟨2048 + q.val, by omega⟩) = dl pa pb l w ct 1 r q := by
  rw [Cert.DmRefIdeal.Read.val_main_v29_apply, Cert.DmRefIdeal.Read.val_main_v28_apply, ref8_apply,
    show Cert.DmRefIdeal.Read.idx_main_v28 (ix2 r ⟨2048 + q.val, by omega⟩) = ix3 r 1 q from funext fun a => Fin.ext (by
      match a with
      | ⟨0, _⟩ => simp; omega
      | ⟨1, _⟩ => simp; omega
      | ⟨2, _⟩ => simp; omega), ref27_apply]
  unfold dl
  exact (mul_assoc _ _ _).symm

/-- The reference's third result. -/
theorem ref37_apply (pa pb : FVec Ideal S4096x2048 .f32) (l : FVec Ideal S4096x4096 .f32) (w : FVec Ideal S2048x2048 .f32) (ct : FVec Ideal S4096x2048 .f32)
    (b : Fin 2) (r : Fin 4096) (q : Fin 2048) :
    Cert.DmRefIdeal.Read.val_main_v37 (F := Ideal) pa pb l w ct (ix3 b r q) = dl pa pb l w ct b.val r q := by
  unfold Cert.DmRefIdeal.Read.val_main_v37 Cert.DmRefIdeal.Read.val_main_v36 Cert.DmRefIdeal.Read.val_main_v35 Cert.DmRefIdeal.Read.val_main_v34
    Cert.DmRefIdeal.Read.val_main_v33 Cert.DmRefIdeal.Read.val_main_v32
  have lo : ∀ r q, _ := fun r q => ref29_lo pa pb l w ct r q
  have hi : ∀ r q, _ := fun r q => ref29_hi pa pb l w ct r q
  generalize Cert.DmRefIdeal.Read.val_main_v29 (F := Ideal) pa pb l w ct = v at lo hi ⊢
  fin_cases b
  · refine Eq.trans ?_ (lo r q)
    pointwise
  · refine Eq.trans ?_ (hi r q)
    pointwise

/-- A point's factor of the first gate's cotangent. -/
theorem pay8_apply (a : FVec Ideal S512x2048 .bf16) (b : FVec Ideal S1024x2048 .bf16) (l : FVec Ideal S512x1024 .f32) (p : FVec Ideal S512x1024 .bf16)
    (y : S512x1024.Idx) :
    k0_pay8 (F := Ideal) a b l p y = k0_pay3 (F := Ideal) a b y * p y * k0_pay4 (F := Ideal) l y := by
  unfold k0_pay8
  generalize k0_pay3 (F := Ideal) a b = u
  generalize k0_pay4 (F := Ideal) l = v
  pointwise

/-- A point's block of the logits' cotangents. -/
theorem point8 (c : Dev nD) (t : Fin cfg0.N) (r : Fin 4096) (q : Fin 2048) (b : Fin 2) (y1 : Fin 512) (y2 : Fin 1024)
    (h0 : r.val = t.val / 2 * 512 + y1.val) (h1 : q.val = t.val % 2 * 1024 + y2.val) :
    out0_8 (F := Ideal) (iblk m c 0 t) (iblk m c 1 t) (iblk m c 2 t) (iblk m c 3 t) (iblk m c 4 t) (iblk m c 5 t) (ix3 b y1 y2)
      = dl (m ((c : Thread nD τ).loc main_arg0)) (m ((c : Thread nD τ).loc main_arg1)) (m ((c : Thread nD τ).loc main_arg2)) (m ((c : Thread nD τ).loc main_arg3)) (m ((c : Thread nD τ).loc main_arg4)) b.val r q := by
  frame_out
  refine (Cert.Layers.canon_layers _ _ _ _ (ix3 b y1 y2)).trans ?_
  unfold dl
  refine if_congr Iff.rfl ?_ ?_
  · refine (pay1_apply _ _ y1 y2).trans ?_
    rw [pay8_apply, point3 m c t r q (ix2 y1 y2) h0 h1, point4 m c t r q (ix2 y1 y2) h0 h1]
    refine congrArg (fun p => _ * p * _ * _) ?_
    blk_point [iblk, V, idx t]
  · refine (pay2_apply _ _ _ y1 y2).trans ?_
    rw [point3 m c t r q (ix2 y1 y2) h0 h1, point5 m c t r q (ix2 y1 y2) h0 h1]
    refine congrArg (fun p => _ * p * _ * _) ?_
    blk_point [iblk, V, idx t]

/-- A block's index by its coordinates. -/
theorem S2x512x1024_eta (z : S2x512x1024.Idx) : z = ix3 (z 0) (z 1) (z 2) := by
  idx_vars z
  rfl

/-- Where a point's block of the logits' cotangents sits in the array. -/
theorem emb8 (t : Fin cfg0.N) (y : ((cfg0.win 8).xblock (cfg0.grid.coords t)).Idx) :
    win0_8.index t 0 * 2 + (y 0).val = (y 0).val ∧ ((win0_8.blk t).view.emb y 1).val = t.val / 2 * 512 + (y 1).val
      ∧ ((win0_8.blk t).view.emb y 2).val = t.val % 2 * 1024 + (y 2).val := by
  have e := (idx t).2.2.2.2.2.2.2.2
  refine ⟨?_, ?_, ?_⟩
  · rw [e]; exact Nat.zero_add _
  · blk_simp
    rw [e]; rfl
  · blk_simp
    rw [e]; rfl

/-- The logits' cotangents after the run and the slice behind it. -/
theorem final8 (c : Dev nD) : extractStridedSlice S2x4096x2048 ![0, 0, 0] ((dats m 0 c).arrAt 8 (cfgs 0).N) slices_S5x4096x2048_S2x4096x2048_0_0_0
    = Cert.DmRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have key : ∀ i : S5x4096x2048.Idx, (i 0).val < 2 → (dats m 0 c).arrAt 8 (cfgs 0).N i
      = dl (m ((c : Thread nD τ).loc main_arg0)) (m ((c : Thread nD τ).loc main_arg1)) (m ((c : Thread nD τ).loc main_arg2)) (m ((c : Thread nD τ).loc main_arg3)) (m ((c : Thread nD τ).loc main_arg4)) (i 0).val (i 1) (i 2) := fun i hi => by
    refine ((dats m 0 c).arrAt_apply_of_coversWhere 8 (fun i => dl (m ((c : Thread nD τ).loc main_arg0)) (m ((c : Thread nD τ).loc main_arg1)) (m ((c : Thread nD τ).loc main_arg2)) (m ((c : Thread nD τ).loc main_arg3)) (m ((c : Thread nD τ).loc main_arg4)) (i 0).val (i 1) (i 2))
      (P := fun i => (i 0).val < 2) (fun β => β (0 : Fin _) = 0) (by decide +kernel) (fun t hf y => ?_) (fun j => ?_) i).trans (if_pos hi)
    · blk_simp
      rw [after0_8]
      obtain ⟨b, y1, y2, hz, hb, hr, hq⟩ : ∃ (b : Fin 2) (y1 : Fin 512) (y2 : Fin 1024), (cfg0.win 8).xinj (cfg0.grid.coords t) y = ix3 b y1 y2
          ∧ (y 0).val = b.val ∧ (y 1).val = y1.val ∧ (y 2).val = y2.val :=
        ⟨((cfg0.win 8).xinj (cfg0.grid.coords t) y : S2x512x1024.Idx) 0, ((cfg0.win 8).xinj (cfg0.grid.coords t) y : S2x512x1024.Idx) 1,
          ((cfg0.win 8).xinj (cfg0.grid.coords t) y : S2x512x1024.Idx) 2, S2x512x1024_eta _, rfl, rfl, rfl⟩
      rw [hz]
      refine (point8 m c t ((win0_8.blk t).view.emb y 1) ((win0_8.blk t).view.emb y 2) b y1 y2 ?_ ?_).trans
        (congrArg (fun k => dl _ _ _ _ _ k _ _) ?_)
      · exact ((emb8 t y).2.1).trans (congrArg (_ + ·) hr)
      · exact ((emb8 t y).2.2).trans (congrArg (_ + ·) hq)
      · exact (((emb8 t y).1).trans hb).symm
    · blk_simp [Pipeline.Window.cell_apply]
      omega
  funext i
  obtain ⟨b, r, q, rfl⟩ : ∃ b r q, i = ix3 b r q := ⟨i 0, i 1, i 2, by idx_vars i⟩
  rw [ref37_apply]
  refine Eq.trans ?_ (key (ix3 ⟨b.val, by omega⟩ r q) b.isLt)
  pointwise

/-- What the slice after the region leaves, from the region's third result. -/
theorem tail9 (c : Dev nD) : Pipeline.afterTail₀ cfgs (dats m) 0 (V0 m) [hostOps1] c main_v9
    = extractStridedSlice S2x4096x2048 ![0, 0, 0] ((dats m 0 c).arrAt 8 (cfgs 0).N) slices_S5x4096x2048_S2x4096x2048_0_0_0 := by
  unfold Pipeline.afterTail₀
  simp only [hostOps1, List.flatten_cons, List.flatten_nil, List.append_nil]
  after_results_simp
  exact congrArg (extractStridedSlice S2x4096x2048 ![0, 0, 0] · slices_S5x4096x2048_S2x4096x2048_0_0_0)
    (Pipeline.withArrays_arr (cfgs 0).spec (by decide) c (V0 m c) _ 8)

end Cert.DmIdeal.Value

end
-- ==== Proof.Ff1.lean ====
/- The MLP's first layer: the launch leaves the rectified layer and its square, as the reference does. -/
module

public import proofs.«01_k».proof.Proof.Gen.Ff1Ideal.Frame
public import proofs.«01_k».proof.Proof.Gen.Ff1RefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Ff1Ideal.Value

open Cert.Ff1Ideal Cert.Ff1Ideal.Gen

variable (m : (ℓ : Loc nD τ sig) → Buf (Elt Ideal) ℓ)

/-- Where the blocks of the five windows sit. -/
theorem idx : ∀ t : Fin cfg0.N, win0_0.index t = ![t.val / 8, 0] ∧ win0_1.index t = ![0, t.val % 8]
    ∧ win0_2.index t = ![0, t.val % 8] ∧ win0_3.index t = ![t.val / 8, t.val % 8] ∧ win0_4.index t = ![t.val / 8, t.val % 8] :=
  (by decide +kernel : ∀ t : Fin grid0.N, _)

/-- One element of a point's rectified layer. -/
theorem pay1_apply (a : FVec Ideal S1024x2048 .bf16) (b : FVec Ideal S2048x1024 .bf16) (v : FVec Ideal S1x1024 .f32) (y : S1024x1024.Idx) :
    k0_pay1 (F := Ideal) a b v y = max ((∑ k : Fin 2048, a (ix2 (y 0) k) * b (ix2 k (y 1))) + v (ix2 0 (y 1))) 0 := by
  pointwise [k0_pay1]

/-- One element of the reference's rectified layer. -/
theorem ref_apply (x : FVec Ideal S4096x2048 .f32) (w : FVec Ideal S2048x8192 .f32) (b : FVec Ideal S8192 .f32) (i : S4096x8192.Idx) :
    Cert.Ff1RefIdeal.Read.val_main_v5 (F := Ideal) x w b i
      = max ((∑ k : Fin 2048, x (ix2 (i 0) k) * w (ix2 k (i 1))) + b (ix1 (i 1))) 0 := by
  idx_vars i
  unfold Cert.Ff1RefIdeal.Read.val_main_v5 Cert.Ff1RefIdeal.Read.val_main_v4 Cert.Ff1RefIdeal.Read.val_main_v3 Cert.Ff1RefIdeal.Read.val_main_v2
    Cert.Ff1RefIdeal.Read.val_main_v1 Cert.Ff1RefIdeal.Read.val_main_v0 Cert.Ff1RefIdeal.Read.val_main_call0_v0 Cert.Ff1RefIdeal.Read.val_main_call0_cst
  pointwise

/-- One element of the reference's squared layer. -/
theorem ref_sq_apply (x : FVec Ideal S4096x2048 .f32) (w : FVec Ideal S2048x8192 .f32) (b : FVec Ideal S8192 .f32) (i : S4096x8192.Idx) :
    Cert.Ff1RefIdeal.Read.val_main_v7 (F := Ideal) x w b i
      = Cert.Ff1RefIdeal.Read.val_main_v5 (F := Ideal) x w b i * Cert.Ff1RefIdeal.Read.val_main_v5 (F := Ideal) x w b i := by
  unfold Cert.Ff1RefIdeal.Read.val_main_v7 Cert.Ff1RefIdeal.Read.val_main_v6 Cert.Ff1RefIdeal.Read.val_main_v5
  generalize Cert.Ff1RefIdeal.Read.val_main_v4 (F := Ideal) x w b = v
  pointwise

/-- The bias as the launch reads it, one row. -/
theorem bias_apply (c : Dev nD) (i : S1x8192.Idx) :
    V m c main_v2 i = m ((c : Thread nD τ).loc main_arg2) (ix1 (i 1)) := by
  idx_vars i
  entry_read
  pointwise

/-- One element of the layer a point computes. -/
theorem point (c : Dev nD) (t : Fin cfg0.N) (i : S4096x8192.Idx) (y : S1024x1024.Idx)
    (h0 : (i 0).val = t.val / 8 * 1024 + (y 0).val) (h1 : (i 1).val = t.val % 8 * 1024 + (y 1).val) :
    k0_pay1 (F := Ideal) (iblk m c 0 t) (iblk m c 1 t) (iblk m c 2 t) y
      = Cert.Ff1RefIdeal.Read.val_main_v5 (F := Ideal) (m ((c : Thread nD τ).loc main_arg0)) (m ((c : Thread nD τ).loc main_arg1))
          (m ((c : Thread nD τ).loc main_arg2)) i := by
  rw [pay1_apply, ref_apply]
  refine congrArg₂ max (congrArg₂ HAdd.hAdd (Finset.sum_congr rfl fun k _ => ?_) ?_) rfl
  · blk_point [iblk, V, idx t]
  · refine (bias_apply m c _).trans ?_
    blk_point [idx t]

/-- The rectified layer after the run. -/
theorem final3 (c : Dev nD) : (dats m 0 c).arrAt 3 (cfgs 0).N
    = Cert.Ff1RefIdeal.Read.val_main_v5 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]; frame_out
  refine Eq.trans ?_ (point m c t _ y ?_ ?_)
  · pointwise [k0_pay2]
  · blk_point [idx t]
  · blk_point [idx t]

/-- The squared layer after the run. -/
theorem final4 (c : Dev nD) : (dats m 0 c).arrAt 4 (cfgs 0).N
    = Cert.Ff1RefIdeal.Read.val_main_v7 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]; frame_out
  rw [ref_sq_apply, ← point m c t _ y ?_ ?_]
  · pointwise [k0_pay3]
  · blk_point [idx t]
  · blk_point [idx t]

end Cert.Ff1Ideal.Value

end
-- ==== Proof.Ff2.lean ====
/- The MLP's second layer: the launch leaves the product of the squared layer with the second weight. -/
module

public import proofs.«01_k».proof.Proof.Gen.Ff2Ideal.Frame
public import proofs.«01_k».proof.Proof.Gen.Ff2RefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Ff2Ideal.Value

open Cert.Ff2Ideal Cert.Ff2Ideal.Gen

variable (m : (ℓ : Loc nD τ sig) → Buf (Elt Ideal) ℓ)

/-- Where the blocks of the three windows sit. -/
theorem idx : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

/-- One element of a point's product. -/
theorem pay1_apply (a : FVec Ideal S1024x2048 .bf16) (b : FVec Ideal S2048x1024 .bf16) (y : S1024x1024.Idx) :
    k0_pay1 (F := Ideal) a b y = ∑ k : Fin 2048, a (ix2 (y 0) k) * b (ix2 k (y 1)) := by
  pointwise [k0_pay1]

/-- One element of the reference's product. -/
theorem ref_apply (x : FVec Ideal S4096x8192 .f32) (w : FVec Ideal S8192x2048 .f32) (i : S4096x2048.Idx) :
    Cert.Ff2RefIdeal.Read.val_main_v0 (F := Ideal) x w i = ∑ k : Fin 8192, x (ix2 (i 0) k) * w (ix2 k (i 1)) := by
  idx_vars i
  unfold Cert.Ff2RefIdeal.Read.val_main_v0
  pointwise

/-- The result after the run. -/
theorem final (c : Dev nD) : (dats m 0 c).arrAt 2 (cfgs 0).N
    = Cert.Ff2RefIdeal.Read.val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => k0_pay1 (F := Ideal) (iblk m c 0 p) (iblk m c 1 p) j)
    (fun t h j => by
      rw [outsAt0_A m c t h (by omega)]; frame_out
      exact (zero_add _).symm)
    (fun t h j => by
      rw [outsAt0_B m c t h (by omega)]; frame_out
      pointwise [k0_pay2])
    t ((flush0_2 t).mp hf) y, zero_add, ref_apply]
  simp only [pay1_apply]
  refine Fin.sum_mul_add_congr fun s k hl => ?_
  blk_point [iblk, V, idx t, idx ⟨_, Pipeline.run_point_lt_of_flush t ((flush0_2 t).mp hf) s⟩]

end Cert.Ff2Ideal.Value

end
-- ==== Proof.Merge.lean ====
/- The gated merge of the two branches: the launch leaves the merged branches and the two branches' products, as the reference does. -/
module

public import proofs.«01_k».proof.Proof.Gen.MergeIdeal.Frame
public import proofs.«01_k».proof.Proof.Gen.MergeRefIdeal.Read
public import Idealize.ShloMosaic.Lib.Pipeline.ValueKit
public import Idealize.ShloMosaic.Lib.Pointwise
public import proofs.«01_k».proof.Proof.Sigmoid

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

open Cert.Sigmoid (sg)

/-- Where the blocks of the nine windows sit. -/
theorem idx : ∀ t : Fin cfg0.N, win0_0.index t = ![t.val / 4, 0] ∧ win0_1.index t = ![0, t.val % 4]
    ∧ win0_2.index t = ![t.val / 4, 0] ∧ win0_3.index t = ![0, t.val % 4]
    ∧ win0_4.index t = ![t.val / 4, 12 + t.val % 4] ∧ win0_5.index t = ![t.val / 4, 16 + t.val % 4]
    ∧ win0_6.index t = ![t.val / 4, t.val % 4] ∧ win0_7.index t = ![t.val / 4, t.val % 4]
    ∧ win0_8.index t = ![t.val / 4, t.val % 4] :=
  (by decide +kernel : ∀ t : Fin grid0.N, _)

/-- One element of the product both branches take. -/
def dot (a : FVec Ideal S4096x2048 .f32) (w : FVec Ideal S2048x2048 .f32) (r : Fin 4096) (q : Fin 2048) : EReal :=
  ∑ k : Fin 2048, a (ix2 r k) * w (ix2 k q)

/-- One element of a point's first branch. -/
theorem pay2_apply (a : FVec Ideal S1024x2048 .bf16) (b : FVec Ideal S2048x512 .bf16) (y : S1024x512.Idx) :
    k0_pay2 (F := Ideal) a b y = ∑ k : Fin 2048, a (ix2 (y 0) k) * b (ix2 k (y 1)) := by
  pointwise [k0_pay2]

/-- One element of a point's second branch. -/
theorem pay3_apply (a : FVec Ideal S1024x2048 .bf16) (b : FVec Ideal S2048x512 .bf16) (y : S1024x512.Idx) :
    k0_pay3 (F := Ideal) a b y = ∑ k : Fin 2048, a (ix2 (y 0) k) * b (ix2 k (y 1)) := by
  pointwise [k0_pay3]

/-- One element of a point's merged branches. -/
theorem pay4_apply (a : FVec Ideal S1024x2048 .bf16) (b : FVec Ideal S2048x512 .bf16) (a' : FVec Ideal S1024x2048 .bf16) (b' : FVec Ideal S2048x512 .bf16)
    (l l' : FVec Ideal S1024x512 .f32) (y : S1024x512.Idx) :
    k0_pay4 (F := Ideal) a b a' b' l l' y = sg (l y) * k0_pay2 (F := Ideal) a b y + sg (l' y) * k0_pay3 (F := Ideal) a' b' y := by
  rw [← Cert.Sigmoid.tanh_form, ← Cert.Sigmoid.tanh_form]
  unfold k0_pay4
  generalize k0_pay2 (F := Ideal) a b = u
  generalize k0_pay3 (F := Ideal) a' b' = v
  pointwise

/-- The reference's gates. -/
theorem ref5_apply (l : FVec Ideal S4096x4096 .f32) (i : S4096x4096.Idx) :
    Cert.MergeRefIdeal.Read.val_main_v5 (F := Ideal) l i = sg (l i) := by
  unfold Cert.MergeRefIdeal.Read.val_main_v5 Cert.MergeRefIdeal.Read.val_main_v4 Cert.MergeRefIdeal.Read.val_main_v3 Cert.MergeRefIdeal.Read.val_main_v2
    Cert.MergeRefIdeal.Read.val_main_v1 Cert.MergeRefIdeal.Read.val_main_v0 Cert.MergeRefIdeal.Read.val_main_cst Cert.MergeRefIdeal.Read.val_main_cst_0 sg
  pointwise

/-- The reference's first branch. -/
theorem ref7_apply (a : FVec Ideal S4096x2048 .f32) (w : FVec Ideal S2048x2048 .f32) (i : S4096x2048.Idx) :
    Cert.MergeRefIdeal.Read.val_main_v7 (F := Ideal) a w i = dot a w (i 0) (i 1) := by
  idx_vars i
  unfold Cert.MergeRefIdeal.Read.val_main_v7 dot
  pointwise

/-- The reference's second branch. -/
theorem ref8_apply (a : FVec Ideal S4096x2048 .f32) (w : FVec Ideal S2048x2048 .f32) (i : S4096x2048.Idx) :
    Cert.MergeRefIdeal.Read.val_main_v8 (F := Ideal) a w i = dot a w (i 0) (i 1) := by
  idx_vars i
  unfold Cert.MergeRefIdeal.Read.val_main_v8 dot
  pointwise

/-- The first branch's gate. -/
theorem ref10_apply (l : FVec Ideal S4096x4096 .f32) (r : Fin 4096) (q : Fin 2048) :
    Cert.MergeRefIdeal.Read.val_main_v10 (F := Ideal) l (ix2 r q) = sg (l (ix2 r ⟨q.val, by omega⟩)) := by
  rw [Cert.MergeRefIdeal.Read.val_main_v10_apply, Cert.MergeRefIdeal.Read.val_main_v9_apply, Cert.MergeRefIdeal.Read.val_main_v6_apply, ref5_apply]
  refine congrArg (fun i => sg (l i)) (funext fun a => Fin.ext ?_)
  match a with
  | ⟨0, _⟩ => simp; omega
  | ⟨1, _⟩ => simp; omega

/-- The second branch's gate. -/
theorem ref13_apply (l : FVec Ideal S4096x4096 .f32) (r : Fin 4096) (q : Fin 2048) :
    Cert.MergeRefIdeal.Read.val_main_v13 (F := Ideal) l (ix2 r q) = sg (l (ix2 r ⟨2048 + q.val, by omega⟩)) := by
  rw [Cert.MergeRefIdeal.Read.val_main_v13_apply, Cert.MergeRefIdeal.Read.val_main_v12_apply, Cert.MergeRefIdeal.Read.val_main_v6_apply, ref5_apply]
  refine congrArg (fun i => sg (l i)) (funext fun a => Fin.ext ?_)
  match a with
  | ⟨0, _⟩ => simp; omega
  | ⟨1, _⟩ => simp; omega

/-- The gates' logits as the first window reads them, behind three arrays' width of zeros. -/
theorem logits_a (c : Dev nD) (r : Fin 4096) (q : Fin 4096) (i : S4096x10240.Idx) (h0 : (i 0).val = r.val) (h1 : (i 1).val = 6144 + q.val) :
    V m c main_v1 i = (m ((c : Thread nD τ).loc main_arg4)) (ix2 r q) := by
  have hq : 6144 + q.val < 10240 := by have := q.isLt; omega
  obtain rfl : i = ix2 r ⟨6144 + q.val, hq⟩ := by
    funext a
    match a with
    | ⟨0, _⟩ => exact Fin.ext h0
    | ⟨1, _⟩ => exact Fin.ext h1
  clear h0 h1
  show StableHlo.after (List.flatten [hostOps0]) (fun b => m (c, b)) (Proc.tc.devRef main_v1) _ = _
  set_option maxHeartbeats 1600000 in
  simp only [hostOps0, List.flatten_cons, List.flatten_nil, List.append_nil, List.nil_append, List.cons_append, StableHlo.after_cons, StableHlo.after_nil]
  after_results_simp
  pointwise

/-- The same of the second window's. -/
theorem logits_b (c : Dev nD) (r : Fin 4096) (q : Fin 4096) (i : S4096x10240.Idx) (h0 : (i 0).val = r.val) (h1 : (i 1).val = 6144 + q.val) :
    V m c main_v3 i = (m ((c : Thread nD τ).loc main_arg4)) (ix2 r q) := by
  have hq : 6144 + q.val < 10240 := by have := q.isLt; omega
  obtain rfl : i = ix2 r ⟨6144 + q.val, hq⟩ := by
    funext a
    match a with
    | ⟨0, _⟩ => exact Fin.ext h0
    | ⟨1, _⟩ => exact Fin.ext h1
  clear h0 h1
  show StableHlo.after (List.flatten [hostOps0]) (fun b => m (c, b)) (Proc.tc.devRef main_v3) _ = _
  set_option maxHeartbeats 1600000 in
  simp only [hostOps0, List.flatten_cons, List.flatten_nil, List.append_nil, List.nil_append, List.cons_append, StableHlo.after_cons, StableHlo.after_nil]
  after_results_simp
  pointwise

/-- A point's first branch. -/
theorem point2 (c : Dev nD) (t : Fin cfg0.N) (r : Fin 4096) (q : Fin 2048) (y : S1024x512.Idx)
    (h0 : r.val = t.val / 4 * 1024 + (y 0).val) (h1 : q.val = t.val % 4 * 512 + (y 1).val) :
    k0_pay2 (F := Ideal) (iblk m c 0 t) (iblk m c 1 t) y = dot (m ((c : Thread nD τ).loc main_arg0)) (m ((c : Thread nD τ).loc main_arg1)) r q := by
  rw [pay2_apply]
  refine Finset.sum_congr rfl fun k _ => ?_
  blk_point [iblk, V, idx t]

/-- A point's second branch. -/
theorem point3 (c : Dev nD) (t : Fin cfg0.N) (r : Fin 4096) (q : Fin 2048) (y : S1024x512.Idx)
    (h0 : r.val = t.val / 4 * 1024 + (y 0).val) (h1 : q.val = t.val % 4 * 512 + (y 1).val) :
    k0_pay3 (F := Ideal) (iblk m c 2 t) (iblk m c 3 t) y = dot (m ((c : Thread nD τ).loc main_arg2)) (m ((c : Thread nD τ).loc main_arg3)) r q := by
  rw [pay3_apply]
  refine Finset.sum_congr rfl fun k _ => ?_
  blk_point [iblk, V, idx t]

/-- A point's first gate. -/
theorem gate_a (c : Dev nD) (t : Fin cfg0.N) (r : Fin 4096) (q : Fin 2048) (y : S1024x512.Idx)
    (h0 : r.val = t.val / 4 * 1024 + (y 0).val) (h1 : q.val = t.val % 4 * 512 + (y 1).val) :
    iblk m c 4 t y = (m ((c : Thread nD τ).loc main_arg4)) (ix2 r ⟨q.val, by omega⟩) := by
  refine logits_a m c _ _ _ (Eq.trans (b := t.val / 4 * 1024 + (y 0).val) ?_ h0.symm)
    (Eq.trans (b := (12 + t.val % 4) * 512 + (y 1).val) ?_ (by simp only [h1]; omega))
  · blk_point [idx t]
  · blk_point [idx t]

/-- A point's second gate. -/
theorem gate_b (c : Dev nD) (t : Fin cfg0.N) (r : Fin 4096) (q : Fin 2048) (y : S1024x512.Idx)
    (h0 : r.val = t.val / 4 * 1024 + (y 0).val) (h1 : q.val = t.val % 4 * 512 + (y 1).val) :
    iblk m c 5 t y = (m ((c : Thread nD τ).loc main_arg4)) (ix2 r ⟨2048 + q.val, by omega⟩) := by
  refine logits_b m c _ _ _ (Eq.trans (b := t.val / 4 * 1024 + (y 0).val) ?_ h0.symm)
    (Eq.trans (b := (16 + t.val % 4) * 512 + (y 1).val) ?_ (by simp only [h1]; omega))
  · blk_point [idx t]
  · blk_point [idx t]

/-- The merged branches at a point. -/
theorem point6 (c : Dev nD) (t : Fin cfg0.N) (i : S4096x2048.Idx) (y : S1024x512.Idx)
    (h0 : (i 0).val = t.val / 4 * 1024 + (y 0).val) (h1 : (i 1).val = t.val % 4 * 512 + (y 1).val) :
    k0_pay4 (F := Ideal) (iblk m c 0 t) (iblk m c 1 t) (iblk m c 2 t) (iblk m c 3 t) (iblk m c 4 t) (iblk m c 5 t) y
      = Cert.MergeRefIdeal.Read.val_main_v16 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) i := by
  obtain ⟨r, q, rfl⟩ : ∃ r q, i = ix2 r q := ⟨i 0, i 1, by idx_vars i⟩
  rw [Cert.MergeRefIdeal.Read.val_main_v16_apply, Cert.MergeRefIdeal.Read.val_main_v15_apply, Cert.MergeRefIdeal.Read.val_main_v11_apply,
    Cert.MergeRefIdeal.Read.val_main_v14_apply, ref7_apply, ref8_apply, ref10_apply, ref13_apply, pay4_apply,
    point2 m c t r q y h0 h1, point3 m c t r q y h0 h1, gate_a m c t r q y h0 h1, gate_b m c t r q y h0 h1]
  rfl

/-- The merged branches after the run. -/
theorem final6 (c : Dev nD) : (dats m 0 c).arrAt 6 (cfgs 0).N
    = Cert.MergeRefIdeal.Read.val_main_v16 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]; frame_out
  refine point6 m c t _ y ?_ ?_
  · blk_point [idx t]
  · blk_point [idx t]

/-- The first branch after the run. -/
theorem final7 (c : Dev nD) : (dats m 0 c).arrAt 7 (cfgs 0).N
    = Cert.MergeRefIdeal.Read.val_main_v17 (F := Ideal) (m ((c : Thread nD τ).loc main_arg0)) (m ((c : Thread nD τ).loc main_arg1)) := by
  refine (dats m 0 c).arrAt_eq_of_covers 7 _ (by decide +kernel) fun t hf y => ?_
  blk_simp
  rw [after0_7]; frame_out
  rw [Cert.MergeRefIdeal.Read.val_main_v17_apply, ref7_apply]
  refine Eq.trans ?_ (point2 m c t _ _ y ?_ ?_)
  · pointwise [k0_pay5]
  · blk_point [idx t]
  · blk_point [idx t]

/-- The second branch after the run. -/
theorem final8 (c : Dev nD) : (dats m 0 c).arrAt 8 (cfgs 0).N
    = Cert.MergeRefIdeal.Read.val_main_v18 (F := Ideal) (m ((c : Thread nD τ).loc main_arg2)) (m ((c : Thread nD τ).loc main_arg3)) := by
  refine (dats m 0 c).arrAt_eq_of_covers 8 _ (by decide +kernel) fun t hf y => ?_
  blk_simp
  rw [after0_8]; frame_out
  rw [Cert.MergeRefIdeal.Read.val_main_v18_apply, ref8_apply]
  refine Eq.trans ?_ (point3 m c t _ _ y ?_ ?_)
  · pointwise [k0_pay1]
  · blk_point [idx t]
  · blk_point [idx t]

end Cert.MergeIdeal.Value

end
-- ==== Proof.OutLn1.lean ====
/- The output projection with the first normalization: the launch leaves the normalized rows, their affine image and the reciprocal deviations, as the reference does. -/
module

public import proofs.«01_k».proof.Proof.Gen.OutLn1Ideal.Frame
public import proofs.«01_k».proof.Proof.Gen.OutLn1RefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutLn1Ideal.Value

open Cert.OutLn1Ideal Cert.OutLn1Ideal.Gen

variable (m : (ℓ : Loc nD τ sig) → Buf (Elt Ideal) ℓ)

/-- Where the blocks of the nine windows sit. -/
theorem idx : ∀ t : Fin cfg0.N, win0_0.index t = ![t.val, 0] ∧ win0_1.index t = ![0, 0]
    ∧ win0_2.index t = ![t.val, 0] ∧ win0_3.index t = ![0, 0]
    ∧ win0_4.index t = ![0, 0] ∧ win0_5.index t = ![0, 0]
    ∧ win0_6.index t = ![t.val, 0] ∧ win0_7.index t = ![t.val, 0]
    ∧ win0_8.index t = ![t.val, 0] :=
  (by decide +kernel : ∀ t : Fin grid0.N, _)

/-- A row less its mean. -/
def dev (z : Fin 2048 → EReal) (q : Fin 2048) : EReal := z q - Ideal.div (∑ k, z k) (Ideal.ofBits .f32 0x45000000#32)

/-- The reciprocal deviation of a row. -/
def rs (z : Fin 2048 → EReal) : EReal :=
  Ideal.rsqrt (Ideal.div (∑ k, dev z k * dev z k) (Ideal.ofBits .f32 0x45000000#32) + Ideal.ofBits .f32 0x3727C5AC#32)

/-- A row before its normalization: the scaled residual, the product and the bias. -/
def row (a : Fin 2048 → EReal) (w : Fin 2048 → Fin 2048 → EReal) (x b : Fin 2048 → EReal) (q : Fin 2048) : EReal :=
  Ideal.ofBits .f32 0x3F9837F0#32 * x q + ((∑ k : Fin 2048, a k * w k q) + b q)

/-- A point's row before its normalization. -/
def prow (a : FVec Ideal S256x2048 .bf16) (w : FVec Ideal S2048x2048 .bf16) (x : FVec Ideal S256x2048 .f32) (b : FVec Ideal S1x2048 .f32) (r : Fin 256) :
    Fin 2048 → EReal :=
  row (fun k => a (ix2 r k)) (fun k q => w (ix2 k q)) (fun q => x (ix2 r q)) (fun q => b (ix2 0 q))

/-- The reference's row before its normalization. -/
def rrow (a : FVec Ideal S4096x2048 .f32) (w : FVec Ideal S2048x2048 .f32) (x : FVec Ideal S4096x2048 .f32) (b : FVec Ideal S2048 .f32) (r : Fin 4096) :
    Fin 2048 → EReal :=
  row (fun k => a (ix2 r k)) (fun k q => w (ix2 k q)) (fun q => x (ix2 r q)) (fun q => b (ix1 q))

/-- A point's row less its mean. -/
theorem pay2_apply (a : FVec Ideal S256x2048 .bf16) (w : FVec Ideal S2048x2048 .bf16) (x : FVec Ideal S256x2048 .f32) (b : FVec Ideal S1x2048 .f32)
    (y : S256x2048.Idx) : k0_pay2 (F := Ideal) a w x b y = dev (prow a w x b (y 0)) (y 1) := by
  unfold dev prow row
  pointwise [k0_pay2]

/-- A point's reciprocal deviation. -/
theorem pay3_apply (a : FVec Ideal S256x2048 .bf16) (w : FVec Ideal S2048x2048 .bf16) (x : FVec Ideal S256x2048 .f32) (b : FVec Ideal S1x2048 .f32)
    (y : S256x1.Idx) : k0_pay3 (F := Ideal) a w x b y = rs (prow a w x b (y 0)) := by
  have h : ∀ r q, k0_pay2 (F := Ideal) a w x b (ix2 r q) = dev (prow a w x b r) q := fun r q => pay2_apply a w x b (ix2 r q)
  unfold k0_pay3 rs
  generalize k0_pay2 (F := Ideal) a w x b = u at h ⊢
  pointwise [h]

/-- A point's normalized row. -/
theorem pay4_apply (a : FVec Ideal S256x2048 .bf16) (w : FVec Ideal S2048x2048 .bf16) (x : FVec Ideal S256x2048 .f32) (b : FVec Ideal S1x2048 .f32)
    (y : S256x2048.Idx) : k0_pay4 (F := Ideal) a w x b y = dev (prow a w x b (y 0)) (y 1) * rs (prow a w x b (y 0)) := by
  idx_vars y
  have h : ∀ r q, k0_pay2 (F := Ideal) a w x b (ix2 r q) = dev (prow a w x b r) q := fun r q => pay2_apply a w x b (ix2 r q)
  have h' : ∀ r q, k0_pay3 (F := Ideal) a w x b (ix2 r q) = rs (prow a w x b r) := fun r q => pay3_apply a w x b (ix2 r q)
  unfold k0_pay4
  generalize k0_pay2 (F := Ideal) a w x b = u at h ⊢
  generalize k0_pay3 (F := Ideal) a w x b = v at h' ⊢
  pointwise [h, h']

/-- A point's normalized row, scaled and shifted. -/
theorem pay5_apply (a : FVec Ideal S256x2048 .bf16) (w : FVec Ideal S2048x2048 .bf16) (x : FVec Ideal S256x2048 .f32) (b g s : FVec Ideal S1x2048 .f32)
    (y : S256x2048.Idx) : k0_pay5 (F := Ideal) a w x b g s y = k0_pay4 (F := Ideal) a w x b y * g (ix2 0 (y 1)) + s (ix2 0 (y 1)) := by
  unfold k0_pay5
  generalize k0_pay4 (F := Ideal) a w x b = u
  pointwise

/-- The reference's row before its normalization. -/
theorem ref6_apply (a : FVec Ideal S4096x2048 .f32) (w : FVec Ideal S2048x2048 .f32) (x : FVec Ideal S4096x2048 .f32) (b : FVec Ideal S2048 .f32)
    (r : Fin 4096) (q : Fin 2048) : Cert.OutLn1RefIdeal.Read.val_main_v6 (F := Ideal) a w x b (ix2 r q) = rrow a w x b r q := by
  unfold Cert.OutLn1RefIdeal.Read.val_main_v6 Cert.OutLn1RefIdeal.Read.val_main_v5 Cert.OutLn1RefIdeal.Read.val_main_v4 Cert.OutLn1RefIdeal.Read.val_main_v3 Cert.OutLn1RefIdeal.Read.val_main_v2 Cert.OutLn1RefIdeal.Read.val_main_v1 Cert.OutLn1RefIdeal.Read.val_main_v0 Cert.OutLn1RefIdeal.Read.val_main_cst rrow row
  pointwise

/-- The reference's row less its mean. -/
theorem ref12_apply (a : FVec Ideal S4096x2048 .f32) (w : FVec Ideal S2048x2048 .f32) (x : FVec Ideal S4096x2048 .f32) (b : FVec Ideal S2048 .f32)
    (r : Fin 4096) (q : Fin 2048) : Cert.OutLn1RefIdeal.Read.val_main_v12 (F := Ideal) a w x b (ix2 r q) = dev (rrow a w x b r) q := by
  have h := ref6_apply a w x b
  unfold Cert.OutLn1RefIdeal.Read.val_main_v12 Cert.OutLn1RefIdeal.Read.val_main_v11 Cert.OutLn1RefIdeal.Read.val_main_v10 Cert.OutLn1RefIdeal.Read.val_main_v9 Cert.OutLn1RefIdeal.Read.val_main_v8 Cert.OutLn1RefIdeal.Read.val_main_v7 Cert.OutLn1RefIdeal.Read.val_main_cst_0 Cert.OutLn1RefIdeal.Read.val_main_cst_1 dev
  generalize Cert.OutLn1RefIdeal.Read.val_main_v6 (F := Ideal) a w x b = u at h ⊢
  pointwise [h]

/-- The reference's reciprocal deviation. -/
theorem ref20_apply (a : FVec Ideal S4096x2048 .f32) (w : FVec Ideal S2048x2048 .f32) (x : FVec Ideal S4096x2048 .f32) (b : FVec Ideal S2048 .f32)
    (i : S4096x1.Idx) : Cert.OutLn1RefIdeal.Read.val_main_v20 (F := Ideal) a w x b i = rs (rrow a w x b (i 0)) := by
  have h := ref12_apply a w x b
  unfold Cert.OutLn1RefIdeal.Read.val_main_v20 Cert.OutLn1RefIdeal.Read.val_main_v19 Cert.OutLn1RefIdeal.Read.val_main_v18 Cert.OutLn1RefIdeal.Read.val_main_v17 Cert.OutLn1RefIdeal.Read.val_main_v16 Cert.OutLn1RefIdeal.Read.val_main_v15 Cert.OutLn1RefIdeal.Read.val_main_v14 Cert.OutLn1RefIdeal.Read.val_main_v13 Cert.OutLn1RefIdeal.Read.val_main_cst_2 Cert.OutLn1RefIdeal.Read.val_main_cst_3 Cert.OutLn1RefIdeal.Read.val_main_cst_4 rs
  generalize Cert.OutLn1RefIdeal.Read.val_main_v12 (F := Ideal) a w x b = u at h ⊢
  idx_vars i
  pointwise [h]

/-- The reference's normalized row. -/
theorem ref22_apply (a : FVec Ideal S4096x2048 .f32) (w : FVec Ideal S2048x2048 .f32) (x : FVec Ideal S4096x2048 .f32) (b : FVec Ideal S2048 .f32)
    (i : S4096x2048.Idx) : Cert.OutLn1RefIdeal.Read.val_main_v22 (F := Ideal) a w x b i = dev (rrow a w x b (i 0)) (i 1) * rs (rrow a w x b (i 0)) := by
  idx_vars i
  have h := ref12_apply a w x b
  have h' : ∀ r q, Cert.OutLn1RefIdeal.Read.val_main_v20 (F := Ideal) a w x b (ix2 r q) = rs (rrow a w x b r) := fun r q => ref20_apply a w x b (ix2 r q)
  unfold Cert.OutLn1RefIdeal.Read.val_main_v22 Cert.OutLn1RefIdeal.Read.val_main_v21
  generalize Cert.OutLn1RefIdeal.Read.val_main_v12 (F := Ideal) a w x b = u at h ⊢
  generalize Cert.OutLn1RefIdeal.Read.val_main_v20 (F := Ideal) a w x b = v at h' ⊢
  pointwise [h, h']

/-- The reference's normalized row, scaled and shifted. -/
theorem ref31_apply (a : FVec Ideal S4096x2048 .f32) (w : FVec Ideal S2048x2048 .f32) (x : FVec Ideal S4096x2048 .f32) (b g s : FVec Ideal S2048 .f32)
    (i : S4096x2048.Idx) : Cert.OutLn1RefIdeal.Read.val_main_v31 (F := Ideal) a w x b g s i
      = dev (rrow a w x b (i 0)) (i 1) * rs (rrow a w x b (i 0)) * g (ix1 (i 1)) + s (ix1 (i 1)) := by
  idx_vars i
  have h := ref12_apply a w x b
  have h' : ∀ r q, Cert.OutLn1RefIdeal.Read.val_main_v20 (F := Ideal) a w x b (ix2 r q) = rs (rrow a w x b r) := fun r q => ref20_apply a w x b (ix2 r q)
  unfold Cert.OutLn1RefIdeal.Read.val_main_v31 Cert.OutLn1RefIdeal.Read.val_main_v30 Cert.OutLn1RefIdeal.Read.val_main_v29 Cert.OutLn1RefIdeal.Read.val_main_v28 Cert.OutLn1RefIdeal.Read.val_main_v27 Cert.OutLn1RefIdeal.Read.val_main_v26 Cert.OutLn1RefIdeal.Read.val_main_v25 Cert.OutLn1RefIdeal.Read.val_main_v24 Cert.OutLn1RefIdeal.Read.val_main_v23
  generalize Cert.OutLn1RefIdeal.Read.val_main_v12 (F := Ideal) a w x b = u at h ⊢
  generalize Cert.OutLn1RefIdeal.Read.val_main_v20 (F := Ideal) a w x b = v at h' ⊢
  pointwise [h, h']

/-- The bias as the launch reads it, one row. -/
theorem bias_apply (c : Dev nD) (i : S1x2048.Idx) : V m c main_v2 i = m ((c : Thread nD τ).loc main_arg3) (ix1 (i 1)) := by
  idx_vars i
  entry_read
  pointwise

/-- The weight as the launch reads it. -/
theorem weight_apply (c : Dev nD) (i : S2048x2048.Idx) : V m c main_v1 i = m ((c : Thread nD τ).loc main_arg1) i := by
  idx_vars i
  entry_read
  pointwise

/-- The scale as the launch reads it, one row. -/
theorem scale_apply (c : Dev nD) (i : S1x2048.Idx) : V m c main_v3 i = m ((c : Thread nD τ).loc main_arg4) (ix1 (i 1)) := by
  idx_vars i
  entry_read
  pointwise

/-- The shift as the launch reads it, one row. -/
theorem shift_apply (c : Dev nD) (i : S1x2048.Idx) : V m c main_v4 i = m ((c : Thread nD τ).loc main_arg5) (ix1 (i 1)) := by
  idx_vars i
  entry_read
  pointwise

/-- A point's row before its normalization is the reference's. -/
theorem point_row (c : Dev nD) (t : Fin cfg0.N) (r : Fin 4096) (p : Fin 256) (h0 : r.val = t.val * 256 + p.val) :
    prow (iblk m c 0 t) (iblk m c 1 t) (iblk m c 2 t) (iblk m c 3 t) p = rrow (m ((c : Thread nD τ).loc main_arg0)) (m ((c : Thread nD τ).loc main_arg1)) (m ((c : Thread nD τ).loc main_arg2)) (m ((c : Thread nD τ).loc main_arg3)) r := by
  funext q
  unfold prow rrow row
  refine congrArg₂ HAdd.hAdd (congrArg₂ HMul.hMul rfl ?_) (congrArg₂ HAdd.hAdd (Finset.sum_congr rfl fun k _ => congrArg₂ HMul.hMul ?_ ?_) ?_)
  · blk_point [iblk, V, idx t]
  · blk_point [iblk, V, idx t]
  · refine (weight_apply m c _).trans ?_
    blk_point [idx t]
  · refine (bias_apply m c _).trans ?_
    blk_point [idx t]

/-- The normalized rows after the run. -/
theorem final6 (c : Dev nD) : (dats m 0 c).arrAt 6 (cfgs 0).N
    = Cert.OutLn1RefIdeal.Read.val_main_v22 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]; frame_out
  refine (pay4_apply _ _ _ _ _).trans ((congrArg₂ (fun z q => dev z q * rs z) (point_row m c t _ _ ?_) ?_).trans (ref22_apply _ _ _ _ _).symm)
  · blk_point [idx t]
  · refine Fin.ext ?_
    blk_point [idx t]

/-- The normalized rows, scaled and shifted, after the run. -/
theorem final7 (c : Dev nD) : (dats m 0 c).arrAt 7 (cfgs 0).N
    = Cert.OutLn1RefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]; frame_out
  rw [ref31_apply]
  refine Eq.trans (b := k0_pay5 (F := Ideal) (iblk m c 0 t) (iblk m c 1 t) (iblk m c 2 t) (iblk m c 3 t) (iblk m c 4 t) (iblk m c 5 t) y) (by pointwise [k0_pay1]) ?_
  rw [pay5_apply, pay4_apply]
  refine congrArg₂ HAdd.hAdd (congrArg₂ HMul.hMul (congrArg₂ (fun z q => dev z q * rs z) (point_row m c t _ _ ?_) ?_) ?_) ?_
  · blk_point [idx t]
  · refine Fin.ext ?_
    blk_point [idx t]
  · refine (scale_apply m c _).trans ?_
    blk_point [idx t]
  · refine (shift_apply m c _).trans ?_
    blk_point [idx t]

/-- The reciprocal deviations after the run. -/
theorem final8 (c : Dev nD) : (dats m 0 c).arrAt 8 (cfgs 0).N
    = Cert.OutLn1RefIdeal.Read.val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]; frame_out
  refine (pay3_apply _ _ _ _ _).trans ((congrArg rs (point_row m c t _ _ ?_)).trans (ref20_apply _ _ _ _ _).symm)
  blk_point [idx t]

end Cert.OutLn1Ideal.Value

end
-- ==== Proof.ZProj.lean ====
/- The input projection: five launches, each writing every fifth block of columns of one array, leave the product the reference takes. -/
module

public import proofs.«01_k».proof.Proof.Gen.ZProjIdeal.Frame
public import proofs.«01_k».proof.Proof.Gen.ZProjRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ZProjIdeal.Value

open Cert.ZProjIdeal Cert.ZProjIdeal.Gen

variable (m : (ℓ : Loc nD τ sig) → Buf (Elt Ideal) ℓ) (ρ : Dev nD → PrngReg)

/-- Where the first launch's blocks sit. -/
theorem idx0 : ∀ t : Fin cfg0.N, win0_0.index t = ![0, 0] ∧ win0_1.index t = ![0, t.val] ∧ win0_2.index t = ![0, 5 * t.val + 0] :=
  (by decide +kernel : ∀ t : Fin grid0.N, _)

/-- Where the second launch's blocks sit. -/
theorem idx1 : ∀ t : Fin cfg1.N, win1_0.index t = ![0, 0] ∧ win1_1.index t = ![0, t.val] ∧ win1_2.index t = ![0, 5 * t.val + 1] :=
  (by decide +kernel : ∀ t : Fin grid1.N, _)

/-- Where the third launch's blocks sit. -/
theorem idx2 : ∀ t : Fin cfg2.N, win2_0.index t = ![0, 0] ∧ win2_1.index t = ![0, t.val] ∧ win2_2.index t = ![0, 5 * t.val + 2] :=
  (by decide +kernel : ∀ t : Fin grid2.N, _)

/-- Where the fourth launch's blocks sit. -/
theorem idx3 : ∀ t : Fin cfg3.N, win3_0.index t = ![0, 0] ∧ win3_1.index t = ![0, t.val] ∧ win3_2.index t = ![0, 5 * t.val + 3] :=
  (by decide +kernel : ∀ t : Fin grid3.N, _)

/-- Where the fifth launch's blocks sit. -/
theorem idx4 : ∀ t : Fin cfg4.N, win4_0.index t = ![0, 0] ∧ win4_1.index t = ![0, t.val] ∧ win4_2.index t = ![0, 5 * t.val + 4] :=
  (by decide +kernel : ∀ t : Fin grid4.N, _)

/-- One element of a point's product. -/
theorem pay_apply (a : FVec Ideal S4096x2048 .bf16) (b : FVec Ideal S2048x256 .bf16) (y : S4096x256.Idx) :
    k0_pay1 (F := Ideal) a b y = ∑ d : Fin 2048, a (ix2 (y 0) d) * b (ix2 d (y 1)) := by
  pointwise [k0_pay1]

/-- The projection: the activations times the weight. -/
def zc (x : FVec Ideal S4096x2048 .f32) (w : FVec Ideal S2048x10240 .f32) (i : S4096x10240.Idx) : EReal :=
  ∑ d : Fin 2048, x (ix2 (i 0) d) * w (ix2 d (i 1))

/-- The reference's product. -/
theorem ref_apply (x : FVec Ideal S4096x2048 .f32) (w : FVec Ideal S2048x10240 .f32) (i : S4096x10240.Idx) :
    Cert.ZProjRefIdeal.Read.val_main_v0 (F := Ideal) x w i = zc x w i := by
  idx_vars i
  unfold Cert.ZProjRefIdeal.Read.val_main_v0 zc
  pointwise

/-- The weight with its columns cut in heads, five pieces a head. -/
def heads (w : FVec Ideal S2048x10240 .f32) : FVec Ideal S2048x8x5x256 .bf16 :=
  truncf .bf16 (shapeCast S2048x8x5x256 w shapeCasts_S2048x10240_S2048x8x5x256) bitsLt_bf16_f32

/-- One element of the cut weight. -/
theorem heads_apply (w : FVec Ideal S2048x10240 .f32) (d : Fin 2048) (a : Fin 8) (k : Fin 5) (l : Fin 256) :
    heads w (ix4 d a k l) = w (ix2 d ⟨a.val * 1280 + k.val * 256 + l.val, by omega⟩) := by
  unfold heads
  pointwise

/-- One element of a piece, the heads side by side again. -/
theorem piece_apply (v : FVec Ideal S2048x8x1x256 .bf16) (d q : Fin 2048) :
    shapeCast S2048x2048 (shapeCast S2048x8x256 v shapeCasts_S2048x8x1x256_S2048x8x256) shapeCasts_S2048x8x256_S2048x2048 (ix2 d q)
      = v (ix4 d ⟨q.val / 256, by omega⟩ 0 ⟨q.val % 256, by omega⟩) := by
  pointwise

/-- A point's block: piece `k` of a head, in the columns of that head's piece `k`. -/
theorem point (x : FVec Ideal S4096x2048 .f32) (w : FVec Ideal S2048x10240 .f32) (k : Fin 5) (t : ℕ)
    (bx : FVec Ideal S4096x2048 .bf16) (hx : ∀ r d, bx (ix2 r d) = x (ix2 r d))
    (p : FVec Ideal S2048x2048 .bf16) (hp : ∀ d q : Fin 2048, p (ix2 d q) = heads w (ix4 d ⟨q.val / 256, by omega⟩ k ⟨q.val % 256, by omega⟩))
    (bp : FVec Ideal S2048x256 .bf16) (hb : ∀ (d : Fin 2048) (l : Fin 256) (q : Fin 2048), q.val = t * 256 + l.val → bp (ix2 d l) = p (ix2 d q))
    (ht : t < 8) (y : S4096x256.Idx) (i : S4096x10240.Idx) (h0 : (i 0).val = (y 0).val) (h1 : (i 1).val = (5 * t + k.val) * 256 + (y 1).val) :
    k0_pay1 (F := Ideal) bx bp y = zc x w i := by
  have hl : (y 1).val < 256 := (y 1).isLt
  rw [pay_apply]
  refine Finset.sum_congr rfl fun d _ => ?_
  refine congrArg₂ HMul.hMul ((hx _ _).trans (congrArg x (congrArg (ix2 · d) (Fin.ext h0.symm))))
    (((hb d _ ⟨t * 256 + (y 1).val, by omega⟩ rfl).trans ((hp _ _).trans (heads_apply _ _ _ _ _))).trans (congrArg w (congrArg (ix2 d ·) (Fin.ext ?_))))
  rw [h1]
  simp only
  omega

/-- What the launches find: the activations, and the cut weight. -/
theorem entry (c : Dev nD) : W1 m ρ c (Proc.devRef .tc main_v0) = truncf (F := Ideal) .bf16 (m ((c : Thread nD τ).loc main_arg0)) bitsLt_bf16_f32
    ∧ W1 m ρ c (Proc.devRef .tc main_v2) = heads (m ((c : Thread nD τ).loc main_arg1)) := by
  constructor
  · simp only [hostOps0, StableHlo.after_cons, StableHlo.after_nil]
    after_results_simp
  · simp only [hostOps0, StableHlo.after_cons, StableHlo.after_nil]
    after_results_simp
    rfl

/-- A buffer neither a later launch nor a later host operation writes is found as the first launch found it. -/
theorem keep (c : Dev nD) (r : Ref sig .tc) (hr : r = main_v0 ∨ r = main_v2) :
    (W2 m ρ c (Proc.devRef .tc r) = W1 m ρ c (Proc.devRef .tc r) ∧ W3 m ρ c (Proc.devRef .tc r) = W1 m ρ c (Proc.devRef .tc r))
    ∧ (W4 m ρ c (Proc.devRef .tc r) = W1 m ρ c (Proc.devRef .tc r) ∧ W5 m ρ c (Proc.devRef .tc r) = W1 m ρ c (Proc.devRef .tc r))
    ∧ (W6 m ρ c (Proc.devRef .tc r) = W1 m ρ c (Proc.devRef .tc r) ∧ W7 m ρ c (Proc.devRef .tc r) = W1 m ρ c (Proc.devRef .tc r))
    ∧ (W8 m ρ c (Proc.devRef .tc r) = W1 m ρ c (Proc.devRef .tc r) ∧ W9 m ρ c (Proc.devRef .tc r) = W1 m ρ c (Proc.devRef .tc r)) := by
  have h2 := W2_of m ρ c r (by rcases hr with rfl | rfl <;> decide)
  have h3 := (W3_of m ρ c r (by rcases hr with rfl | rfl <;> decide)).trans h2
  have h4 := (W4_of m ρ c r (by rcases hr with rfl | rfl <;> decide)).trans h3
  have h5 := (W5_of m ρ c r (by rcases hr with rfl | rfl <;> decide)).trans h4
  have h6 := (W6_of m ρ c r (by rcases hr with rfl | rfl <;> decide)).trans h5
  have h7 := (W7_of m ρ c r (by rcases hr with rfl | rfl <;> decide)).trans h6
  have h8 := (W8_of m ρ c r (by rcases hr with rfl | rfl <;> decide)).trans h7
  exact ⟨⟨h2, h3⟩, ⟨h4, h5⟩, ⟨h6, h7⟩, h8, (W9_of m ρ c r (by rcases hr with rfl | rfl <;> decide)).trans h8⟩

/-- The piece the first launch reads. -/
theorem piece0 (c : Dev nD) (d q : Fin 2048) : V1 m ρ c main_v5 (ix2 d q)
    = heads (m ((c : Thread nD τ).loc main_arg1)) (ix4 d ⟨q.val / 256, by omega⟩ 0 ⟨q.val % 256, by omega⟩) := by
  show StableHlo.after hostOps0 (W0 m ρ c) (Proc.devRef .tc main_v5) _ = _
  simp only [hostOps0, StableHlo.after_cons, StableHlo.after_nil]
  after_results_simp
  refine (piece_apply _ d q).trans ?_
  show _ = heads (W0 m ρ c (Proc.devRef .tc main_arg1)) _
  unfold heads
  generalize W0 m ρ c (Proc.devRef .tc main_arg1) = v
  pointwise

/-- The piece the second launch reads. -/
theorem piece1 (c : Dev nD) (d q : Fin 2048) : V3 m ρ c main_v9 (ix2 d q)
    = heads (m ((c : Thread nD τ).loc main_arg1)) (ix4 d ⟨q.val / 256, by omega⟩ 1 ⟨q.val % 256, by omega⟩) := by
  rw [← (entry m ρ c).2, ← (keep m ρ c main_v2 (.inr rfl)).1.1]
  show StableHlo.after hostOps1 (W2 m ρ c) (Proc.devRef .tc main_v9) _ = _
  simp only [hostOps1, StableHlo.after_cons, StableHlo.after_nil]
  after_results_simp
  refine (piece_apply _ d q).trans ?_
  generalize W2 m ρ c (Proc.devRef .tc main_v2) = v
  pointwise

/-- The piece the third launch reads. -/
theorem piece2 (c : Dev nD) (d q : Fin 2048) : V5 m ρ c main_v13 (ix2 d q)
    = heads (m ((c : Thread nD τ).loc main_arg1)) (ix4 d ⟨q.val / 256, by omega⟩ 2 ⟨q.val % 256, by omega⟩) := by
  rw [← (entry m ρ c).2, ← (keep m ρ c main_v2 (.inr rfl)).2.1.1]
  show StableHlo.after hostOps2 (W4 m ρ c) (Proc.devRef .tc main_v13) _ = _
  simp only [hostOps2, StableHlo.after_cons, StableHlo.after_nil]
  after_results_simp
  refine (piece_apply _ d q).trans ?_
  generalize W4 m ρ c (Proc.devRef .tc main_v2) = v
  pointwise

/-- The piece the fourth launch reads. -/
theorem piece3 (c : Dev nD) (d q : Fin 2048) : V7 m ρ c main_v17 (ix2 d q)
    = heads (m ((c : Thread nD τ).loc main_arg1)) (ix4 d ⟨q.val / 256, by omega⟩ 3 ⟨q.val % 256, by omega⟩) := by
  rw [← (entry m ρ c).2, ← (keep m ρ c main_v2 (.inr rfl)).2.2.1.1]
  show StableHlo.after hostOps3 (W6 m ρ c) (Proc.devRef .tc main_v17) _ = _
  simp only [hostOps3, StableHlo.after_cons, StableHlo.after_nil]
  after_results_simp
  refine (piece_apply _ d q).trans ?_
  generalize W6 m ρ c (Proc.devRef .tc main_v2) = v
  pointwise

/-- The piece the fifth launch reads. -/
theorem piece4 (c : Dev nD) (d q : Fin 2048) : V9 m ρ c main_v21 (ix2 d q)
    = heads (m ((c : Thread nD τ).loc main_arg1)) (ix4 d ⟨q.val / 256, by omega⟩ 4 ⟨q.val % 256, by omega⟩) := by
  rw [← (entry m ρ c).2, ← (keep m ρ c main_v2 (.inr rfl)).2.2.2.1]
  show StableHlo.after hostOps4 (W8 m ρ c) (Proc.devRef .tc main_v21) _ = _
  simp only [hostOps4, StableHlo.after_cons, StableHlo.after_nil]
  after_results_simp
  refine (piece_apply _ d q).trans ?_
  generalize W8 m ρ c (Proc.devRef .tc main_v2) = v
  pointwise

/-- The first launch's columns after it. -/
theorem reg0 (c : Dev nD) (i : S4096x10240.Idx) (hi : (i 1).val / 256 % 5 < 1) :
    W2 m ρ c (Proc.devRef .tc main_v6) i = zc (m ((c : Thread nD τ).loc main_arg0)) (m ((c : Thread nD τ).loc main_arg1)) i := by
  refine (congrFun (W2_arr m ρ c 2) i).trans (((dat0 (V1 m ρ) c).arrAt_apply_of_coversWhere 2 (zc (m ((c : Thread nD τ).loc main_arg0)) (m ((c : Thread nD τ).loc main_arg1)))
    (P := fun i => (i 1).val / 256 % 5 = 0) (fun β => β (1 : Fin _) % 5 = 0) (by decide +kernel) (fun t hf y => ?_) (fun j => ?_) i).trans (if_pos (by omega)))
  · blk_simp
    rw [after0_2]; frame_out
    refine point _ _ 0 t.val _ (fun r d => ?_) _ (piece0 m ρ c) _ (fun d l q hq => ?_) t.isLt y _ ?_ ?_
    · refine Eq.trans ?_ (congrFun (entry m ρ c).1 (ix2 r d))
      blk_point [iblk0, idx0 t]
    · refine congrArg (V1 m ρ c main_v5) ?_
      blk_point [idx0 t]
    · blk_simp
      rw [(idx0 t).2.2]
      exact Nat.zero_add _
    · blk_simp
      rw [(idx0 t).2.2]
      rfl
  · blk_simp [Pipeline.Window.cell_apply]

/-- The columns of the first two launches after the second. -/
theorem reg1 (c : Dev nD) (i : S4096x10240.Idx) (hi : (i 1).val / 256 % 5 < 2) :
    W4 m ρ c (Proc.devRef .tc main_v10) i = zc (m ((c : Thread nD τ).loc main_arg0)) (m ((c : Thread nD τ).loc main_arg1)) i := by
  refine (congrFun (W4_arr m ρ c 2) i).trans (((dat1 (V3 m ρ) c).arrAt_apply_of_coversWhere 2 (zc (m ((c : Thread nD τ).loc main_arg0)) (m ((c : Thread nD τ).loc main_arg1)))
    (P := fun i => (i 1).val / 256 % 5 = 1) (fun β => β (1 : Fin _) % 5 = 1) (by decide +kernel) (fun t hf y => ?_) (fun j => ?_) i).trans ?_)
  · blk_simp
    rw [after1_2]; unfold outsAt1; frame_out
    refine point _ _ 1 t.val _ (fun r d => ?_) _ (piece1 m ρ c) _ (fun d l q hq => ?_) t.isLt y _ ?_ ?_
    · refine Eq.trans ?_ (congrFun ((keep m ρ c main_v0 (.inl rfl)).1.2.trans (entry m ρ c).1) (ix2 r d))
      blk_point [iblk1, idx1 t]
    · blk_point [iblk1, idx1 t]
    · blk_simp
      rw [(idx1 t).2.2]
      exact Nat.zero_add _
    · blk_simp
      rw [(idx1 t).2.2]
      rfl
  · blk_simp [Pipeline.Window.cell_apply]
  · split_ifs with h
    · rfl
    · refine Eq.trans ?_ (reg0 m ρ c i (by omega))
      show StableHlo.after hostOps1 (W2 m ρ c) (Proc.devRef .tc main_v10) _ = _
      simp only [hostOps1, StableHlo.after_cons, StableHlo.after_nil]
      after_results_simp
      rfl

/-- The columns of the first three launches after the third. -/
theorem reg2 (c : Dev nD) (i : S4096x10240.Idx) (hi : (i 1).val / 256 % 5 < 3) :
    W6 m ρ c (Proc.devRef .tc main_v14) i = zc (m ((c : Thread nD τ).loc main_arg0)) (m ((c : Thread nD τ).loc main_arg1)) i := by
  refine (congrFun (W6_arr m ρ c 2) i).trans (((dat2 (V5 m ρ) c).arrAt_apply_of_coversWhere 2 (zc (m ((c : Thread nD τ).loc main_arg0)) (m ((c : Thread nD τ).loc main_arg1)))
    (P := fun i => (i 1).val / 256 % 5 = 2) (fun β => β (1 : Fin _) % 5 = 2) (by decide +kernel) (fun t hf y => ?_) (fun j => ?_) i).trans ?_)
  · blk_simp
    rw [after2_2]; unfold outsAt2; frame_out
    refine point _ _ 2 t.val _ (fun r d => ?_) _ (piece2 m ρ c) _ (fun d l q hq => ?_) t.isLt y _ ?_ ?_
    · refine Eq.trans ?_ (congrFun ((keep m ρ c main_v0 (.inl rfl)).2.1.2.trans (entry m ρ c).1) (ix2 r d))
      blk_point [iblk2, idx2 t]
    · blk_point [iblk2, idx2 t]
    · blk_simp
      rw [(idx2 t).2.2]
      exact Nat.zero_add _
    · blk_simp
      rw [(idx2 t).2.2]
      rfl
  · blk_simp [Pipeline.Window.cell_apply]
  · split_ifs with h
    · rfl
    · refine Eq.trans ?_ (reg1 m ρ c i (by omega))
      show StableHlo.after hostOps2 (W4 m ρ c) (Proc.devRef .tc main_v14) _ = _
      simp only [hostOps2, StableHlo.after_cons, StableHlo.after_nil]
      after_results_simp
      rfl

/-- The columns of the first four launches after the fourth. -/
theorem reg3 (c : Dev nD) (i : S4096x10240.Idx) (hi : (i 1).val / 256 % 5 < 4) :
    W8 m ρ c (Proc.devRef .tc main_v18) i = zc (m ((c : Thread nD τ).loc main_arg0)) (m ((c : Thread nD τ).loc main_arg1)) i := by
  refine (congrFun (W8_arr m ρ c 2) i).trans (((dat3 (V7 m ρ) c).arrAt_apply_of_coversWhere 2 (zc (m ((c : Thread nD τ).loc main_arg0)) (m ((c : Thread nD τ).loc main_arg1)))
    (P := fun i => (i 1).val / 256 % 5 = 3) (fun β => β (1 : Fin _) % 5 = 3) (by decide +kernel) (fun t hf y => ?_) (fun j => ?_) i).trans ?_)
  · blk_simp
    rw [after3_2]; unfold outsAt3; frame_out
    refine point _ _ 3 t.val _ (fun r d => ?_) _ (piece3 m ρ c) _ (fun d l q hq => ?_) t.isLt y _ ?_ ?_
    · refine Eq.trans ?_ (congrFun ((keep m ρ c main_v0 (.inl rfl)).2.2.1.2.trans (entry m ρ c).1) (ix2 r d))
      blk_point [iblk3, idx3 t]
    · blk_point [iblk3, idx3 t]
    · blk_simp
      rw [(idx3 t).2.2]
      exact Nat.zero_add _
    · blk_simp
      rw [(idx3 t).2.2]
      rfl
  · blk_simp [Pipeline.Window.cell_apply]
  · split_ifs with h
    · rfl
    · refine Eq.trans ?_ (reg2 m ρ c i (by omega))
      show StableHlo.after hostOps3 (W6 m ρ c) (Proc.devRef .tc main_v18) _ = _
      simp only [hostOps3, StableHlo.after_cons, StableHlo.after_nil]
      after_results_simp
      rfl

/-- The columns of the first five launches after the fifth. -/
theorem reg4 (c : Dev nD) (i : S4096x10240.Idx) (hi : (i 1).val / 256 % 5 < 5) :
    W10 m ρ c (Proc.devRef .tc main_v22) i = zc (m ((c : Thread nD τ).loc main_arg0)) (m ((c : Thread nD τ).loc main_arg1)) i := by
  refine (congrFun (W10_arr m ρ c 2) i).trans (((dat4 (V9 m ρ) c).arrAt_apply_of_coversWhere 2 (zc (m ((c : Thread nD τ).loc main_arg0)) (m ((c : Thread nD τ).loc main_arg1)))
    (P := fun i => (i 1).val / 256 % 5 = 4) (fun β => β (1 : Fin _) % 5 = 4) (by decide +kernel) (fun t hf y => ?_) (fun j => ?_) i).trans ?_)
  · blk_simp
    rw [after4_2]; unfold outsAt4; frame_out
    refine point _ _ 4 t.val _ (fun r d => ?_) _ (piece4 m ρ c) _ (fun d l q hq => ?_) t.isLt y _ ?_ ?_
    · refine Eq.trans ?_ (congrFun ((keep m ρ c main_v0 (.inl rfl)).2.2.2.2.trans (entry m ρ c).1) (ix2 r d))
      blk_point [iblk4, idx4 t]
    · blk_point [iblk4, idx4 t]
    · blk_simp
      rw [(idx4 t).2.2]
      exact Nat.zero_add _
    · blk_simp
      rw [(idx4 t).2.2]
      rfl
  · blk_simp [Pipeline.Window.cell_apply]
  · split_ifs with h
    · rfl
    · refine Eq.trans ?_ (reg3 m ρ c i (by omega))
      show StableHlo.after hostOps4 (W8 m ρ c) (Proc.devRef .tc main_v22) _ = _
      simp only [hostOps4, StableHlo.after_cons, StableHlo.after_nil]
      after_results_simp
      rfl

/-- The projection after the five launches. -/
theorem final (c : Dev nD) : W10 m ρ c (Proc.devRef .tc main_v22)
    = Cert.ZProjRefIdeal.Read.val_main_v0 (F := Ideal) (m ((c : Thread nD τ).loc main_arg0)) (m ((c : Thread nD τ).loc main_arg1)) := by
  funext i
  exact (reg4 m ρ c i (Nat.mod_lt _ (by decide))).trans (ref_apply _ _ i).symm

end Cert.ZProjIdeal.Value

end
-- ==== Proof.ZProjRun.lean ====
/- The input projection's run: the five launches end with the projection at what the fifth leaves. -/
module

public import proofs.«01_k».proof.Proof.Gen.ZProjIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ZProjIdeal.Value

open Cert.ZProjIdeal Cert.ZProjIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

variable (m : (ℓ : Loc nD τ sig) → Buf (Elt Ideal) ℓ) (ρ : Dev nD → PrngReg)

set_option backward.isDefEq.respectTransparency.types false in
/-- Every run ends with the projection at what the fifth launch leaves and the arguments as launched: the launches chained over the contents at
their boundaries, the last contents read back at the three buffers. -/
theorem run : θ_run defs (onTc (τ := τ) (main (F := Ideal))) ⟨m, fun _ => 0, ρ⟩ (fun r => ∀ c : Dev nD,
      r.2.mem ((c.tc : Thread nD τ).loc main_v22) = W10 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := by repeat' constructor
               all_goals exact fun _ => .rfl)
    (hinit := ?_) (QY := fun c s => ∀ b ∈ Pipeline.ucRefs τ sig, s.mem (((c : Thread nD τ)).1, b) = W10 m ρ c b) (hfin := fun c s' => ?_)
    (hQ := fun s h c => ⟨h c _ (mem_uc main_v22 (by decide)), (h c _ (mem_uc main_arg0 (by decide))).trans (W10_main_arg0 m ρ c),
      (h c _ (mem_uc main_arg1 (by decide))).trans (W10_main_arg1 m ρ c)⟩)
  · iintro Hu
    imodintro
    isplitl [Hu]
    · iapply (show (ownU (initOf (Pipeline.cells cfgs cellOf_inj) (Pipeline.launchToks cfgs cellOf_inj)) : sProp (MT nD τ sig Unit (Elt Ideal) ℕ (UR sig nD τ) ℕ))
        ⊢ BI.own (emb₁ (initOf (Pipeline.cells cfgs cellOf_inj) (Pipeline.launchToks cfgs cellOf_inj))) from .rfl)
      iexact Hu
    iapply (show (BI.emp : sProp (MT nD τ sig Unit (Elt Ideal) ℕ (UR sig nD τ) ℕ)) ⊢ bigSep Finset.univ (fun _ : Dev nD => BI.emp)
      from by rw [BI.bigSep_emp_const])
    iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W10 m ρ c) s')
    isplitl [Hh] <;> iassumption

end Cert.ZProjIdeal.Value

end
-- ==== Proof.Ln1.lean ====
/- The gradient of the first normalization in its gain and shift: the launch adds up, over the blocks of rows, the columns of the cotangent and of its product with the normalized rows, as the reference does over all rows at once. -/
module

public import proofs.«01_k».proof.Proof.Gen.Ln1Ideal.Frame
public import proofs.«01_k».proof.Proof.Gen.Ln1RefIdeal.Read
public import Idealize.ShloMosaic.Lib.Pipeline.ValueKit
public import Idealize.ShloMosaic.Lib.Pointwise
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Ln1Ideal.Value

open Cert.Ln1Ideal Cert.Ln1Ideal.Gen

variable (m : (ℓ : Loc nD τ sig) → Buf (Elt Ideal) ℓ)

/-- Where the blocks of the windows read here sit. -/
theorem idx : ∀ t : Fin cfg0.N, win0_0.index t = ![t.val, 0] ∧ win0_1.index t = ![t.val, 0]
    ∧ win0_2.index t = ![t.val, 0] ∧ win0_7.index t = ![0, 0] :=
  (by decide +kernel : ∀ t : Fin grid0.N, _)

/-- One element of the cotangent of a point's rows. -/
theorem pay5_apply (a b : FVec Ideal S256x2048 .f32) (y : S256x2048.Idx) :
    k0_pay5 (F := Ideal) a b y = a y + Ideal.ofBits .f32 0x3F9837F0#32 * b y := by
  pointwise [k0_pay5]

/-- The row of the gain's gradient: what was there, and a point's column sums. -/
theorem pay1_apply (u v : FVec Ideal S256x2048 .f32) (w : FVec Ideal S1x2048 .f32) (y : S1x2048.Idx) :
    k0_pay1 (F := Ideal) u v w y = w y + ∑ k : Fin 256, u (ix2 k (y 1)) * v (ix2 k (y 1)) := by
  idx_vars y
  pointwise [k0_pay1]

/-- The row of the shift's gradient: what was there, and a point's column sums. -/
theorem pay2_apply (u : FVec Ideal S256x2048 .f32) (w : FVec Ideal S1x2048 .f32) (y : S1x2048.Idx) :
    k0_pay2 (F := Ideal) u w y = w y + ∑ k : Fin 256, u (ix2 k (y 1)) := by
  idx_vars y
  pointwise [k0_pay2]

/-- The third row: what was there, and a point's column sums. -/
theorem pay3_apply (u : FVec Ideal S256x2048 .f32) (w : FVec Ideal S1x2048 .f32) (y : S1x2048.Idx) :
    k0_pay3 (F := Ideal) u w y = w y + ∑ k : Fin 256, u (ix2 k (y 1)) := by
  idx_vars y
  pointwise [k0_pay3]

/-- A point's cotangent is the reference's where the block sits. -/
theorem point (c : Dev nD) (t : Fin cfg0.N) (k : Fin 256) (q : Fin 2048) (r : Fin 4096) (hr : r.val = t.val * 256 + k.val) :
    k0_pay5 (F := Ideal) (iblk m c 0 t) (iblk m c 1 t) (ix2 k q)
      = Cert.Ln1RefIdeal.Read.val_main_v24 (F := Ideal) (m ((c : Thread nD τ).loc main_arg3)) (m ((c : Thread nD τ).loc main_arg4)) (ix2 r q) := by
  rw [pay5_apply]
  unfold Cert.Ln1RefIdeal.Read.val_main_v24 Cert.Ln1RefIdeal.Read.val_main_v23 Cert.Ln1RefIdeal.Read.val_main_v22 Cert.Ln1RefIdeal.Read.val_main_cst_4
  pointwise
  refine congrArg₂ HAdd.hAdd ?_ (congrArg₂ HMul.hMul rfl ?_)
  · blk_point [iblk, V, idx t]
  · blk_point [iblk, V, idx t]

/-- The normalized rows as the launch reads them are the reference's. -/
theorem entry (c : Dev nD) : V m c main_v15 = Cert.Ln1RefIdeal.Read.val_main_v15 (F := Ideal) (m ((c : Thread nD τ).loc main_arg0)) := by
  entry_read
  rfl

/-- A point's normalized rows are the reference's where the block sits. -/
theorem point_rows (c : Dev nD) (t : Fin cfg0.N) (k : Fin 256) (q : Fin 2048) (r : Fin 4096) (hr : r.val = t.val * 256 + k.val) :
    iblk m c 2 t (ix2 k q) = Cert.Ln1RefIdeal.Read.val_main_v15 (F := Ideal) (m ((c : Thread nD τ).loc main_arg0)) (ix2 r q) := by
  rw [← entry m c]
  blk_point [iblk, idx t]

/-- What a point adds to the block of gradients. -/
def part (c : Dev nD) (t : Fin cfg0.N) (y : S8x2048.Idx) : EReal :=
  if (y 0).val = 2 then ∑ k : Fin 256, k0_pay7 (F := Ideal) (iblk m c 0 t) (iblk m c 1 t) (iblk m c 2 t) (iblk m c 3 t) (iblk m c 4 t) (ix2 k (y 1))
  else if (y 0).val = 1 then ∑ k : Fin 256, k0_pay5 (F := Ideal) (iblk m c 0 t) (iblk m c 1 t) (ix2 k (y 1))
  else if (y 0).val = 0 then ∑ k : Fin 256, k0_pay5 (F := Ideal) (iblk m c 0 t) (iblk m c 1 t) (ix2 k (y 1)) * k0_pay6 (F := Ideal) (iblk m c 2 t) (ix2 k (y 1))
  else 0

/-- What a point adds to the gain's row. -/
theorem part_gain (c : Dev nD) (t : Fin cfg0.N) (q : Fin 2048) : part m c t (ix2 0 q)
    = ∑ k : Fin 256, k0_pay5 (F := Ideal) (iblk m c 0 t) (iblk m c 1 t) (ix2 k q) * iblk m c 2 t (ix2 k q) := by
  unfold part
  refine (if_neg (show ¬(0 = 2) by decide)).trans ((if_neg (show ¬(0 = 1) by decide)).trans ((if_pos rfl).trans ?_))
  exact Fin.sum_fin_congr fun k => congrArg₂ HMul.hMul rfl (by pointwise [k0_pay6])

/-- What a point adds to the shift's row. -/
theorem part_shift (c : Dev nD) (t : Fin cfg0.N) (q : Fin 2048) : part m c t (ix2 1 q)
    = ∑ k : Fin 256, k0_pay5 (F := Ideal) (iblk m c 0 t) (iblk m c 1 t) (ix2 k q) := by
  unfold part
  exact (if_neg (show ¬(1 = 2) by decide)).trans (if_pos rfl)

/-- The fill reads zero. -/
theorem pay4_apply (j : S8x2048.Idx) : k0_pay4 (F := Ideal) j = 0 := by
  pointwise [k0_pay4]

/-- A row as the launch names its elements. -/
theorem row_eq (j : S8x2048.Idx) {k : ℕ} (hk : k < 8) (h : (j 0).val = k) : (ix2 ⟨k, hk⟩ (j 1) : S8x2048.Idx) = j := by
  rw [eq_ix2 j]; exact congrArg₂ _ (Fin.ext h.symm) rfl

/-- The block of gradients after the first point. -/
theorem first (c : Dev nD) (t : Fin cfg0.N) (h : t.val % 16 = 0) (j : S8x2048.Idx) : (outsAt0 m c t.val t.isLt).2.2 j = 0 + part m c t j := by
  rw [outsAt0_A m c t h]; frame_out
  refine (Cert.Rows.canon_row 2 _ _ _ j).trans ?_
  unfold part
  by_cases h2 : (j 0).val = 2
  · rw [if_pos h2, if_pos h2]
    refine (pay3_apply _ _ _).trans (congrArg₂ HAdd.hAdd ?_ rfl)
    refine (Cert.Rows.readCov_row 2 (by decide) _ _ _ _).trans ((Cert.Rows.canon_row 1 _ _ _ _).trans ((if_neg (show ¬(2 = 1) by decide)).trans ?_))
    exact (Cert.Rows.canon_row 0 _ _ _ _).trans ((if_neg (show ¬(2 = 0) by decide)).trans ((Cert.Rows.canon_fill _ _ _).trans (pay4_apply _)))
  · rw [if_neg h2, if_neg h2]
    refine (Cert.Rows.canon_row 1 _ _ _ j).trans ?_
    by_cases h1 : (j 0).val = 1
    · rw [if_pos h1, if_pos h1]
      refine (pay2_apply _ _ _).trans (congrArg₂ HAdd.hAdd ?_ rfl)
      refine (Cert.Rows.readCov_row 1 (by decide) _ _ _ _).trans ((Cert.Rows.canon_row 0 _ _ _ _).trans ((if_neg (show ¬(1 = 0) by decide)).trans ?_))
      exact (Cert.Rows.canon_fill _ _ _).trans (pay4_apply _)
    · rw [if_neg h1, if_neg h1]
      refine (Cert.Rows.canon_row 0 _ _ _ j).trans ?_
      by_cases h0 : (j 0).val = 0
      · rw [if_pos h0, if_pos h0]
        refine (pay1_apply _ _ _ _).trans (congrArg₂ HAdd.hAdd ?_ rfl)
        exact (Cert.Rows.readCov_row 0 (by decide) _ _ _ _).trans ((Cert.Rows.canon_fill _ _ _).trans (pay4_apply _))
      · rw [if_neg h0, if_neg h0]
        exact (Cert.Rows.canon_fill _ _ _).trans ((pay4_apply _).trans (add_zero _).symm)

/-- The block of gradients after a later point, from what it was before. -/
theorem later (c : Dev nD) (t : Fin cfg0.N) (h : ¬t.val % 16 = 0) (j : S8x2048.Idx) :
    (outsAt0 m c t.val t.isLt).2.2 j = (outsAt0 m c (t.val - 1) (Nat.lt_of_le_of_lt (Nat.sub_le _ _) t.isLt)).2.2 j + part m c t j := by
  rw [outsAt0_B m c t h]; frame_out
  refine (Cert.Rows.read_row 2 _ _ _ _ _ j).trans ?_
  rw [Cert.Rows.read_row 1, Cert.Rows.read_row 0, View.writes_nil, (hs0_7 t).read_unread, pay3_apply, pay2_apply, pay1_apply]
  unfold part
  pointwise
  split_ifs with h2 h1 h0
  · exact congrArg₂ HAdd.hAdd (congrArg _ (row_eq j (by decide) h2)) rfl
  · exact congrArg₂ HAdd.hAdd (congrArg _ (row_eq j (by decide) h1)) rfl
  · exact congrArg₂ HAdd.hAdd (congrArg _ (row_eq j (by decide) h0)) rfl
  · exact (add_zero _).symm

/-- The block of gradients after the run: the sum of what the points add. -/
theorem final7 (c : Dev nD) : (dats m 0 c).arrAt 7 (cfgs 0).N = fun y : S8x2048.Idx => ∑ s : Fin 16, part m c ⟨s.val, s.isLt⟩ y := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => 0) (part m c)
    (first m c) (later m c) t ((flush0_7 t).mp hf) y, zero_add]
  refine Fin.sum_fin_congr fun s => congrArg₂ (part m c) (Fin.ext ?_) ?_
  · have : t.val < 16 := t.isLt
    have := (flush0_7 t).mp hf
    show 16 * (t.val / 16) + s.val = s.val
    omega
  · blk_ext [idx t]

/-- The gain's gradient, one element: the columns of the normalized rows times the cotangent, summed. -/
theorem gain_apply (x0 x3 x4 : FVec Ideal S4096x2048 .f32) (q : Fin 2048) : Cert.Ln1RefIdeal.Read.val_main_v31 (F := Ideal) x0 x3 x4 (ix1 q)
    = ∑ r : Fin 4096, Cert.Ln1RefIdeal.Read.val_main_v24 (F := Ideal) x3 x4 (ix2 r q) * Cert.Ln1RefIdeal.Read.val_main_v15 (F := Ideal) x0 (ix2 r q) := by
  unfold Cert.Ln1RefIdeal.Read.val_main_v31 Cert.Ln1RefIdeal.Read.val_main_v30 Cert.Ln1RefIdeal.Read.val_main_v29 Cert.Ln1RefIdeal.Read.val_main_v28 Cert.Ln1RefIdeal.Read.val_main_cst_7 Cert.Ln1RefIdeal.Read.val_main_cst_8
  pointwise
  refine (Fin.sum_univ_one _).trans (Fin.sum_fin_congr fun r => mul_comm _ _)

/-- The shift's gradient, one element: the columns of the cotangent, summed. -/
theorem shift_apply (x3 x4 : FVec Ideal S4096x2048 .f32) (q : Fin 2048) : Cert.Ln1RefIdeal.Read.val_main_v27 (F := Ideal) x3 x4 (ix1 q)
    = ∑ r : Fin 4096, Cert.Ln1RefIdeal.Read.val_main_v24 (F := Ideal) x3 x4 (ix2 r q) := by
  unfold Cert.Ln1RefIdeal.Read.val_main_v27 Cert.Ln1RefIdeal.Read.val_main_v26 Cert.Ln1RefIdeal.Read.val_main_v25 Cert.Ln1RefIdeal.Read.val_main_cst_5 Cert.Ln1RefIdeal.Read.val_main_cst_6
  pointwise
  exact Fin.sum_univ_one _

/-- The gain's gradient after the run. -/
theorem tail25 (c : Dev nD) : Pipeline.afterTail₀ cfgs (dats m) 0 (V0 m) [hostOps1] c main_v25
    = Cert.Ln1RefIdeal.Read.val_main_v31 (F := Ideal) (m ((c : Thread nD τ).loc main_arg0)) (m ((c : Thread nD τ).loc main_arg3)) (m ((c : Thread nD τ).loc main_arg4)) := by
  unfold Pipeline.afterTail₀
  simp only [hostOps1, List.flatten_cons, List.flatten_nil, List.append_nil]
  after_results_simp
  refine (congrArg (fun X : FVec Ideal S8x2048 .f32 => shapeCast S2048 (extractStridedSlice S1x2048 ![0, 0] X slices_S8x2048_S1x2048_0_0) shapeCasts_S1x2048_S2048)
    (Pipeline.withArrays_arr (cfgs 0).spec (by decide) c (V0 m c) _ 7)).trans ?_
  rw [final7 m c]
  funext i
  idx_vars i
  rw [gain_apply]
  pointwise
  refine (Fin.sum_fin_congr fun s => part_gain m c s i0).trans (Fin.sum_mul_add_congr fun s k hl => ?_)
  exact congrArg₂ HMul.hMul (point m c s k i0 _ rfl) (point_rows m c s k i0 _ rfl)

/-- The shift's gradient after the run. -/
theorem tail27 (c : Dev nD) : Pipeline.afterTail₀ cfgs (dats m) 0 (V0 m) [hostOps1] c main_v27
    = Cert.Ln1RefIdeal.Read.val_main_v27 (F := Ideal) (m ((c : Thread nD τ).loc main_arg3)) (m ((c : Thread nD τ).loc main_arg4)) := by
  unfold Pipeline.afterTail₀
  simp only [hostOps1, List.flatten_cons, List.flatten_nil, List.append_nil]
  after_results_simp
  refine (congrArg (fun X : FVec Ideal S8x2048 .f32 => shapeCast S2048 (extractStridedSlice S1x2048 ![1, 0] X slices_S8x2048_S1x2048_1_0) shapeCasts_S1x2048_S2048)
    (Pipeline.withArrays_arr (cfgs 0).spec (by decide) c (V0 m c) _ 7)).trans ?_
  rw [final7 m c]
  funext i
  idx_vars i
  rw [shift_apply]
  pointwise
  refine (Fin.sum_fin_congr fun s => part_shift m c s i0).trans (Fin.sum_mul_add_congr fun s k hl => ?_)
  exact point m c s k i0 _ rfl

end Cert.Ln1Ideal.Value

end
-- ==== Proof.Ln2.lean ====
/- The loss and the gradient of the second normalization in its gain and shift: the launch recomputes each block of rows, and adds up over the blocks the rows' losses and the columns of the cotangent and of its product with the normalized rows, as the reference does over all rows at once. -/
module

public import proofs.«01_k».proof.Proof.Gen.Ln2Ideal.Frame
public import proofs.«01_k».proof.Proof.Gen.Ln2RefIdeal.Read
public import Idealize.ShloMosaic.Lib.Pipeline.ValueKit
public import Idealize.ShloMosaic.Lib.Pointwise
public import proofs.«01_k».proof.Proof.Rows
public import proofs.«01_k».proof.Proof.OutLn1
public import proofs.«01_k».proof.Proof.Sigmoid
public import Idealize.ShloMosaic.Lib.IdealHost

@[expose] public section

set_option maxRecDepth 16384

noncomputable section

open Idealize.ShloMosaic Idealize.ShloMosaic.TcCoe Idealize.SL.Sem
open Idealize.ShloMosaic.Pipeline (Dat)
open Cert.OutLn1Ideal.Value (dev rs)

namespace Cert.Ln2Ideal.Value

open Cert.Ln2Ideal Cert.Ln2Ideal.Gen

variable (m : (ℓ : Loc nD τ sig) → Buf (Elt Ideal) ℓ)

/-- Where the blocks of the windows read here sit. -/
theorem idx : ∀ t : Fin cfg0.N, win0_0.index t = ![t.val, 0] ∧ win0_1.index t = ![t.val, 0]
    ∧ win0_2.index t = ![t.val, 0] ∧ win0_3.index t = ![0, 0] ∧ win0_4.index t = ![0, 0] ∧ win0_5.index t = ![0, 0]
    ∧ win0_6.index t = ![0, 0] ∧ win0_7.index t = ![0, 0] ∧ win0_10.index t = ![0, 0] ∧ win0_11.index t = ![0, 0] :=
  (by decide +kernel : ∀ t : Fin grid0.N, _)

/-- A row before its normalization: the scaled output of the first normalization, and the layer's output with its bias. -/
def row (f x g b s : Fin 2048 → EReal) (q : Fin 2048) : EReal :=
  Ideal.ofBits .f32 0x3F9837F0#32 * (x q * g q + b q) + (f q + s q)

/-- A point's row before its normalization. -/
def prow (f x : FVec Ideal S256x2048 .f32) (g b s : FVec Ideal S1x2048 .f32) (r : Fin 256) : Fin 2048 → EReal :=
  row (fun q => f (ix2 r q)) (fun q => x (ix2 r q)) (fun q => g (ix2 0 q)) (fun q => b (ix2 0 q)) (fun q => s (ix2 0 q))

/-- The reference's row before its normalization. -/
def rrow (x0 x1 : FVec Ideal S4096x2048 .f32) (x3 x4 x5 : FVec Ideal S2048 .f32) (r : Fin 4096) : Fin 2048 → EReal :=
  row (fun q => x0 (ix2 r q)) (fun q => x1 (ix2 r q)) (fun q => x3 (ix1 q)) (fun q => x4 (ix1 q)) (fun q => x5 (ix1 q))

/-- The scaled and shifted normalized row, less the target. -/
def err (z g b y : Fin 2048 → EReal) (q : Fin 2048) : EReal := dev z q * rs z * g q + b q - y q

/-- A point's row less its mean. -/
theorem pay9_apply (f x : FVec Ideal S256x2048 .f32) (g b s : FVec Ideal S1x2048 .f32) (r : Fin 256) (q : Fin 2048) :
    k0_pay9 (F := Ideal) f x g b s (ix2 r q) = dev (prow f x g b s r) q := by
  unfold dev prow row
  pointwise [k0_pay9]

/-- A point's variance. -/
theorem pay10_apply (f x : FVec Ideal S256x2048 .f32) (g b s : FVec Ideal S1x2048 .f32) (r : Fin 256) (z : Fin 1) :
    k0_pay10 (F := Ideal) f x g b s (ix2 r z) = Ideal.div (∑ k, dev (prow f x g b s r) k * dev (prow f x g b s r) k) (Ideal.ofBits .f32 0x45000000#32) := by
  have h := pay9_apply f x g b s
  unfold k0_pay10
  generalize k0_pay9 (F := Ideal) f x g b s = u at h ⊢
  pointwise [h]

/-- A point's normalized row. -/
theorem pay13_apply (f x : FVec Ideal S256x2048 .f32) (g b s : FVec Ideal S1x2048 .f32) (r : Fin 256) (q : Fin 2048) :
    k0_pay13 (F := Ideal) (k0_pay9 (F := Ideal) f x g b s) (k0_pay10 (F := Ideal) f x g b s) (k0_pay11 (F := Ideal)) (ix2 r q)
      = dev (prow f x g b s r) q * rs (prow f x g b s r) := by
  have h := pay9_apply f x g b s
  have h' := pay10_apply f x g b s
  unfold rs
  generalize k0_pay9 (F := Ideal) f x g b s = u at h ⊢
  generalize k0_pay10 (F := Ideal) f x g b s = v at h' ⊢
  pointwise [h, h', k0_pay13, k0_pay12, k0_pay11]

/-- A point's error. -/
theorem pay14_apply (f x y : FVec Ideal S256x2048 .f32) (g b s g' b' : FVec Ideal S1x2048 .f32) (r : Fin 256) (q : Fin 2048) :
    k0_pay14 (F := Ideal) (k0_pay7 (F := Ideal) g') (k0_pay8 (F := Ideal) b') (k0_pay9 (F := Ideal) f x g b s) (k0_pay10 (F := Ideal) f x g b s) (k0_pay11 (F := Ideal)) y (ix2 r q)
      = err (prow f x g b s r) (fun q => g' (ix2 0 q)) (fun q => b' (ix2 0 q)) (fun q => y (ix2 r q)) q := by
  have h := pay13_apply f x g b s
  unfold k0_pay14 err
  generalize k0_pay13 (F := Ideal) _ _ _ = u at h ⊢
  pointwise [h, k0_pay7, k0_pay8]

/-- The reference's row before its normalization. -/
theorem ref11_apply (x0 x1 : FVec Ideal S4096x2048 .f32) (x3 x4 x5 : FVec Ideal S2048 .f32) (r : Fin 4096) (q : Fin 2048) : Cert.Ln2RefIdeal.Read.val_main_v11 (F := Ideal) x0 x1 x3 x4 x5 (ix2 r q) = rrow x0 x1 x3 x4 x5 r q := by
  unfold Cert.Ln2RefIdeal.Read.val_main_v11 Cert.Ln2RefIdeal.Read.val_main_v10 Cert.Ln2RefIdeal.Read.val_main_v9 Cert.Ln2RefIdeal.Read.val_main_v8 Cert.Ln2RefIdeal.Read.val_main_v7 Cert.Ln2RefIdeal.Read.val_main_v6 Cert.Ln2RefIdeal.Read.val_main_v5 Cert.Ln2RefIdeal.Read.val_main_v4 Cert.Ln2RefIdeal.Read.val_main_v3 Cert.Ln2RefIdeal.Read.val_main_v2 Cert.Ln2RefIdeal.Read.val_main_v1 Cert.Ln2RefIdeal.Read.val_main_v0 Cert.Ln2RefIdeal.Read.val_main_cst rrow row
  pointwise

/-- The reference's row less its mean. -/
theorem ref17_apply (x0 x1 : FVec Ideal S4096x2048 .f32) (x3 x4 x5 : FVec Ideal S2048 .f32) (r : Fin 4096) (q : Fin 2048) : Cert.Ln2RefIdeal.Read.val_main_v17 (F := Ideal) x0 x1 x3 x4 x5 (ix2 r q) = dev (rrow x0 x1 x3 x4 x5 r) q := by
  have h := ref11_apply x0 x1 x3 x4 x5
  unfold Cert.Ln2RefIdeal.Read.val_main_v17 Cert.Ln2RefIdeal.Read.val_main_v16 Cert.Ln2RefIdeal.Read.val_main_v15 Cert.Ln2RefIdeal.Read.val_main_v14 Cert.Ln2RefIdeal.Read.val_main_v13 Cert.Ln2RefIdeal.Read.val_main_v12 Cert.Ln2RefIdeal.Read.val_main_cst_0 Cert.Ln2RefIdeal.Read.val_main_cst_1 dev
  generalize Cert.Ln2RefIdeal.Read.val_main_v11 (F := Ideal) x0 x1 x3 x4 x5 = u at h ⊢
  pointwise [h]

/-- The reference's reciprocal deviation. -/
theorem ref25_apply (x0 x1 : FVec Ideal S4096x2048 .f32) (x3 x4 x5 : FVec Ideal S2048 .f32) (r : Fin 4096) (z : Fin 1) : Cert.Ln2RefIdeal.Read.val_main_v25 (F := Ideal) x0 x1 x3 x4 x5 (ix2 r z) = rs (rrow x0 x1 x3 x4 x5 r) := by
  have h := ref17_apply x0 x1 x3 x4 x5
  unfold Cert.Ln2RefIdeal.Read.val_main_v25 Cert.Ln2RefIdeal.Read.val_main_v24 Cert.Ln2RefIdeal.Read.val_main_v23 Cert.Ln2RefIdeal.Read.val_main_v22 Cert.Ln2RefIdeal.Read.val_main_v21 Cert.Ln2RefIdeal.Read.val_main_v20 Cert.Ln2RefIdeal.Read.val_main_v19 Cert.Ln2RefIdeal.Read.val_main_v18 Cert.Ln2RefIdeal.Read.val_main_cst_2 Cert.Ln2RefIdeal.Read.val_main_cst_3 Cert.Ln2RefIdeal.Read.val_main_cst_4 rs
  generalize Cert.Ln2RefIdeal.Read.val_main_v17 (F := Ideal) x0 x1 x3 x4 x5 = u at h ⊢
  pointwise [h]

/-- The reference's normalized row. -/
theorem ref27_apply (x0 x1 : FVec Ideal S4096x2048 .f32) (x3 x4 x5 : FVec Ideal S2048 .f32) (r : Fin 4096) (q : Fin 2048) : Cert.Ln2RefIdeal.Read.val_main_v27 (F := Ideal) x0 x1 x3 x4 x5 (ix2 r q) = dev (rrow x0 x1 x3 x4 x5 r) q * rs (rrow x0 x1 x3 x4 x5 r) := by
  have h := ref17_apply x0 x1 x3 x4 x5
  have h' := ref25_apply x0 x1 x3 x4 x5
  unfold Cert.Ln2RefIdeal.Read.val_main_v27 Cert.Ln2RefIdeal.Read.val_main_v26
  generalize Cert.Ln2RefIdeal.Read.val_main_v17 (F := Ideal) x0 x1 x3 x4 x5 = u at h ⊢
  generalize Cert.Ln2RefIdeal.Read.val_main_v25 (F := Ideal) x0 x1 x3 x4 x5 = v at h' ⊢
  pointwise [h, h']

/-- The reference's error. -/
theorem ref34_apply (x0 x1 x2 : FVec Ideal S4096x2048 .f32) (x3 x4 x5 x6 x7 : FVec Ideal S2048 .f32) (r : Fin 4096) (q : Fin 2048) : Cert.Ln2RefIdeal.Read.val_main_v34 (F := Ideal) x0 x1 x2 x3 x4 x5 x6 x7 (ix2 r q)
    = err (rrow x0 x1 x3 x4 x5 r) (fun q => x6 (ix1 q)) (fun q => x7 (ix1 q)) (fun q => x2 (ix2 r q)) q := by
  have h := ref27_apply x0 x1 x3 x4 x5
  unfold Cert.Ln2RefIdeal.Read.val_main_v34 Cert.Ln2RefIdeal.Read.val_main_v33 Cert.Ln2RefIdeal.Read.val_main_v32 Cert.Ln2RefIdeal.Read.val_main_v31 Cert.Ln2RefIdeal.Read.val_main_v30 Cert.Ln2RefIdeal.Read.val_main_v29 Cert.Ln2RefIdeal.Read.val_main_v28 err
  generalize Cert.Ln2RefIdeal.Read.val_main_v27 (F := Ideal) x0 x1 x3 x4 x5 = u at h ⊢
  pointwise [h]

/-- The first gain as the launch reads it, one row. -/
theorem g1_apply (c : Dev nD) (i : S1x2048.Idx) : V m c main_v0 i = m ((c : Thread nD τ).loc main_arg3) (ix1 (i 1)) := by
  idx_vars i
  entry_read
  simp only [hostOps0, List.flatten_cons, List.flatten_nil, List.append_nil]
  after_results_simp
  pointwise

/-- The first shift as the launch reads it, one row. -/
theorem b1_apply (c : Dev nD) (i : S1x2048.Idx) : V m c main_v1 i = m ((c : Thread nD τ).loc main_arg4) (ix1 (i 1)) := by
  idx_vars i
  entry_read
  simp only [hostOps0, List.flatten_cons, List.flatten_nil, List.append_nil]
  after_results_simp
  pointwise

/-- The bias as the launch reads it, one row. -/
theorem bias_apply (c : Dev nD) (i : S1x2048.Idx) : V m c main_v2 i = m ((c : Thread nD τ).loc main_arg5) (ix1 (i 1)) := by
  idx_vars i
  entry_read
  simp only [hostOps0, List.flatten_cons, List.flatten_nil, List.append_nil]
  after_results_simp
  pointwise

/-- The second gain as the launch reads it, one row. -/
theorem g2_apply (c : Dev nD) (i : S1x2048.Idx) : V m c main_v3 i = m ((c : Thread nD τ).loc main_arg6) (ix1 (i 1)) := by
  idx_vars i
  entry_read
  simp only [hostOps0, List.flatten_cons, List.flatten_nil, List.append_nil]
  after_results_simp
  pointwise

/-- The second shift as the launch reads it, one row. -/
theorem b2_apply (c : Dev nD) (i : S1x2048.Idx) : V m c main_v4 i = m ((c : Thread nD τ).loc main_arg7) (ix1 (i 1)) := by
  idx_vars i
  entry_read
  simp only [hostOps0, List.flatten_cons, List.flatten_nil, List.append_nil]
  after_results_simp
  pointwise

/-- A point's normalized rows. -/
def xh (c : Dev nD) (t : Fin cfg0.N) : FVec Ideal S256x2048 .f32 :=
  k0_pay13 (F := Ideal) (k0_pay9 (F := Ideal) (iblk m c 0 t) (iblk m c 1 t) (iblk m c 3 t) (iblk m c 4 t) (iblk m c 5 t)) (k0_pay10 (F := Ideal) (iblk m c 0 t) (iblk m c 1 t) (iblk m c 3 t) (iblk m c 4 t) (iblk m c 5 t)) (k0_pay11 (F := Ideal))

/-- A point's errors. -/
def er (c : Dev nD) (t : Fin cfg0.N) : FVec Ideal S256x2048 .f32 :=
  k0_pay14 (F := Ideal) (k0_pay7 (F := Ideal) (iblk m c 6 t)) (k0_pay8 (F := Ideal) (iblk m c 7 t)) (k0_pay9 (F := Ideal) (iblk m c 0 t) (iblk m c 1 t) (iblk m c 3 t) (iblk m c 4 t) (iblk m c 5 t)) (k0_pay10 (F := Ideal) (iblk m c 0 t) (iblk m c 1 t) (iblk m c 3 t) (iblk m c 4 t) (iblk m c 5 t)) (k0_pay11 (F := Ideal)) (iblk m c 2 t)

/-- A point's cotangent. -/
def dy (c : Dev nD) (t : Fin cfg0.N) : FVec Ideal S256x2048 .f32 :=
  k0_pay16 (F := Ideal) (k0_pay7 (F := Ideal) (iblk m c 6 t)) (k0_pay8 (F := Ideal) (iblk m c 7 t)) (k0_pay9 (F := Ideal) (iblk m c 0 t) (iblk m c 1 t) (iblk m c 3 t) (iblk m c 4 t) (iblk m c 5 t)) (k0_pay10 (F := Ideal) (iblk m c 0 t) (iblk m c 1 t) (iblk m c 3 t) (iblk m c 4 t) (iblk m c 5 t)) (k0_pay11 (F := Ideal)) (iblk m c 2 t)

/-- A point's gradient before the normalization. -/
def ds (c : Dev nD) (t : Fin cfg0.N) : FVec Ideal S256x2048 .f32 :=
  k0_pay17 (F := Ideal) (k0_pay7 (F := Ideal) (iblk m c 6 t)) (k0_pay8 (F := Ideal) (iblk m c 7 t)) (k0_pay9 (F := Ideal) (iblk m c 0 t) (iblk m c 1 t) (iblk m c 3 t) (iblk m c 4 t) (iblk m c 5 t)) (k0_pay10 (F := Ideal) (iblk m c 0 t) (iblk m c 1 t) (iblk m c 3 t) (iblk m c 4 t) (iblk m c 5 t)) (k0_pay11 (F := Ideal)) (iblk m c 2 t) (iblk m c 6 t)

/-- A point's row before its normalization is the reference's. -/
theorem point_row (c : Dev nD) (t : Fin cfg0.N) (r : Fin 4096) (p : Fin 256) (h0 : r.val = t.val * 256 + p.val) :
    prow (iblk m c 0 t) (iblk m c 1 t) (iblk m c 3 t) (iblk m c 4 t) (iblk m c 5 t) p = rrow (m ((c : Thread nD τ).loc main_arg0)) (m ((c : Thread nD τ).loc main_arg1)) (m ((c : Thread nD τ).loc main_arg3)) (m ((c : Thread nD τ).loc main_arg4)) (m ((c : Thread nD τ).loc main_arg5)) r := by
  funext q
  unfold prow rrow row
  refine congrArg₂ HAdd.hAdd (congrArg₂ HMul.hMul rfl (congrArg₂ HAdd.hAdd (congrArg₂ HMul.hMul ?_ ?_) ?_)) (congrArg₂ HAdd.hAdd ?_ ?_)
  · blk_point [iblk, V, idx t]
  · refine (g1_apply m c _).trans ?_
    blk_point [idx t]
  · refine (b1_apply m c _).trans ?_
    blk_point [idx t]
  · blk_point [iblk, V, idx t]
  · refine (bias_apply m c _).trans ?_
    blk_point [idx t]

/-- A point's normalized rows are the reference's where the block sits. -/
theorem point_rows (c : Dev nD) (t : Fin cfg0.N) (r : Fin 4096) (p : Fin 256) (q : Fin 2048) (h0 : r.val = t.val * 256 + p.val) :
    xh m c t (ix2 p q) = Cert.Ln2RefIdeal.Read.val_main_v27 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r q) := by
  rw [ref27_apply]
  refine (pay13_apply _ _ _ _ _ _ _).trans ?_
  rw [point_row m c t r p h0]

/-- A point's errors are the reference's where the block sits. -/
theorem point_err (c : Dev nD) (t : Fin cfg0.N) (r : Fin 4096) (p : Fin 256) (q : Fin 2048) (h0 : r.val = t.val * 256 + p.val) :
    er m c t (ix2 p q) = Cert.Ln2RefIdeal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r q) := by
  rw [ref34_apply]
  refine (pay14_apply _ _ _ _ _ _ _ _ _ _).trans ?_
  rw [point_row m c t r p h0]
  unfold err
  refine congrArg₂ HSub.hSub (congrArg₂ HAdd.hAdd (congrArg₂ HMul.hMul rfl ?_) ?_) ?_
  · refine (g2_apply m c _).trans ?_
    blk_point [idx t]
  · refine (b2_apply m c _).trans ?_
    blk_point [idx t]
  · blk_point [iblk, V, idx t]

/-- The row of the gain's gradient: what was there, and a point's column sums. -/
theorem pay1_apply (u v : FVec Ideal S256x2048 .f32) (w : FVec Ideal S1x2048 .f32) (y : S1x2048.Idx) :
    k0_pay1 (F := Ideal) u v w y = w y + ∑ k : Fin 256, v (ix2 k (y 1)) * u (ix2 k (y 1)) := by
  idx_vars y
  pointwise [k0_pay1]

/-- The row of the shift's gradient: what was there, and a point's column sums. -/
theorem pay2_apply (u : FVec Ideal S256x2048 .f32) (w : FVec Ideal S1x2048 .f32) (y : S1x2048.Idx) :
    k0_pay2 (F := Ideal) u w y = w y + ∑ k : Fin 256, u (ix2 k (y 1)) := by
  idx_vars y
  pointwise [k0_pay2]

/-- The third row: what was there, and a point's column sums. -/
theorem pay3_apply (u : FVec Ideal S256x2048 .f32) (w : FVec Ideal S1x2048 .f32) (y : S1x2048.Idx) :
    k0_pay3 (F := Ideal) u w y = w y + ∑ k : Fin 256, u (ix2 k (y 1)) := by
  idx_vars y
  pointwise [k0_pay3]

/-- The block of the loss: what was there, and a point's loss everywhere. -/
theorem pay4_apply (u : EReal) (w : FVec Ideal S8x128 .f32) (y : S8x128.Idx) : k0_pay4 (F := Ideal) u w y = w y + u := by
  pointwise [k0_pay4]

/-- The fill of the gradients reads zero. -/
theorem pay5_apply (j : S8x2048.Idx) : k0_pay5 (F := Ideal) j = 0 := by
  pointwise [k0_pay5]

/-- The fill of the loss reads zero. -/
theorem pay6_apply (j : S8x128.Idx) : k0_pay6 (F := Ideal) j = 0 := by
  pointwise [k0_pay6]

/-- A point's loss, before its half. -/
def lossPart (c : Dev nD) (t : Fin cfg0.N) : EReal :=
  ∑ k : Fin 256, Ideal.div (∑ q : Fin 2048, er m c t (ix2 k q) * er m c t (ix2 k q)) (Ideal.ofBits .f32 0x45000000#32)

/-- A point's loss. -/
theorem pay15_eq (c : Dev nD) (t : Fin cfg0.N) : k0_pay15 (F := Ideal) (k0_pay7 (F := Ideal) (iblk m c 6 t)) (k0_pay8 (F := Ideal) (iblk m c 7 t)) (k0_pay9 (F := Ideal) (iblk m c 0 t) (iblk m c 1 t) (iblk m c 3 t) (iblk m c 4 t) (iblk m c 5 t)) (k0_pay10 (F := Ideal) (iblk m c 0 t) (iblk m c 1 t) (iblk m c 3 t) (iblk m c 4 t) (iblk m c 5 t)) (k0_pay11 (F := Ideal)) (iblk m c 2 t) = Ideal.ofBits .f32 0x3F000000#32 * lossPart m c t := by
  unfold k0_pay15 lossPart er
  generalize k0_pay14 (F := Ideal) _ _ _ _ _ _ = u
  pointwise
  exact congrArg _ (Fin.sum_fin_congr fun k => Fin.sum_univ_one _)

/-- A point's cotangent, one element. -/
theorem dy_apply (c : Dev nD) (t : Fin cfg0.N) (p : Fin 256) (q : Fin 2048) : dy m c t (ix2 p q) = er m c t (ix2 p q) * Ideal.ofBits .f32 0x3A000000#32 := by
  unfold dy k0_pay16 er
  generalize k0_pay14 (F := Ideal) _ _ _ _ _ _ = u
  pointwise

theorem two : Ideal.ofBits .f32 0x40000000#32 = ((2 : ℝ) : EReal) := by
  simp [Ideal.ofBits, Ideal.ieee, -EReal.coe_mul]; norm_num

theorem width : Ideal.ofBits .f32 0x45000000#32 = ((2048 : ℝ) : EReal) := by
  simp [Ideal.ofBits, Ideal.ieee, -EReal.coe_mul]; norm_num

theorem inverse : Ideal.ofBits .f32 0x3A000000#32 = (((1 : ℝ) / 2048 : ℝ) : EReal) := by
  simp [Ideal.ofBits, Ideal.ieee, -EReal.coe_mul]; norm_num

/-- A half of a sum is the sum of the halves, at extended reals. -/
theorem half_sum {n : ℕ} (f : Fin n → EReal) : Ideal.ofBits .f32 0x3F000000#32 * ∑ s, f s = ∑ s, Ideal.ofBits .f32 0x3F000000#32 * f s := by
  rw [Cert.Sigmoid.half]
  exact map_sum (⟨⟨fun x => (((1 : ℝ) / 2 : ℝ) : EReal) * x, mul_zero _⟩, fun x y => EReal.left_distrib_of_nonneg_of_ne_top
    (EReal.coe_nonneg.mpr (by norm_num)) (EReal.coe_ne_top _) x y⟩ : EReal →+ EReal) f Finset.univ

/-- The weight of the reference's cotangent is the launch's. -/
theorem weight (e : EReal) : Ideal.div (Ideal.ofBits .f32 0x3F000000#32 * Ideal.ofBits .f32 0x3F800000#32) (Ideal.ofBits .f32 0x45000000#32) * (Ideal.ofBits .f32 0x40000000#32 * e)
    = e * Ideal.ofBits .f32 0x3A000000#32 := by
  rw [Cert.Sigmoid.half, Ideal.ofBits_one_f32, two, width, inverse, mul_one, Ideal.div_coe (by norm_num), ← mul_assoc, ← EReal.coe_mul, ← EReal.coe_mul, mul_comm e]
  norm_num

/-- The reference's cotangent, one element. -/
theorem ref48_apply (x0 x1 x2 : FVec Ideal S4096x2048 .f32) (x3 x4 x5 x6 x7 : FVec Ideal S2048 .f32) (r : Fin 4096) (q : Fin 2048) : Cert.Ln2RefIdeal.Read.val_main_v48 (F := Ideal) x0 x1 x2 x3 x4 x5 x6 x7 (ix2 r q)
    = Cert.Ln2RefIdeal.Read.val_main_v34 (F := Ideal) x0 x1 x2 x3 x4 x5 x6 x7 (ix2 r q) * Ideal.ofBits .f32 0x3A000000#32 := by
  rw [← weight]
  unfold Cert.Ln2RefIdeal.Read.val_main_v48 Cert.Ln2RefIdeal.Read.val_main_v47 Cert.Ln2RefIdeal.Read.val_main_v46 Cert.Ln2RefIdeal.Read.val_main_v45 Cert.Ln2RefIdeal.Read.val_main_v44 Cert.Ln2RefIdeal.Read.val_main_v43 Cert.Ln2RefIdeal.Read.val_main_v37 Cert.Ln2RefIdeal.Read.val_main_v36 Cert.Ln2RefIdeal.Read.val_main_cst_5 Cert.Ln2RefIdeal.Read.val_main_cst_10 Cert.Ln2RefIdeal.Read.val_main_cst_11 Cert.Ln2RefIdeal.Read.val_main_cst_12
  generalize Cert.Ln2RefIdeal.Read.val_main_v34 (F := Ideal) x0 x1 x2 x3 x4 x5 x6 x7 = u
  pointwise

/-- A point's cotangent is the reference's where the block sits. -/
theorem point_dy (c : Dev nD) (t : Fin cfg0.N) (r : Fin 4096) (p : Fin 256) (q : Fin 2048) (h0 : r.val = t.val * 256 + p.val) :
    dy m c t (ix2 p q) = Cert.Ln2RefIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r q) := by
  rw [dy_apply, ref48_apply, point_err m c t r p q h0]

/-- What a point adds to the block of gradients. -/
def part (c : Dev nD) (t : Fin cfg0.N) (y : S8x2048.Idx) : EReal :=
  if (y 0).val = 2 then ∑ k : Fin 256, ds m c t (ix2 k (y 1))
  else if (y 0).val = 1 then ∑ k : Fin 256, dy m c t (ix2 k (y 1))
  else if (y 0).val = 0 then ∑ k : Fin 256, dy m c t (ix2 k (y 1)) * xh m c t (ix2 k (y 1))
  else 0

/-- What a point adds to the gain's row. -/
theorem part_gain (c : Dev nD) (t : Fin cfg0.N) (q : Fin 2048) : part m c t (ix2 0 q) = ∑ k : Fin 256, dy m c t (ix2 k q) * xh m c t (ix2 k q) := by
  unfold part
  exact (if_neg (show ¬(0 = 2) by decide)).trans ((if_neg (show ¬(0 = 1) by decide)).trans (if_pos rfl))

/-- What a point adds to the shift's row. -/
theorem part_shift (c : Dev nD) (t : Fin cfg0.N) (q : Fin 2048) : part m c t (ix2 1 q) = ∑ k : Fin 256, dy m c t (ix2 k q) := by
  unfold part
  exact (if_neg (show ¬(1 = 2) by decide)).trans (if_pos rfl)

/-- A row as the launch names its elements. -/
theorem row_eq (j : S8x2048.Idx) {k : ℕ} (hk : k < 8) (h : (j 0).val = k) : (ix2 ⟨k, hk⟩ (j 1) : S8x2048.Idx) = j := by
  rw [eq_ix2 j]; exact congrArg₂ _ (Fin.ext h.symm) rfl

/-- A load of a row. -/
theorem ld_row (X : Vec Ideal S8x2048 .f32) (k : ℕ) (hk : k < 8) (inb : ∀ a, (![k, 0] : Fin 2 → ℕ) a + (![1, 2048] : Fin 2 → ℕ) a ≤ S8x2048.size a) (q : Fin 2048) :
    View.ld X (Rect.unit (s := S8x2048) ![k, 0] ![1, 2048] inb) (ix2 0 q) = X (ix2 ⟨k, hk⟩ q) := by
  refine congrArg X (funext fun a => Fin.ext ?_)
  match a with
  | ⟨0, _⟩ => exact Nat.add_zero _
  | ⟨1, _⟩ => exact (Nat.zero_add _).trans (Nat.one_mul _)

/-- The block of gradients after the first point. -/
theorem first (c : Dev nD) (t : Fin cfg0.N) (h : t.val % 16 = 0) (j : S8x2048.Idx) : (outsAt0 m c t.val t.isLt).2.2.1 j = 0 + part m c t j := by
  rw [outsAt0_A m c t h]; frame_out
  refine (Cert.Rows.canon_row 2 _ _ _ j).trans ?_
  unfold part
  by_cases h2 : (j 0).val = 2
  · rw [if_pos h2, if_pos h2]
    refine (pay3_apply _ _ _).trans (congrArg₂ HAdd.hAdd ?_ rfl)
    refine (Cert.Rows.readCov_row 2 (by decide) _ _ _ _).trans ((Cert.Rows.canon_row 1 _ _ _ _).trans ((if_neg (show ¬(2 = 1) by decide)).trans ?_))
    exact (Cert.Rows.canon_row 0 _ _ _ _).trans ((if_neg (show ¬(2 = 0) by decide)).trans ((Cert.Rows.canon_fill _ _ _).trans (pay5_apply _)))
  · rw [if_neg h2, if_neg h2]
    refine (Cert.Rows.canon_row 1 _ _ _ j).trans ?_
    by_cases h1 : (j 0).val = 1
    · rw [if_pos h1, if_pos h1]
      refine (pay2_apply _ _ _).trans (congrArg₂ HAdd.hAdd ?_ rfl)
      refine (Cert.Rows.readCov_row 1 (by decide) _ _ _ _).trans ((Cert.Rows.canon_row 0 _ _ _ _).trans ((if_neg (show ¬(1 = 0) by decide)).trans ?_))
      exact (Cert.Rows.canon_fill _ _ _).trans (pay5_apply _)
    · rw [if_neg h1, if_neg h1]
      refine (Cert.Rows.canon_row 0 _ _ _ j).trans ?_
      by_cases h0 : (j 0).val = 0
      · rw [if_pos h0, if_pos h0]
        refine (pay1_apply _ _ _ _).trans (congrArg₂ HAdd.hAdd ?_ rfl)
        exact (Cert.Rows.readCov_row 0 (by decide) _ _ _ _).trans ((Cert.Rows.canon_fill _ _ _).trans (pay5_apply _))
      · rw [if_neg h0, if_neg h0]
        exact (Cert.Rows.canon_fill _ _ _).trans ((pay5_apply _).trans (add_zero _).symm)

/-- The block of gradients after a later point, from what it was before. -/
theorem later (c : Dev nD) (t : Fin cfg0.N) (h : ¬t.val % 16 = 0) (j : S8x2048.Idx) :
    (outsAt0 m c t.val t.isLt).2.2.1 j = (outsAt0 m c (t.val - 1) (Nat.lt_of_le_of_lt (Nat.sub_le _ _) t.isLt)).2.2.1 j + part m c t j := by
  rw [outsAt0_B m c t h]; frame_out
  refine (Cert.Rows.read_row 2 _ _ _ _ _ j).trans ?_
  rw [Cert.Rows.read_row 1, Cert.Rows.read_row 0, View.writes_nil, (hs0_10 t).read_unread, pay3_apply, pay2_apply, pay1_apply]
  unfold part dy xh ds
  split_ifs with h2 h1 h0
  · exact congrArg₂ HAdd.hAdd ((ld_row _ 2 (by decide) _ _).trans (congrArg _ (row_eq j (by decide) h2))) rfl
  · exact congrArg₂ HAdd.hAdd ((ld_row _ 1 (by decide) _ _).trans (congrArg _ (row_eq j (by decide) h1))) rfl
  · exact congrArg₂ HAdd.hAdd ((ld_row _ 0 (by decide) _ _).trans (congrArg _ (row_eq j (by decide) h0))) rfl
  · exact (add_zero _).symm

/-- The block of the loss after the first point. -/
theorem firstLoss (c : Dev nD) (t : Fin cfg0.N) (h : t.val % 16 = 0) (j : S8x128.Idx) :
    (outsAt0 m c t.val t.isLt).2.2.2 j = 0 + Ideal.ofBits .f32 0x3F000000#32 * lossPart m c t := by
  rw [outsAt0_A m c t h]; frame_out
  rw [pay4_apply, pay6_apply, pay15_eq]

/-- The block of the loss after a later point, from what it was before. -/
theorem laterLoss (c : Dev nD) (t : Fin cfg0.N) (h : ¬t.val % 16 = 0) (j : S8x128.Idx) :
    (outsAt0 m c t.val t.isLt).2.2.2 j = (outsAt0 m c (t.val - 1) (Nat.lt_of_le_of_lt (Nat.sub_le _ _) t.isLt)).2.2.2 j
      + Ideal.ofBits .f32 0x3F000000#32 * lossPart m c t := by
  rw [outsAt0_B m c t h]; frame_out
  rw [pay4_apply, pay15_eq]

/-- The block of gradients after the run: the sum of what the points add. -/
theorem final10 (c : Dev nD) : (dats m 0 c).arrAt 10 (cfgs 0).N = fun y : S8x2048.Idx => ∑ s : Fin 16, part m c ⟨s.val, s.isLt⟩ y := by
  refine (dats m 0 c).arrAt_eq_of_covers 10 _ (by decide +kernel) fun t hf y => ?_
  blk_simp
  rw [after0_10, Pipeline.eq_sum_fin_of_reset_step_apply_of_flush (fun n h => (outsAt0 m c n h).2.2.1) 16 (fun _ => 0) (part m c)
    (first m c) (later m c) t ((flush0_10 t).mp hf) y, zero_add]
  refine Fin.sum_fin_congr fun s => congrArg₂ (part m c) (Fin.ext ?_) ?_
  · have : t.val < 16 := t.isLt
    have := (flush0_10 t).mp hf
    show 16 * (t.val / 16) + s.val = s.val
    omega
  · blk_ext [idx t]

/-- The block of the loss after the run: the sum of the points' losses, everywhere. -/
theorem final11 (c : Dev nD) : (dats m 0 c).arrAt 11 (cfgs 0).N
    = fun y : S8x128.Idx => ∑ s : Fin 16, Ideal.ofBits .f32 0x3F000000#32 * lossPart m c ⟨s.val, s.isLt⟩ := by
  refine (dats m 0 c).arrAt_eq_of_covers 11 _ (by decide +kernel) fun t hf y => ?_
  blk_simp
  rw [after0_11, Pipeline.eq_sum_fin_of_reset_step_apply_of_flush (fun n h => (outsAt0 m c n h).2.2.2) 16 (fun _ => 0)
    (fun t _ => Ideal.ofBits .f32 0x3F000000#32 * lossPart m c t)
    (firstLoss m c) (laterLoss m c) t ((flush0_11 t).mp hf) y, zero_add]
  refine Fin.sum_fin_congr fun s => congrArg (fun t => Ideal.ofBits .f32 0x3F000000#32 * lossPart m c t) (Fin.ext ?_)
  have : t.val < 16 := t.isLt
  have := (flush0_11 t).mp hf
  show 16 * (t.val / 16) + s.val = s.val
  omega

/-- The reference's loss. -/
theorem ref42_apply (x0 x1 x2 : FVec Ideal S4096x2048 .f32) (x3 x4 x5 x6 x7 : FVec Ideal S2048 .f32) (i : S_.Idx) : Cert.Ln2RefIdeal.Read.val_main_v42 (F := Ideal) x0 x1 x2 x3 x4 x5 x6 x7 i
    = Ideal.ofBits .f32 0x3F000000#32 * ∑ r : Fin 4096, Ideal.div (∑ q : Fin 2048, Cert.Ln2RefIdeal.Read.val_main_v34 (F := Ideal) x0 x1 x2 x3 x4 x5 x6 x7 (ix2 r q) * Cert.Ln2RefIdeal.Read.val_main_v34 (F := Ideal) x0 x1 x2 x3 x4 x5 x6 x7 (ix2 r q)) (Ideal.ofBits .f32 0x45000000#32) := by
  unfold Cert.Ln2RefIdeal.Read.val_main_v42 Cert.Ln2RefIdeal.Read.val_main_v41 Cert.Ln2RefIdeal.Read.val_main_v40 Cert.Ln2RefIdeal.Read.val_main_v39 Cert.Ln2RefIdeal.Read.val_main_v38 Cert.Ln2RefIdeal.Read.val_main_v35 Cert.Ln2RefIdeal.Read.val_main_cst_6 Cert.Ln2RefIdeal.Read.val_main_cst_7 Cert.Ln2RefIdeal.Read.val_main_cst_8 Cert.Ln2RefIdeal.Read.val_main_cst_9
  generalize Cert.Ln2RefIdeal.Read.val_main_v34 (F := Ideal) x0 x1 x2 x3 x4 x5 x6 x7 = u
  pointwise

/-- The gain's gradient, one element. -/
theorem gain_apply (x0 x1 x2 : FVec Ideal S4096x2048 .f32) (x3 x4 x5 x6 x7 : FVec Ideal S2048 .f32) (q : Fin 2048) : Cert.Ln2RefIdeal.Read.val_main_v55 (F := Ideal) x0 x1 x2 x3 x4 x5 x6 x7 (ix1 q)
    = ∑ r : Fin 4096, Cert.Ln2RefIdeal.Read.val_main_v48 (F := Ideal) x0 x1 x2 x3 x4 x5 x6 x7 (ix2 r q) * Cert.Ln2RefIdeal.Read.val_main_v27 (F := Ideal) x0 x1 x3 x4 x5 (ix2 r q) := by
  unfold Cert.Ln2RefIdeal.Read.val_main_v55 Cert.Ln2RefIdeal.Read.val_main_v54 Cert.Ln2RefIdeal.Read.val_main_v53 Cert.Ln2RefIdeal.Read.val_main_v52 Cert.Ln2RefIdeal.Read.val_main_cst_15 Cert.Ln2RefIdeal.Read.val_main_cst_16
  generalize Cert.Ln2RefIdeal.Read.val_main_v48 (F := Ideal) x0 x1 x2 x3 x4 x5 x6 x7 = u
  generalize Cert.Ln2RefIdeal.Read.val_main_v27 (F := Ideal) x0 x1 x3 x4 x5 = w
  pointwise
  exact (Fin.sum_univ_one _).trans (Fin.sum_fin_congr fun r => mul_comm _ _)

/-- The shift's gradient, one element. -/
theorem shift_apply (x0 x1 x2 : FVec Ideal S4096x2048 .f32) (x3 x4 x5 x6 x7 : FVec Ideal S2048 .f32) (q : Fin 2048) : Cert.Ln2RefIdeal.Read.val_main_v51 (F := Ideal) x0 x1 x2 x3 x4 x5 x6 x7 (ix1 q) = ∑ r : Fin 4096, Cert.Ln2RefIdeal.Read.val_main_v48 (F := Ideal) x0 x1 x2 x3 x4 x5 x6 x7 (ix2 r q) := by
  unfold Cert.Ln2RefIdeal.Read.val_main_v51 Cert.Ln2RefIdeal.Read.val_main_v50 Cert.Ln2RefIdeal.Read.val_main_v49 Cert.Ln2RefIdeal.Read.val_main_cst_13 Cert.Ln2RefIdeal.Read.val_main_cst_14
  generalize Cert.Ln2RefIdeal.Read.val_main_v48 (F := Ideal) x0 x1 x2 x3 x4 x5 x6 x7 = u
  pointwise
  exact Fin.sum_univ_one _

/-- The loss after the run. -/
theorem tail7 (c : Dev nD) : Pipeline.afterTail₀ cfgs (dats m) 0 (V0 m) [hostOps1] c main_v7 = Cert.Ln2RefIdeal.Read.val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  simp only [hostOps1, List.flatten_cons, List.flatten_nil, List.append_nil]
  after_results_simp
  refine (congrArg (fun X : FVec Ideal S8x128 .f32 => shapeCast S_ (extractStridedSlice S1x1 ![0, 0] X slices_S8x128_S1x1_0_0) shapeCasts_S1x1_S_)
    (Pipeline.withArrays_arr (cfgs 0).spec (by decide) c (V0 m c) _ 11)).trans ?_
  rw [final11 m c]
  funext i
  rw [ref42_apply]
  pointwise
  refine (half_sum _).symm.trans (congrArg _ ?_)
  unfold lossPart
  refine Fin.sum_mul_add_congr fun s k hl => congrArg₂ Ideal.div (Fin.sum_fin_congr fun q => ?_) rfl
  exact congrArg₂ HMul.hMul (point_err m c s _ k q rfl) (point_err m c s _ k q rfl)

/-- The gain's gradient after the run. -/
theorem tail9 (c : Dev nD) : Pipeline.afterTail₀ cfgs (dats m) 0 (V0 m) [hostOps1] c main_v9 = Cert.Ln2RefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  simp only [hostOps1, List.flatten_cons, List.flatten_nil, List.append_nil]
  after_results_simp
  refine (congrArg (fun X : FVec Ideal S8x2048 .f32 => shapeCast S2048 (extractStridedSlice S1x2048 ![0, 0] X slices_S8x2048_S1x2048_0_0) shapeCasts_S1x2048_S2048)
    (Pipeline.withArrays_arr (cfgs 0).spec (by decide) c (V0 m c) _ 10)).trans ?_
  rw [final10 m c]
  funext i
  idx_vars i
  rw [gain_apply]
  pointwise
  refine (Fin.sum_fin_congr fun s => part_gain m c s i0).trans (Fin.sum_mul_add_congr fun s k hl => ?_)
  exact congrArg₂ HMul.hMul (point_dy m c s _ k i0 rfl) (point_rows m c s _ k i0 rfl)

/-- The shift's gradient after the run. -/
theorem tail11 (c : Dev nD) : Pipeline.afterTail₀ cfgs (dats m) 0 (V0 m) [hostOps1] c main_v11 = Cert.Ln2RefIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  simp only [hostOps1, List.flatten_cons, List.flatten_nil, List.append_nil]
  after_results_simp
  refine (congrArg (fun X : FVec Ideal S8x2048 .f32 => shapeCast S2048 (extractStridedSlice S1x2048 ![1, 0] X slices_S8x2048_S1x2048_1_0) shapeCasts_S1x2048_S2048)
    (Pipeline.withArrays_arr (cfgs 0).spec (by decide) c (V0 m c) _ 10)).trans ?_
  rw [final10 m c]
  funext i
  idx_vars i
  rw [shift_apply]
  pointwise
  refine (Fin.sum_fin_congr fun s => part_shift m c s i0).trans (Fin.sum_mul_add_congr fun s k hl => ?_)
  exact point_dy m c s _ k i0 rfl

end Cert.Ln2Ideal.Value

end
-- ==== Proof.Adam.lean ====
/- The optimiser's step on the packed rows of the small weights, replicated and sharded: what the two launches leave is
   the AdamW step, row by row. -/
module

public import proofs.«01_k».proof.Proof.Gen.AdamRepIdeal.Frame
public import proofs.«01_k».proof.Proof.Gen.AdamRepRefIdeal.Read
public import proofs.«01_k».proof.Proof.Gen.AdamShardedIdeal.Frame
public import proofs.«01_k».proof.Proof.Gen.AdamShardedRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamRepIdeal.Value

open Cert.AdamRepIdeal Cert.AdamRepIdeal.Gen

/-- The step's first moment, as the launch and the reference compute it. -/
theorem first_moment (g v : FVec Ideal S12x2048 .f32) : k0_pay1 (F := Ideal) g v = Cert.AdamRepRefIdeal.Read.val_main_v4 (F := Ideal) g v := by
  funext i
  unfold Cert.AdamRepRefIdeal.Read.val_main_v4 Cert.AdamRepRefIdeal.Read.val_main_v3 Cert.AdamRepRefIdeal.Read.val_main_v2 Cert.AdamRepRefIdeal.Read.val_main_v1 Cert.AdamRepRefIdeal.Read.val_main_v0 Cert.AdamRepRefIdeal.Read.val_main_cst Cert.AdamRepRefIdeal.Read.val_main_cst_0
  pointwise [k0_pay1]

/-- The step's second moment. -/
theorem second_moment (g v : FVec Ideal S12x2048 .f32) : k0_pay2 (F := Ideal) g v = Cert.AdamRepRefIdeal.Read.val_main_v10 (F := Ideal) g v := by
  funext i
  unfold Cert.AdamRepRefIdeal.Read.val_main_v10 Cert.AdamRepRefIdeal.Read.val_main_v9 Cert.AdamRepRefIdeal.Read.val_main_v8 Cert.AdamRepRefIdeal.Read.val_main_v7 Cert.AdamRepRefIdeal.Read.val_main_v6 Cert.AdamRepRefIdeal.Read.val_main_v5 Cert.AdamRepRefIdeal.Read.val_main_cst_1 Cert.AdamRepRefIdeal.Read.val_main_cst_2
  pointwise [k0_pay2]

/-- The step itself. -/
theorem step (w g u v : FVec Ideal S12x2048 .f32) : k0_pay3 (F := Ideal) w g u v = Cert.AdamRepRefIdeal.Read.val_main_v23 (F := Ideal) w g u v := by
  funext i
  unfold Cert.AdamRepRefIdeal.Read.val_main_v23 Cert.AdamRepRefIdeal.Read.val_main_v22 Cert.AdamRepRefIdeal.Read.val_main_v21 Cert.AdamRepRefIdeal.Read.val_main_v20 Cert.AdamRepRefIdeal.Read.val_main_v19 Cert.AdamRepRefIdeal.Read.val_main_v18 Cert.AdamRepRefIdeal.Read.val_main_v17 Cert.AdamRepRefIdeal.Read.val_main_v16 Cert.AdamRepRefIdeal.Read.val_main_v15 Cert.AdamRepRefIdeal.Read.val_main_v14 Cert.AdamRepRefIdeal.Read.val_main_v13 Cert.AdamRepRefIdeal.Read.val_main_v12 Cert.AdamRepRefIdeal.Read.val_main_v11
    Cert.AdamRepRefIdeal.Read.val_main_cst_3 Cert.AdamRepRefIdeal.Read.val_main_cst_4 Cert.AdamRepRefIdeal.Read.val_main_cst_5 Cert.AdamRepRefIdeal.Read.val_main_cst_6 Cert.AdamRepRefIdeal.Read.val_main_cst_7 k0_pay3
  rw [first_moment, second_moment]
  generalize Cert.AdamRepRefIdeal.Read.val_main_v4 (F := Ideal) g u = a
  generalize Cert.AdamRepRefIdeal.Read.val_main_v10 (F := Ideal) g v = b
  pointwise

variable (m : (ℓ : Loc nD τ sig) → Buf (Elt Ideal) ℓ)

/-- The windows hold their whole arrays. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem in0 (c : Dev nD) (t : Fin cfg0.N) : iblk m c 0 t = (m ((c : Thread nD τ).loc main_arg0)) := by
  funext y; blk_point [iblk, V, idx t]

theorem in1 (c : Dev nD) (t : Fin cfg0.N) : iblk m c 1 t = (m ((c : Thread nD τ).loc main_arg1)) := by
  funext y; blk_point [iblk, V, idx t]

theorem in2 (c : Dev nD) (t : Fin cfg0.N) : iblk m c 2 t = (m ((c : Thread nD τ).loc main_arg2)) := by
  funext y; blk_point [iblk, V, idx t]

theorem in3 (c : Dev nD) (t : Fin cfg0.N) : iblk m c 3 t = (m ((c : Thread nD τ).loc main_arg3)) := by
  funext y; blk_point [iblk, V, idx t]

/-- The step after the run. -/
theorem final4 (c : Dev nD) : (dats m 0 c).arrAt 4 (cfgs 0).N = Cert.AdamRepRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  rw [in0, in1, in2, in3, step]
  refine congrArg _ ?_
  blk_ext [idx t]

/-- The first moment after the run. -/
theorem final5 (c : Dev nD) : (dats m 0 c).arrAt 5 (cfgs 0).N = Cert.AdamRepRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]; frame_out
  rw [in1, in2, first_moment]
  refine congrArg _ ?_
  blk_ext [idx t]

/-- The second moment after the run. -/
theorem final6 (c : Dev nD) : (dats m 0 c).arrAt 6 (cfgs 0).N = Cert.AdamRepRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]; frame_out
  rw [in1, in3, second_moment]
  refine congrArg _ ?_
  blk_ext [idx t]

end Cert.AdamRepIdeal.Value

namespace Cert.AdamShardedIdeal.Value

open Cert.AdamShardedIdeal Cert.AdamShardedIdeal.Gen

/-- The step's first moment, as the launch and the reference compute it. -/
theorem first_moment (g v : FVec Ideal S10x256 .f32) : k0_pay1 (F := Ideal) g v = Cert.AdamShardedRefIdeal.Read.val_main_v4 (F := Ideal) g v := by
  funext i
  unfold Cert.AdamShardedRefIdeal.Read.val_main_v4 Cert.AdamShardedRefIdeal.Read.val_main_v3 Cert.AdamShardedRefIdeal.Read.val_main_v2 Cert.AdamShardedRefIdeal.Read.val_main_v1 Cert.AdamShardedRefIdeal.Read.val_main_v0 Cert.AdamShardedRefIdeal.Read.val_main_cst Cert.AdamShardedRefIdeal.Read.val_main_cst_0
  pointwise [k0_pay1]

/-- The step's second moment. -/
theorem second_moment (g v : FVec Ideal S10x256 .f32) : k0_pay2 (F := Ideal) g v = Cert.AdamShardedRefIdeal.Read.val_main_v10 (F := Ideal) g v := by
  funext i
  unfold Cert.AdamShardedRefIdeal.Read.val_main_v10 Cert.AdamShardedRefIdeal.Read.val_main_v9 Cert.AdamShardedRefIdeal.Read.val_main_v8 Cert.AdamShardedRefIdeal.Read.val_main_v7 Cert.AdamShardedRefIdeal.Read.val_main_v6 Cert.AdamShardedRefIdeal.Read.val_main_v5 Cert.AdamShardedRefIdeal.Read.val_main_cst_1 Cert.AdamShardedRefIdeal.Read.val_main_cst_2
  pointwise [k0_pay2]

/-- The step itself. -/
theorem step (w g u v : FVec Ideal S10x256 .f32) : k0_pay3 (F := Ideal) w g u v = Cert.AdamShardedRefIdeal.Read.val_main_v23 (F := Ideal) w g u v := by
  funext i
  unfold Cert.AdamShardedRefIdeal.Read.val_main_v23 Cert.AdamShardedRefIdeal.Read.val_main_v22 Cert.AdamShardedRefIdeal.Read.val_main_v21 Cert.AdamShardedRefIdeal.Read.val_main_v20 Cert.AdamShardedRefIdeal.Read.val_main_v19 Cert.AdamShardedRefIdeal.Read.val_main_v18 Cert.AdamShardedRefIdeal.Read.val_main_v17 Cert.AdamShardedRefIdeal.Read.val_main_v16 Cert.AdamShardedRefIdeal.Read.val_main_v15 Cert.AdamShardedRefIdeal.Read.val_main_v14 Cert.AdamShardedRefIdeal.Read.val_main_v13 Cert.AdamShardedRefIdeal.Read.val_main_v12 Cert.AdamShardedRefIdeal.Read.val_main_v11
    Cert.AdamShardedRefIdeal.Read.val_main_cst_3 Cert.AdamShardedRefIdeal.Read.val_main_cst_4 Cert.AdamShardedRefIdeal.Read.val_main_cst_5 Cert.AdamShardedRefIdeal.Read.val_main_cst_6 Cert.AdamShardedRefIdeal.Read.val_main_cst_7 k0_pay3
  rw [first_moment, second_moment]
  generalize Cert.AdamShardedRefIdeal.Read.val_main_v4 (F := Ideal) g u = a
  generalize Cert.AdamShardedRefIdeal.Read.val_main_v10 (F := Ideal) g v = b
  pointwise

variable (m : (ℓ : Loc nD τ sig) → Buf (Elt Ideal) ℓ)

/-- The windows hold their whole arrays. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem in0 (c : Dev nD) (t : Fin cfg0.N) : iblk m c 0 t = (m ((c : Thread nD τ).loc main_arg0)) := by
  funext y; blk_point [iblk, V, idx t]

theorem in1 (c : Dev nD) (t : Fin cfg0.N) : iblk m c 1 t = (m ((c : Thread nD τ).loc main_arg1)) := by
  funext y; blk_point [iblk, V, idx t]

theorem in2 (c : Dev nD) (t : Fin cfg0.N) : iblk m c 2 t = (m ((c : Thread nD τ).loc main_arg2)) := by
  funext y; blk_point [iblk, V, idx t]

theorem in3 (c : Dev nD) (t : Fin cfg0.N) : iblk m c 3 t = (m ((c : Thread nD τ).loc main_arg3)) := by
  funext y; blk_point [iblk, V, idx t]

/-- The step after the run. -/
theorem final4 (c : Dev nD) : (dats m 0 c).arrAt 4 (cfgs 0).N = Cert.AdamShardedRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  rw [in0, in1, in2, in3, step]
  refine congrArg _ ?_
  blk_ext [idx t]

/-- The first moment after the run. -/
theorem final5 (c : Dev nD) : (dats m 0 c).arrAt 5 (cfgs 0).N = Cert.AdamShardedRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]; frame_out
  rw [in1, in2, first_moment]
  refine congrArg _ ?_
  blk_ext [idx t]

/-- The second moment after the run. -/
theorem final6 (c : Dev nD) : (dats m 0 c).arrAt 6 (cfgs 0).N = Cert.AdamShardedRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]; frame_out
  rw [in1, in3, second_moment]
  refine congrArg _ ?_
  blk_ext [idx t]

end Cert.AdamShardedIdeal.Value

end
-- ==== Proof.Conv.lean ====
/- The gradient of the four-tap convolution over time: what the launch leaves in its two result arrays is the gradient the
   reference takes. -/
module

public import proofs.«01_k».proof.Proof.Gen.ConvIdeal.Frame
public import proofs.«01_k».proof.Proof.Gen.ConvRefIdeal.Read
public import Idealize.ShloMosaic.Lib.Pipeline.ValueKit
public import proofs.«01_k».proof.Proof.Rows
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvIdeal.Value

open Cert.ConvIdeal Cert.ConvIdeal.Gen

variable (m : (ℓ : Loc nD τ sig) → Buf (Elt Ideal) ℓ)

/-- Where each point's blocks sit, and its half of the rows. -/
theorem idx : ∀ t : Fin cfg0.N, win0_0.index t = ![0, 8 + t.val / 2] ∧ win0_1.index t = ![0, t.val / 2] ∧ win0_2.index t = ![0, t.val / 2]
    ∧ win0_3.index t = ![3, t.val % 2, t.val / 2] ∧ win0_4.index t = ![0, t.val / 2] ∧ ((grid0.coords t) 1).val = t.val % 2 :=
  (by decide +kernel : ∀ t : Fin grid0.N, _)

/-- The rows each point loads: its half, and sixteen on either side, kept inside the array. -/
theorem off : ∀ t : Fin cfg0.N, k0_off1 (grid0.coords t) = ![2048 * (t.val % 2), 0] ∧ k0_off2 (grid0.coords t) = ![2048 * (t.val % 2) - 16, 0]
    ∧ k0_off3 (grid0.coords t) = ![2048 + 2032 * (t.val % 2), 0] :=
  (by decide +kernel : ∀ t : Fin grid0.N, _)

/-- Row `n - 16` of an array, and zero outside of it. -/
def rowAt (X : FVec Ideal S4096x2048 .f32) (n : ℕ) (q : Fin 2048) : EReal :=
  if h : 16 ≤ n ∧ n < 4112 then X (ix2 ⟨n - 16, by omega⟩ q) else 0

/-- The column of the array a block's column is. -/
def col (t : Fin cfg0.N) (q : Fin 256) : Fin 2048 :=
  ⟨t.val / 2 * 256 + q.val, by have : t.val < 16 := t.isLt; omega⟩

/-- A half of the rows between its neighbours, one element. -/
theorem pay4_apply (i : BitVec 32) (a : FVec Ideal S2048x256 .f32) (b d : FVec Ideal S16x256 .f32) (y : Fin 2080) (q : Fin 256) :
    k0_pay4 (F := Ideal) i a b d (ix2 y q) = if h : y.val < 16 then Scalar.select (Scalar.cmpi .sgt i 0#32) (b (ix2 ⟨y.val, h⟩ q)) 0
      else if h' : y.val - 16 < 2048 then a (ix2 ⟨y.val - 16, h'⟩ q)
      else Scalar.select (Scalar.cmpi .slt i 1#32) (d (ix2 ⟨y.val - 16 - 2048, by omega⟩ q)) 0 := by
  pointwise [k0_pay4]

/-- The other operand is extended the same way. -/
theorem pay3_eq (i : grid0.Coords) (a : FVec Ideal S2048x256 .f32) (b d : FVec Ideal S16x256 .f32) :
    k0_pay3 (F := Ideal) i a b d = k0_pay4 (BitVec.ofNat 32 (i 1).val) a b d := by
  funext y
  idx_vars y
  rw [pay4_apply]
  pointwise [k0_pay3]

/-- The rows a point sees are the array's, with zeros before the first and behind the last. -/
theorem ext_eq (t : Fin cfg0.N) (Y : FVec Ideal S4096x256 .f32) (X : FVec Ideal S4096x2048 .f32) (y : Fin 2080) (q : Fin 256)
    (hY : ∀ r : Fin 4096, Y (ix2 r q) = X (ix2 r (col t q)))
    (p1 : ∀ a : Fin 2, k0_off1 (grid0.coords t) a + (![2048, 256] : Fin 2 → ℕ) a ≤ (![4096, 256] : Fin 2 → ℕ) a)
    (p2 : ∀ a : Fin 2, k0_off2 (grid0.coords t) a + (![16, 256] : Fin 2 → ℕ) a ≤ (![4096, 256] : Fin 2 → ℕ) a)
    (p3 : ∀ a : Fin 2, k0_off3 (grid0.coords t) a + (![16, 256] : Fin 2 → ℕ) a ≤ (![4096, 256] : Fin 2 → ℕ) a) :
    k0_pay4 (F := Ideal) (BitVec.ofNat 32 ((grid0.coords t) 1).val) (View.ld Y (Rect.unit (s := S4096x256) (k0_off1 (grid0.coords t)) ![2048, 256] p1))
      (View.ld Y (Rect.unit (s := S4096x256) (k0_off2 (grid0.coords t)) ![16, 256] p2)) (View.ld Y (Rect.unit (s := S4096x256) (k0_off3 (grid0.coords t)) ![16, 256] p3)) (ix2 y q)
      = rowAt X (2048 * (t.val % 2) + y.val) (col t q) := by
  have ld : ∀ (o W r : ℕ) (f : Fin 2 → ℕ) (p : ∀ a : Fin 2, f a + (![W, 256] : Fin 2 → ℕ) a ≤ (![4096, 256] : Fin 2 → ℕ) a) (x : Fin W)
      (hf : f = ![o, 0]) (hr : r < 4096), r = o + x.val →
      View.ld (Val := Elt Ideal) (e' := .f32) Y (Rect.unit (s := S4096x256) f ![W, 256] p) (ix2 x q) = X (ix2 ⟨r, hr⟩ (col t q)) := by
    intro o W r f p x hf hr h
    subst hf
    rw [View.ld_unit_apply_of _ _ _ _ _ (ix2 ⟨r, hr⟩ q) (fun a => by
      match a with
      | ⟨0, _⟩ => exact h
      | ⟨1, _⟩ => exact (Nat.zero_add _).symm)]
    exact hY _
  have hy := y.isLt
  rw [pay4_apply, (idx t).2.2.2.2.2]
  unfold rowAt
  by_cases h : y.val < 16
  · rw [dif_pos h]
    rcases Nat.mod_two_eq_zero_or_one t.val with e | e
    · rw [dif_neg (by omega), e]; rfl
    · rw [dif_pos (by omega)]
      refine Eq.trans ?_ (ld (2048 * (t.val % 2) - 16) 16 _ _ p2 ⟨y.val, h⟩ (off t).2.1 _ (by simp; omega))
      rw [e]; rfl
  · rw [dif_neg h]
    by_cases h' : y.val - 16 < 2048
    · rw [dif_pos h', dif_pos (by omega)]
      exact ld (2048 * (t.val % 2)) 2048 _ _ p1 ⟨y.val - 16, h'⟩ (off t).1 _ (by simp; omega)
    · rw [dif_neg h']
      rcases Nat.mod_two_eq_zero_or_one t.val with e | e
      · rw [dif_pos (by omega)]
        refine Eq.trans ?_ (ld (2048 + 2032 * (t.val % 2)) 16 _ _ p3 ⟨y.val - 16 - 2048, by omega⟩ (off t).2.2 _ (by simp; omega))
        rw [e]; rfl
      · rw [dif_neg (by omega), e]; rfl

/-- A point's own rows of the extended cotangent. -/
theorem pay5_apply (i : BitVec 32) (a : FVec Ideal S2048x256 .f32) (b d : FVec Ideal S16x256 .f32) (r : Fin 2048) (q : Fin 256) :
    k0_pay5 (F := Ideal) i a b d (ix2 r q) = k0_pay4 i a b d (ix2 ⟨16 + r.val, by omega⟩ q) := by
  unfold k0_pay5
  generalize k0_pay4 (F := Ideal) i a b d = e
  pointwise

/-- The rows under the filter as the launch reads them: column blocks of zeros around the argument. -/
theorem entry2 (c : Dev nD) (r : Fin 4096) (q : Fin 10240) (q' : Fin 2048) (h : q.val = 2048 + q'.val) :
    V m c main_v2 (ix2 r q) = m ((c : Thread nD τ).loc main_arg0) (ix2 r q') := by
  entry_read
  simp only [hostOps0, List.flatten_cons, List.flatten_nil, List.append_nil]
  after_results_simp
  pointwise
  rw [dif_neg (by omega), dif_pos (by omega)]
  exact congrArg _ (congrArg (ix2 r) (Fin.ext (by simp; omega)))

/-- The filter as the launch reads it: rows of zeros below the argument. -/
theorem entry4 (c : Dev nD) (k : Fin 16) (k' : Fin 4) (q : Fin 2048) (h : k.val = k'.val) :
    V m c main_v4 (ix2 k q) = m ((c : Thread nD τ).loc main_arg1) (ix2 k' q) := by
  entry_read
  simp only [hostOps0, List.flatten_cons, List.flatten_nil, List.append_nil]
  after_results_simp
  pointwise
  rw [dif_pos (by omega)]
  exact congrArg _ (congrArg (ix2 · q) (Fin.ext h))

/-- The rows under the filter, one element of a block. -/
theorem blk0 (c : Dev nD) (t : Fin cfg0.N) (r : Fin 4096) (q : Fin 256) :
    iblk m c 0 t (ix2 r q) = m ((c : Thread nD τ).loc main_arg0) (ix2 r (col t q)) := by
  have : t.val < 16 := t.isLt
  rw [← entry2 m c r ⟨(8 + t.val / 2) * 256 + q.val, by omega⟩ (col t q) (by unfold col; simp; omega)]
  blk_point [iblk, idx t]

/-- The cotangent, one element of a block. -/
theorem blk1 (c : Dev nD) (t : Fin cfg0.N) (r : Fin 4096) (q : Fin 256) :
    iblk m c 1 t (ix2 r q) = m ((c : Thread nD τ).loc main_arg3) (ix2 r (col t q)) := by
  unfold col
  blk_point [iblk, V, idx t]

/-- The filter, one element of a block. -/
theorem blk2 (c : Dev nD) (t : Fin cfg0.N) (k : Fin 16) (k' : Fin 4) (q : Fin 256) (h : k.val = k'.val) :
    iblk m c 2 t (ix2 k q) = m ((c : Thread nD τ).loc main_arg1) (ix2 k' (col t q)) := by
  rw [← entry4 m c k k' (col t q) h]
  unfold col
  blk_point [iblk, idx t]

/-- What a point of one half of the rows adds to row `n` of the gradients, in one column: the cotangent's rows times the
    rows `n - 2` below them, and the cotangent's rows alone in the fifth row. -/
def term (u ct : FVec Ideal S4096x2048 .f32) (t : Fin cfg0.N) (n : ℕ) (q : Fin 256) : EReal :=
  ∑ k : Fin 2048, rowAt ct (2048 * (t.val % 2) + (16 + k.val)) (col t q)
    * (if n = 4 then 1 else rowAt u (2048 * (t.val % 2) + (14 + k.val + n)) (col t q))

/-- The first `n` rows of a block. -/
def parts (T : ℕ → Fin 256 → EReal) (n : ℕ) (y : S8x256.Idx) : EReal := if (y 0).val < n then T (y 0).val (y 1) else 0

/-- A row as the launch names its elements. -/
theorem row_eq (j : S8x256.Idx) {k : ℕ} (hk : k < 8) (h : (j 0).val = k) : (ix2 ⟨k, hk⟩ (j 1) : S8x256.Idx) = j := by
  rw [eq_ix2 j]; exact congrArg₂ _ (Fin.ext h.symm) rfl

/-- One more row. -/
theorem parts_succ (T : ℕ → Fin 256 → EReal) (n : ℕ) (y : S8x256.Idx) :
    parts T (n + 1) y = if (y 0).val = n then T n (y 1) else parts T n y := by
  unfold parts
  by_cases h : (y 0).val = n
  · rw [if_pos h, if_pos (by omega), h]
  · rw [if_neg h]
    by_cases h' : (y 0).val < n
    · rw [if_pos h', if_pos (by omega)]
    · rw [if_neg h', if_neg (by omega)]

/-- The rows of a first point, one after the other: each is stored over what a load of it reads. -/
theorem canon_add (T : ℕ → Fin 256 → EReal) (n : ℕ) (hn : n < 8) (v : View sig .tc .vmem S8x256 .f32)
    (inb : ∀ a : Fin 2, (![n, 0] : Fin 2 → ℕ) a + (![1, 256] : Fin 2 → ℕ) a ≤ (![8, 256] : Fin 2 → ℕ) a)
    (w : FVec Ideal S1x256 .f32) (L : List (View.Piece (Elt Ideal) S8x256 .f32)) (hL : ∀ y, View.canon L y = parts T n y)
    (hw : ∀ q, w (ix2 0 q) = (v.readCov L (Rect.unit (s := S8x256) ![n, 0] ![1, 256] inb).toLoadRect (ix2 0 q) : EReal) + T n q) (y : S8x256.Idx) :
    View.canon ((⟨Rect.unit (s := S8x256) ![n, 0] ![1, 256] inb, w⟩ : View.Piece (Elt Ideal) S8x256 .f32) :: L) y = parts T (n + 1) y := by
  refine (Cert.Rows.canon_row n _ _ _ y).trans ?_
  rw [parts_succ]
  split_ifs with h
  · refine (hw (y 1)).trans ((congrArg (· + T n (y 1)) ((Cert.Rows.readCov_row n hn _ _ _ _).trans ((hL _).trans ?_))).trans (zero_add _))
    exact if_neg (Nat.lt_irrefl n)
  · exact hL y

/-- A load of row `n` of the block. -/
theorem ld_row (n : ℕ) (hn : n < 8) (X : FVec Ideal S8x256 .f32)
    (inb : ∀ a : Fin 2, (![n, 0] : Fin 2 → ℕ) a + (![1, 256] : Fin 2 → ℕ) a ≤ (![8, 256] : Fin 2 → ℕ) a) (q : Fin 256) :
    View.ld (Val := Elt Ideal) (e' := .f32) X (Rect.unit (s := S8x256) ![n, 0] ![1, 256] inb) (ix2 0 q) = X (ix2 ⟨n, hn⟩ q) := by
  rw [View.ld_unit_apply_of _ _ _ _ _ (ix2 ⟨n, hn⟩ q) (fun a => by
    match a with
    | ⟨0, _⟩ => rfl
    | ⟨1, _⟩ => exact (Nat.zero_add _).symm)]

/-- The rows of a later point: each is stored over what the block held before. -/
theorem read_add (T : ℕ → Fin 256 → EReal) (n : ℕ) (hn : n < 8) (v : View sig .tc .vmem S8x256 .f32) (f : v.ty.Contents (Elt Ideal))
    (prev : FVec Ideal S8x256 .f32)
    (inb : ∀ a : Fin 2, (![n, 0] : Fin 2 → ℕ) a + (![1, 256] : Fin 2 → ℕ) a ≤ (![8, 256] : Fin 2 → ℕ) a)
    (w : FVec Ideal S1x256 .f32) (L : List (View.Piece (Elt Ideal) S8x256 .f32))
    (hL : ∀ y, v.read (Elt Ideal) (v.writes (Elt Ideal) f L) y = prev y + parts T n y)
    (hw : ∀ q, w (ix2 0 q) = (View.ld (Val := Elt Ideal) (e' := .f32) prev (Rect.unit (s := S8x256) ![n, 0] ![1, 256] inb) (ix2 0 q) : EReal) + T n q) (y : S8x256.Idx) :
    v.read (Elt Ideal) (v.writes (Elt Ideal) f ((⟨Rect.unit (s := S8x256) ![n, 0] ![1, 256] inb, w⟩ : View.Piece (Elt Ideal) S8x256 .f32) :: L)) y
      = prev y + parts T (n + 1) y := by
  refine (Cert.Rows.read_row n _ _ _ _ _ y).trans ?_
  rw [parts_succ]
  split_ifs with h
  · refine (hw (y 1)).trans (congrArg (· + T n (y 1)) ?_)
    exact (ld_row n hn prev inb (y 1)).trans (congrArg prev (row_eq y hn h))
  · exact hL y

/-- The rows under the filter as a point sees them. -/
theorem u_at (c : Dev nD) (t : Fin cfg0.N) (y : Fin 2080) (q : Fin 256) (p1 p2 p3) :
    k0_pay3 (F := Ideal) (grid0.coords t) (View.ld (iblk m c 0 t) (Rect.unit (s := S4096x256) (k0_off1 (grid0.coords t)) ![2048, 256] p1))
      (View.ld (iblk m c 0 t) (Rect.unit (s := S4096x256) (k0_off2 (grid0.coords t)) ![16, 256] p2))
      (View.ld (iblk m c 0 t) (Rect.unit (s := S4096x256) (k0_off3 (grid0.coords t)) ![16, 256] p3)) (ix2 y q)
      = rowAt (m ((c : Thread nD τ).loc main_arg0)) (2048 * (t.val % 2) + y.val) (col t q) := by
  rw [pay3_eq]
  exact ext_eq t _ _ y q (fun r => blk0 m c t r q) p1 p2 p3

/-- The cotangent as a point sees it. -/
theorem d_at (c : Dev nD) (t : Fin cfg0.N) (y : Fin 2080) (q : Fin 256) (p1 p2 p3) :
    k0_pay4 (F := Ideal) (BitVec.ofNat 32 ((grid0.coords t) 1).val) (View.ld (iblk m c 1 t) (Rect.unit (s := S4096x256) (k0_off1 (grid0.coords t)) ![2048, 256] p1))
      (View.ld (iblk m c 1 t) (Rect.unit (s := S4096x256) (k0_off2 (grid0.coords t)) ![16, 256] p2))
      (View.ld (iblk m c 1 t) (Rect.unit (s := S4096x256) (k0_off3 (grid0.coords t)) ![16, 256] p3)) (ix2 y q)
      = rowAt (m ((c : Thread nD τ).loc main_arg3)) (2048 * (t.val % 2) + y.val) (col t q) :=
  ext_eq t _ _ y q (fun r => blk1 m c t r q) p1 p2 p3

/-- The first row: what was there, and the column sums of a point. -/
theorem pay7_apply (i : BitVec 32) (E : FVec Ideal S2080x256 .f32) (a : FVec Ideal S2048x256 .f32) (b d : FVec Ideal S16x256 .f32) (w : FVec Ideal S1x256 .f32) (q : Fin 256) :
    k0_pay7 (F := Ideal) i E a b d w (ix2 0 q) = w (ix2 0 q) + ∑ x : Fin 2048, k0_pay5 i a b d (ix2 x q) * E (ix2 ⟨(16 + x.val + 2080 - 2) % 2080, Nat.mod_lt _ (by decide)⟩ q) := by
  unfold k0_pay7
  generalize k0_pay5 (F := Ideal) i a b d = dd
  pointwise

/-- The second row. -/
theorem pay10_apply (E : FVec Ideal S2080x256 .f32) (dd : FVec Ideal S2048x256 .f32) (w : FVec Ideal S1x256 .f32) (q : Fin 256) :
    k0_pay10 (F := Ideal) E dd (k0_pay9 w) (ix2 0 q) = w (ix2 0 q) + ∑ x : Fin 2048, dd (ix2 x q) * E (ix2 ⟨(16 + x.val + 2080 - 1) % 2080, Nat.mod_lt _ (by decide)⟩ q) := by
  pointwise [k0_pay10, k0_pay9]

/-- The third row. -/
theorem pay11_apply (E : FVec Ideal S2080x256 .f32) (dd : FVec Ideal S2048x256 .f32) (w : FVec Ideal S1x256 .f32) (q : Fin 256) :
    k0_pay11 (F := Ideal) E dd w (ix2 0 q) = w (ix2 0 q) + ∑ x : Fin 2048, dd (ix2 x q) * E (ix2 ⟨16 + x.val, by omega⟩ q) := by
  pointwise [k0_pay11]

/-- The fourth row. -/
theorem pay13_apply (E : FVec Ideal S2080x256 .f32) (dd : FVec Ideal S2048x256 .f32) (w : FVec Ideal S1x256 .f32) (q : Fin 256) :
    k0_pay13 (F := Ideal) E dd w (ix2 0 q) = w (ix2 0 q) + ∑ x : Fin 2048, dd (ix2 x q) * E (ix2 ⟨(16 + x.val + 2080 - 2079) % 2080, Nat.mod_lt _ (by decide)⟩ q) := by
  pointwise [k0_pay13]

/-- The fifth row. -/
theorem pay1_apply (dd : FVec Ideal S2048x256 .f32) (w : FVec Ideal S1x256 .f32) (q : Fin 256) :
    k0_pay1 (F := Ideal) dd w (ix2 0 q) = w (ix2 0 q) + ∑ x : Fin 2048, dd (ix2 x q) := by
  pointwise [k0_pay1]

/-- A row's column sums are the point's term. -/
theorem term_eq (u ct : FVec Ideal S4096x2048 .f32) (t : Fin cfg0.N) (n : ℕ) (hn : n < 4) (q : Fin 256) (E : FVec Ideal S2080x256 .f32)
    (D : FVec Ideal S2080x256 .f32) (dd : FVec Ideal S2048x256 .f32) (e : Fin 2048 → Fin 2080)
    (hE : ∀ y : Fin 2080, E (ix2 y q) = rowAt u (2048 * (t.val % 2) + y.val) (col t q))
    (hD : ∀ y : Fin 2080, D (ix2 y q) = rowAt ct (2048 * (t.val % 2) + y.val) (col t q))
    (hd : ∀ x : Fin 2048, dd (ix2 x q) = D (ix2 ⟨16 + x.val, by omega⟩ q)) (he : ∀ x, (e x).val = 14 + x.val + n) :
    ∑ x : Fin 2048, dd (ix2 x q) * E (ix2 (e x) q) = term u ct t n q := by
  unfold term
  refine Fin.sum_fin_congr fun x => congrArg₂ HMul.hMul ((hd x).trans (hD _)) ?_
  rw [if_neg (by omega), hE, he]

/-- The block of gradients after a first point. -/
theorem first (c : Dev nD) (t : Fin cfg0.N) (h : t.val % 2 = 0) (j : S8x256.Idx) :
    (outsAt0 m c t.val t.isLt).2 j = 0 + parts (term (m ((c : Thread nD τ).loc main_arg0)) (m ((c : Thread nD τ).loc main_arg3)) t) 5 j := by
  rw [outsAt0_A m c t h]; frame_out
  rw [zero_add]
  refine canon_add _ 4 (by decide) (ms0_4 t).view _ _ _ (canon_add _ 3 (by decide) (ms0_4 t).view _ _ _ (canon_add _ 2 (by decide) (ms0_4 t).view _ _ _ (canon_add _ 1 (by decide) (ms0_4 t).view _ _ _
    (canon_add _ 0 (by decide) (ms0_4 t).view _ _ _ (fun y => (Cert.Rows.canon_fill _ _ _).trans ?_) (fun q => ?_)) (fun q => ?_)) (fun q => ?_)) (fun q => ?_)) (fun q => ?_) j
  · unfold parts
    pointwise [k0_pay6]
    exact (if_neg (Nat.not_lt_zero _)).symm
  · exact (pay7_apply _ _ _ _ _ _ q).trans (congrArg₂ HAdd.hAdd rfl (term_eq _ _ t 0 (by decide) q _ _ _ _ (fun y => u_at m c t y q _ _ _) (fun y => d_at m c t y q _ _ _) (fun x => pay5_apply _ _ _ _ x q) (fun x => by simp; omega)))
  · exact (pay10_apply _ _ _ q).trans (congrArg₂ HAdd.hAdd rfl (term_eq _ _ t 1 (by decide) q _ _ _ _ (fun y => u_at m c t y q _ _ _) (fun y => d_at m c t y q _ _ _) (fun x => pay5_apply _ _ _ _ x q) (fun x => by simp; omega)))
  · exact (pay11_apply _ _ _ q).trans (congrArg₂ HAdd.hAdd rfl (term_eq _ _ t 2 (by decide) q _ _ _ _ (fun y => u_at m c t y q _ _ _) (fun y => d_at m c t y q _ _ _) (fun x => pay5_apply _ _ _ _ x q) (fun x => by simp; omega)))
  · exact (pay13_apply _ _ _ q).trans (congrArg₂ HAdd.hAdd rfl (term_eq _ _ t 3 (by decide) q _ _ _ _ (fun y => u_at m c t y q _ _ _) (fun y => d_at m c t y q _ _ _) (fun x => pay5_apply _ _ _ _ x q) (fun x => by simp; omega)))
  · refine (pay1_apply _ _ q).trans (congrArg₂ HAdd.hAdd rfl (Fin.sum_fin_congr fun x => ?_))
    exact ((pay5_apply _ _ _ _ x q).trans (d_at m c t _ q _ _ _)).trans (mul_one _).symm

/-- The block of gradients after a later point, from what it was before. -/
theorem later (c : Dev nD) (t : Fin cfg0.N) (h : ¬t.val % 2 = 0) (j : S8x256.Idx) :
    (outsAt0 m c t.val t.isLt).2 j = (outsAt0 m c (t.val - 1) (Nat.lt_of_le_of_lt (Nat.sub_le _ _) t.isLt)).2 j
      + parts (term (m ((c : Thread nD τ).loc main_arg0)) (m ((c : Thread nD τ).loc main_arg3)) t) 5 j := by
  rw [outsAt0_B m c t h]; frame_out
  refine read_add _ 4 (by decide) _ _ _ _ _ _ (read_add _ 3 (by decide) _ _ _ _ _ _ (read_add _ 2 (by decide) _ _ _ _ _ _ (read_add _ 1 (by decide) _ _ _ _ _ _
    (read_add _ 0 (by decide) _ _ _ _ _ _ (fun y => ?_) (fun q => ?_)) (fun q => ?_)) (fun q => ?_)) (fun q => ?_)) (fun q => ?_) j
  · rw [View.writes_nil, (hs0_4 t).read_unread]
    exact (add_zero _).symm
  · exact (pay7_apply _ _ _ _ _ _ q).trans (congrArg₂ HAdd.hAdd rfl (term_eq _ _ t 0 (by decide) q _ _ _ _ (fun y => u_at m c t y q _ _ _) (fun y => d_at m c t y q _ _ _) (fun x => pay5_apply _ _ _ _ x q) (fun x => by simp; omega)))
  · exact (pay10_apply _ _ _ q).trans (congrArg₂ HAdd.hAdd rfl (term_eq _ _ t 1 (by decide) q _ _ _ _ (fun y => u_at m c t y q _ _ _) (fun y => d_at m c t y q _ _ _) (fun x => pay5_apply _ _ _ _ x q) (fun x => by simp; omega)))
  · exact (pay11_apply _ _ _ q).trans (congrArg₂ HAdd.hAdd rfl (term_eq _ _ t 2 (by decide) q _ _ _ _ (fun y => u_at m c t y q _ _ _) (fun y => d_at m c t y q _ _ _) (fun x => pay5_apply _ _ _ _ x q) (fun x => by simp; omega)))
  · exact (pay13_apply _ _ _ q).trans (congrArg₂ HAdd.hAdd rfl (term_eq _ _ t 3 (by decide) q _ _ _ _ (fun y => u_at m c t y q _ _ _) (fun y => d_at m c t y q _ _ _) (fun x => pay5_apply _ _ _ _ x q) (fun x => by simp; omega)))
  · refine (pay1_apply _ _ q).trans (congrArg₂ HAdd.hAdd rfl (Fin.sum_fin_congr fun x => ?_))
    exact ((pay5_apply _ _ _ _ x q).trans (d_at m c t _ q _ _ _)).trans (mul_one _).symm

/-- The column sums over all of the rows. -/
def total (u ct : FVec Ideal S4096x2048 .f32) (n : ℕ) (q : Fin 2048) : EReal :=
  ∑ r : Fin 4096, rowAt ct (16 + r.val) q * (if n = 4 then 1 else rowAt u (14 + r.val + n) q)

/-- The block of gradients after the run. -/
theorem final4 (c : Dev nD) : (dats m 0 c).arrAt 4 (cfgs 0).N
    = fun i : S8x2048.Idx => if (i 0).val < 5 then total (m ((c : Thread nD τ).loc main_arg0)) (m ((c : Thread nD τ).loc main_arg3)) (i 0).val (i 1) else 0 := by
  refine (dats m 0 c).arrAt_eq_of_covers 4 _ (by decide +kernel) fun t hf y => ?_
  blk_simp
  have ht : t.val < 16 := t.isLt
  have hfl := (flush0_4 t).mp hf
  rw [after0_4, Pipeline.eq_sum_fin_of_reset_step_apply_of_flush (fun n h => (outsAt0 m c n h).2) 2 (fun _ => 0)
    (fun t => parts (term (m ((c : Thread nD τ).loc main_arg0)) (m ((c : Thread nD τ).loc main_arg3)) t) 5) (first m c) (later m c) t hfl y, zero_add]
  have hrow : win0_4.index t 0 * 8 + (y 0).val = (y 0).val := by rw [(idx t).2.2.2.2.1]; exact Nat.zero_add _
  have hcol : (win0_4.blk t).view.emb y 1 = col t (y 1) := Fin.ext (by blk_simp [idx t]; rfl)
  unfold parts
  rw [hrow, hcol]
  by_cases h0 : (y 0).val < 5
  · rw [if_pos h0]
    simp only [if_pos h0]
    unfold term total
    refine Fin.sum_mul_add_congr fun s k hl => ?_
    have e : ∀ (p : 2 * (t.val / 2) + s.val < cfg0.N) (u : FVec Ideal S4096x2048 .f32) (n n' : ℕ), n = n' →
        rowAt u n (col ⟨2 * (t.val / 2) + s.val, p⟩ (y 1)) = rowAt u n' (col t (y 1)) := fun p u n n' h =>
      congrArg₂ (rowAt u) h (Fin.ext (by unfold col; simp; omega))
    have hs := s.isLt
    refine congrArg₂ HMul.hMul (e _ _ _ _ (by simp; omega)) ?_
    split_ifs
    · rfl
    · exact e _ _ _ _ (by simp; omega)
  · rw [if_neg h0]
    simp only [if_neg h0]
    exact (Finset.sum_const_zero : ∑ _ : Fin 2, (0 : EReal) = 0)

/-- Inside the array a row is the array's. -/
theorem rowAt_body (X : FVec Ideal S4096x2048 .f32) (r : Fin 4096) (q : Fin 2048) : rowAt X (16 + r.val) q = X (ix2 r q) := by
  unfold rowAt
  rw [dif_pos (by omega)]
  exact congrArg X (congrArg (ix2 · q) (Fin.ext (by simp)))

/-- The reference's rows under the filter, with its zeros. -/
theorem ref2_apply (u : FVec Ideal S4096x2048 .f32) (y : Fin 4099) (q : Fin 2048) : Cert.ConvRefIdeal.Read.val_main_v2 (F := Ideal) u (ix2 y q) = rowAt u (14 + y.val) q := by
  unfold Cert.ConvRefIdeal.Read.val_main_v2 Cert.ConvRefIdeal.Read.val_main_v1 Cert.ConvRefIdeal.Read.val_main_cst_0 Cert.ConvRefIdeal.Read.val_main_v0
    Cert.ConvRefIdeal.Read.val_main_cst
  unfold rowAt
  pointwise
  by_cases h : 2 ≤ y.val ∧ y.val < 4098
  · rw [dif_neg (by omega), dif_pos (by omega), dif_pos (by omega)]
    exact congrArg u (congrArg (ix2 · q) (Fin.ext (by simp; omega)))
  · by_cases h' : y.val < 2
    · rw [dif_pos h', dif_neg (by omega)]
    · rw [dif_neg h', dif_neg (by omega), dif_neg (by omega)]

/-- The filter's gradient, one element. -/
theorem ref79_apply (u ct : FVec Ideal S4096x2048 .f32) (n : Fin 4) (q : Fin 2048) : Cert.ConvRefIdeal.Read.val_main_v79 (F := Ideal) u ct (ix2 n q) = total u ct n.val q := by
  unfold Cert.ConvRefIdeal.Read.val_main_v79 Cert.ConvRefIdeal.Read.val_main_v78 Cert.ConvRefIdeal.Read.val_main_cst_19 Cert.ConvRefIdeal.Read.val_main_v77
    Cert.ConvRefIdeal.Read.val_main_v76 Cert.ConvRefIdeal.Read.val_main_cst_18 Cert.ConvRefIdeal.Read.val_main_v73 Cert.ConvRefIdeal.Read.val_main_v72
    Cert.ConvRefIdeal.Read.val_main_cst_17 Cert.ConvRefIdeal.Read.val_main_v71 Cert.ConvRefIdeal.Read.val_main_v65 Cert.ConvRefIdeal.Read.val_main_v64
    Cert.ConvRefIdeal.Read.val_main_cst_13 Cert.ConvRefIdeal.Read.val_main_v63 Cert.ConvRefIdeal.Read.val_main_v62 Cert.ConvRefIdeal.Read.val_main_cst_12
    Cert.ConvRefIdeal.Read.val_main_v59 Cert.ConvRefIdeal.Read.val_main_v58 Cert.ConvRefIdeal.Read.val_main_cst_11 Cert.ConvRefIdeal.Read.val_main_v57
    Cert.ConvRefIdeal.Read.val_main_v54 Cert.ConvRefIdeal.Read.val_main_v53 Cert.ConvRefIdeal.Read.val_main_cst_9 Cert.ConvRefIdeal.Read.val_main_v52
    Cert.ConvRefIdeal.Read.val_main_v51 Cert.ConvRefIdeal.Read.val_main_cst_8 Cert.ConvRefIdeal.Read.val_main_v48 Cert.ConvRefIdeal.Read.val_main_v47
    Cert.ConvRefIdeal.Read.val_main_cst_7 Cert.ConvRefIdeal.Read.val_main_v46 Cert.ConvRefIdeal.Read.val_main_v44 Cert.ConvRefIdeal.Read.val_main_cst_5
    Cert.ConvRefIdeal.Read.val_main_v43 Cert.ConvRefIdeal.Read.val_main_v42 Cert.ConvRefIdeal.Read.val_main_cst_4 Cert.ConvRefIdeal.Read.val_main_v39
    Cert.ConvRefIdeal.Read.val_main_v38 Cert.ConvRefIdeal.Read.val_main_cst_3 Cert.ConvRefIdeal.Read.val_main_v37 Cert.ConvRefIdeal.Read.val_main_v36
    Cert.ConvRefIdeal.Read.val_main_v35 Cert.ConvRefIdeal.Read.val_main_v28 Cert.ConvRefIdeal.Read.val_main_v21 Cert.ConvRefIdeal.Read.val_main_v14
    Cert.ConvRefIdeal.Read.val_main_v5
  have h := ref2_apply u
  generalize Cert.ConvRefIdeal.Read.val_main_v2 (F := Ideal) u = X at h ⊢
  unfold total
  fin_cases n
  all_goals
    pointwise [h]
    refine (Fin.sum_univ_one _).trans (Fin.sum_fin_congr fun r => (mul_comm _ _).trans (congrArg₂ HMul.hMul (rowAt_body ct r q).symm (congrArg (rowAt u · q) ?_)))
    first | rfl | omega

/-- The bias's gradient, one element. -/
theorem ref70_apply (u ct : FVec Ideal S4096x2048 .f32) (q : Fin 2048) : Cert.ConvRefIdeal.Read.val_main_v70 (F := Ideal) ct (ix1 q) = total u ct 4 q := by
  unfold Cert.ConvRefIdeal.Read.val_main_v70 Cert.ConvRefIdeal.Read.val_main_cst_16 Cert.ConvRefIdeal.Read.val_main_v69 Cert.ConvRefIdeal.Read.val_main_v68
    Cert.ConvRefIdeal.Read.val_main_cst_15 Cert.ConvRefIdeal.Read.val_main_v35
  unfold total
  pointwise [rowAt_body]
  exact Fin.sum_univ_one _

/-- A product with a row, where the row is the array's and where it is a zero. -/
theorem rowAt_mul (X : FVec Ideal S4096x2048 .f32) (n : ℕ) (q : Fin 2048) (w : EReal) (P : Prop) [Decidable P] (k : P → Fin 4096)
    (hP : P ↔ 16 ≤ n ∧ n < 4112) (hk : ∀ h, (k h).val = n - 16) : (if h : P then X (ix2 (k h) q) * w else 0) = rowAt X n q * w := by
  unfold rowAt
  by_cases h : P
  · rw [dif_pos h, dif_pos (hP.mp h)]
    exact congrArg (X · * w) (congrArg (ix2 · q) (Fin.ext (hk h)))
  · rw [dif_neg h, dif_neg (fun h' => h (hP.mpr h')), zero_mul]

/-- The cotangent of the rows under the filter, one element. -/
theorem ref85_apply (w : FVec Ideal S4x2048 .f32) (ct : FVec Ideal S4096x2048 .f32) (r : Fin 4096) (q : Fin 2048) :
    Cert.ConvRefIdeal.Read.val_main_v85 (F := Ideal) w ct (ix2 r q)
      = rowAt ct (15 + r.val) q * w (ix2 3 q) + rowAt ct (16 + r.val) q * w (ix2 2 q) + rowAt ct (17 + r.val) q * w (ix2 1 q) + rowAt ct (18 + r.val) q * w (ix2 0 q) := by
  unfold Cert.ConvRefIdeal.Read.val_main_v85 Cert.ConvRefIdeal.Read.val_main_v83 Cert.ConvRefIdeal.Read.val_main_v81 Cert.ConvRefIdeal.Read.val_main_v80
    Cert.ConvRefIdeal.Read.val_main_cst_20 Cert.ConvRefIdeal.Read.val_main_v75 Cert.ConvRefIdeal.Read.val_main_v74 Cert.ConvRefIdeal.Read.val_main_v67
    Cert.ConvRefIdeal.Read.val_main_v66 Cert.ConvRefIdeal.Read.val_main_cst_14 Cert.ConvRefIdeal.Read.val_main_v61 Cert.ConvRefIdeal.Read.val_main_v60
    Cert.ConvRefIdeal.Read.val_main_v56 Cert.ConvRefIdeal.Read.val_main_v55 Cert.ConvRefIdeal.Read.val_main_cst_10 Cert.ConvRefIdeal.Read.val_main_v50
    Cert.ConvRefIdeal.Read.val_main_v49 Cert.ConvRefIdeal.Read.val_main_v45 Cert.ConvRefIdeal.Read.val_main_cst_6 Cert.ConvRefIdeal.Read.val_main_v41
    Cert.ConvRefIdeal.Read.val_main_v40 Cert.ConvRefIdeal.Read.val_main_v36 Cert.ConvRefIdeal.Read.val_main_v35 Cert.ConvRefIdeal.Read.val_main_v31
    Cert.ConvRefIdeal.Read.val_main_v30 Cert.ConvRefIdeal.Read.val_main_v29 Cert.ConvRefIdeal.Read.val_main_v24 Cert.ConvRefIdeal.Read.val_main_v23
    Cert.ConvRefIdeal.Read.val_main_v22 Cert.ConvRefIdeal.Read.val_main_v17 Cert.ConvRefIdeal.Read.val_main_v16 Cert.ConvRefIdeal.Read.val_main_v15
    Cert.ConvRefIdeal.Read.val_main_v8 Cert.ConvRefIdeal.Read.val_main_v7 Cert.ConvRefIdeal.Read.val_main_v6
  pointwise
  rw [rowAt_body]
  refine congrArg₂ HAdd.hAdd (congrArg₂ HAdd.hAdd (congrArg₂ HAdd.hAdd (rowAt_mul ct (15 + r.val) q _ _ _ ?_ ?_) rfl) (rowAt_mul ct (17 + r.val) q _ _ _ ?_ ?_)) (rowAt_mul ct (18 + r.val) q _ _ _ ?_ ?_)
  all_goals first | omega | (intro _; simp; omega)

/-- The filter run backwards over a point's rows, one element. -/
def back (e : FVec Ideal S2080x256 .f32) (w0 w1 w2 w3 : FVec Ideal S1x256 .f32) (y : Fin 2048) (q : Fin 256) : EReal :=
  e (ix2 ⟨(16 + y.val + 2080 - 2078) % 2080, Nat.mod_lt _ (by decide)⟩ q) * w0 (ix2 0 q)
    + e (ix2 ⟨(16 + y.val + 2080 - 2079) % 2080, Nat.mod_lt _ (by decide)⟩ q) * w1 (ix2 0 q)
    + e (ix2 ⟨16 + y.val, by omega⟩ q) * w2 (ix2 0 q)
    + e (ix2 ⟨(16 + y.val + 2080 - 1) % 2080, Nat.mod_lt _ (by decide)⟩ q) * w3 (ix2 0 q)

/-- A point's block of the cotangent of the rows under the filter, one element. -/
theorem pay2_apply (i : BitVec 32) (a : FVec Ideal S2048x256 .f32) (b d : FVec Ideal S16x256 .f32) (w0 w1 w2 w3 : FVec Ideal S1x256 .f32) (y : Fin 2048) (q : Fin 256) :
    k0_pay2 (F := Ideal) (k0_pay12 (k0_pay4 i a b d) (k0_pay8 i a b d w0 w1) w2 w3) (ix3 0 y q) = back (k0_pay4 i a b d) w0 w1 w2 w3 y q := by
  unfold back
  unfold k0_pay2 k0_pay12 k0_pay8
  generalize k0_pay4 (F := Ideal) i a b d = e
  pointwise

/-- The filter's row `k` as a point loads it. -/
theorem w_at (c : Dev nD) (t : Fin cfg0.N) (k : Fin 4) (q : Fin 256)
    (p : ∀ a : Fin 2, (![k.val, 0] : Fin 2 → ℕ) a + (![1, 256] : Fin 2 → ℕ) a ≤ (![16, 256] : Fin 2 → ℕ) a) :
    View.ld (iblk m c 2 t) (Rect.unit (s := S16x256) ![k.val, 0] ![1, 256] p) (ix2 0 q) = m ((c : Thread nD τ).loc main_arg1) (ix2 k (col t q)) := by
  rw [View.ld_unit_apply_of _ _ _ _ _ (ix2 ⟨k.val, by omega⟩ q) (fun a => by
    match a with
    | ⟨0, _⟩ => rfl
    | ⟨1, _⟩ => exact (Nat.zero_add _).symm)]
  exact blk2 m c t _ k q rfl

/-- What a point leaves in its block of the cotangent. -/
theorem point3 (c : Dev nD) (t : Fin cfg0.N) (y : Fin 2048) (q : Fin 256) (r : Fin 4096) (hr : r.val = t.val % 2 * 2048 + y.val) :
    (outsAt0 m c t.val t.isLt).1 (ix3 0 y q)
      = Cert.ConvRefIdeal.Read.val_main_v85 (F := Ideal) (m ((c : Thread nD τ).loc main_arg1)) (m ((c : Thread nD τ).loc main_arg3)) (ix2 r (col t q)) := by
  have key : ∀ p1 p2 p3 w0 w1 w2 w3, (∀ y, w0 (ix2 0 y) = m ((c : Thread nD τ).loc main_arg1) (ix2 0 (col t y))) →
      (∀ y, w1 (ix2 0 y) = m ((c : Thread nD τ).loc main_arg1) (ix2 1 (col t y))) → (∀ y, w2 (ix2 0 y) = m ((c : Thread nD τ).loc main_arg1) (ix2 2 (col t y))) →
      (∀ y, w3 (ix2 0 y) = m ((c : Thread nD τ).loc main_arg1) (ix2 3 (col t y))) →
      k0_pay2 (F := Ideal) (k0_pay12 (k0_pay4 (BitVec.ofNat 32 ((grid0.coords t) 1).val) (View.ld (iblk m c 1 t) (Rect.unit (s := S4096x256) (k0_off1 (grid0.coords t)) ![2048, 256] p1))
          (View.ld (iblk m c 1 t) (Rect.unit (s := S4096x256) (k0_off2 (grid0.coords t)) ![16, 256] p2)) (View.ld (iblk m c 1 t) (Rect.unit (s := S4096x256) (k0_off3 (grid0.coords t)) ![16, 256] p3)))
        (k0_pay8 (BitVec.ofNat 32 ((grid0.coords t) 1).val) (View.ld (iblk m c 1 t) (Rect.unit (s := S4096x256) (k0_off1 (grid0.coords t)) ![2048, 256] p1))
          (View.ld (iblk m c 1 t) (Rect.unit (s := S4096x256) (k0_off2 (grid0.coords t)) ![16, 256] p2)) (View.ld (iblk m c 1 t) (Rect.unit (s := S4096x256) (k0_off3 (grid0.coords t)) ![16, 256] p3)) w0 w1) w2 w3) (ix3 0 y q)
        = Cert.ConvRefIdeal.Read.val_main_v85 (F := Ideal) (m ((c : Thread nD τ).loc main_arg1)) (m ((c : Thread nD τ).loc main_arg3)) (ix2 r (col t q)) := by
    intro p1 p2 p3 w0 w1 w2 w3 h0 h1 h2 h3
    have e : ∀ n n' : ℕ, n = n' → rowAt (m ((c : Thread nD τ).loc main_arg3)) n (col t q) = rowAt (m ((c : Thread nD τ).loc main_arg3)) n' (col t q) := fun n n' h => by rw [h]
    rw [pay2_apply, ref85_apply]
    unfold back
    rw [d_at, d_at, d_at, d_at, h0, h1, h2, h3]
    refine Eq.trans ?_ ((add_comm _ _).trans ((congrArg (_ + ·) ((add_comm _ _).trans (congrArg (_ + ·) (add_comm _ _)))).trans (by rw [← add_assoc, ← add_assoc])))
    refine congrArg₂ HAdd.hAdd (congrArg₂ HAdd.hAdd (congrArg₂ HAdd.hAdd (congrArg (· * _) (e _ _ ?_)) (congrArg (· * _) (e _ _ ?_))) (congrArg (· * _) (e _ _ ?_))) (congrArg (· * _) (e _ _ ?_))
    all_goals simp; omega
  rcases Nat.mod_two_eq_zero_or_one t.val with h | h
  · rw [outsAt0_A m c t h]; frame_out
    exact key _ _ _ _ _ _ _ (fun y => w_at m c t 0 y _) (fun y => w_at m c t 1 y _) (fun y => w_at m c t 2 y _) (fun y => w_at m c t 3 y _)
  · rw [outsAt0_B m c t (by omega)]; frame_out
    exact key _ _ _ _ _ _ _ (fun y => w_at m c t 0 y _) (fun y => w_at m c t 1 y _) (fun y => w_at m c t 2 y _) (fun y => w_at m c t 3 y _)

/-- Where a point's block of the cotangent sits in the array of five layers. -/
theorem emb3 (t : Fin cfg0.N) (y : ((cfg0.win 3).xblock (cfg0.grid.coords t)).Idx) :
    ((win0_3.blk t).view.emb y 1).val = t.val % 2 * 2048 + (y 1).val ∧ ((win0_3.blk t).view.emb y 2).val = t.val / 2 * 256 + (y 2).val := by
  have e := (idx t).2.2.2.1
  refine ⟨?_, ?_⟩
  · blk_simp
    rw [e]; rfl
  · blk_simp
    rw [e]; rfl

/-- The fourth layer after the run. -/
theorem final3 (c : Dev nD) (i : S5x4096x2048.Idx) (hi : (i 0).val = 3) : (dats m 0 c).arrAt 3 (cfgs 0).N i
    = Cert.ConvRefIdeal.Read.val_main_v85 (F := Ideal) (m ((c : Thread nD τ).loc main_arg1)) (m ((c : Thread nD τ).loc main_arg3)) (ix2 (i 1) (i 2)) := by
  refine ((dats m 0 c).arrAt_apply_of_coversWhere 3 (fun i => Cert.ConvRefIdeal.Read.val_main_v85 (F := Ideal) (m ((c : Thread nD τ).loc main_arg1)) (m ((c : Thread nD τ).loc main_arg3)) (ix2 (i 1) (i 2)))
    (P := fun i => (i 0).val = 3) (fun β => β (0 : Fin _) = 3) (by decide +kernel) (fun t hf y => ?_) (fun j => ?_) i).trans (if_pos hi)
  · blk_simp
    rw [after0_3]
    obtain ⟨y0, y1, y2, hz⟩ : ∃ (y0 : Fin 1) (y1 : Fin 2048) (y2 : Fin 256), (y : S1x2048x256.Idx) = ix3 y0 y1 y2 := ⟨_, _, _, eq_ix3 _⟩
    obtain rfl : y0 = 0 := Subsingleton.elim _ _
    have h1 : (y 1).val = y1.val := congrArg (fun z : S1x2048x256.Idx => (z 1).val) hz
    have h2 : (y 2).val = y2.val := congrArg (fun z : S1x2048x256.Idx => (z 2).val) hz
    refine (congrArg (outsAt0 m c t.val t.isLt).1 hz).trans ((point3 m c t y1 y2 ((win0_3.blk t).view.emb y 1) (((emb3 t y).1).trans (congrArg (_ + ·) h1))).trans ?_)
    refine congrArg _ (congrArg (ix2 _) (Fin.ext ?_))
    exact (((emb3 t y).2).trans (congrArg (_ + ·) h2)).symm
  · blk_simp [Pipeline.Window.cell_apply]
    omega

/-- The cotangent of the rows under the filter, cut out of the five layers. -/
theorem tail9 (c : Dev nD) : Pipeline.afterTail₀ cfgs (dats m) 0 (V0 m) [hostOps1] c main_v9 = Cert.ConvRefIdeal.Read.val_main_v85 (F := Ideal) (m ((c : Thread nD τ).loc main_arg1)) (m ((c : Thread nD τ).loc main_arg3)) := by
  unfold Pipeline.afterTail₀
  simp only [hostOps1, List.flatten_cons, List.flatten_nil, List.append_nil]
  after_results_simp
  refine (congrArg (fun X : FVec Ideal S5x4096x2048 .bf16 => shapeCast S4096x2048 (extractStridedSlice S1x4096x2048 ![3, 0, 0] X slices_S5x4096x2048_S1x4096x2048_3_0_0) shapeCasts_S1x4096x2048_S4096x2048)
    (Pipeline.withArrays_arr (cfgs 0).spec (by decide) c (V0 m c) _ 3)).trans ?_
  have h := final3 m c
  generalize (dats m 0 c).arrAt 3 (cfgs 0).N = X at h ⊢
  generalize Cert.ConvRefIdeal.Read.val_main_v85 (F := Ideal) (m ((c : Thread nD τ).loc main_arg1)) (m ((c : Thread nD τ).loc main_arg3)) = Z at h ⊢
  funext i
  idx_vars i
  refine Eq.trans ?_ (h (ix3 3 i0 i1) rfl)
  pointwise

/-- The filter's gradient, the first four rows. -/
theorem tail10 (c : Dev nD) : Pipeline.afterTail₀ cfgs (dats m) 0 (V0 m) [hostOps1] c main_v10 = Cert.ConvRefIdeal.Read.val_main_v79 (F := Ideal) (m ((c : Thread nD τ).loc main_arg0)) (m ((c : Thread nD τ).loc main_arg3)) := by
  unfold Pipeline.afterTail₀
  simp only [hostOps1, List.flatten_cons, List.flatten_nil, List.append_nil]
  after_results_simp
  refine (congrArg (fun X : FVec Ideal S8x2048 .f32 => extractStridedSlice S4x2048 ![0, 0] X slices_S8x2048_S4x2048_0_0)
    (Pipeline.withArrays_arr (cfgs 0).spec (by decide) c (V0 m c) _ 4)).trans ?_
  rw [final4 m c]
  funext i
  idx_vars i
  rw [ref79_apply]
  pointwise
  exact if_pos (by omega)

/-- The bias's gradient, the fifth row. -/
theorem tail12 (c : Dev nD) : Pipeline.afterTail₀ cfgs (dats m) 0 (V0 m) [hostOps1] c main_v12 = Cert.ConvRefIdeal.Read.val_main_v70 (F := Ideal) (m ((c : Thread nD τ).loc main_arg3)) := by
  unfold Pipeline.afterTail₀
  simp only [hostOps1, List.flatten_cons, List.flatten_nil, List.append_nil]
  after_results_simp
  refine (congrArg (fun X : FVec Ideal S8x2048 .f32 => shapeCast S2048 (extractStridedSlice S1x2048 ![4, 0] X slices_S8x2048_S1x2048_4_0) shapeCasts_S1x2048_S2048)
    (Pipeline.withArrays_arr (cfgs 0).spec (by decide) c (V0 m c) _ 4)).trans ?_
  rw [final4 m c]
  funext i
  idx_vars i
  rw [ref70_apply (m ((c : Thread nD τ).loc main_arg0))]
  pointwise

end Cert.ConvIdeal.Value

end
-- ==== Proof.DyLru.lean ====
/- The cotangent of the recurrence's states: the launch leaves the product the reference takes, times the gate, which is the same function of the gate's input in both. -/
module

public import proofs.«01_k».proof.Proof.Gen.DyLruIdeal.Frame
public import proofs.«01_k».proof.Proof.Gen.DyLruRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DyLruIdeal.Value

open Cert.DyLruIdeal Cert.DyLruIdeal.Gen

variable (m : (ℓ : Loc nD τ sig) → Buf (Elt Ideal) ℓ)

/-- Where the blocks of the windows read here sit. -/
theorem idx : ∀ t : Fin cfg0.N, win0_0.index t = ![t.val / 2, 0] ∧ win0_1.index t = ![t.val % 2, 0]
    ∧ win0_4.index t = ![t.val / 2, 4 + t.val % 2] ∧ win0_5.index t = ![t.val / 2, t.val % 2] :=
  (by decide +kernel : ∀ t : Fin grid0.N, _)

/-- The gate, as the reference computes it of its input. -/
def gate (u : EReal) : EReal :=
  u * (Ideal.ofBits .f32 0x3F000000#32 * (1 + Ideal.tanh (Ideal.ofBits .f32 0x3F4C422A#32 * (u + Ideal.ofBits .f32 0x3D372713#32 * (u * u * u)))))

/-- One element of a point's product. -/
theorem pay2_apply (a : FVec Ideal S512x2048 .bf16) (b : FVec Ideal S1024x2048 .bf16) (y : S512x1024.Idx) :
    k0_pay2 (F := Ideal) a b y = ∑ k : Fin 2048, a (ix2 (y 0) k) * b (ix2 (y 1) k) := by
  pointwise [k0_pay2]

/-- One element of what a point leaves: its product times the gate. -/
theorem pay4_apply (a : FVec Ideal S512x2048 .bf16) (b : FVec Ideal S1024x2048 .bf16) (u : FVec Ideal S512x1024 .f32) (y : S512x1024.Idx) :
    k0_pay4 (F := Ideal) a b u y = (∑ k : Fin 2048, a (ix2 (y 0) k) * b (ix2 (y 1) k)) * gate (u y) := by
  rw [← pay2_apply]
  unfold gate
  pointwise [k0_pay4, k0_pay3]
  rw [mul_comm (Ideal.ofBits .f32 0x3F000000#32) (u y), mul_assoc (u y), mul_assoc (Ideal.ofBits .f32 0x3D372713#32), mul_assoc (Ideal.ofBits .f32 0x3D372713#32)]

/-- The reference's gate. -/
theorem ref13_apply (u : FVec Ideal S4096x2048 .f32) (i : S4096x2048.Idx) : Cert.DyLruRefIdeal.Read.val_main_v13 (F := Ideal) u i = gate (u i) := by
  unfold Cert.DyLruRefIdeal.Read.val_main_v13 Cert.DyLruRefIdeal.Read.val_main_v12 Cert.DyLruRefIdeal.Read.val_main_v11 Cert.DyLruRefIdeal.Read.val_main_v10 Cert.DyLruRefIdeal.Read.val_main_v9 Cert.DyLruRefIdeal.Read.val_main_v8 Cert.DyLruRefIdeal.Read.val_main_v7 Cert.DyLruRefIdeal.Read.val_main_v6 Cert.DyLruRefIdeal.Read.val_main_v5 Cert.DyLruRefIdeal.Read.val_main_v4 Cert.DyLruRefIdeal.Read.val_main_v3 Cert.DyLruRefIdeal.Read.val_main_v2 Cert.DyLruRefIdeal.Read.val_main_v1 Cert.DyLruRefIdeal.Read.val_main_cst Cert.DyLruRefIdeal.Read.val_main_cst_0 Cert.DyLruRefIdeal.Read.val_main_cst_1 Cert.DyLruRefIdeal.Read.val_main_cst_2 gate
  pointwise

/-- One element of the reference's cotangent. -/
theorem ref17_apply (u : FVec Ideal S4096x2048 .f32) (w : FVec Ideal S2048x2048 .f32) (ct : FVec Ideal S4096x2048 .f32) (i : S4096x2048.Idx) :
    Cert.DyLruRefIdeal.Read.val_main_v17 (F := Ideal) u w ct i = (∑ k : Fin 2048, ct (ix2 (i 0) k) * w (ix2 (i 1) k)) * gate (u i) := by
  rw [← ref13_apply]
  idx_vars i
  unfold Cert.DyLruRefIdeal.Read.val_main_v17 Cert.DyLruRefIdeal.Read.val_main_v16
  generalize Cert.DyLruRefIdeal.Read.val_main_v13 (F := Ideal) u = g
  pointwise

/-- The gate's input as its window reads it, behind two arrays' width of zeros. -/
theorem gate_input (c : Dev nD) (r : Fin 4096) (q : Fin 2048) (i : S4096x10240.Idx) (h0 : (i 0).val = r.val) (h1 : (i 1).val = 4096 + q.val) :
    V m c main_v2 i = (m ((c : Thread nD τ).loc main_arg2)) (ix2 r q) := by
  have hq : 4096 + q.val < 10240 := by have := q.isLt; omega
  obtain rfl : i = ix2 r ⟨4096 + q.val, hq⟩ := by
    funext a
    match a with
    | ⟨0, _⟩ => exact Fin.ext h0
    | ⟨1, _⟩ => exact Fin.ext h1
  clear h0 h1
  show StableHlo.after (List.flatten [hostOps0]) (fun b => m (c, b)) (Proc.tc.devRef main_v2) _ = _
  set_option maxHeartbeats 1600000 in
  simp only [hostOps0, List.flatten_cons, List.flatten_nil, List.append_nil, List.nil_append, List.cons_append, StableHlo.after_cons, StableHlo.after_nil]
  after_results_simp
  pointwise

/-- The gate's input a point reads. -/
theorem point_gate (c : Dev nD) (t : Fin cfg0.N) (y : S512x1024.Idx) (i : S4096x2048.Idx) (h0 : (i 0).val = t.val / 2 * 512 + (y 0).val) (h1 : (i 1).val = t.val % 2 * 1024 + (y 1).val) :
    iblk m c 4 t y = (m ((c : Thread nD τ).loc main_arg2)) i := by
  rw [eq_ix2 i]
  refine Eq.trans ?_ (gate_input m c (i 0) (i 1) (ix2 (i 0) ⟨4096 + (i 1).val, ?_⟩) rfl rfl)
  · blk_point [iblk, idx t]
  · exact Nat.lt_of_lt_of_le (Nat.add_lt_add_left (i 1).isLt 4096) (by decide)

/-- The result after the run. -/
theorem final (c : Dev nD) : (dats m 0 c).arrAt 5 (cfgs 0).N
    = Cert.DyLruRefIdeal.Read.val_main_v17 (F := Ideal) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]; unfold outsAt0; frame_out
  rw [pay4_apply, ref17_apply]
  refine congrArg₂ HMul.hMul ?_ (congrArg gate ?_)
  · blk_point [iblk, V, idx t]
  · refine point_gate m c t y _ ?_ ?_
    all_goals blk_point [idx t]

end Cert.DyLruIdeal.Value

end
-- ==== Proof.AdamBig.lean ====
/- What the optimiser's launches on the large weights share: the AdamW step of one element, the own quarter of the gradient parts, and the
   reference's step read at an element. -/
module

public import Idealize.ShloMosaic.Lib.Pipeline.ValueKit
public import Idealize.ShloMosaic.Lib.Pipeline.Covers
public import Idealize.ShloMosaic.Lib.Pointwise
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.AdamBig

/-- The quarter a device's number picks: the number read signed, clamped to 0..3. -/
def part (q : BitVec 32) : Fin 4 := ⟨min q.toInt.toNat 3, by omega⟩

/-- The launch's clamp of the number is the quarter's word. -/
theorem clip_word (q : BitVec 32) : IntOp.minsi 3#32 (IntOp.maxsi 0#32 q) = BitVec.ofNat 32 (part q).val := by
  unfold IntOp.minsi IntOp.maxsi part
  simp only [BitVec.slt, BitVec.sle]
  have := q.isLt
  apply BitVec.eq_of_toNat_eq
  simp only [BitVec.toInt_eq_toNat_cond]
  repeat' split
  all_goals simp_all <;> omega

/-- The only index of a one-word table. -/
theorem one_idx (y : (⟨1, ![1]⟩ : Shape).Idx) : y = ix1 (0 : Fin 1) := by
  funext a
  obtain rfl : a = 0 := Subsingleton.elim (α := Fin 1) _ _
  exact Subsingleton.elim (α := Fin 1) _ _

/-- The sum of the own quarter and the received ones. -/
def total (a : EReal) (b : Fin 3 → EReal) : EReal := a + ∑ k : Fin 3, b k

/-- The first moment, of the gradient and the old moment. -/
def first (g u : EReal) : EReal := Ideal.ofBits .f32 0x3F666666#32 * u + Ideal.ofBits .f32 0x3DCCCCCD#32 * g

/-- The second moment. -/
def second (g v : EReal) : EReal := Ideal.ofBits .f32 0x3F7FBE77#32 * v + Ideal.ofBits .f32 0x3A83126F#32 * (g * g)

/-- The step, of the weight and the two new moments. -/
def step (w u v : EReal) : EReal :=
  Ideal.ofBits .f32 0xBA83126F#32 * (Ideal.div (Ideal.div u (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

/-- The gather's dimension numbers that pick along the leading axis of an array of rank four. -/
abbrev lead3 (N A B C : Nat) (wf : GatherDims.WF ⟨4, ![N, A, B, C]⟩ ⟨1, ![1]⟩ ⟨3, ![A, B, C]⟩ [0, 1, 2] [0] [] [0] [] 0 ![1, A, B, C]) :
    GatherDims ⟨4, ![N, A, B, C]⟩ ⟨1, ![1]⟩ ⟨3, ![A, B, C]⟩ where
  offsetDims := [0, 1, 2]
  collapsedSliceDims := [0]
  operandBatchingDims := []
  startIndicesBatchingDims := []
  startIndexMap := [0]
  indexVectorDim := 0
  sliceSizes := ![1, A, B, C]
  wf := wf

theorem gather_lead3 {α : Type} {A B C : Nat} (wf : GatherDims.WF ⟨4, ![4, A, B, C]⟩ ⟨1, ![1]⟩ ⟨3, ![A, B, C]⟩ [0, 1, 2] [0] [] [0] [] 0 ![1, A, B, C])
    (x : (⟨4, ![4, A, B, C]⟩ : Shape).Idx → α) (q : IVec ⟨1, ![1]⟩ 32) (y : (⟨3, ![A, B, C]⟩ : Shape).Idx) :
    Host.gather (lead3 4 A B C wf) x q y = x (ix4 (part (q (ix1 (0 : Fin 1)))) (y 0) (y 1) (y 2)) := by
  unfold Host.gather
  congr 1
  funext a
  refine Fin.ext ?_
  show (lead3 4 A B C wf).start y q a + (lead3 4 A B C wf).batchCoord y a + (lead3 4 A B C wf).offCoord y a = _
  have hk : (lead3 4 A B C wf).sKept = [1, 2, 3] := rfl
  have hc : a = 0 ∨ a = 1 ∨ a = 2 ∨ a = 3 := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rw [GatherDims.batchCoord_eq_zero _ _ _ List.not_mem_nil]
  rcases hc with rfl | rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 4) ∈ (lead3 4 A B C wf).startIndexMap from List.mem_singleton.mpr rfl)]
    exact congrArg (fun j => min (q j).toInt.toNat 3) (one_idx _)
  all_goals
    unfold GatherDims.start GatherDims.offCoord
    rw [dif_neg (by simp), dif_pos (by rw [hk]; simp)]
    simp only [Nat.zero_add, hk]
    rfl

/-- An index whose leading axis has one place. -/
theorem flat {A B : Nat} (y : (⟨3, ![1, A, B]⟩ : Shape).Idx) : (ix3 0 (y 1) (y 2) : (⟨3, ![1, A, B]⟩ : Shape).Idx) = y := by
  funext a
  match a with
  | ⟨0, _⟩ => exact Subsingleton.elim (α := Fin 1) _ _
  | ⟨1, _⟩ => rfl
  | ⟨2, _⟩ => rfl

/-- One of three received blocks, read at an element. -/
theorem slab {A B C : Nat} (k : Fin 3) (r : Vec Ideal ⟨4, ![3, A, B, C]⟩ .bf16) (a a' : Fin A) (b : Fin B) (c : Fin C)
    (h : ∀ x, (![k.val, 0, 0, 0] : Fin 4 → Nat) x + (⟨4, ![1, A, B, C]⟩ : Shape).size x ≤ (⟨4, ![3, A, B, C]⟩ : Shape).size x) (e : a' = a := by exact Subsingleton.elim _ _) :
    View.ld (Val := Elt Ideal) (e' := .bf16) r (Rect.unit (s := ⟨4, ![3, A, B, C]⟩) ![k.val, 0, 0, 0] (⟨4, ![1, A, B, C]⟩ : Shape).size h) (ix4 0 a' b c) = r (ix4 k a b c) := by
  subst e
  refine congrArg r (funext fun x => Fin.ext ?_)
  match x with
  | ⟨0, _⟩ => show k.val + 1 * 0 = k.val; omega
  | ⟨1, _⟩ => show 0 + 1 * a'.val = a'.val; omega
  | ⟨2, _⟩ => show 0 + 1 * b.val = b.val; omega
  | ⟨3, _⟩ => show 0 + 1 * c.val = c.val; omega

/-- The reference's first moment at an element. -/
theorem host_first {s : Shape} (h : (⟨0, ![]⟩ : Shape).BroadcastsInDim s ![]) (g u : FVec Ideal s .f32) (i : s.Idx) :
    addf (mulf (broadcastInDim s ![] h (constant (F := Ideal) ⟨0, ![]⟩ .f32 0x3F666666#32)) u) (mulf (broadcastInDim s ![] h (constant (F := Ideal) ⟨0, ![]⟩ .f32 0x3DCCCCCD#32)) g) i = first (g i) (u i) := by
  unfold first
  pointwise

/-- The reference's second moment at an element. -/
theorem host_second {s : Shape} (h : (⟨0, ![]⟩ : Shape).BroadcastsInDim s ![]) (g v : FVec Ideal s .f32) (i : s.Idx) :
    addf (mulf (broadcastInDim s ![] h (constant (F := Ideal) ⟨0, ![]⟩ .f32 0x3F7FBE77#32)) v) (mulf (broadcastInDim s ![] h (constant (F := Ideal) ⟨0, ![]⟩ .f32 0x3A83126F#32)) (mulf g g)) i = second (g i) (v i) := by
  unfold second
  pointwise

/-- The reference's step at an element, of the weight and the two new moments. -/
theorem host_step {s : Shape} (h : (⟨0, ![]⟩ : Shape).BroadcastsInDim s ![]) (w u v : FVec Ideal s .f32) (i : s.Idx) :
    mulf (broadcastInDim s ![] h (constant (F := Ideal) ⟨0, ![]⟩ .f32 0xBA83126F#32))
      (addf (Host.divf (Host.divf u (broadcastInDim s ![] h (constant (F := Ideal) ⟨0, ![]⟩ .f32 0x3F26BD02#32)))
          (addf (Host.sqrt (Host.divf v (broadcastInDim s ![] h (constant (F := Ideal) ⟨0, ![]⟩ .f32 0x3C231ACC#32)))) (broadcastInDim s ![] h (constant (F := Ideal) ⟨0, ![]⟩ .f32 0x322BCC77#32))))
        (mulf (broadcastInDim s ![] h (constant (F := Ideal) ⟨0, ![]⟩ .f32 0x3C23D70A#32)) w)) i
      = step (w i) (u i) (v i) := by
  unfold step
  pointwise

/-- The reference's gradient at an element. -/
theorem host_total {A B C : Nat} (wf : GatherDims.WF ⟨4, ![4, A, B, C]⟩ ⟨1, ![1]⟩ ⟨3, ![A, B, C]⟩ [0, 1, 2] [0] [] [0] [] 0 ![1, A, B, C])
    (x : FVec Ideal ⟨4, ![4, A, B, C]⟩ .bf16) (r : FVec Ideal ⟨4, ![3, A, B, C]⟩ .bf16) (q : IVec ⟨1, ![1]⟩ 32) (b : FTy.bits .bf16 < FTy.bits .f32)
    (h : (⟨4, ![3, A, B, C]⟩ : Shape).ReducesTo [0] ⟨3, ![A, B, C]⟩) (h0 : 0 < (⟨0, ![]⟩ : Shape).numel) (i : (⟨3, ![A, B, C]⟩ : Shape).Idx) :
    addf (extf .f32 (Host.gather (lead3 4 A B C wf) x q) b) (Host.reduceAdd (extf .f32 r b) (constant (F := Ideal) ⟨0, ![]⟩ .f32 0x00000000#32) h h0) i
      = total (x (ix4 (part (q (ix1 (0 : Fin 1)))) (i 0) (i 1) (i 2))) (fun k => r (ix4 k (i 0) (i 1) (i 2))) := by
  unfold total
  refine congrArg₂ HAdd.hAdd (gather_lead3 wf x q i) ?_
  pointwise

/-- A block's gradient at an element, as the kernel sums it. -/
theorem core_total {R C : Nat} (h : (⟨4, ![1, 1, R, C]⟩ : Shape).ShapeCasts ⟨2, ![R, C]⟩) (e : FTy.bits .bf16 < FTy.bits .f32)
    (a b0 b1 b2 : FVec Ideal ⟨4, ![1, 1, R, C]⟩ .bf16) (p : Fin R) (q : Fin C) :
    addf (addf (addf (extf .f32 (shapeCast ⟨2, ![R, C]⟩ a h) e) (extf .f32 (shapeCast ⟨2, ![R, C]⟩ b0 h) e)) (extf .f32 (shapeCast ⟨2, ![R, C]⟩ b1 h) e))
        (extf .f32 (shapeCast ⟨2, ![R, C]⟩ b2 h) e) (ix2 p q)
      = total (a (ix4 0 0 p q)) ![b0 (ix4 0 0 p q), b1 (ix4 0 0 p q), b2 (ix4 0 0 p q)] := by
  unfold total
  rw [Fin.sum_univ_three]
  pointwise
  rw [show Shape.reshapeEquiv h (ix2 p q) = ix4 0 0 p q from ValueIdx.reshapeEquiv_ix2_11ab h p q]
  simp only [add_assoc, Matrix.cons_val]

/-- A block's first moment at an element. -/
theorem core_first {R C : Nat} (h : (⟨3, ![1, R, C]⟩ : Shape).ShapeCasts ⟨2, ![R, C]⟩) (g : FVec Ideal ⟨2, ![R, C]⟩ .f32) (u : FVec Ideal ⟨3, ![1, R, C]⟩ .f32)
    (p : Fin R) (q : Fin C) :
    addf (mulf (broadcast ⟨2, ![R, C]⟩ (Scalar.ofBits (F := Ideal) .f32 0x3F666666#32)) (shapeCast ⟨2, ![R, C]⟩ u h))
        (mulf (broadcast ⟨2, ![R, C]⟩ (Scalar.ofBits (F := Ideal) .f32 0x3DCCCCCD#32)) g) (ix2 p q)
      = first (g (ix2 p q)) (u (ix3 0 p q)) := by
  unfold first
  pointwise
  rw [show Shape.reshapeEquiv h (ix2 p q) = ix3 0 p q from ValueIdx.reshapeEquiv_ix2_1ab h p q]

/-- A block's second moment at an element. -/
theorem core_second {R C : Nat} (h : (⟨3, ![1, R, C]⟩ : Shape).ShapeCasts ⟨2, ![R, C]⟩) (g : FVec Ideal ⟨2, ![R, C]⟩ .f32) (v : FVec Ideal ⟨3, ![1, R, C]⟩ .f32)
    (p : Fin R) (q : Fin C) :
    addf (mulf (broadcast ⟨2, ![R, C]⟩ (Scalar.ofBits (F := Ideal) .f32 0x3F7FBE77#32)) (shapeCast ⟨2, ![R, C]⟩ v h))
        (mulf (broadcast ⟨2, ![R, C]⟩ (Scalar.ofBits (F := Ideal) .f32 0x3A83126F#32)) (mulf g g)) (ix2 p q)
      = second (g (ix2 p q)) (v (ix3 0 p q)) := by
  unfold second
  pointwise
  rw [show Shape.reshapeEquiv h (ix2 p q) = ix3 0 p q from ValueIdx.reshapeEquiv_ix2_1ab h p q]

/-- A block's step at an element, of the weight and the two new moments. -/
theorem core_step {R C : Nat} (h : (⟨3, ![1, R, C]⟩ : Shape).ShapeCasts ⟨2, ![R, C]⟩) (w : FVec Ideal ⟨3, ![1, R, C]⟩ .f32) (u v : FVec Ideal ⟨2, ![R, C]⟩ .f32)
    (p : Fin R) (q : Fin C) :
    mulf (broadcast ⟨2, ![R, C]⟩ (Scalar.ofBits (F := Ideal) .f32 0xBA83126F#32))
        (addf (divf (divf u (broadcast ⟨2, ![R, C]⟩ (Scalar.ofBits (F := Ideal) .f32 0x3F26BD02#32)))
            (addf (sqrt (divf v (broadcast ⟨2, ![R, C]⟩ (Scalar.ofBits (F := Ideal) .f32 0x3C231ACC#32)))) (broadcast ⟨2, ![R, C]⟩ (Scalar.ofBits (F := Ideal) .f32 0x322BCC77#32))))
          (mulf (broadcast ⟨2, ![R, C]⟩ (Scalar.ofBits (F := Ideal) .f32 0x3C23D70A#32)) (shapeCast ⟨2, ![R, C]⟩ w h))) (ix2 p q)
      = step (w (ix3 0 p q)) (u (ix2 p q)) (v (ix2 p q)) := by
  unfold step
  pointwise
  rw [show Shape.reshapeEquiv h (ix2 p q) = ix3 0 p q from ValueIdx.reshapeEquiv_ix2_1ab h p q]

/-- Received block `k` of a point's three. -/
abbrev got {R C : Nat} (k : Nat) (r : Vec Ideal ⟨4, ![3, 1, R, C]⟩ .bf16) (h : ∀ x, (![k, 0, 0, 0] : Fin 4 → Nat) x + (⟨4, ![1, 1, R, C]⟩ : Shape).size x ≤ (⟨4, ![3, 1, R, C]⟩ : Shape).size x) :
    Vec Ideal ⟨4, ![1, 1, R, C]⟩ .bf16 :=
  View.ld (Val := Elt Ideal) (e' := .bf16) r (Rect.unit (s := ⟨4, ![3, 1, R, C]⟩) ![k, 0, 0, 0] (⟨4, ![1, 1, R, C]⟩ : Shape).size h)

/-- A block's gradient at an element, over the received blocks. -/
theorem block_total {R C : Nat} (h : (⟨4, ![1, 1, R, C]⟩ : Shape).ShapeCasts ⟨2, ![R, C]⟩) (e : FTy.bits .bf16 < FTy.bits .f32)
    (a : FVec Ideal ⟨4, ![1, 1, R, C]⟩ .bf16) (r : FVec Ideal ⟨4, ![3, 1, R, C]⟩ .bf16) (h0 h1 h2) (p : Fin R) (q : Fin C) :
    addf (addf (addf (extf .f32 (shapeCast ⟨2, ![R, C]⟩ a h) e) (extf .f32 (shapeCast ⟨2, ![R, C]⟩ (got 0 r h0) h) e)) (extf .f32 (shapeCast ⟨2, ![R, C]⟩ (got 1 r h1) h) e))
        (extf .f32 (shapeCast ⟨2, ![R, C]⟩ (got 2 r h2) h) e) (ix2 p q)
      = total (a (ix4 0 0 p q)) (fun k => r (ix4 k 0 p q)) := by
  refine (core_total h e _ _ _ _ p q).trans (congrArg _ (funext fun k => ?_))
  match k with
  | ⟨0, _⟩ => exact slab 0 r 0 _ p q _
  | ⟨1, _⟩ => exact slab 1 r 0 _ p q _
  | ⟨2, _⟩ => exact slab 2 r 0 _ p q _

end Cert.AdamBig

end
-- ==== Proof.AdamOut.lean ====
/- The optimiser's launch on one of the large weights: the sum of the four devices' parts of the own quarter of the gradient, and the AdamW step
   taken with it, as the reference has them. -/
module

public import proofs.«01_k».proof.Proof.AdamBig
public import proofs.«01_k».proof.Proof.Gen.AdamOut.Frame
public import proofs.«01_k».proof.Proof.Gen.AdamOutIdeal.Frame
public import proofs.«01_k».proof.Proof.Gen.AdamOutRefIdeal.Read
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamOut.Value

open Cert.AdamOut Cert.AdamOut.Gen

/-- The table holds the quarter's word. -/
theorem table {F : FTy → Type} [FloatOps F] (m : (ℓ : Loc nD τ sig) → Buf (Elt F) ℓ) :
    (tbl m) 0 = fun _ => BitVec.ofNat 32 (Cert.AdamBig.part (m (((0 : Dev nD) : Thread nD τ).loc main_arg0) (ix1 (0 : Fin 1)))).val := by
  funext y
  obtain rfl := Cert.AdamBig.one_idx y
  unfold tbl
  show V m 0 main_v0 (ix1 (0 : Fin 1)) = _
  simp only [V, hostOps0, hostOps0_1, List.flatten_cons, List.flatten_nil, List.append_nil, List.cons_append, List.nil_append]
  after_results_simp
  rw [← Cert.AdamBig.clip_word]
  rfl

/-- The own quarter's block, by the grid point. -/
theorem place {F : FTy → Type} (k : Fin 4) (pf : pre0.Contents (Elt F)) (h : pf 0 = fun _ => BitVec.ofNat 32 k.val) (i : grid0.Coords)
    (h1 : ∀ a, (![0] : Fin 1 → Nat) a + S1.size a ≤ S1.size a) (h2 : S1.numel = 1) :
    cc0_transform_0 h1 h2 pf i = ![k.val, (i 0).val / 2, (i 0).val % 2, 0] := by
  unfold cc0_transform_0
  simp only [Pipeline.Prefetch.Contents.at, h]
  clear h pf
  revert k i
  decide +kernel

/-- The launch's side condition: the own quarter's block lies inside the parts. -/
theorem ok {F : FTy → Type} [FloatOps F] (m : (ℓ : Loc nD τ sig) → Buf (Elt F) ℓ) : Ok m := by
  intro i
  have hp := place _ _ (table m) i Facts₀.inb_S1_S1_0 Facts₀.numel1_S1
  refine ⟨fun a => ?_, .inr (Affine.block_words_dvd (of_decide_eq_true rfl) (by decide))⟩
  rw [hp]
  clear hp
  generalize Cert.AdamBig.part _ = k
  revert a i k
  decide +kernel

end Cert.AdamOut.Value

namespace Cert.AdamOutIdeal.Value

open Cert.AdamOutIdeal Cert.AdamOutIdeal.Gen

/-- The table holds the quarter's word. -/
theorem table {F : FTy → Type} [FloatOps F] (m : (ℓ : Loc nD τ sig) → Buf (Elt F) ℓ) :
    (tbl m) 0 = fun _ => BitVec.ofNat 32 (Cert.AdamBig.part (m (((0 : Dev nD) : Thread nD τ).loc main_arg0) (ix1 (0 : Fin 1)))).val := by
  funext y
  obtain rfl := Cert.AdamBig.one_idx y
  unfold tbl
  show V m 0 main_v0 (ix1 (0 : Fin 1)) = _
  simp only [V, hostOps0, hostOps0_1, List.flatten_cons, List.flatten_nil, List.append_nil, List.cons_append, List.nil_append]
  after_results_simp
  rw [← Cert.AdamBig.clip_word]
  rfl

/-- The own quarter's block, by the grid point. -/
theorem place {F : FTy → Type} (k : Fin 4) (pf : pre0.Contents (Elt F)) (h : pf 0 = fun _ => BitVec.ofNat 32 k.val) (i : grid0.Coords)
    (h1 : ∀ a, (![0] : Fin 1 → Nat) a + S1.size a ≤ S1.size a) (h2 : S1.numel = 1) :
    cc0_transform_0 h1 h2 pf i = ![k.val, (i 0).val / 2, (i 0).val % 2, 0] := by
  unfold cc0_transform_0
  simp only [Pipeline.Prefetch.Contents.at, h]
  clear h pf
  revert k i
  decide +kernel

/-- The launch's side condition: the own quarter's block lies inside the parts. -/
theorem ok {F : FTy → Type} [FloatOps F] (m : (ℓ : Loc nD τ sig) → Buf (Elt F) ℓ) : Ok m := by
  intro i
  have hp := place _ _ (table m) i Facts₀.inb_S1_S1_0 Facts₀.numel1_S1
  refine ⟨fun a => ?_, .inr (Affine.block_words_dvd (of_decide_eq_true rfl) (by decide))⟩
  rw [hp]
  clear hp
  generalize Cert.AdamBig.part _ = k
  revert a i k
  decide +kernel

variable (m : (ℓ : Loc nD τ sig) → Buf (Elt Ideal) ℓ)

/-- One element of a block's gradient. -/
theorem total_apply (a b0 b1 b2 : FVec Ideal S1x1x128x2048 .bf16) (y : S128x2048.Idx) :
    k0_pay6 (F := Ideal) a b0 b1 b2 y
      = Cert.AdamBig.total (a (ix4 0 0 (y 0) (y 1))) ![b0 (ix4 0 0 (y 0) (y 1)), b1 (ix4 0 0 (y 0) (y 1)), b2 (ix4 0 0 (y 0) (y 1))] := by
  unfold Cert.AdamBig.total
  rw [Fin.sum_univ_three]
  pointwise [k0_pay6]
  simp only [add_assoc, Matrix.cons_val]

/-- One element of a block's first moment. -/
theorem first_apply (a b0 b1 b2 : FVec Ideal S1x1x128x2048 .bf16) (u : FVec Ideal S1x128x2048 .f32) (y : S128x2048.Idx) :
    k0_pay8 (F := Ideal) a b0 b1 b2 u y = Cert.AdamBig.first (k0_pay6 (F := Ideal) a b0 b1 b2 y) (u (ix3 0 (y 0) (y 1))) := by
  unfold Cert.AdamBig.first k0_pay8
  generalize k0_pay6 (F := Ideal) a b0 b1 b2 = g
  pointwise

/-- One element of a block's second moment. -/
theorem second_apply (a b0 b1 b2 : FVec Ideal S1x1x128x2048 .bf16) (v : FVec Ideal S1x128x2048 .f32) (y : S128x2048.Idx) :
    k0_pay1 (F := Ideal) (k0_pay9 v) (k0_pay10 a b0 b1 b2) (k0_pay11 (F := Ideal)) y = Cert.AdamBig.second (k0_pay6 (F := Ideal) a b0 b1 b2 y) (v (ix3 0 (y 0) (y 1))) := by
  unfold Cert.AdamBig.second k0_pay1 k0_pay9 k0_pay10 k0_pay11
  generalize k0_pay6 (F := Ideal) a b0 b1 b2 = g
  pointwise

/-- One element of a block's step. -/
theorem step_apply (w : FVec Ideal S1x128x2048 .f32) (u p q r : FVec Ideal S128x2048 .f32) (y : S1x128x2048.Idx) :
    k0_pay3 (F := Ideal) (k0_pay7 w) u p q r y = Cert.AdamBig.step (w y) (u (ix2 (y 1) (y 2))) (k0_pay1 (F := Ideal) p q r (ix2 (y 1) (y 2))) := by
  unfold Cert.AdamBig.step k0_pay3 k0_pay7
  generalize k0_pay1 (F := Ideal) p q r = v
  pointwise

/-- Received block 0. -/
abbrev got0 (r : Vec Ideal S3x1x128x2048 .bf16) : Vec Ideal S1x1x128x2048 .bf16 :=
  View.ld (Val := Elt Ideal) (e' := .bf16) r (Rect.unit (s := S3x1x128x2048) ![0, 0, 0, 0] S1x1x128x2048.size Facts₀.inb_S3x1x128x2048_S1x1x128x2048_0_0_0_0)

/-- Received block 1. -/
abbrev got1 (r : Vec Ideal S3x1x128x2048 .bf16) : Vec Ideal S1x1x128x2048 .bf16 :=
  View.ld (Val := Elt Ideal) (e' := .bf16) r (Rect.unit (s := S3x1x128x2048) ![1, 0, 0, 0] S1x1x128x2048.size Facts₀.inb_S3x1x128x2048_S1x1x128x2048_1_0_0_0)

/-- Received block 2. -/
abbrev got2 (r : Vec Ideal S3x1x128x2048 .bf16) : Vec Ideal S1x1x128x2048 .bf16 :=
  View.ld (Val := Elt Ideal) (e' := .bf16) r (Rect.unit (s := S3x1x128x2048) ![2, 0, 0, 0] S1x1x128x2048.size Facts₀.inb_S3x1x128x2048_S1x1x128x2048_2_0_0_0)

/-- One element of what a point leaves of the gradient. -/
theorem total_block (a : FVec Ideal S1x1x128x2048 .bf16) (r : FVec Ideal S3x1x128x2048 .bf16) (y : S1x128x2048.Idx) :
    k0_pay6 (F := Ideal) a (got0 r)
        (got1 r)
        (got2 r) (ix2 (y 1) (y 2))
      = Cert.AdamBig.total (a (ix4 0 0 (y 1) (y 2))) (fun k => r (ix4 k 0 (y 1) (y 2))) := by
  rw [total_apply]
  refine congrArg _ (funext fun k => ?_)
  match k with
  | ⟨0, _⟩ => exact Cert.AdamBig.slab 0 r 0 _ (y 1) (y 2) _
  | ⟨1, _⟩ => exact Cert.AdamBig.slab 1 r 0 _ (y 1) (y 2) _
  | ⟨2, _⟩ => exact Cert.AdamBig.slab 2 r 0 _ (y 1) (y 2) _

/-- A stored block read at an element. -/
theorem stored_apply (g : FVec Ideal S128x2048 .f32) (y : S1x128x2048.Idx) : shapeCast S1x128x2048 g Facts₀.shapeCasts_S128x2048_S1x128x2048 y = g (ix2 (y 1) (y 2)) := by
  pointwise

/-- One element of the reference's gradient. -/
theorem ref5_apply (q : IVec S1 32) (x : FVec Ideal S4x1x256x2048 .bf16) (r : FVec Ideal S3x1x256x2048 .bf16) (i : S1x256x2048.Idx) :
    Cert.AdamOutRefIdeal.Read.val_main_v5 (F := Ideal) q x r i
      = Cert.AdamBig.total (x (ix4 (Cert.AdamBig.part (q (ix1 (0 : Fin 1)))) (i 0) (i 1) (i 2))) (fun k => r (ix4 k (i 0) (i 1) (i 2))) := by
  have h := Cert.AdamBig.host_total Cert.AdamOutRefIdeal.Facts₀.gather_S4x1x256x2048_S1_S1x256x2048_012_0_n_n_0_0_112562048_wf x r
    (Cert.AdamOutRefIdeal.Read.val_main_call0_v0 (F := Ideal) q) Cert.AdamOutRefIdeal.Facts₀.bitsLt_bf16_f32
    Cert.AdamOutRefIdeal.Facts₀.reducesTo_S3x1x256x2048_S1x256x2048_d0 Cert.AdamOutRefIdeal.Facts₀.h_S_ i
  rwa [show Cert.AdamOutRefIdeal.Read.val_main_call0_v0 (F := Ideal) q (ix1 (0 : Fin 1)) = q (ix1 (0 : Fin 1)) by
    unfold Cert.AdamOutRefIdeal.Read.val_main_call0_v0 Cert.AdamOutRefIdeal.Read.val_main_v0
    pointwise] at h

/-- One element of the reference's first moment. -/
theorem ref10_apply (q : IVec S1 32) (x : FVec Ideal S4x1x256x2048 .bf16) (r : FVec Ideal S3x1x256x2048 .bf16) (u : FVec Ideal S1x256x2048 .f32) (i : S1x256x2048.Idx) :
    Cert.AdamOutRefIdeal.Read.val_main_v10 (F := Ideal) q x r u i = Cert.AdamBig.first (Cert.AdamOutRefIdeal.Read.val_main_v5 (F := Ideal) q x r i) (u i) :=
  Cert.AdamBig.host_first Cert.AdamOutRefIdeal.Facts₀.bcast_S_S1x256x2048 _ u i

/-- One element of the reference's second moment. -/
theorem ref16_apply (q : IVec S1 32) (x : FVec Ideal S4x1x256x2048 .bf16) (r : FVec Ideal S3x1x256x2048 .bf16) (v : FVec Ideal S1x256x2048 .f32) (i : S1x256x2048.Idx) :
    Cert.AdamOutRefIdeal.Read.val_main_v16 (F := Ideal) q x r v i = Cert.AdamBig.second (Cert.AdamOutRefIdeal.Read.val_main_v5 (F := Ideal) q x r i) (v i) :=
  Cert.AdamBig.host_second Cert.AdamOutRefIdeal.Facts₀.bcast_S_S1x256x2048 _ v i

/-- One element of the reference's step. -/
theorem ref29_apply (q : IVec S1 32) (x : FVec Ideal S4x1x256x2048 .bf16) (r : FVec Ideal S3x1x256x2048 .bf16) (w u v : FVec Ideal S1x256x2048 .f32) (i : S1x256x2048.Idx) :
    Cert.AdamOutRefIdeal.Read.val_main_v29 (F := Ideal) q x r w u v i
      = Cert.AdamBig.step (w i) (Cert.AdamOutRefIdeal.Read.val_main_v10 (F := Ideal) q x r u i) (Cert.AdamOutRefIdeal.Read.val_main_v16 (F := Ideal) q x r v i) :=
  Cert.AdamBig.host_step Cert.AdamOutRefIdeal.Facts₀.bcast_S_S1x256x2048 w _ _ i

/-- Where the blocks of the windows sit. -/
theorem idx (hO : Ok m) : ∀ t : Fin (cfgM m hO).N, ((cfgM m hO).win 1).index t = ![0, t.val / 2, t.val % 2, 0] ∧ ((cfgM m hO).win 2).index t = ![t.val / 2, t.val % 2, 0]
    ∧ ((cfgM m hO).win 3).index t = ![t.val / 2, t.val % 2, 0] ∧ ((cfgM m hO).win 4).index t = ![t.val / 2, t.val % 2, 0]
    ∧ ((cfgM m hO).win 5).index t = ![t.val / 2, t.val % 2, 0] ∧ ((cfgM m hO).win 6).index t = ![t.val / 2, t.val % 2, 0]
    ∧ ((cfgM m hO).win 7).index t = ![t.val / 2, t.val % 2, 0] ∧ ((cfgM m hO).win 8).index t = ![t.val / 2, t.val % 2, 0] :=
  (by decide +kernel : ∀ t : Fin grid0.N, cc0_transform_1 (grid0.coords t) = ![0, t.val / 2, t.val % 2, 0] ∧ cc0_transform_2 (grid0.coords t) = ![t.val / 2, t.val % 2, 0]
    ∧ cc0_transform_3 (grid0.coords t) = ![t.val / 2, t.val % 2, 0] ∧ cc0_transform_4 (grid0.coords t) = ![t.val / 2, t.val % 2, 0]
    ∧ cc0_transform_5 (grid0.coords t) = ![t.val / 2, t.val % 2, 0] ∧ cc0_transform_6 (grid0.coords t) = ![t.val / 2, t.val % 2, 0]
    ∧ cc0_transform_7 (grid0.coords t) = ![t.val / 2, t.val % 2, 0] ∧ cc0_transform_8 (grid0.coords t) = ![t.val / 2, t.val % 2, 0])

/-- Where the own quarter's block sits. -/
theorem idx0 (hO : Ok m) (t : Fin (cfgM m hO).N) :
    ((cfgM m hO).win 0).index t = ![(Cert.AdamBig.part (m (((0 : Dev nD) : Thread nD τ).loc main_arg0) (ix1 (0 : Fin 1)))).val, t.val / 2, t.val % 2, 0] :=
  (place _ _ (table m) (grid0.coords t) Facts₀.inb_S1_S1_0 Facts₀.numel1_S1).trans
    (by rw [(by decide +kernel : ∀ t : Fin grid0.N, (grid0.coords t 0).val = t.val) t])

theorem in0 (hO : Ok m) (c : Dev nD) (t : Fin (cfgM m hO).N) (y : S1x1x128x2048.Idx) (i : S4x1x256x2048.Idx)
    (h0 : (i 0).val = (Cert.AdamBig.part (m (((0 : Dev nD) : Thread nD τ).loc main_arg0) (ix1 (0 : Fin 1)))).val) (h1 : (i 1).val = t.val / 2 + (y 1).val)
    (h2 : (i 2).val = t.val % 2 * 128 + (y 2).val) (h3 : (i 3).val = (y 3).val) :
    iblk m hO c 0 t y = m ((c : Thread nD τ).loc main_arg1) i := by
  blk_point [iblk, V, idx0 m hO t]

/-- The blocks of a result fill it. -/
theorem cover (hO : Ok m) : ((cfgM m hO).win 5).Covers :=
  Pipeline.Window.covers_of_index_surj _ rfl (by decide : ∀ a : Fin 3, 0 < S1x128x2048.size a)
    (by decide +kernel : ∀ β : (a : Fin 3) → Fin ((S1x256x2048.size a + S1x128x2048.size a - 1) / S1x128x2048.size a), ∃ t : Fin grid0.N, ∀ a, cc0_transform_5 (grid0.coords t) a = (β a).val)

/-- The gradient a point sums, as the reference sums it. -/
theorem total_point (hO : Ok m) (c : Dev nD) (t : Fin (cfgM m hO).N) (y : S1x128x2048.Idx) (i : S1x256x2048.Idx)
    (h0 : (i 0).val = t.val / 2 + (y 0).val) (h1 : (i 1).val = t.val % 2 * 128 + (y 1).val) (h2 : (i 2).val = (y 2).val) :
    k0_pay6 (F := Ideal) (iblk m hO c 0 t) (got0 (iblk m hO c 1 t))
        (got1 (iblk m hO c 1 t))
        (got2 (iblk m hO c 1 t)) (ix2 (y 1) (y 2))
      = Cert.AdamOutRefIdeal.Read.val_main_v5 (F := Ideal) (m ((c : Thread nD τ).loc main_arg0)) (m ((c : Thread nD τ).loc main_arg1)) (m ((c : Thread nD τ).loc main_arg2)) i := by
  obtain rfl : c = 0 := Subsingleton.elim _ _
  refine (total_block _ _ y).trans (Eq.trans ?_ (ref5_apply _ _ _ i).symm)
  have hy : (y 0).val = 0 := Nat.lt_one_iff.mp (y 0).isLt
  refine congrArg₂ Cert.AdamBig.total (in0 m hO 0 t _ _ rfl ?_ h1 h2) (funext fun k => ?_)
  · exact h0.trans (by rw [hy]; rfl)
  · blk_point [iblk, V, idx m hO t]

/-- What window 2 reads. -/
theorem in2 (hO : Ok m) (c : Dev nD) (t : Fin (cfgM m hO).N) (y : S1x128x2048.Idx) (i : S1x256x2048.Idx)
    (h0 : (i 0).val = t.val / 2 + (y 0).val) (h1 : (i 1).val = t.val % 2 * 128 + (y 1).val) (h2 : (i 2).val = (y 2).val) :
    iblk m hO c 2 t y = m ((c : Thread nD τ).loc main_arg3) i := by
  blk_point [iblk, V, idx m hO t]

/-- What window 3 reads. -/
theorem in3 (hO : Ok m) (c : Dev nD) (t : Fin (cfgM m hO).N) (y : S1x128x2048.Idx) (i : S1x256x2048.Idx)
    (h0 : (i 0).val = t.val / 2 + (y 0).val) (h1 : (i 1).val = t.val % 2 * 128 + (y 1).val) (h2 : (i 2).val = (y 2).val) :
    iblk m hO c 3 t y = m ((c : Thread nD τ).loc main_arg4) i := by
  blk_point [iblk, V, idx m hO t]

/-- What window 4 reads. -/
theorem in4 (hO : Ok m) (c : Dev nD) (t : Fin (cfgM m hO).N) (y : S1x128x2048.Idx) (i : S1x256x2048.Idx)
    (h0 : (i 0).val = t.val / 2 + (y 0).val) (h1 : (i 1).val = t.val % 2 * 128 + (y 1).val) (h2 : (i 2).val = (y 2).val) :
    iblk m hO c 4 t y = m ((c : Thread nD τ).loc main_arg5) i := by
  blk_point [iblk, V, idx m hO t]

/-- A point's first moment, as the reference computes it. -/
theorem first_point (hO : Ok m) (c : Dev nD) (t : Fin (cfgM m hO).N) (y : S1x128x2048.Idx) (i : S1x256x2048.Idx)
    (h0 : (i 0).val = t.val / 2 + (y 0).val) (h1 : (i 1).val = t.val % 2 * 128 + (y 1).val) (h2 : (i 2).val = (y 2).val) :
    k0_pay8 (F := Ideal) (iblk m hO c 0 t) (got0 (iblk m hO c 1 t)) (got1 (iblk m hO c 1 t)) (got2 (iblk m hO c 1 t)) (iblk m hO c 3 t) (ix2 (y 1) (y 2)) = Cert.AdamOutRefIdeal.Read.val_main_v10 (F := Ideal) (m ((c : Thread nD τ).loc main_arg0)) (m ((c : Thread nD τ).loc main_arg1)) (m ((c : Thread nD τ).loc main_arg2)) (m ((c : Thread nD τ).loc main_arg4)) i := by
  refine (first_apply _ _ _ _ _ _).trans (Eq.trans ?_ (ref10_apply _ _ _ _ _).symm)
  refine congrArg₂ Cert.AdamBig.first (total_point m hO c t y i h0 h1 h2) ((congrArg _ ?_).trans (in3 m hO c t y i h0 h1 h2))
  exact Cert.AdamBig.flat y

/-- A point's second moment, as the reference computes it. -/
theorem second_point (hO : Ok m) (c : Dev nD) (t : Fin (cfgM m hO).N) (y : S1x128x2048.Idx) (i : S1x256x2048.Idx)
    (h0 : (i 0).val = t.val / 2 + (y 0).val) (h1 : (i 1).val = t.val % 2 * 128 + (y 1).val) (h2 : (i 2).val = (y 2).val) :
    k0_pay1 (F := Ideal) (k0_pay9 (iblk m hO c 4 t)) (k0_pay10 (iblk m hO c 0 t) (got0 (iblk m hO c 1 t)) (got1 (iblk m hO c 1 t)) (got2 (iblk m hO c 1 t))) (k0_pay11 (F := Ideal)) (ix2 (y 1) (y 2)) = Cert.AdamOutRefIdeal.Read.val_main_v16 (F := Ideal) (m ((c : Thread nD τ).loc main_arg0)) (m ((c : Thread nD τ).loc main_arg1)) (m ((c : Thread nD τ).loc main_arg2)) (m ((c : Thread nD τ).loc main_arg5)) i := by
  refine (second_apply _ _ _ _ _ _).trans (Eq.trans ?_ (ref16_apply _ _ _ _ _).symm)
  refine congrArg₂ Cert.AdamBig.second (total_point m hO c t y i h0 h1 h2) ((congrArg _ ?_).trans (in4 m hO c t y i h0 h1 h2))
  exact Cert.AdamBig.flat y

/-- The staged blocks read back. -/
theorem read0 (hO : Ok m) (c : Dev nD) (t : Fin (cfgM m hO).N) :
    (ms0_0 m hO t).view.read (Elt Ideal) ((hs0_0 m hO t).unread (iblk m hO c 0 t)) = iblk m hO c 0 t := (hs0_0 m hO t).read_unread _

theorem read1 (hO : Ok m) (c : Dev nD) (t : Fin (cfgM m hO).N) :
    (ms0_1 m hO t).view.read (Elt Ideal) ((hs0_1 m hO t).unread (iblk m hO c 1 t)) = iblk m hO c 1 t := (hs0_1 m hO t).read_unread _

theorem read2 (hO : Ok m) (c : Dev nD) (t : Fin (cfgM m hO).N) :
    (ms0_2 m hO t).view.read (Elt Ideal) ((hs0_2 m hO t).unread (iblk m hO c 2 t)) = iblk m hO c 2 t := (hs0_2 m hO t).read_unread _

theorem read3 (hO : Ok m) (c : Dev nD) (t : Fin (cfgM m hO).N) :
    (ms0_3 m hO t).view.read (Elt Ideal) ((hs0_3 m hO t).unread (iblk m hO c 3 t)) = iblk m hO c 3 t := (hs0_3 m hO t).read_unread _

theorem read4 (hO : Ok m) (c : Dev nD) (t : Fin (cfgM m hO).N) :
    (ms0_4 m hO t).view.read (Elt Ideal) ((hs0_4 m hO t).unread (iblk m hO c 4 t)) = iblk m hO c 4 t := (hs0_4 m hO t).read_unread _

/-- The gradient after the run. -/
theorem final5 (hO : Ok m) (c : Dev nD) : (dats m hO 0 c).arrAt 5 (cfgM m hO).N
    = Cert.AdamOutRefIdeal.Read.val_main_v5 (F := Ideal) (m ((c : Thread nD τ).loc main_arg0)) (m ((c : Thread nD τ).loc main_arg1)) (m ((c : Thread nD τ).loc main_arg2)) := by
  refine (dats m hO 0 c).arrAt_eq_of_covers 5 _ (cover m hO) fun t hf y => ?_
  blk_simp
  rw [after0_5]; unfold outsAt0; frame_out
  rw [read0, read1]
  refine (stored_apply _ y).trans (total_point m hO c t y _ ?_ ?_ ?_)
  all_goals blk_point [idx m hO t]

/-- The step after the run. -/
theorem final6 (hO : Ok m) (c : Dev nD) : (dats m hO 0 c).arrAt 6 (cfgM m hO).N
    = Cert.AdamOutRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (cover m hO) fun t hf y => ?_
  blk_simp
  rw [after0_6]; unfold outsAt0; frame_out
  rw [read0, read1, read2, read3, read4]
  refine (step_apply _ _ _ _ _ y).trans (Eq.trans ?_ (ref29_apply _ _ _ _ _ _ _).symm)
  refine congr (congrArg₂ Cert.AdamBig.step (in2 m hO c t y _ ?_ ?_ ?_) (first_point m hO c t y _ ?_ ?_ ?_)) (second_point m hO c t y _ ?_ ?_ ?_)
  all_goals blk_point [idx m hO t]

/-- The first moment after the run. -/
theorem final7 (hO : Ok m) (c : Dev nD) : (dats m hO 0 c).arrAt 7 (cfgM m hO).N
    = Cert.AdamOutRefIdeal.Read.val_main_v10 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (cover m hO) fun t hf y => ?_
  blk_simp
  rw [after0_7]; unfold outsAt0; frame_out
  rw [read0, read1, read3]
  refine (stored_apply _ y).trans (first_point m hO c t y _ ?_ ?_ ?_)
  all_goals blk_point [idx m hO t]

/-- The second moment after the run. -/
theorem final8 (hO : Ok m) (c : Dev nD) : (dats m hO 0 c).arrAt 8 (cfgM m hO).N
    = Cert.AdamOutRefIdeal.Read.val_main_v16 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (cover m hO) fun t hf y => ?_
  blk_simp
  rw [after0_8]; unfold outsAt0; frame_out
  rw [read0, read1, read4]
  refine (stored_apply _ y).trans (second_point m hO c t y _ ?_ ?_ ?_)
  all_goals blk_point [idx m hO t]

/-- The run: its four results are the reference's, and its arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = Cert.AdamOutRefIdeal.Read.val_main_v5 (F := Ideal) (m ((c : Thread nD τ).loc main_arg0)) (m ((c : Thread nD τ).loc main_arg1)) (m ((c : Thread nD τ).loc main_arg2))
      ∧ r.2.mem ((c.tc : Thread nD τ).loc main_v1_1) = Cert.AdamOutRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_2) = Cert.AdamOutRefIdeal.Read.val_main_v10 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v1_3) = Cert.AdamOutRefIdeal.Read.val_main_v16 (F := Ideal) (m ((c : Thread nD τ).loc main_arg0)) (m ((c : Thread nD τ).loc main_arg1)) (m ((c : Thread nD τ).loc main_arg2)) (m ((c : Thread nD τ).loc main_arg5))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono
    (fun r h c => ⟨((h.1 c).1 5).trans (final5 m (ok m) c), ((h.1 c).1 6).trans (final6 m (ok m) c), ((h.1 c).1 7).trans (final7 m (ok m) c),
      ((h.1 c).1 8).trans (final8 m (ok m) c), h.2 c⟩)
    (θ_run_and (run_main m ρ (ok m)) (unchanged m ρ (ok m)))

end Cert.AdamOutIdeal.Value

end
-- ==== Proof.AdamFf2.lean ====
/- The optimiser's launch on the second feed-forward weight: eight blocks of the own quarter where AdamOut has two, each block's arithmetic the same. -/
module

public import proofs.«01_k».proof.Proof.AdamOut
public import proofs.«01_k».proof.Proof.Gen.AdamFf2.Frame
public import proofs.«01_k».proof.Proof.Gen.AdamFf2Ideal.Frame
public import proofs.«01_k».proof.Proof.Gen.AdamFf2RefIdeal.Read

@[expose] public section

set_option maxRecDepth 16384

noncomputable section

open Idealize.ShloMosaic Idealize.ShloMosaic.TcCoe Idealize.SL.Sem
open Idealize.ShloMosaic.Pipeline (Dat)

namespace Cert.AdamFf2.Value

open Cert.AdamFf2 Cert.AdamFf2.Gen

/-- The table holds the quarter's word. -/
theorem table {F : FTy → Type} [FloatOps F] (m : (ℓ : Loc nD τ sig) → Buf (Elt F) ℓ) :
    (tbl m) 0 = fun _ => BitVec.ofNat 32 (Cert.AdamBig.part (m (((0 : Dev nD) : Thread nD τ).loc main_arg0) (ix1 (0 : Fin 1)))).val := by
  funext y
  obtain rfl := Cert.AdamBig.one_idx y
  unfold tbl
  show V m 0 main_v0 (ix1 (0 : Fin 1)) = _
  simp only [V, hostOps0, hostOps0_1, List.flatten_cons, List.flatten_nil, List.append_nil, List.cons_append, List.nil_append]
  after_results_simp
  rw [← Cert.AdamBig.clip_word]
  rfl

/-- The own quarter's block, by the grid point. -/
theorem place {F : FTy → Type} (k : Fin 4) (pf : pre0.Contents (Elt F)) (h : pf 0 = fun _ => BitVec.ofNat 32 k.val) (i : grid0.Coords)
    (h1 : ∀ a, (![0] : Fin 1 → Nat) a + S1.size a ≤ S1.size a) (h2 : S1.numel = 1) :
    cc0_transform_0 h1 h2 pf i = ![k.val, (i 0).val / 8, (i 0).val % 8, 0] := by
  unfold cc0_transform_0
  simp only [Pipeline.Prefetch.Contents.at, h]
  clear h pf
  revert k i
  decide +kernel

/-- The launch's side condition: the own quarter's block lies inside the parts. -/
theorem ok {F : FTy → Type} [FloatOps F] (m : (ℓ : Loc nD τ sig) → Buf (Elt F) ℓ) : Ok m := by
  intro i
  have hp := place _ _ (table m) i Facts₀.inb_S1_S1_0 Facts₀.numel1_S1
  refine ⟨fun a => ?_, .inr (Affine.block_words_dvd (of_decide_eq_true rfl) (by decide))⟩
  rw [hp]
  clear hp
  generalize Cert.AdamBig.part _ = k
  revert a i k
  decide +kernel

end Cert.AdamFf2.Value

namespace Cert.AdamFf2Ideal.Value

open Cert.AdamFf2Ideal Cert.AdamFf2Ideal.Gen
open Cert.AdamFf2RefIdeal.Read (val_main_v5 val_main_v10 val_main_v16 val_main_v29)

/-- The table holds the quarter's word: the idealized program's is the printed one's. -/
theorem table {F : FTy → Type} [FloatOps F] (m : (ℓ : Loc nD τ sig) → Buf (Elt F) ℓ) :
    (tbl m) 0 = fun _ => BitVec.ofNat 32 (Cert.AdamBig.part (m (((0 : Dev nD) : Thread nD τ).loc main_arg0) (ix1 (0 : Fin 1)))).val :=
  Cert.AdamFf2.Value.table m

/-- The launch's side condition, likewise. -/
theorem ok {F : FTy → Type} [FloatOps F] (m : (ℓ : Loc nD τ sig) → Buf (Elt F) ℓ) : Ok m := Cert.AdamFf2.Value.ok m

variable (m : (ℓ : Loc nD τ sig) → Buf (Elt Ideal) ℓ)

/-- Where the blocks of the windows sit. -/
theorem idx (hO : Ok m) : ∀ t : Fin (cfgM m hO).N, ((cfgM m hO).win 1).index t = ![0, t.val / 8, t.val % 8, 0] ∧ ((cfgM m hO).win 2).index t = ![t.val / 8, t.val % 8, 0]
    ∧ ((cfgM m hO).win 3).index t = ![t.val / 8, t.val % 8, 0] ∧ ((cfgM m hO).win 4).index t = ![t.val / 8, t.val % 8, 0]
    ∧ ((cfgM m hO).win 5).index t = ![t.val / 8, t.val % 8, 0] ∧ ((cfgM m hO).win 6).index t = ![t.val / 8, t.val % 8, 0]
    ∧ ((cfgM m hO).win 7).index t = ![t.val / 8, t.val % 8, 0] ∧ ((cfgM m hO).win 8).index t = ![t.val / 8, t.val % 8, 0] :=
  (by decide +kernel : ∀ t : Fin grid0.N, cc0_transform_1 (grid0.coords t) = ![0, t.val / 8, t.val % 8, 0] ∧ cc0_transform_2 (grid0.coords t) = ![t.val / 8, t.val % 8, 0]
    ∧ cc0_transform_3 (grid0.coords t) = ![t.val / 8, t.val % 8, 0] ∧ cc0_transform_4 (grid0.coords t) = ![t.val / 8, t.val % 8, 0]
    ∧ cc0_transform_5 (grid0.coords t) = ![t.val / 8, t.val % 8, 0] ∧ cc0_transform_6 (grid0.coords t) = ![t.val / 8, t.val % 8, 0]
    ∧ cc0_transform_7 (grid0.coords t) = ![t.val / 8, t.val % 8, 0] ∧ cc0_transform_8 (grid0.coords t) = ![t.val / 8, t.val % 8, 0])

/-- Where the own quarter's block sits. -/
theorem idx0 (hO : Ok m) (t : Fin (cfgM m hO).N) :
    ((cfgM m hO).win 0).index t = ![(Cert.AdamBig.part (m (((0 : Dev nD) : Thread nD τ).loc main_arg0) (ix1 (0 : Fin 1)))).val, t.val / 8, t.val % 8, 0] :=
  (Cert.AdamFf2.Value.place _ _ (table m) (grid0.coords t) Facts₀.inb_S1_S1_0 Facts₀.numel1_S1).trans
    (by rw [(by decide +kernel : ∀ t : Fin grid0.N, (grid0.coords t 0).val = t.val) t])

/-- The blocks of a result fill it. -/
theorem cover (hO : Ok m) : ((cfgM m hO).win 5).Covers :=
  Pipeline.Window.covers_of_index_surj _ rfl (by decide : ∀ a : Fin 3, 0 < S1x128x2048.size a)
    (by decide +kernel : ∀ β : (a : Fin 3) → Fin ((S1x1024x2048.size a + S1x128x2048.size a - 1) / S1x128x2048.size a), ∃ t : Fin grid0.N, ∀ a, cc0_transform_5 (grid0.coords t) a = (β a).val)

/-- What a point reads of the own quarter. -/
theorem in0 (hO : Ok m) (c : Dev nD) (t : Fin (cfgM m hO).N) (y : S1x1x128x2048.Idx) (i : S4x1x1024x2048.Idx)
    (h0 : (i 0).val = (Cert.AdamBig.part (m (((0 : Dev nD) : Thread nD τ).loc main_arg0) (ix1 (0 : Fin 1)))).val) (h1 : (i 1).val = t.val / 8 + (y 1).val)
    (h2 : (i 2).val = t.val % 8 * 128 + (y 2).val) (h3 : (i 3).val = (y 3).val) :
    iblk m hO c 0 t y = m ((c : Thread nD τ).loc main_arg1) i := by
  blk_point [iblk, V, idx0 m hO t]

/-- The element of the quarter that an element of a point's block is. -/
abbrev at_ (t : Fin grid0.N) (y : S1x128x2048.Idx) (i : S1x1024x2048.Idx) : Prop :=
  (i 0).val = t.val / 8 + (y 0).val ∧ (i 1).val = t.val % 8 * 128 + (y 1).val ∧ (i 2).val = (y 2).val

/-- What a point reads of the weight and of the two moments. -/
theorem in234 (hO : Ok m) (c : Dev nD) (t : Fin (cfgM m hO).N) (y : S1x128x2048.Idx) (i : S1x1024x2048.Idx) (h : at_ t y i) :
    iblk m hO c 2 t y = m ((c : Thread nD τ).loc main_arg3) i ∧ iblk m hO c 3 t y = m ((c : Thread nD τ).loc main_arg4) i
      ∧ iblk m hO c 4 t y = m ((c : Thread nD τ).loc main_arg5) i := by
  obtain ⟨h0, h1, h2⟩ := h
  refine ⟨?_, ?_, ?_⟩
  all_goals blk_point [iblk, V, idx m hO t]

/-- The gradient a point sums, as the reference sums it. -/
theorem total_point (hO : Ok m) (c : Dev nD) (t : Fin (cfgM m hO).N) (y : S1x128x2048.Idx) (i : S1x1024x2048.Idx) (h : at_ t y i) :
    k0_pay6 (F := Ideal) (iblk m hO c 0 t) (Cert.AdamOutIdeal.Value.got0 (iblk m hO c 1 t)) (Cert.AdamOutIdeal.Value.got1 (iblk m hO c 1 t)) (Cert.AdamOutIdeal.Value.got2 (iblk m hO c 1 t)) (ix2 (y 1) (y 2))
      = val_main_v5 (F := Ideal) (m ((c : Thread nD τ).loc main_arg0)) (m ((c : Thread nD τ).loc main_arg1)) (m ((c : Thread nD τ).loc main_arg2)) i := by
  obtain rfl : c = 0 := Subsingleton.elim _ _
  obtain ⟨h0, h1, h2⟩ := h
  have hr := Cert.AdamBig.host_total Cert.AdamFf2RefIdeal.Facts₀.gather_S4x1x1024x2048_S1_S1x1024x2048_012_0_n_n_0_0_1110242048_wf
    (m (((0 : Dev nD) : Thread nD τ).loc main_arg1)) (m (((0 : Dev nD) : Thread nD τ).loc main_arg2))
    (Cert.AdamFf2RefIdeal.Read.val_main_call0_v0 (F := Ideal) (m (((0 : Dev nD) : Thread nD τ).loc main_arg0))) Cert.AdamFf2RefIdeal.Facts₀.bitsLt_bf16_f32
    Cert.AdamFf2RefIdeal.Facts₀.reducesTo_S3x1x1024x2048_S1x1024x2048_d0 Cert.AdamFf2RefIdeal.Facts₀.h_S_ i
  rw [show Cert.AdamFf2RefIdeal.Read.val_main_call0_v0 (F := Ideal) (m (((0 : Dev nD) : Thread nD τ).loc main_arg0)) (ix1 (0 : Fin 1)) = m (((0 : Dev nD) : Thread nD τ).loc main_arg0) (ix1 (0 : Fin 1)) by
    unfold Cert.AdamFf2RefIdeal.Read.val_main_call0_v0 Cert.AdamFf2RefIdeal.Read.val_main_v0
    pointwise] at hr
  refine (Cert.AdamOutIdeal.Value.total_block _ _ y).trans (Eq.trans ?_ hr.symm)
  have hy : (y 0).val = 0 := Nat.lt_one_iff.mp (y 0).isLt
  refine congrArg₂ Cert.AdamBig.total (in0 m hO 0 t _ _ rfl ?_ h1 h2) (funext fun k => ?_)
  · exact h0.trans (by rw [hy]; rfl)
  · blk_point [iblk, V, idx m hO t]

/-- A point's first moment, as the reference computes it. -/
theorem first_point (hO : Ok m) (c : Dev nD) (t : Fin (cfgM m hO).N) (y : S1x128x2048.Idx) (i : S1x1024x2048.Idx) (h : at_ t y i) :
    k0_pay8 (F := Ideal) (iblk m hO c 0 t) (Cert.AdamOutIdeal.Value.got0 (iblk m hO c 1 t)) (Cert.AdamOutIdeal.Value.got1 (iblk m hO c 1 t)) (Cert.AdamOutIdeal.Value.got2 (iblk m hO c 1 t)) (iblk m hO c 3 t) (ix2 (y 1) (y 2))
      = val_main_v10 (F := Ideal) (m ((c : Thread nD τ).loc main_arg0)) (m ((c : Thread nD τ).loc main_arg1)) (m ((c : Thread nD τ).loc main_arg2)) (m ((c : Thread nD τ).loc main_arg4)) i := by
  refine (Cert.AdamOutIdeal.Value.first_apply _ _ _ _ _ _).trans (Eq.trans ?_ (Cert.AdamBig.host_first Cert.AdamFf2RefIdeal.Facts₀.bcast_S_S1x1024x2048 _ _ i).symm)
  exact congrArg₂ Cert.AdamBig.first (total_point m hO c t y i h) ((congrArg _ (Cert.AdamBig.flat y)).trans (in234 m hO c t y i h).2.1)

/-- A point's second moment, as the reference computes it. -/
theorem second_point (hO : Ok m) (c : Dev nD) (t : Fin (cfgM m hO).N) (y : S1x128x2048.Idx) (i : S1x1024x2048.Idx) (h : at_ t y i) :
    k0_pay1 (F := Ideal) (k0_pay9 (iblk m hO c 4 t)) (k0_pay10 (iblk m hO c 0 t) (Cert.AdamOutIdeal.Value.got0 (iblk m hO c 1 t)) (Cert.AdamOutIdeal.Value.got1 (iblk m hO c 1 t)) (Cert.AdamOutIdeal.Value.got2 (iblk m hO c 1 t))) (k0_pay11 (F := Ideal)) (ix2 (y 1) (y 2))
      = val_main_v16 (F := Ideal) (m ((c : Thread nD τ).loc main_arg0)) (m ((c : Thread nD τ).loc main_arg1)) (m ((c : Thread nD τ).loc main_arg2)) (m ((c : Thread nD τ).loc main_arg5)) i := by
  refine (Cert.AdamOutIdeal.Value.second_apply _ _ _ _ _ _).trans (Eq.trans ?_ (Cert.AdamBig.host_second Cert.AdamFf2RefIdeal.Facts₀.bcast_S_S1x1024x2048 _ _ i).symm)
  exact congrArg₂ Cert.AdamBig.second (total_point m hO c t y i h) ((congrArg _ (Cert.AdamBig.flat y)).trans (in234 m hO c t y i h).2.2)

/-- The staged blocks read back. -/
theorem read (hO : Ok m) (c : Dev nD) (t : Fin (cfgM m hO).N) :
    (ms0_0 m hO t).view.read (Elt Ideal) ((hs0_0 m hO t).unread (iblk m hO c 0 t)) = iblk m hO c 0 t
    ∧ (ms0_1 m hO t).view.read (Elt Ideal) ((hs0_1 m hO t).unread (iblk m hO c 1 t)) = iblk m hO c 1 t
    ∧ (ms0_2 m hO t).view.read (Elt Ideal) ((hs0_2 m hO t).unread (iblk m hO c 2 t)) = iblk m hO c 2 t
    ∧ (ms0_3 m hO t).view.read (Elt Ideal) ((hs0_3 m hO t).unread (iblk m hO c 3 t)) = iblk m hO c 3 t
    ∧ (ms0_4 m hO t).view.read (Elt Ideal) ((hs0_4 m hO t).unread (iblk m hO c 4 t)) = iblk m hO c 4 t :=
  ⟨(hs0_0 m hO t).read_unread _, (hs0_1 m hO t).read_unread _, (hs0_2 m hO t).read_unread _, (hs0_3 m hO t).read_unread _, (hs0_4 m hO t).read_unread _⟩

/-- The gradient after the run. -/
theorem final5 (hO : Ok m) (c : Dev nD) : (dats m hO 0 c).arrAt 5 (cfgM m hO).N
    = val_main_v5 (F := Ideal) (m ((c : Thread nD τ).loc main_arg0)) (m ((c : Thread nD τ).loc main_arg1)) (m ((c : Thread nD τ).loc main_arg2)) := by
  refine (dats m hO 0 c).arrAt_eq_of_covers 5 _ (cover m hO) fun t hf y => ?_
  blk_simp
  obtain ⟨r0, r1, r2, r3, r4⟩ := read m hO c t
  rw [after0_5]; unfold outsAt0; frame_out
  rw [r0, r1]
  refine (Cert.AdamOutIdeal.Value.stored_apply _ y).trans (total_point m hO c t y _ ⟨?_, ?_, ?_⟩)
  all_goals blk_point [idx m hO t]

/-- The step after the run. -/
theorem final6 (hO : Ok m) (c : Dev nD) : (dats m hO 0 c).arrAt 6 (cfgM m hO).N
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (cover m hO) fun t hf y => ?_
  blk_simp
  obtain ⟨r0, r1, r2, r3, r4⟩ := read m hO c t
  rw [after0_6]; unfold outsAt0; frame_out
  rw [r0, r1, r2, r3, r4]
  refine (Cert.AdamOutIdeal.Value.step_apply _ _ _ _ _ y).trans (Eq.trans ?_ (Cert.AdamBig.host_step Cert.AdamFf2RefIdeal.Facts₀.bcast_S_S1x1024x2048 _ _ _ _).symm)
  refine congr (congrArg₂ Cert.AdamBig.step (in234 m hO c t y _ ⟨?_, ?_, ?_⟩).1 (first_point m hO c t y _ ⟨?_, ?_, ?_⟩)) (second_point m hO c t y _ ⟨?_, ?_, ?_⟩)
  all_goals blk_point [idx m hO t]

/-- The first moment after the run. -/
theorem final7 (hO : Ok m) (c : Dev nD) : (dats m hO 0 c).arrAt 7 (cfgM m hO).N
    = val_main_v10 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (cover m hO) fun t hf y => ?_
  blk_simp
  obtain ⟨r0, r1, r2, r3, r4⟩ := read m hO c t
  rw [after0_7]; unfold outsAt0; frame_out
  rw [r0, r1, r3]
  refine (Cert.AdamOutIdeal.Value.stored_apply _ y).trans (first_point m hO c t y _ ⟨?_, ?_, ?_⟩)
  all_goals blk_point [idx m hO t]

/-- The second moment after the run. -/
theorem final8 (hO : Ok m) (c : Dev nD) : (dats m hO 0 c).arrAt 8 (cfgM m hO).N
    = val_main_v16 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (cover m hO) fun t hf y => ?_
  blk_simp
  obtain ⟨r0, r1, r2, r3, r4⟩ := read m hO c t
  rw [after0_8]; unfold outsAt0; frame_out
  rw [r0, r1, r4]
  refine (Cert.AdamOutIdeal.Value.stored_apply _ y).trans (second_point m hO c t y _ ⟨?_, ?_, ?_⟩)
  all_goals blk_point [idx m hO t]

/-- The run: its four results are the reference's, and its arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = val_main_v5 (F := Ideal) (m ((c : Thread nD τ).loc main_arg0)) (m ((c : Thread nD τ).loc main_arg1)) (m ((c : Thread nD τ).loc main_arg2))
      ∧ r.2.mem ((c.tc : Thread nD τ).loc main_v1_1) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_2) = val_main_v10 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v1_3) = val_main_v16 (F := Ideal) (m ((c : Thread nD τ).loc main_arg0)) (m ((c : Thread nD τ).loc main_arg1)) (m ((c : Thread nD τ).loc main_arg2)) (m ((c : Thread nD τ).loc main_arg5))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono
    (fun r h c => ⟨((h.1 c).1 5).trans (final5 m (ok m) c), ((h.1 c).1 6).trans (final6 m (ok m) c), ((h.1 c).1 7).trans (final7 m (ok m) c),
      ((h.1 c).1 8).trans (final8 m (ok m) c), h.2 c⟩)
    (θ_run_and (run_main m ρ (ok m)) (unchanged m ρ (ok m)))

end Cert.AdamFf2Ideal.Value

end
-- ==== Proof.AdamPool.lean ====
/- The optimiser's launch on the pool weight: one block of the own quarter to each of its four groups. -/
module

public import proofs.«01_k».proof.Proof.AdamBig
public import proofs.«01_k».proof.Proof.Gen.AdamPool.Frame
public import proofs.«01_k».proof.Proof.Gen.AdamPoolIdeal.Frame
public import proofs.«01_k».proof.Proof.Gen.AdamPoolRefIdeal.Read

@[expose] public section

set_option maxRecDepth 16384

noncomputable section

open Idealize.ShloMosaic Idealize.ShloMosaic.TcCoe Idealize.SL.Sem
open Idealize.ShloMosaic.Pipeline (Dat)

namespace Cert.AdamPool.Value

open Cert.AdamPool Cert.AdamPool.Gen

/-- The table holds the quarter's word. -/
theorem table {F : FTy → Type} [FloatOps F] (m : (ℓ : Loc nD τ sig) → Buf (Elt F) ℓ) :
    (tbl m) 0 = fun _ => BitVec.ofNat 32 (Cert.AdamBig.part (m (((0 : Dev nD) : Thread nD τ).loc main_arg0) (ix1 (0 : Fin 1)))).val := by
  funext y
  obtain rfl := Cert.AdamBig.one_idx y
  unfold tbl
  show V m 0 main_v0 (ix1 (0 : Fin 1)) = _
  simp only [V, hostOps0, hostOps0_1, List.flatten_cons, List.flatten_nil, List.append_nil, List.cons_append, List.nil_append]
  after_results_simp
  rw [← Cert.AdamBig.clip_word]
  rfl

/-- The own quarter's block, by the grid point. -/
theorem place {F : FTy → Type} (k : Fin 4) (pf : pre0.Contents (Elt F)) (h : pf 0 = fun _ => BitVec.ofNat 32 k.val) (i : grid0.Coords)
    (h1 : ∀ a, (![0] : Fin 1 → Nat) a + S1.size a ≤ S1.size a) (h2 : S1.numel = 1) :
    cc0_transform_0 h1 h2 pf i = ![k.val, (i 0).val, 0, 0] := by
  unfold cc0_transform_0
  simp only [Pipeline.Prefetch.Contents.at, h]
  clear h pf
  revert k i
  decide +kernel

/-- The launch's side condition: the own quarter's block lies inside the parts. -/
theorem ok {F : FTy → Type} [FloatOps F] (m : (ℓ : Loc nD τ sig) → Buf (Elt F) ℓ) : Ok m := by
  intro i
  have hp := place _ _ (table m) i Facts₀.inb_S1_S1_0 Facts₀.numel1_S1
  refine ⟨fun a => ?_, .inr (Affine.block_words_dvd (of_decide_eq_true rfl) (by decide))⟩
  rw [hp]
  clear hp
  generalize Cert.AdamBig.part _ = k
  revert a i k
  decide +kernel

end Cert.AdamPool.Value

namespace Cert.AdamPoolIdeal.Value

open Cert.AdamPoolIdeal Cert.AdamPoolIdeal.Gen
open Cert.AdamPoolRefIdeal.Read (val_main_v5 val_main_v10 val_main_v16 val_main_v29)

variable (m : (ℓ : Loc nD τ sig) → Buf (Elt Ideal) ℓ)

/-- The launch's side condition: the idealized program's is the printed one's. -/
theorem ok {F : FTy → Type} [FloatOps F] (m : (ℓ : Loc nD τ sig) → Buf (Elt F) ℓ) : Ok m := Cert.AdamPool.Value.ok m

/-- Where the blocks of the windows sit. -/
theorem idx (hO : Ok m) : ∀ t : Fin (cfgM m hO).N, ((cfgM m hO).win 1).index t = ![0, t.val, 0, 0] ∧ ((cfgM m hO).win 2).index t = ![t.val, 0, 0]
    ∧ ((cfgM m hO).win 3).index t = ![t.val, 0, 0] ∧ ((cfgM m hO).win 4).index t = ![t.val, 0, 0]
    ∧ ((cfgM m hO).win 5).index t = ![t.val, 0, 0] ∧ ((cfgM m hO).win 6).index t = ![t.val, 0, 0]
    ∧ ((cfgM m hO).win 7).index t = ![t.val, 0, 0] ∧ ((cfgM m hO).win 8).index t = ![t.val, 0, 0] :=
  (by decide +kernel : ∀ t : Fin grid0.N, cc0_transform_1 (grid0.coords t) = ![0, t.val, 0, 0] ∧ cc0_transform_2 (grid0.coords t) = ![t.val, 0, 0]
    ∧ cc0_transform_3 (grid0.coords t) = ![t.val, 0, 0] ∧ cc0_transform_4 (grid0.coords t) = ![t.val, 0, 0]
    ∧ cc0_transform_5 (grid0.coords t) = ![t.val, 0, 0] ∧ cc0_transform_6 (grid0.coords t) = ![t.val, 0, 0]
    ∧ cc0_transform_7 (grid0.coords t) = ![t.val, 0, 0] ∧ cc0_transform_8 (grid0.coords t) = ![t.val, 0, 0])

/-- Where the own quarter's block sits. -/
theorem idx0 (hO : Ok m) (t : Fin (cfgM m hO).N) :
    ((cfgM m hO).win 0).index t = ![(Cert.AdamBig.part (m (((0 : Dev nD) : Thread nD τ).loc main_arg0) (ix1 (0 : Fin 1)))).val, t.val, 0, 0] :=
  (Cert.AdamPool.Value.place _ _ (Cert.AdamPool.Value.table m) (grid0.coords t) Facts₀.inb_S1_S1_0 Facts₀.numel1_S1).trans
    (by rw [(by decide +kernel : ∀ t : Fin grid0.N, (grid0.coords t 0).val = t.val) t])

/-- The blocks of a result fill it. -/
theorem cover (hO : Ok m) : ((cfgM m hO).win 5).Covers :=
  Pipeline.Window.covers_of_index_surj _ rfl (by decide : ∀ a : Fin 3, 0 < S1x64x512.size a)
    (by decide +kernel : ∀ β : (a : Fin 3) → Fin ((S4x64x512.size a + S1x64x512.size a - 1) / S1x64x512.size a), ∃ t : Fin grid0.N, ∀ a, cc0_transform_5 (grid0.coords t) a = (β a).val)

/-- What a point reads of the own quarter. -/
theorem in0 (hO : Ok m) (c : Dev nD) (t : Fin (cfgM m hO).N) (y : S1x1x64x512.Idx) (i : S4x4x64x512.Idx)
    (h0 : (i 0).val = (Cert.AdamBig.part (m (((0 : Dev nD) : Thread nD τ).loc main_arg0) (ix1 (0 : Fin 1)))).val) (h1 : (i 1).val = t.val + (y 1).val)
    (h2 : (i 2).val = (y 2).val) (h3 : (i 3).val = (y 3).val) :
    iblk m hO c 0 t y = m ((c : Thread nD τ).loc main_arg1) i := by
  blk_point [iblk, V, idx0 m hO t]

/-- The element of the quarter that an element of a point's block is. -/
abbrev at_ (t : Fin grid0.N) (y : S1x64x512.Idx) (i : S4x64x512.Idx) : Prop :=
  (i 0).val = t.val + (y 0).val ∧ (i 1).val = (y 1).val ∧ (i 2).val = (y 2).val

/-- What a point reads of the weight and of the two moments. -/
theorem in234 (hO : Ok m) (c : Dev nD) (t : Fin (cfgM m hO).N) (y : S1x64x512.Idx) (i : S4x64x512.Idx) (h : at_ t y i) :
    iblk m hO c 2 t y = m ((c : Thread nD τ).loc main_arg3) i ∧ iblk m hO c 3 t y = m ((c : Thread nD τ).loc main_arg4) i
      ∧ iblk m hO c 4 t y = m ((c : Thread nD τ).loc main_arg5) i := by
  obtain ⟨h0, h1, h2⟩ := h
  refine ⟨?_, ?_, ?_⟩
  all_goals blk_point [iblk, V, idx m hO t]

/-- The gradient a point sums. -/
abbrev sum (hO : Ok m) (c : Dev nD) (t : Fin (cfgM m hO).N) : FVec Ideal S64x512 .f32 :=
  k0_pay6 (F := Ideal) (iblk m hO c 0 t) (Cert.AdamBig.got 0 (iblk m hO c 1 t) Facts₀.inb_S3x1x64x512_S1x1x64x512_0_0_0_0)
    (Cert.AdamBig.got 1 (iblk m hO c 1 t) Facts₀.inb_S3x1x64x512_S1x1x64x512_1_0_0_0) (Cert.AdamBig.got 2 (iblk m hO c 1 t) Facts₀.inb_S3x1x64x512_S1x1x64x512_2_0_0_0)

/-- The gradient a point sums, as the reference sums it. -/
theorem total_point (hO : Ok m) (c : Dev nD) (t : Fin (cfgM m hO).N) (y : S1x64x512.Idx) (i : S4x64x512.Idx) (h : at_ t y i) :
    sum m hO c t (ix2 (y 1) (y 2))
      = val_main_v5 (F := Ideal) (m ((c : Thread nD τ).loc main_arg0)) (m ((c : Thread nD τ).loc main_arg1)) (m ((c : Thread nD τ).loc main_arg2)) i := by
  obtain rfl : c = 0 := Subsingleton.elim _ _
  obtain ⟨h0, h1, h2⟩ := h
  have hr := Cert.AdamBig.host_total Cert.AdamPoolRefIdeal.Facts₀.gather_S4x4x64x512_S1_S4x64x512_012_0_n_n_0_0_1464512_wf
    (m (((0 : Dev nD) : Thread nD τ).loc main_arg1)) (m (((0 : Dev nD) : Thread nD τ).loc main_arg2))
    (Cert.AdamPoolRefIdeal.Read.val_main_call0_v0 (F := Ideal) (m (((0 : Dev nD) : Thread nD τ).loc main_arg0))) Cert.AdamPoolRefIdeal.Facts₀.bitsLt_bf16_f32
    Cert.AdamPoolRefIdeal.Facts₀.reducesTo_S3x4x64x512_S4x64x512_d0 Cert.AdamPoolRefIdeal.Facts₀.h_S_ i
  rw [show Cert.AdamPoolRefIdeal.Read.val_main_call0_v0 (F := Ideal) (m (((0 : Dev nD) : Thread nD τ).loc main_arg0)) (ix1 (0 : Fin 1)) = m (((0 : Dev nD) : Thread nD τ).loc main_arg0) (ix1 (0 : Fin 1)) by
    unfold Cert.AdamPoolRefIdeal.Read.val_main_call0_v0 Cert.AdamPoolRefIdeal.Read.val_main_v0
    pointwise] at hr
  refine (Cert.AdamBig.block_total Facts₀.shapeCasts_S1x1x64x512_S64x512 Facts₀.bitsLt_bf16_f32 _ _ _ _ _ (y 1) (y 2)).trans (Eq.trans ?_ hr.symm)
  have hy : (y 0).val = 0 := Nat.lt_one_iff.mp (y 0).isLt
  refine congrArg₂ Cert.AdamBig.total (in0 m hO 0 t _ _ rfl ?_ h1 h2) (funext fun k => ?_)
  · exact h0.trans (by rw [hy]; rfl)
  · blk_point [iblk, V, idx m hO t]

/-- A point's first moment, as the reference computes it. -/
theorem first_point (hO : Ok m) (c : Dev nD) (t : Fin (cfgM m hO).N) (y : S1x64x512.Idx) (i : S4x64x512.Idx) (h : at_ t y i) :
    k0_pay8 (F := Ideal) (iblk m hO c 0 t) (Cert.AdamBig.got 0 (iblk m hO c 1 t) Facts₀.inb_S3x1x64x512_S1x1x64x512_0_0_0_0) (Cert.AdamBig.got 1 (iblk m hO c 1 t) Facts₀.inb_S3x1x64x512_S1x1x64x512_1_0_0_0) (Cert.AdamBig.got 2 (iblk m hO c 1 t) Facts₀.inb_S3x1x64x512_S1x1x64x512_2_0_0_0) (iblk m hO c 3 t) (ix2 (y 1) (y 2))
      = val_main_v10 (F := Ideal) (m ((c : Thread nD τ).loc main_arg0)) (m ((c : Thread nD τ).loc main_arg1)) (m ((c : Thread nD τ).loc main_arg2)) (m ((c : Thread nD τ).loc main_arg4)) i := by
  refine (Cert.AdamBig.core_first Facts₀.shapeCasts_S1x64x512_S64x512 (sum m hO c t) (iblk m hO c 3 t) (y 1) (y 2)).trans
    (Eq.trans ?_ (Cert.AdamBig.host_first Cert.AdamPoolRefIdeal.Facts₀.bcast_S_S4x64x512 _ _ i).symm)
  exact congrArg₂ Cert.AdamBig.first (total_point m hO c t y i h) ((congrArg _ (Cert.AdamBig.flat y)).trans (in234 m hO c t y i h).2.1)

/-- A point's second moment, as the reference computes it. -/
theorem second_point (hO : Ok m) (c : Dev nD) (t : Fin (cfgM m hO).N) (y : S1x64x512.Idx) (i : S4x64x512.Idx) (h : at_ t y i) :
    k0_pay1 (F := Ideal) (k0_pay9 (iblk m hO c 4 t)) (mulf (sum m hO c t) (sum m hO c t)) (k0_pay11 (F := Ideal)) (ix2 (y 1) (y 2))
      = val_main_v16 (F := Ideal) (m ((c : Thread nD τ).loc main_arg0)) (m ((c : Thread nD τ).loc main_arg1)) (m ((c : Thread nD τ).loc main_arg2)) (m ((c : Thread nD τ).loc main_arg5)) i := by
  refine (Cert.AdamBig.core_second Facts₀.shapeCasts_S1x64x512_S64x512 (sum m hO c t) (iblk m hO c 4 t) (y 1) (y 2)).trans
    (Eq.trans ?_ (Cert.AdamBig.host_second Cert.AdamPoolRefIdeal.Facts₀.bcast_S_S4x64x512 _ _ i).symm)
  exact congrArg₂ Cert.AdamBig.second (total_point m hO c t y i h) ((congrArg _ (Cert.AdamBig.flat y)).trans (in234 m hO c t y i h).2.2)

/-- A stored block read at an element. -/
theorem stored_apply (g : FVec Ideal S64x512 .f32) (y : S1x64x512.Idx) : shapeCast S1x64x512 g Facts₀.shapeCasts_S64x512_S1x64x512 y = g (ix2 (y 1) (y 2)) := by
  pointwise

/-- A stored block's step, of the weight and the two new moments. -/
theorem step_apply (w : FVec Ideal S1x64x512 .f32) (u p q r : FVec Ideal S64x512 .f32) (y : S1x64x512.Idx) :
    k0_pay3 (F := Ideal) (k0_pay7 w) u p q r y = Cert.AdamBig.step (w y) (u (ix2 (y 1) (y 2))) (k0_pay1 (F := Ideal) p q r (ix2 (y 1) (y 2))) :=
  (stored_apply _ y).trans ((Cert.AdamBig.core_step Facts₀.shapeCasts_S1x64x512_S64x512 w u _ (y 1) (y 2)).trans
    (congrArg (fun z => Cert.AdamBig.step (w z) _ _) (Cert.AdamBig.flat y)))

/-- The staged blocks read back. -/
theorem read (hO : Ok m) (c : Dev nD) (t : Fin (cfgM m hO).N) :
    (ms0_0 m hO t).view.read (Elt Ideal) ((hs0_0 m hO t).unread (iblk m hO c 0 t)) = iblk m hO c 0 t
    ∧ (ms0_1 m hO t).view.read (Elt Ideal) ((hs0_1 m hO t).unread (iblk m hO c 1 t)) = iblk m hO c 1 t
    ∧ (ms0_2 m hO t).view.read (Elt Ideal) ((hs0_2 m hO t).unread (iblk m hO c 2 t)) = iblk m hO c 2 t
    ∧ (ms0_3 m hO t).view.read (Elt Ideal) ((hs0_3 m hO t).unread (iblk m hO c 3 t)) = iblk m hO c 3 t
    ∧ (ms0_4 m hO t).view.read (Elt Ideal) ((hs0_4 m hO t).unread (iblk m hO c 4 t)) = iblk m hO c 4 t :=
  ⟨(hs0_0 m hO t).read_unread _, (hs0_1 m hO t).read_unread _, (hs0_2 m hO t).read_unread _, (hs0_3 m hO t).read_unread _, (hs0_4 m hO t).read_unread _⟩

/-- The gradient after the run. -/
theorem final5 (hO : Ok m) (c : Dev nD) : (dats m hO 0 c).arrAt 5 (cfgM m hO).N
    = val_main_v5 (F := Ideal) (m ((c : Thread nD τ).loc main_arg0)) (m ((c : Thread nD τ).loc main_arg1)) (m ((c : Thread nD τ).loc main_arg2)) := by
  refine (dats m hO 0 c).arrAt_eq_of_covers 5 _ (cover m hO) fun t hf y => ?_
  blk_simp
  obtain ⟨r0, r1, r2, r3, r4⟩ := read m hO c t
  rw [after0_5]; unfold outsAt0; frame_out
  rw [r0, r1]
  refine (stored_apply _ y).trans (total_point m hO c t y _ ⟨?_, ?_, ?_⟩)
  all_goals blk_point [idx m hO t]

/-- The step after the run. -/
theorem final6 (hO : Ok m) (c : Dev nD) : (dats m hO 0 c).arrAt 6 (cfgM m hO).N
    = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m hO 0 c).arrAt_eq_of_covers 6 _ (cover m hO) fun t hf y => ?_
  blk_simp
  obtain ⟨r0, r1, r2, r3, r4⟩ := read m hO c t
  rw [after0_6]; unfold outsAt0; frame_out
  rw [r0, r1, r2, r3, r4]
  refine (step_apply _ _ _ _ _ y).trans (Eq.trans ?_ (Cert.AdamBig.host_step Cert.AdamPoolRefIdeal.Facts₀.bcast_S_S4x64x512 _ _ _ _).symm)
  refine congr (congrArg₂ Cert.AdamBig.step (in234 m hO c t y _ ⟨?_, ?_, ?_⟩).1 (first_point m hO c t y _ ⟨?_, ?_, ?_⟩)) (second_point m hO c t y _ ⟨?_, ?_, ?_⟩)
  all_goals blk_point [idx m hO t]

/-- The first moment after the run. -/
theorem final7 (hO : Ok m) (c : Dev nD) : (dats m hO 0 c).arrAt 7 (cfgM m hO).N
    = val_main_v10 (F := Ideal) (m ((c : Thread nD τ).loc main_arg0)) (m ((c : Thread nD τ).loc main_arg1)) (m ((c : Thread nD τ).loc main_arg2)) (m ((c : Thread nD τ).loc main_arg4)) := by
  refine (dats m hO 0 c).arrAt_eq_of_covers 7 _ (cover m hO) fun t hf y => ?_
  blk_simp
  obtain ⟨r0, r1, r2, r3, r4⟩ := read m hO c t
  rw [after0_7]; unfold outsAt0; frame_out
  rw [r0, r1, r3]
  refine (stored_apply _ y).trans (first_point m hO c t y _ ⟨?_, ?_, ?_⟩)
  all_goals blk_point [idx m hO t]

/-- The second moment after the run. -/
theorem final8 (hO : Ok m) (c : Dev nD) : (dats m hO 0 c).arrAt 8 (cfgM m hO).N
    = val_main_v16 (F := Ideal) (m ((c : Thread nD τ).loc main_arg0)) (m ((c : Thread nD τ).loc main_arg1)) (m ((c : Thread nD τ).loc main_arg2)) (m ((c : Thread nD τ).loc main_arg5)) := by
  refine (dats m hO 0 c).arrAt_eq_of_covers 8 _ (cover m hO) fun t hf y => ?_
  blk_simp
  obtain ⟨r0, r1, r2, r3, r4⟩ := read m hO c t
  rw [after0_8]; unfold outsAt0; frame_out
  rw [r0, r1, r4]
  refine (stored_apply _ y).trans (second_point m hO c t y _ ⟨?_, ?_, ?_⟩)
  all_goals blk_point [idx m hO t]

/-- The run: its four results are the reference's, and its arguments end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = val_main_v5 (F := Ideal) (m ((c : Thread nD τ).loc main_arg0)) (m ((c : Thread nD τ).loc main_arg1)) (m ((c : Thread nD τ).loc main_arg2))
      ∧ r.2.mem ((c.tc : Thread nD τ).loc main_v1_1) = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_2) = val_main_v10 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v1_3) = val_main_v16 (F := Ideal) (m ((c : Thread nD τ).loc main_arg0)) (m ((c : Thread nD τ).loc main_arg1)) (m ((c : Thread nD τ).loc main_arg2)) (m ((c : Thread nD τ).loc main_arg5))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono
    (fun r h c => ⟨((h.1 c).1 5).trans (final5 m (ok m) c), ((h.1 c).1 6).trans (final6 m (ok m) c), ((h.1 c).1 7).trans (final7 m (ok m) c),
      ((h.1 c).1 8).trans (final8 m (ok m) c), h.2 c⟩)
    (θ_run_and (run_main m ρ (ok m)) (unchanged m ρ (ok m)))

end Cert.AdamPoolIdeal.Value

end
-- ==== Proof.AdamLru.lean ====
/- The optimiser's launch on a gate weight of the recurrence: one block of the own quarter to each of its sixteen heads. -/
module

public import proofs.«01_k».proof.Proof.AdamBig
public import proofs.«01_k».proof.Proof.Gen.AdamLru.Frame
public import proofs.«01_k».proof.Proof.Gen.AdamLruIdeal.Frame
public import proofs.«01_k».proof.Proof.Gen.AdamLruRefIdeal.Read

@[expose] public section

set_option maxRecDepth 16384

noncomputable section

open Idealize.ShloMosaic Idealize.ShloMosaic.TcCoe Idealize.SL.Sem

namespace Cert.AdamLru.Value

open Cert.AdamLru Cert.AdamLru.Gen

/-- The table holds the quarter's word. -/
theorem table {F : FTy → Type} [FloatOps F] (m : (ℓ : Loc nD τ sig) → Buf (Elt F) ℓ) :
    (tbl m) 0 = fun _ => BitVec.ofNat 32 (Cert.AdamBig.part (m (((0 : Dev nD) : Thread nD τ).loc main_arg0) (ix1 (0 : Fin 1)))).val := by
  funext y
  obtain rfl := Cert.AdamBig.one_idx y
  unfold tbl
  show V m 0 main_v0 (ix1 (0 : Fin 1)) = _
  simp only [V, hostOps0, hostOps0_1, List.flatten_cons, List.flatten_nil, List.append_nil, List.cons_append, List.nil_append]
  after_results_simp
  rw [← Cert.AdamBig.clip_word]
  rfl

/-- The own quarter's block, by the grid point. -/
theorem place {F : FTy → Type} (k : Fin 4) (pf : pre0.Contents (Elt F)) (h : pf 0 = fun _ => BitVec.ofNat 32 k.val) (i : grid0.Coords)
    (h1 : ∀ a, (![0] : Fin 1 → Nat) a + S1.size a ≤ S1.size a) (h2 : S1.numel = 1) :
    cc0_transform_0 h1 h2 pf i = ![k.val, (i 0).val, 0, 0] := by
  unfold cc0_transform_0
  simp only [Pipeline.Prefetch.Contents.at, h]
  clear h pf
  revert k i
  decide +kernel

/-- The launch's side condition: the own quarter's block lies inside the parts. -/
theorem ok {F : FTy → Type} [FloatOps F] (m : (ℓ : Loc nD τ sig) → Buf (Elt F) ℓ) : Ok m := by
  intro i
  have hp := place _ _ (table m) i Facts₀.inb_S1_S1_0 Facts₀.numel1_S1
  refine ⟨fun a => ?_, .inr (Affine.block_words_dvd (of_decide_eq_true rfl) (by decide))⟩
  rw [hp]
  clear hp
  generalize Cert.AdamBig.part _ = k
  revert a i k
  decide +kernel

end Cert.AdamLru.Value

namespace Cert.AdamLruIdeal.Value

open Cert.AdamLruIdeal Cert.AdamLruIdeal.Gen Cert.AdamLruRefIdeal.Read
open Cert.AdamBig (part got core_first core_second core_step host_first host_second host_step host_total block_total flat)

variable (m : (ℓ : Loc nD τ sig) → Buf (Elt Ideal) ℓ) (hO : Ok m)

/-- The launch's side condition: the idealized program's is the printed one's. -/
theorem ok : Ok m := Cert.AdamLru.Value.ok m

/-- The reference's results of the arguments a device holds: the gradient, the two moments and the step. -/
abbrev rG (c : Dev nD) : FVec Ideal S16x32x256 .f32 := val_main_v5 (F := Ideal) (m (c.tc.loc main_arg0)) (m (c.tc.loc main_arg1)) (m (c.tc.loc main_arg2))
abbrev rU (c : Dev nD) : FVec Ideal S16x32x256 .f32 := val_main_v10 (F := Ideal) (m (c.tc.loc main_arg0)) (m (c.tc.loc main_arg1)) (m (c.tc.loc main_arg2)) (m (c.tc.loc main_arg4))
abbrev rV (c : Dev nD) : FVec Ideal S16x32x256 .f32 := val_main_v16 (F := Ideal) (m (c.tc.loc main_arg0)) (m (c.tc.loc main_arg1)) (m (c.tc.loc main_arg2)) (m (c.tc.loc main_arg5))
abbrev rD (c : Dev nD) : FVec Ideal S16x32x256 .f32 :=
  val_main_v29 (F := Ideal) (m (c.tc.loc main_arg0)) (m (c.tc.loc main_arg1)) (m (c.tc.loc main_arg2)) (m (c.tc.loc main_arg3)) (m (c.tc.loc main_arg4)) (m (c.tc.loc main_arg5))

/-- Where the blocks of the windows sit. -/
theorem idx : ∀ t : Fin (cfgM m hO).N, ((cfgM m hO).win 1).index t = ![0, t.val, 0, 0] ∧ ((cfgM m hO).win 2).index t = ![t.val, 0, 0]
    ∧ ((cfgM m hO).win 3).index t = ![t.val, 0, 0] ∧ ((cfgM m hO).win 4).index t = ![t.val, 0, 0]
    ∧ ((cfgM m hO).win 5).index t = ![t.val, 0, 0] ∧ ((cfgM m hO).win 6).index t = ![t.val, 0, 0]
    ∧ ((cfgM m hO).win 7).index t = ![t.val, 0, 0] ∧ ((cfgM m hO).win 8).index t = ![t.val, 0, 0] :=
  (by decide +kernel : ∀ t : Fin grid0.N, cc0_transform_1 (grid0.coords t) = ![0, t.val, 0, 0] ∧ cc0_transform_2 (grid0.coords t) = ![t.val, 0, 0]
    ∧ cc0_transform_3 (grid0.coords t) = ![t.val, 0, 0] ∧ cc0_transform_4 (grid0.coords t) = ![t.val, 0, 0]
    ∧ cc0_transform_5 (grid0.coords t) = ![t.val, 0, 0] ∧ cc0_transform_6 (grid0.coords t) = ![t.val, 0, 0]
    ∧ cc0_transform_7 (grid0.coords t) = ![t.val, 0, 0] ∧ cc0_transform_8 (grid0.coords t) = ![t.val, 0, 0])

/-- Where the own quarter's block sits. -/
theorem idx0 (t : Fin (cfgM m hO).N) : ((cfgM m hO).win 0).index t = ![(part (m (((0 : Dev nD) : Thread nD τ).loc main_arg0) (ix1 (0 : Fin 1)))).val, t.val, 0, 0] :=
  (Cert.AdamLru.Value.place _ _ (Cert.AdamLru.Value.table m) (grid0.coords t) Facts₀.inb_S1_S1_0 Facts₀.numel1_S1).trans
    (by rw [(by decide +kernel : ∀ t : Fin grid0.N, (grid0.coords t 0).val = t.val) t])

/-- The blocks of a result fill it. -/
theorem cover : ((cfgM m hO).win 5).Covers :=
  Pipeline.Window.covers_of_index_surj _ rfl (by decide : ∀ a : Fin 3, 0 < S1x32x256.size a)
    (by decide +kernel : ∀ β : (a : Fin 3) → Fin ((S16x32x256.size a + S1x32x256.size a - 1) / S1x32x256.size a), ∃ t : Fin grid0.N, ∀ a, cc0_transform_5 (grid0.coords t) a = (β a).val)

variable (c : Dev nD) (t : Fin (cfgM m hO).N)

/-- What a point reads of the own quarter. -/
theorem in0 (y : S1x1x32x256.Idx) (i : S4x16x32x256.Idx) (h0 : (i 0).val = (part (m (((0 : Dev nD) : Thread nD τ).loc main_arg0) (ix1 (0 : Fin 1)))).val)
    (h1 : (i 1).val = t.val + (y 1).val) (h2 : (i 2).val = (y 2).val) (h3 : (i 3).val = (y 3).val) :
    iblk m hO c 0 t y = m ((c : Thread nD τ).loc main_arg1) i := by
  blk_point [iblk, V, idx0 m hO t]

/-- The element of the quarter that an element of a point's block is. -/
abbrev at_ (t : Fin grid0.N) (y : S1x32x256.Idx) (i : S16x32x256.Idx) : Prop := (i 0).val = t.val + (y 0).val ∧ (i 1).val = (y 1).val ∧ (i 2).val = (y 2).val

/-- The received blocks of a point. -/
abbrev got0 := got 0 (iblk m hO c 1 t) Facts₀.inb_S3x1x32x256_S1x1x32x256_0_0_0_0
abbrev got1 := got 1 (iblk m hO c 1 t) Facts₀.inb_S3x1x32x256_S1x1x32x256_1_0_0_0
abbrev got2 := got 2 (iblk m hO c 1 t) Facts₀.inb_S3x1x32x256_S1x1x32x256_2_0_0_0

/-- The gradient a point sums. -/
abbrev sum : FVec Ideal S32x256 .f32 := k0_pay6 (F := Ideal) (iblk m hO c 0 t) (got0 m hO c t) (got1 m hO c t) (got2 m hO c t)

variable (y : S1x32x256.Idx) (i : S16x32x256.Idx) (h : at_ t y i)

include h in
/-- What a point reads of the weight and of the two moments. -/
theorem in234 : iblk m hO c 2 t y = m ((c : Thread nD τ).loc main_arg3) i ∧ iblk m hO c 3 t y = m ((c : Thread nD τ).loc main_arg4) i
      ∧ iblk m hO c 4 t y = m ((c : Thread nD τ).loc main_arg5) i := by
  obtain ⟨h0, h1, h2⟩ := h
  refine ⟨?_, ?_, ?_⟩
  all_goals blk_point [iblk, V, idx m hO t]

include h in
/-- The gradient a point sums, as the reference sums it. -/
theorem total_point : sum m hO c t (ix2 (y 1) (y 2)) = rG m c i := by
  obtain rfl : c = 0 := Subsingleton.elim _ _
  obtain ⟨h0, h1, h2⟩ := h
  have hr := host_total Cert.AdamLruRefIdeal.Facts₀.gather_S4x16x32x256_S1_S16x32x256_012_0_n_n_0_0_11632256_wf
    (m (((0 : Dev nD) : Thread nD τ).loc main_arg1)) (m (((0 : Dev nD) : Thread nD τ).loc main_arg2))
    (val_main_call0_v0 (F := Ideal) (m (((0 : Dev nD) : Thread nD τ).loc main_arg0))) Cert.AdamLruRefIdeal.Facts₀.bitsLt_bf16_f32
    Cert.AdamLruRefIdeal.Facts₀.reducesTo_S3x16x32x256_S16x32x256_d0 Cert.AdamLruRefIdeal.Facts₀.h_S_ i
  rw [show val_main_call0_v0 (F := Ideal) (m (((0 : Dev nD) : Thread nD τ).loc main_arg0)) (ix1 (0 : Fin 1)) = m (((0 : Dev nD) : Thread nD τ).loc main_arg0) (ix1 (0 : Fin 1)) by
    unfold val_main_call0_v0 val_main_v0
    pointwise] at hr
  refine (block_total Facts₀.shapeCasts_S1x1x32x256_S32x256 Facts₀.bitsLt_bf16_f32 _ _ _ _ _ (y 1) (y 2)).trans (Eq.trans ?_ hr.symm)
  have hy : (y 0).val = 0 := Nat.lt_one_iff.mp (y 0).isLt
  refine congrArg₂ Cert.AdamBig.total (in0 m hO 0 t _ _ rfl ?_ h1 h2) (funext fun k => ?_)
  · exact h0.trans (by rw [hy]; rfl)
  · blk_point [iblk, V, idx m hO t]

include h in
/-- A point's first moment, as the reference computes it. -/
theorem first_point : k0_pay8 (F := Ideal) (iblk m hO c 0 t) (got0 m hO c t) (got1 m hO c t) (got2 m hO c t) (iblk m hO c 3 t) (ix2 (y 1) (y 2)) = rU m c i :=
  (core_first Facts₀.shapeCasts_S1x32x256_S32x256 (sum m hO c t) (iblk m hO c 3 t) (y 1) (y 2)).trans
    ((congrArg₂ Cert.AdamBig.first (total_point m hO c t y i h) ((congrArg _ (flat y)).trans (in234 m hO c t y i h).2.1)).trans
      (host_first Cert.AdamLruRefIdeal.Facts₀.bcast_S_S16x32x256 _ _ i).symm)

include h in
/-- A point's second moment, as the reference computes it. -/
theorem second_point : k0_pay1 (F := Ideal) (k0_pay9 (iblk m hO c 4 t)) (mulf (sum m hO c t) (sum m hO c t)) (k0_pay11 (F := Ideal)) (ix2 (y 1) (y 2)) = rV m c i :=
  (core_second Facts₀.shapeCasts_S1x32x256_S32x256 (sum m hO c t) (iblk m hO c 4 t) (y 1) (y 2)).trans
    ((congrArg₂ Cert.AdamBig.second (total_point m hO c t y i h) ((congrArg _ (flat y)).trans (in234 m hO c t y i h).2.2)).trans
      (host_second Cert.AdamLruRefIdeal.Facts₀.bcast_S_S16x32x256 _ _ i).symm)

/-- A stored block read at an element. -/
theorem stored_apply (g : FVec Ideal S32x256 .f32) (y : S1x32x256.Idx) : shapeCast S1x32x256 g Facts₀.shapeCasts_S32x256_S1x32x256 y = g (ix2 (y 1) (y 2)) := by
  pointwise

/-- A stored block's step, of the weight and the two new moments. -/
theorem step_apply (w : FVec Ideal S1x32x256 .f32) (u p q r : FVec Ideal S32x256 .f32) (y : S1x32x256.Idx) :
    k0_pay3 (F := Ideal) (k0_pay7 w) u p q r y = Cert.AdamBig.step (w y) (u (ix2 (y 1) (y 2))) (k0_pay1 (F := Ideal) p q r (ix2 (y 1) (y 2))) :=
  (stored_apply _ y).trans ((core_step Facts₀.shapeCasts_S1x32x256_S32x256 w u _ (y 1) (y 2)).trans (congrArg (fun z => Cert.AdamBig.step (w z) _ _) (flat y)))

/-- The staged blocks read back. -/
theorem read : (ms0_0 m hO t).view.read (Elt Ideal) ((hs0_0 m hO t).unread (iblk m hO c 0 t)) = iblk m hO c 0 t
    ∧ (ms0_1 m hO t).view.read (Elt Ideal) ((hs0_1 m hO t).unread (iblk m hO c 1 t)) = iblk m hO c 1 t
    ∧ (ms0_2 m hO t).view.read (Elt Ideal) ((hs0_2 m hO t).unread (iblk m hO c 2 t)) = iblk m hO c 2 t
    ∧ (ms0_3 m hO t).view.read (Elt Ideal) ((hs0_3 m hO t).unread (iblk m hO c 3 t)) = iblk m hO c 3 t
    ∧ (ms0_4 m hO t).view.read (Elt Ideal) ((hs0_4 m hO t).unread (iblk m hO c 4 t)) = iblk m hO c 4 t :=
  ⟨(hs0_0 m hO t).read_unread _, (hs0_1 m hO t).read_unread _, (hs0_2 m hO t).read_unread _, (hs0_3 m hO t).read_unread _, (hs0_4 m hO t).read_unread _⟩

/-- The gradient after the run. -/
theorem final5 : (dats m hO 0 c).arrAt 5 (cfgM m hO).N = rG m c := by
  refine (dats m hO 0 c).arrAt_eq_of_covers 5 _ (cover m hO) fun t hf y => ?_
  blk_simp
  obtain ⟨r0, r1, r2, r3, r4⟩ := read m hO c t
  rw [after0_5]; unfold outsAt0; frame_out
  rw [r0, r1]
  refine (stored_apply _ y).trans (total_point m hO c t y _ ⟨?_, ?_, ?_⟩)
  all_goals blk_point [idx m hO t]

/-- The step after the run. -/
theorem final6 : (dats m hO 0 c).arrAt 6 (cfgM m hO).N = rD m c := by
  refine (dats m hO 0 c).arrAt_eq_of_covers 6 _ (cover m hO) fun t hf y => ?_
  blk_simp
  obtain ⟨r0, r1, r2, r3, r4⟩ := read m hO c t
  rw [after0_6]; unfold outsAt0; frame_out
  rw [r0, r1, r2, r3, r4]
  refine (step_apply _ _ _ _ _ y).trans (Eq.trans ?_ (host_step Cert.AdamLruRefIdeal.Facts₀.bcast_S_S16x32x256 _ _ _ _).symm)
  refine congr (congrArg₂ Cert.AdamBig.step (in234 m hO c t y _ ⟨?_, ?_, ?_⟩).1 (first_point m hO c t y _ ⟨?_, ?_, ?_⟩)) (second_point m hO c t y _ ⟨?_, ?_, ?_⟩)
  all_goals blk_point [idx m hO t]

/-- The first moment after the run. -/
theorem final7 : (dats m hO 0 c).arrAt 7 (cfgM m hO).N = rU m c := by
  refine (dats m hO 0 c).arrAt_eq_of_covers 7 _ (cover m hO) fun t hf y => ?_
  blk_simp
  obtain ⟨r0, r1, r2, r3, r4⟩ := read m hO c t
  rw [after0_7]; unfold outsAt0; frame_out
  rw [r0, r1, r3]
  refine (stored_apply _ y).trans (first_point m hO c t y _ ⟨?_, ?_, ?_⟩)
  all_goals blk_point [idx m hO t]

/-- The second moment after the run. -/
theorem final8 : (dats m hO 0 c).arrAt 8 (cfgM m hO).N = rV m c := by
  refine (dats m hO 0 c).arrAt_eq_of_covers 8 _ (cover m hO) fun t hf y => ?_
  blk_simp
  obtain ⟨r0, r1, r2, r3, r4⟩ := read m hO c t
  rw [after0_8]; unfold outsAt0; frame_out
  rw [r0, r1, r4]
  refine (stored_apply _ y).trans (second_point m hO c t y _ ⟨?_, ?_, ?_⟩)
  all_goals blk_point [idx m hO t]

/-- The run: its four results are the reference's, and its arguments end unchanged. -/
theorem run (ρ : Dev nD → PrngReg) : θ_run defs (onTc (τ := τ) (main (F := Ideal))) ⟨m, fun _ => 0, ρ⟩ (fun r => ∀ c : Dev nD,
      r.2.mem (c.tc.loc main_v1_0) = rG m c ∧ r.2.mem (c.tc.loc main_v1_1) = rD m c ∧ r.2.mem (c.tc.loc main_v1_2) = rU m c ∧ r.2.mem (c.tc.loc main_v1_3) = rV m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono
    (fun r h c => ⟨((h.1 c).1 5).trans (final5 m (ok m) c), ((h.1 c).1 6).trans (final6 m (ok m) c), ((h.1 c).1 7).trans (final7 m (ok m) c),
      ((h.1 c).1 8).trans (final8 m (ok m) c), h.2 c⟩)
    (θ_run_and (run_main m ρ (ok m)) (unchanged m ρ (ok m)))

end Cert.AdamLruIdeal.Value

end
-- ==== Proof.AdamFf1.lean ====
/- The optimiser's launch on the first feed-forward weight, whose quarters are sets of columns: the parts are of rank three and a block has no leading axis. -/
module

public import proofs.«01_k».proof.Proof.AdamBig
public import proofs.«01_k».proof.Proof.Gen.AdamFf1.Frame
public import proofs.«01_k».proof.Proof.Gen.AdamFf1Ideal.Frame
public import proofs.«01_k».proof.Proof.Gen.AdamFf1RefIdeal.Read

@[expose] public section

set_option maxRecDepth 16384

noncomputable section

open Idealize.ShloMosaic Idealize.ShloMosaic.TcCoe Idealize.SL.Sem

namespace Cert.AdamBig

/-- The gather's dimension numbers that pick along the leading axis of an array of rank three. -/
abbrev lead2 (N A B : Nat) (wf : GatherDims.WF ⟨3, ![N, A, B]⟩ ⟨1, ![1]⟩ ⟨2, ![A, B]⟩ [0, 1] [0] [] [0] [] 0 ![1, A, B]) :
    GatherDims ⟨3, ![N, A, B]⟩ ⟨1, ![1]⟩ ⟨2, ![A, B]⟩ where
  offsetDims := [0, 1]
  collapsedSliceDims := [0]
  operandBatchingDims := []
  startIndicesBatchingDims := []
  startIndexMap := [0]
  indexVectorDim := 0
  sliceSizes := ![1, A, B]
  wf := wf

theorem gather_lead2 {α : Type} {A B : Nat} (wf : GatherDims.WF ⟨3, ![4, A, B]⟩ ⟨1, ![1]⟩ ⟨2, ![A, B]⟩ [0, 1] [0] [] [0] [] 0 ![1, A, B])
    (x : (⟨3, ![4, A, B]⟩ : Shape).Idx → α) (q : IVec ⟨1, ![1]⟩ 32) (y : (⟨2, ![A, B]⟩ : Shape).Idx) :
    Host.gather (lead2 4 A B wf) x q y = x (ix3 (part (q (ix1 (0 : Fin 1)))) (y 0) (y 1)) := by
  unfold Host.gather
  congr 1
  funext a
  refine Fin.ext ?_
  show (lead2 4 A B wf).start y q a + (lead2 4 A B wf).batchCoord y a + (lead2 4 A B wf).offCoord y a = _
  have hk : (lead2 4 A B wf).sKept = [1, 2] := rfl
  have hc : a = 0 ∨ a = 1 ∨ a = 2 := by
    match a with
    | ⟨0, _⟩ => exact .inl rfl
    | ⟨1, _⟩ => exact .inr (.inl rfl)
    | ⟨2, _⟩ => exact .inr (.inr rfl)
  rw [GatherDims.batchCoord_eq_zero _ _ _ List.not_mem_nil]
  rcases hc with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (lead2 4 A B wf).startIndexMap from List.mem_singleton.mpr rfl)]
    exact congrArg (fun j => min (q j).toInt.toNat 3) (one_idx _)
  all_goals
    unfold GatherDims.start GatherDims.offCoord
    rw [dif_neg (by simp), dif_pos (by rw [hk]; simp)]
    simp only [Nat.zero_add, hk]
    rfl

/-- The reference's gradient at an element, over parts of rank three. -/
theorem host_total2 {A B : Nat} (wf : GatherDims.WF ⟨3, ![4, A, B]⟩ ⟨1, ![1]⟩ ⟨2, ![A, B]⟩ [0, 1] [0] [] [0] [] 0 ![1, A, B])
    (x : FVec Ideal ⟨3, ![4, A, B]⟩ .bf16) (r : FVec Ideal ⟨3, ![3, A, B]⟩ .bf16) (q : IVec ⟨1, ![1]⟩ 32) (b : FTy.bits .bf16 < FTy.bits .f32)
    (h : (⟨3, ![3, A, B]⟩ : Shape).ReducesTo [0] ⟨2, ![A, B]⟩) (h0 : 0 < (⟨0, ![]⟩ : Shape).numel) (i : (⟨2, ![A, B]⟩ : Shape).Idx) :
    addf (extf .f32 (Host.gather (lead2 4 A B wf) x q) b) (Host.reduceAdd (extf .f32 r b) (constant (F := Ideal) ⟨0, ![]⟩ .f32 0x00000000#32) h h0) i
      = total (x (ix3 (part (q (ix1 (0 : Fin 1)))) (i 0) (i 1))) (fun k => r (ix3 k (i 0) (i 1))) := by
  unfold total
  refine congrArg₂ HAdd.hAdd (gather_lead2 wf x q i) ?_
  pointwise

/-- Received block `k` of a point's three. -/
abbrev got2 {R C : Nat} (k : Nat) (r : Vec Ideal ⟨3, ![3, R, C]⟩ .bf16) (h : ∀ x, (![k, 0, 0] : Fin 3 → Nat) x + (⟨3, ![1, R, C]⟩ : Shape).size x ≤ (⟨3, ![3, R, C]⟩ : Shape).size x) :
    Vec Ideal ⟨3, ![1, R, C]⟩ .bf16 :=
  View.ld (Val := Elt Ideal) (e' := .bf16) r (Rect.unit (s := ⟨3, ![3, R, C]⟩) ![k, 0, 0] (⟨3, ![1, R, C]⟩ : Shape).size h)

/-- A received block read at an element. -/
theorem got2_apply {R C : Nat} (k : Fin 3) (r : Vec Ideal ⟨3, ![3, R, C]⟩ .bf16) (h) (p : Fin R) (q : Fin C) : got2 k.val r h (ix3 0 p q) = r (ix3 k p q) := by
  refine congrArg r (funext fun x => Fin.ext ?_)
  match x with
  | ⟨0, _⟩ => show k.val + 1 * 0 = k.val; omega
  | ⟨1, _⟩ => show 0 + 1 * p.val = p.val; omega
  | ⟨2, _⟩ => show 0 + 1 * q.val = q.val; omega

/-- A block's gradient at an element, over the received blocks. -/
theorem block_total2 {R C : Nat} (h : (⟨3, ![1, R, C]⟩ : Shape).ShapeCasts ⟨2, ![R, C]⟩) (e : FTy.bits .bf16 < FTy.bits .f32)
    (a : FVec Ideal ⟨3, ![1, R, C]⟩ .bf16) (r : FVec Ideal ⟨3, ![3, R, C]⟩ .bf16) (h0 h1 h2) (p : Fin R) (q : Fin C) :
    addf (addf (addf (extf .f32 (shapeCast ⟨2, ![R, C]⟩ a h) e) (extf .f32 (shapeCast ⟨2, ![R, C]⟩ (got2 0 r h0) h) e)) (extf .f32 (shapeCast ⟨2, ![R, C]⟩ (got2 1 r h1) h) e))
        (extf .f32 (shapeCast ⟨2, ![R, C]⟩ (got2 2 r h2) h) e) (ix2 p q)
      = total (a (ix3 0 p q)) (fun k => r (ix3 k p q)) := by
  have key : ∀ b0 b1 b2 : FVec Ideal ⟨3, ![1, R, C]⟩ .bf16,
      addf (addf (addf (extf .f32 (shapeCast ⟨2, ![R, C]⟩ a h) e) (extf .f32 (shapeCast ⟨2, ![R, C]⟩ b0 h) e)) (extf .f32 (shapeCast ⟨2, ![R, C]⟩ b1 h) e))
          (extf .f32 (shapeCast ⟨2, ![R, C]⟩ b2 h) e) (ix2 p q)
        = a (ix3 0 p q) + (b0 (ix3 0 p q) + b1 (ix3 0 p q) + b2 (ix3 0 p q)) := by
    intro b0 b1 b2
    pointwise
    rw [show Shape.reshapeEquiv h (ix2 p q) = ix3 0 p q from ValueIdx.reshapeEquiv_ix2_1ab h p q]
    simp only [add_assoc]
  rw [key]
  unfold total
  rw [Fin.sum_univ_three, ← got2_apply 0 r h0 p q, ← got2_apply 1 r h1 p q, ← got2_apply 2 r h2 p q]
  rfl

end Cert.AdamBig

namespace Cert.AdamFf1.Value

open Cert.AdamFf1 Cert.AdamFf1.Gen

/-- The table holds the quarter's word. -/
theorem table {F : FTy → Type} [FloatOps F] (m : (ℓ : Loc nD τ sig) → Buf (Elt F) ℓ) :
    (tbl m) 0 = fun _ => BitVec.ofNat 32 (Cert.AdamBig.part (m (((0 : Dev nD) : Thread nD τ).loc main_arg0) (ix1 (0 : Fin 1)))).val := by
  funext y
  obtain rfl := Cert.AdamBig.one_idx y
  unfold tbl
  show V m 0 main_v0 (ix1 (0 : Fin 1)) = _
  simp only [V, hostOps0, hostOps0_1, List.flatten_cons, List.flatten_nil, List.append_nil, List.cons_append, List.nil_append]
  after_results_simp
  rw [← Cert.AdamBig.clip_word]
  rfl

/-- The own quarter's block, by the grid point. -/
theorem place {F : FTy → Type} (k : Fin 4) (pf : pre0.Contents (Elt F)) (h : pf 0 = fun _ => BitVec.ofNat 32 k.val) (i : grid0.Coords)
    (h1 : ∀ a, (![0] : Fin 1 → Nat) a + S1.size a ≤ S1.size a) (h2 : S1.numel = 1) :
    cc0_transform_0 h1 h2 pf i = ![k.val, (i 0).val, 0] := by
  unfold cc0_transform_0
  simp only [Pipeline.Prefetch.Contents.at, h]
  clear h pf
  revert k i
  decide +kernel

/-- The launch's side condition: the own quarter's block lies inside the parts. -/
theorem ok {F : FTy → Type} [FloatOps F] (m : (ℓ : Loc nD τ sig) → Buf (Elt F) ℓ) : Ok m := by
  intro i
  have hp := place _ _ (table m) i Facts₀.inb_S1_S1_0 Facts₀.numel1_S1
  refine ⟨fun a => ?_, .inr (Affine.block_words_dvd (of_decide_eq_true rfl) (by decide))⟩
  rw [hp]
  clear hp
  generalize Cert.AdamBig.part _ = k
  revert a i k
  decide +kernel

end Cert.AdamFf1.Value

namespace Cert.AdamFf1Ideal.Value

open Cert.AdamFf1Ideal Cert.AdamFf1Ideal.Gen Cert.AdamFf1RefIdeal.Read
open Cert.AdamBig (part host_first host_second host_step host_total2 block_total2)

variable (m : (ℓ : Loc nD τ sig) → Buf (Elt Ideal) ℓ) (hO : Ok m)

/-- The launch's side condition: the idealized program's is the printed one's. -/
theorem ok : Ok m := Cert.AdamFf1.Value.ok m

/-- The reference's results of the arguments a device holds: the gradient, the two moments and the step. -/
abbrev rG (c : Dev nD) : FVec Ideal S2048x1024 .f32 := val_main_v5 (F := Ideal) (m (c.tc.loc main_arg0)) (m (c.tc.loc main_arg1)) (m (c.tc.loc main_arg2))
abbrev rU (c : Dev nD) : FVec Ideal S2048x1024 .f32 := val_main_v10 (F := Ideal) (m (c.tc.loc main_arg0)) (m (c.tc.loc main_arg1)) (m (c.tc.loc main_arg2)) (m (c.tc.loc main_arg4))
abbrev rV (c : Dev nD) : FVec Ideal S2048x1024 .f32 := val_main_v16 (F := Ideal) (m (c.tc.loc main_arg0)) (m (c.tc.loc main_arg1)) (m (c.tc.loc main_arg2)) (m (c.tc.loc main_arg5))
abbrev rD (c : Dev nD) : FVec Ideal S2048x1024 .f32 :=
  val_main_v29 (F := Ideal) (m (c.tc.loc main_arg0)) (m (c.tc.loc main_arg1)) (m (c.tc.loc main_arg2)) (m (c.tc.loc main_arg3)) (m (c.tc.loc main_arg4)) (m (c.tc.loc main_arg5))

/-- Where the blocks of the windows sit. -/
theorem idx : ∀ t : Fin (cfgM m hO).N, ((cfgM m hO).win 1).index t = ![0, t.val, 0] ∧ ((cfgM m hO).win 2).index t = ![t.val, 0]
    ∧ ((cfgM m hO).win 3).index t = ![t.val, 0] ∧ ((cfgM m hO).win 4).index t = ![t.val, 0]
    ∧ ((cfgM m hO).win 5).index t = ![t.val, 0] ∧ ((cfgM m hO).win 6).index t = ![t.val, 0]
    ∧ ((cfgM m hO).win 7).index t = ![t.val, 0] ∧ ((cfgM m hO).win 8).index t = ![t.val, 0] :=
  (by decide +kernel : ∀ t : Fin grid0.N, cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0])

/-- Where the own quarter's block sits. -/
theorem idx0 (t : Fin (cfgM m hO).N) : ((cfgM m hO).win 0).index t = ![(part (m (((0 : Dev nD) : Thread nD τ).loc main_arg0) (ix1 (0 : Fin 1)))).val, t.val, 0] :=
  (Cert.AdamFf1.Value.place _ _ (Cert.AdamFf1.Value.table m) (grid0.coords t) Facts₀.inb_S1_S1_0 Facts₀.numel1_S1).trans
    (by rw [(by decide +kernel : ∀ t : Fin grid0.N, (grid0.coords t 0).val = t.val) t])

/-- The blocks of a result fill it. -/
theorem cover : ((cfgM m hO).win 5).Covers :=
  Pipeline.Window.covers_of_index_surj _ rfl (by decide : ∀ a : Fin 2, 0 < S256x1024.size a)
    (by decide +kernel : ∀ β : (a : Fin 2) → Fin ((S2048x1024.size a + S256x1024.size a - 1) / S256x1024.size a), ∃ t : Fin grid0.N, ∀ a, cc0_transform_5 (grid0.coords t) a = (β a).val)

variable (c : Dev nD) (t : Fin (cfgM m hO).N)

/-- What a point reads of the own quarter. -/
theorem in0 (y : S1x256x1024.Idx) (i : S4x2048x1024.Idx) (h0 : (i 0).val = (part (m (((0 : Dev nD) : Thread nD τ).loc main_arg0) (ix1 (0 : Fin 1)))).val)
    (h1 : (i 1).val = t.val * 256 + (y 1).val) (h2 : (i 2).val = (y 2).val) :
    iblk m hO c 0 t y = m ((c : Thread nD τ).loc main_arg1) i := by
  blk_point [iblk, V, idx0 m hO t]

/-- The element of the quarter that an element of a point's block is. -/
abbrev at_ (t : Fin grid0.N) (y : S256x1024.Idx) (i : S2048x1024.Idx) : Prop := (i 0).val = t.val * 256 + (y 0).val ∧ (i 1).val = (y 1).val

/-- The received blocks of a point. -/
abbrev got0 := Cert.AdamBig.got2 0 (iblk m hO c 1 t) Facts₀.inb_S3x256x1024_S1x256x1024_0_0_0
abbrev got1 := Cert.AdamBig.got2 1 (iblk m hO c 1 t) Facts₀.inb_S3x256x1024_S1x256x1024_1_0_0
abbrev got2 := Cert.AdamBig.got2 2 (iblk m hO c 1 t) Facts₀.inb_S3x256x1024_S1x256x1024_2_0_0

/-- The gradient a point sums. -/
abbrev sum : FVec Ideal S256x1024 .f32 := k0_pay2 (F := Ideal) (iblk m hO c 0 t) (got0 m hO c t) (got1 m hO c t) (got2 m hO c t)

/-- The moments a point computes. -/
abbrev mom : FVec Ideal S256x1024 .f32 := k0_pay3 (F := Ideal) (iblk m hO c 0 t) (got0 m hO c t) (got1 m hO c t) (got2 m hO c t) (iblk m hO c 3 t)
abbrev mom2 : FVec Ideal S256x1024 .f32 := k0_pay4 (F := Ideal) (iblk m hO c 0 t) (got0 m hO c t) (got1 m hO c t) (got2 m hO c t) (iblk m hO c 4 t)

variable (y : S256x1024.Idx) (i : S2048x1024.Idx) (h : at_ t y i)

include h in
/-- What a point reads of the weight and of the two moments. -/
theorem in234 : iblk m hO c 2 t y = m ((c : Thread nD τ).loc main_arg3) i ∧ iblk m hO c 3 t y = m ((c : Thread nD τ).loc main_arg4) i
      ∧ iblk m hO c 4 t y = m ((c : Thread nD τ).loc main_arg5) i := by
  obtain ⟨h0, h1⟩ := h
  refine ⟨?_, ?_, ?_⟩
  all_goals blk_point [iblk, V, idx m hO t]

include h in
/-- The gradient a point sums, as the reference sums it. -/
theorem total_point : sum m hO c t y = rG m c i := by
  obtain rfl : c = 0 := Subsingleton.elim _ _
  obtain ⟨h0, h1⟩ := h
  have hr := host_total2 Cert.AdamFf1RefIdeal.Facts₀.gather_S4x2048x1024_S1_S2048x1024_01_0_n_n_0_0_120481024_wf
    (m (((0 : Dev nD) : Thread nD τ).loc main_arg1)) (m (((0 : Dev nD) : Thread nD τ).loc main_arg2))
    (val_main_call0_v0 (F := Ideal) (m (((0 : Dev nD) : Thread nD τ).loc main_arg0))) Cert.AdamFf1RefIdeal.Facts₀.bitsLt_bf16_f32
    Cert.AdamFf1RefIdeal.Facts₀.reducesTo_S3x2048x1024_S2048x1024_d0 Cert.AdamFf1RefIdeal.Facts₀.h_S_ i
  rw [show val_main_call0_v0 (F := Ideal) (m (((0 : Dev nD) : Thread nD τ).loc main_arg0)) (ix1 (0 : Fin 1)) = m (((0 : Dev nD) : Thread nD τ).loc main_arg0) (ix1 (0 : Fin 1)) by
    unfold val_main_call0_v0 val_main_v0
    pointwise] at hr
  refine (congrArg (sum m hO 0 t) (show y = ix2 (y 0) (y 1) from funext fun a => by match a with | ⟨0, _⟩ => rfl | ⟨1, _⟩ => rfl)).trans ?_
  refine (block_total2 Facts₀.shapeCasts_S1x256x1024_S256x1024 Facts₀.bitsLt_bf16_f32 _ _ _ _ _ (y 0) (y 1)).trans (Eq.trans ?_ hr.symm)
  refine congrArg₂ Cert.AdamBig.total (in0 m hO 0 t _ _ rfl h0 h1) (funext fun k => ?_)
  blk_point [iblk, V, idx m hO t]

include h in
/-- A point's first moment, as the reference computes it. -/
theorem first_point : mom m hO c t y = rU m c i := by
  refine Eq.trans ?_ ((congrArg₂ Cert.AdamBig.first (total_point m hO c t y i h) (in234 m hO c t y i h).2.1).trans
    (host_first Cert.AdamFf1RefIdeal.Facts₀.bcast_S_S2048x1024 _ _ i).symm)
  unfold mom k0_pay3 Cert.AdamBig.first
  rfl

include h in
/-- A point's second moment, as the reference computes it. -/
theorem second_point : mom2 m hO c t y = rV m c i := by
  refine Eq.trans ?_ ((congrArg₂ Cert.AdamBig.second (total_point m hO c t y i h) (in234 m hO c t y i h).2.2).trans
    (host_second Cert.AdamFf1RefIdeal.Facts₀.bcast_S_S2048x1024 _ _ i).symm)
  unfold mom2 k0_pay4 Cert.AdamBig.second
  rfl

/-- The staged blocks read back. -/
theorem read : (ms0_0 m hO t).view.read (Elt Ideal) ((hs0_0 m hO t).unread (iblk m hO c 0 t)) = iblk m hO c 0 t
    ∧ (ms0_1 m hO t).view.read (Elt Ideal) ((hs0_1 m hO t).unread (iblk m hO c 1 t)) = iblk m hO c 1 t
    ∧ (ms0_2 m hO t).view.read (Elt Ideal) ((hs0_2 m hO t).unread (iblk m hO c 2 t)) = iblk m hO c 2 t
    ∧ (ms0_3 m hO t).view.read (Elt Ideal) ((hs0_3 m hO t).unread (iblk m hO c 3 t)) = iblk m hO c 3 t
    ∧ (ms0_4 m hO t).view.read (Elt Ideal) ((hs0_4 m hO t).unread (iblk m hO c 4 t)) = iblk m hO c 4 t :=
  ⟨(hs0_0 m hO t).read_unread _, (hs0_1 m hO t).read_unread _, (hs0_2 m hO t).read_unread _, (hs0_3 m hO t).read_unread _, (hs0_4 m hO t).read_unread _⟩

/-- A point's step, of the weight and the two new moments. -/
theorem step_apply (w : FVec Ideal S256x1024 .f32) (a b0 b1 b2 : FVec Ideal S1x256x1024 .bf16) (u v : FVec Ideal S256x1024 .f32) (y : S256x1024.Idx) :
    k0_pay1 (F := Ideal) w (k0_pay5 a b0 b1 b2 u) (k0_pay6 a b0 b1 b2 v) (Scalar.ofBits .f32 0x322BCC77#32) y
      = Cert.AdamBig.step (w y) (k0_pay3 (F := Ideal) a b0 b1 b2 u y) (k0_pay4 (F := Ideal) a b0 b1 b2 v y) := by
  unfold Cert.AdamBig.step k0_pay1 k0_pay5 k0_pay6
  generalize k0_pay3 (F := Ideal) a b0 b1 b2 u = p
  generalize k0_pay4 (F := Ideal) a b0 b1 b2 v = q
  pointwise

/-- The gradient after the run. -/
theorem final5 : (dats m hO 0 c).arrAt 5 (cfgM m hO).N = rG m c := by
  refine (dats m hO 0 c).arrAt_eq_of_covers 5 _ (cover m hO) fun t hf y => ?_
  blk_simp
  obtain ⟨r0, r1, r2, r3, r4⟩ := read m hO c t
  rw [after0_5]; unfold outsAt0; frame_out
  rw [r0, r1]
  refine total_point m hO c t y _ ⟨?_, ?_⟩
  all_goals blk_point [idx m hO t]

/-- The step after the run. -/
theorem final6 : (dats m hO 0 c).arrAt 6 (cfgM m hO).N = rD m c := by
  refine (dats m hO 0 c).arrAt_eq_of_covers 6 _ (cover m hO) fun t hf y => ?_
  blk_simp
  obtain ⟨r0, r1, r2, r3, r4⟩ := read m hO c t
  rw [after0_6]; unfold outsAt0; frame_out
  rw [r0, r1, r2, r3, r4]
  refine (step_apply _ _ _ _ _ _ _ y).trans (Eq.trans ?_ (host_step Cert.AdamFf1RefIdeal.Facts₀.bcast_S_S2048x1024 _ _ _ _).symm)
  refine congr (congrArg₂ Cert.AdamBig.step (in234 m hO c t y _ ⟨?_, ?_⟩).1 (first_point m hO c t y _ ⟨?_, ?_⟩)) (second_point m hO c t y _ ⟨?_, ?_⟩)
  all_goals blk_point [idx m hO t]

/-- The first moment after the run. -/
theorem final7 : (dats m hO 0 c).arrAt 7 (cfgM m hO).N = rU m c := by
  refine (dats m hO 0 c).arrAt_eq_of_covers 7 _ (cover m hO) fun t hf y => ?_
  blk_simp
  obtain ⟨r0, r1, r2, r3, r4⟩ := read m hO c t
  rw [after0_7]; unfold outsAt0; frame_out
  rw [r0, r1, r3]
  refine first_point m hO c t y _ ⟨?_, ?_⟩
  all_goals blk_point [idx m hO t]

/-- The second moment after the run. -/
theorem final8 : (dats m hO 0 c).arrAt 8 (cfgM m hO).N = rV m c := by
  refine (dats m hO 0 c).arrAt_eq_of_covers 8 _ (cover m hO) fun t hf y => ?_
  blk_simp
  obtain ⟨r0, r1, r2, r3, r4⟩ := read m hO c t
  rw [after0_8]; unfold outsAt0; frame_out
  rw [r0, r1, r4]
  refine second_point m hO c t y _ ⟨?_, ?_⟩
  all_goals blk_point [idx m hO t]

/-- The run: its four results are the reference's, and its arguments end unchanged. -/
theorem run (ρ : Dev nD → PrngReg) : θ_run defs (onTc (τ := τ) (main (F := Ideal))) ⟨m, fun _ => 0, ρ⟩ (fun r => ∀ c : Dev nD,
      r.2.mem (c.tc.loc main_v1_0) = rG m c ∧ r.2.mem (c.tc.loc main_v1_1) = rD m c ∧ r.2.mem (c.tc.loc main_v1_2) = rU m c ∧ r.2.mem (c.tc.loc main_v1_3) = rV m c
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))) :=
  (θ_run defs _ _).mono
    (fun r h c => ⟨((h.1 c).1 5).trans (final5 m (ok m) c), ((h.1 c).1 6).trans (final6 m (ok m) c), ((h.1 c).1 7).trans (final7 m (ok m) c),
      ((h.1 c).1 8).trans (final8 m (ok m) c), h.2 c⟩)
    (θ_run_and (run_main m ρ (ok m)) (unchanged m ρ (ok m)))

end Cert.AdamFf1Ideal.Value

end
-- ==== Proof.lean ====
module

public import proofs.«01_k».proof.Defs
public import proofs.«01_k».proof.Proof.Gen.Dhdn
public import proofs.«01_k».proof.Proof.Gen.Dhdn.Skeleton
public import proofs.«01_k».proof.Proof.Gen.Dhdn.Launch
public import proofs.«01_k».proof.Proof.Gen.Dhdn.Points
public import proofs.«01_k».proof.Proof.Gen.Dhdn.Frame
public import proofs.«01_k».proof.Proof.Gen.DhdnIdeal
public import proofs.«01_k».proof.Proof.Gen.DhdnIdeal.Skeleton
public import proofs.«01_k».proof.Proof.Gen.DhdnIdeal.Launch
public import proofs.«01_k».proof.Proof.Gen.DhdnIdeal.Points
public import proofs.«01_k».proof.Proof.Gen.DhdnIdeal.Frame
public import proofs.«01_k».proof.Proof.Gen.DhdnRefIdeal
public import proofs.«01_k».proof.Proof.Gen.DhdnRefIdeal.Read
public import proofs.«01_k».proof.Proof.Gen.DhdnRefIdeal.Run
public import proofs.«01_k».proof.Proof.Gen.DwFf2
public import proofs.«01_k».proof.Proof.Gen.DwFf2.Skeleton
public import proofs.«01_k».proof.Proof.Gen.DwFf2.Launch
public import proofs.«01_k».proof.Proof.Gen.DwFf2.Points
public import proofs.«01_k».proof.Proof.Gen.DwFf2.Frame
public import proofs.«01_k».proof.Proof.Gen.DwFf2Ideal
public import proofs.«01_k».proof.Proof.Gen.DwFf2Ideal.Skeleton
public import proofs.«01_k».proof.Proof.Gen.DwFf2Ideal.Launch
public import proofs.«01_k».proof.Proof.Gen.DwFf2Ideal.Points
public import proofs.«01_k».proof.Proof.Gen.DwFf2Ideal.Frame
public import proofs.«01_k».proof.Proof.Gen.DwFf2RefIdeal
public import proofs.«01_k».proof.Proof.Gen.DwFf2RefIdeal.Read
public import proofs.«01_k».proof.Proof.Gen.DwFf2RefIdeal.Run
public import proofs.«01_k».proof.Proof.Gen.DwFf1
public import proofs.«01_k».proof.Proof.Gen.DwFf1.Skeleton
public import proofs.«01_k».proof.Proof.Gen.DwFf1.Launch
public import proofs.«01_k».proof.Proof.Gen.DwFf1.Points
public import proofs.«01_k».proof.Proof.Gen.DwFf1.Frame
public import proofs.«01_k».proof.Proof.Gen.DwFf1Ideal
public import proofs.«01_k».proof.Proof.Gen.DwFf1Ideal.Skeleton
public import proofs.«01_k».proof.Proof.Gen.DwFf1Ideal.Launch
public import proofs.«01_k».proof.Proof.Gen.DwFf1Ideal.Points
public import proofs.«01_k».proof.Proof.Gen.DwFf1Ideal.Frame
public import proofs.«01_k».proof.Proof.Gen.DwFf1RefIdeal
public import proofs.«01_k».proof.Proof.Gen.DwFf1RefIdeal.Read
public import proofs.«01_k».proof.Proof.Gen.DwFf1RefIdeal.Run
public import proofs.«01_k».proof.Proof.Gen.Dx1
public import proofs.«01_k».proof.Proof.Gen.Dx1.Skeleton
public import proofs.«01_k».proof.Proof.Gen.Dx1.Launch
public import proofs.«01_k».proof.Proof.Gen.Dx1.Points
public import proofs.«01_k».proof.Proof.Gen.Dx1.Frame
public import proofs.«01_k».proof.Proof.Gen.Dx1Ideal
public import proofs.«01_k».proof.Proof.Gen.Dx1Ideal.Skeleton
public import proofs.«01_k».proof.Proof.Gen.Dx1Ideal.Launch
public import proofs.«01_k».proof.Proof.Gen.Dx1Ideal.Points
public import proofs.«01_k».proof.Proof.Gen.Dx1Ideal.Frame
public import proofs.«01_k».proof.Proof.Gen.Dx1RefIdeal
public import proofs.«01_k».proof.Proof.Gen.Dx1RefIdeal.Read
public import proofs.«01_k».proof.Proof.Gen.Dx1RefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutRefIdeal.Read
public import proofs.«01_k».proof.Proof.Gen.DwOutRefIdeal.Run
public import proofs.«01_k».proof.Proof.Gen.DwPoolUp
public import proofs.«01_k».proof.Proof.Gen.DwPoolUp.Skeleton
public import proofs.«01_k».proof.Proof.Gen.DwPoolUp.Launch
public import proofs.«01_k».proof.Proof.Gen.DwPoolUp.Points
public import proofs.«01_k».proof.Proof.Gen.DwPoolUp.Frame
public import proofs.«01_k».proof.Proof.Gen.DwPoolUpIdeal
public import proofs.«01_k».proof.Proof.Gen.DwPoolUpIdeal.Skeleton
public import proofs.«01_k».proof.Proof.Gen.DwPoolUpIdeal.Launch
public import proofs.«01_k».proof.Proof.Gen.DwPoolUpIdeal.Points
public import proofs.«01_k».proof.Proof.Gen.DwPoolUpIdeal.Frame
public import proofs.«01_k».proof.Proof.Gen.DwPoolUpRefIdeal
public import proofs.«01_k».proof.Proof.Gen.DwPoolUpRefIdeal.Read
public import proofs.«01_k».proof.Proof.Gen.DwPoolUpRefIdeal.Run
public import proofs.«01_k».proof.Proof.Gen.DwLruUp
public import proofs.«01_k».proof.Proof.Gen.DwLruUp.Skeleton
public import proofs.«01_k».proof.Proof.Gen.DwLruUp.Launch
public import proofs.«01_k».proof.Proof.Gen.DwLruUp.Points
public import proofs.«01_k».proof.Proof.Gen.DwLruUp.Frame
public import proofs.«01_k».proof.Proof.Gen.DwLruUpIdeal
public import proofs.«01_k».proof.Proof.Gen.DwLruUpIdeal.Skeleton
public import proofs.«01_k».proof.Proof.Gen.DwLruUpIdeal.Launch
public import proofs.«01_k».proof.Proof.Gen.DwLruUpIdeal.Points
public import proofs.«01_k».proof.Proof.Gen.DwLruUpIdeal.Frame
public import proofs.«01_k».proof.Proof.Gen.DwLruUpRefIdeal
public import proofs.«01_k».proof.Proof.Gen.DwLruUpRefIdeal.Read
public import proofs.«01_k».proof.Proof.Gen.DwLruUpRefIdeal.Run
public import proofs.«01_k».proof.Proof.Gen.DyPool
public import proofs.«01_k».proof.Proof.Gen.DyPool.Skeleton
public import proofs.«01_k».proof.Proof.Gen.DyPool.Launch
public import proofs.«01_k».proof.Proof.Gen.DyPool.Points
public import proofs.«01_k».proof.Proof.Gen.DyPool.Frame
public import proofs.«01_k».proof.Proof.Gen.DyPoolIdeal
public import proofs.«01_k».proof.Proof.Gen.DyPoolIdeal.Skeleton
public import proofs.«01_k».proof.Proof.Gen.DyPoolIdeal.Launch
public import proofs.«01_k».proof.Proof.Gen.DyPoolIdeal.Points
public import proofs.«01_k».proof.Proof.Gen.DyPoolIdeal.Frame
public import proofs.«01_k».proof.Proof.Gen.DyPoolRefIdeal
public import proofs.«01_k».proof.Proof.Gen.DyPoolRefIdeal.Read
public import proofs.«01_k».proof.Proof.Gen.DyPoolRefIdeal.Run
public import proofs.«01_k».proof.Proof.Gen.DwInLo
public import proofs.«01_k».proof.Proof.Gen.DwInLo.Skeleton
public import proofs.«01_k».proof.Proof.Gen.DwInLo.Launch
public import proofs.«01_k».proof.Proof.Gen.DwInLo.Points
public import proofs.«01_k».proof.Proof.Gen.DwInLo.Frame
public import proofs.«01_k».proof.Proof.Gen.DwInLoIdeal
public import proofs.«01_k».proof.Proof.Gen.DwInLoIdeal.Skeleton
public import proofs.«01_k».proof.Proof.Gen.DwInLoIdeal.Launch
public import proofs.«01_k».proof.Proof.Gen.DwInLoIdeal.Points
public import proofs.«01_k».proof.Proof.Gen.DwInLoIdeal.Frame
public import proofs.«01_k».proof.Proof.Gen.DwInLoRefIdeal
public import proofs.«01_k».proof.Proof.Gen.DwInLoRefIdeal.Read
public import proofs.«01_k».proof.Proof.Gen.DwInLoRefIdeal.Run
public import proofs.«01_k».proof.Proof.Gen.DwInHi
public import proofs.«01_k».proof.Proof.Gen.DwInHi.Skeleton
public import proofs.«01_k».proof.Proof.Gen.DwInHi.Launch
public import proofs.«01_k».proof.Proof.Gen.DwInHi.Points
public import proofs.«01_k».proof.Proof.Gen.DwInHi.Frame
public import proofs.«01_k».proof.Proof.Gen.DwInHiIdeal
public import proofs.«01_k».proof.Proof.Gen.DwInHiIdeal.Skeleton
public import proofs.«01_k».proof.Proof.Gen.DwInHiIdeal.Launch
public import proofs.«01_k».proof.Proof.Gen.DwInHiIdeal.Points
public import proofs.«01_k».proof.Proof.Gen.DwInHiIdeal.Frame
public import proofs.«01_k».proof.Proof.Gen.DwInHiRefIdeal
public import proofs.«01_k».proof.Proof.Gen.DwInHiRefIdeal.Read
public import proofs.«01_k».proof.Proof.Gen.DwInHiRefIdeal.Run
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.DxRefIdeal.Read
public import proofs.«01_k».proof.Proof.Gen.DxRefIdeal.Run
public import proofs.«01_k».proof.Proof.Gen.Dm
public import proofs.«01_k».proof.Proof.Gen.Dm.Skeleton
public import proofs.«01_k».proof.Proof.Gen.Dm.Launch
public import proofs.«01_k».proof.Proof.Gen.Dm.Points
public import proofs.«01_k».proof.Proof.Gen.Dm.Frame
public import proofs.«01_k».proof.Proof.Gen.DmIdeal
public import proofs.«01_k».proof.Proof.Gen.DmIdeal.Skeleton
public import proofs.«01_k».proof.Proof.Gen.DmIdeal.Launch
public import proofs.«01_k».proof.Proof.Gen.DmIdeal.Points
public import proofs.«01_k».proof.Proof.Gen.DmIdeal.Frame
public import proofs.«01_k».proof.Proof.Gen.DmRefIdeal
public import proofs.«01_k».proof.Proof.Gen.DmRefIdeal.Read
public import proofs.«01_k».proof.Proof.Gen.DmRefIdeal.Run
public import proofs.«01_k».proof.Proof.Gen.Ff1
public import proofs.«01_k».proof.Proof.Gen.Ff1.Skeleton
public import proofs.«01_k».proof.Proof.Gen.Ff1.Launch
public import proofs.«01_k».proof.Proof.Gen.Ff1.Points
public import proofs.«01_k».proof.Proof.Gen.Ff1.Frame
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1RefIdeal
public import proofs.«01_k».proof.Proof.Gen.Ff1RefIdeal.Read
public import proofs.«01_k».proof.Proof.Gen.Ff1RefIdeal.Run
public import proofs.«01_k».proof.Proof.Gen.Ff2
public import proofs.«01_k».proof.Proof.Gen.Ff2.Skeleton
public import proofs.«01_k».proof.Proof.Gen.Ff2.Launch
public import proofs.«01_k».proof.Proof.Gen.Ff2.Points
public import proofs.«01_k».proof.Proof.Gen.Ff2.Frame
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2RefIdeal
public import proofs.«01_k».proof.Proof.Gen.Ff2RefIdeal.Read
public import proofs.«01_k».proof.Proof.Gen.Ff2RefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Read
public import proofs.«01_k».proof.Proof.Gen.MergeRefIdeal.Run
public import proofs.«01_k».proof.Proof.Gen.OutLn1
public import proofs.«01_k».proof.Proof.Gen.OutLn1.Skeleton
public import proofs.«01_k».proof.Proof.Gen.OutLn1.Launch
public import proofs.«01_k».proof.Proof.Gen.OutLn1.Points
public import proofs.«01_k».proof.Proof.Gen.OutLn1.Frame
public import proofs.«01_k».proof.Proof.Gen.OutLn1Ideal
public import proofs.«01_k».proof.Proof.Gen.OutLn1Ideal.Skeleton
public import proofs.«01_k».proof.Proof.Gen.OutLn1Ideal.Launch
public import proofs.«01_k».proof.Proof.Gen.OutLn1Ideal.Points
public import proofs.«01_k».proof.Proof.Gen.OutLn1Ideal.Frame
public import proofs.«01_k».proof.Proof.Gen.OutLn1RefIdeal
public import proofs.«01_k».proof.Proof.Gen.OutLn1RefIdeal.Read
public import proofs.«01_k».proof.Proof.Gen.OutLn1RefIdeal.Run
public import proofs.«01_k».proof.Proof.Gen.ZProj
public import proofs.«01_k».proof.Proof.Gen.ZProj.Skeleton
public import proofs.«01_k».proof.Proof.Gen.ZProj.Launch
public import proofs.«01_k».proof.Proof.Gen.ZProj.Points
public import proofs.«01_k».proof.Proof.Gen.ZProj.Frame
public import proofs.«01_k».proof.Proof.Gen.ZProjIdeal
public import proofs.«01_k».proof.Proof.Gen.ZProjIdeal.Skeleton
public import proofs.«01_k».proof.Proof.Gen.ZProjIdeal.Launch
public import proofs.«01_k».proof.Proof.Gen.ZProjIdeal.Points
public import proofs.«01_k».proof.Proof.Gen.ZProjIdeal.Frame
public import proofs.«01_k».proof.Proof.Gen.ZProjRefIdeal
public import proofs.«01_k».proof.Proof.Gen.ZProjRefIdeal.Read
public import proofs.«01_k».proof.Proof.Gen.ZProjRefIdeal.Run
public import proofs.«01_k».proof.Proof.Gen.AdamRep
public import proofs.«01_k».proof.Proof.Gen.AdamRep.Skeleton
public import proofs.«01_k».proof.Proof.Gen.AdamRep.Launch
public import proofs.«01_k».proof.Proof.Gen.AdamRep.Points
public import proofs.«01_k».proof.Proof.Gen.AdamRep.Frame
public import proofs.«01_k».proof.Proof.Gen.AdamRepIdeal
public import proofs.«01_k».proof.Proof.Gen.AdamRepIdeal.Skeleton
public import proofs.«01_k».proof.Proof.Gen.AdamRepIdeal.Launch
public import proofs.«01_k».proof.Proof.Gen.AdamRepIdeal.Points
public import proofs.«01_k».proof.Proof.Gen.AdamRepIdeal.Frame
public import proofs.«01_k».proof.Proof.Gen.AdamRepRefIdeal
public import proofs.«01_k».proof.Proof.Gen.AdamRepRefIdeal.Read
public import proofs.«01_k».proof.Proof.Gen.AdamRepRefIdeal.Run
public import proofs.«01_k».proof.Proof.Gen.AdamSharded
public import proofs.«01_k».proof.Proof.Gen.AdamSharded.Skeleton
public import proofs.«01_k».proof.Proof.Gen.AdamSharded.Launch
public import proofs.«01_k».proof.Proof.Gen.AdamSharded.Points
public import proofs.«01_k».proof.Proof.Gen.AdamSharded.Frame
public import proofs.«01_k».proof.Proof.Gen.AdamShardedIdeal
public import proofs.«01_k».proof.Proof.Gen.AdamShardedIdeal.Skeleton
public import proofs.«01_k».proof.Proof.Gen.AdamShardedIdeal.Launch
public import proofs.«01_k».proof.Proof.Gen.AdamShardedIdeal.Points
public import proofs.«01_k».proof.Proof.Gen.AdamShardedIdeal.Frame
public import proofs.«01_k».proof.Proof.Gen.AdamShardedRefIdeal
public import proofs.«01_k».proof.Proof.Gen.AdamShardedRefIdeal.Read
public import proofs.«01_k».proof.Proof.Gen.AdamShardedRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Read
public import proofs.«01_k».proof.Proof.Gen.ConvRefIdeal.Run
public import proofs.«01_k».proof.Proof.Gen.DyLru
public import proofs.«01_k».proof.Proof.Gen.DyLru.Skeleton
public import proofs.«01_k».proof.Proof.Gen.DyLru.Launch
public import proofs.«01_k».proof.Proof.Gen.DyLru.Points
public import proofs.«01_k».proof.Proof.Gen.DyLru.Frame
public import proofs.«01_k».proof.Proof.Gen.DyLruIdeal
public import proofs.«01_k».proof.Proof.Gen.DyLruIdeal.Skeleton
public import proofs.«01_k».proof.Proof.Gen.DyLruIdeal.Launch
public import proofs.«01_k».proof.Proof.Gen.DyLruIdeal.Points
public import proofs.«01_k».proof.Proof.Gen.DyLruIdeal.Frame
public import proofs.«01_k».proof.Proof.Gen.DyLruRefIdeal
public import proofs.«01_k».proof.Proof.Gen.DyLruRefIdeal.Read
public import proofs.«01_k».proof.Proof.Gen.DyLruRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutRefIdeal.Read
public import proofs.«01_k».proof.Proof.Gen.AdamOutRefIdeal.Run
public import proofs.«01_k».proof.Proof.Gen.AdamFf2
public import proofs.«01_k».proof.Proof.Gen.AdamFf2.Skeleton
public import proofs.«01_k».proof.Proof.Gen.AdamFf2.Launch
public import proofs.«01_k».proof.Proof.Gen.AdamFf2.Points
public import proofs.«01_k».proof.Proof.Gen.AdamFf2.Frame
public import proofs.«01_k».proof.Proof.Gen.AdamFf2Ideal
public import proofs.«01_k».proof.Proof.Gen.AdamFf2Ideal.Skeleton
public import proofs.«01_k».proof.Proof.Gen.AdamFf2Ideal.Launch
public import proofs.«01_k».proof.Proof.Gen.AdamFf2Ideal.Points
public import proofs.«01_k».proof.Proof.Gen.AdamFf2Ideal.Frame
public import proofs.«01_k».proof.Proof.Gen.AdamFf2RefIdeal
public import proofs.«01_k».proof.Proof.Gen.AdamFf2RefIdeal.Read
public import proofs.«01_k».proof.Proof.Gen.AdamFf2RefIdeal.Run
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolRefIdeal
public import proofs.«01_k».proof.Proof.Gen.AdamPoolRefIdeal.Read
public import proofs.«01_k».proof.Proof.Gen.AdamPoolRefIdeal.Run
public import proofs.«01_k».proof.Proof.Gen.AdamLru
public import proofs.«01_k».proof.Proof.Gen.AdamLru.Skeleton
public import proofs.«01_k».proof.Proof.Gen.AdamLru.Launch
public import proofs.«01_k».proof.Proof.Gen.AdamLru.Points
public import proofs.«01_k».proof.Proof.Gen.AdamLru.Frame
public import proofs.«01_k».proof.Proof.Gen.AdamLruIdeal
public import proofs.«01_k».proof.Proof.Gen.AdamLruIdeal.Skeleton
public import proofs.«01_k».proof.Proof.Gen.AdamLruIdeal.Launch
public import proofs.«01_k».proof.Proof.Gen.AdamLruIdeal.Points
public import proofs.«01_k».proof.Proof.Gen.AdamLruIdeal.Frame
public import proofs.«01_k».proof.Proof.Gen.AdamLruRefIdeal
public import proofs.«01_k».proof.Proof.Gen.AdamLruRefIdeal.Read
public import proofs.«01_k».proof.Proof.Gen.AdamLruRefIdeal.Run
public import proofs.«01_k».proof.Proof.Gen.AdamFf1
public import proofs.«01_k».proof.Proof.Gen.AdamFf1.Skeleton
public import proofs.«01_k».proof.Proof.Gen.AdamFf1.Launch
public import proofs.«01_k».proof.Proof.Gen.AdamFf1.Points
public import proofs.«01_k».proof.Proof.Gen.AdamFf1.Frame
public import proofs.«01_k».proof.Proof.Gen.AdamFf1Ideal
public import proofs.«01_k».proof.Proof.Gen.AdamFf1Ideal.Skeleton
public import proofs.«01_k».proof.Proof.Gen.AdamFf1Ideal.Launch
public import proofs.«01_k».proof.Proof.Gen.AdamFf1Ideal.Points
public import proofs.«01_k».proof.Proof.Gen.AdamFf1Ideal.Frame
public import proofs.«01_k».proof.Proof.Gen.AdamFf1RefIdeal
public import proofs.«01_k».proof.Proof.Gen.AdamFf1RefIdeal.Read
public import proofs.«01_k».proof.Proof.Gen.AdamFf1RefIdeal.Run
public import proofs.«01_k».proof.Proof.Gen.Ln1
public import proofs.«01_k».proof.Proof.Gen.Ln1.Skeleton
public import proofs.«01_k».proof.Proof.Gen.Ln1.Launch
public import proofs.«01_k».proof.Proof.Gen.Ln1.Points
public import proofs.«01_k».proof.Proof.Gen.Ln1.Frame
public import proofs.«01_k».proof.Proof.Gen.Ln1Ideal
public import proofs.«01_k».proof.Proof.Gen.Ln1Ideal.Skeleton
public import proofs.«01_k».proof.Proof.Gen.Ln1Ideal.Launch
public import proofs.«01_k».proof.Proof.Gen.Ln1Ideal.Points
public import proofs.«01_k».proof.Proof.Gen.Ln1Ideal.Frame
public import proofs.«01_k».proof.Proof.Gen.Ln1RefIdeal
public import proofs.«01_k».proof.Proof.Gen.Ln1RefIdeal.Read
public import proofs.«01_k».proof.Proof.Gen.Ln1RefIdeal.Run
public import proofs.«01_k».proof.Proof.Gen.Ln2
public import proofs.«01_k».proof.Proof.Gen.Ln2.Skeleton
public import proofs.«01_k».proof.Proof.Gen.Ln2.Launch
public import proofs.«01_k».proof.Proof.Gen.Ln2.Points
public import proofs.«01_k».proof.Proof.Gen.Ln2.Frame
public import proofs.«01_k».proof.Proof.Gen.Ln2Ideal
public import proofs.«01_k».proof.Proof.Gen.Ln2Ideal.Skeleton
public import proofs.«01_k».proof.Proof.Gen.Ln2Ideal.Launch
public import proofs.«01_k».proof.Proof.Gen.Ln2Ideal.Points
public import proofs.«01_k».proof.Proof.Gen.Ln2Ideal.Frame
public import proofs.«01_k».proof.Proof.Gen.Ln2RefIdeal
public import proofs.«01_k».proof.Proof.Gen.Ln2RefIdeal.Read
public import proofs.«01_k».proof.Proof.Gen.Ln2RefIdeal.Run
public import proofs.«01_k».proof.Proof.Dhdn
public import proofs.«01_k».proof.Proof.DwFf2
public import proofs.«01_k».proof.Proof.DwFf1
public import proofs.«01_k».proof.Proof.Dx1
public import proofs.«01_k».proof.Proof.DwOut
public import proofs.«01_k».proof.Proof.DwPoolUp
public import proofs.«01_k».proof.Proof.DwLruUp
public import proofs.«01_k».proof.Proof.DyPool
public import proofs.«01_k».proof.Proof.DwInLo
public import proofs.«01_k».proof.Proof.DwInHi
public import proofs.«01_k».proof.Proof.Dx
public import proofs.«01_k».proof.Proof.Dm
public import proofs.«01_k».proof.Proof.Ff1
public import proofs.«01_k».proof.Proof.Ff2
public import proofs.«01_k».proof.Proof.Merge
public import proofs.«01_k».proof.Proof.OutLn1
public import proofs.«01_k».proof.Proof.ZProj
public import proofs.«01_k».proof.Proof.ZProjRun
public import proofs.«01_k».proof.Proof.Ln1
public import proofs.«01_k».proof.Proof.Ln2
public import proofs.«01_k».proof.Proof.Adam
public import proofs.«01_k».proof.Proof.Conv
public import proofs.«01_k».proof.Proof.DyLru
public import proofs.«01_k».proof.Proof.AdamOut
public import proofs.«01_k».proof.Proof.AdamFf2
public import proofs.«01_k».proof.Proof.AdamPool
public import proofs.«01_k».proof.Proof.AdamLru
public import proofs.«01_k».proof.Proof.AdamFf1
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Dhdn

theorem algebraic_Dhdn : Cert.algebraic_DhdnIdeal_DhdnRefIdeal := by
  pair_intro
  · run_from Cert.DhdnIdeal.Gen.run_main m g
  · run_from Cert.DhdnRefIdeal.Value.run m' g'
    · exact (Cert.DhdnRefIdeal.Read.val_main_v18_eq _ _ _ _).trans (Cert.DhdnIdeal.Value.final3 m c).symm
    · rw [(hagree c).2.2.2]
      exact (Cert.DhdnRefIdeal.Read.val_main_v21_eq _ _ _ _).trans (Cert.DhdnIdeal.Value.final4 m c).symm

theorem frame_DhdnRef : Cert.quiescent_DhdnRefIdeal := fun m ρ _ =>
  (θ_run _ _ _).mono (fun r h => ⟨fun c => (h c).2.2, sem_eq_zero_of_no_sems (by decide) r.2⟩) (Cert.DhdnRefIdeal.Value.run m ρ)

theorem algebraic_DwFf2 : Cert.algebraic_DwFf2Ideal_DwFf2RefIdeal := by
  pair_intro
  · run_from Cert.DwFf2Ideal.Gen.run_main m g
  · run_from Cert.DwFf2RefIdeal.Value.run m' g'
    exact (Cert.DwFf2RefIdeal.Read.val_main_v7_eq _ _ _).trans (Cert.DwFf2Ideal.Value.final m c).symm

theorem frame_DwFf2Ref : Cert.quiescent_DwFf2RefIdeal := fun m ρ _ =>
  (θ_run _ _ _).mono (fun r h => ⟨fun c => (h c).2, sem_eq_zero_of_no_sems (by decide) r.2⟩) (Cert.DwFf2RefIdeal.Value.run m ρ)

theorem algebraic_DwFf1 : Cert.algebraic_DwFf1Ideal_DwFf1RefIdeal := by
  pair_intro
  · run_from Cert.DwFf1Ideal.Gen.run_main m g
  · run_from Cert.DwFf1RefIdeal.Value.run m' g'
    exact (Cert.DwFf1RefIdeal.Read.val_main_v2_eq _ _).trans (Cert.DwFf1Ideal.Value.final m c).symm

theorem frame_DwFf1Ref : Cert.quiescent_DwFf1RefIdeal := fun m ρ _ =>
  (θ_run _ _ _).mono (fun r h => ⟨fun c => (h c).2, sem_eq_zero_of_no_sems (by decide) r.2⟩) (Cert.DwFf1RefIdeal.Value.run m ρ)

theorem algebraic_Dx1 : Cert.algebraic_Dx1Ideal_Dx1RefIdeal := by
  pair_intro
  · run_from Cert.Dx1Ideal.Gen.run_main m g
  · run_from Cert.Dx1RefIdeal.Value.run m' g'
    exact (Cert.Dx1RefIdeal.Read.val_main_v1_eq _ _).trans (Cert.Dx1Ideal.Value.final m c).symm

theorem frame_Dx1Ref : Cert.quiescent_Dx1RefIdeal := fun m ρ _ =>
  (θ_run _ _ _).mono (fun r h => ⟨fun c => (h c).2, sem_eq_zero_of_no_sems (by decide) r.2⟩) (Cert.Dx1RefIdeal.Value.run m ρ)

theorem algebraic_DwOut : Cert.algebraic_DwOutIdeal_DwOutRefIdeal := by
  pair_intro
  · run_from Cert.DwOutIdeal.Gen.run_main m g
  · run_from Cert.DwOutRefIdeal.Value.run m' g'
    exact (Cert.DwOutRefIdeal.Read.val_main_v2_eq _ _).trans (Cert.DwOutIdeal.Value.final m c).symm

theorem frame_DwOutRef : Cert.quiescent_DwOutRefIdeal := fun m ρ _ =>
  (θ_run _ _ _).mono (fun r h => ⟨fun c => (h c).2, sem_eq_zero_of_no_sems (by decide) r.2⟩) (Cert.DwOutRefIdeal.Value.run m ρ)

theorem algebraic_DwPoolUp : Cert.algebraic_DwPoolUpIdeal_DwPoolUpRefIdeal := by
  pair_intro
  · run_from Cert.DwPoolUpIdeal.Gen.run_main m g
  · run_from Cert.DwPoolUpRefIdeal.Value.run m' g'
    exact (Cert.DwPoolUpRefIdeal.Read.val_main_v2_eq _ _).trans (Cert.DwPoolUpIdeal.Value.final m c).symm

theorem frame_DwPoolUpRef : Cert.quiescent_DwPoolUpRefIdeal := fun m ρ _ =>
  (θ_run _ _ _).mono (fun r h => ⟨fun c => (h c).2, sem_eq_zero_of_no_sems (by decide) r.2⟩) (Cert.DwPoolUpRefIdeal.Value.run m ρ)

theorem algebraic_DwLruUp : Cert.algebraic_DwLruUpIdeal_DwLruUpRefIdeal := by
  pair_intro
  · run_from Cert.DwLruUpIdeal.Gen.run_main m g
  · run_from Cert.DwLruUpRefIdeal.Value.run m' g'
    exact (Cert.DwLruUpRefIdeal.Read.val_main_v2_eq _ _).trans (Cert.DwLruUpIdeal.Value.final m c).symm

theorem frame_DwLruUpRef : Cert.quiescent_DwLruUpRefIdeal := fun m ρ _ =>
  (θ_run _ _ _).mono (fun r h => ⟨fun c => (h c).2, sem_eq_zero_of_no_sems (by decide) r.2⟩) (Cert.DwLruUpRefIdeal.Value.run m ρ)

theorem algebraic_DyPool : Cert.algebraic_DyPoolIdeal_DyPoolRefIdeal := by
  pair_intro
  · run_from Cert.DyPoolIdeal.Gen.run_main m g
  · run_from Cert.DyPoolRefIdeal.Value.run m' g'
    exact (Cert.DyPoolRefIdeal.Read.val_main_v2_eq _ _).trans (Cert.DyPoolIdeal.Value.final m c).symm

theorem frame_DyPoolRef : Cert.quiescent_DyPoolRefIdeal := fun m ρ _ =>
  (θ_run _ _ _).mono (fun r h => ⟨fun c => (h c).2, sem_eq_zero_of_no_sems (by decide) r.2⟩) (Cert.DyPoolRefIdeal.Value.run m ρ)

theorem algebraic_DwInLo : Cert.algebraic_DwInLoIdeal_DwInLoRefIdeal := by
  pair_intro
  · run_from Cert.DwInLoIdeal.Gen.run_main m g
  · run_from Cert.DwInLoRefIdeal.Value.run m' g'
    exact (Cert.DwInLoRefIdeal.Read.val_main_v3_eq _ _).trans (Cert.DwInLoIdeal.Value.final m c).symm

theorem frame_DwInLoRef : Cert.quiescent_DwInLoRefIdeal := fun m ρ _ =>
  (θ_run _ _ _).mono (fun r h => ⟨fun c => (h c).2, sem_eq_zero_of_no_sems (by decide) r.2⟩) (Cert.DwInLoRefIdeal.Value.run m ρ)

theorem algebraic_DwInHi : Cert.algebraic_DwInHiIdeal_DwInHiRefIdeal := by
  pair_intro
  · run_from Cert.DwInHiIdeal.Gen.run_main m g
  · run_from Cert.DwInHiRefIdeal.Value.run m' g'
    exact (Cert.DwInHiRefIdeal.Read.val_main_v3_eq _ _).trans (Cert.DwInHiIdeal.Value.final m c).symm

theorem frame_DwInHiRef : Cert.quiescent_DwInHiRefIdeal := fun m ρ _ =>
  (θ_run _ _ _).mono (fun r h => ⟨fun c => (h c).2, sem_eq_zero_of_no_sems (by decide) r.2⟩) (Cert.DwInHiRefIdeal.Value.run m ρ)

theorem algebraic_Dx : Cert.algebraic_DxIdeal_DxRefIdeal := by
  pair_intro
  · run_from Cert.DxIdeal.Gen.run_main m g
  · run_from Cert.DxRefIdeal.Value.run m' g'
    exact (Cert.DxRefIdeal.Read.val_main_v6_eq _ _ _).trans (Cert.DxIdeal.Value.final m c).symm

theorem frame_DxRef : Cert.quiescent_DxRefIdeal := fun m ρ _ =>
  (θ_run _ _ _).mono (fun r h => ⟨fun c => (h c).2, sem_eq_zero_of_no_sems (by decide) r.2⟩) (Cert.DxRefIdeal.Value.run m ρ)

theorem algebraic_Dm : Cert.algebraic_DmIdeal_DmRefIdeal := by
  pair_intro
  · run_from Cert.DmIdeal.Gen.run_main m g
    all_goals (first
      | exact Cert.DmIdeal.Gen.W_main_arg0 m _ c
      | exact Cert.DmIdeal.Gen.W_main_arg1 m _ c
      | exact Cert.DmIdeal.Gen.W_main_arg2 m _ c
      | exact Cert.DmIdeal.Gen.W_main_arg3 m _ c
      | exact Cert.DmIdeal.Gen.W_main_arg4 m _ c)
  · run_from Cert.DmRefIdeal.Value.run m' g'
    · exact (Cert.DmRefIdeal.Read.val_main_v30_eq _ _ _).trans (Cert.DmIdeal.Value.final6 m c).symm
    · exact (Cert.DmRefIdeal.Read.val_main_v31_eq _ _ _).trans (Cert.DmIdeal.Value.final7 m c).symm
    · rw [(hagree c).2.2.2.2]
      exact (Cert.DmRefIdeal.Read.val_main_v37_eq _ _ _ _ _).trans ((Cert.DmIdeal.Value.tail9 m c).trans (Cert.DmIdeal.Value.final8 m c)).symm

theorem frame_DmRef : Cert.quiescent_DmRefIdeal := fun m ρ _ =>
  (θ_run _ _ _).mono (fun r h => ⟨fun c => (h c).2.2.2, sem_eq_zero_of_no_sems (by decide) r.2⟩) (Cert.DmRefIdeal.Value.run m ρ)

theorem algebraic_Ff1 : Cert.algebraic_Ff1Ideal_Ff1RefIdeal := by
  pair_intro
  · run_from Cert.Ff1Ideal.Gen.run_main m g
  · run_from Cert.Ff1RefIdeal.Value.run m' g'
    · exact (Cert.Ff1RefIdeal.Read.val_main_v5_eq _ _ _).trans (Cert.Ff1Ideal.Value.final3 m c).symm
    · exact (Cert.Ff1RefIdeal.Read.val_main_v7_eq _ _ _).trans (Cert.Ff1Ideal.Value.final4 m c).symm

theorem frame_Ff1Ref : Cert.quiescent_Ff1RefIdeal := fun m ρ _ =>
  (θ_run _ _ _).mono (fun r h => ⟨fun c => (h c).2.2, sem_eq_zero_of_no_sems (by decide) r.2⟩) (Cert.Ff1RefIdeal.Value.run m ρ)

theorem algebraic_Ff2 : Cert.algebraic_Ff2Ideal_Ff2RefIdeal := by
  pair_intro
  · run_from Cert.Ff2Ideal.Gen.run_main m g
  · run_from Cert.Ff2RefIdeal.Value.run m' g'
    exact (Cert.Ff2RefIdeal.Read.val_main_v0_eq _ _).trans (Cert.Ff2Ideal.Value.final m c).symm

theorem frame_Ff2Ref : Cert.quiescent_Ff2RefIdeal := fun m ρ _ =>
  (θ_run _ _ _).mono (fun r h => ⟨fun c => (h c).2, sem_eq_zero_of_no_sems (by decide) r.2⟩) (Cert.Ff2RefIdeal.Value.run m ρ)

theorem algebraic_Merge : Cert.algebraic_MergeIdeal_MergeRefIdeal := by
  pair_intro
  · run_from Cert.MergeIdeal.Gen.run_main m g
  · run_from Cert.MergeRefIdeal.Value.run m' g'
    · exact (Cert.MergeRefIdeal.Read.val_main_v16_eq _ _ _ _ _).trans (Cert.MergeIdeal.Value.final6 m c).symm
    · exact (Cert.MergeRefIdeal.Read.val_main_v17_eq _ _).trans (Cert.MergeIdeal.Value.final7 m c).symm
    · exact (Cert.MergeRefIdeal.Read.val_main_v18_eq _ _).trans (Cert.MergeIdeal.Value.final8 m c).symm

theorem frame_MergeRef : Cert.quiescent_MergeRefIdeal := fun m ρ _ =>
  (θ_run _ _ _).mono (fun r h => ⟨fun c => (h c).2.2.2, sem_eq_zero_of_no_sems (by decide) r.2⟩) (Cert.MergeRefIdeal.Value.run m ρ)

theorem algebraic_OutLn1 : Cert.algebraic_OutLn1Ideal_OutLn1RefIdeal := by
  pair_intro
  · run_from Cert.OutLn1Ideal.Gen.run_main m g
  · run_from Cert.OutLn1RefIdeal.Value.run m' g'
    · refine (Cert.OutLn1RefIdeal.Read.val_main_v22_eq m' c).trans ?_
      rw [(hagree c).1, (hagree c).2.1, (hagree c).2.2.1, (hagree c).2.2.2.1]
      exact (Cert.OutLn1Ideal.Value.final6 m c).symm
    · refine (Cert.OutLn1RefIdeal.Read.val_main_v31_eq m' c).trans ?_
      rw [(hagree c).1, (hagree c).2.1, (hagree c).2.2.1, (hagree c).2.2.2.1, (hagree c).2.2.2.2.1, (hagree c).2.2.2.2.2]
      exact (Cert.OutLn1Ideal.Value.final7 m c).symm
    · exact (Cert.OutLn1RefIdeal.Read.val_main_v20_eq _ _ _ _).trans (Cert.OutLn1Ideal.Value.final8 m c).symm

theorem frame_OutLn1Ref : Cert.quiescent_OutLn1RefIdeal := fun m ρ _ =>
  (θ_run _ _ _).mono (fun r h => ⟨fun c => (h c).2.2.2, sem_eq_zero_of_no_sems (by decide) r.2⟩) (Cert.OutLn1RefIdeal.Value.run m ρ)

theorem algebraic_ZProj : Cert.algebraic_ZProjIdeal_ZProjRefIdeal := by
  pair_intro
  · run_from Cert.ZProjIdeal.Value.run m g
  · run_from Cert.ZProjRefIdeal.Value.run m' g'
    exact (Cert.ZProjRefIdeal.Read.val_main_v0_eq _ _).trans (Cert.ZProjIdeal.Value.final m g c).symm

theorem frame_ZProjRef : Cert.quiescent_ZProjRefIdeal := fun m ρ _ =>
  (θ_run _ _ _).mono (fun r h => ⟨fun c => (h c).2, sem_eq_zero_of_no_sems (by decide) r.2⟩) (Cert.ZProjRefIdeal.Value.run m ρ)

theorem algebraic_Ln1 : Cert.algebraic_Ln1Ideal_Ln1RefIdeal := by
  pair_intro
  · run_from Cert.Ln1Ideal.Gen.run_main m g
    all_goals (first
      | exact Cert.Ln1Ideal.Gen.W_main_arg0 m _ c
      | exact Cert.Ln1Ideal.Gen.W_main_arg1 m _ c
      | exact Cert.Ln1Ideal.Gen.W_main_arg2 m _ c
      | exact Cert.Ln1Ideal.Gen.W_main_arg3 m _ c
      | exact Cert.Ln1Ideal.Gen.W_main_arg4 m _ c)
  · run_from Cert.Ln1RefIdeal.Value.run m' g'
    · exact (Cert.Ln1RefIdeal.Read.val_main_v31_eq _ _ _).trans (Cert.Ln1Ideal.Value.tail25 m c).symm
    · exact (Cert.Ln1RefIdeal.Read.val_main_v27_eq _ _).trans (Cert.Ln1Ideal.Value.tail27 m c).symm

theorem frame_Ln1Ref : Cert.quiescent_Ln1RefIdeal := fun m ρ _ =>
  (θ_run _ _ _).mono (fun r h => ⟨fun c => (h c).2.2, sem_eq_zero_of_no_sems (by decide) r.2⟩) (Cert.Ln1RefIdeal.Value.run m ρ)

theorem algebraic_Ln2 : Cert.algebraic_Ln2Ideal_Ln2RefIdeal := by
  pair_intro
  · run_from Cert.Ln2Ideal.Gen.run_main m g
    all_goals (first
      | exact Cert.Ln2Ideal.Gen.W_main_arg0 m _ c
      | exact Cert.Ln2Ideal.Gen.W_main_arg1 m _ c
      | exact Cert.Ln2Ideal.Gen.W_main_arg2 m _ c
      | exact Cert.Ln2Ideal.Gen.W_main_arg3 m _ c
      | exact Cert.Ln2Ideal.Gen.W_main_arg4 m _ c
      | exact Cert.Ln2Ideal.Gen.W_main_arg5 m _ c
      | exact Cert.Ln2Ideal.Gen.W_main_arg6 m _ c
      | exact Cert.Ln2Ideal.Gen.W_main_arg7 m _ c)
  · run_from Cert.Ln2RefIdeal.Value.run m' g'
    · refine (Cert.Ln2RefIdeal.Read.val_main_v42_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.Ln2Ideal.Value.tail7 m c).symm
    · refine (Cert.Ln2RefIdeal.Read.val_main_v55_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.Ln2Ideal.Value.tail9 m c).symm
    · refine (Cert.Ln2RefIdeal.Read.val_main_v51_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.Ln2Ideal.Value.tail11 m c).symm

theorem frame_Ln2Ref : Cert.quiescent_Ln2RefIdeal := fun m ρ _ =>
  (θ_run _ _ _).mono (fun r h => ⟨fun c => (h c).2.2.2, sem_eq_zero_of_no_sems (by decide) r.2⟩) (Cert.Ln2RefIdeal.Value.run m ρ)

theorem algebraic_AdamRep : Cert.algebraic_AdamRepIdeal_AdamRepRefIdeal := by
  pair_intro
  · run_from Cert.AdamRepIdeal.Gen.run_main m g
  · run_from Cert.AdamRepRefIdeal.Value.run m' g'
    · exact (Cert.AdamRepRefIdeal.Read.val_main_v23_eq _ _ _ _).trans (Cert.AdamRepIdeal.Value.final4 m c).symm
    · exact (Cert.AdamRepRefIdeal.Read.val_main_v4_eq _ _).trans (Cert.AdamRepIdeal.Value.final5 m c).symm
    · exact (Cert.AdamRepRefIdeal.Read.val_main_v10_eq _ _).trans (Cert.AdamRepIdeal.Value.final6 m c).symm

theorem frame_AdamRepRef : Cert.quiescent_AdamRepRefIdeal := fun m ρ _ =>
  (θ_run _ _ _).mono (fun r h => ⟨fun c => (h c).2.2.2, sem_eq_zero_of_no_sems (by decide) r.2⟩) (Cert.AdamRepRefIdeal.Value.run m ρ)

theorem algebraic_AdamSharded : Cert.algebraic_AdamShardedIdeal_AdamShardedRefIdeal := by
  pair_intro
  · run_from Cert.AdamShardedIdeal.Gen.run_main m g
  · run_from Cert.AdamShardedRefIdeal.Value.run m' g'
    · exact (Cert.AdamShardedRefIdeal.Read.val_main_v23_eq _ _ _ _).trans (Cert.AdamShardedIdeal.Value.final4 m c).symm
    · exact (Cert.AdamShardedRefIdeal.Read.val_main_v4_eq _ _).trans (Cert.AdamShardedIdeal.Value.final5 m c).symm
    · exact (Cert.AdamShardedRefIdeal.Read.val_main_v10_eq _ _).trans (Cert.AdamShardedIdeal.Value.final6 m c).symm

theorem frame_AdamShardedRef : Cert.quiescent_AdamShardedRefIdeal := fun m ρ _ =>
  (θ_run _ _ _).mono (fun r h => ⟨fun c => (h c).2.2.2, sem_eq_zero_of_no_sems (by decide) r.2⟩) (Cert.AdamShardedRefIdeal.Value.run m ρ)

theorem algebraic_Conv : Cert.algebraic_ConvIdeal_ConvRefIdeal := by
  pair_intro
  · run_from Cert.ConvIdeal.Gen.run_main m g
    all_goals (first
      | exact Cert.ConvIdeal.Gen.W_main_arg0 m _ c
      | exact Cert.ConvIdeal.Gen.W_main_arg1 m _ c
      | exact Cert.ConvIdeal.Gen.W_main_arg2 m _ c
      | exact Cert.ConvIdeal.Gen.W_main_arg3 m _ c)
  · run_from Cert.ConvRefIdeal.Value.run m' g'
    · exact (Cert.ConvRefIdeal.Read.val_main_v85_eq _ _).trans (Cert.ConvIdeal.Value.tail9 m c).symm
    · refine (Cert.ConvRefIdeal.Read.val_main_v79_eq m' c).trans ?_
      rw [(hagree c).1, (hagree c).2.2.2]
      exact (Cert.ConvIdeal.Value.tail10 m c).symm
    · exact (Cert.ConvRefIdeal.Read.val_main_v70_eq _).trans (Cert.ConvIdeal.Value.tail12 m c).symm

theorem frame_ConvRef : Cert.quiescent_ConvRefIdeal := fun m ρ _ =>
  (θ_run _ _ _).mono (fun r h => ⟨fun c => (h c).2.2.2, sem_eq_zero_of_no_sems (by decide) r.2⟩) (Cert.ConvRefIdeal.Value.run m ρ)

theorem algebraic_DyLru : Cert.algebraic_DyLruIdeal_DyLruRefIdeal := by
  pair_intro
  · run_from Cert.DyLruIdeal.Gen.run_main m g
    all_goals (first
      | exact Cert.DyLruIdeal.Gen.W_main_arg0 m _ c
      | exact Cert.DyLruIdeal.Gen.W_main_arg1 m _ c
      | exact Cert.DyLruIdeal.Gen.W_main_arg2 m _ c
      | exact Cert.DyLruIdeal.Gen.W_main_arg3 m _ c
      | exact Cert.DyLruIdeal.Gen.W_main_arg4 m _ c)
  · run_from Cert.DyLruRefIdeal.Value.run m' g'
    exact (Cert.DyLruRefIdeal.Read.val_main_v17_eq _ _ _).trans (Cert.DyLruIdeal.Value.final m c).symm

theorem frame_DyLruRef : Cert.quiescent_DyLruRefIdeal := fun m ρ _ =>
  (θ_run _ _ _).mono (fun r h => ⟨fun c => (h c).2, sem_eq_zero_of_no_sems (by decide) r.2⟩) (Cert.DyLruRefIdeal.Value.run m ρ)

theorem algebraic_AdamOut : Cert.algebraic_AdamOutIdeal_AdamOutRefIdeal := by
  pair_intro
  · run_from Cert.AdamOutIdeal.Value.run m g
  · run_from Cert.AdamOutRefIdeal.Value.run m' g'
    · exact Cert.AdamOutRefIdeal.Read.val_main_v5_eq _ _ _
    · exact Cert.AdamOutRefIdeal.Read.val_main_v29_eq _ _ _ _ _ _
    · exact Cert.AdamOutRefIdeal.Read.val_main_v10_eq _ _ _ _
    · exact Cert.AdamOutRefIdeal.Read.val_main_v16_eq _ _ _ _

theorem frame_AdamOutRef : Cert.quiescent_AdamOutRefIdeal := fun m ρ _ =>
  (θ_run _ _ _).mono (fun r h => ⟨fun c => (h c).2.2.2.2, sem_eq_zero_of_no_sems (by decide) r.2⟩) (Cert.AdamOutRefIdeal.Value.run m ρ)

theorem algebraic_AdamFf2 : Cert.algebraic_AdamFf2Ideal_AdamFf2RefIdeal := by
  pair_intro
  · run_from Cert.AdamFf2Ideal.Value.run m g
  · run_from Cert.AdamFf2RefIdeal.Value.run m' g'
    · exact Cert.AdamFf2RefIdeal.Read.val_main_v5_eq _ _ _
    · exact Cert.AdamFf2RefIdeal.Read.val_main_v29_eq _ _ _ _ _ _
    · exact Cert.AdamFf2RefIdeal.Read.val_main_v10_eq _ _ _ _
    · exact Cert.AdamFf2RefIdeal.Read.val_main_v16_eq _ _ _ _

theorem frame_AdamFf2Ref : Cert.quiescent_AdamFf2RefIdeal := fun m ρ _ =>
  (θ_run _ _ _).mono (fun r h => ⟨fun c => (h c).2.2.2.2, sem_eq_zero_of_no_sems (by decide) r.2⟩) (Cert.AdamFf2RefIdeal.Value.run m ρ)

theorem algebraic_AdamPool : Cert.algebraic_AdamPoolIdeal_AdamPoolRefIdeal := by
  pair_intro
  · run_from Cert.AdamPoolIdeal.Value.run m g
  · run_from Cert.AdamPoolRefIdeal.Value.run m' g'
    · exact Cert.AdamPoolRefIdeal.Read.val_main_v5_eq _ _ _
    · exact Cert.AdamPoolRefIdeal.Read.val_main_v29_eq _ _ _ _ _ _
    · exact Cert.AdamPoolRefIdeal.Read.val_main_v10_eq _ _ _ _
    · exact Cert.AdamPoolRefIdeal.Read.val_main_v16_eq _ _ _ _

theorem frame_AdamPoolRef : Cert.quiescent_AdamPoolRefIdeal := fun m ρ _ =>
  (θ_run _ _ _).mono (fun r h => ⟨fun c => (h c).2.2.2.2, sem_eq_zero_of_no_sems (by decide) r.2⟩) (Cert.AdamPoolRefIdeal.Value.run m ρ)

theorem algebraic_AdamLru : Cert.algebraic_AdamLruIdeal_AdamLruRefIdeal := by
  pair_intro
  · run_from Cert.AdamLruIdeal.Value.run m g
  · run_from Cert.AdamLruRefIdeal.Value.run m' g'
    · exact Cert.AdamLruRefIdeal.Read.val_main_v5_eq _ _ _
    · exact Cert.AdamLruRefIdeal.Read.val_main_v29_eq _ _ _ _ _ _
    · exact Cert.AdamLruRefIdeal.Read.val_main_v10_eq _ _ _ _
    · exact Cert.AdamLruRefIdeal.Read.val_main_v16_eq _ _ _ _

theorem frame_AdamLruRef : Cert.quiescent_AdamLruRefIdeal := fun m ρ _ =>
  (θ_run _ _ _).mono (fun r h => ⟨fun c => (h c).2.2.2.2, sem_eq_zero_of_no_sems (by decide) r.2⟩) (Cert.AdamLruRefIdeal.Value.run m ρ)

theorem algebraic_AdamFf1 : Cert.algebraic_AdamFf1Ideal_AdamFf1RefIdeal := by
  pair_intro
  · run_from Cert.AdamFf1Ideal.Value.run m g
  · run_from Cert.AdamFf1RefIdeal.Value.run m' g'
    · exact Cert.AdamFf1RefIdeal.Read.val_main_v5_eq _ _ _
    · exact Cert.AdamFf1RefIdeal.Read.val_main_v29_eq _ _ _ _ _ _
    · exact Cert.AdamFf1RefIdeal.Read.val_main_v10_eq _ _ _ _
    · exact Cert.AdamFf1RefIdeal.Read.val_main_v16_eq _ _ _ _

theorem frame_AdamFf1Ref : Cert.quiescent_AdamFf1RefIdeal := fun m ρ _ =>
  (θ_run _ _ _).mono (fun r h => ⟨fun c => (h c).2.2.2.2, sem_eq_zero_of_no_sems (by decide) r.2⟩) (Cert.AdamFf1RefIdeal.Value.run m ρ)

theorem claim : Cert.Claim := ⟨
  Cert.Dhdn.Gen.facts, Cert.DhdnIdeal.Gen.facts, Cert.DhdnRefIdeal.Gen.facts,
  Cert.DwFf2.Gen.facts, Cert.DwFf2Ideal.Gen.facts, Cert.DwFf2RefIdeal.Gen.facts,
  Cert.DwFf1.Gen.facts, Cert.DwFf1Ideal.Gen.facts, Cert.DwFf1RefIdeal.Gen.facts,
  Cert.Dx1.Gen.facts, Cert.Dx1Ideal.Gen.facts, Cert.Dx1RefIdeal.Gen.facts,
  Cert.DwOut.Gen.facts, Cert.DwOutIdeal.Gen.facts, Cert.DwOutRefIdeal.Gen.facts,
  Cert.DwPoolUp.Gen.facts, Cert.DwPoolUpIdeal.Gen.facts, Cert.DwPoolUpRefIdeal.Gen.facts,
  Cert.DwLruUp.Gen.facts, Cert.DwLruUpIdeal.Gen.facts, Cert.DwLruUpRefIdeal.Gen.facts,
  Cert.DyPool.Gen.facts, Cert.DyPoolIdeal.Gen.facts, Cert.DyPoolRefIdeal.Gen.facts,
  Cert.DwInLo.Gen.facts, Cert.DwInLoIdeal.Gen.facts, Cert.DwInLoRefIdeal.Gen.facts,
  Cert.DwInHi.Gen.facts, Cert.DwInHiIdeal.Gen.facts, Cert.DwInHiRefIdeal.Gen.facts,
  Cert.Dx.Gen.facts, Cert.DxIdeal.Gen.facts, Cert.DxRefIdeal.Gen.facts,
  Cert.Dm.Gen.facts, Cert.DmIdeal.Gen.facts, Cert.DmRefIdeal.Gen.facts,
  Cert.Ff1.Gen.facts, Cert.Ff1Ideal.Gen.facts, Cert.Ff1RefIdeal.Gen.facts,
  Cert.Ff2.Gen.facts, Cert.Ff2Ideal.Gen.facts, Cert.Ff2RefIdeal.Gen.facts,
  Cert.Merge.Gen.facts, Cert.MergeIdeal.Gen.facts, Cert.MergeRefIdeal.Gen.facts,
  Cert.OutLn1.Gen.facts, Cert.OutLn1Ideal.Gen.facts, Cert.OutLn1RefIdeal.Gen.facts,
  Cert.ZProj.Gen.facts, Cert.ZProjIdeal.Gen.facts, Cert.ZProjRefIdeal.Gen.facts,
  Cert.Ln1.Gen.facts, Cert.Ln1Ideal.Gen.facts, Cert.Ln1RefIdeal.Gen.facts,
  Cert.Ln2.Gen.facts, Cert.Ln2Ideal.Gen.facts, Cert.Ln2RefIdeal.Gen.facts,
  Cert.AdamRep.Gen.facts, Cert.AdamRepIdeal.Gen.facts, Cert.AdamRepRefIdeal.Gen.facts,
  Cert.AdamSharded.Gen.facts, Cert.AdamShardedIdeal.Gen.facts, Cert.AdamShardedRefIdeal.Gen.facts,
  Cert.Conv.Gen.facts, Cert.ConvIdeal.Gen.facts, Cert.ConvRefIdeal.Gen.facts,
  Cert.DyLru.Gen.facts, Cert.DyLruIdeal.Gen.facts, Cert.DyLruRefIdeal.Gen.facts,
    Cert.AdamOut.Gen.facts, Cert.AdamOutIdeal.Gen.facts, Cert.AdamOutRefIdeal.Gen.facts,
    Cert.AdamFf2.Gen.facts, Cert.AdamFf2Ideal.Gen.facts, Cert.AdamFf2RefIdeal.Gen.facts,
    Cert.AdamPool.Gen.facts, Cert.AdamPoolIdeal.Gen.facts, Cert.AdamPoolRefIdeal.Gen.facts,
    Cert.AdamLru.Gen.facts, Cert.AdamLruIdeal.Gen.facts, Cert.AdamLruRefIdeal.Gen.facts,
    Cert.AdamFf1.Gen.facts, Cert.AdamFf1Ideal.Gen.facts, Cert.AdamFf1RefIdeal.Gen.facts,
  fun m ρ _ => Cert.Dhdn.Gen.frame m ρ, fun m ρ _ => Cert.DhdnIdeal.Gen.frame m ρ, frame_DhdnRef,
  fun m ρ _ => Cert.DwFf2.Gen.frame m ρ, fun m ρ _ => Cert.DwFf2Ideal.Gen.frame m ρ, frame_DwFf2Ref,
  fun m ρ _ => Cert.DwFf1.Gen.frame m ρ, fun m ρ _ => Cert.DwFf1Ideal.Gen.frame m ρ, frame_DwFf1Ref,
  fun m ρ _ => Cert.Dx1.Gen.frame m ρ, fun m ρ _ => Cert.Dx1Ideal.Gen.frame m ρ, frame_Dx1Ref,
  fun m ρ _ => Cert.DwOut.Gen.frame m ρ, fun m ρ _ => Cert.DwOutIdeal.Gen.frame m ρ, frame_DwOutRef,
  fun m ρ _ => Cert.DwPoolUp.Gen.frame m ρ, fun m ρ _ => Cert.DwPoolUpIdeal.Gen.frame m ρ, frame_DwPoolUpRef,
  fun m ρ _ => Cert.DwLruUp.Gen.frame m ρ, fun m ρ _ => Cert.DwLruUpIdeal.Gen.frame m ρ, frame_DwLruUpRef,
  fun m ρ _ => Cert.DyPool.Gen.frame m ρ, fun m ρ _ => Cert.DyPoolIdeal.Gen.frame m ρ, frame_DyPoolRef,
  fun m ρ _ => Cert.DwInLo.Gen.frame m ρ, fun m ρ _ => Cert.DwInLoIdeal.Gen.frame m ρ, frame_DwInLoRef,
  fun m ρ _ => Cert.DwInHi.Gen.frame m ρ, fun m ρ _ => Cert.DwInHiIdeal.Gen.frame m ρ, frame_DwInHiRef,
  fun m ρ _ => Cert.Dx.Gen.frame m ρ, fun m ρ _ => Cert.DxIdeal.Gen.frame m ρ, frame_DxRef,
  fun m ρ _ => Cert.Dm.Gen.frame m ρ, fun m ρ _ => Cert.DmIdeal.Gen.frame m ρ, frame_DmRef,
  fun m ρ _ => Cert.Ff1.Gen.frame m ρ, fun m ρ _ => Cert.Ff1Ideal.Gen.frame m ρ, frame_Ff1Ref,
  fun m ρ _ => Cert.Ff2.Gen.frame m ρ, fun m ρ _ => Cert.Ff2Ideal.Gen.frame m ρ, frame_Ff2Ref,
  fun m ρ _ => Cert.Merge.Gen.frame m ρ, fun m ρ _ => Cert.MergeIdeal.Gen.frame m ρ, frame_MergeRef,
  fun m ρ _ => Cert.OutLn1.Gen.frame m ρ, fun m ρ _ => Cert.OutLn1Ideal.Gen.frame m ρ, frame_OutLn1Ref,
  fun m ρ _ => Cert.ZProj.Gen.frame m ρ, fun m ρ _ => Cert.ZProjIdeal.Gen.frame m ρ, frame_ZProjRef,
  fun m ρ _ => Cert.Ln1.Gen.frame m ρ, fun m ρ _ => Cert.Ln1Ideal.Gen.frame m ρ, frame_Ln1Ref,
  fun m ρ _ => Cert.Ln2.Gen.frame m ρ, fun m ρ _ => Cert.Ln2Ideal.Gen.frame m ρ, frame_Ln2Ref,
  fun m ρ _ => Cert.AdamRep.Gen.frame m ρ, fun m ρ _ => Cert.AdamRepIdeal.Gen.frame m ρ, frame_AdamRepRef,
  fun m ρ _ => Cert.AdamSharded.Gen.frame m ρ, fun m ρ _ => Cert.AdamShardedIdeal.Gen.frame m ρ, frame_AdamShardedRef,
  fun m ρ _ => Cert.Conv.Gen.frame m ρ, fun m ρ _ => Cert.ConvIdeal.Gen.frame m ρ, frame_ConvRef,
  fun m ρ _ => Cert.DyLru.Gen.frame m ρ, fun m ρ _ => Cert.DyLruIdeal.Gen.frame m ρ, frame_DyLruRef,
    fun m ρ _ => Cert.AdamOut.Gen.frame m ρ (Cert.AdamOut.Value.ok m), fun m ρ _ => Cert.AdamOutIdeal.Gen.frame m ρ (Cert.AdamOutIdeal.Value.ok m), frame_AdamOutRef,
    fun m ρ _ => Cert.AdamFf2.Gen.frame m ρ (Cert.AdamFf2.Value.ok m), fun m ρ _ => Cert.AdamFf2Ideal.Gen.frame m ρ (Cert.AdamFf2Ideal.Value.ok m), frame_AdamFf2Ref,
    fun m ρ _ => Cert.AdamPool.Gen.frame m ρ (Cert.AdamPool.Value.ok m), fun m ρ _ => Cert.AdamPoolIdeal.Gen.frame m ρ (Cert.AdamPoolIdeal.Value.ok m), frame_AdamPoolRef,
    fun m ρ _ => Cert.AdamLru.Gen.frame m ρ (Cert.AdamLru.Value.ok m), fun m ρ _ => Cert.AdamLruIdeal.Gen.frame m ρ (Cert.AdamLruIdeal.Value.ok m), frame_AdamLruRef,
    fun m ρ _ => Cert.AdamFf1.Gen.frame m ρ (Cert.AdamFf1.Value.ok m), fun m ρ _ => Cert.AdamFf1Ideal.Gen.frame m ρ (Cert.AdamFf1Ideal.Value.ok m), frame_AdamFf1Ref,
  trivial, algebraic_Dhdn, trivial, algebraic_DwFf2, trivial, algebraic_DwFf1, trivial, algebraic_Dx1, trivial, algebraic_DwOut, trivial, algebraic_DwPoolUp, trivial, algebraic_DwLruUp, trivial, algebraic_DyPool, trivial, algebraic_DwInLo, trivial, algebraic_DwInHi, trivial, algebraic_Dx, trivial, algebraic_Dm, trivial, algebraic_Ff1, trivial, algebraic_Ff2, trivial, algebraic_Merge, trivial, algebraic_OutLn1, trivial, algebraic_ZProj, trivial, algebraic_Ln1, trivial, algebraic_Ln2, trivial, algebraic_AdamRep, trivial, algebraic_AdamSharded, trivial, algebraic_Conv, trivial, algebraic_DyLru,
    trivial, algebraic_AdamOut, trivial, algebraic_AdamFf2, trivial, algebraic_AdamPool, trivial, algebraic_AdamLru, trivial, algebraic_AdamFf1⟩

end Cert.Proof

end
